-- ==== Defs.lean ====
def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_finite [hPre_finite : Cert.Pre_finite.Facts] (m : (ℓ : Loc Cert.MobaIdeal.nD Cert.MobaIdeal.τ Cert.MobaIdeal.sig) → Buf (Elt Ideal) ℓ) : Prop :=
  ∀ c : Dev Cert.MobaIdeal.nD,
    (Cert.Pre_finite.fn (F := Ideal) (m ((c.tc : Thread Cert.MobaIdeal.nD Cert.MobaIdeal.τ).loc Cert.MobaIdeal.main_arg0))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_finite [hPre_finite : Cert.Pre_finite.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_finite.fn (F := Ideal) (m ((c.tc : Thread Cert.MobaRefIdeal.nD Cert.MobaRefIdeal.τ).loc Cert.MobaRefIdeal.main_arg0))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBRefIdeal (m : (ℓ : Loc Cert.NormBRefIdeal.nD Cert.NormBRefIdeal.τ Cert.NormBRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_S5X (m : (ℓ : Loc Cert.S5X.nD Cert.S5X.τ Cert.S5X.sig) → Buf (Elt Bits) ℓ) : Prop :=
  True

def Pre_S5XIdeal (m : (ℓ : Loc Cert.S5XIdeal.nD Cert.S5XIdeal.τ Cert.S5XIdeal.sig) → Buf (Elt Ideal) ℓ) : Prop :=
  True

def Pre_S5XRefIdeal (m : (ℓ : Loc Cert.S5XRefIdeal.nD Cert.S5XRefIdeal.τ Cert.S5XRefIdeal.sig) → Buf (Elt Ideal) ℓ) : Prop :=
  True

def Pre_S5Y (m : (ℓ : Loc Cert.S5Y.nD Cert.S5Y.τ Cert.S5Y.sig) → Buf (Elt Bits) ℓ) : Prop :=
  True

def Pre_S5YIdeal (m : (ℓ : Loc Cert.S5YIdeal.nD Cert.S5YIdeal.τ Cert.S5YIdeal.sig) → Buf (Elt Ideal) ℓ) : Prop :=
  True

def Pre_S5YRefIdeal (m : (ℓ : Loc Cert.S5YRefIdeal.nD Cert.S5YRefIdeal.τ Cert.S5YRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def Pre_DownS (m : (ℓ : Loc Cert.DownS.nD Cert.DownS.τ Cert.DownS.sig) → Buf (Elt Bits) ℓ) : Prop :=
  True

def Pre_DownSIdeal (m : (ℓ : Loc Cert.DownSIdeal.nD Cert.DownSIdeal.τ Cert.DownSIdeal.sig) → Buf (Elt Ideal) ℓ) : Prop :=
  True

def Pre_DownSRefIdeal (m : (ℓ : Loc Cert.DownSRefIdeal.nD Cert.DownSRefIdeal.τ Cert.DownSRefIdeal.sig) → Buf (Elt Ideal) ℓ) : Prop :=
  True

def Pre_Coef (m : (ℓ : Loc Cert.Coef.nD Cert.Coef.τ Cert.Coef.sig) → Buf (Elt Bits) ℓ) : Prop :=
  True

def Pre_CoefIdeal (m : (ℓ : Loc Cert.CoefIdeal.nD Cert.CoefIdeal.τ Cert.CoefIdeal.sig) → Buf (Elt Ideal) ℓ) : Prop :=
  True

def Pre_CoefRefIdeal (m : (ℓ : Loc Cert.CoefRefIdeal.nD Cert.CoefRefIdeal.τ Cert.CoefRefIdeal.sig) → Buf (Elt Ideal) ℓ) : Prop :=
  True

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ r.2.sem = fun _ => 0)

def quiescent_MobaIdeal_pre_finite [hMobaIdeal : Cert.MobaIdeal.Facts] [hPre_finite : Cert.Pre_finite.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_finite m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0))
      ∧ r.2.sem = fun _ => 0)

def quiescent_MobaRefIdeal_pre_finite [hMobaRefIdeal : Cert.MobaRefIdeal.Facts] [hPre_finite : Cert.Pre_finite.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_finite m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1)
      ∧ r.2.mem ((c.tc : Thread Cert.NormB.nD Cert.NormB.τ).loc Cert.NormB.main_arg2) = m ((c.tc : Thread Cert.NormB.nD Cert.NormB.τ).loc Cert.NormB.main_arg2))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2))
      ∧ r.2.sem = fun _ => 0)

def quiescent_NormBRefIdeal [hNormBRefIdeal : Cert.NormBRefIdeal.Facts] : Prop :=
  ∀ (m : (ℓ : Loc Cert.NormBRefIdeal.nD Cert.NormBRefIdeal.τ Cert.NormBRefIdeal.sig) → Buf (Elt Ideal) ℓ) (g : Dev Cert.NormBRefIdeal.nD → PrngReg), Pre_NormBRefIdeal m →
    θ_run (Cert.NormBRefIdeal.defs (F := Ideal)) (onTc (τ := Cert.NormBRefIdeal.τ) (Cert.NormBRefIdeal.main (F := Ideal))) ⟨m, fun _ => 0, g⟩ (fun r => (∀ c : Dev Cert.NormBRefIdeal.nD,
      r.2.mem ((c.tc : Thread Cert.NormBRefIdeal.nD Cert.NormBRefIdeal.τ).loc Cert.NormBRefIdeal.main_arg0) = m ((c.tc : Thread Cert.NormBRefIdeal.nD Cert.NormBRefIdeal.τ).loc Cert.NormBRefIdeal.main_arg0)
      ∧ r.2.mem ((c.tc : Thread Cert.NormBRefIdeal.nD Cert.NormBRefIdeal.τ).loc Cert.NormBRefIdeal.main_arg1) = m ((c.tc : Thread Cert.NormBRefIdeal.nD Cert.NormBRefIdeal.τ).loc Cert.NormBRefIdeal.main_arg1)
      ∧ r.2.mem ((c.tc : Thread Cert.NormBRefIdeal.nD Cert.NormBRefIdeal.τ).loc Cert.NormBRefIdeal.main_arg2) = m ((c.tc : Thread Cert.NormBRefIdeal.nD Cert.NormBRefIdeal.τ).loc Cert.NormBRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_S5X [hS5X : Cert.S5X.Facts] : Prop :=
  ∀ (m : (ℓ : Loc Cert.S5X.nD Cert.S5X.τ Cert.S5X.sig) → Buf (Elt Bits) ℓ) (g : Dev Cert.S5X.nD → PrngReg), Pre_S5X m →
    θ_run (Cert.S5X.defs (F := Bits)) (onTc (τ := Cert.S5X.τ) (Cert.S5X.main (F := Bits))) ⟨m, fun _ => 0, g⟩ (fun r => (∀ c : Dev Cert.S5X.nD,
      r.2.mem ((c.tc : Thread Cert.S5X.nD Cert.S5X.τ).loc Cert.S5X.main_arg0) = m ((c.tc : Thread Cert.S5X.nD Cert.S5X.τ).loc Cert.S5X.main_arg0)
      ∧ r.2.mem ((c.tc : Thread Cert.S5X.nD Cert.S5X.τ).loc Cert.S5X.main_arg1) = m ((c.tc : Thread Cert.S5X.nD Cert.S5X.τ).loc Cert.S5X.main_arg1))
      ∧ r.2.sem = fun _ => 0)

def quiescent_S5XIdeal [hS5XIdeal : Cert.S5XIdeal.Facts] : Prop :=
  ∀ (m : (ℓ : Loc Cert.S5XIdeal.nD Cert.S5XIdeal.τ Cert.S5XIdeal.sig) → Buf (Elt Ideal) ℓ) (g : Dev Cert.S5XIdeal.nD → PrngReg), Pre_S5XIdeal m →
    θ_run (Cert.S5XIdeal.defs (F := Ideal)) (onTc (τ := Cert.S5XIdeal.τ) (Cert.S5XIdeal.main (F := Ideal))) ⟨m, fun _ => 0, g⟩ (fun r => (∀ c : Dev Cert.S5XIdeal.nD,
      r.2.mem ((c.tc : Thread Cert.S5XIdeal.nD Cert.S5XIdeal.τ).loc Cert.S5XIdeal.main_arg0) = m ((c.tc : Thread Cert.S5XIdeal.nD Cert.S5XIdeal.τ).loc Cert.S5XIdeal.main_arg0)
      ∧ r.2.mem ((c.tc : Thread Cert.S5XIdeal.nD Cert.S5XIdeal.τ).loc Cert.S5XIdeal.main_arg1) = m ((c.tc : Thread Cert.S5XIdeal.nD Cert.S5XIdeal.τ).loc Cert.S5XIdeal.main_arg1))
      ∧ r.2.sem = fun _ => 0)

def quiescent_S5XRefIdeal [hS5XRefIdeal : Cert.S5XRefIdeal.Facts] : Prop :=
  ∀ (m : (ℓ : Loc Cert.S5XRefIdeal.nD Cert.S5XRefIdeal.τ Cert.S5XRefIdeal.sig) → Buf (Elt Ideal) ℓ) (g : Dev Cert.S5XRefIdeal.nD → PrngReg), Pre_S5XRefIdeal m →
    θ_run (Cert.S5XRefIdeal.defs (F := Ideal)) (onTc (τ := Cert.S5XRefIdeal.τ) (Cert.S5XRefIdeal.main (F := Ideal))) ⟨m, fun _ => 0, g⟩ (fun r => (∀ c : Dev Cert.S5XRefIdeal.nD,
      r.2.mem ((c.tc : Thread Cert.S5XRefIdeal.nD Cert.S5XRefIdeal.τ).loc Cert.S5XRefIdeal.main_arg0) = m ((c.tc : Thread Cert.S5XRefIdeal.nD Cert.S5XRefIdeal.τ).loc Cert.S5XRefIdeal.main_arg0)
      ∧ r.2.mem ((c.tc : Thread Cert.S5XRefIdeal.nD Cert.S5XRefIdeal.τ).loc Cert.S5XRefIdeal.main_arg1) = m ((c.tc : Thread Cert.S5XRefIdeal.nD Cert.S5XRefIdeal.τ).loc Cert.S5XRefIdeal.main_arg1))
      ∧ r.2.sem = fun _ => 0)

def quiescent_S5Y [hS5Y : Cert.S5Y.Facts] : Prop :=
  ∀ (m : (ℓ : Loc Cert.S5Y.nD Cert.S5Y.τ Cert.S5Y.sig) → Buf (Elt Bits) ℓ) (g : Dev Cert.S5Y.nD → PrngReg), Pre_S5Y m →
    θ_run (Cert.S5Y.defs (F := Bits)) (onTc (τ := Cert.S5Y.τ) (Cert.S5Y.main (F := Bits))) ⟨m, fun _ => 0, g⟩ (fun r => (∀ c : Dev Cert.S5Y.nD,
      r.2.mem ((c.tc : Thread Cert.S5Y.nD Cert.S5Y.τ).loc Cert.S5Y.main_arg0) = m ((c.tc : Thread Cert.S5Y.nD Cert.S5Y.τ).loc Cert.S5Y.main_arg0)
      ∧ r.2.mem ((c.tc : Thread Cert.S5Y.nD Cert.S5Y.τ).loc Cert.S5Y.main_arg1) = m ((c.tc : Thread Cert.S5Y.nD Cert.S5Y.τ).loc Cert.S5Y.main_arg1)
      ∧ r.2.mem ((c.tc : Thread Cert.S5Y.nD Cert.S5Y.τ).loc Cert.S5Y.main_arg2) = m ((c.tc : Thread Cert.S5Y.nD Cert.S5Y.τ).loc Cert.S5Y.main_arg2)
      ∧ r.2.mem ((c.tc : Thread Cert.S5Y.nD Cert.S5Y.τ).loc Cert.S5Y.main_arg3) = m ((c.tc : Thread Cert.S5Y.nD Cert.S5Y.τ).loc Cert.S5Y.main_arg3)
      ∧ r.2.mem ((c.tc : Thread Cert.S5Y.nD Cert.S5Y.τ).loc Cert.S5Y.main_arg4) = m ((c.tc : Thread Cert.S5Y.nD Cert.S5Y.τ).loc Cert.S5Y.main_arg4))
      ∧ r.2.sem = fun _ => 0)

def quiescent_S5YIdeal [hS5YIdeal : Cert.S5YIdeal.Facts] : Prop :=
  ∀ (m : (ℓ : Loc Cert.S5YIdeal.nD Cert.S5YIdeal.τ Cert.S5YIdeal.sig) → Buf (Elt Ideal) ℓ) (g : Dev Cert.S5YIdeal.nD → PrngReg), Pre_S5YIdeal m →
    θ_run (Cert.S5YIdeal.defs (F := Ideal)) (onTc (τ := Cert.S5YIdeal.τ) (Cert.S5YIdeal.main (F := Ideal))) ⟨m, fun _ => 0, g⟩ (fun r => (∀ c : Dev Cert.S5YIdeal.nD,
      r.2.mem ((c.tc : Thread Cert.S5YIdeal.nD Cert.S5YIdeal.τ).loc Cert.S5YIdeal.main_arg0) = m ((c.tc : Thread Cert.S5YIdeal.nD Cert.S5YIdeal.τ).loc Cert.S5YIdeal.main_arg0)
      ∧ r.2.mem ((c.tc : Thread Cert.S5YIdeal.nD Cert.S5YIdeal.τ).loc Cert.S5YIdeal.main_arg1) = m ((c.tc : Thread Cert.S5YIdeal.nD Cert.S5YIdeal.τ).loc Cert.S5YIdeal.main_arg1)
      ∧ r.2.mem ((c.tc : Thread Cert.S5YIdeal.nD Cert.S5YIdeal.τ).loc Cert.S5YIdeal.main_arg2) = m ((c.tc : Thread Cert.S5YIdeal.nD Cert.S5YIdeal.τ).loc Cert.S5YIdeal.main_arg2)
      ∧ r.2.mem ((c.tc : Thread Cert.S5YIdeal.nD Cert.S5YIdeal.τ).loc Cert.S5YIdeal.main_arg3) = m ((c.tc : Thread Cert.S5YIdeal.nD Cert.S5YIdeal.τ).loc Cert.S5YIdeal.main_arg3)
      ∧ r.2.mem ((c.tc : Thread Cert.S5YIdeal.nD Cert.S5YIdeal.τ).loc Cert.S5YIdeal.main_arg4) = m ((c.tc : Thread Cert.S5YIdeal.nD Cert.S5YIdeal.τ).loc Cert.S5YIdeal.main_arg4))
      ∧ r.2.sem = fun _ => 0)

def quiescent_S5YRefIdeal [hS5YRefIdeal : Cert.S5YRefIdeal.Facts] : Prop :=
  ∀ (m : (ℓ : Loc Cert.S5YRefIdeal.nD Cert.S5YRefIdeal.τ Cert.S5YRefIdeal.sig) → Buf (Elt Ideal) ℓ) (g : Dev Cert.S5YRefIdeal.nD → PrngReg), Pre_S5YRefIdeal m →
    θ_run (Cert.S5YRefIdeal.defs (F := Ideal)) (onTc (τ := Cert.S5YRefIdeal.τ) (Cert.S5YRefIdeal.main (F := Ideal))) ⟨m, fun _ => 0, g⟩ (fun r => (∀ c : Dev Cert.S5YRefIdeal.nD,
      r.2.mem ((c.tc : Thread Cert.S5YRefIdeal.nD Cert.S5YRefIdeal.τ).loc Cert.S5YRefIdeal.main_arg0) = m ((c.tc : Thread Cert.S5YRefIdeal.nD Cert.S5YRefIdeal.τ).loc Cert.S5YRefIdeal.main_arg0)
      ∧ r.2.mem ((c.tc : Thread Cert.S5YRefIdeal.nD Cert.S5YRefIdeal.τ).loc Cert.S5YRefIdeal.main_arg1) = m ((c.tc : Thread Cert.S5YRefIdeal.nD Cert.S5YRefIdeal.τ).loc Cert.S5YRefIdeal.main_arg1)
      ∧ r.2.mem ((c.tc : Thread Cert.S5YRefIdeal.nD Cert.S5YRefIdeal.τ).loc Cert.S5YRefIdeal.main_arg2) = m ((c.tc : Thread Cert.S5YRefIdeal.nD Cert.S5YRefIdeal.τ).loc Cert.S5YRefIdeal.main_arg2)
      ∧ r.2.mem ((c.tc : Thread Cert.S5YRefIdeal.nD Cert.S5YRefIdeal.τ).loc Cert.S5YRefIdeal.main_arg3) = m ((c.tc : Thread Cert.S5YRefIdeal.nD Cert.S5YRefIdeal.τ).loc Cert.S5YRefIdeal.main_arg3)
      ∧ r.2.mem ((c.tc : Thread Cert.S5YRefIdeal.nD Cert.S5YRefIdeal.τ).loc Cert.S5YRefIdeal.main_arg4) = m ((c.tc : Thread Cert.S5YRefIdeal.nD Cert.S5YRefIdeal.τ).loc Cert.S5YRefIdeal.main_arg4))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2)
      ∧ r.2.mem ((c.tc : Thread Cert.InProjS.nD Cert.InProjS.τ).loc Cert.InProjS.main_arg3) = m ((c.tc : Thread Cert.InProjS.nD Cert.InProjS.τ).loc Cert.InProjS.main_arg3))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2)
      ∧ r.2.mem ((c.tc : Thread Cert.InProjSIdeal.nD Cert.InProjSIdeal.τ).loc Cert.InProjSIdeal.main_arg3) = m ((c.tc : Thread Cert.InProjSIdeal.nD Cert.InProjSIdeal.τ).loc Cert.InProjSIdeal.main_arg3))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
      ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2)
      ∧ r.2.mem ((c.tc : Thread Cert.InProjSRefIdeal.nD Cert.InProjSRefIdeal.τ).loc Cert.InProjSRefIdeal.main_arg3) = m ((c.tc : Thread Cert.InProjSRefIdeal.nD Cert.InProjSRefIdeal.τ).loc Cert.InProjSRefIdeal.main_arg3))
      ∧ r.2.sem = fun _ => 0)

def quiescent_DownS [hDownS : Cert.DownS.Facts] : Prop :=
  ∀ (m : (ℓ : Loc Cert.DownS.nD Cert.DownS.τ Cert.DownS.sig) → Buf (Elt Bits) ℓ) (g : Dev Cert.DownS.nD → PrngReg), Pre_DownS m →
    θ_run (Cert.DownS.defs (F := Bits)) (onTc (τ := Cert.DownS.τ) (Cert.DownS.main (F := Bits))) ⟨m, fun _ => 0, g⟩ (fun r => (∀ c : Dev Cert.DownS.nD,
      r.2.mem ((c.tc : Thread Cert.DownS.nD Cert.DownS.τ).loc Cert.DownS.main_arg0) = m ((c.tc : Thread Cert.DownS.nD Cert.DownS.τ).loc Cert.DownS.main_arg0)
      ∧ r.2.mem ((c.tc : Thread Cert.DownS.nD Cert.DownS.τ).loc Cert.DownS.main_arg1) = m ((c.tc : Thread Cert.DownS.nD Cert.DownS.τ).loc Cert.DownS.main_arg1)
      ∧ r.2.mem ((c.tc : Thread Cert.DownS.nD Cert.DownS.τ).loc Cert.DownS.main_arg2) = m ((c.tc : Thread Cert.DownS.nD Cert.DownS.τ).loc Cert.DownS.main_arg2)
      ∧ r.2.mem ((c.tc : Thread Cert.DownS.nD Cert.DownS.τ).loc Cert.DownS.main_arg3) = m ((c.tc : Thread Cert.DownS.nD Cert.DownS.τ).loc Cert.DownS.main_arg3))
      ∧ r.2.sem = fun _ => 0)

def quiescent_DownSIdeal [hDownSIdeal : Cert.DownSIdeal.Facts] : Prop :=
  ∀ (m : (ℓ : Loc Cert.DownSIdeal.nD Cert.DownSIdeal.τ Cert.DownSIdeal.sig) → Buf (Elt Ideal) ℓ) (g : Dev Cert.DownSIdeal.nD → PrngReg), Pre_DownSIdeal m →
    θ_run (Cert.DownSIdeal.defs (F := Ideal)) (onTc (τ := Cert.DownSIdeal.τ) (Cert.DownSIdeal.main (F := Ideal))) ⟨m, fun _ => 0, g⟩ (fun r => (∀ c : Dev Cert.DownSIdeal.nD,
      r.2.mem ((c.tc : Thread Cert.DownSIdeal.nD Cert.DownSIdeal.τ).loc Cert.DownSIdeal.main_arg0) = m ((c.tc : Thread Cert.DownSIdeal.nD Cert.DownSIdeal.τ).loc Cert.DownSIdeal.main_arg0)
      ∧ r.2.mem ((c.tc : Thread Cert.DownSIdeal.nD Cert.DownSIdeal.τ).loc Cert.DownSIdeal.main_arg1) = m ((c.tc : Thread Cert.DownSIdeal.nD Cert.DownSIdeal.τ).loc Cert.DownSIdeal.main_arg1)
      ∧ r.2.mem ((c.tc : Thread Cert.DownSIdeal.nD Cert.DownSIdeal.τ).loc Cert.DownSIdeal.main_arg2) = m ((c.tc : Thread Cert.DownSIdeal.nD Cert.DownSIdeal.τ).loc Cert.DownSIdeal.main_arg2)
      ∧ r.2.mem ((c.tc : Thread Cert.DownSIdeal.nD Cert.DownSIdeal.τ).loc Cert.DownSIdeal.main_arg3) = m ((c.tc : Thread Cert.DownSIdeal.nD Cert.DownSIdeal.τ).loc Cert.DownSIdeal.main_arg3))
      ∧ r.2.sem = fun _ => 0)

def quiescent_DownSRefIdeal [hDownSRefIdeal : Cert.DownSRefIdeal.Facts] : Prop :=
  ∀ (m : (ℓ : Loc Cert.DownSRefIdeal.nD Cert.DownSRefIdeal.τ Cert.DownSRefIdeal.sig) → Buf (Elt Ideal) ℓ) (g : Dev Cert.DownSRefIdeal.nD → PrngReg), Pre_DownSRefIdeal m →
    θ_run (Cert.DownSRefIdeal.defs (F := Ideal)) (onTc (τ := Cert.DownSRefIdeal.τ) (Cert.DownSRefIdeal.main (F := Ideal))) ⟨m, fun _ => 0, g⟩ (fun r => (∀ c : Dev Cert.DownSRefIdeal.nD,
      r.2.mem ((c.tc : Thread Cert.DownSRefIdeal.nD Cert.DownSRefIdeal.τ).loc Cert.DownSRefIdeal.main_arg0) = m ((c.tc : Thread Cert.DownSRefIdeal.nD Cert.DownSRefIdeal.τ).loc Cert.DownSRefIdeal.main_arg0)
      ∧ r.2.mem ((c.tc : Thread Cert.DownSRefIdeal.nD Cert.DownSRefIdeal.τ).loc Cert.DownSRefIdeal.main_arg1) = m ((c.tc : Thread Cert.DownSRefIdeal.nD Cert.DownSRefIdeal.τ).loc Cert.DownSRefIdeal.main_arg1)
      ∧ r.2.mem ((c.tc : Thread Cert.DownSRefIdeal.nD Cert.DownSRefIdeal.τ).loc Cert.DownSRefIdeal.main_arg2) = m ((c.tc : Thread Cert.DownSRefIdeal.nD Cert.DownSRefIdeal.τ).loc Cert.DownSRefIdeal.main_arg2)
      ∧ r.2.mem ((c.tc : Thread Cert.DownSRefIdeal.nD Cert.DownSRefIdeal.τ).loc Cert.DownSRefIdeal.main_arg3) = m ((c.tc : Thread Cert.DownSRefIdeal.nD Cert.DownSRefIdeal.τ).loc Cert.DownSRefIdeal.main_arg3))
      ∧ r.2.sem = fun _ => 0)

def quiescent_Coef [hCoef : Cert.Coef.Facts] : Prop :=
  ∀ (m : (ℓ : Loc Cert.Coef.nD Cert.Coef.τ Cert.Coef.sig) → Buf (Elt Bits) ℓ) (g : Dev Cert.Coef.nD → PrngReg), Pre_Coef m →
    θ_run (Cert.Coef.defs (F := Bits)) (onTc (τ := Cert.Coef.τ) (Cert.Coef.main (F := Bits))) ⟨m, fun _ => 0, g⟩ (fun r => (∀ c : Dev Cert.Coef.nD,
      r.2.mem ((c.tc : Thread Cert.Coef.nD Cert.Coef.τ).loc Cert.Coef.main_arg0) = m ((c.tc : Thread Cert.Coef.nD Cert.Coef.τ).loc Cert.Coef.main_arg0)
      ∧ r.2.mem ((c.tc : Thread Cert.Coef.nD Cert.Coef.τ).loc Cert.Coef.main_arg1) = m ((c.tc : Thread Cert.Coef.nD Cert.Coef.τ).loc Cert.Coef.main_arg1)
      ∧ r.2.mem ((c.tc : Thread Cert.Coef.nD Cert.Coef.τ).loc Cert.Coef.main_arg2) = m ((c.tc : Thread Cert.Coef.nD Cert.Coef.τ).loc Cert.Coef.main_arg2)
      ∧ r.2.mem ((c.tc : Thread Cert.Coef.nD Cert.Coef.τ).loc Cert.Coef.main_arg3) = m ((c.tc : Thread Cert.Coef.nD Cert.Coef.τ).loc Cert.Coef.main_arg3)
      ∧ r.2.mem ((c.tc : Thread Cert.Coef.nD Cert.Coef.τ).loc Cert.Coef.main_arg4) = m ((c.tc : Thread Cert.Coef.nD Cert.Coef.τ).loc Cert.Coef.main_arg4)
      ∧ r.2.mem ((c.tc : Thread Cert.Coef.nD Cert.Coef.τ).loc Cert.Coef.main_arg5) = m ((c.tc : Thread Cert.Coef.nD Cert.Coef.τ).loc Cert.Coef.main_arg5)
      ∧ r.2.mem ((c.tc : Thread Cert.Coef.nD Cert.Coef.τ).loc Cert.Coef.main_arg6) = m ((c.tc : Thread Cert.Coef.nD Cert.Coef.τ).loc Cert.Coef.main_arg6))
      ∧ r.2.sem = fun _ => 0)

def quiescent_CoefIdeal [hCoefIdeal : Cert.CoefIdeal.Facts] : Prop :=
  ∀ (m : (ℓ : Loc Cert.CoefIdeal.nD Cert.CoefIdeal.τ Cert.CoefIdeal.sig) → Buf (Elt Ideal) ℓ) (g : Dev Cert.CoefIdeal.nD → PrngReg), Pre_CoefIdeal m →
    θ_run (Cert.CoefIdeal.defs (F := Ideal)) (onTc (τ := Cert.CoefIdeal.τ) (Cert.CoefIdeal.main (F := Ideal))) ⟨m, fun _ => 0, g⟩ (fun r => (∀ c : Dev Cert.CoefIdeal.nD,
      r.2.mem ((c.tc : Thread Cert.CoefIdeal.nD Cert.CoefIdeal.τ).loc Cert.CoefIdeal.main_arg0) = m ((c.tc : Thread Cert.CoefIdeal.nD Cert.CoefIdeal.τ).loc Cert.CoefIdeal.main_arg0)
      ∧ r.2.mem ((c.tc : Thread Cert.CoefIdeal.nD Cert.CoefIdeal.τ).loc Cert.CoefIdeal.main_arg1) = m ((c.tc : Thread Cert.CoefIdeal.nD Cert.CoefIdeal.τ).loc Cert.CoefIdeal.main_arg1)
      ∧ r.2.mem ((c.tc : Thread Cert.CoefIdeal.nD Cert.CoefIdeal.τ).loc Cert.CoefIdeal.main_arg2) = m ((c.tc : Thread Cert.CoefIdeal.nD Cert.CoefIdeal.τ).loc Cert.CoefIdeal.main_arg2)
      ∧ r.2.mem ((c.tc : Thread Cert.CoefIdeal.nD Cert.CoefIdeal.τ).loc Cert.CoefIdeal.main_arg3) = m ((c.tc : Thread Cert.CoefIdeal.nD Cert.CoefIdeal.τ).loc Cert.CoefIdeal.main_arg3)
      ∧ r.2.mem ((c.tc : Thread Cert.CoefIdeal.nD Cert.CoefIdeal.τ).loc Cert.CoefIdeal.main_arg4) = m ((c.tc : Thread Cert.CoefIdeal.nD Cert.CoefIdeal.τ).loc Cert.CoefIdeal.main_arg4)
      ∧ r.2.mem ((c.tc : Thread Cert.CoefIdeal.nD Cert.CoefIdeal.τ).loc Cert.CoefIdeal.main_arg5) = m ((c.tc : Thread Cert.CoefIdeal.nD Cert.CoefIdeal.τ).loc Cert.CoefIdeal.main_arg5)
      ∧ r.2.mem ((c.tc : Thread Cert.CoefIdeal.nD Cert.CoefIdeal.τ).loc Cert.CoefIdeal.main_arg6) = m ((c.tc : Thread Cert.CoefIdeal.nD Cert.CoefIdeal.τ).loc Cert.CoefIdeal.main_arg6))
      ∧ r.2.sem = fun _ => 0)

def quiescent_CoefRefIdeal [hCoefRefIdeal : Cert.CoefRefIdeal.Facts] : Prop :=
  ∀ (m : (ℓ : Loc Cert.CoefRefIdeal.nD Cert.CoefRefIdeal.τ Cert.CoefRefIdeal.sig) → Buf (Elt Ideal) ℓ) (g : Dev Cert.CoefRefIdeal.nD → PrngReg), Pre_CoefRefIdeal m →
    θ_run (Cert.CoefRefIdeal.defs (F := Ideal)) (onTc (τ := Cert.CoefRefIdeal.τ) (Cert.CoefRefIdeal.main (F := Ideal))) ⟨m, fun _ => 0, g⟩ (fun r => (∀ c : Dev Cert.CoefRefIdeal.nD,
      r.2.mem ((c.tc : Thread Cert.CoefRefIdeal.nD Cert.CoefRefIdeal.τ).loc Cert.CoefRefIdeal.main_arg0) = m ((c.tc : Thread Cert.CoefRefIdeal.nD Cert.CoefRefIdeal.τ).loc Cert.CoefRefIdeal.main_arg0)
      ∧ r.2.mem ((c.tc : Thread Cert.CoefRefIdeal.nD Cert.CoefRefIdeal.τ).loc Cert.CoefRefIdeal.main_arg1) = m ((c.tc : Thread Cert.CoefRefIdeal.nD Cert.CoefRefIdeal.τ).loc Cert.CoefRefIdeal.main_arg1)
      ∧ r.2.mem ((c.tc : Thread Cert.CoefRefIdeal.nD Cert.CoefRefIdeal.τ).loc Cert.CoefRefIdeal.main_arg2) = m ((c.tc : Thread Cert.CoefRefIdeal.nD Cert.CoefRefIdeal.τ).loc Cert.CoefRefIdeal.main_arg2)
      ∧ r.2.mem ((c.tc : Thread Cert.CoefRefIdeal.nD Cert.CoefRefIdeal.τ).loc Cert.CoefRefIdeal.main_arg3) = m ((c.tc : Thread Cert.CoefRefIdeal.nD Cert.CoefRefIdeal.τ).loc Cert.CoefRefIdeal.main_arg3)
      ∧ r.2.mem ((c.tc : Thread Cert.CoefRefIdeal.nD Cert.CoefRefIdeal.τ).loc Cert.CoefRefIdeal.main_arg4) = m ((c.tc : Thread Cert.CoefRefIdeal.nD Cert.CoefRefIdeal.τ).loc Cert.CoefRefIdeal.main_arg4)
      ∧ r.2.mem ((c.tc : Thread Cert.CoefRefIdeal.nD Cert.CoefRefIdeal.τ).loc Cert.CoefRefIdeal.main_arg5) = m ((c.tc : Thread Cert.CoefRefIdeal.nD Cert.CoefRefIdeal.τ).loc Cert.CoefRefIdeal.main_arg5)
      ∧ r.2.mem ((c.tc : Thread Cert.CoefRefIdeal.nD Cert.CoefRefIdeal.τ).loc Cert.CoefRefIdeal.main_arg6) = m ((c.tc : Thread Cert.CoefRefIdeal.nD Cert.CoefRefIdeal.τ).loc Cert.CoefRefIdeal.main_arg6))
      ∧ r.2.sem = fun _ => 0)

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)) →
    ∃ (v0 : (c : Dev Cert.ScanIdeal.nD) → Buf (Elt Ideal) ((c.tc : Thread Cert.ScanIdeal.nD Cert.ScanIdeal.τ).loc Cert.ScanIdeal.main_v0_0)) (v1 : (c : Dev Cert.ScanIdeal.nD) → Buf (Elt Ideal) ((c.tc : Thread Cert.ScanIdeal.nD Cert.ScanIdeal.τ).loc Cert.ScanIdeal.main_v0_1)) (v2 : (c : Dev Cert.ScanIdeal.nD) → Buf (Elt Ideal) ((c.tc : Thread Cert.ScanIdeal.nD Cert.ScanIdeal.τ).loc Cert.ScanIdeal.main_v0_2)) (v3 : (c : Dev Cert.ScanIdeal.nD) → Buf (Elt Ideal) ((c.tc : Thread Cert.ScanIdeal.nD Cert.ScanIdeal.τ).loc Cert.ScanIdeal.main_v0_3)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v0_0) = v0 c
          ∧ r.2.mem ((c.tc : Thread Cert.ScanIdeal.nD Cert.ScanIdeal.τ).loc Cert.ScanIdeal.main_v0_1) = v1 c
          ∧ r.2.mem ((c.tc : Thread Cert.ScanIdeal.nD Cert.ScanIdeal.τ).loc Cert.ScanIdeal.main_v0_2) = v2 c
          ∧ r.2.mem ((c.tc : Thread Cert.ScanIdeal.nD Cert.ScanIdeal.τ).loc Cert.ScanIdeal.main_v0_3) = v3 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v7_7) = v0 c
          ∧ r.2.mem ((c.tc : Thread Cert.ScanRefIdeal.nD Cert.ScanRefIdeal.τ).loc Cert.ScanRefIdeal.main_v7_8) = v1 c
          ∧ r.2.mem ((c.tc : Thread Cert.ScanRefIdeal.nD Cert.ScanRefIdeal.τ).loc Cert.ScanRefIdeal.main_v8) = v2 c
          ∧ r.2.mem ((c.tc : Thread Cert.ScanRefIdeal.nD Cert.ScanRefIdeal.τ).loc Cert.ScanRefIdeal.main_v9) = v3 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v7) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v11) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Moba_MobaIdeal : Prop :=
  IdealRules.named_const.Statement Cert.MobaIdeal.κ "mask" .f32 0xF149F2CA#32 ⊥

def algebraic_MobaIdeal_MobaRefIdeal_pre_finite [hMobaIdeal : Cert.MobaIdeal.Facts] [hMobaRefIdeal : Cert.MobaRefIdeal.Facts] [hPre_finite : Cert.Pre_finite.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_finite m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)) →
    ∃ (v0 : (c : Dev Cert.MobaIdeal.nD) → Buf (Elt Ideal) ((c.tc : Thread Cert.MobaIdeal.nD Cert.MobaIdeal.τ).loc Cert.MobaIdeal.main_v0)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v0) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v110) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v37) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v11) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v29) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v25) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_NormB_NormBIdeal : Prop :=
  True

def algebraic_NormBIdeal_NormBRefIdeal [hNormBIdeal : Cert.NormBIdeal.Facts] [hNormBRefIdeal : Cert.NormBRefIdeal.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.NormBRefIdeal.nD Cert.NormBRefIdeal.τ Cert.NormBRefIdeal.sig) → Buf (Elt Ideal) ℓ) (g' : Dev Cert.NormBRefIdeal.nD → PrngReg), Pre_NormBIdeal m →
    (∀ c : Dev Cert.NormBIdeal.nD,
      m' ((c.tc : Thread Cert.NormBRefIdeal.nD Cert.NormBRefIdeal.τ).loc Cert.NormBRefIdeal.main_arg0) = m ((c.tc : Thread Cert.NormBIdeal.nD Cert.NormBIdeal.τ).loc Cert.NormBIdeal.main_arg0)
      ∧ m' ((c.tc : Thread Cert.NormBRefIdeal.nD Cert.NormBRefIdeal.τ).loc Cert.NormBRefIdeal.main_arg1) = m ((c.tc : Thread Cert.NormBIdeal.nD Cert.NormBIdeal.τ).loc Cert.NormBIdeal.main_arg1)
      ∧ m' ((c.tc : Thread Cert.NormBRefIdeal.nD Cert.NormBRefIdeal.τ).loc Cert.NormBRefIdeal.main_arg2) = m ((c.tc : Thread Cert.NormBIdeal.nD Cert.NormBIdeal.τ).loc Cert.NormBIdeal.main_arg2)) →
    ∃ (v0 : (c : Dev Cert.NormBIdeal.nD) → Buf (Elt Ideal) ((c.tc : Thread Cert.NormBIdeal.nD Cert.NormBIdeal.τ).loc Cert.NormBIdeal.main_v1)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v1) = v0 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
          ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2))
      ∧ θ_run (Cert.NormBRefIdeal.defs (F := Ideal)) (onTc (τ := Cert.NormBRefIdeal.τ) (Cert.NormBRefIdeal.main (F := Ideal))) ⟨m', fun _ => 0, g'⟩ (fun r => ∀ c : Dev Cert.NormBRefIdeal.nD,
          r.2.mem ((c.tc : Thread Cert.NormBRefIdeal.nD Cert.NormBRefIdeal.τ).loc Cert.NormBRefIdeal.main_v25) = v0 c
          ∧ r.2.mem ((c.tc : Thread Cert.NormBRefIdeal.nD Cert.NormBRefIdeal.τ).loc Cert.NormBRefIdeal.main_arg0) = m' ((c.tc : Thread Cert.NormBRefIdeal.nD Cert.NormBRefIdeal.τ).loc Cert.NormBRefIdeal.main_arg0)
          ∧ r.2.mem ((c.tc : Thread Cert.NormBRefIdeal.nD Cert.NormBRefIdeal.τ).loc Cert.NormBRefIdeal.main_arg1) = m' ((c.tc : Thread Cert.NormBRefIdeal.nD Cert.NormBRefIdeal.τ).loc Cert.NormBRefIdeal.main_arg1)
          ∧ r.2.mem ((c.tc : Thread Cert.NormBRefIdeal.nD Cert.NormBRefIdeal.τ).loc Cert.NormBRefIdeal.main_arg2) = m' ((c.tc : Thread Cert.NormBRefIdeal.nD Cert.NormBRefIdeal.τ).loc Cert.NormBRefIdeal.main_arg2))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v2) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v27) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_S5X_S5XIdeal : Prop :=
  True

def algebraic_S5XIdeal_S5XRefIdeal [hS5XIdeal : Cert.S5XIdeal.Facts] [hS5XRefIdeal : Cert.S5XRefIdeal.Facts] : Prop :=
  ∀ (m : (ℓ : Loc Cert.S5XIdeal.nD Cert.S5XIdeal.τ Cert.S5XIdeal.sig) → Buf (Elt Ideal) ℓ) (g : Dev Cert.S5XIdeal.nD → PrngReg)
    (m' : (ℓ : Loc Cert.S5XRefIdeal.nD Cert.S5XRefIdeal.τ Cert.S5XRefIdeal.sig) → Buf (Elt Ideal) ℓ) (g' : Dev Cert.S5XRefIdeal.nD → PrngReg), Pre_S5XIdeal m →
    (∀ c : Dev Cert.S5XIdeal.nD,
      m' ((c.tc : Thread Cert.S5XRefIdeal.nD Cert.S5XRefIdeal.τ).loc Cert.S5XRefIdeal.main_arg0) = m ((c.tc : Thread Cert.S5XIdeal.nD Cert.S5XIdeal.τ).loc Cert.S5XIdeal.main_arg0)
      ∧ m' ((c.tc : Thread Cert.S5XRefIdeal.nD Cert.S5XRefIdeal.τ).loc Cert.S5XRefIdeal.main_arg1) = m ((c.tc : Thread Cert.S5XIdeal.nD Cert.S5XIdeal.τ).loc Cert.S5XIdeal.main_arg1)) →
    ∃ (v0 : (c : Dev Cert.S5XIdeal.nD) → Buf (Elt Ideal) ((c.tc : Thread Cert.S5XIdeal.nD Cert.S5XIdeal.τ).loc Cert.S5XIdeal.main_v0_0)) (v1 : (c : Dev Cert.S5XIdeal.nD) → Buf (Elt Ideal) ((c.tc : Thread Cert.S5XIdeal.nD Cert.S5XIdeal.τ).loc Cert.S5XIdeal.main_v0_1)),
      θ_run (Cert.S5XIdeal.defs (F := Ideal)) (onTc (τ := Cert.S5XIdeal.τ) (Cert.S5XIdeal.main (F := Ideal))) ⟨m, fun _ => 0, g⟩ (fun r => ∀ c : Dev Cert.S5XIdeal.nD,
          r.2.mem ((c.tc : Thread Cert.S5XIdeal.nD Cert.S5XIdeal.τ).loc Cert.S5XIdeal.main_v0_0) = v0 c
          ∧ r.2.mem ((c.tc : Thread Cert.S5XIdeal.nD Cert.S5XIdeal.τ).loc Cert.S5XIdeal.main_v0_1) = v1 c
          ∧ r.2.mem ((c.tc : Thread Cert.S5XIdeal.nD Cert.S5XIdeal.τ).loc Cert.S5XIdeal.main_arg0) = m ((c.tc : Thread Cert.S5XIdeal.nD Cert.S5XIdeal.τ).loc Cert.S5XIdeal.main_arg0)
          ∧ r.2.mem ((c.tc : Thread Cert.S5XIdeal.nD Cert.S5XIdeal.τ).loc Cert.S5XIdeal.main_arg1) = m ((c.tc : Thread Cert.S5XIdeal.nD Cert.S5XIdeal.τ).loc Cert.S5XIdeal.main_arg1))
      ∧ θ_run (Cert.S5XRefIdeal.defs (F := Ideal)) (onTc (τ := Cert.S5XRefIdeal.τ) (Cert.S5XRefIdeal.main (F := Ideal))) ⟨m', fun _ => 0, g'⟩ (fun r => ∀ c : Dev Cert.S5XRefIdeal.nD,
          r.2.mem ((c.tc : Thread Cert.S5XRefIdeal.nD Cert.S5XRefIdeal.τ).loc Cert.S5XRefIdeal.main_v4) = v0 c
          ∧ r.2.mem ((c.tc : Thread Cert.S5XRefIdeal.nD Cert.S5XRefIdeal.τ).loc Cert.S5XRefIdeal.main_v6) = v1 c
          ∧ r.2.mem ((c.tc : Thread Cert.S5XRefIdeal.nD Cert.S5XRefIdeal.τ).loc Cert.S5XRefIdeal.main_arg0) = m' ((c.tc : Thread Cert.S5XRefIdeal.nD Cert.S5XRefIdeal.τ).loc Cert.S5XRefIdeal.main_arg0)
          ∧ r.2.mem ((c.tc : Thread Cert.S5XRefIdeal.nD Cert.S5XRefIdeal.τ).loc Cert.S5XRefIdeal.main_arg1) = m' ((c.tc : Thread Cert.S5XRefIdeal.nD Cert.S5XRefIdeal.τ).loc Cert.S5XRefIdeal.main_arg1))

def preserves_S5Y_S5YIdeal : Prop :=
  True

def algebraic_S5YIdeal_S5YRefIdeal [hS5YIdeal : Cert.S5YIdeal.Facts] [hS5YRefIdeal : Cert.S5YRefIdeal.Facts] : Prop :=
  ∀ (m : (ℓ : Loc Cert.S5YIdeal.nD Cert.S5YIdeal.τ Cert.S5YIdeal.sig) → Buf (Elt Ideal) ℓ) (g : Dev Cert.S5YIdeal.nD → PrngReg)
    (m' : (ℓ : Loc Cert.S5YRefIdeal.nD Cert.S5YRefIdeal.τ Cert.S5YRefIdeal.sig) → Buf (Elt Ideal) ℓ) (g' : Dev Cert.S5YRefIdeal.nD → PrngReg), Pre_S5YIdeal m →
    (∀ c : Dev Cert.S5YIdeal.nD,
      m' ((c.tc : Thread Cert.S5YRefIdeal.nD Cert.S5YRefIdeal.τ).loc Cert.S5YRefIdeal.main_arg0) = m ((c.tc : Thread Cert.S5YIdeal.nD Cert.S5YIdeal.τ).loc Cert.S5YIdeal.main_arg0)
      ∧ m' ((c.tc : Thread Cert.S5YRefIdeal.nD Cert.S5YRefIdeal.τ).loc Cert.S5YRefIdeal.main_arg1) = m ((c.tc : Thread Cert.S5YIdeal.nD Cert.S5YIdeal.τ).loc Cert.S5YIdeal.main_arg1)
      ∧ m' ((c.tc : Thread Cert.S5YRefIdeal.nD Cert.S5YRefIdeal.τ).loc Cert.S5YRefIdeal.main_arg2) = m ((c.tc : Thread Cert.S5YIdeal.nD Cert.S5YIdeal.τ).loc Cert.S5YIdeal.main_arg2)
      ∧ m' ((c.tc : Thread Cert.S5YRefIdeal.nD Cert.S5YRefIdeal.τ).loc Cert.S5YRefIdeal.main_arg3) = m ((c.tc : Thread Cert.S5YIdeal.nD Cert.S5YIdeal.τ).loc Cert.S5YIdeal.main_arg3)
      ∧ m' ((c.tc : Thread Cert.S5YRefIdeal.nD Cert.S5YRefIdeal.τ).loc Cert.S5YRefIdeal.main_arg4) = m ((c.tc : Thread Cert.S5YIdeal.nD Cert.S5YIdeal.τ).loc Cert.S5YIdeal.main_arg4)) →
    ∃ (v0 : (c : Dev Cert.S5YIdeal.nD) → Buf (Elt Ideal) ((c.tc : Thread Cert.S5YIdeal.nD Cert.S5YIdeal.τ).loc Cert.S5YIdeal.main_v0)),
      θ_run (Cert.S5YIdeal.defs (F := Ideal)) (onTc (τ := Cert.S5YIdeal.τ) (Cert.S5YIdeal.main (F := Ideal))) ⟨m, fun _ => 0, g⟩ (fun r => ∀ c : Dev Cert.S5YIdeal.nD,
          r.2.mem ((c.tc : Thread Cert.S5YIdeal.nD Cert.S5YIdeal.τ).loc Cert.S5YIdeal.main_v0) = v0 c
          ∧ r.2.mem ((c.tc : Thread Cert.S5YIdeal.nD Cert.S5YIdeal.τ).loc Cert.S5YIdeal.main_arg0) = m ((c.tc : Thread Cert.S5YIdeal.nD Cert.S5YIdeal.τ).loc Cert.S5YIdeal.main_arg0)
          ∧ r.2.mem ((c.tc : Thread Cert.S5YIdeal.nD Cert.S5YIdeal.τ).loc Cert.S5YIdeal.main_arg1) = m ((c.tc : Thread Cert.S5YIdeal.nD Cert.S5YIdeal.τ).loc Cert.S5YIdeal.main_arg1)
          ∧ r.2.mem ((c.tc : Thread Cert.S5YIdeal.nD Cert.S5YIdeal.τ).loc Cert.S5YIdeal.main_arg2) = m ((c.tc : Thread Cert.S5YIdeal.nD Cert.S5YIdeal.τ).loc Cert.S5YIdeal.main_arg2)
          ∧ r.2.mem ((c.tc : Thread Cert.S5YIdeal.nD Cert.S5YIdeal.τ).loc Cert.S5YIdeal.main_arg3) = m ((c.tc : Thread Cert.S5YIdeal.nD Cert.S5YIdeal.τ).loc Cert.S5YIdeal.main_arg3)
          ∧ r.2.mem ((c.tc : Thread Cert.S5YIdeal.nD Cert.S5YIdeal.τ).loc Cert.S5YIdeal.main_arg4) = m ((c.tc : Thread Cert.S5YIdeal.nD Cert.S5YIdeal.τ).loc Cert.S5YIdeal.main_arg4))
      ∧ θ_run (Cert.S5YRefIdeal.defs (F := Ideal)) (onTc (τ := Cert.S5YRefIdeal.τ) (Cert.S5YRefIdeal.main (F := Ideal))) ⟨m', fun _ => 0, g'⟩ (fun r => ∀ c : Dev Cert.S5YRefIdeal.nD,
          r.2.mem ((c.tc : Thread Cert.S5YRefIdeal.nD Cert.S5YRefIdeal.τ).loc Cert.S5YRefIdeal.main_v7) = v0 c
          ∧ r.2.mem ((c.tc : Thread Cert.S5YRefIdeal.nD Cert.S5YRefIdeal.τ).loc Cert.S5YRefIdeal.main_arg0) = m' ((c.tc : Thread Cert.S5YRefIdeal.nD Cert.S5YRefIdeal.τ).loc Cert.S5YRefIdeal.main_arg0)
          ∧ r.2.mem ((c.tc : Thread Cert.S5YRefIdeal.nD Cert.S5YRefIdeal.τ).loc Cert.S5YRefIdeal.main_arg1) = m' ((c.tc : Thread Cert.S5YRefIdeal.nD Cert.S5YRefIdeal.τ).loc Cert.S5YRefIdeal.main_arg1)
          ∧ r.2.mem ((c.tc : Thread Cert.S5YRefIdeal.nD Cert.S5YRefIdeal.τ).loc Cert.S5YRefIdeal.main_arg2) = m' ((c.tc : Thread Cert.S5YRefIdeal.nD Cert.S5YRefIdeal.τ).loc Cert.S5YRefIdeal.main_arg2)
          ∧ r.2.mem ((c.tc : Thread Cert.S5YRefIdeal.nD Cert.S5YRefIdeal.τ).loc Cert.S5YRefIdeal.main_arg3) = m' ((c.tc : Thread Cert.S5YRefIdeal.nD Cert.S5YRefIdeal.τ).loc Cert.S5YRefIdeal.main_arg3)
          ∧ r.2.mem ((c.tc : Thread Cert.S5YRefIdeal.nD Cert.S5YRefIdeal.τ).loc Cert.S5YRefIdeal.main_arg4) = m' ((c.tc : Thread Cert.S5YRefIdeal.nD Cert.S5YRefIdeal.τ).loc Cert.S5YRefIdeal.main_arg4))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)) →
    ∃ (v0 : (c : Dev Cert.StepIdeal.nD) → Buf (Elt Ideal) ((c.tc : Thread Cert.StepIdeal.nD Cert.StepIdeal.τ).loc Cert.StepIdeal.main_v0_0)) (v1 : (c : Dev Cert.StepIdeal.nD) → Buf (Elt Ideal) ((c.tc : Thread Cert.StepIdeal.nD Cert.StepIdeal.τ).loc Cert.StepIdeal.main_v0_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v0_0) = v0 c
          ∧ r.2.mem ((c.tc : Thread Cert.StepIdeal.nD Cert.StepIdeal.τ).loc Cert.StepIdeal.main_v0_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v11) = v0 c
          ∧ r.2.mem ((c.tc : Thread Cert.StepRefIdeal.nD Cert.StepRefIdeal.τ).loc Cert.StepRefIdeal.main_v19) = v1 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5))

def preserves_InProjS_InProjSIdeal : Prop :=
  True

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)
      ∧ m' ((c.tc : Thread Cert.InProjSRefIdeal.nD Cert.InProjSRefIdeal.τ).loc Cert.InProjSRefIdeal.main_arg2) = m ((c.tc : Thread Cert.InProjSIdeal.nD Cert.InProjSIdeal.τ).loc Cert.InProjSIdeal.main_arg2)
      ∧ m' ((c.tc : Thread Cert.InProjSRefIdeal.nD Cert.InProjSRefIdeal.τ).loc Cert.InProjSRefIdeal.main_arg3) = m ((c.tc : Thread Cert.InProjSIdeal.nD Cert.InProjSIdeal.τ).loc Cert.InProjSIdeal.main_arg3)) →
    ∃ (v0 : (c : Dev Cert.InProjSIdeal.nD) → Buf (Elt Ideal) ((c.tc : Thread Cert.InProjSIdeal.nD Cert.InProjSIdeal.τ).loc Cert.InProjSIdeal.main_v2)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v2) = v0 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2)
          ∧ r.2.mem ((c.tc : Thread Cert.InProjSIdeal.nD Cert.InProjSIdeal.τ).loc Cert.InProjSIdeal.main_arg3) = m ((c.tc : Thread Cert.InProjSIdeal.nD Cert.InProjSIdeal.τ).loc Cert.InProjSIdeal.main_arg3))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v37) = v0 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1)
          ∧ r.2.mem ((c.tc : Thread Cert.InProjSRefIdeal.nD Cert.InProjSRefIdeal.τ).loc Cert.InProjSRefIdeal.main_arg2) = m' ((c.tc : Thread Cert.InProjSRefIdeal.nD Cert.InProjSRefIdeal.τ).loc Cert.InProjSRefIdeal.main_arg2)
          ∧ r.2.mem ((c.tc : Thread Cert.InProjSRefIdeal.nD Cert.InProjSRefIdeal.τ).loc Cert.InProjSRefIdeal.main_arg3) = m' ((c.tc : Thread Cert.InProjSRefIdeal.nD Cert.InProjSRefIdeal.τ).loc Cert.InProjSRefIdeal.main_arg3))

def preserves_DownS_DownSIdeal : Prop :=
  True

def algebraic_DownSIdeal_DownSRefIdeal [hDownSIdeal : Cert.DownSIdeal.Facts] [hDownSRefIdeal : Cert.DownSRefIdeal.Facts] : Prop :=
  ∀ (m : (ℓ : Loc Cert.DownSIdeal.nD Cert.DownSIdeal.τ Cert.DownSIdeal.sig) → Buf (Elt Ideal) ℓ) (g : Dev Cert.DownSIdeal.nD → PrngReg)
    (m' : (ℓ : Loc Cert.DownSRefIdeal.nD Cert.DownSRefIdeal.τ Cert.DownSRefIdeal.sig) → Buf (Elt Ideal) ℓ) (g' : Dev Cert.DownSRefIdeal.nD → PrngReg), Pre_DownSIdeal m →
    (∀ c : Dev Cert.DownSIdeal.nD,
      m' ((c.tc : Thread Cert.DownSRefIdeal.nD Cert.DownSRefIdeal.τ).loc Cert.DownSRefIdeal.main_arg0) = m ((c.tc : Thread Cert.DownSIdeal.nD Cert.DownSIdeal.τ).loc Cert.DownSIdeal.main_arg0)
      ∧ m' ((c.tc : Thread Cert.DownSRefIdeal.nD Cert.DownSRefIdeal.τ).loc Cert.DownSRefIdeal.main_arg1) = m ((c.tc : Thread Cert.DownSIdeal.nD Cert.DownSIdeal.τ).loc Cert.DownSIdeal.main_arg1)
      ∧ m' ((c.tc : Thread Cert.DownSRefIdeal.nD Cert.DownSRefIdeal.τ).loc Cert.DownSRefIdeal.main_arg2) = m ((c.tc : Thread Cert.DownSIdeal.nD Cert.DownSIdeal.τ).loc Cert.DownSIdeal.main_arg2)
      ∧ m' ((c.tc : Thread Cert.DownSRefIdeal.nD Cert.DownSRefIdeal.τ).loc Cert.DownSRefIdeal.main_arg3) = m ((c.tc : Thread Cert.DownSIdeal.nD Cert.DownSIdeal.τ).loc Cert.DownSIdeal.main_arg3)) →
    ∃ (v0 : (c : Dev Cert.DownSIdeal.nD) → Buf (Elt Ideal) ((c.tc : Thread Cert.DownSIdeal.nD Cert.DownSIdeal.τ).loc Cert.DownSIdeal.main_v0)),
      θ_run (Cert.DownSIdeal.defs (F := Ideal)) (onTc (τ := Cert.DownSIdeal.τ) (Cert.DownSIdeal.main (F := Ideal))) ⟨m, fun _ => 0, g⟩ (fun r => ∀ c : Dev Cert.DownSIdeal.nD,
          r.2.mem ((c.tc : Thread Cert.DownSIdeal.nD Cert.DownSIdeal.τ).loc Cert.DownSIdeal.main_v0) = v0 c
          ∧ r.2.mem ((c.tc : Thread Cert.DownSIdeal.nD Cert.DownSIdeal.τ).loc Cert.DownSIdeal.main_arg0) = m ((c.tc : Thread Cert.DownSIdeal.nD Cert.DownSIdeal.τ).loc Cert.DownSIdeal.main_arg0)
          ∧ r.2.mem ((c.tc : Thread Cert.DownSIdeal.nD Cert.DownSIdeal.τ).loc Cert.DownSIdeal.main_arg1) = m ((c.tc : Thread Cert.DownSIdeal.nD Cert.DownSIdeal.τ).loc Cert.DownSIdeal.main_arg1)
          ∧ r.2.mem ((c.tc : Thread Cert.DownSIdeal.nD Cert.DownSIdeal.τ).loc Cert.DownSIdeal.main_arg2) = m ((c.tc : Thread Cert.DownSIdeal.nD Cert.DownSIdeal.τ).loc Cert.DownSIdeal.main_arg2)
          ∧ r.2.mem ((c.tc : Thread Cert.DownSIdeal.nD Cert.DownSIdeal.τ).loc Cert.DownSIdeal.main_arg3) = m ((c.tc : Thread Cert.DownSIdeal.nD Cert.DownSIdeal.τ).loc Cert.DownSIdeal.main_arg3))
      ∧ θ_run (Cert.DownSRefIdeal.defs (F := Ideal)) (onTc (τ := Cert.DownSRefIdeal.τ) (Cert.DownSRefIdeal.main (F := Ideal))) ⟨m', fun _ => 0, g'⟩ (fun r => ∀ c : Dev Cert.DownSRefIdeal.nD,
          r.2.mem ((c.tc : Thread Cert.DownSRefIdeal.nD Cert.DownSRefIdeal.τ).loc Cert.DownSRefIdeal.main_v10) = v0 c
          ∧ r.2.mem ((c.tc : Thread Cert.DownSRefIdeal.nD Cert.DownSRefIdeal.τ).loc Cert.DownSRefIdeal.main_arg0) = m' ((c.tc : Thread Cert.DownSRefIdeal.nD Cert.DownSRefIdeal.τ).loc Cert.DownSRefIdeal.main_arg0)
          ∧ r.2.mem ((c.tc : Thread Cert.DownSRefIdeal.nD Cert.DownSRefIdeal.τ).loc Cert.DownSRefIdeal.main_arg1) = m' ((c.tc : Thread Cert.DownSRefIdeal.nD Cert.DownSRefIdeal.τ).loc Cert.DownSRefIdeal.main_arg1)
          ∧ r.2.mem ((c.tc : Thread Cert.DownSRefIdeal.nD Cert.DownSRefIdeal.τ).loc Cert.DownSRefIdeal.main_arg2) = m' ((c.tc : Thread Cert.DownSRefIdeal.nD Cert.DownSRefIdeal.τ).loc Cert.DownSRefIdeal.main_arg2)
          ∧ r.2.mem ((c.tc : Thread Cert.DownSRefIdeal.nD Cert.DownSRefIdeal.τ).loc Cert.DownSRefIdeal.main_arg3) = m' ((c.tc : Thread Cert.DownSRefIdeal.nD Cert.DownSRefIdeal.τ).loc Cert.DownSRefIdeal.main_arg3))

def preserves_Coef_CoefIdeal : Prop :=
  True

def algebraic_CoefIdeal_CoefRefIdeal [hCoefIdeal : Cert.CoefIdeal.Facts] [hCoefRefIdeal : Cert.CoefRefIdeal.Facts] : Prop :=
  ∀ (m : (ℓ : Loc Cert.CoefIdeal.nD Cert.CoefIdeal.τ Cert.CoefIdeal.sig) → Buf (Elt Ideal) ℓ) (g : Dev Cert.CoefIdeal.nD → PrngReg)
    (m' : (ℓ : Loc Cert.CoefRefIdeal.nD Cert.CoefRefIdeal.τ Cert.CoefRefIdeal.sig) → Buf (Elt Ideal) ℓ) (g' : Dev Cert.CoefRefIdeal.nD → PrngReg), Pre_CoefIdeal m →
    (∀ c : Dev Cert.CoefIdeal.nD,
      m' ((c.tc : Thread Cert.CoefRefIdeal.nD Cert.CoefRefIdeal.τ).loc Cert.CoefRefIdeal.main_arg0) = m ((c.tc : Thread Cert.CoefIdeal.nD Cert.CoefIdeal.τ).loc Cert.CoefIdeal.main_arg0)
      ∧ m' ((c.tc : Thread Cert.CoefRefIdeal.nD Cert.CoefRefIdeal.τ).loc Cert.CoefRefIdeal.main_arg1) = m ((c.tc : Thread Cert.CoefIdeal.nD Cert.CoefIdeal.τ).loc Cert.CoefIdeal.main_arg1)
      ∧ m' ((c.tc : Thread Cert.CoefRefIdeal.nD Cert.CoefRefIdeal.τ).loc Cert.CoefRefIdeal.main_arg2) = m ((c.tc : Thread Cert.CoefIdeal.nD Cert.CoefIdeal.τ).loc Cert.CoefIdeal.main_arg2)
      ∧ m' ((c.tc : Thread Cert.CoefRefIdeal.nD Cert.CoefRefIdeal.τ).loc Cert.CoefRefIdeal.main_arg3) = m ((c.tc : Thread Cert.CoefIdeal.nD Cert.CoefIdeal.τ).loc Cert.CoefIdeal.main_arg3)
      ∧ m' ((c.tc : Thread Cert.CoefRefIdeal.nD Cert.CoefRefIdeal.τ).loc Cert.CoefRefIdeal.main_arg4) = m ((c.tc : Thread Cert.CoefIdeal.nD Cert.CoefIdeal.τ).loc Cert.CoefIdeal.main_arg4)
      ∧ m' ((c.tc : Thread Cert.CoefRefIdeal.nD Cert.CoefRefIdeal.τ).loc Cert.CoefRefIdeal.main_arg5) = m ((c.tc : Thread Cert.CoefIdeal.nD Cert.CoefIdeal.τ).loc Cert.CoefIdeal.main_arg5)
      ∧ m' ((c.tc : Thread Cert.CoefRefIdeal.nD Cert.CoefRefIdeal.τ).loc Cert.CoefRefIdeal.main_arg6) = m ((c.tc : Thread Cert.CoefIdeal.nD Cert.CoefIdeal.τ).loc Cert.CoefIdeal.main_arg6)) →
    ∃ (v0 : (c : Dev Cert.CoefIdeal.nD) → Buf (Elt Ideal) ((c.tc : Thread Cert.CoefIdeal.nD Cert.CoefIdeal.τ).loc Cert.CoefIdeal.main_v28_0)) (v1 : (c : Dev Cert.CoefIdeal.nD) → Buf (Elt Ideal) ((c.tc : Thread Cert.CoefIdeal.nD Cert.CoefIdeal.τ).loc Cert.CoefIdeal.main_v28_1)) (v2 : (c : Dev Cert.CoefIdeal.nD) → Buf (Elt Ideal) ((c.tc : Thread Cert.CoefIdeal.nD Cert.CoefIdeal.τ).loc Cert.CoefIdeal.main_v28_2)) (v3 : (c : Dev Cert.CoefIdeal.nD) → Buf (Elt Ideal) ((c.tc : Thread Cert.CoefIdeal.nD Cert.CoefIdeal.τ).loc Cert.CoefIdeal.main_v28_3)),
      θ_run (Cert.CoefIdeal.defs (F := Ideal)) (onTc (τ := Cert.CoefIdeal.τ) (Cert.CoefIdeal.main (F := Ideal))) ⟨m, fun _ => 0, g⟩ (fun r => ∀ c : Dev Cert.CoefIdeal.nD,
          r.2.mem ((c.tc : Thread Cert.CoefIdeal.nD Cert.CoefIdeal.τ).loc Cert.CoefIdeal.main_v28_0) = v0 c
          ∧ r.2.mem ((c.tc : Thread Cert.CoefIdeal.nD Cert.CoefIdeal.τ).loc Cert.CoefIdeal.main_v28_1) = v1 c
          ∧ r.2.mem ((c.tc : Thread Cert.CoefIdeal.nD Cert.CoefIdeal.τ).loc Cert.CoefIdeal.main_v28_2) = v2 c
          ∧ r.2.mem ((c.tc : Thread Cert.CoefIdeal.nD Cert.CoefIdeal.τ).loc Cert.CoefIdeal.main_v28_3) = v3 c
          ∧ r.2.mem ((c.tc : Thread Cert.CoefIdeal.nD Cert.CoefIdeal.τ).loc Cert.CoefIdeal.main_arg0) = m ((c.tc : Thread Cert.CoefIdeal.nD Cert.CoefIdeal.τ).loc Cert.CoefIdeal.main_arg0)
          ∧ r.2.mem ((c.tc : Thread Cert.CoefIdeal.nD Cert.CoefIdeal.τ).loc Cert.CoefIdeal.main_arg1) = m ((c.tc : Thread Cert.CoefIdeal.nD Cert.CoefIdeal.τ).loc Cert.CoefIdeal.main_arg1)
          ∧ r.2.mem ((c.tc : Thread Cert.CoefIdeal.nD Cert.CoefIdeal.τ).loc Cert.CoefIdeal.main_arg2) = m ((c.tc : Thread Cert.CoefIdeal.nD Cert.CoefIdeal.τ).loc Cert.CoefIdeal.main_arg2)
          ∧ r.2.mem ((c.tc : Thread Cert.CoefIdeal.nD Cert.CoefIdeal.τ).loc Cert.CoefIdeal.main_arg3) = m ((c.tc : Thread Cert.CoefIdeal.nD Cert.CoefIdeal.τ).loc Cert.CoefIdeal.main_arg3)
          ∧ r.2.mem ((c.tc : Thread Cert.CoefIdeal.nD Cert.CoefIdeal.τ).loc Cert.CoefIdeal.main_arg4) = m ((c.tc : Thread Cert.CoefIdeal.nD Cert.CoefIdeal.τ).loc Cert.CoefIdeal.main_arg4)
          ∧ r.2.mem ((c.tc : Thread Cert.CoefIdeal.nD Cert.CoefIdeal.τ).loc Cert.CoefIdeal.main_arg5) = m ((c.tc : Thread Cert.CoefIdeal.nD Cert.CoefIdeal.τ).loc Cert.CoefIdeal.main_arg5)
          ∧ r.2.mem ((c.tc : Thread Cert.CoefIdeal.nD Cert.CoefIdeal.τ).loc Cert.CoefIdeal.main_arg6) = m ((c.tc : Thread Cert.CoefIdeal.nD Cert.CoefIdeal.τ).loc Cert.CoefIdeal.main_arg6))
      ∧ θ_run (Cert.CoefRefIdeal.defs (F := Ideal)) (onTc (τ := Cert.CoefRefIdeal.τ) (Cert.CoefRefIdeal.main (F := Ideal))) ⟨m', fun _ => 0, g'⟩ (fun r => ∀ c : Dev Cert.CoefRefIdeal.nD,
          r.2.mem ((c.tc : Thread Cert.CoefRefIdeal.nD Cert.CoefRefIdeal.τ).loc Cert.CoefRefIdeal.main_v226) = v0 c
          ∧ r.2.mem ((c.tc : Thread Cert.CoefRefIdeal.nD Cert.CoefRefIdeal.τ).loc Cert.CoefRefIdeal.main_v228) = v1 c
          ∧ r.2.mem ((c.tc : Thread Cert.CoefRefIdeal.nD Cert.CoefRefIdeal.τ).loc Cert.CoefRefIdeal.main_v230) = v2 c
          ∧ r.2.mem ((c.tc : Thread Cert.CoefRefIdeal.nD Cert.CoefRefIdeal.τ).loc Cert.CoefRefIdeal.main_v232) = v3 c
          ∧ r.2.mem ((c.tc : Thread Cert.CoefRefIdeal.nD Cert.CoefRefIdeal.τ).loc Cert.CoefRefIdeal.main_arg0) = m' ((c.tc : Thread Cert.CoefRefIdeal.nD Cert.CoefRefIdeal.τ).loc Cert.CoefRefIdeal.main_arg0)
          ∧ r.2.mem ((c.tc : Thread Cert.CoefRefIdeal.nD Cert.CoefRefIdeal.τ).loc Cert.CoefRefIdeal.main_arg1) = m' ((c.tc : Thread Cert.CoefRefIdeal.nD Cert.CoefRefIdeal.τ).loc Cert.CoefRefIdeal.main_arg1)
          ∧ r.2.mem ((c.tc : Thread Cert.CoefRefIdeal.nD Cert.CoefRefIdeal.τ).loc Cert.CoefRefIdeal.main_arg2) = m' ((c.tc : Thread Cert.CoefRefIdeal.nD Cert.CoefRefIdeal.τ).loc Cert.CoefRefIdeal.main_arg2)
          ∧ r.2.mem ((c.tc : Thread Cert.CoefRefIdeal.nD Cert.CoefRefIdeal.τ).loc Cert.CoefRefIdeal.main_arg3) = m' ((c.tc : Thread Cert.CoefRefIdeal.nD Cert.CoefRefIdeal.τ).loc Cert.CoefRefIdeal.main_arg3)
          ∧ r.2.mem ((c.tc : Thread Cert.CoefRefIdeal.nD Cert.CoefRefIdeal.τ).loc Cert.CoefRefIdeal.main_arg4) = m' ((c.tc : Thread Cert.CoefRefIdeal.nD Cert.CoefRefIdeal.τ).loc Cert.CoefRefIdeal.main_arg4)
          ∧ r.2.mem ((c.tc : Thread Cert.CoefRefIdeal.nD Cert.CoefRefIdeal.τ).loc Cert.CoefRefIdeal.main_arg5) = m' ((c.tc : Thread Cert.CoefRefIdeal.nD Cert.CoefRefIdeal.τ).loc Cert.CoefRefIdeal.main_arg5)
          ∧ r.2.mem ((c.tc : Thread Cert.CoefRefIdeal.nD Cert.CoefRefIdeal.τ).loc Cert.CoefRefIdeal.main_arg6) = m' ((c.tc : Thread Cert.CoefRefIdeal.nD Cert.CoefRefIdeal.τ).loc Cert.CoefRefIdeal.main_arg6))

def Claim : Prop :=
  ∃ (hScan : Cert.Scan.Facts) (hScanIdeal : Cert.ScanIdeal.Facts) (hScanRefIdeal : Cert.ScanRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hMoba : Cert.Moba.Facts) (hMobaIdeal : Cert.MobaIdeal.Facts) (hMobaRefIdeal : Cert.MobaRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hGlu : Cert.Glu.Facts) (hGluIdeal : Cert.GluIdeal.Facts) (hGluRefIdeal : Cert.GluRefIdeal.Facts) (hAda : Cert.Ada.Facts) (hAdaIdeal : Cert.AdaIdeal.Facts) (hAdaRefIdeal : Cert.AdaRefIdeal.Facts) (hNorm : Cert.Norm.Facts) (hNormIdeal : Cert.NormIdeal.Facts) (hNormRefIdeal : Cert.NormRefIdeal.Facts) (hNormB : Cert.NormB.Facts) (hNormBIdeal : Cert.NormBIdeal.Facts) (hNormBRefIdeal : Cert.NormBRefIdeal.Facts) (hRms : Cert.Rms.Facts) (hRmsIdeal : Cert.RmsIdeal.Facts) (hRmsRefIdeal : Cert.RmsRefIdeal.Facts) (hS5X : Cert.S5X.Facts) (hS5XIdeal : Cert.S5XIdeal.Facts) (hS5XRefIdeal : Cert.S5XRefIdeal.Facts) (hS5Y : Cert.S5Y.Facts) (hS5YIdeal : Cert.S5YIdeal.Facts) (hS5YRefIdeal : Cert.S5YRefIdeal.Facts) (hStep : Cert.Step.Facts) (hStepIdeal : Cert.StepIdeal.Facts) (hStepRefIdeal : Cert.StepRefIdeal.Facts) (hInProjS : Cert.InProjS.Facts) (hInProjSIdeal : Cert.InProjSIdeal.Facts) (hInProjSRefIdeal : Cert.InProjSRefIdeal.Facts) (hDownS : Cert.DownS.Facts) (hDownSIdeal : Cert.DownSIdeal.Facts) (hDownSRefIdeal : Cert.DownSRefIdeal.Facts) (hCoef : Cert.Coef.Facts) (hCoefIdeal : Cert.CoefIdeal.Facts) (hCoefRefIdeal : Cert.CoefRefIdeal.Facts) (hPre_finite : Cert.Pre_finite.Facts),
    quiescent_Scan (hScan := hScan)
    ∧ quiescent_ScanIdeal (hScanIdeal := hScanIdeal)
    ∧ quiescent_ScanRefIdeal (hScanRefIdeal := hScanRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Moba (hMoba := hMoba)
    ∧ quiescent_MobaIdeal (hMobaIdeal := hMobaIdeal)
    ∧ quiescent_MobaIdeal_pre_finite (hMobaIdeal := hMobaIdeal) (hPre_finite := hPre_finite)
    ∧ quiescent_MobaRefIdeal (hMobaRefIdeal := hMobaRefIdeal)
    ∧ quiescent_MobaRefIdeal_pre_finite (hMobaRefIdeal := hMobaRefIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Glu (hGlu := hGlu)
    ∧ quiescent_GluIdeal (hGluIdeal := hGluIdeal)
    ∧ quiescent_GluRefIdeal (hGluRefIdeal := hGluRefIdeal)
    ∧ quiescent_Ada (hAda := hAda)
    ∧ quiescent_AdaIdeal (hAdaIdeal := hAdaIdeal)
    ∧ quiescent_AdaRefIdeal (hAdaRefIdeal := hAdaRefIdeal)
    ∧ quiescent_Norm (hNorm := hNorm)
    ∧ quiescent_NormIdeal (hNormIdeal := hNormIdeal)
    ∧ quiescent_NormRefIdeal (hNormRefIdeal := hNormRefIdeal)
    ∧ quiescent_NormB (hNormB := hNormB)
    ∧ quiescent_NormBIdeal (hNormBIdeal := hNormBIdeal)
    ∧ quiescent_NormBRefIdeal (hNormBRefIdeal := hNormBRefIdeal)
    ∧ quiescent_Rms (hRms := hRms)
    ∧ quiescent_RmsIdeal (hRmsIdeal := hRmsIdeal)
    ∧ quiescent_RmsRefIdeal (hRmsRefIdeal := hRmsRefIdeal)
    ∧ quiescent_S5X (hS5X := hS5X)
    ∧ quiescent_S5XIdeal (hS5XIdeal := hS5XIdeal)
    ∧ quiescent_S5XRefIdeal (hS5XRefIdeal := hS5XRefIdeal)
    ∧ quiescent_S5Y (hS5Y := hS5Y)
    ∧ quiescent_S5YIdeal (hS5YIdeal := hS5YIdeal)
    ∧ quiescent_S5YRefIdeal (hS5YRefIdeal := hS5YRefIdeal)
    ∧ quiescent_Step (hStep := hStep)
    ∧ quiescent_StepIdeal (hStepIdeal := hStepIdeal)
    ∧ quiescent_StepRefIdeal (hStepRefIdeal := hStepRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ quiescent_DownS (hDownS := hDownS)
    ∧ quiescent_DownSIdeal (hDownSIdeal := hDownSIdeal)
    ∧ quiescent_DownSRefIdeal (hDownSRefIdeal := hDownSRefIdeal)
    ∧ quiescent_Coef (hCoef := hCoef)
    ∧ quiescent_CoefIdeal (hCoefIdeal := hCoefIdeal)
    ∧ quiescent_CoefRefIdeal (hCoefRefIdeal := hCoefRefIdeal)
    ∧ preserves_Scan_ScanIdeal
    ∧ algebraic_ScanIdeal_ScanRefIdeal (hScanIdeal := hScanIdeal) (hScanRefIdeal := hScanRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Moba_MobaIdeal
    ∧ algebraic_MobaIdeal_MobaRefIdeal_pre_finite (hMobaIdeal := hMobaIdeal) (hMobaRefIdeal := hMobaRefIdeal) (hPre_finite := hPre_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Glu_GluIdeal
    ∧ algebraic_GluIdeal_GluRefIdeal (hGluIdeal := hGluIdeal) (hGluRefIdeal := hGluRefIdeal)
    ∧ preserves_Ada_AdaIdeal
    ∧ algebraic_AdaIdeal_AdaRefIdeal (hAdaIdeal := hAdaIdeal) (hAdaRefIdeal := hAdaRefIdeal)
    ∧ preserves_Norm_NormIdeal
    ∧ algebraic_NormIdeal_NormRefIdeal (hNormIdeal := hNormIdeal) (hNormRefIdeal := hNormRefIdeal)
    ∧ preserves_NormB_NormBIdeal
    ∧ algebraic_NormBIdeal_NormBRefIdeal (hNormBIdeal := hNormBIdeal) (hNormBRefIdeal := hNormBRefIdeal)
    ∧ preserves_Rms_RmsIdeal
    ∧ algebraic_RmsIdeal_RmsRefIdeal (hRmsIdeal := hRmsIdeal) (hRmsRefIdeal := hRmsRefIdeal)
    ∧ preserves_S5X_S5XIdeal
    ∧ algebraic_S5XIdeal_S5XRefIdeal (hS5XIdeal := hS5XIdeal) (hS5XRefIdeal := hS5XRefIdeal)
    ∧ preserves_S5Y_S5YIdeal
    ∧ algebraic_S5YIdeal_S5YRefIdeal (hS5YIdeal := hS5YIdeal) (hS5YRefIdeal := hS5YRefIdeal)
    ∧ preserves_Step_StepIdeal
    ∧ algebraic_StepIdeal_StepRefIdeal (hStepIdeal := hStepIdeal) (hStepRefIdeal := hStepRefIdeal)
    ∧ preserves_InProjS_InProjSIdeal
    ∧ algebraic_InProjSIdeal_InProjSRefIdeal (hInProjSIdeal := hInProjSIdeal) (hInProjSRefIdeal := hInProjSRefIdeal)
    ∧ preserves_DownS_DownSIdeal
    ∧ algebraic_DownSIdeal_DownSRefIdeal (hDownSIdeal := hDownSIdeal) (hDownSRefIdeal := hDownSRefIdeal)
    ∧ preserves_Coef_CoefIdeal
    ∧ algebraic_CoefIdeal_CoefRefIdeal (hCoefIdeal := hCoefIdeal) (hCoefRefIdeal := hCoefRefIdeal)
-- ==== Pre_finite.lean ====
abbrev S8192x8192 : Shape := ⟨2, ![8192, 8192]⟩
abbrev S8192x4096 : Shape := ⟨2, ![8192, 4096]⟩
abbrev S_ : Shape := ⟨0, ![]⟩

class Facts : Prop where
  slices_S8192x8192_S8192x4096_0_0 : S8192x8192.Slices ![0, 0] S8192x4096
  bcast_S_S8192x4096 : S_.BroadcastsInDim S8192x4096 (![] : Fin 0 → Fin S8192x4096.rank)

variable [Facts]

def fn {F : FTy → Type} [FloatOps F] (main_arg0 : FVec F S8192x8192 .f32) : IVec S8192x4096 1 :=
  let main_v0 : FVec F S8192x4096 .f32 := (extractStridedSlice S8192x4096 ![0, 0] · slices_S8192x8192_S8192x4096_0_0) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  main_v3
-- ==== Scan.lean ====
abbrev S1024x8192 : Shape := ⟨2, ![1024, 8192]⟩
abbrev S8x8192 : Shape := ⟨2, ![8, 8192]⟩
abbrev S1024x1024 : Shape := ⟨2, ![1024, 1024]⟩
abbrev S8x1024 : Shape := ⟨2, ![8, 1024]⟩
abbrev S1x1024 : Shape := ⟨2, ![1, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x8192, .f32⟩
  | .hbm, ⟨1, _⟩ => ⟨S1024x8192, .f32⟩
  | .hbm, ⟨2, _⟩ => ⟨S8x8192, .f32⟩
  | .hbm, ⟨3, _⟩ => ⟨S8x8192, .f32⟩
  | .hbm, ⟨4, _⟩ => ⟨S1024x8192, .f32⟩
  | .hbm, ⟨5, _⟩ => ⟨S1024x8192, .f32⟩
  | .hbm, ⟨6, _⟩ => ⟨S8x8192, .f32⟩
  | .hbm, ⟨7, _⟩ => ⟨S8x8192, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c128_i32 : BitVec 32 := 128#32
  let v3 : BitVec 32 := Scalar.addi c0_i32 c128_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c8_i32 : BitVec 32 := 8#32
  let v11 : BitVec 32 := Scalar.muli arg9 c8_i32
  v11
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c8_i32 : BitVec 32 := 8#32
  let v11 : BitVec 32 := Scalar.muli arg9 c8_i32
  let v12 : BitVec 32 := v11
  let v13 : Index := Scalar.indexCast v12
  let c0_8 : Index := 0#32
  ![v13.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ScanRefIdeal.lean ====
abbrev S1024x8192 : Shape := ⟨2, ![1024, 8192]⟩
abbrev S8x8192 : Shape := ⟨2, ![8, 8192]⟩
abbrev S1x8192 : Shape := ⟨2, ![1, 8192]⟩
abbrev S8192 : Shape := ⟨1, ![8192]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x8192, .f32⟩
  | .hbm, ⟨2, _⟩ => ⟨S8x8192, .f32⟩
  | .hbm, ⟨3, _⟩ => ⟨S8x8192, .f32⟩
  | .hbm, ⟨4, _⟩ => ⟨S1x8192, .f32⟩
  | .hbm, ⟨5, _⟩ => ⟨S8192, .f32⟩
  | .hbm, ⟨6, _⟩ => ⟨S1x8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S1024x8192, .f32⟩
  | .hbm, ⟨12, _⟩ => ⟨S_, .f32⟩
  | .hbm, ⟨13, _⟩ => ⟨S1024x8192, .f32⟩
  | .hbm, ⟨14, _⟩ => ⟨S_, .i32⟩
  | .hbm, ⟨15, _⟩ => ⟨S1024x8192, .f32⟩
  | .hbm, ⟨16, _⟩ => ⟨S1024x8192, .f32⟩
  | .hbm, ⟨17, _⟩ => ⟨S8192, .f32⟩
  | .hbm, ⟨18, _⟩ => ⟨S8192, .f32⟩
  | .hbm, ⟨19, _⟩ => ⟨S_, .i32⟩
  | .hbm, ⟨20, _⟩ => ⟨S8192, .f32⟩
  | .hbm, ⟨21, _⟩ => ⟨S8192, .f32⟩
  | .hbm, ⟨22, _⟩ => ⟨S1024x8192, .f32⟩
  | .hbm, ⟨23, _⟩ => ⟨S1024x8192, .f32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S1x8192, .f32⟩
  | .hbm, ⟨28, _⟩ => ⟨S8192, .f32⟩
  | .hbm, ⟨29, _⟩ => ⟨S_, .i32⟩
  | .hbm, ⟨30, _⟩ => ⟨S1x8192, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S8192, .f32⟩
  | .hbm, ⟨38, _⟩ => ⟨S8192, .f32⟩
  | .hbm, ⟨39, _⟩ => ⟨S8192, .f32⟩
  | .hbm, ⟨40, _⟩ => ⟨S1x8192, .f32⟩
  | .hbm, ⟨41, _⟩ => ⟨S_, .i32⟩
  | .hbm, ⟨42, _⟩ => ⟨S1024x8192, .f32⟩
  | .hbm, ⟨43, _⟩ => ⟨S1x8192, .f32⟩
  | .hbm, ⟨44, _⟩ => ⟨S_, .i32⟩
  | .hbm, ⟨45, _⟩ => ⟨S1024x8192, .f32⟩
  | .hbm, ⟨46, _⟩ => ⟨S_, .i32⟩
  | .hbm, ⟨47, _⟩ => ⟨S_, .i32⟩
  | .hbm, ⟨48, _⟩ => ⟨S8x8192, .f32⟩
  | .hbm, ⟨49, _⟩ => ⟨S8x8192, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_c : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev main_v7_6 : Ref sig .tc := ⟨.hbm, 21, rfl⟩
abbrev main_v7_7 : Ref sig .tc := ⟨.hbm, 22, rfl⟩
abbrev main_v7_8 : Ref sig .tc := ⟨.hbm, 23, rfl⟩
abbrev main_while0c_c_10 : Ref sig .tc := ⟨.hbm, 24, rfl⟩
abbrev main_while0c_v10 : Ref sig .tc := ⟨.hbm, 25, rfl⟩
abbrev main_while0b_call0_c : Ref sig .tc := ⟨.hbm, 26, rfl⟩
abbrev main_while0b_call0_v0 : Ref sig .tc := ⟨.hbm, 27, rfl⟩
abbrev main_while0b_v10 : Ref sig .tc := ⟨.hbm, 28, rfl⟩
abbrev main_while0b_call1_c : Ref sig .tc := ⟨.hbm, 29, rfl⟩
abbrev main_while0b_call1_v0 : Ref sig .tc := ⟨.hbm, 30, rfl⟩
abbrev main_while0b_v11 : Ref sig .tc := ⟨.hbm, 31, rfl⟩
abbrev main_while0b_v12 : Ref sig .tc := ⟨.hbm, 32, rfl⟩
abbrev main_while0b_v13 : Ref sig .tc := ⟨.hbm, 33, rfl⟩
abbrev main_while0b_v14 : Ref sig .tc := ⟨.hbm, 34, rfl⟩
abbrev main_while0b_v15 : Ref sig .tc := ⟨.hbm, 35, rfl⟩
abbrev main_while0b_v16 : Ref sig .tc := ⟨.hbm, 36, rfl⟩
abbrev main_while0b_v17 : Ref sig .tc := ⟨.hbm, 37, rfl⟩
abbrev main_while0b_v18 : Ref sig .tc := ⟨.hbm, 38, rfl⟩
abbrev main_while0b_v19 : Ref sig .tc := ⟨.hbm, 39, rfl⟩
abbrev main_while0b_call2_v0 : Ref sig .tc := ⟨.hbm, 40, rfl⟩
abbrev main_while0b_call2_c : Ref sig .tc := ⟨.hbm, 41, rfl⟩
abbrev main_while0b_v20 : Ref sig .tc := ⟨.hbm, 42, rfl⟩
abbrev main_while0b_call3_v0 : Ref sig .tc := ⟨.hbm, 43, rfl⟩
abbrev main_while0b_call3_c : Ref sig .tc := ⟨.hbm, 44, rfl⟩
abbrev main_while0b_v21 : Ref sig .tc := ⟨.hbm, 45, rfl⟩
abbrev main_while0b_c_10 : Ref sig .tc := ⟨.hbm, 46, rfl⟩
abbrev main_while0b_v22 : Ref sig .tc := ⟨.hbm, 47, rfl⟩
abbrev main_v8 : Ref sig .tc := ⟨.hbm, 48, rfl⟩
abbrev main_v9 : Ref sig .tc := ⟨.hbm, 49, rfl⟩

abbrev nD : Nat := 1
abbrev τ : Topo := Topo.v7x

variable {F : FTy → Type} [FloatOps F]

abbrev main_while0_count : Scf.Loop 32 := ⟨0#32, 1024#32, 1#32⟩
-- ==== GateUp.lean ====
abbrev S8192x4096 : Shape := ⟨2, ![8192, 4096]⟩
abbrev S4096x11008 : Shape := ⟨2, ![4096, 11008]⟩
abbrev S8192x11008 : Shape := ⟨2, ![8192, 11008]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x11008, .bf16⟩
  | .hbm, ⟨2, _⟩ => ⟨S4096x11008, .bf16⟩
  | .hbm, ⟨3, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1024x256, .bf16⟩
  | .local _ .vmem, ⟨7, _⟩ => ⟨S1024x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpRefIdeal.lean ====
abbrev S8192x4096 : Shape := ⟨2, ![8192, 4096]⟩
abbrev S4096x11008 : Shape := ⟨2, ![4096, 11008]⟩
abbrev S8192x11008 : Shape := ⟨2, ![8192, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x11008, .bf16⟩
  | .hbm, ⟨2, _⟩ => ⟨S4096x11008, .bf16⟩
  | .hbm, ⟨3, _⟩ => ⟨S8192x4096, .f32⟩
  | .hbm, ⟨4, _⟩ => ⟨S4096x11008, .f32⟩
  | .hbm, ⟨5, _⟩ => ⟨S4096x11008, .f32⟩
  | .hbm, ⟨6, _⟩ => ⟨S8192x11008, .f32⟩
  | .hbm, ⟨7, _⟩ => ⟨S8192x11008, .f32⟩
  | .hbm, ⟨8, _⟩ => ⟨S8192x11008, .f32⟩
  | .hbm, ⟨9, _⟩ => ⟨S_, .f32⟩
  | .hbm, ⟨10, _⟩ => ⟨S8192x11008, .f32⟩
  | .hbm, ⟨11, _⟩ => ⟨S8192x11008, .f32⟩
  | .hbm, ⟨12, _⟩ => ⟨S_, .f32⟩
  | .hbm, ⟨13, _⟩ => ⟨S8192x11008, .f32⟩
  | .hbm, ⟨14, _⟩ => ⟨S8192x11008, .f32⟩
  | .hbm, ⟨15, _⟩ => ⟨S8192x11008, .f32⟩
  | .hbm, ⟨16, _⟩ => ⟨S8192x11008, .f32⟩
  | .hbm, ⟨17, _⟩ => ⟨S8192x11008, .f32⟩
  | .hbm, ⟨18, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Down.lean ====
abbrev S8192x11008 : Shape := ⟨2, ![8192, 11008]⟩
abbrev S11008x4096 : Shape := ⟨2, ![11008, 4096]⟩
abbrev S8192x4096 : Shape := ⟨2, ![8192, 4096]⟩
abbrev S1x24576 : Shape := ⟨2, ![1, 24576]⟩
abbrev S512x11008 : Shape := ⟨2, ![512, 11008]⟩
abbrev S11008x256 : Shape := ⟨2, ![11008, 256]⟩
abbrev S512x256 : Shape := ⟨2, ![512, 256]⟩
abbrev S1x256 : Shape := ⟨2, ![1, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S1x24576, .f32⟩
  | .hbm, ⟨4, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S11008x256, .bf16⟩
  | .local _ .vmem, ⟨3, _⟩ => ⟨S11008x256, .bf16⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownIdeal.lean ====
abbrev S8192x11008 : Shape := ⟨2, ![8192, 11008]⟩
abbrev S11008x4096 : Shape := ⟨2, ![11008, 4096]⟩
abbrev S8192x4096 : Shape := ⟨2, ![8192, 4096]⟩
abbrev S1x24576 : Shape := ⟨2, ![1, 24576]⟩
abbrev S512x11008 : Shape := ⟨2, ![512, 11008]⟩
abbrev S11008x256 : Shape := ⟨2, ![11008, 256]⟩
abbrev S512x256 : Shape := ⟨2, ![512, 256]⟩
abbrev S1x256 : Shape := ⟨2, ![1, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S1x24576, .f32⟩
  | .hbm, ⟨4, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S11008x256, .bf16⟩
  | .local _ .vmem, ⟨3, _⟩ => ⟨S11008x256, .bf16⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S8192x11008 : Shape := ⟨2, ![8192, 11008]⟩
abbrev S11008x4096 : Shape := ⟨2, ![11008, 4096]⟩
abbrev S8192x4096 : Shape := ⟨2, ![8192, 4096]⟩
abbrev S1x24576 : Shape := ⟨2, ![1, 24576]⟩
abbrev S1x4096 : Shape := ⟨2, ![1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S1x24576, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S8192x11008, .f32⟩
  | .hbm, ⟨11, _⟩ => ⟨S11008x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Moba.lean ====
abbrev S8192x8192 : Shape := ⟨2, ![8192, 8192]⟩
abbrev S8192x2048 : Shape := ⟨2, ![8192, 2048]⟩
abbrev S256x128 : Shape := ⟨2, ![256, 128]⟩
abbrev S8192x128 : Shape := ⟨2, ![8192, 128]⟩
abbrev S128x128 : Shape := ⟨2, ![128, 128]⟩
abbrev S128 : Shape := ⟨1, ![128]⟩
abbrev S1x128 : Shape := ⟨2, ![1, 128]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 11
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .local _ .vmem, ⟨0, _⟩ => ⟨S256x128, .f32⟩
  | .local _ .vmem, ⟨1, _⟩ => ⟨S256x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S256x128, .f32⟩
  | .local _ .vmem, ⟨7, _⟩ => ⟨S256x128, .f32⟩
  | .local _ .vmem, ⟨8, _⟩ => ⟨S8192x128, .bf16⟩
  | .local _ .vmem, ⟨9, _⟩ => ⟨S8192x128, .bf16⟩
  | .local _ .vmem, ⟨10, _⟩ => ⟨S128x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 32], ![false, false]⟩

def k0_mult1 (i : grid0.Coords) : BitVec 32 :=
  let arg1 : BitVec 32 := BitVec.ofNat 32 (i 1).val
  let c256_i32 : BitVec 32 := 256#32
  let v7 : BitVec 32 := Scalar.muli arg1 c256_i32
  v7
def k0_off1 (i : grid0.Coords) : Fin 2 → Nat :=
  let arg1 : BitVec 32 := BitVec.ofNat 32 (i 1).val
  let c256_i32 : BitVec 32 := 256#32
  let v7 : BitVec 32 := Scalar.muli arg1 c256_i32
  let v8 : BitVec 32 := v7
  let v9 : Index := Scalar.indexCast v8
  let c0_2 : Index := 0#32
  ![v9.toNat, 0]
@[reducible] def k0_t1_loop (i : grid0.Coords) : Scf.Loop 32 :=
  let c0_i32_28 : BitVec 32 := 0#32
  let arg1 : BitVec 32 := BitVec.ofNat 32 (i 1).val
  let v81 : BitVec 32 := Scalar.subi arg1 c0_i32_28
  let c1_i32 : BitVec 32 := 1#32
  let v83 : BitVec 32 := Scalar.divsi v81 c1_i32
  let v84 : BitVec 32 := Scalar.muli v83 c1_i32
  let v85 : BitVec 32 := Scalar.addi c0_i32_28 v84
  let c1_i32_29 : BitVec 32 := 1#32
  ⟨c0_i32_28, v85, c1_i32_29⟩
def k0_mult2 (i : grid0.Coords) (k0_t1 : Fin (k0_t1_loop i).trips) : BitVec 32 :=
  let c0_i32_28 : BitVec 32 := 0#32
  let c1_i32_29 : BitVec 32 := 1#32
  let arg9 : BitVec 32 := Scf.iv c0_i32_28 c1_i32_29 k0_t1
  let c256_i32_33 : BitVec 32 := 256#32
  let v91 : BitVec 32 := Scalar.muli arg9 c256_i32_33
  v91
def k0_off2 (i : grid0.Coords) (k0_t1 : Fin (k0_t1_loop i).trips) : Fin 2 → Nat :=
  let c0_i32_28 : BitVec 32 := 0#32
  let c1_i32_29 : BitVec 32 := 1#32
  let arg9 : BitVec 32 := Scf.iv c0_i32_28 c1_i32_29 k0_t1
  let c256_i32_33 : BitVec 32 := 256#32
  let v91 : BitVec 32 := Scalar.muli arg9 c256_i32_33
  let v92 : BitVec 32 := v91
  let v99 : Index := Scalar.indexCast v92
  let c0_36 : Index := 0#32
  ![v99.toNat, 0]
@[reducible] def k0_t2_loop (i : grid0.Coords) : Scf.Loop 32 :=
  let c0_i32_28 : BitVec 32 := 0#32
  let arg1 : BitVec 32 := BitVec.ofNat 32 (i 1).val
  let v81 : BitVec 32 := Scalar.subi arg1 c0_i32_28
  let c1_i32 : BitVec 32 := 1#32
  let v83 : BitVec 32 := Scalar.divsi v81 c1_i32
  let v84 : BitVec 32 := Scalar.muli v83 c1_i32
  let v85 : BitVec 32 := Scalar.addi c0_i32_28 v84
  let v82 : BitVec 32 := Scalar.addi c0_i32_28 v81
  let c1_i32_30 : BitVec 32 := 1#32
  ⟨v85, v82, c1_i32_30⟩
def k0_mult3 (i : grid0.Coords) (k0_t2 : Fin (k0_t2_loop i).trips) : BitVec 32 :=
  let c0_i32_28 : BitVec 32 := 0#32
  let arg1 : BitVec 32 := BitVec.ofNat 32 (i 1).val
  let v81 : BitVec 32 := Scalar.subi arg1 c0_i32_28
  let c1_i32 : BitVec 32 := 1#32
  let v83 : BitVec 32 := Scalar.divsi v81 c1_i32
  let v84 : BitVec 32 := Scalar.muli v83 c1_i32
  let v85 : BitVec 32 := Scalar.addi c0_i32_28 v84
  let c1_i32_30 : BitVec 32 := 1#32
  let arg9 : BitVec 32 := Scf.iv v85 c1_i32_30 k0_t2
  let c256_i32_33 : BitVec 32 := 256#32
  let v91 : BitVec 32 := Scalar.muli arg9 c256_i32_33
  v91
def k0_off3 (i : grid0.Coords) (k0_t2 : Fin (k0_t2_loop i).trips) : Fin 2 → Nat :=
  let c0_i32_28 : BitVec 32 := 0#32
  let arg1 : BitVec 32 := BitVec.ofNat 32 (i 1).val
  let v81 : BitVec 32 := Scalar.subi arg1 c0_i32_28
  let c1_i32 : BitVec 32 := 1#32
  let v83 : BitVec 32 := Scalar.divsi v81 c1_i32
  let v84 : BitVec 32 := Scalar.muli v83 c1_i32
  let v85 : BitVec 32 := Scalar.addi c0_i32_28 v84
  let c1_i32_30 : BitVec 32 := 1#32
  let arg9 : BitVec 32 := Scf.iv v85 c1_i32_30 k0_t2
  let c256_i32_33 : BitVec 32 := 256#32
  let v91 : BitVec 32 := Scalar.muli arg9 c256_i32_33
  let v92 : BitVec 32 := v91
  let v99 : Index := Scalar.indexCast v92
  let c0_36 : Index := 0#32
  ![v99.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MobaIdeal.lean ====
variable {F : FTy → Type} [FloatOps F] [Named F]
def κ : String → Option EReal := fun
  | "mask" => some ⊥
  | _ => none
-- ==== MobaRefIdeal.lean ====
abbrev S8192x8192 : Shape := ⟨2, ![8192, 8192]⟩
abbrev S8192x2048 : Shape := ⟨2, ![8192, 2048]⟩
abbrev S8192x16x128 : Shape := ⟨3, ![8192, 16, 128]⟩
abbrev S32x256x16x128 : Shape := ⟨4, ![32, 256, 16, 128]⟩
abbrev S31x256x16x128 : Shape := ⟨4, ![31, 256, 16, 128]⟩
abbrev S_ : Shape := ⟨0, ![]⟩
abbrev S31x16x128 : Shape := ⟨3, ![31, 16, 128]⟩
abbrev S8192 : Shape := ⟨1, ![8192]⟩
abbrev S16x31x8192 : Shape := ⟨3, ![16, 31, 8192]⟩
abbrev S8192x16x31 : Shape := ⟨3, ![8192, 16, 31]⟩
abbrev S31 : Shape := ⟨1, ![31]⟩
abbrev S1x1x31 : Shape := ⟨3, ![1, 1, 31]⟩
abbrev S8192x1x1 : Shape := ⟨3, ![8192, 1, 1]⟩
abbrev S8192x1x31 : Shape := ⟨3, ![8192, 1, 31]⟩
abbrev S8192x16x3 : Shape := ⟨3, ![8192, 16, 3]⟩
abbrev S3 : Shape := ⟨1, ![3]⟩
abbrev S1x1x3 : Shape := ⟨3, ![1, 1, 3]⟩
abbrev S8192x1x3 : Shape := ⟨3, ![8192, 1, 3]⟩
abbrev S16 : Shape := ⟨1, ![16]⟩
abbrev S1x16x1 : Shape := ⟨3, ![1, 16, 1]⟩
abbrev S8192x16x3x1 : Shape := ⟨4, ![8192, 16, 3, 1]⟩
abbrev S8192x16x3x2 : Shape := ⟨4, ![8192, 16, 3, 2]⟩
abbrev S8192x16x3x256x128 : Shape := ⟨5, ![8192, 16, 3, 256, 128]⟩
abbrev S8192x1 : Shape := ⟨2, ![8192, 1]⟩
abbrev S8192x256x16x128 : Shape := ⟨4, ![8192, 256, 16, 128]⟩
abbrev S256 : Shape := ⟨1, ![256]⟩
abbrev S1x256 : Shape := ⟨2, ![1, 256]⟩
abbrev S8192x256 : Shape := ⟨2, ![8192, 256]⟩
abbrev S8192x16x256 : Shape := ⟨3, ![8192, 16, 256]⟩
abbrev S8192x1x256 : Shape := ⟨3, ![8192, 1, 256]⟩
abbrev S8192x16x3x256 : Shape := ⟨4, ![8192, 16, 3, 256]⟩
abbrev S8192x1x3x1 : Shape := ⟨4, ![8192, 1, 3, 1]⟩
abbrev S8192x16x768 : Shape := ⟨3, ![8192, 16, 768]⟩
abbrev S8192x16x1024 : Shape := ⟨3, ![8192, 16, 1024]⟩
abbrev S8192x16 : Shape := ⟨2, ![8192, 16]⟩
abbrev S8192x16x1 : Shape := ⟨3, ![8192, 16, 1]⟩

abbrev nBuf : Space → Nat
  | .hbm => 182
  | .vmem => 0
  | .smem => 0
  | _ => 0

abbrev hbmTy0_0 (i : Nat) : BufTy := match i % 128 with
  | 0 => ⟨S8192x8192, .f32⟩
  | 1 => ⟨S8192x2048, .f32⟩
  | 2 => ⟨S8192x16x128, .f32⟩
  | 3 => ⟨S8192x2048, .f32⟩
  | 4 => ⟨S8192x16x128, .f32⟩
  | 5 => ⟨S8192x2048, .f32⟩
  | 6 => ⟨S8192x16x128, .f32⟩
  | 7 => ⟨S32x256x16x128, .f32⟩
  | 8 => ⟨S32x256x16x128, .f32⟩
  | 9 => ⟨S31x256x16x128, .f32⟩
  | 10 => ⟨S_, .f32⟩
  | 11 => ⟨S31x16x128, .f32⟩
  | 12 => ⟨S_, .f32⟩
  | 13 => ⟨S31x16x128, .f32⟩
  | 14 => ⟨S31x16x128, .f32⟩
  | 15 => ⟨S8192, .i32⟩
  | 16 => ⟨S_, .i32⟩
  | 17 => ⟨S_, .i32⟩
  | 18 => ⟨S8192, .i32⟩
  | 19 => ⟨S8192, .i32⟩
  | 20 => ⟨S8192, .i32⟩
  | 21 => ⟨S_, .i32⟩
  | 22 => ⟨S8192, .i32⟩
  | 23 => ⟨S8192, .i1⟩
  | 24 => ⟨S8192, .i32⟩
  | 25 => ⟨S8192, .i32⟩
  | 26 => ⟨S_, .i32⟩
  | 27 => ⟨S8192, .i32⟩
  | 28 => ⟨S8192, .i1⟩
  | 29 => ⟨S8192, .i1⟩
  | 30 => ⟨S_, .i32⟩
  | 31 => ⟨S8192, .i32⟩
  | 32 => ⟨S8192, .i32⟩
  | 33 => ⟨S8192, .i32⟩
  | 34 => ⟨S16x31x8192, .f32⟩
  | 35 => ⟨S8192x16x31, .f32⟩
  | 36 => ⟨S31, .i32⟩
  | 37 => ⟨S1x1x31, .i32⟩
  | 38 => ⟨S8192x1x1, .i32⟩
  | 39 => ⟨S8192x1x31, .i32⟩
  | 40 => ⟨S8192x1x31, .i32⟩
  | 41 => ⟨S8192x1x31, .i1⟩
  | 42 => ⟨S_, .f32⟩
  | 43 => ⟨S_, .f32⟩
  | 44 => ⟨S8192x16x31, .i1⟩
  | 45 => ⟨S8192x16x31, .f32⟩
  | 46 => ⟨S8192x16x31, .f32⟩
  | 47 => ⟨S8192x16x3, .f32⟩
  | 48 => ⟨S8192x16x3, .i32⟩
  | 49 => ⟨S3, .i32⟩
  | 50 => ⟨S1x1x3, .i32⟩
  | 51 => ⟨S8192x1x1, .i32⟩
  | 52 => ⟨S8192x1x3, .i32⟩
  | 53 => ⟨S8192x1x3, .i32⟩
  | 54 => ⟨S8192x1x3, .i1⟩
  | 55 => ⟨S16, .i32⟩
  | 56 => ⟨S1x16x1, .i32⟩
  | 57 => ⟨S_, .i32⟩
  | 58 => ⟨S8192x16x3, .i32⟩
  | 59 => ⟨S8192x16x3, .i1⟩
  | 60 => ⟨S_, .i32⟩
  | 61 => ⟨S8192x16x3, .i32⟩
  | 62 => ⟨S8192x16x3, .i32⟩
  | 63 => ⟨S8192x16x3, .i32⟩
  | 64 => ⟨S_, .i32⟩
  | 65 => ⟨S1x16x1, .i32⟩
  | 66 => ⟨S1x16x1, .i1⟩
  | 67 => ⟨S_, .i32⟩
  | 68 => ⟨S1x16x1, .i32⟩
  | 69 => ⟨S1x16x1, .i32⟩
  | 70 => ⟨S1x16x1, .i32⟩
  | 71 => ⟨S8192x16x3, .i32⟩
  | 72 => ⟨S8192x16x3x1, .i32⟩
  | 73 => ⟨S8192x16x3x1, .i32⟩
  | 74 => ⟨S8192x16x3x2, .i32⟩
  | 75 => ⟨S8192x16x3x256x128, .f32⟩
  | 76 => ⟨S_, .i32⟩
  | 77 => ⟨S8192x16x3, .i32⟩
  | 78 => ⟨S8192x16x3, .i1⟩
  | 79 => ⟨S_, .i32⟩
  | 80 => ⟨S8192x16x3, .i32⟩
  | 81 => ⟨S8192x16x3, .i32⟩
  | 82 => ⟨S8192x16x3, .i32⟩
  | 83 => ⟨S_, .i32⟩
  | 84 => ⟨S1x16x1, .i32⟩
  | 85 => ⟨S1x16x1, .i1⟩
  | 86 => ⟨S_, .i32⟩
  | 87 => ⟨S1x16x1, .i32⟩
  | 88 => ⟨S1x16x1, .i32⟩
  | 89 => ⟨S1x16x1, .i32⟩
  | 90 => ⟨S8192x16x3, .i32⟩
  | 91 => ⟨S8192x16x3x1, .i32⟩
  | 92 => ⟨S8192x16x3x1, .i32⟩
  | 93 => ⟨S8192x16x3x2, .i32⟩
  | 94 => ⟨S8192x16x3x256x128, .f32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S8192x256x16x128, .f32⟩
  | 104 => ⟨S_, .i32⟩
  | 105 => ⟨S8192, .i32⟩
  | 106 => ⟨S8192, .i1⟩
  | 107 => ⟨S_, .i32⟩
  | 108 => ⟨S8192, .i32⟩
  | 109 => ⟨S8192, .i32⟩
  | 110 => ⟨S8192, .i32⟩
  | 111 => ⟨S8192x1, .i32⟩
  | 112 => ⟨S8192x256x16x128, .f32⟩
  | 113 => ⟨S256, .i32⟩
  | 114 => ⟨S1x256, .i32⟩
  | 115 => ⟨S8192, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S8192, .i32⟩
  | 123 => ⟨S8192, .i32⟩
  | 124 => ⟨S_, .i32⟩
  | 125 => ⟨S8192, .i32⟩
  | 126 => ⟨S8192, .i1⟩
  | 127 => ⟨S_, .i32⟩
  | _ => ⟨S8192x8192, .f32⟩

abbrev hbmTy0_1 (i : Nat) : BufTy := match i % 128 with
  | 0 => ⟨S8192, .i32⟩
  | 1 => ⟨S8192, .i1⟩
  | 2 => ⟨S_, .i32⟩
  | 3 => ⟨S_, .i1⟩
  | 4 => ⟨S8192, .i1⟩
  | 5 => ⟨S8192, .i1⟩
  | 6 => ⟨S8192, .i1⟩
  | 7 => ⟨S8192, .i32⟩
  | 8 => ⟨S8192, .i32⟩
  | 9 => ⟨S8192, .i32⟩
  | 10 => ⟨S8192x1, .i32⟩
  | 11 => ⟨S8192x256, .i32⟩
  | 12 => ⟨S8192x256, .i32⟩
  | 13 => ⟨S8192x256, .i1⟩
  | 14 => ⟨S_, .f32⟩
  | 15 => ⟨S8192x16x128, .f32⟩
  | 16 => ⟨S8192x16x128, .f32⟩
  | 17 => ⟨S8192x16x256, .f32⟩
  | 18 => ⟨S8192x1x256, .i1⟩
  | 19 => ⟨S_, .f32⟩
  | 20 => ⟨S_, .f32⟩
  | 21 => ⟨S8192x16x256, .i1⟩
  | 22 => ⟨S8192x16x256, .f32⟩
  | 23 => ⟨S8192x16x256, .f32⟩
  | 24 => ⟨S8192x16x3x256, .f32⟩
  | 25 => ⟨S8192x1x3x1, .i1⟩
  | 26 => ⟨S_, .f32⟩
  | 27 => ⟨S_, .f32⟩
  | 28 => ⟨S8192x16x3x256, .i1⟩
  | 29 => ⟨S8192x16x3x256, .f32⟩
  | 30 => ⟨S8192x16x3x256, .f32⟩
  | 31 => ⟨S8192x16x768, .f32⟩
  | 32 => ⟨S8192x16x1024, .f32⟩
  | 33 => ⟨S_, .f32⟩
  | 34 => ⟨S8192x16, .f32⟩
  | 35 => ⟨S_, .f32⟩
  | 36 => ⟨S8192x16, .f32⟩
  | 37 => ⟨S8192x16, .f32⟩
  | 38 => ⟨S8192x16x1, .f32⟩
  | 39 => ⟨S8192x16x1024, .f32⟩
  | 40 => ⟨S8192x16x1024, .f32⟩
  | 41 => ⟨S8192x16x1024, .f32⟩
  | 42 => ⟨S_, .f32⟩
  | 43 => ⟨S8192x16, .f32⟩
  | 44 => ⟨S8192x16x1, .f32⟩
  | 45 => ⟨S8192x16x1024, .f32⟩
  | 46 => ⟨S8192x16x1024, .f32⟩
  | 47 => ⟨S8192x16x768, .f32⟩
  | 48 => ⟨S8192x16x3x256, .f32⟩
  | 49 => ⟨S8192x16x256, .f32⟩
  | 50 => ⟨S8192x16x128, .f32⟩
  | 51 => ⟨S8192x16x128, .f32⟩
  | 52 => ⟨S8192x16x128, .f32⟩
  | 53 => ⟨S8192x2048, .f32⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v22 : Ref sig .tc := ⟨.hbm, 46, rfl⟩
abbrev main_values : Ref sig .tc := ⟨.hbm, 47, rfl⟩
abbrev main_indices : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_2 : Ref sig .tc := ⟨.hbm, 57, rfl⟩
abbrev main_v31 : Ref sig .tc := ⟨.hbm, 58, rfl⟩
abbrev main_v32 : Ref sig .tc := ⟨.hbm, 59, rfl⟩
abbrev main_c_3 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_4 : Ref sig .tc := ⟨.hbm, 64, rfl⟩
abbrev main_v36 : Ref sig .tc := ⟨.hbm, 65, rfl⟩
abbrev main_v37 : Ref sig .tc := ⟨.hbm, 66, rfl⟩
abbrev main_c_5 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_6 : Ref sig .tc := ⟨.hbm, 76, rfl⟩
abbrev main_v46 : Ref sig .tc := ⟨.hbm, 77, rfl⟩
abbrev main_v47 : Ref sig .tc := ⟨.hbm, 78, rfl⟩
abbrev main_c_7 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_8 : Ref sig .tc := ⟨.hbm, 83, rfl⟩
abbrev main_v51 : Ref sig .tc := ⟨.hbm, 84, rfl⟩
abbrev main_v52 : Ref sig .tc := ⟨.hbm, 85, rfl⟩
abbrev main_c_9 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_10 : Ref sig .tc := ⟨.hbm, 95, rfl⟩
abbrev main_v61 : Ref sig .tc := ⟨.hbm, 96, rfl⟩
abbrev main_v62 : Ref sig .tc := ⟨.hbm, 97, rfl⟩
abbrev main_c_11 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_12 : Ref sig .tc := ⟨.hbm, 104, rfl⟩
abbrev main_v68 : Ref sig .tc := ⟨.hbm, 105, rfl⟩
abbrev main_v69 : Ref sig .tc := ⟨.hbm, 106, rfl⟩
abbrev main_c_13 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_14 : Ref sig .tc := ⟨.hbm, 116, rfl⟩
abbrev main_call2_v0 : Ref sig .tc := ⟨.hbm, 117, rfl⟩
abbrev main_call2_c : Ref sig .tc := ⟨.hbm, 118, rfl⟩
abbrev main_call2_v1 : Ref sig .tc := ⟨.hbm, 119, rfl⟩
abbrev main_call2_c_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_c_1 : Ref sig .tc := ⟨.hbm, 124, rfl⟩
abbrev main_call2_v5 : Ref sig .tc := ⟨.hbm, 125, rfl⟩
abbrev main_call2_v6 : Ref sig .tc := ⟨.hbm, 126, rfl⟩
abbrev main_call2_c_2 : Ref sig .tc := ⟨.hbm, 127, rfl⟩
abbrev main_call2_v7 : Ref sig .tc := ⟨.hbm, 128, rfl⟩
abbrev main_call2_v8 : Ref sig .tc := ⟨.hbm, 129, rfl⟩
abbrev main_call2_c_3 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_call2_v12 : Ref sig .tc := ⟨.hbm, 134, rfl⟩
abbrev main_call2_v13 : Ref sig .tc := ⟨.hbm, 135, rfl⟩
abbrev main_call2_v14 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_15 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_cst_16 : Ref sig .tc := ⟨.hbm, 147, rfl⟩
abbrev main_call3_v0 : Ref sig .tc := ⟨.hbm, 148, rfl⟩
abbrev main_call3_v1 : Ref sig .tc := ⟨.hbm, 149, rfl⟩
abbrev main_call3_v2 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_cst_17 : Ref sig .tc := ⟨.hbm, 154, rfl⟩
abbrev main_call4_v0 : Ref sig .tc := ⟨.hbm, 155, rfl⟩
abbrev main_call4_v1 : Ref sig .tc := ⟨.hbm, 156, rfl⟩
abbrev main_call4_v2 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_cst_18 : Ref sig .tc := ⟨.hbm, 161, rfl⟩
abbrev main_v93 : Ref sig .tc := ⟨.hbm, 162, rfl⟩
abbrev main_cst_19 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_cst_20 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩

abbrev nD : Nat := 1
abbrev τ : Topo := Topo.v7x

variable {F : FTy → Type} [FloatOps F]

def κ : String → Option EReal := fun
  | "mask" => some ⊥
  | _ => none
-- ==== InProj.lean ====
abbrev S8192x4096 : Shape := ⟨2, ![8192, 4096]⟩
abbrev S4096x8192 : Shape := ⟨2, ![4096, 8192]⟩
abbrev S128 : Shape := ⟨1, ![128]⟩
abbrev S1x128 : Shape := ⟨2, ![1, 128]⟩
abbrev S8192x8192 : Shape := ⟨2, ![8192, 8192]⟩
abbrev S1024x4096 : Shape := ⟨2, ![1024, 4096]⟩
abbrev S4096x512 : Shape := ⟨2, ![4096, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .bf16⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S8192x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x128, .f32⟩
  | .local _ .vmem, ⟨5, _⟩ => ⟨S1x128, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c512_i32 : BitVec 32 := 512#32
  let v3 : BitVec 32 := Scalar.muli arg1 c512_i32
  let c4096_i32 : BitVec 32 := 4096#32
  let v4 : BitVec 1 := Scalar.cmpi .slt v3 c4096_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c512_i32 : BitVec 32 := 512#32
  let v3 : BitVec 32 := Scalar.muli arg1 c512_i32
  let c4096_i32_3 : BitVec 32 := 4096#32
  let v7 : BitVec 1 := Scalar.cmpi .sge v3 c4096_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjIdeal.lean ====
abbrev S8192x4096 : Shape := ⟨2, ![8192, 4096]⟩
abbrev S4096x8192 : Shape := ⟨2, ![4096, 8192]⟩
abbrev S128 : Shape := ⟨1, ![128]⟩
abbrev S1x128 : Shape := ⟨2, ![1, 128]⟩
abbrev S8192x8192 : Shape := ⟨2, ![8192, 8192]⟩
abbrev S1024x4096 : Shape := ⟨2, ![1024, 4096]⟩
abbrev S4096x512 : Shape := ⟨2, ![4096, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .bf16⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S8192x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x128, .f32⟩
  | .local _ .vmem, ⟨5, _⟩ => ⟨S1x128, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c512_i32 : BitVec 32 := 512#32
  let v3 : BitVec 32 := Scalar.muli arg1 c512_i32
  let c4096_i32 : BitVec 32 := 4096#32
  let v4 : BitVec 1 := Scalar.cmpi .slt v3 c4096_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c512_i32 : BitVec 32 := 512#32
  let v3 : BitVec 32 := Scalar.muli arg1 c512_i32
  let c4096_i32_3 : BitVec 32 := 4096#32
  let v7 : BitVec 1 := Scalar.cmpi .sge v3 c4096_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S8192x4096 : Shape := ⟨2, ![8192, 4096]⟩
abbrev S4096x8192 : Shape := ⟨2, ![4096, 8192]⟩
abbrev S128 : Shape := ⟨1, ![128]⟩
abbrev S8192x8192 : Shape := ⟨2, ![8192, 8192]⟩
abbrev S8192x2048 : Shape := ⟨2, ![8192, 2048]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 48
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .bf16⟩
  | .hbm, ⟨2, _⟩ => ⟨S128, .f32⟩
  | .hbm, ⟨3, _⟩ => ⟨S128, .f32⟩
  | .hbm, ⟨4, _⟩ => ⟨S8192x4096, .f32⟩
  | .hbm, ⟨5, _⟩ => ⟨S4096x8192, .f32⟩
  | .hbm, ⟨6, _⟩ => ⟨S8192x8192, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x16x128, .f32⟩
  | .hbm, ⟨12, _⟩ => ⟨S8192x16x128, .f32⟩
  | .hbm, ⟨13, _⟩ => ⟨S_, .f32⟩
  | .hbm, ⟨14, _⟩ => ⟨S8192x16, .f32⟩
  | .hbm, ⟨15, _⟩ => ⟨S8192x16x1, .f32⟩
  | .hbm, ⟨16, _⟩ => ⟨S_, .f32⟩
  | .hbm, ⟨17, _⟩ => ⟨S8192x16x1, .f32⟩
  | .hbm, ⟨18, _⟩ => ⟨S8192x16x1, .f32⟩
  | .hbm, ⟨19, _⟩ => ⟨S_, .f32⟩
  | .hbm, ⟨20, _⟩ => ⟨S8192x16x1, .f32⟩
  | .hbm, ⟨21, _⟩ => ⟨S8192x16x1, .f32⟩
  | .hbm, ⟨22, _⟩ => ⟨S8192x16x1, .f32⟩
  | .hbm, ⟨23, _⟩ => ⟨S8192x16x128, .f32⟩
  | .hbm, ⟨24, _⟩ => ⟨S8192x16x128, .f32⟩
  | .hbm, ⟨25, _⟩ => ⟨S1x1x128, .f32⟩
  | .hbm, ⟨26, _⟩ => ⟨S8192x16x128, .f32⟩
  | .hbm, ⟨27, _⟩ => ⟨S8192x16x128, .f32⟩
  | .hbm, ⟨28, _⟩ => ⟨S8192x16x128, .f32⟩
  | .hbm, ⟨29, _⟩ => ⟨S8192x16x128, .f32⟩
  | .hbm, ⟨30, _⟩ => ⟨S_, .f32⟩
  | .hbm, ⟨31, _⟩ => ⟨S8192x16, .f32⟩
  | .hbm, ⟨32, _⟩ => ⟨S8192x16x1, .f32⟩
  | .hbm, ⟨33, _⟩ => ⟨S_, .f32⟩
  | .hbm, ⟨34, _⟩ => ⟨S8192x16x1, .f32⟩
  | .hbm, ⟨35, _⟩ => ⟨S8192x16x1, .f32⟩
  | .hbm, ⟨36, _⟩ => ⟨S_, .f32⟩
  | .hbm, ⟨37, _⟩ => ⟨S8192x16x1, .f32⟩
  | .hbm, ⟨38, _⟩ => ⟨S8192x16x1, .f32⟩
  | .hbm, ⟨39, _⟩ => ⟨S8192x16x1, .f32⟩
  | .hbm, ⟨40, _⟩ => ⟨S8192x16x128, .f32⟩
  | .hbm, ⟨41, _⟩ => ⟨S8192x16x128, .f32⟩
  | .hbm, ⟨42, _⟩ => ⟨S1x1x128, .f32⟩
  | .hbm, ⟨43, _⟩ => ⟨S8192x16x128, .f32⟩
  | .hbm, ⟨44, _⟩ => ⟨S8192x16x128, .f32⟩
  | .hbm, ⟨45, _⟩ => ⟨S8192x2048, .f32⟩
  | .hbm, ⟨46, _⟩ => ⟨S8192x2048, .f32⟩
  | .hbm, ⟨47, _⟩ => ⟨S8192x8192, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== OutProj.lean ====
abbrev S8192x4096 : Shape := ⟨2, ![8192, 4096]⟩
abbrev S4096x4096 : Shape := ⟨2, ![4096, 4096]⟩
abbrev S1x24576 : Shape := ⟨2, ![1, 24576]⟩
abbrev S1024x4096 : Shape := ⟨2, ![1024, 4096]⟩
abbrev S4096x512 : Shape := ⟨2, ![4096, 512]⟩
abbrev S1024x512 : Shape := ⟨2, ![1024, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S1x24576, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S8192x4096 : Shape := ⟨2, ![8192, 4096]⟩
abbrev S4096x4096 : Shape := ⟨2, ![4096, 4096]⟩
abbrev S1x24576 : Shape := ⟨2, ![1, 24576]⟩
abbrev S1x4096 : Shape := ⟨2, ![1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S1x24576, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S8192x4096, .f32⟩
  | .hbm, ⟨11, _⟩ => ⟨S4096x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Glu.lean ====
abbrev S8192x2048 : Shape := ⟨2, ![8192, 2048]⟩
abbrev S8192x8192 : Shape := ⟨2, ![8192, 8192]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S2048x512 : Shape := ⟨2, ![2048, 512]⟩
abbrev S1x512 : Shape := ⟨2, ![1, 512]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S2048, .f32⟩
  | .hbm, ⟨3, _⟩ => ⟨S2048x2048, .bf16⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let c0_6 : Index := 0#32
  let arg1 : BitVec 32 := BitVec.ofNat 32 (i 1).val
  let c512_i32 : BitVec 32 := 512#32
  let v3 : BitVec 32 := Scalar.muli arg1 c512_i32
  let v4 : BitVec 32 := v3
  let v13 : Index := Scalar.indexCast v4
  ![0, v13.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluRefIdeal.lean ====
abbrev S8192x2048 : Shape := ⟨2, ![8192, 2048]⟩
abbrev S8192x8192 : Shape := ⟨2, ![8192, 8192]⟩
abbrev S2048 : Shape := ⟨1, ![2048]⟩
abbrev S2048x2048 : Shape := ⟨2, ![2048, 2048]⟩
abbrev S1x2048 : Shape := ⟨2, ![1, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S2048, .f32⟩
  | .hbm, ⟨3, _⟩ => ⟨S2048x2048, .bf16⟩
  | .hbm, ⟨4, _⟩ => ⟨S2048, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S2048x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Ada.lean ====
abbrev S136x4096 : Shape := ⟨2, ![136, 4096]⟩
abbrev S4096x24576 : Shape := ⟨2, ![4096, 24576]⟩
abbrev S24576 : Shape := ⟨1, ![24576]⟩
abbrev S1x24576 : Shape := ⟨2, ![1, 24576]⟩
abbrev S136x24576 : Shape := ⟨2, ![136, 24576]⟩
abbrev S4096x512 : Shape := ⟨2, ![4096, 512]⟩
abbrev S1x512 : Shape := ⟨2, ![1, 512]⟩
abbrev S136x512 : Shape := ⟨2, ![136, 512]⟩

abbrev nBuf : Space → Nat
  | .hbm => 5
  | .vmem => 7
  | .smem => 0
  | _ => 0

abbrev bufTy : (tb : Table) → Fin (tcTables nBuf tb) → BufTy
  | .hbm, ⟨0, _⟩ => ⟨S136x4096, .f32⟩
  | .hbm, ⟨1, _⟩ => ⟨S4096x24576, .f32⟩
  | .hbm, ⟨2, _⟩ => ⟨S24576, .f32⟩
  | .hbm, ⟨3, _⟩ => ⟨S1x24576, .f32⟩
  | .hbm, ⟨4, _⟩ => ⟨S136x24576, .f32⟩
  | .local _ .vmem, ⟨0, _⟩ => ⟨S136x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S136x512, .f32⟩
  | .local _ .vmem, ⟨6, _⟩ => ⟨S136x512, .f32⟩
  | _, _ => ⟨S136x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S136x4096 : Shape := ⟨2, ![136, 4096]⟩
abbrev S4096x24576 : Shape := ⟨2, ![4096, 24576]⟩
abbrev S24576 : Shape := ⟨1, ![24576]⟩
abbrev S_ : Shape := ⟨0, ![]⟩
abbrev S136x24576 : Shape := ⟨2, ![136, 24576]⟩
abbrev S1x24576 : Shape := ⟨2, ![1, 24576]⟩

abbrev nBuf : Space → Nat
  | .hbm => 16
  | .vmem => 0
  | .smem => 0
  | _ => 0

abbrev bufTy : (tb : Table) → Fin (tcTables nBuf tb) → BufTy
  | .hbm, ⟨0, _⟩ => ⟨S136x4096, .f32⟩
  | .hbm, ⟨1, _⟩ => ⟨S4096x24576, .f32⟩
  | .hbm, ⟨2, _⟩ => ⟨S24576, .f32⟩
  | .hbm, ⟨3, _⟩ => ⟨S136x4096, .f32⟩
  | .hbm, ⟨4, _⟩ => ⟨S136x4096, .f32⟩
  | .hbm, ⟨5, _⟩ => ⟨S_, .f32⟩
  | .hbm, ⟨6, _⟩ => ⟨S136x4096, .f32⟩
  | .hbm, ⟨7, _⟩ => ⟨S136x4096, .f32⟩
  | .hbm, ⟨8, _⟩ => ⟨S_, .f32⟩
  | .hbm, ⟨9, _⟩ => ⟨S136x4096, .f32⟩
  | .hbm, ⟨10, _⟩ => ⟨S136x4096, .f32⟩
  | .hbm, ⟨11, _⟩ => ⟨S136x4096, .f32⟩
  | .hbm, ⟨12, _⟩ => ⟨S136x24576, .f32⟩
  | .hbm, ⟨13, _⟩ => ⟨S1x24576, .f32⟩
  | .hbm, ⟨14, _⟩ => ⟨S136x24576, .f32⟩
  | .hbm, ⟨15, _⟩ => ⟨S136x24576, .f32⟩
  | _, _ => ⟨S136x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Norm.lean ====
abbrev S8192x4096 : Shape := ⟨2, ![8192, 4096]⟩
abbrev S4096 : Shape := ⟨1, ![4096]⟩
abbrev S1x24576 : Shape := ⟨2, ![1, 24576]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x24576, .f32⟩
  | .hbm, ⟨3, _⟩ => ⟨S1x4096, .f32⟩
  | .hbm, ⟨4, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== NormRefIdeal.lean ====
abbrev S8192x4096 : Shape := ⟨2, ![8192, 4096]⟩
abbrev S4096 : Shape := ⟨1, ![4096]⟩
abbrev S1x24576 : Shape := ⟨2, ![1, 24576]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x24576, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S8192x4096, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x4096, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S1x4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== NormB.lean ====
abbrev S8192x4096 : Shape := ⟨2, ![8192, 4096]⟩
abbrev S4096 : Shape := ⟨1, ![4096]⟩
abbrev S1x24576 : Shape := ⟨2, ![1, 24576]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x24576, .f32⟩
  | .hbm, ⟨3, _⟩ => ⟨S1x4096, .f32⟩
  | .hbm, ⟨4, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== NormBRefIdeal.lean ====
abbrev S8192x4096 : Shape := ⟨2, ![8192, 4096]⟩
abbrev S4096 : Shape := ⟨1, ![4096]⟩
abbrev S1x24576 : Shape := ⟨2, ![1, 24576]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x24576, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S8192x4096, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x4096, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S1x4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Rms.lean ====
abbrev S8192x2048 : Shape := ⟨2, ![8192, 2048]⟩
abbrev S2048 : Shape := ⟨1, ![2048]⟩
abbrev S1x2048 : Shape := ⟨2, ![1, 2048]⟩
abbrev S8192x4096 : Shape := ⟨2, ![8192, 4096]⟩
abbrev S256x2048 : Shape := ⟨2, ![256, 2048]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S8192x4096, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x4096, .bf16⟩
  | .local _ .vmem, ⟨7, _⟩ => ⟨S256x4096, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RmsRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4096 : Shape := ⟨2, ![8192, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x4096, .f32⟩
  | .hbm, ⟨37, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== S5X.lean ====
abbrev S64x1024x256 : Shape := ⟨3, ![64, 1024, 256]⟩
abbrev S64x256x256 : Shape := ⟨3, ![64, 256, 256]⟩
abbrev S1024x8192 : Shape := ⟨2, ![1024, 8192]⟩
abbrev S1x1024x256 : Shape := ⟨3, ![1, 1024, 256]⟩
abbrev S1x256x256 : Shape := ⟨3, ![1, 256, 256]⟩
abbrev S1024x128 : Shape := ⟨2, ![1024, 128]⟩
abbrev S1024x256 : Shape := ⟨2, ![1024, 256]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S64x1024x256, .f32⟩
  | .hbm, ⟨1, _⟩ => ⟨S64x256x256, .bf16⟩
  | .hbm, ⟨2, _⟩ => ⟨S1024x8192, .f32⟩
  | .hbm, ⟨3, _⟩ => ⟨S1024x8192, .f32⟩
  | .local _ .vmem, ⟨0, _⟩ => ⟨S1x1024x256, .f32⟩
  | .local _ .vmem, ⟨1, _⟩ => ⟨S1x1024x256, .f32⟩
  | .local _ .vmem, ⟨2, _⟩ => ⟨S1x256x256, .bf16⟩
  | .local _ .vmem, ⟨3, _⟩ => ⟨S1x256x256, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== S5XRefIdeal.lean ====
abbrev S64x1024x256 : Shape := ⟨3, ![64, 1024, 256]⟩
abbrev S64x256x256 : Shape := ⟨3, ![64, 256, 256]⟩
abbrev S64x256x1024 : Shape := ⟨3, ![64, 256, 1024]⟩
abbrev S1024x64x256 : Shape := ⟨3, ![1024, 64, 256]⟩
abbrev S1024x64x128 : Shape := ⟨3, ![1024, 64, 128]⟩
abbrev S1024x8192 : Shape := ⟨2, ![1024, 8192]⟩

abbrev nBuf : Space → Nat
  | .hbm => 9
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S64x256x256, .bf16⟩
  | .hbm, ⟨2, _⟩ => ⟨S64x256x256, .f32⟩
  | .hbm, ⟨3, _⟩ => ⟨S64x256x1024, .f32⟩
  | .hbm, ⟨4, _⟩ => ⟨S1024x64x256, .f32⟩
  | .hbm, ⟨5, _⟩ => ⟨S1024x64x128, .f32⟩
  | .hbm, ⟨6, _⟩ => ⟨S1024x8192, .f32⟩
  | .hbm, ⟨7, _⟩ => ⟨S1024x64x128, .f32⟩
  | .hbm, ⟨8, _⟩ => ⟨S1024x8192, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== S5Y.lean ====
abbrev S64x1024x256 : Shape := ⟨3, ![64, 1024, 256]⟩
abbrev S1024x8192 : Shape := ⟨2, ![1024, 8192]⟩
abbrev S64x256x256 : Shape := ⟨3, ![64, 256, 256]⟩
abbrev S1x1024x256 : Shape := ⟨3, ![1, 1024, 256]⟩
abbrev S1024x128 : Shape := ⟨2, ![1024, 128]⟩
abbrev S1x256x256 : Shape := ⟨3, ![1, 256, 256]⟩
abbrev S1024x256 : Shape := ⟨2, ![1024, 256]⟩
abbrev S256x256 : Shape := ⟨2, ![256, 256]⟩

abbrev nBuf : Space → Nat
  | .hbm => 6
  | .vmem => 12
  | .smem => 0
  | _ => 0

abbrev bufTy : (tb : Table) → Fin (tcTables nBuf tb) → BufTy
  | .hbm, ⟨0, _⟩ => ⟨S64x1024x256, .f32⟩
  | .hbm, ⟨1, _⟩ => ⟨S1024x8192, .f32⟩
  | .hbm, ⟨2, _⟩ => ⟨S1024x8192, .f32⟩
  | .hbm, ⟨3, _⟩ => ⟨S64x256x256, .bf16⟩
  | .hbm, ⟨4, _⟩ => ⟨S64x256x256, .bf16⟩
  | .hbm, ⟨5, _⟩ => ⟨S64x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x1024x256, .f32⟩
  | .local _ .vmem, ⟨11, _⟩ => ⟨S1x1024x256, .f32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== S5YRefIdeal.lean ====
abbrev S64x1024x256 : Shape := ⟨3, ![64, 1024, 256]⟩
abbrev S1024x8192 : Shape := ⟨2, ![1024, 8192]⟩
abbrev S64x256x256 : Shape := ⟨3, ![64, 256, 256]⟩
abbrev S1024x64x128 : Shape := ⟨3, ![1024, 64, 128]⟩
abbrev S1024x64x256 : Shape := ⟨3, ![1024, 64, 256]⟩

abbrev nBuf : Space → Nat
  | .hbm => 13
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S1024x8192, .f32⟩
  | .hbm, ⟨2, _⟩ => ⟨S1024x8192, .f32⟩
  | .hbm, ⟨3, _⟩ => ⟨S64x256x256, .bf16⟩
  | .hbm, ⟨4, _⟩ => ⟨S64x256x256, .bf16⟩
  | .hbm, ⟨5, _⟩ => ⟨S1024x64x128, .f32⟩
  | .hbm, ⟨6, _⟩ => ⟨S1024x64x128, .f32⟩
  | .hbm, ⟨7, _⟩ => ⟨S1024x64x256, .f32⟩
  | .hbm, ⟨8, _⟩ => ⟨S64x256x256, .f32⟩
  | .hbm, ⟨9, _⟩ => ⟨S64x1024x256, .f32⟩
  | .hbm, ⟨10, _⟩ => ⟨S64x256x256, .f32⟩
  | .hbm, ⟨11, _⟩ => ⟨S64x1024x256, .f32⟩
  | .hbm, ⟨12, _⟩ => ⟨S64x1024x256, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Step.lean ====
abbrev S128x8192 : Shape := ⟨2, ![128, 8192]⟩
abbrev S8x8192 : Shape := ⟨2, ![8, 8192]⟩
abbrev S128x2048 : Shape := ⟨2, ![128, 2048]⟩
abbrev S8x2048 : Shape := ⟨2, ![8, 2048]⟩
abbrev S1x2048 : Shape := ⟨2, ![1, 2048]⟩

abbrev nBuf : Space → Nat
  | .hbm => 8
  | .vmem => 16
  | .smem => 0
  | _ => 0

abbrev bufTy : (tb : Table) → Fin (tcTables nBuf tb) → BufTy
  | .hbm, ⟨0, _⟩ => ⟨S128x8192, .f32⟩
  | .hbm, ⟨1, _⟩ => ⟨S128x8192, .f32⟩
  | .hbm, ⟨2, _⟩ => ⟨S128x8192, .f32⟩
  | .hbm, ⟨3, _⟩ => ⟨S128x8192, .f32⟩
  | .hbm, ⟨4, _⟩ => ⟨S8x8192, .f32⟩
  | .hbm, ⟨5, _⟩ => ⟨S8x8192, .f32⟩
  | .hbm, ⟨6, _⟩ => ⟨S128x8192, .f32⟩
  | .hbm, ⟨7, _⟩ => ⟨S128x8192, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S8x2048, .f32⟩
  | .local _ .vmem, ⟨9, _⟩ => ⟨S8x2048, .f32⟩
  | .local _ .vmem, ⟨10, _⟩ => ⟨S8x2048, .f32⟩
  | .local _ .vmem, ⟨11, _⟩ => ⟨S8x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepRefIdeal.lean ====
abbrev S128x8192 : Shape := ⟨2, ![128, 8192]⟩
abbrev S8x8192 : Shape := ⟨2, ![8, 8192]⟩
abbrev S1x8192 : Shape := ⟨2, ![1, 8192]⟩
abbrev S8192 : Shape := ⟨1, ![8192]⟩

abbrev nBuf : Space → Nat
  | .hbm => 26
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S128x8192, .f32⟩
  | .hbm, ⟨2, _⟩ => ⟨S128x8192, .f32⟩
  | .hbm, ⟨3, _⟩ => ⟨S128x8192, .f32⟩
  | .hbm, ⟨4, _⟩ => ⟨S8x8192, .f32⟩
  | .hbm, ⟨5, _⟩ => ⟨S8x8192, .f32⟩
  | .hbm, ⟨6, _⟩ => ⟨S1x8192, .f32⟩
  | .hbm, ⟨7, _⟩ => ⟨S8192, .f32⟩
  | .hbm, ⟨8, _⟩ => ⟨S1x8192, .f32⟩
  | .hbm, ⟨9, _⟩ => ⟨S8192, .f32⟩
  | .hbm, ⟨10, _⟩ => ⟨S1x8192, .f32⟩
  | .hbm, ⟨11, _⟩ => ⟨S128x8192, .f32⟩
  | .hbm, ⟨12, _⟩ => ⟨S128x8192, .f32⟩
  | .hbm, ⟨13, _⟩ => ⟨S1x8192, .f32⟩
  | .hbm, ⟨14, _⟩ => ⟨S128x8192, .f32⟩
  | .hbm, ⟨15, _⟩ => ⟨S128x8192, .f32⟩
  | .hbm, ⟨16, _⟩ => ⟨S128x8192, .f32⟩
  | .hbm, ⟨17, _⟩ => ⟨S128x8192, .f32⟩
  | .hbm, ⟨18, _⟩ => ⟨S1x8192, .f32⟩
  | .hbm, ⟨19, _⟩ => ⟨S128x8192, .f32⟩
  | .hbm, ⟨20, _⟩ => ⟨S128x8192, .f32⟩
  | .hbm, ⟨21, _⟩ => ⟨S1x8192, .f32⟩
  | .hbm, ⟨22, _⟩ => ⟨S128x8192, .f32⟩
  | .hbm, ⟨23, _⟩ => ⟨S128x8192, .f32⟩
  | .hbm, ⟨24, _⟩ => ⟨S128x8192, .f32⟩
  | .hbm, ⟨25, _⟩ => ⟨S128x8192, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== InProjS.lean ====
abbrev S1024x4096 : Shape := ⟨2, ![1024, 4096]⟩
abbrev S4096x8192 : Shape := ⟨2, ![4096, 8192]⟩
abbrev S128 : Shape := ⟨1, ![128]⟩
abbrev S1x128 : Shape := ⟨2, ![1, 128]⟩
abbrev S1024x8192 : Shape := ⟨2, ![1024, 8192]⟩
abbrev S4096x512 : Shape := ⟨2, ![4096, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x8192, .bf16⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S1024x8192, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1x128, .f32⟩
  | .local _ .vmem, ⟨4, _⟩ => ⟨S1x128, .f32⟩
  | .local _ .vmem, ⟨5, _⟩ => ⟨S1024x512, .f32⟩
  | .local _ .vmem, ⟨6, _⟩ => ⟨S1024x512, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c512_i32 : BitVec 32 := 512#32
  let v3 : BitVec 32 := Scalar.muli arg1 c512_i32
  let c4096_i32 : BitVec 32 := 4096#32
  let v4 : BitVec 1 := Scalar.cmpi .slt v3 c4096_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c512_i32 : BitVec 32 := 512#32
  let v3 : BitVec 32 := Scalar.muli arg1 c512_i32
  let c4096_i32_3 : BitVec 32 := 4096#32
  let v7 : BitVec 1 := Scalar.cmpi .sge v3 c4096_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjSRefIdeal.lean ====
abbrev S1024x4096 : Shape := ⟨2, ![1024, 4096]⟩
abbrev S4096x8192 : Shape := ⟨2, ![4096, 8192]⟩
abbrev S128 : Shape := ⟨1, ![128]⟩
abbrev S1024x8192 : Shape := ⟨2, ![1024, 8192]⟩
abbrev S1024x2048 : Shape := ⟨2, ![1024, 2048]⟩
abbrev S1024x16x128 : Shape := ⟨3, ![1024, 16, 128]⟩
abbrev S_ : Shape := ⟨0, ![]⟩
abbrev S1024x16 : Shape := ⟨2, ![1024, 16]⟩
abbrev S1024x16x1 : Shape := ⟨3, ![1024, 16, 1]⟩
abbrev S1x1x128 : Shape := ⟨3, ![1, 1, 128]⟩

abbrev nBuf : Space → Nat
  | .hbm => 48
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x8192, .bf16⟩
  | .hbm, ⟨2, _⟩ => ⟨S128, .f32⟩
  | .hbm, ⟨3, _⟩ => ⟨S128, .f32⟩
  | .hbm, ⟨4, _⟩ => ⟨S1024x4096, .f32⟩
  | .hbm, ⟨5, _⟩ => ⟨S4096x8192, .f32⟩
  | .hbm, ⟨6, _⟩ => ⟨S1024x8192, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1024x16x128, .f32⟩
  | .hbm, ⟨12, _⟩ => ⟨S1024x16x128, .f32⟩
  | .hbm, ⟨13, _⟩ => ⟨S_, .f32⟩
  | .hbm, ⟨14, _⟩ => ⟨S1024x16, .f32⟩
  | .hbm, ⟨15, _⟩ => ⟨S1024x16x1, .f32⟩
  | .hbm, ⟨16, _⟩ => ⟨S_, .f32⟩
  | .hbm, ⟨17, _⟩ => ⟨S1024x16x1, .f32⟩
  | .hbm, ⟨18, _⟩ => ⟨S1024x16x1, .f32⟩
  | .hbm, ⟨19, _⟩ => ⟨S_, .f32⟩
  | .hbm, ⟨20, _⟩ => ⟨S1024x16x1, .f32⟩
  | .hbm, ⟨21, _⟩ => ⟨S1024x16x1, .f32⟩
  | .hbm, ⟨22, _⟩ => ⟨S1024x16x1, .f32⟩
  | .hbm, ⟨23, _⟩ => ⟨S1024x16x128, .f32⟩
  | .hbm, ⟨24, _⟩ => ⟨S1024x16x128, .f32⟩
  | .hbm, ⟨25, _⟩ => ⟨S1x1x128, .f32⟩
  | .hbm, ⟨26, _⟩ => ⟨S1024x16x128, .f32⟩
  | .hbm, ⟨27, _⟩ => ⟨S1024x16x128, .f32⟩
  | .hbm, ⟨28, _⟩ => ⟨S1024x16x128, .f32⟩
  | .hbm, ⟨29, _⟩ => ⟨S1024x16x128, .f32⟩
  | .hbm, ⟨30, _⟩ => ⟨S_, .f32⟩
  | .hbm, ⟨31, _⟩ => ⟨S1024x16, .f32⟩
  | .hbm, ⟨32, _⟩ => ⟨S1024x16x1, .f32⟩
  | .hbm, ⟨33, _⟩ => ⟨S_, .f32⟩
  | .hbm, ⟨34, _⟩ => ⟨S1024x16x1, .f32⟩
  | .hbm, ⟨35, _⟩ => ⟨S1024x16x1, .f32⟩
  | .hbm, ⟨36, _⟩ => ⟨S_, .f32⟩
  | .hbm, ⟨37, _⟩ => ⟨S1024x16x1, .f32⟩
  | .hbm, ⟨38, _⟩ => ⟨S1024x16x1, .f32⟩
  | .hbm, ⟨39, _⟩ => ⟨S1024x16x1, .f32⟩
  | .hbm, ⟨40, _⟩ => ⟨S1024x16x128, .f32⟩
  | .hbm, ⟨41, _⟩ => ⟨S1024x16x128, .f32⟩
  | .hbm, ⟨42, _⟩ => ⟨S1x1x128, .f32⟩
  | .hbm, ⟨43, _⟩ => ⟨S1024x16x128, .f32⟩
  | .hbm, ⟨44, _⟩ => ⟨S1024x16x128, .f32⟩
  | .hbm, ⟨45, _⟩ => ⟨S1024x2048, .f32⟩
  | .hbm, ⟨46, _⟩ => ⟨S1024x2048, .f32⟩
  | .hbm, ⟨47, _⟩ => ⟨S1024x8192, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== DownS.lean ====
abbrev S1024x11008 : Shape := ⟨2, ![1024, 11008]⟩
abbrev S11008x4096 : Shape := ⟨2, ![11008, 4096]⟩
abbrev S1024x4096 : Shape := ⟨2, ![1024, 4096]⟩
abbrev S1024x24576 : Shape := ⟨2, ![1024, 24576]⟩
abbrev S512x11008 : Shape := ⟨2, ![512, 11008]⟩
abbrev S11008x256 : Shape := ⟨2, ![11008, 256]⟩
abbrev S512x256 : Shape := ⟨2, ![512, 256]⟩

abbrev nBuf : Space → Nat
  | .hbm => 5
  | .vmem => 10
  | .smem => 0
  | _ => 0

abbrev bufTy : (tb : Table) → Fin (tcTables nBuf tb) → BufTy
  | .hbm, ⟨0, _⟩ => ⟨S1024x11008, .bf16⟩
  | .hbm, ⟨1, _⟩ => ⟨S11008x4096, .bf16⟩
  | .hbm, ⟨2, _⟩ => ⟨S1024x4096, .f32⟩
  | .hbm, ⟨3, _⟩ => ⟨S1024x24576, .f32⟩
  | .hbm, ⟨4, _⟩ => ⟨S1024x4096, .f32⟩
  | .local _ .vmem, ⟨0, _⟩ => ⟨S512x11008, .bf16⟩
  | .local _ .vmem, ⟨1, _⟩ => ⟨S512x11008, .bf16⟩
  | .local _ .vmem, ⟨2, _⟩ => ⟨S11008x256, .bf16⟩
  | .local _ .vmem, ⟨3, _⟩ => ⟨S11008x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | _, _ => ⟨S1024x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownSRefIdeal.lean ====
abbrev S1024x11008 : Shape := ⟨2, ![1024, 11008]⟩
abbrev S11008x4096 : Shape := ⟨2, ![11008, 4096]⟩
abbrev S1024x4096 : Shape := ⟨2, ![1024, 4096]⟩
abbrev S1024x24576 : Shape := ⟨2, ![1024, 24576]⟩

abbrev nBuf : Space → Nat
  | .hbm => 15
  | .vmem => 0
  | .smem => 0
  | _ => 0

abbrev bufTy : (tb : Table) → Fin (tcTables nBuf tb) → BufTy
  | .hbm, ⟨0, _⟩ => ⟨S1024x11008, .bf16⟩
  | .hbm, ⟨1, _⟩ => ⟨S11008x4096, .bf16⟩
  | .hbm, ⟨2, _⟩ => ⟨S1024x4096, .f32⟩
  | .hbm, ⟨3, _⟩ => ⟨S1024x24576, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .hbm, ⟨8, _⟩ => ⟨S1024x4096, .f32⟩
  | .hbm, ⟨9, _⟩ => ⟨S1024x4096, .f32⟩
  | .hbm, ⟨10, _⟩ => ⟨S1024x11008, .f32⟩
  | .hbm, ⟨11, _⟩ => ⟨S11008x4096, .f32⟩
  | .hbm, ⟨12, _⟩ => ⟨S1024x4096, .f32⟩
  | .hbm, ⟨13, _⟩ => ⟨S1024x4096, .f32⟩
  | .hbm, ⟨14, _⟩ => ⟨S1024x4096, .f32⟩
  | _, _ => ⟨S1024x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Coef.lean ====
abbrev S128x64 : Shape := ⟨2, ![128, 64]⟩
abbrev S128 : Shape := ⟨1, ![128]⟩
abbrev S128x64x16 : Shape := ⟨3, ![128, 64, 16]⟩
abbrev S128x16x64 : Shape := ⟨3, ![128, 16, 64]⟩
abbrev S128x1 : Shape := ⟨2, ![128, 1]⟩
abbrev S64x1x128 : Shape := ⟨3, ![64, 1, 128]⟩
abbrev S64x128x1 : Shape := ⟨3, ![64, 128, 1]⟩
abbrev S64x2x16x64 : Shape := ⟨4, ![64, 2, 16, 64]⟩
abbrev S64x16x2x64 : Shape := ⟨4, ![64, 16, 2, 64]⟩
abbrev S64x1x16x128 : Shape := ⟨4, ![64, 1, 16, 128]⟩
abbrev S64x16x16x128 : Shape := ⟨4, ![64, 16, 16, 128]⟩
abbrev S64x256x128 : Shape := ⟨3, ![64, 256, 128]⟩
abbrev S64x128x1x16 : Shape := ⟨4, ![64, 128, 1, 16]⟩
abbrev S64x128x16x16 : Shape := ⟨4, ![64, 128, 16, 16]⟩
abbrev S64x128x256 : Shape := ⟨3, ![64, 128, 256]⟩
abbrev S64x256x256 : Shape := ⟨3, ![64, 256, 256]⟩
abbrev S64x8x256 : Shape := ⟨3, ![64, 8, 256]⟩
abbrev S1x1x128 : Shape := ⟨3, ![1, 1, 128]⟩
abbrev S1x128x1 : Shape := ⟨3, ![1, 128, 1]⟩
abbrev S1x256x128 : Shape := ⟨3, ![1, 256, 128]⟩
abbrev S1x128x256 : Shape := ⟨3, ![1, 128, 256]⟩
abbrev S1x256x256 : Shape := ⟨3, ![1, 256, 256]⟩
abbrev S1x8x256 : Shape := ⟨3, ![1, 8, 256]⟩
abbrev S1x128 : Shape := ⟨2, ![1, 128]⟩
abbrev S256x128 : Shape := ⟨2, ![256, 128]⟩
abbrev S256x256 : Shape := ⟨2, ![256, 256]⟩
abbrev S8x128 : Shape := ⟨2, ![8, 128]⟩
abbrev S8x256 : Shape := ⟨2, ![8, 256]⟩
abbrev S128x256 : Shape := ⟨2, ![128, 256]⟩
abbrev S16x128 : Shape := ⟨2, ![16, 128]⟩
abbrev S16x256 : Shape := ⟨2, ![16, 256]⟩

abbrev nBuf : Space → Nat
  | .hbm => 39
  | .vmem => 28
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128, .f32⟩
  | .hbm, ⟨3, _⟩ => ⟨S128x64x16, .f32⟩
  | .hbm, ⟨4, _⟩ => ⟨S128x64x16, .f32⟩
  | .hbm, ⟨5, _⟩ => ⟨S128x16x64, .f32⟩
  | .hbm, ⟨6, _⟩ => ⟨S128x16x64, .f32⟩
  | .hbm, ⟨7, _⟩ => ⟨S128x1, .f32⟩
  | .hbm, ⟨8, _⟩ => ⟨S128x64, .f32⟩
  | .hbm, ⟨9, _⟩ => ⟨S64x1x128, .f32⟩
  | .hbm, ⟨10, _⟩ => ⟨S64x1x128, .f32⟩
  | .hbm, ⟨11, _⟩ => ⟨S64x1x128, .f32⟩
  | .hbm, ⟨12, _⟩ => ⟨S64x128x1, .f32⟩
  | .hbm, ⟨13, _⟩ => ⟨S64x128x1, .f32⟩
  | .hbm, ⟨14, _⟩ => ⟨S64x128x1, .f32⟩
  | .hbm, ⟨15, _⟩ => ⟨S128x16x64, .f32⟩
  | .hbm, ⟨16, _⟩ => ⟨S64x2x16x64, .f32⟩
  | .hbm, ⟨17, _⟩ => ⟨S64x16x2x64, .f32⟩
  | .hbm, ⟨18, _⟩ => ⟨S64x1x16x128, .f32⟩
  | .hbm, ⟨19, _⟩ => ⟨S64x16x16x128, .f32⟩
  | .hbm, ⟨20, _⟩ => ⟨S64x256x128, .f32⟩
  | .hbm, ⟨21, _⟩ => ⟨S128x16x64, .f32⟩
  | .hbm, ⟨22, _⟩ => ⟨S64x2x16x64, .f32⟩
  | .hbm, ⟨23, _⟩ => ⟨S64x16x2x64, .f32⟩
  | .hbm, ⟨24, _⟩ => ⟨S64x1x16x128, .f32⟩
  | .hbm, ⟨25, _⟩ => ⟨S64x16x16x128, .f32⟩
  | .hbm, ⟨26, _⟩ => ⟨S64x256x128, .f32⟩
  | .hbm, ⟨27, _⟩ => ⟨S128x64x16, .f32⟩
  | .hbm, ⟨28, _⟩ => ⟨S64x128x1x16, .f32⟩
  | .hbm, ⟨29, _⟩ => ⟨S64x128x16x16, .f32⟩
  | .hbm, ⟨30, _⟩ => ⟨S64x128x256, .f32⟩
  | .hbm, ⟨31, _⟩ => ⟨S128x64x16, .f32⟩
  | .hbm, ⟨32, _⟩ => ⟨S64x128x1x16, .f32⟩
  | .hbm, ⟨33, _⟩ => ⟨S64x128x16x16, .f32⟩
  | .hbm, ⟨34, _⟩ => ⟨S64x128x256, .f32⟩
  | .hbm, ⟨35, _⟩ => ⟨S64x256x256, .bf16⟩
  | .hbm, ⟨36, _⟩ => ⟨S64x256x256, .bf16⟩
  | .hbm, ⟨37, _⟩ => ⟨S64x256x256, .bf16⟩
  | .hbm, ⟨38, _⟩ => ⟨S64x8x256, .f32⟩
  | .local _ .vmem, ⟨0, _⟩ => ⟨S1x1x128, .f32⟩
  | .local _ .vmem, ⟨1, _⟩ => ⟨S1x1x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S1x128x1, .f32⟩
  | .local _ .vmem, ⟨11, _⟩ => ⟨S1x128x1, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x128x256, .f32⟩
  | .local _ .vmem, ⟨17, _⟩ => ⟨S1x128x256, .f32⟩
  | .local _ .vmem, ⟨18, _⟩ => ⟨S1x128x256, .f32⟩
  | .local _ .vmem, ⟨19, _⟩ => ⟨S1x128x256, .f32⟩
  | .local _ .vmem, ⟨20, _⟩ => ⟨S1x256x256, .bf16⟩
  | .local _ .vmem, ⟨21, _⟩ => ⟨S1x256x256, .bf16⟩
  | .local _ .vmem, ⟨22, _⟩ => ⟨S1x256x256, .bf16⟩
  | .local _ .vmem, ⟨23, _⟩ => ⟨S1x256x256, .bf16⟩
  | .local _ .vmem, ⟨24, _⟩ => ⟨S1x256x256, .bf16⟩
  | .local _ .vmem, ⟨25, _⟩ => ⟨S1x256x256, .bf16⟩
  | .local _ .vmem, ⟨26, _⟩ => ⟨S1x8x256, .f32⟩
  | .local _ .vmem, ⟨27, _⟩ => ⟨S1x8x256, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev main_v28_2 : Ref sig .tc := ⟨.hbm, 37, rfl⟩
abbrev main_v28_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== CoefRefIdeal.lean ====
abbrev S128x64 : Shape := ⟨2, ![128, 64]⟩
abbrev S128 : Shape := ⟨1, ![128]⟩
abbrev S128x64x16 : Shape := ⟨3, ![128, 64, 16]⟩
abbrev S128x16x64 : Shape := ⟨3, ![128, 16, 64]⟩
abbrev S128x1 : Shape := ⟨2, ![128, 1]⟩
abbrev S_ : Shape := ⟨0, ![]⟩
abbrev S128x64x1 : Shape := ⟨3, ![128, 64, 1]⟩
abbrev S8 : Shape := ⟨1, ![8]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S8x1x1 : Shape := ⟨3, ![8, 1, 1]⟩
abbrev S1x128x64 : Shape := ⟨3, ![1, 128, 64]⟩
abbrev S8x128x64 : Shape := ⟨3, ![8, 128, 64]⟩
abbrev S8x128x64x1 : Shape := ⟨4, ![8, 128, 64, 1]⟩
abbrev S1x128x64x16 : Shape := ⟨4, ![1, 128, 64, 16]⟩
abbrev S8x128x64x16 : Shape := ⟨4, ![8, 128, 64, 16]⟩
abbrev S1x8x128x64x16 : Shape := ⟨5, ![1, 8, 128, 64, 16]⟩
abbrev S2x8x128x64x16 : Shape := ⟨5, ![2, 8, 128, 64, 16]⟩
abbrev S2x8x64x2x64x16 : Shape := ⟨6, ![2, 8, 64, 2, 64, 16]⟩
abbrev S64x2x8x16x2x64 : Shape := ⟨6, ![64, 2, 8, 16, 2, 64]⟩
abbrev S1x2x1x1x1x2x1 : Shape := ⟨7, ![1, 2, 1, 1, 1, 2, 1]⟩
abbrev S64x2x8x16x2x1x64 : Shape := ⟨7, ![64, 2, 8, 16, 2, 1, 64]⟩
abbrev S64x2x8x16x2x2x64 : Shape := ⟨7, ![64, 2, 8, 16, 2, 2, 64]⟩
abbrev S1x8 : Shape := ⟨2, ![1, 8]⟩
abbrev S8x1 : Shape := ⟨2, ![8, 1]⟩
abbrev S8x8 : Shape := ⟨2, ![8, 8]⟩
abbrev S8x8x1x1 : Shape := ⟨4, ![8, 8, 1, 1]⟩
abbrev S1x1x128x64 : Shape := ⟨4, ![1, 1, 128, 64]⟩
abbrev S8x8x128x64 : Shape := ⟨4, ![8, 8, 128, 64]⟩
abbrev S1x1x128x16x64 : Shape := ⟨5, ![1, 1, 128, 16, 64]⟩
abbrev S8x8x128x1x64 : Shape := ⟨5, ![8, 8, 128, 1, 64]⟩
abbrev S8x8x128x16x64 : Shape := ⟨5, ![8, 8, 128, 16, 64]⟩
abbrev S128x8x8x16x16 : Shape := ⟨5, ![128, 8, 8, 16, 16]⟩
abbrev S128x8x16x8x16 : Shape := ⟨5, ![128, 8, 16, 8, 16]⟩
abbrev S1x8x1x8x1 : Shape := ⟨5, ![1, 8, 1, 8, 1]⟩
abbrev S64x2x8x16x8x16 : Shape := ⟨6, ![64, 2, 8, 16, 8, 16]⟩
abbrev S1x2x1x1x2x1x1 : Shape := ⟨7, ![1, 2, 1, 1, 2, 1, 1]⟩
abbrev S64x2x8x16x1x8x16 : Shape := ⟨7, ![64, 2, 8, 16, 1, 8, 16]⟩
abbrev S64x2x8x16x2x8x16 : Shape := ⟨7, ![64, 2, 8, 16, 2, 8, 16]⟩
abbrev S8x128x1x64 : Shape := ⟨4, ![8, 128, 1, 64]⟩
abbrev S1x128x16x64 : Shape := ⟨4, ![1, 128, 16, 64]⟩
abbrev S8x128x16x64 : Shape := ⟨4, ![8, 128, 16, 64]⟩
abbrev S1x8x128x16x64 : Shape := ⟨5, ![1, 8, 128, 16, 64]⟩
abbrev S2x8x128x16x64 : Shape := ⟨5, ![2, 8, 128, 16, 64]⟩
abbrev S2x8x64x2x16x64 : Shape := ⟨6, ![2, 8, 64, 2, 16, 64]⟩
abbrev S64x2x2x64x8x16 : Shape := ⟨6, ![64, 2, 2, 64, 8, 16]⟩
abbrev S1x1x2x1x2x1x1 : Shape := ⟨7, ![1, 1, 2, 1, 2, 1, 1]⟩
abbrev S64x2x2x64x1x8x16 : Shape := ⟨7, ![64, 2, 2, 64, 1, 8, 16]⟩
abbrev S64x2x2x64x2x8x16 : Shape := ⟨7, ![64, 2, 2, 64, 2, 8, 16]⟩
abbrev S64x128 : Shape := ⟨2, ![64, 128]⟩
abbrev S64x256 : Shape := ⟨2, ![64, 256]⟩
abbrev S64x256x256 : Shape := ⟨3, ![64, 256, 256]⟩
abbrev S64x1x256 : Shape := ⟨3, ![64, 1, 256]⟩
abbrev S64x8x256 : Shape := ⟨3, ![64, 8, 256]⟩

abbrev nBuf : Space → Nat
  | .hbm => 265
  | .vmem => 0
  | .smem => 0
  | _ => 0

abbrev hbmTy0_0 (i : Nat) : BufTy := match i % 128 with
  | 0 => ⟨S128x64, .f32⟩
  | 1 => ⟨S128x64, .f32⟩
  | 2 => ⟨S128, .f32⟩
  | 3 => ⟨S128x64x16, .f32⟩
  | 4 => ⟨S128x64x16, .f32⟩
  | 5 => ⟨S128x16x64, .f32⟩
  | 6 => ⟨S128x16x64, .f32⟩
  | 7 => ⟨S128, .f32⟩
  | 8 => ⟨S128x1, .f32⟩
  | 9 => ⟨S128x64, .f32⟩
  | 10 => ⟨S128x64, .f32⟩
  | 11 => ⟨S128x64, .f32⟩
  | 12 => ⟨S128x64, .f32⟩
  | 13 => ⟨S128x64, .f32⟩
  | 14 => ⟨S128x64, .f32⟩
  | 15 => ⟨S128x64, .f32⟩
  | 16 => ⟨S128x64, .f32⟩
  | 17 => ⟨S128x64, .f32⟩
  | 18 => ⟨S128x64, .f32⟩
  | 19 => ⟨S128x64, .f32⟩
  | 20 => ⟨S128x64, .f32⟩
  | 21 => ⟨S128x64, .f32⟩
  | 22 => ⟨S128x64, .f32⟩
  | 23 => ⟨S_, .f32⟩
  | 24 => ⟨S128x64, .f32⟩
  | 25 => ⟨S128x64, .f32⟩
  | 26 => ⟨S128x64, .f32⟩
  | 27 => ⟨S128x64, .f32⟩
  | 28 => ⟨S128x64, .f32⟩
  | 29 => ⟨S128x64, .f32⟩
  | 30 => ⟨S128x64, .f32⟩
  | 31 => ⟨S_, .f32⟩
  | 32 => ⟨S128x64, .f32⟩
  | 33 => ⟨S128x64, .f32⟩
  | 34 => ⟨S128x64, .f32⟩
  | 35 => ⟨S128x64, .f32⟩
  | 36 => ⟨S128x64, .f32⟩
  | 37 => ⟨S128x64x1, .f32⟩
  | 38 => ⟨S128x64x16, .f32⟩
  | 39 => ⟨S128x64x16, .f32⟩
  | 40 => ⟨S128x64x1, .f32⟩
  | 41 => ⟨S128x64x16, .f32⟩
  | 42 => ⟨S128x64x16, .f32⟩
  | 43 => ⟨S128x64x16, .f32⟩
  | 44 => ⟨S128x64x1, .f32⟩
  | 45 => ⟨S128x64x16, .f32⟩
  | 46 => ⟨S128x64x16, .f32⟩
  | 47 => ⟨S128x64x1, .f32⟩
  | 48 => ⟨S128x64x16, .f32⟩
  | 49 => ⟨S128x64x16, .f32⟩
  | 50 => ⟨S128x64x16, .f32⟩
  | 51 => ⟨S8, .i32⟩
  | 52 => ⟨S2, .i32⟩
  | 53 => ⟨S2x1, .i32⟩
  | 54 => ⟨S2, .i32⟩
  | 55 => ⟨S1x2, .i32⟩
  | 56 => ⟨S2x2, .i32⟩
  | 57 => ⟨S2x2, .i32⟩
  | 58 => ⟨S2x2, .i1⟩
  | 59 => ⟨S_, .i32⟩
  | 60 => ⟨S8, .i32⟩
  | 61 => ⟨S8, .i32⟩
  | 62 => ⟨S8, .f32⟩
  | 63 => ⟨S8x1x1, .f32⟩
  | 64 => ⟨S128x64, .f32⟩
  | 65 => ⟨S128x64, .f32⟩
  | 66 => ⟨S1x128x64, .f32⟩
  | 67 => ⟨S8x128x64, .f32⟩
  | 68 => ⟨S8x128x64, .f32⟩
  | 69 => ⟨S8x128x64, .f32⟩
  | 70 => ⟨S8x128x64, .f32⟩
  | 71 => ⟨S128x64, .f32⟩
  | 72 => ⟨S128x64, .f32⟩
  | 73 => ⟨S1x128x64, .f32⟩
  | 74 => ⟨S8x128x64, .f32⟩
  | 75 => ⟨S8x128x64, .f32⟩
  | 76 => ⟨S8x128x64, .f32⟩
  | 77 => ⟨S8x128x64, .f32⟩
  | 78 => ⟨S8x128x64, .f32⟩
  | 79 => ⟨S8x128x64, .f32⟩
  | 80 => ⟨S8x128x64, .f32⟩
  | 81 => ⟨S8x128x64x1, .f32⟩
  | 82 => ⟨S8x128x64x1, .f32⟩
  | 83 => ⟨S1x128x64x16, .f32⟩
  | 84 => ⟨S8x128x64x16, .f32⟩
  | 85 => ⟨S8x128x64x16, .f32⟩
  | 86 => ⟨S8x128x64x16, .f32⟩
  | 87 => ⟨S1x128x64x16, .f32⟩
  | 88 => ⟨S8x128x64x16, .f32⟩
  | 89 => ⟨S8x128x64x16, .f32⟩
  | 90 => ⟨S8x128x64x16, .f32⟩
  | 91 => ⟨S8x128x64x16, .f32⟩
  | 92 => ⟨S1x128x64x16, .f32⟩
  | 93 => ⟨S8x128x64x16, .f32⟩
  | 94 => ⟨S8x128x64x16, .f32⟩
  | 95 => ⟨S8x128x64x16, .f32⟩
  | 96 => ⟨S1x128x64x16, .f32⟩
  | 97 => ⟨S8x128x64x16, .f32⟩
  | 98 => ⟨S8x128x64x16, .f32⟩
  | 99 => ⟨S8x128x64x16, .f32⟩
  | 100 => ⟨S8x128x64x16, .f32⟩
  | 101 => ⟨S1x8x128x64x16, .f32⟩
  | 102 => ⟨S1x8x128x64x16, .f32⟩
  | 103 => ⟨S2x8x128x64x16, .f32⟩
  | 104 => ⟨S2x8x64x2x64x16, .f32⟩
  | 105 => ⟨S64x2x8x16x2x64, .f32⟩
  | 106 => ⟨S1x2x1x1x1x2x1, .i1⟩
  | 107 => ⟨S64x2x8x16x2x1x64, .f32⟩
  | 108 => ⟨S_, .f32⟩
  | 109 => ⟨S_, .f32⟩
  | 110 => ⟨S64x2x8x16x2x2x64, .i1⟩
  | 111 => ⟨S64x2x8x16x2x2x64, .f32⟩
  | 112 => ⟨S64x2x8x16x2x2x64, .f32⟩
  | 113 => ⟨S64x2x8x16x2x2x64, .f32⟩
  | 114 => ⟨S1x8, .i32⟩
  | 115 => ⟨S8x1, .i32⟩
  | 116 => ⟨S8x8, .i32⟩
  | 117 => ⟨S8x8, .i32⟩
  | 118 => ⟨S8x8, .i32⟩
  | 119 => ⟨S8x8, .f32⟩
  | 120 => ⟨S8x8x1x1, .f32⟩
  | 121 => ⟨S128x64, .f32⟩
  | 122 => ⟨S128x64, .f32⟩
  | 123 => ⟨S1x1x128x64, .f32⟩
  | 124 => ⟨S8x8x128x64, .f32⟩
  | 125 => ⟨S8x8x128x64, .f32⟩
  | 126 => ⟨S8x8x128x64, .f32⟩
  | 127 => ⟨S8x8x128x64, .f32⟩
  | _ => ⟨S128x64, .f32⟩

abbrev hbmTy0_1 (i : Nat) : BufTy := match i % 128 with
  | 0 => ⟨S128x64, .f32⟩
  | 1 => ⟨S128x64, .f32⟩
  | 2 => ⟨S1x1x128x64, .f32⟩
  | 3 => ⟨S8x8x128x64, .f32⟩
  | 4 => ⟨S8x8x128x64, .f32⟩
  | 5 => ⟨S8x8x128x64, .f32⟩
  | 6 => ⟨S8x8x128x64, .f32⟩
  | 7 => ⟨S8x8x128x64, .f32⟩
  | 8 => ⟨S8x8x128x64, .f32⟩
  | 9 => ⟨S8x8x128x64, .f32⟩
  | 10 => ⟨S1x1x128x16x64, .f32⟩
  | 11 => ⟨S1x1x128x16x64, .f32⟩
  | 12 => ⟨S8x8x128x1x64, .f32⟩
  | 13 => ⟨S8x8x128x16x64, .f32⟩
  | 14 => ⟨S8x8x128x16x64, .f32⟩
  | 15 => ⟨S8x8x128x16x64, .f32⟩
  | 16 => ⟨S8x8x128x1x64, .f32⟩
  | 17 => ⟨S8x8x128x16x64, .f32⟩
  | 18 => ⟨S8x8x128x16x64, .f32⟩
  | 19 => ⟨S8x8x128x16x64, .f32⟩
  | 20 => ⟨S8x8x128x16x64, .f32⟩
  | 21 => ⟨S8x8x128x1x64, .f32⟩
  | 22 => ⟨S8x8x128x16x64, .f32⟩
  | 23 => ⟨S8x8x128x16x64, .f32⟩
  | 24 => ⟨S8x8x128x16x64, .f32⟩
  | 25 => ⟨S8x8x128x1x64, .f32⟩
  | 26 => ⟨S8x8x128x16x64, .f32⟩
  | 27 => ⟨S8x8x128x16x64, .f32⟩
  | 28 => ⟨S8x8x128x16x64, .f32⟩
  | 29 => ⟨S8x8x128x16x64, .f32⟩
  | 30 => ⟨S128x8x8x16x16, .f32⟩
  | 31 => ⟨S128x8x16x8x16, .f32⟩
  | 32 => ⟨S128x8x8x16x16, .f32⟩
  | 33 => ⟨S128x8x16x8x16, .f32⟩
  | 34 => ⟨S128x8x16x8x16, .f32⟩
  | 35 => ⟨S1x8, .i32⟩
  | 36 => ⟨S8x1, .i32⟩
  | 37 => ⟨S8x8, .i32⟩
  | 38 => ⟨S8x8, .i32⟩
  | 39 => ⟨S8x8, .i1⟩
  | 40 => ⟨S1x8x1x8x1, .i1⟩
  | 41 => ⟨S_, .f32⟩
  | 42 => ⟨S_, .f32⟩
  | 43 => ⟨S128x8x16x8x16, .i1⟩
  | 44 => ⟨S128x8x16x8x16, .f32⟩
  | 45 => ⟨S128x8x16x8x16, .f32⟩
  | 46 => ⟨S64x2x8x16x8x16, .f32⟩
  | 47 => ⟨S1x2x1x1x2x1x1, .i1⟩
  | 48 => ⟨S64x2x8x16x1x8x16, .f32⟩
  | 49 => ⟨S_, .f32⟩
  | 50 => ⟨S_, .f32⟩
  | 51 => ⟨S64x2x8x16x2x8x16, .i1⟩
  | 52 => ⟨S64x2x8x16x2x8x16, .f32⟩
  | 53 => ⟨S64x2x8x16x2x8x16, .f32⟩
  | 54 => ⟨S64x2x8x16x2x8x16, .f32⟩
  | 55 => ⟨S_, .i32⟩
  | 56 => ⟨S8, .i32⟩
  | 57 => ⟨S8, .i32⟩
  | 58 => ⟨S8, .f32⟩
  | 59 => ⟨S8x1x1, .f32⟩
  | 60 => ⟨S128x64, .f32⟩
  | 61 => ⟨S128x64, .f32⟩
  | 62 => ⟨S1x128x64, .f32⟩
  | 63 => ⟨S8x128x64, .f32⟩
  | 64 => ⟨S8x128x64, .f32⟩
  | 65 => ⟨S8x128x64, .f32⟩
  | 66 => ⟨S8x128x64, .f32⟩
  | 67 => ⟨S128x64, .f32⟩
  | 68 => ⟨S128x64, .f32⟩
  | 69 => ⟨S1x128x64, .f32⟩
  | 70 => ⟨S8x128x64, .f32⟩
  | 71 => ⟨S8x128x64, .f32⟩
  | 72 => ⟨S8x128x64, .f32⟩
  | 73 => ⟨S8x128x64, .f32⟩
  | 74 => ⟨S8x128x64, .f32⟩
  | 75 => ⟨S8x128x64, .f32⟩
  | 76 => ⟨S8x128x64, .f32⟩
  | 77 => ⟨S8x128x1x64, .f32⟩
  | 78 => ⟨S8x128x1x64, .f32⟩
  | 79 => ⟨S1x128x16x64, .f32⟩
  | 80 => ⟨S8x128x16x64, .f32⟩
  | 81 => ⟨S8x128x16x64, .f32⟩
  | 82 => ⟨S8x128x16x64, .f32⟩
  | 83 => ⟨S1x128x16x64, .f32⟩
  | 84 => ⟨S8x128x16x64, .f32⟩
  | 85 => ⟨S8x128x16x64, .f32⟩
  | 86 => ⟨S8x128x16x64, .f32⟩
  | 87 => ⟨S8x128x16x64, .f32⟩
  | 88 => ⟨S1x128x16x64, .f32⟩
  | 89 => ⟨S8x128x16x64, .f32⟩
  | 90 => ⟨S8x128x16x64, .f32⟩
  | 91 => ⟨S8x128x16x64, .f32⟩
  | 92 => ⟨S1x128x16x64, .f32⟩
  | 93 => ⟨S8x128x16x64, .f32⟩
  | 94 => ⟨S8x128x16x64, .f32⟩
  | 95 => ⟨S8x128x16x64, .f32⟩
  | 96 => ⟨S8x128x16x64, .f32⟩
  | 97 => ⟨S8x128x16x64, .f32⟩
  | 98 => ⟨S1x8x128x16x64, .f32⟩
  | 99 => ⟨S1x8x128x16x64, .f32⟩
  | 100 => ⟨S2x8x128x16x64, .f32⟩
  | 101 => ⟨S2x8x64x2x16x64, .f32⟩
  | 102 => ⟨S64x2x2x64x8x16, .f32⟩
  | 103 => ⟨S1x1x2x1x2x1x1, .i1⟩
  | 104 => ⟨S64x2x2x64x1x8x16, .f32⟩
  | 105 => ⟨S_, .f32⟩
  | 106 => ⟨S_, .f32⟩
  | 107 => ⟨S64x2x2x64x2x8x16, .i1⟩
  | 108 => ⟨S64x2x2x64x2x8x16, .f32⟩
  | 109 => ⟨S64x2x2x64x2x8x16, .f32⟩
  | 110 => ⟨S64x2x2x64x2x8x16, .f32⟩
  | 111 => ⟨S128x64, .f32⟩
  | 112 => ⟨S128x64, .f32⟩
  | 113 => ⟨S_, .f32⟩
  | 114 => ⟨S128x64, .f32⟩
  | 115 => ⟨S128x64, .f32⟩
  | 116 => ⟨S128x64, .f32⟩
  | 117 => ⟨S128x64, .f32⟩
  | 118 => ⟨S128x64, .f32⟩
  | 119 => ⟨S_, .f32⟩
  | 120 => ⟨S128x64, .f32⟩
  | 121 => ⟨S128x64, .f32⟩
  | 122 => ⟨S128x64, .f32⟩
  | 123 => ⟨S128x64, .f32⟩
  | 124 => ⟨S128x64, .f32⟩
  | 125 => ⟨S128x64, .f32⟩
  | 126 => ⟨S64x128, .f32⟩
  | 127 => ⟨S64x128, .f32⟩
  | _ => ⟨S128x64, .f32⟩

abbrev hbmTy0_2 (i : Nat) : BufTy := match i % 128 with
  | 0 => ⟨S64x256, .f32⟩
  | 1 => ⟨S64x256x256, .f32⟩
  | 2 => ⟨S64x256x256, .bf16⟩
  | 3 => ⟨S64x256x256, .f32⟩
  | 4 => ⟨S64x256x256, .bf16⟩
  | 5 => ⟨S64x256x256, .f32⟩
  | 6 => ⟨S64x256x256, .bf16⟩
  | 7 => ⟨S64x1x256, .f32⟩
  | 8 => ⟨S64x8x256, .f32⟩
  | _ => ⟨S128x64, .f32⟩

abbrev hbmTy (i : Nat) : BufTy := match i / 128 with
  | 0 => hbmTy0_0 i
  | 1 => hbmTy0_1 i
  | 2 => hbmTy0_2 i
  | _ => ⟨S128x64, .f32⟩

abbrev bufTy : (tb : Table) → Fin (tcTables nBuf tb) → BufTy
  | .hbm, ⟨i, _⟩ => hbmTy i
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_c : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_cst_1 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_cst_2 : Ref sig .tc := ⟨.hbm, 169, rfl⟩
abbrev main_call1_v0 : Ref sig .tc := ⟨.hbm, 170, rfl⟩
abbrev main_call1_v1 : Ref sig .tc := ⟨.hbm, 171, rfl⟩
abbrev main_call1_v2 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_cst_3 : Ref sig .tc := ⟨.hbm, 177, rfl⟩
abbrev main_call2_v0 : Ref sig .tc := ⟨.hbm, 178, rfl⟩
abbrev main_call2_v1 : Ref sig .tc := ⟨.hbm, 179, rfl⟩
abbrev main_call2_v2 : Ref sig .tc := ⟨.hbm, 180, rfl⟩
abbrev main_call2_v3 : Ref sig .tc := ⟨.hbm, 181, rfl⟩
abbrev main_v158 : Ref sig .tc := ⟨.hbm, 182, rfl⟩
abbrev main_c_4 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_cst_5 : Ref sig .tc := ⟨.hbm, 233, rfl⟩
abbrev main_call3_v0 : Ref sig .tc := ⟨.hbm, 234, rfl⟩
abbrev main_call3_v1 : Ref sig .tc := ⟨.hbm, 235, rfl⟩
abbrev main_call3_v2 : Ref sig .tc := ⟨.hbm, 236, rfl⟩
abbrev main_call3_v3 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_cst_6 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_cst_7 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩

abbrev nD : Nat := 1
abbrev τ : Topo := Topo.v7x

variable {F : FTy → Type} [FloatOps F]
-- ==== Proof.Value.InProj.lean ====
/-
  The value of the input projection: `a · w`, the query and key heads normalised by their root mean square, the values
  and the S5 input left as they are.
-/
module

public import proofs.«01_k».proof.Defs
public import proofs.«01_k».proof.Proof.Gen.InProj.Frame
public import proofs.«01_k».proof.Proof.Gen.InProjIdeal.Value
public import proofs.«01_k».proof.Proof.Gen.InProjRefIdeal.Run
public import Idealize.ShloMosaic.Lib.Pipeline.Value
public import Idealize.ShloMosaic.Lib.Quiescent
public import Idealize.ShloMosaic.Lib.Pointwise

@[expose] public section

set_option maxRecDepth 16384

noncomputable section

namespace Cert.InProjIdeal.Whole

open Cert.InProjIdeal Cert.InProjIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 128 points. -/
theorem lt_N (t : Fin cfg0.N) : t.val < 128 := by
  have h : cfg0.N = 128 := N_0
  have := t.isLt
  omega

/-- The origin of a two-dimensional block, as a constant function. -/
theorem hz : (![0, 0] : Fin 2 → Nat) = fun _ => 0 := funext fun a => by fin_cases a <;> rfl

/-- The origin of a three-dimensional block, as a constant function. -/
theorem hz3 : (![0, 0, 0] : Fin 3 → Nat) = fun _ => 0 := funext fun a => by fin_cases a <;> rfl

/-- The block index of window 0 at a point. -/
theorem index_a : ∀ t : Fin grid0.N, win0_0.index t 0 = t.val / 16 ∧ win0_0.index t 1 = 0 := by
  decide +kernel

/-- The block index of window 1 at a point. -/
theorem index_w : ∀ t : Fin grid0.N, win0_1.index t 0 = 0 ∧ win0_1.index t 1 = t.val % 16 := by
  decide +kernel

/-- The block index of window 2 at a point. -/
theorem index_gq : ∀ t : Fin grid0.N, win0_2.index t 0 = 0 ∧ win0_2.index t 1 = 0 := by
  decide +kernel

/-- The block index of window 3 at a point. -/
theorem index_gk : ∀ t : Fin grid0.N, win0_3.index t 0 = 0 ∧ win0_3.index t 1 = 0 := by
  decide +kernel

/-- The block index of window 4 at a point. -/
theorem index_o : ∀ t : Fin grid0.N, win0_4.index t 0 = t.val / 16 ∧ win0_4.index t 1 = t.val % 16 := by
  decide +kernel

/-- The block of window 0 at point `t`, entry by entry. -/
theorem iblk_a (c : Dev nD) (t : Fin cfg0.N) (r : Fin 1024) (k : Fin 4096) :
    iblk m c 0 t (ix2 r k : S1024x4096.Idx)
      = m ((c : Thread nD τ).loc main_arg0) (ix2 ⟨(t.val / 16) * 1024 + r, by have := lt_N t; omega⟩ k : S8192x4096.Idx) := by
  show m ((c : Thread nD τ).loc main_arg0) (((cfg0.win 0).blk t).view.emb (ix2 r k : S1024x4096.Idx)) = _
  congr 1
  funext a
  apply Fin.ext
  match a with
  | ⟨0, _⟩ => show win0_0.index t 0 * 1024 + 1 * r.val = _
              rw [(index_a t).1]
              show (t.val / 16) * 1024 + 1 * r.val = (t.val / 16) * 1024 + r.val
              omega
  | ⟨1, _⟩ => show win0_0.index t 1 * 4096 + 1 * k.val = _
              rw [(index_a t).2]
              show (0) * 4096 + 1 * k.val = k.val
              omega

/-- The block of window 1 at point `t`, entry by entry. -/
theorem iblk_w (c : Dev nD) (t : Fin cfg0.N) (r : Fin 4096) (k : Fin 512) :
    iblk m c 1 t (ix2 r k : S4096x512.Idx)
      = m ((c : Thread nD τ).loc main_arg1) (ix2 r ⟨(t.val % 16) * 512 + k, by have := lt_N t; omega⟩ : S4096x8192.Idx) := by
  show m ((c : Thread nD τ).loc main_arg1) (((cfg0.win 1).blk t).view.emb (ix2 r k : S4096x512.Idx)) = _
  congr 1
  funext a
  apply Fin.ext
  match a with
  | ⟨0, _⟩ => show win0_1.index t 0 * 4096 + 1 * r.val = _
              rw [(index_w t).1]
              show (0) * 4096 + 1 * r.val = r.val
              omega
  | ⟨1, _⟩ => show win0_1.index t 1 * 512 + 1 * k.val = _
              rw [(index_w t).2]
              show (t.val % 16) * 512 + 1 * k.val = (t.val % 16) * 512 + k.val
              omega

/-- The block of window 2 at point `t`, entry by entry. -/
theorem iblk_gq (c : Dev nD) (t : Fin cfg0.N) (r : Fin 1) (k : Fin 128) :
    iblk m c 2 t (ix2 r k : S1x128.Idx)
      = V m c main_v0 (ix2 r k : S1x128.Idx) := by
  show V m c main_v0 (((cfg0.win 2).blk t).view.emb (ix2 r k : S1x128.Idx)) = _
  congr 1
  funext a
  apply Fin.ext
  match a with
  | ⟨0, _⟩ => show win0_2.index t 0 * 1 + 1 * r.val = _
              rw [(index_gq t).1]
              show (0) * 1 + 1 * r.val = r.val
              omega
  | ⟨1, _⟩ => show win0_2.index t 1 * 128 + 1 * k.val = _
              rw [(index_gq t).2]
              show (0) * 128 + 1 * k.val = k.val
              omega

/-- The block of window 3 at point `t`, entry by entry. -/
theorem iblk_gk (c : Dev nD) (t : Fin cfg0.N) (r : Fin 1) (k : Fin 128) :
    iblk m c 3 t (ix2 r k : S1x128.Idx)
      = V m c main_v1 (ix2 r k : S1x128.Idx) := by
  show V m c main_v1 (((cfg0.win 3).blk t).view.emb (ix2 r k : S1x128.Idx)) = _
  congr 1
  funext a
  apply Fin.ext
  match a with
  | ⟨0, _⟩ => show win0_3.index t 0 * 1 + 1 * r.val = _
              rw [(index_gk t).1]
              show (0) * 1 + 1 * r.val = r.val
              omega
  | ⟨1, _⟩ => show win0_3.index t 1 * 128 + 1 * k.val = _
              rw [(index_gk t).2]
              show (0) * 128 + 1 * k.val = k.val
              omega

/-- Where an entry of point `t`'s block of window 4 lies in the whole array. -/
theorem emb_o (t : Fin cfg0.N) (r : Fin 1024) (k : Fin 512) :
    (win0_4.blk t).view.emb (ix2 r k : S1024x512.Idx)
      = (ix2 ⟨(t.val / 16) * 1024 + r, by have := lt_N t; omega⟩ ⟨(t.val % 16) * 512 + k, by have := lt_N t; omega⟩ : S8192x8192.Idx) := by
  funext a
  apply Fin.ext
  match a with
  | ⟨0, _⟩ => show win0_4.index t 0 * 1024 + 1 * r.val = _
              rw [(index_o t).1]
              show (t.val / 16) * 1024 + 1 * r.val = (t.val / 16) * 1024 + r.val
              omega
  | ⟨1, _⟩ => show win0_4.index t 1 * 512 + 1 * k.val = _
              rw [(index_o t).2]
              show (t.val % 16) * 512 + 1 * k.val = (t.val % 16) * 512 + k.val
              omega

/-- An entry lies in point `t`'s block of window 4 exactly when its coordinates do. -/
theorem mem_o (t : Fin cfg0.N) (i : S8192x8192.Idx) :
    i ∈ ((cfg0.win 4).blk t).view.set ↔ ((t.val / 16) * 1024 ≤ (i 0 : Nat) ∧ (i 0 : Nat) < (t.val / 16) * 1024 + 1024) ∧ ((t.val % 16) * 512 ≤ (i 1 : Nat) ∧ (i 1 : Nat) < (t.val % 16) * 512 + 512) := by
  show i ∈ ((View.whole main_v2).slice (win0_4.rect t)).set ↔ _
  rw [View.set_slice_whole, Rect.mem_set_unit]
  have e0 : win0_4.index t 0 * win0_4.size 0 = (t.val / 16) * 1024 := by rw [(index_o t).1]; rfl
  have e1 : win0_4.index t 1 * win0_4.size 1 = (t.val % 16) * 512 := by rw [(index_o t).2]; rfl
  refine ⟨fun h => ⟨?_, ?_⟩, fun h a => ?_⟩
  · have := h 0
    change win0_4.index t 0 * win0_4.size 0 ≤ (i 0 : Nat) ∧ (i 0 : Nat) < win0_4.index t 0 * win0_4.size 0 + 1024 at this
    rwa [e0] at this
  · have := h 1
    change win0_4.index t 1 * win0_4.size 1 ≤ (i 1 : Nat) ∧ (i 1 : Nat) < win0_4.index t 1 * win0_4.size 1 + 512 at this
    rwa [e1] at this
  · match a with
    | ⟨0, _⟩ => show win0_4.index t 0 * win0_4.size 0 ≤ (i 0 : Nat) ∧ (i 0 : Nat) < win0_4.index t 0 * win0_4.size 0 + 1024
                rw [e0]; exact h.1
    | ⟨1, _⟩ => show win0_4.index t 1 * win0_4.size 1 ≤ (i 1 : Nat) ∧ (i 1 : Nat) < win0_4.index t 1 * win0_4.size 1 + 512
                rw [e1]; exact h.2

/-- The blocks of window 4 fill the result. -/
theorem cover_o (i : S8192x8192.Idx) :
    ∃ t : Fin cfg0.N, (cfg0.win 4).flush t = true ∧ i ∈ ((cfg0.win 4).blk t).view.set := by
  have h0 : (i 0 : Nat) < 8192 := (i 0).isLt
  have h1 : (i 1 : Nat) < 8192 := (i 1).isLt
  have hN : cfg0.N = 128 := N_0
  refine ⟨⟨(i 0 : Nat) / 1024 * 16 + (i 1 : Nat) / 512, by omega⟩, flush0_4 _, ?_⟩
  rw [mem_o]
  dsimp only
  omega

/-- The window over the query gain holds the gain. -/
theorem gain_q (c : Dev nD) (d : Fin 128) : V m c main_v0 (ix2 0 d : S1x128.Idx) = m ((c : Thread nD τ).loc main_arg2) (ix1 d : S128.Idx) := by
  have h : V m c main_v0 = shapeCast _ (m ((c : Thread nD τ).loc main_arg2)) shapeCasts_S128_S1x128 := rfl
  rw [h]
  pointwise

/-- The window over the key gain holds the gain. -/
theorem gain_k (c : Dev nD) (d : Fin 128) : V m c main_v1 (ix2 0 d : S1x128.Idx) = m ((c : Thread nD τ).loc main_arg3) (ix1 d : S128.Idx) := by
  have h : V m c main_v1 = shapeCast _ (m ((c : Thread nD τ).loc main_arg3)) shapeCasts_S128_S1x128 := rfl
  rw [h]
  pointwise

/-- One entry of a row divided by the row's root mean square, times a gain. -/
def nrm (f : Fin 128 → EReal) (g : EReal) (d : Fin 128) : EReal :=
  f d * Ideal.rsqrt (Ideal.div (∑ x, f x * f x) (Ideal.ofBits FTy.f32 1124073472#32) + Ideal.ofBits FTy.f32 897988541#32) * g

/-- The product's entry. -/
def prod (a : Vec Ideal S8192x4096 .bf16) (w : Vec Ideal S4096x8192 .bf16) (i : Fin 8192) (j : Fin 8192) : EReal :=
  ∑ k : Fin 4096, a (ix2 i k) * w (ix2 k j)

/-- The whole result at row `i` and column `j`: queries and keys normalised head by head, the remaining columns the plain product. -/
def Gf (a : Vec Ideal S8192x4096 .bf16) (w : Vec Ideal S4096x8192 .bf16) (gq gk : Vec Ideal S128 .f32) (i j : Fin 8192) : EReal :=
  if j.val < 4096 then
    nrm (fun d => prod a w i ⟨j.val / 128 * 128 + d, by omega⟩)
      (if j.val < 2048 then gq (ix1 ⟨j.val % 128, Nat.mod_lt _ (by omega)⟩) else gk (ix1 ⟨j.val % 128, Nat.mod_lt _ (by omega)⟩))
      ⟨j.val % 128, Nat.mod_lt _ (by omega)⟩
  else prod a w i j

/-- The whole result. -/
def G (a : Vec Ideal S8192x4096 .bf16) (w : Vec Ideal S4096x8192 .bf16) (gq gk : Vec Ideal S128 .f32) : Vec Ideal S8192x8192 .f32 :=
  fun i => Gf a w gq gk (i 0) (i 1)

/-- The result in head `h`: the first sixteen heads are the queries', the next sixteen the keys'. -/
theorem Gf_head (a : Vec Ideal S8192x4096 .bf16) (w : Vec Ideal S4096x8192 .bf16) (gq gk : Vec Ideal S128 .f32) (i : Fin 8192) (h : Nat) (hh : h < 32) (d : Fin 128)
    (j : Fin 8192) (hj : j.val = h * 128 + d.val) :
    Gf a w gq gk i j
      = nrm (fun d' => prod a w i ⟨h * 128 + d', by omega⟩) (if h < 16 then gq (ix1 d) else gk (ix1 d)) d := by
  have e1 : j.val / 128 * 128 = h * 128 := by omega
  have e2 : (⟨j.val % 128, Nat.mod_lt _ (by omega)⟩ : Fin 128) = d := Fin.ext (by show j.val % 128 = d.val; omega)
  unfold Gf
  rw [if_pos (by omega), e2]
  congr 1
  · funext d'
    congr 1
    exact Fin.ext (by show j.val / 128 * 128 + d'.val = h * 128 + d'.val; omega)
  · by_cases c : h < 16
    · rw [if_pos c, if_pos (by omega)]
    · rw [if_neg c, if_neg (by omega)]

/-- The result right of the heads. -/
theorem Gf_rest (a : Vec Ideal S8192x4096 .bf16) (w : Vec Ideal S4096x8192 .bf16) (gq gk : Vec Ideal S128 .f32) (i j : Fin 8192) (hj : 4096 ≤ j.val) :
    Gf a w gq gk i j = prod a w i j := by
  unfold Gf
  rw [if_neg (by omega)]

/-- The same over one block, the gain given. -/
def B (a : Vec Ideal S1024x4096 .bf16) (w : Vec Ideal S4096x512 .bf16) (g : FVec Ideal S1x128 .f32) (r : Fin 1024) (j : Fin 512) : EReal :=
  nrm (fun d => ∑ k : Fin 4096, a (ix2 r k) * w (ix2 k ⟨j.val / 128 * 128 + d, by omega⟩))
    (g (ix2 0 ⟨j.val % 128, Nat.mod_lt _ (by omega)⟩)) ⟨j.val % 128, Nat.mod_lt _ (by omega)⟩

/-- `B` at a column of head `e`. -/
theorem B_head (a : Vec Ideal S1024x4096 .bf16) (w : Vec Ideal S4096x512 .bf16) (g : FVec Ideal S1x128 .f32) (r : Fin 1024) (e : Nat) (he : e < 4) (d : Fin 128) :
    B a w g r ⟨e * 128 + d, by omega⟩
      = nrm (fun d' => ∑ k : Fin 4096, a (ix2 r k) * w (ix2 k ⟨e * 128 + d', by omega⟩)) (g (ix2 0 d)) d := by
  have e2 : (⟨(e * 128 + d.val) % 128, Nat.mod_lt _ (by omega)⟩ : Fin 128) = d := Fin.ext (by show (e * 128 + d.val) % 128 = d.val; omega)
  unfold B
  dsimp only
  rw [e2]
  congr 1
  funext d'
  refine Finset.sum_congr rfl fun k _ => ?_
  congr 3
  exact Fin.ext (by show (e * 128 + d.val) / 128 * 128 + d'.val = e * 128 + d'.val; omega)

/-- The payload of the first head. -/
theorem pay5 (a : Vec Ideal S1024x4096 .bf16) (w : Vec Ideal S4096x512 .bf16) (v : BitVec 32) (g h : Vec Ideal S1x128 .f32) (r : Fin 1024) (d : Fin 128) :
    k0_pay5 (k0_pay1 a w) v g h (ix2 r d) = B a w (k0_pay4 v g h) r ⟨0 * 128 + d, by omega⟩ := by
  rw [B_head _ _ _ _ 0 (by omega)]
  pointwise [k0_pay5, k0_pay1, nrm]

/-- The payload of the second head. -/
theorem pay6 (a : Vec Ideal S1024x4096 .bf16) (w : Vec Ideal S4096x512 .bf16) (v : BitVec 32) (g h : Vec Ideal S1x128 .f32) (r : Fin 1024) (d : Fin 128) :
    k0_pay6 (k0_pay1 a w) v g h (ix2 r d) = B a w (k0_pay4 v g h) r ⟨1 * 128 + d, by omega⟩ := by
  rw [B_head _ _ _ _ 1 (by omega)]
  pointwise [k0_pay6, k0_pay1, nrm]

/-- The payload of the third head. -/
theorem pay2 (a : Vec Ideal S1024x4096 .bf16) (w : Vec Ideal S4096x512 .bf16) (g : FVec Ideal S1x128 .f32) (r : Fin 1024) (d : Fin 128) :
    k0_pay2 g (k0_pay7 (k0_pay1 a w)) (k0_pay8 (k0_pay1 a w)) (FloatOps.ofBits FTy.f32 897988541#32) (ix2 r d) = B a w g r ⟨2 * 128 + d, by omega⟩ := by
  rw [B_head _ _ _ _ 2 (by omega)]
  pointwise [k0_pay2, k0_pay7, k0_pay8, k0_pay1, nrm]

/-- The payload of the fourth head. -/
theorem pay3 (a : Vec Ideal S1024x4096 .bf16) (w : Vec Ideal S4096x512 .bf16) (g : FVec Ideal S1x128 .f32) (r : Fin 1024) (d : Fin 128) :
    k0_pay3 a w g (ix2 r d) = B a w g r ⟨3 * 128 + d, by omega⟩ := by
  rw [B_head _ _ _ _ 3 (by omega)]
  pointwise [k0_pay3, k0_pay1, nrm]

/-- Where a head's slice of a block lies. -/
theorem emb_head (o e : Nat) (inb) (he : e < 4) (ho : o = e * 128) (r : Fin 1024) (d : Fin 128) :
    (Rect.unit (s := S1024x512) ![0, o] ![1024, 128] inb).emb (ix2 r d : S1024x128.Idx) = (ix2 r ⟨e * 128 + d, by omega⟩ : S1024x512.Idx) := by
  funext a
  apply Fin.ext
  match a with
  | ⟨0, _⟩ => show 0 + 1 * r.val = r.val
              omega
  | ⟨1, _⟩ => show o + 1 * d.val = e * 128 + d.val
              omega

section Args

variable (c : Dev nD) (i : grid0.Coords) (arg2 : Memref sig .tc .vmem S1024x4096 .bf16) (harg2 : arg2.IsWhole)
    (arg3 : Memref sig .tc .vmem S4096x512 .bf16) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1024x512 .f32) (harg6 : arg6.IsWhole)

/-- What a point over query or key columns leaves in its block. -/
theorem out_A (hc0 : cond0_0 i) (hc1 : ¬cond0_1 i)
    (x0 : Vec Ideal S1024x4096 .bf16) (x1 : Vec Ideal S4096x512 .bf16) (x2 : Vec Ideal S1x128 .f32) (x3 : Vec Ideal S1x128 .f32) :
    out0_A_4 c i arg2 harg2 arg3 harg3 arg4 harg4 arg5 harg5 arg6 harg6 hc0 hc1 x0 x1 x2 x3 = fun y => B x0 x1 (k0_pay4 (Scalar.muli (BitVec.ofNat 32 (i 1).val) 512#32) x2 x3) (y 0) (y 1) := by
  funext y
  unfold out0_A_4
  refine View.read_writes_apply_of_pieces _ _ (fun y => B x0 x1 (k0_pay4 (Scalar.muli (BitVec.ofNat 32 (i 1).val) 512#32) x2 x3) (y 0) (y 1)) _ ?_ y (cover0_A_4 c i arg2 harg2 arg3 harg3 arg4 harg4 arg5 harg5 arg6 harg6 hc0 hc1 x0 x1 x2 x3 y)
  unfold kernelRun0_A
  dsimp only
  simp only [List.forall_mem_cons, List.not_mem_nil]
  sl_unfold_words
  simp only [View.readAt_eq_ld, harg2.read_unread, harg3.read_unread, harg4.read_unread, harg5.read_unread,
    View.ld_unit_zero (S := S1x128) hz, View.ld_unit_zero (S := S1024x4096) hz, View.ld_unit_zero (S := S4096x512) hz]
  refine ⟨fun x => ?_, fun x => ?_, fun x => ?_, fun x => ?_, fun _ h => h.elim⟩
  · obtain ⟨r, d, rfl⟩ : ∃ (r : Fin 1024) (d : Fin 128), x = (ix2 r d : S1024x128.Idx) := ⟨x 0, x 1, by funext a; match a with | ⟨0, _⟩ => rfl | ⟨1, _⟩ => rfl⟩
    rw [emb_head 384 3 _ (by omega) rfl]; exact pay3 _ _ _ _ _
  · obtain ⟨r, d, rfl⟩ : ∃ (r : Fin 1024) (d : Fin 128), x = (ix2 r d : S1024x128.Idx) := ⟨x 0, x 1, by funext a; match a with | ⟨0, _⟩ => rfl | ⟨1, _⟩ => rfl⟩
    rw [emb_head 256 2 _ (by omega) rfl]; exact pay2 _ _ _ _ _
  · obtain ⟨r, d, rfl⟩ : ∃ (r : Fin 1024) (d : Fin 128), x = (ix2 r d : S1024x128.Idx) := ⟨x 0, x 1, by funext a; match a with | ⟨0, _⟩ => rfl | ⟨1, _⟩ => rfl⟩
    rw [emb_head 128 1 _ (by omega) rfl]; exact pay6 _ _ _ _ _ _ _
  · obtain ⟨r, d, rfl⟩ : ∃ (r : Fin 1024) (d : Fin 128), x = (ix2 r d : S1024x128.Idx) := ⟨x 0, x 1, by funext a; match a with | ⟨0, _⟩ => rfl | ⟨1, _⟩ => rfl⟩
    rw [emb_head 0 0 _ (by omega) rfl]; exact pay5 _ _ _ _ _ _ _

/-- What a point over the other columns leaves in its block. -/
theorem out_B (hc0 : ¬cond0_0 i) (hc1 : cond0_1 i)
    (x0 : Vec Ideal S1024x4096 .bf16) (x1 : Vec Ideal S4096x512 .bf16) (x2 : Vec Ideal S1x128 .f32) (x3 : Vec Ideal S1x128 .f32) :
    out0_B_4 c i arg2 harg2 arg3 harg3 arg4 harg4 arg5 harg5 arg6 harg6 hc0 hc1 x0 x1 x2 x3 = k0_pay1 x0 x1 := by
  unfold out0_B_4
  rw [View.read_writes_eq_canon _ _ _ (cover0_B_4 c i arg2 harg2 arg3 harg3 arg4 harg4 arg5 harg5 arg6 harg6 hc0 hc1 x0 x1 x2 x3)]
  unfold kernelRun0_B
  dsimp only
  rw [View.canon_unit_zero hz]
  simp only [View.readAt_eq_ld, harg2.read_unread, harg3.read_unread,
    View.ld_unit_zero (S := S1024x4096) hz, View.ld_unit_zero (S := S4096x512) hz]

end Args

/-- The second grid coordinate. -/
theorem coord1 : ∀ t : Fin grid0.N, (grid0.coords t 1).val = t.val % 16 := by
  decide +kernel

/-- The gain a query or key block takes. -/
theorem pay4_eq (n : Nat) (hn : n < 16) (x y : Vec Ideal S1x128 .f32) (d : Fin 128) :
    k0_pay4 (Scalar.muli (BitVec.ofNat 32 n) 512#32) x y (ix2 0 d) = if n < 4 then x (ix2 0 d) else y (ix2 0 d) := by
  have h : Scalar.cmpi .slt (Scalar.muli (BitVec.ofNat 32 n) 512#32) 2048#32 = if n < 4 then 1#1 else 0#1 := by
    revert n; decide +kernel
  unfold k0_pay4
  simp only [h]
  split <;> pointwise [Scalar.select] <;> simp

/-- What a point writes back is its block of the whole-array function. -/
theorem flushed_eq (c : Dev nD) (t : Fin cfg0.N) :
    (dats m 0 c).flushed 4 t = (win0_4.blk t).view.read (Elt Ideal) (G (m ((c : Thread nD τ).loc main_arg0)) (m ((c : Thread nD τ).loc main_arg1)) (m ((c : Thread nD τ).loc main_arg2)) (m ((c : Thread nD τ).loc main_arg3))) := by
  have hN := lt_N t
  by_cases h0 : t.val % 16 ≤ 7
  · rw [Value.flushed4_A m c t h0 (by omega), out_A]
    funext j
    idx_vars j
    show B _ _ _ j0 j1 = G _ _ _ _ ((win0_4.blk t).view.emb (ix2 j0 j1 : S1024x512.Idx))
    rw [emb_o]
    obtain ⟨e, d, he, rfl⟩ : ∃ (e : Nat) (d : Fin 128) (he : e < 4), j1 = ⟨e * 128 + d, by omega⟩ :=
      ⟨j1.val / 128, ⟨j1.val % 128, Nat.mod_lt _ (by omega)⟩, by omega, Fin.ext (by show j1.val = j1.val / 128 * 128 + j1.val % 128; omega)⟩
    show _ = Gf _ _ _ _ ⟨t.val / 16 * 1024 + j0.val, _⟩ ⟨t.val % 16 * 512 + (e * 128 + d.val), _⟩
    rw [Gf_head _ _ _ _ _ (t.val % 16 * 4 + e) (by omega) d _ (by dsimp only; omega), B_head _ _ _ _ e he, coord1, pay4_eq _ (Nat.mod_lt _ (by omega))]
    simp only [iblk_a, iblk_w, iblk_gq, iblk_gk, gain_q, gain_k]
    congr 1
    · funext d'
      refine Finset.sum_congr rfl fun k _ => ?_
      congr 3
      exact Fin.ext (by show t.val % 16 * 512 + (e * 128 + d'.val) = (t.val % 16 * 4 + e) * 128 + d'.val; omega)
    · by_cases c4 : t.val % 16 < 4
      · rw [if_pos c4, if_pos (by omega)]
        exact gain_q m c d
      · rw [if_neg c4, if_neg (by omega)]
        exact gain_k m c d
  · rw [Value.flushed4_B m c t h0 (by omega), out_B]
    funext j
    idx_vars j
    show k0_pay1 (F := Ideal) _ _ (ix2 j0 j1) = G _ _ _ _ ((win0_4.blk t).view.emb (ix2 j0 j1 : S1024x512.Idx))
    rw [emb_o]
    show _ = Gf _ _ _ _ ⟨t.val / 16 * 1024 + j0.val, _⟩ ⟨t.val % 16 * 512 + j1.val, _⟩
    rw [Gf_rest _ _ _ _ _ _ (by dsimp only; omega)]
    pointwise [k0_pay1, prod]
    simp only [iblk_a, iblk_w]

/-- The kernel's result, and its arguments kept. -/
theorem run : θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans
      ((dats m 0 c).arrAt_eq_of_cover 4 _ (fun t _ => flushed_eq m c t) cover_o), (h c).2⟩)
    (Value.run_blocks m ρ)

end Cert.InProjIdeal.Whole

namespace Cert.InProjRefIdeal.Whole

open Cert.InProjRefIdeal Cert.InProjRefIdeal.Gen
open Idealize.ShloMosaic Idealize.ShloMosaic.TcCoe Idealize.SL.Sem

/-- Four arrays side by side, read in the first. -/
theorem cat0 (p q r s : Vec Ideal S8192x2048 .f32) (i j : Fin 8192) (d : Fin 2048) (h : j.val = d.val) :
    concatenate S8192x8192 1 [⟨S8192x2048, p⟩, ⟨S8192x2048, q⟩, ⟨S8192x2048, r⟩, ⟨S8192x2048, s⟩]
      concatenates_S8192x2048_S8192x2048_S8192x2048_S8192x2048_S8192x8192_d1 (ix2 i j) = p (ix2 i d) := by
  pointwise
  rw [dif_pos (by omega)]
  exact congrArg (fun z => p (ix2 i z)) (Fin.ext h)

/-- … in the second. -/
theorem cat1 (p q r s : Vec Ideal S8192x2048 .f32) (i j : Fin 8192) (d : Fin 2048) (h : j.val = 2048 + d.val) :
    concatenate S8192x8192 1 [⟨S8192x2048, p⟩, ⟨S8192x2048, q⟩, ⟨S8192x2048, r⟩, ⟨S8192x2048, s⟩]
      concatenates_S8192x2048_S8192x2048_S8192x2048_S8192x2048_S8192x8192_d1 (ix2 i j) = q (ix2 i d) := by
  pointwise
  rw [dif_neg (by omega), dif_pos (by omega)]
  exact congrArg (fun z => q (ix2 i z)) (Fin.ext (by show j.val - 2048 = d.val; omega))

/-- … in the third. -/
theorem cat2 (p q r s : Vec Ideal S8192x2048 .f32) (i j : Fin 8192) (d : Fin 2048) (h : j.val = 4096 + d.val) :
    concatenate S8192x8192 1 [⟨S8192x2048, p⟩, ⟨S8192x2048, q⟩, ⟨S8192x2048, r⟩, ⟨S8192x2048, s⟩]
      concatenates_S8192x2048_S8192x2048_S8192x2048_S8192x2048_S8192x8192_d1 (ix2 i j) = r (ix2 i d) := by
  pointwise
  rw [dif_neg (by omega), dif_neg (by omega), dif_pos (by omega)]
  exact congrArg (fun z => r (ix2 i z)) (Fin.ext (by show j.val - 2048 - 2048 = d.val; omega))

/-- … in the fourth. -/
theorem cat3 (p q r s : Vec Ideal S8192x2048 .f32) (i j : Fin 8192) (d : Fin 2048) (h : j.val = 6144 + d.val) :
    concatenate S8192x8192 1 [⟨S8192x2048, p⟩, ⟨S8192x2048, q⟩, ⟨S8192x2048, r⟩, ⟨S8192x2048, s⟩]
      concatenates_S8192x2048_S8192x2048_S8192x2048_S8192x2048_S8192x8192_d1 (ix2 i j) = s (ix2 i d) := by
  pointwise
  rw [dif_neg (by omega), dif_neg (by omega), dif_neg (by omega)]
  exact congrArg (fun z => s (ix2 i z)) (Fin.ext (by show j.val - 2048 - 2048 - 2048 = d.val; omega))

/-- A column split into head and lane. -/
theorem split_col (x : Nat) (hx : x < 2048) : x / 128 < 16 ∧ x % 128 < 128 ∧ x = x / 128 * 128 + x % 128 := by omega

/-- The host's product at an entry. -/
theorem prod_apply (a : Vec Ideal S8192x4096 .bf16) (w : Vec Ideal S4096x8192 .bf16) (i j : Fin 8192) :
    Host.dotGeneral dot_S8192x4096_S4096x8192_S8192x8192_1_0_0_1_n_n none (extf (F := Ideal) .f32 a bitsLt_bf16_f32) (extf (F := Ideal) .f32 w bitsLt_bf16_f32) (ix2 i j)
      = InProjIdeal.Whole.prod a w i j := by
  pointwise [InProjIdeal.Whole.prod]

/-- The host program's result is the same function of its arguments. -/
theorem ref_eq (m : (ℓ : Loc nD τ sig) → Buf (Elt Ideal) ℓ) (c : Dev nD) :
    Value.res_main_v37 (F := Ideal) m c = InProjIdeal.Whole.G (m ((c.tc : Thread nD τ).loc main_arg0)) (m ((c.tc : Thread nD τ).loc main_arg1))
      (m ((c.tc : Thread nD τ).loc main_arg2)) (m ((c.tc : Thread nD τ).loc main_arg3)) := by
  unfold Value.res_main_v37
  have hp := prod_apply (m ((c.tc : Thread nD τ).loc main_arg0)) (m ((c.tc : Thread nD τ).loc main_arg1))
  generalize Host.dotGeneral (F := Ideal) dot_S8192x4096_S4096x8192_S8192x8192_1_0_0_1_n_n none (extf .f32 (m ((c.tc : Thread nD τ).loc main_arg0)) bitsLt_bf16_f32) (extf .f32 (m ((c.tc : Thread nD τ).loc main_arg1)) bitsLt_bf16_f32) = D at hp ⊢
  generalize m ((c.tc : Thread nD τ).loc main_arg0) = a at hp ⊢
  generalize m ((c.tc : Thread nD τ).loc main_arg1) = w at hp ⊢
  generalize m ((c.tc : Thread nD τ).loc main_arg2) = gq
  generalize m ((c.tc : Thread nD τ).loc main_arg3) = gk
  change Vec Ideal S8192x4096 .bf16 at a
  change Vec Ideal S4096x8192 .bf16 at w
  change Vec Ideal S128 .f32 at gq
  change Vec Ideal S128 .f32 at gk
  change Vec Ideal S8192x8192 .f32 at D
  funext i
  idx_vars i
  show _ = InProjIdeal.Whole.Gf a w gq gk i0 i1
  have hj := i1.isLt
  by_cases c1 : i1.val < 2048
  · refine (cat0 _ _ _ _ i0 i1 ⟨i1.val, c1⟩ rfl).trans ?_
    rw [InProjIdeal.Whole.Gf_head a w gq gk i0 (i1.val / 128) (by omega) ⟨i1.val % 128, Nat.mod_lt _ (by omega)⟩ i1
      (by dsimp only; omega), if_pos (by omega)]
    pointwise [InProjIdeal.Whole.nrm]
    simp only [hp]
  · by_cases c2 : i1.val < 4096
    · refine (cat1 _ _ _ _ i0 i1 ⟨i1.val - 2048, by omega⟩ (by dsimp only; omega)).trans ?_
      rw [InProjIdeal.Whole.Gf_head a w gq gk i0 (16 + (i1.val - 2048) / 128) (by omega) ⟨(i1.val - 2048) % 128, Nat.mod_lt _ (by omega)⟩ i1
        (by dsimp only; omega), if_neg (by omega)]
      have e : ∀ x : Fin 128, (⟨(16 + (i1.val - 2048) / 128) * 128 + x.val, by omega⟩ : Fin 8192) = ⟨2048 + ((i1.val - 2048) / 128 * 128 + x.val), by omega⟩ :=
        fun x => Fin.ext (by show (16 + (i1.val - 2048) / 128) * 128 + x.val = 2048 + ((i1.val - 2048) / 128 * 128 + x.val); omega)
      simp only [e]
      pointwise [InProjIdeal.Whole.nrm]
      simp only [hp]
    · rw [InProjIdeal.Whole.Gf_rest _ _ _ _ _ _ (by omega), ← hp]
      by_cases c3 : i1.val < 6144
      · refine (cat2 _ _ _ _ i0 i1 ⟨i1.val - 4096, by omega⟩ (by dsimp only; omega)).trans ?_
        pointwise
        exact congrArg (fun z => D (ix2 i0 z)) (Fin.ext (by show 4096 + (i1.val - 4096) = i1.val; omega))
      · refine (cat3 _ _ _ _ i0 i1 ⟨i1.val - 6144, by omega⟩ (by dsimp only; omega)).trans ?_
        pointwise
        exact congrArg (fun z => D (ix2 i0 z)) (Fin.ext (by show 6144 + (i1.val - 6144) = i1.val; omega))

end Cert.InProjRefIdeal.Whole

/-! ## The claims -/

namespace Cert.Proof.InProj

open Idealize.ShloMosaic Idealize.ShloMosaic.TcCoe Idealize.SL.Sem

/-- The kernel runs to its end and keeps its arguments. -/
theorem frame : Cert.quiescent_InProj := fun m ρ _ => Cert.InProj.Gen.frame m ρ

/-- So does its idealized form. -/
theorem frameI : Cert.quiescent_InProjIdeal := fun m ρ _ => Cert.InProjIdeal.Gen.frame m ρ

/-- So does the host program. -/
theorem frameR : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)

/-- Nothing was rewritten on the way to the idealized form. -/
theorem preserves : Cert.preserves_InProj_InProjIdeal := trivial

/-- The kernel and the host program compute the same function. -/
theorem algebraic : Cert.algebraic_InProjIdeal_InProjRefIdeal := by
  intro m ρ m' ρ' _ hag
  refine ⟨fun c => Cert.InProjIdeal.Whole.G (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)), Cert.InProjIdeal.Whole.run m ρ, ?_⟩
  refine (θ_run Cert.InProjRefIdeal.defs _ _).mono (fun _ h c => ⟨(h c).1.trans ?_, (h c).2⟩)
    (Cert.InProjRefIdeal.Value.run (F := Ideal) m' ρ')
  refine (Cert.InProjRefIdeal.Whole.ref_eq m' c).trans ?_
  rw [(hag c).1, (hag c).2.1, (hag c).2.2.1, (hag c).2.2.2]

end Cert.Proof.InProj
-- ==== Proof.Value.Norm.lean ====
/-
  The value of the modulated norm: each row divided by its root mean square, scaled by the gain, then scaled and shifted
  by two chunks of the modulation row.
-/
module

public import proofs.«01_k».proof.Defs
public import proofs.«01_k».proof.Proof.Gen.Norm.Frame
public import proofs.«01_k».proof.Proof.Gen.NormIdeal.Value
public import proofs.«01_k».proof.Proof.Gen.NormRefIdeal.Run
public import Idealize.ShloMosaic.Lib.Pipeline.Value
public import Idealize.ShloMosaic.Lib.Quiescent
public import Idealize.ShloMosaic.Lib.Pointwise
public import Idealize.ShloMosaic.Lib.ValueLayout

@[expose] public section

set_option maxRecDepth 16384

noncomputable section

namespace Cert.NormIdeal.Whole

open Cert.NormIdeal Cert.NormIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 32 points. -/
theorem lt_N (t : Fin cfg0.N) : t.val < 32 := by
  have h : cfg0.N = 32 := N_0
  have := t.isLt
  omega

/-- The origin of a two-dimensional block, as a constant function. -/
theorem hz : (![0, 0] : Fin 2 → Nat) = fun _ => 0 := funext fun a => by fin_cases a <;> rfl

/-- The origin of a three-dimensional block, as a constant function. -/
theorem hz3 : (![0, 0, 0] : Fin 3 → Nat) = fun _ => 0 := funext fun a => by fin_cases a <;> rfl

/-- The block index of window 0 at a point. -/
theorem index_x : ∀ t : Fin grid0.N, win0_0.index t 0 = t.val ∧ win0_0.index t 1 = 0 := by
  decide +kernel

/-- The block index of window 1 at a point. -/
theorem index_g : ∀ t : Fin grid0.N, win0_1.index t 0 = 0 ∧ win0_1.index t 1 = 0 := by
  decide +kernel

/-- The block index of window 2 at a point. -/
theorem index_sc : ∀ t : Fin grid0.N, win0_2.index t 0 = 0 ∧ win0_2.index t 1 = 1 := by
  decide +kernel

/-- The block index of window 3 at a point. -/
theorem index_sh : ∀ t : Fin grid0.N, win0_3.index t 0 = 0 ∧ win0_3.index t 1 = 0 := by
  decide +kernel

/-- The block index of window 4 at a point. -/
theorem index_o : ∀ t : Fin grid0.N, win0_4.index t 0 = t.val ∧ win0_4.index t 1 = 0 := by
  decide +kernel

/-- The block of window 0 at point `t`, entry by entry. -/
theorem iblk_x (c : Dev nD) (t : Fin cfg0.N) (r : Fin 256) (k : Fin 4096) :
    iblk m c 0 t (ix2 r k : S256x4096.Idx)
      = m ((c : Thread nD τ).loc main_arg0) (ix2 ⟨(t.val) * 256 + r, by have := lt_N t; omega⟩ k : S8192x4096.Idx) := by
  show m ((c : Thread nD τ).loc main_arg0) (((cfg0.win 0).blk t).view.emb (ix2 r k : S256x4096.Idx)) = _
  congr 1
  funext a
  apply Fin.ext
  match a with
  | ⟨0, _⟩ => show win0_0.index t 0 * 256 + 1 * r.val = _
              rw [(index_x t).1]
              show (t.val) * 256 + 1 * r.val = (t.val) * 256 + r.val
              omega
  | ⟨1, _⟩ => show win0_0.index t 1 * 4096 + 1 * k.val = _
              rw [(index_x t).2]
              show (0) * 4096 + 1 * k.val = k.val
              omega

/-- The block of window 1 at point `t`, entry by entry. -/
theorem iblk_g (c : Dev nD) (t : Fin cfg0.N) (r : Fin 1) (k : Fin 4096) :
    iblk m c 1 t (ix2 r k : S1x4096.Idx)
      = V m c main_v0 (ix2 r k : S1x4096.Idx) := by
  show V m c main_v0 (((cfg0.win 1).blk t).view.emb (ix2 r k : S1x4096.Idx)) = _
  congr 1
  funext a
  apply Fin.ext
  match a with
  | ⟨0, _⟩ => show win0_1.index t 0 * 1 + 1 * r.val = _
              rw [(index_g t).1]
              show (0) * 1 + 1 * r.val = r.val
              omega
  | ⟨1, _⟩ => show win0_1.index t 1 * 4096 + 1 * k.val = _
              rw [(index_g t).2]
              show (0) * 4096 + 1 * k.val = k.val
              omega

/-- The block of window 2 at point `t`, entry by entry. -/
theorem iblk_sc (c : Dev nD) (t : Fin cfg0.N) (r : Fin 1) (k : Fin 4096) :
    iblk m c 2 t (ix2 r k : S1x4096.Idx)
      = m ((c : Thread nD τ).loc main_arg2) (ix2 r ⟨(1) * 4096 + k, by have := lt_N t; omega⟩ : S1x24576.Idx) := by
  show m ((c : Thread nD τ).loc main_arg2) (((cfg0.win 2).blk t).view.emb (ix2 r k : S1x4096.Idx)) = _
  congr 1
  funext a
  apply Fin.ext
  match a with
  | ⟨0, _⟩ => show win0_2.index t 0 * 1 + 1 * r.val = _
              rw [(index_sc t).1]
              show (0) * 1 + 1 * r.val = r.val
              omega
  | ⟨1, _⟩ => show win0_2.index t 1 * 4096 + 1 * k.val = _
              rw [(index_sc t).2]
              show (1) * 4096 + 1 * k.val = (1) * 4096 + k.val
              omega

/-- The block of window 3 at point `t`, entry by entry. -/
theorem iblk_sh (c : Dev nD) (t : Fin cfg0.N) (r : Fin 1) (k : Fin 4096) :
    iblk m c 3 t (ix2 r k : S1x4096.Idx)
      = m ((c : Thread nD τ).loc main_arg2) (ix2 r ⟨(0) * 4096 + k, by have := lt_N t; omega⟩ : S1x24576.Idx) := by
  show m ((c : Thread nD τ).loc main_arg2) (((cfg0.win 3).blk t).view.emb (ix2 r k : S1x4096.Idx)) = _
  congr 1
  funext a
  apply Fin.ext
  match a with
  | ⟨0, _⟩ => show win0_3.index t 0 * 1 + 1 * r.val = _
              rw [(index_sh t).1]
              show (0) * 1 + 1 * r.val = r.val
              omega
  | ⟨1, _⟩ => show win0_3.index t 1 * 4096 + 1 * k.val = _
              rw [(index_sh t).2]
              show (0) * 4096 + 1 * k.val = (0) * 4096 + k.val
              omega

/-- Where an entry of point `t`'s block of window 4 lies in the whole array. -/
theorem emb_o (t : Fin cfg0.N) (r : Fin 256) (k : Fin 4096) :
    (win0_4.blk t).view.emb (ix2 r k : S256x4096.Idx)
      = (ix2 ⟨(t.val) * 256 + r, by have := lt_N t; omega⟩ k : S8192x4096.Idx) := by
  funext a
  apply Fin.ext
  match a with
  | ⟨0, _⟩ => show win0_4.index t 0 * 256 + 1 * r.val = _
              rw [(index_o t).1]
              show (t.val) * 256 + 1 * r.val = (t.val) * 256 + r.val
              omega
  | ⟨1, _⟩ => show win0_4.index t 1 * 4096 + 1 * k.val = _
              rw [(index_o t).2]
              show (0) * 4096 + 1 * k.val = k.val
              omega

/-- An entry lies in point `t`'s block of window 4 exactly when its coordinates do. -/
theorem mem_o (t : Fin cfg0.N) (i : S8192x4096.Idx) :
    i ∈ ((cfg0.win 4).blk t).view.set ↔ ((t.val) * 256 ≤ (i 0 : Nat) ∧ (i 0 : Nat) < (t.val) * 256 + 256) ∧ ((0) * 4096 ≤ (i 1 : Nat) ∧ (i 1 : Nat) < (0) * 4096 + 4096) := by
  show i ∈ ((View.whole main_v1).slice (win0_4.rect t)).set ↔ _
  rw [View.set_slice_whole, Rect.mem_set_unit]
  have e0 : win0_4.index t 0 * win0_4.size 0 = (t.val) * 256 := by rw [(index_o t).1]; rfl
  have e1 : win0_4.index t 1 * win0_4.size 1 = (0) * 4096 := by rw [(index_o t).2]; rfl
  refine ⟨fun h => ⟨?_, ?_⟩, fun h a => ?_⟩
  · have := h 0
    change win0_4.index t 0 * win0_4.size 0 ≤ (i 0 : Nat) ∧ (i 0 : Nat) < win0_4.index t 0 * win0_4.size 0 + 256 at this
    rwa [e0] at this
  · have := h 1
    change win0_4.index t 1 * win0_4.size 1 ≤ (i 1 : Nat) ∧ (i 1 : Nat) < win0_4.index t 1 * win0_4.size 1 + 4096 at this
    rwa [e1] at this
  · match a with
    | ⟨0, _⟩ => show win0_4.index t 0 * win0_4.size 0 ≤ (i 0 : Nat) ∧ (i 0 : Nat) < win0_4.index t 0 * win0_4.size 0 + 256
                rw [e0]; exact h.1
    | ⟨1, _⟩ => show win0_4.index t 1 * win0_4.size 1 ≤ (i 1 : Nat) ∧ (i 1 : Nat) < win0_4.index t 1 * win0_4.size 1 + 4096
                rw [e1]; exact h.2

/-- The blocks of window 4 fill the result. -/
theorem cover_o (i : S8192x4096.Idx) :
    ∃ t : Fin cfg0.N, (cfg0.win 4).flush t = true ∧ i ∈ ((cfg0.win 4).blk t).view.set := by
  have h0 : (i 0 : Nat) < 8192 := (i 0).isLt
  have h1 : (i 1 : Nat) < 4096 := (i 1).isLt
  have hN : cfg0.N = 32 := N_0
  refine ⟨⟨(i 0 : Nat) / 256, by omega⟩, flush0_4 _, ?_⟩
  rw [mem_o]
  dsimp only
  omega

/-- A vector cast to one row, read at an entry. -/
theorem row_g (v : Vec Ideal S4096 .f32) (d : Fin 4096) : shapeCast S1x4096 v shapeCasts_S4096_S1x4096 (ix2 0 d) = v (ix1 d) := by
  refine shapeCast_apply _ _ _ _ ?_
  rw [Shape.rowMajor_val_two, Shape.rowMajor_val_one]
  show d.val = 0 * 4096 + d.val
  omega

/-- The window over `g` holds it. -/
theorem gain_g (c : Dev nD) (d : Fin 4096) : V m c main_v0 (ix2 0 d : S1x4096.Idx) = m ((c : Thread nD τ).loc main_arg1) (ix1 d : S4096.Idx) := by
  have h : V m c main_v0 = shapeCast _ (m ((c : Thread nD τ).loc main_arg1)) shapeCasts_S4096_S1x4096 := rfl
  rw [h]
  exact row_g _ d

/-- The normed and modulated rows over the whole arrays: the scale is chunk 1, the shift chunk 0. -/
def G (x : Vec Ideal S8192x4096 .f32) (g : Vec Ideal S4096 .f32) (q : Vec Ideal S1x24576 .f32) : Vec Ideal S8192x4096 .bf16 := fun i =>
  have h1 : (i 1 : Nat) < 4096 := (i 1).isLt
  x (ix2 (i 0) (i 1)) * Ideal.rsqrt (Ideal.div (∑ k : Fin 4096, x (ix2 (i 0) k) * x (ix2 (i 0) k)) (Ideal.ofBits FTy.f32 0x45800000#32) + Ideal.ofBits FTy.f32 897988541#32)
    * g (ix1 (i 1)) * (1 + q (ix2 0 ⟨4096 + (i 1 : Nat), by omega⟩)) + q (ix2 0 ⟨0 + (i 1 : Nat), by omega⟩)

/-- The payload at an entry. -/
theorem pay_apply (x : Vec Ideal S256x4096 .f32) (g sc sh : Vec Ideal S1x4096 .f32) (r : Fin 256) (j : Fin 4096) :
    k0_pay1 x g sc sh (ix2 r j) = x (ix2 r j) * Ideal.rsqrt (Ideal.div (∑ k : Fin 4096, x (ix2 r k) * x (ix2 r k)) (Ideal.ofBits FTy.f32 0x45800000#32) + Ideal.ofBits FTy.f32 897988541#32)
    * g (ix2 0 j) * (1 + sc (ix2 0 j)) + sh (ix2 0 j) := by
  pointwise [k0_pay1]

/-- What a point writes back to window 4 is its block of the whole-array function. -/
theorem flushed_eq (c : Dev nD) (t : Fin cfg0.N) :
    (dats m 0 c).flushed 4 t = (win0_4.blk t).view.read (Elt Ideal) (G (m ((c : Thread nD τ).loc main_arg0)) (m ((c : Thread nD τ).loc main_arg1)) (m ((c : Thread nD τ).loc main_arg2))) := by
  have hN := lt_N t
  rw [Value.flushed4]
  unfold out0_4
  rw [View.canon_unit_zero hz, View.ld_unit_zero hz, View.ld_unit_zero hz, View.ld_unit_zero hz, View.ld_unit_zero hz]
  funext j
  idx_vars j
  show k0_pay1 (F := Ideal) _ _ _ _ (ix2 j0 j1) = G _ _ _ ((win0_4.blk t).view.emb (ix2 j0 j1))
  rw [emb_o, pay_apply]
  simp only [iblk_x, iblk_g, iblk_sc, iblk_sh]
  rw [gain_g]
  have e2 : (⟨(1) * 4096 + j1, by omega⟩ : Fin 24576) = ⟨4096 + j1.val, by omega⟩ := Fin.ext rfl
  have e3 : (⟨(0) * 4096 + j1, by omega⟩ : Fin 24576) = ⟨0 + j1.val, by omega⟩ := Fin.ext (show (0) * 4096 + j1.val = 0 + j1.val by omega)
  rw [e2, e3]
  rfl

/-- The kernel's result, and its arguments kept. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans
      ((dats m 0 c).arrAt_eq_of_cover 4 _ (fun t _ => flushed_eq m c t) cover_o), (h c).2⟩)
    (Value.run_blocks m ρ)

end Cert.NormIdeal.Whole

namespace Cert.NormRefIdeal.Whole

open Cert.NormRefIdeal Cert.NormRefIdeal.Gen
open Idealize.ShloMosaic Idealize.ShloMosaic.TcCoe Idealize.SL.Sem

/-- The host program's term of its arguments. -/
def host {F : FTy → Type} [FloatOps F] (x : Vec F S8192x4096 .f32) (g : Vec F S4096 .f32) (q : Vec F S1x24576 .f32) : Vec F S8192x4096 .bf16 :=
  truncf .bf16 (addf (mulf (mulf (mulf x (broadcastInDim S8192x4096 ![0, 1] bcast_S8192x1_S8192x4096_0_1 (Host.rsqrt (addf (Host.divf (broadcastInDim S8192x1 ![0] bcast_S8192_S8192x1_0 (Host.reduceAdd (mulf x x) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g))) (broadcastInDim S8192x4096 ![0, 1] bcast_S1x4096_S8192x4096_0_1 (addf (broadcastInDim S1x4096 ![] bcast_S_S1x4096 (constant S_ .f32 0x3F800000#32)) (extractStridedSlice S1x4096 ![0, 4096] q slices_S1x24576_S1x4096_0_4096)))) (broadcastInDim S8192x4096 ![0, 1] bcast_S1x4096_S8192x4096_0_1 (extractStridedSlice S1x4096 ![0, 0] q slices_S1x24576_S1x4096_0_0))) bitsLt_bf16_f32

/-- The host program's result is the same function of its arguments. -/
theorem ref_eq (x : Vec Ideal S8192x4096 .f32) (g : Vec Ideal S4096 .f32) (q : Vec Ideal S1x24576 .f32) :
    host (F := Ideal) x g q = NormIdeal.Whole.G x g q := by
  unfold host
  funext i
  idx_vars i
  pointwise [NormIdeal.Whole.G]

end Cert.NormRefIdeal.Whole

/-! ## The claims -/

namespace Cert.Proof.Norm

open Idealize.ShloMosaic Idealize.ShloMosaic.TcCoe Idealize.SL.Sem

/-- The kernel runs to its end and keeps its arguments. -/
theorem frame : Cert.quiescent_Norm := fun m ρ _ => Cert.Norm.Gen.frame m ρ

/-- So does its idealized form. -/
theorem frameI : Cert.quiescent_NormIdeal := fun m ρ _ => Cert.NormIdeal.Gen.frame m ρ

/-- So does the host program. -/
theorem frameR : Cert.quiescent_NormRefIdeal := fun m ρ _ =>
  (θ_run Cert.NormRefIdeal.defs _ _).mono (fun r h => ⟨fun c => (h c).2,
      Idealize.ShloMosaic.sem_eq_zero_of_no_sems (by decide) r.2⟩)
    (Cert.NormRefIdeal.Value.run (F := Ideal) m ρ)

/-- Nothing was rewritten on the way to the idealized form. -/
theorem preserves : Cert.preserves_Norm_NormIdeal := trivial

/-- The kernel and the host program compute the same function. -/
theorem algebraic : Cert.algebraic_NormIdeal_NormRefIdeal := by
  intro m ρ m' ρ' _ hag
  refine ⟨fun c => Cert.NormIdeal.Whole.G (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)), Cert.NormIdeal.Whole.run m ρ, ?_⟩
  refine (θ_run Cert.NormRefIdeal.defs _ _).mono (fun _ h c => ⟨(h c).1.trans ?_, (h c).2⟩)
    (Cert.NormRefIdeal.Value.run (F := Ideal) m' ρ')
  rw [(hag c).1, (hag c).2.1, (hag c).2.2]
  exact Cert.NormRefIdeal.Whole.ref_eq _ _ _

end Cert.Proof.Norm
-- ==== Proof.Value.Ada.lean ====
/-
  The value of the modulation call: `silu(c) · w + b`.
-/
module

public import proofs.«01_k».proof.Defs
public import proofs.«01_k».proof.Proof.Gen.Ada.Frame
public import proofs.«01_k».proof.Proof.Gen.AdaIdeal.Value
public import proofs.«01_k».proof.Proof.Gen.AdaRefIdeal.Run
public import Idealize.ShloMosaic.Lib.Pipeline.Value
public import Idealize.ShloMosaic.Lib.Quiescent
public import Idealize.ShloMosaic.Lib.Pointwise
public import Idealize.ShloMosaic.Lib.ValueLayout

@[expose] public section

set_option maxRecDepth 16384

noncomputable section

namespace Cert.AdaIdeal.Whole

open Cert.AdaIdeal Cert.AdaIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 48 points. -/
theorem lt_N (t : Fin cfg0.N) : t.val < 48 := by
  have h : cfg0.N = 48 := N_0
  have := t.isLt
  omega

/-- The origin of a two-dimensional block, as a constant function. -/
theorem hz : (![0, 0] : Fin 2 → Nat) = fun _ => 0 := funext fun a => by fin_cases a <;> rfl

/-- The origin of a three-dimensional block, as a constant function. -/
theorem hz3 : (![0, 0, 0] : Fin 3 → Nat) = fun _ => 0 := funext fun a => by fin_cases a <;> rfl

/-- The block index of window 0 at a point. -/
theorem index_c : ∀ t : Fin grid0.N, win0_0.index t 0 = 0 ∧ win0_0.index t 1 = 0 := by
  decide +kernel

/-- The block index of window 1 at a point. -/
theorem index_w : ∀ t : Fin grid0.N, win0_1.index t 0 = 0 ∧ win0_1.index t 1 = t.val := by
  decide +kernel

/-- The block index of window 2 at a point. -/
theorem index_b : ∀ t : Fin grid0.N, win0_2.index t 0 = 0 ∧ win0_2.index t 1 = t.val := by
  decide +kernel

/-- The block index of window 3 at a point. -/
theorem index_o : ∀ t : Fin grid0.N, win0_3.index t 0 = 0 ∧ win0_3.index t 1 = t.val := by
  decide +kernel

/-- The block of window 0 at point `t`, entry by entry. -/
theorem iblk_c (c : Dev nD) (t : Fin cfg0.N) (r : Fin 136) (k : Fin 4096) :
    iblk m c 0 t (ix2 r k : S136x4096.Idx)
      = m ((c : Thread nD τ).loc main_arg0) (ix2 r k : S136x4096.Idx) := by
  show m ((c : Thread nD τ).loc main_arg0) (((cfg0.win 0).blk t).view.emb (ix2 r k : S136x4096.Idx)) = _
  congr 1
  funext a
  apply Fin.ext
  match a with
  | ⟨0, _⟩ => show win0_0.index t 0 * 136 + 1 * r.val = _
              rw [(index_c t).1]
              show (0) * 136 + 1 * r.val = r.val
              omega
  | ⟨1, _⟩ => show win0_0.index t 1 * 4096 + 1 * k.val = _
              rw [(index_c t).2]
              show (0) * 4096 + 1 * k.val = k.val
              omega

/-- The block of window 1 at point `t`, entry by entry. -/
theorem iblk_w (c : Dev nD) (t : Fin cfg0.N) (r : Fin 4096) (k : Fin 512) :
    iblk m c 1 t (ix2 r k : S4096x512.Idx)
      = m ((c : Thread nD τ).loc main_arg1) (ix2 r ⟨(t.val) * 512 + k, by have := lt_N t; omega⟩ : S4096x24576.Idx) := by
  show m ((c : Thread nD τ).loc main_arg1) (((cfg0.win 1).blk t).view.emb (ix2 r k : S4096x512.Idx)) = _
  congr 1
  funext a
  apply Fin.ext
  match a with
  | ⟨0, _⟩ => show win0_1.index t 0 * 4096 + 1 * r.val = _
              rw [(index_w t).1]
              show (0) * 4096 + 1 * r.val = r.val
              omega
  | ⟨1, _⟩ => show win0_1.index t 1 * 512 + 1 * k.val = _
              rw [(index_w t).2]
              show (t.val) * 512 + 1 * k.val = (t.val) * 512 + k.val
              omega

/-- The block of window 2 at point `t`, entry by entry. -/
theorem iblk_b (c : Dev nD) (t : Fin cfg0.N) (r : Fin 1) (k : Fin 512) :
    iblk m c 2 t (ix2 r k : S1x512.Idx)
      = V m c main_v0 (ix2 r ⟨(t.val) * 512 + k, by have := lt_N t; omega⟩ : S1x24576.Idx) := by
  show V m c main_v0 (((cfg0.win 2).blk t).view.emb (ix2 r k : S1x512.Idx)) = _
  congr 1
  funext a
  apply Fin.ext
  match a with
  | ⟨0, _⟩ => show win0_2.index t 0 * 1 + 1 * r.val = _
              rw [(index_b t).1]
              show (0) * 1 + 1 * r.val = r.val
              omega
  | ⟨1, _⟩ => show win0_2.index t 1 * 512 + 1 * k.val = _
              rw [(index_b t).2]
              show (t.val) * 512 + 1 * k.val = (t.val) * 512 + k.val
              omega

/-- Where an entry of point `t`'s block of window 3 lies in the whole array. -/
theorem emb_o (t : Fin cfg0.N) (r : Fin 136) (k : Fin 512) :
    (win0_3.blk t).view.emb (ix2 r k : S136x512.Idx)
      = (ix2 r ⟨(t.val) * 512 + k, by have := lt_N t; omega⟩ : S136x24576.Idx) := by
  funext a
  apply Fin.ext
  match a with
  | ⟨0, _⟩ => show win0_3.index t 0 * 136 + 1 * r.val = _
              rw [(index_o t).1]
              show (0) * 136 + 1 * r.val = r.val
              omega
  | ⟨1, _⟩ => show win0_3.index t 1 * 512 + 1 * k.val = _
              rw [(index_o t).2]
              show (t.val) * 512 + 1 * k.val = (t.val) * 512 + k.val
              omega

/-- An entry lies in point `t`'s block of window 3 exactly when its coordinates do. -/
theorem mem_o (t : Fin cfg0.N) (i : S136x24576.Idx) :
    i ∈ ((cfg0.win 3).blk t).view.set ↔ ((0) * 136 ≤ (i 0 : Nat) ∧ (i 0 : Nat) < (0) * 136 + 136) ∧ ((t.val) * 512 ≤ (i 1 : Nat) ∧ (i 1 : Nat) < (t.val) * 512 + 512) := by
  show i ∈ ((View.whole main_v1).slice (win0_3.rect t)).set ↔ _
  rw [View.set_slice_whole, Rect.mem_set_unit]
  have e0 : win0_3.index t 0 * win0_3.size 0 = (0) * 136 := by rw [(index_o t).1]; rfl
  have e1 : win0_3.index t 1 * win0_3.size 1 = (t.val) * 512 := by rw [(index_o t).2]; rfl
  refine ⟨fun h => ⟨?_, ?_⟩, fun h a => ?_⟩
  · have := h 0
    change win0_3.index t 0 * win0_3.size 0 ≤ (i 0 : Nat) ∧ (i 0 : Nat) < win0_3.index t 0 * win0_3.size 0 + 136 at this
    rwa [e0] at this
  · have := h 1
    change win0_3.index t 1 * win0_3.size 1 ≤ (i 1 : Nat) ∧ (i 1 : Nat) < win0_3.index t 1 * win0_3.size 1 + 512 at this
    rwa [e1] at this
  · match a with
    | ⟨0, _⟩ => show win0_3.index t 0 * win0_3.size 0 ≤ (i 0 : Nat) ∧ (i 0 : Nat) < win0_3.index t 0 * win0_3.size 0 + 136
                rw [e0]; exact h.1
    | ⟨1, _⟩ => show win0_3.index t 1 * win0_3.size 1 ≤ (i 1 : Nat) ∧ (i 1 : Nat) < win0_3.index t 1 * win0_3.size 1 + 512
                rw [e1]; exact h.2

/-- The blocks of window 3 fill the result. -/
theorem cover_o (i : S136x24576.Idx) :
    ∃ t : Fin cfg0.N, (cfg0.win 3).flush t = true ∧ i ∈ ((cfg0.win 3).blk t).view.set := by
  have h0 : (i 0 : Nat) < 136 := (i 0).isLt
  have h1 : (i 1 : Nat) < 24576 := (i 1).isLt
  have hN : cfg0.N = 48 := N_0
  refine ⟨⟨(i 1 : Nat) / 512, by omega⟩, flush0_3 _, ?_⟩
  rw [mem_o]
  dsimp only
  omega

/-- A vector cast to one row, read at an entry. -/
theorem row_b (v : Vec Ideal S24576 .f32) (d : Fin 24576) : shapeCast S1x24576 v shapeCasts_S24576_S1x24576 (ix2 0 d) = v (ix1 d) := by
  refine shapeCast_apply _ _ _ _ ?_
  rw [Shape.rowMajor_val_two, Shape.rowMajor_val_one]
  show d.val = 0 * 24576 + d.val
  omega

/-- The window over `b` holds it. -/
theorem gain_b (c : Dev nD) (d : Fin 24576) : V m c main_v0 (ix2 0 d : S1x24576.Idx) = m ((c : Thread nD τ).loc main_arg2) (ix1 d : S24576.Idx) := by
  have h : V m c main_v0 = shapeCast _ (m ((c : Thread nD τ).loc main_arg2)) shapeCasts_S24576_S1x24576 := rfl
  rw [h]
  exact row_b _ d

/-- `silu(x) · w + b` over the whole arrays. -/
def G (x : Vec Ideal S136x4096 .f32) (w : Vec Ideal S4096x24576 .f32) (b : Vec Ideal S24576 .f32) : Vec Ideal S136x24576 .f32 := fun i =>
  (∑ k : Fin 4096, x (ix2 (i 0) k) * Ideal.logistic (x (ix2 (i 0) k)) * w (ix2 k (i 1))) + b (ix1 (i 1))

/-- The payload at an entry. -/
theorem pay_apply (x : Vec Ideal S136x4096 .f32) (w : Vec Ideal S4096x512 .f32) (b : Vec Ideal S1x512 .f32) (r : Fin 136) (j : Fin 512) :
    k0_pay1 x w b (ix2 r j) = (∑ k : Fin 4096, x (ix2 r k) * Ideal.logistic (x (ix2 r k)) * w (ix2 k j)) + b (ix2 0 j) := by
  pointwise [k0_pay1]

/-- What a point writes back to window 3 is its block of the whole-array function. -/
theorem flushed_eq (c : Dev nD) (t : Fin cfg0.N) :
    (dats m 0 c).flushed 3 t = (win0_3.blk t).view.read (Elt Ideal) (G (m ((c : Thread nD τ).loc main_arg0)) (m ((c : Thread nD τ).loc main_arg1)) (m ((c : Thread nD τ).loc main_arg2))) := by
  have hN := lt_N t
  rw [Value.flushed3]
  unfold out0_3
  rw [View.canon_unit_zero hz, View.ld_unit_zero hz, View.ld_unit_zero hz, View.ld_unit_zero hz]
  funext j
  idx_vars j
  show k0_pay1 (F := Ideal) _ _ _ (ix2 j0 j1) = G _ _ _ ((win0_3.blk t).view.emb (ix2 j0 j1))
  rw [emb_o, pay_apply]
  simp only [iblk_c, iblk_w, iblk_b]
  rw [gain_b]
  rfl

/-- The kernel's result, and its arguments kept. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans
      ((dats m 0 c).arrAt_eq_of_cover 3 _ (fun t _ => flushed_eq m c t) cover_o), (h c).2⟩)
    (Value.run_blocks m ρ)

end Cert.AdaIdeal.Whole

namespace Cert.AdaRefIdeal.Whole

open Cert.AdaRefIdeal Cert.AdaRefIdeal.Gen
open Idealize.ShloMosaic Idealize.ShloMosaic.TcCoe Idealize.SL.Sem

/-- The host program's term of its arguments. -/
def host {F : FTy → Type} [FloatOps F] (x : Vec F S136x4096 .f32) (w : Vec F S4096x24576 .f32) (b : Vec F S24576 .f32) : Vec F S136x24576 .f32 :=
  addf (Host.dotGeneral dot_S136x4096_S4096x24576_S136x24576_1_0_0_1_n_n none (mulf x (Host.divf (broadcastInDim S136x4096 ![] bcast_S_S136x4096 (constant S_ .f32 0x3F800000#32)) (addf (broadcastInDim S136x4096 ![] bcast_S_S136x4096 (constant S_ .f32 0x3F800000#32)) (Host.exp (Host.negf x))))) w) (broadcastInDim S136x24576 ![0, 1] bcast_S1x24576_S136x24576_0_1 (broadcastInDim S1x24576 ![1] bcast_S24576_S1x24576_1 b))

/-- The host program's result is the same function of its arguments. -/
theorem ref_eq (x : Vec Ideal S136x4096 .f32) (w : Vec Ideal S4096x24576 .f32) (b : Vec Ideal S24576 .f32) :
    host (F := Ideal) x w b = AdaIdeal.Whole.G x w b := by
  unfold host
  funext i
  idx_vars i
  pointwise [AdaIdeal.Whole.G, Ideal.logistic]

end Cert.AdaRefIdeal.Whole

/-! ## The claims -/

namespace Cert.Proof.Ada

open Idealize.ShloMosaic Idealize.ShloMosaic.TcCoe Idealize.SL.Sem

/-- The kernel runs to its end and keeps its arguments. -/
theorem frame : Cert.quiescent_Ada := fun m ρ _ => Cert.Ada.Gen.frame m ρ

/-- So does its idealized form. -/
theorem frameI : Cert.quiescent_AdaIdeal := fun m ρ _ => Cert.AdaIdeal.Gen.frame m ρ

/-- So does the host program. -/
theorem frameR : Cert.quiescent_AdaRefIdeal := fun m ρ _ =>
  (θ_run Cert.AdaRefIdeal.defs _ _).mono (fun r h => ⟨fun c => (h c).2,
      Idealize.ShloMosaic.sem_eq_zero_of_no_sems (by decide) r.2⟩)
    (Cert.AdaRefIdeal.Value.run (F := Ideal) m ρ)

/-- Nothing was rewritten on the way to the idealized form. -/
theorem preserves : Cert.preserves_Ada_AdaIdeal := trivial

/-- The kernel and the host program compute the same function. -/
theorem algebraic : Cert.algebraic_AdaIdeal_AdaRefIdeal := by
  intro m ρ m' ρ' _ hag
  refine ⟨fun c => Cert.AdaIdeal.Whole.G (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)), Cert.AdaIdeal.Whole.run m ρ, ?_⟩
  refine (θ_run Cert.AdaRefIdeal.defs _ _).mono (fun _ h c => ⟨(h c).1.trans ?_, (h c).2⟩)
    (Cert.AdaRefIdeal.Value.run (F := Ideal) m' ρ')
  rw [(hag c).1, (hag c).2.1, (hag c).2.2]
  exact Cert.AdaRefIdeal.Whole.ref_eq _ _ _

end Cert.Proof.Ada
-- ==== Proof.Value.S5X.lean ====
/-
  The value of the input step of the recurrence: each pair of chunks times its matrix, real and imaginary halves
  in two arrays.
-/
module

public import proofs.«01_k».proof.Defs
public import proofs.«01_k».proof.Proof.Gen.S5X.Frame
public import proofs.«01_k».proof.Proof.Gen.S5XIdeal.Value
public import proofs.«01_k».proof.Proof.Gen.S5XRefIdeal.Run
public import Idealize.ShloMosaic.Lib.Pipeline.Value
public import Idealize.ShloMosaic.Lib.Quiescent
public import Idealize.ShloMosaic.Lib.Pointwise
public import Idealize.ShloMosaic.Lib.ValueLayout

@[expose] public section

set_option maxRecDepth 16384

noncomputable section

namespace Cert.S5XIdeal.Whole

open Cert.S5XIdeal Cert.S5XIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 64 points. -/
theorem lt_N (t : Fin cfg0.N) : t.val < 64 := by
  have h : cfg0.N = 64 := N_0
  have := t.isLt
  omega

/-- The origin of a two-dimensional block, as a constant function. -/
theorem hz : (![0, 0] : Fin 2 → Nat) = fun _ => 0 := funext fun a => by fin_cases a <;> rfl

/-- The origin of a three-dimensional block, as a constant function. -/
theorem hz3 : (![0, 0, 0] : Fin 3 → Nat) = fun _ => 0 := funext fun a => by fin_cases a <;> rfl

/-- The block index of window 0 at a point. -/
theorem index_u : ∀ t : Fin grid0.N, win0_0.index t 0 = t.val ∧ win0_0.index t 1 = 0 ∧ win0_0.index t 2 = 0 := by
  decide +kernel

/-- The block index of window 1 at a point. -/
theorem index_w : ∀ t : Fin grid0.N, win0_1.index t 0 = t.val ∧ win0_1.index t 1 = 0 ∧ win0_1.index t 2 = 0 := by
  decide +kernel

/-- The block index of window 2 at a point. -/
theorem index_o : ∀ t : Fin grid0.N, win0_2.index t 0 = 0 ∧ win0_2.index t 1 = t.val := by
  decide +kernel

/-- The block index of window 3 at a point. -/
theorem index_p : ∀ t : Fin grid0.N, win0_3.index t 0 = 0 ∧ win0_3.index t 1 = t.val := by
  decide +kernel

/-- The block of window 0 at point `t`, entry by entry. -/
theorem iblk_u (c : Dev nD) (t : Fin cfg0.N) (r : Fin 1) (k : Fin 1024) (l : Fin 256) :
    iblk m c 0 t (ix3 r k l : S1x1024x256.Idx)
      = m ((c : Thread nD τ).loc main_arg0) (ix3 ⟨(t.val) * 1 + r, by have := lt_N t; omega⟩ k l : S64x1024x256.Idx) := by
  show m ((c : Thread nD τ).loc main_arg0) (((cfg0.win 0).blk t).view.emb (ix3 r k l : S1x1024x256.Idx)) = _
  congr 1
  funext a
  apply Fin.ext
  match a with
  | ⟨0, _⟩ => show win0_0.index t 0 * 1 + 1 * r.val = _
              rw [(index_u t).1]
              show (t.val) * 1 + 1 * r.val = (t.val) * 1 + r.val
              omega
  | ⟨1, _⟩ => show win0_0.index t 1 * 1024 + 1 * k.val = _
              rw [(index_u t).2.1]
              show (0) * 1024 + 1 * k.val = k.val
              omega
  | ⟨2, _⟩ => show win0_0.index t 2 * 256 + 1 * l.val = _
              rw [(index_u t).2.2]
              show (0) * 256 + 1 * l.val = l.val
              omega

/-- The block of window 1 at point `t`, entry by entry. -/
theorem iblk_w (c : Dev nD) (t : Fin cfg0.N) (r : Fin 1) (k : Fin 256) (l : Fin 256) :
    iblk m c 1 t (ix3 r k l : S1x256x256.Idx)
      = m ((c : Thread nD τ).loc main_arg1) (ix3 ⟨(t.val) * 1 + r, by have := lt_N t; omega⟩ k l : S64x256x256.Idx) := by
  show m ((c : Thread nD τ).loc main_arg1) (((cfg0.win 1).blk t).view.emb (ix3 r k l : S1x256x256.Idx)) = _
  congr 1
  funext a
  apply Fin.ext
  match a with
  | ⟨0, _⟩ => show win0_1.index t 0 * 1 + 1 * r.val = _
              rw [(index_w t).1]
              show (t.val) * 1 + 1 * r.val = (t.val) * 1 + r.val
              omega
  | ⟨1, _⟩ => show win0_1.index t 1 * 256 + 1 * k.val = _
              rw [(index_w t).2.1]
              show (0) * 256 + 1 * k.val = k.val
              omega
  | ⟨2, _⟩ => show win0_1.index t 2 * 256 + 1 * l.val = _
              rw [(index_w t).2.2]
              show (0) * 256 + 1 * l.val = l.val
              omega

/-- Where an entry of point `t`'s block of window 2 lies in the whole array. -/
theorem emb_o (t : Fin cfg0.N) (r : Fin 1024) (k : Fin 128) :
    (win0_2.blk t).view.emb (ix2 r k : S1024x128.Idx)
      = (ix2 r ⟨(t.val) * 128 + k, by have := lt_N t; omega⟩ : S1024x8192.Idx) := by
  funext a
  apply Fin.ext
  match a with
  | ⟨0, _⟩ => show win0_2.index t 0 * 1024 + 1 * r.val = _
              rw [(index_o t).1]
              show (0) * 1024 + 1 * r.val = r.val
              omega
  | ⟨1, _⟩ => show win0_2.index t 1 * 128 + 1 * k.val = _
              rw [(index_o t).2]
              show (t.val) * 128 + 1 * k.val = (t.val) * 128 + k.val
              omega

/-- An entry lies in point `t`'s block of window 2 exactly when its coordinates do. -/
theorem mem_o (t : Fin cfg0.N) (i : S1024x8192.Idx) :
    i ∈ ((cfg0.win 2).blk t).view.set ↔ ((0) * 1024 ≤ (i 0 : Nat) ∧ (i 0 : Nat) < (0) * 1024 + 1024) ∧ ((t.val) * 128 ≤ (i 1 : Nat) ∧ (i 1 : Nat) < (t.val) * 128 + 128) := by
  show i ∈ ((View.whole main_v0_0).slice (win0_2.rect t)).set ↔ _
  rw [View.set_slice_whole, Rect.mem_set_unit]
  have e0 : win0_2.index t 0 * win0_2.size 0 = (0) * 1024 := by rw [(index_o t).1]; rfl
  have e1 : win0_2.index t 1 * win0_2.size 1 = (t.val) * 128 := by rw [(index_o t).2]; rfl
  refine ⟨fun h => ⟨?_, ?_⟩, fun h a => ?_⟩
  · have := h 0
    change win0_2.index t 0 * win0_2.size 0 ≤ (i 0 : Nat) ∧ (i 0 : Nat) < win0_2.index t 0 * win0_2.size 0 + 1024 at this
    rwa [e0] at this
  · have := h 1
    change win0_2.index t 1 * win0_2.size 1 ≤ (i 1 : Nat) ∧ (i 1 : Nat) < win0_2.index t 1 * win0_2.size 1 + 128 at this
    rwa [e1] at this
  · match a with
    | ⟨0, _⟩ => show win0_2.index t 0 * win0_2.size 0 ≤ (i 0 : Nat) ∧ (i 0 : Nat) < win0_2.index t 0 * win0_2.size 0 + 1024
                rw [e0]; exact h.1
    | ⟨1, _⟩ => show win0_2.index t 1 * win0_2.size 1 ≤ (i 1 : Nat) ∧ (i 1 : Nat) < win0_2.index t 1 * win0_2.size 1 + 128
                rw [e1]; exact h.2

/-- The blocks of window 2 fill the result. -/
theorem cover_o (i : S1024x8192.Idx) :
    ∃ t : Fin cfg0.N, (cfg0.win 2).flush t = true ∧ i ∈ ((cfg0.win 2).blk t).view.set := by
  have h0 : (i 0 : Nat) < 1024 := (i 0).isLt
  have h1 : (i 1 : Nat) < 8192 := (i 1).isLt
  have hN : cfg0.N = 64 := N_0
  refine ⟨⟨(i 1 : Nat) / 128, by omega⟩, flush0_2 _, ?_⟩
  rw [mem_o]
  dsimp only
  omega

/-- Where an entry of point `t`'s block of window 3 lies in the whole array. -/
theorem emb_p (t : Fin cfg0.N) (r : Fin 1024) (k : Fin 128) :
    (win0_3.blk t).view.emb (ix2 r k : S1024x128.Idx)
      = (ix2 r ⟨(t.val) * 128 + k, by have := lt_N t; omega⟩ : S1024x8192.Idx) := by
  funext a
  apply Fin.ext
  match a with
  | ⟨0, _⟩ => show win0_3.index t 0 * 1024 + 1 * r.val = _
              rw [(index_p t).1]
              show (0) * 1024 + 1 * r.val = r.val
              omega
  | ⟨1, _⟩ => show win0_3.index t 1 * 128 + 1 * k.val = _
              rw [(index_p t).2]
              show (t.val) * 128 + 1 * k.val = (t.val) * 128 + k.val
              omega

/-- An entry lies in point `t`'s block of window 3 exactly when its coordinates do. -/
theorem mem_p (t : Fin cfg0.N) (i : S1024x8192.Idx) :
    i ∈ ((cfg0.win 3).blk t).view.set ↔ ((0) * 1024 ≤ (i 0 : Nat) ∧ (i 0 : Nat) < (0) * 1024 + 1024) ∧ ((t.val) * 128 ≤ (i 1 : Nat) ∧ (i 1 : Nat) < (t.val) * 128 + 128) := by
  show i ∈ ((View.whole main_v0_1).slice (win0_3.rect t)).set ↔ _
  rw [View.set_slice_whole, Rect.mem_set_unit]
  have e0 : win0_3.index t 0 * win0_3.size 0 = (0) * 1024 := by rw [(index_p t).1]; rfl
  have e1 : win0_3.index t 1 * win0_3.size 1 = (t.val) * 128 := by rw [(index_p t).2]; rfl
  refine ⟨fun h => ⟨?_, ?_⟩, fun h a => ?_⟩
  · have := h 0
    change win0_3.index t 0 * win0_3.size 0 ≤ (i 0 : Nat) ∧ (i 0 : Nat) < win0_3.index t 0 * win0_3.size 0 + 1024 at this
    rwa [e0] at this
  · have := h 1
    change win0_3.index t 1 * win0_3.size 1 ≤ (i 1 : Nat) ∧ (i 1 : Nat) < win0_3.index t 1 * win0_3.size 1 + 128 at this
    rwa [e1] at this
  · match a with
    | ⟨0, _⟩ => show win0_3.index t 0 * win0_3.size 0 ≤ (i 0 : Nat) ∧ (i 0 : Nat) < win0_3.index t 0 * win0_3.size 0 + 1024
                rw [e0]; exact h.1
    | ⟨1, _⟩ => show win0_3.index t 1 * win0_3.size 1 ≤ (i 1 : Nat) ∧ (i 1 : Nat) < win0_3.index t 1 * win0_3.size 1 + 128
                rw [e1]; exact h.2

/-- The blocks of window 3 fill the result. -/
theorem cover_p (i : S1024x8192.Idx) :
    ∃ t : Fin cfg0.N, (cfg0.win 3).flush t = true ∧ i ∈ ((cfg0.win 3).blk t).view.set := by
  have h0 : (i 0 : Nat) < 1024 := (i 0).isLt
  have h1 : (i 1 : Nat) < 8192 := (i 1).isLt
  have hN : cfg0.N = 64 := N_0
  refine ⟨⟨(i 1 : Nat) / 128, by omega⟩, flush0_3 _, ?_⟩
  rw [mem_p]
  dsimp only
  omega

/-- The product of a pair of chunks with its matrix, column `e * 128 + d` of the matrix of group `q`. -/
def X (u : Vec Ideal S64x1024x256 .f32) (w : Vec Ideal S64x256x256 .bf16) (r : Fin 1024) (q : Fin 64) (j : Fin 256) : EReal :=
  ∑ k : Fin 256, u (ix3 q r k) * w (ix3 q k j)

/-- The real parts. -/
def G (u : Vec Ideal S64x1024x256 .f32) (w : Vec Ideal S64x256x256 .bf16) : Vec Ideal S1024x8192 .f32 := fun i =>
  have h1 : (i 1 : Nat) < 8192 := (i 1).isLt
  X u w (i 0) ⟨(i 1 : Nat) / 128, by omega⟩ ⟨(i 1 : Nat) % 128, by omega⟩

/-- The imaginary parts. -/
def GI (u : Vec Ideal S64x1024x256 .f32) (w : Vec Ideal S64x256x256 .bf16) : Vec Ideal S1024x8192 .f32 := fun i =>
  have h1 : (i 1 : Nat) < 8192 := (i 1).isLt
  X u w (i 0) ⟨(i 1 : Nat) / 128, by omega⟩ ⟨128 + (i 1 : Nat) % 128, by omega⟩

/-- The left payload at an entry. -/
theorem pay2_apply (u : Vec Ideal S1x1024x256 .f32) (w : Vec Ideal S1x256x256 .bf16) (r : Fin 1024) (d : Fin 128) :
    k0_pay2 u w (ix2 r d) = ∑ k : Fin 256, u (ix3 0 r k) * w (ix3 0 k ⟨d.val, by omega⟩) := by
  pointwise [k0_pay2, k0_pay1]

/-- The right payload at an entry. -/
theorem pay3_apply (u : Vec Ideal S1x1024x256 .f32) (w : Vec Ideal S1x256x256 .bf16) (r : Fin 1024) (d : Fin 128) :
    k0_pay3 u w (ix2 r d) = ∑ k : Fin 256, u (ix3 0 r k) * w (ix3 0 k ⟨128 + d.val, by omega⟩) := by
  pointwise [k0_pay3, k0_pay1]

/-- A real part at an entry. -/
theorem G_apply (u : Vec Ideal S64x1024x256 .f32) (w : Vec Ideal S64x256x256 .bf16) (r : Fin 1024) (j : Fin 8192) (q : Fin 64) (d : Fin 128) (h : j.val = q.val * 128 + d.val) :
    G u w (ix2 r j) = X u w r q ⟨d.val, by omega⟩ := by
  show X u w r _ _ = _
  exact congrArg₂ (X u w r) (Fin.ext (by show j.val / 128 = q.val; omega)) (Fin.ext (by show j.val % 128 = d.val; omega))

/-- An imaginary part at an entry. -/
theorem GI_apply (u : Vec Ideal S64x1024x256 .f32) (w : Vec Ideal S64x256x256 .bf16) (r : Fin 1024) (j : Fin 8192) (q : Fin 64) (d : Fin 128) (h : j.val = q.val * 128 + d.val) :
    GI u w (ix2 r j) = X u w r q ⟨128 + d.val, by omega⟩ := by
  show X u w r _ _ = _
  exact congrArg₂ (X u w r) (Fin.ext (by show j.val / 128 = q.val; omega)) (Fin.ext (by show 128 + j.val % 128 = 128 + d.val; omega))

/-- What a point writes back to window 2 is its block of the whole-array function. -/
theorem flushed_eq (c : Dev nD) (t : Fin cfg0.N) :
    (dats m 0 c).flushed 2 t = (win0_2.blk t).view.read (Elt Ideal) (G (m ((c : Thread nD τ).loc main_arg0)) (m ((c : Thread nD τ).loc main_arg1))) := by
  have hN := lt_N t
  rw [Value.flushed2]
  unfold out0_2
  rw [View.canon_unit_zero hz, View.ld_unit_zero hz3, View.ld_unit_zero hz3]
  funext j
  idx_vars j
  show k0_pay2 (F := Ideal) _ _ (ix2 j0 j1) = G _ _ ((win0_2.blk t).view.emb (ix2 j0 j1))
  rw [emb_o, pay2_apply]
  simp only [iblk_u, iblk_w]
  rw [G_apply _ _ _ _ ⟨t.val * 1 + ((0 : Fin 1) : Nat), by show t.val * 1 + 0 < 64; omega⟩ j1 (by show t.val * 128 + j1.val = (t.val * 1 + 0) * 128 + j1.val; omega)]
  rfl

/-- What a point writes back to window 3 is its block of the whole-array function. -/
theorem flushed_eqI (c : Dev nD) (t : Fin cfg0.N) :
    (dats m 0 c).flushed 3 t = (win0_3.blk t).view.read (Elt Ideal) (GI (m ((c : Thread nD τ).loc main_arg0)) (m ((c : Thread nD τ).loc main_arg1))) := by
  have hN := lt_N t
  rw [Value.flushed3]
  unfold out0_3
  rw [View.canon_unit_zero hz, View.ld_unit_zero hz3, View.ld_unit_zero hz3]
  funext j
  idx_vars j
  show k0_pay3 (F := Ideal) _ _ (ix2 j0 j1) = GI _ _ ((win0_3.blk t).view.emb (ix2 j0 j1))
  rw [emb_p, pay3_apply]
  simp only [iblk_u, iblk_w]
  rw [GI_apply _ _ _ _ ⟨t.val * 1 + ((0 : Fin 1) : Nat), by show t.val * 1 + 0 < 64; omega⟩ j1 (by show t.val * 128 + j1.val = (t.val * 1 + 0) * 128 + j1.val; omega)]
  rfl

/-- The kernel's results, and its arguments kept. -/
theorem run : θ_run defs (onTc (τ := τ) (main (F := Ideal))) ⟨m, fun _ => 0, ρ⟩ fun r => ∀ c : Dev nD,
      r.2.mem ((c : Thread nD τ).loc main_v0_0) = G (m ((c : Thread nD τ).loc main_arg0)) (m ((c : Thread nD τ).loc main_arg1))
      ∧ r.2.mem ((c : Thread nD τ).loc main_v0_1) = GI (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans
      ((dats m 0 c).arrAt_eq_of_cover 2 _ (fun t _ => flushed_eq m c t) cover_o),
      (h c).2.1.trans ((dats m 0 c).arrAt_eq_of_cover 3 _ (fun t _ => flushed_eqI m c t) cover_p), (h c).2.2⟩)
    (Value.run_blocks m ρ)

end Cert.S5XIdeal.Whole

namespace Cert.S5XRefIdeal.Whole

open Cert.S5XRefIdeal Cert.S5XRefIdeal.Gen
open Idealize.ShloMosaic Idealize.ShloMosaic.TcCoe Idealize.SL.Sem

/-- The host program's term of its arguments. -/
def host {F : FTy → Type} [FloatOps F] (u : Vec F S64x1024x256 .f32) (w : Vec F S64x256x256 .bf16) : Vec F S1024x8192 .f32 :=
  shapeCast _ (extractStridedSlice S1024x64x128 ![0, 0, 0] (transpose S1024x64x256 [2, 0, 1] (Host.dotGeneral dot_S64x256x256_S64x1024x256_S64x256x1024_1_2_2_1_0_0 none (extf .f32 w bitsLt_bf16_f32) u) transposes_S64x256x1024_S1024x64x256_2_0_1) slices_S1024x64x256_S1024x64x128_0_0_0) shapeCasts_S1024x64x128_S1024x8192

/-- The host program's result is the same function of its arguments. -/
theorem ref_eq (u : Vec Ideal S64x1024x256 .f32) (w : Vec Ideal S64x256x256 .bf16) :
    host (F := Ideal) u w = S5XIdeal.Whole.G u w := by
  unfold host
  funext i
  idx_vars i
  refine (shapeCast_apply _ _ (ix2 i0 i1 : S1024x8192.Idx) (ix3 i0 ⟨i1.val / 128, by omega⟩ ⟨i1.val % 128, by omega⟩ : S1024x64x128.Idx) ?_).trans ?_
  · rw [Shape.rowMajor_val_three, Shape.rowMajor_val_two]
    show (i0.val * 64 + i1.val / 128) * 128 + i1.val % 128 = i0.val * 8192 + i1.val
    omega
  pointwise [S5XIdeal.Whole.G, S5XIdeal.Whole.X]
  exact Finset.sum_congr rfl fun _ _ => mul_comm _ _

/-- The host program's term of its arguments. -/
def hostI {F : FTy → Type} [FloatOps F] (u : Vec F S64x1024x256 .f32) (w : Vec F S64x256x256 .bf16) : Vec F S1024x8192 .f32 :=
  shapeCast _ (extractStridedSlice S1024x64x128 ![0, 0, 128] (transpose S1024x64x256 [2, 0, 1] (Host.dotGeneral dot_S64x256x256_S64x1024x256_S64x256x1024_1_2_2_1_0_0 none (extf .f32 w bitsLt_bf16_f32) u) transposes_S64x256x1024_S1024x64x256_2_0_1) slices_S1024x64x256_S1024x64x128_0_0_128) shapeCasts_S1024x64x128_S1024x8192

/-- The host program's result is the same function of its arguments. -/
theorem ref_eqI (u : Vec Ideal S64x1024x256 .f32) (w : Vec Ideal S64x256x256 .bf16) :
    hostI (F := Ideal) u w = S5XIdeal.Whole.GI u w := by
  unfold hostI
  funext i
  idx_vars i
  refine (shapeCast_apply _ _ (ix2 i0 i1 : S1024x8192.Idx) (ix3 i0 ⟨i1.val / 128, by omega⟩ ⟨i1.val % 128, by omega⟩ : S1024x64x128.Idx) ?_).trans ?_
  · rw [Shape.rowMajor_val_three, Shape.rowMajor_val_two]
    show (i0.val * 64 + i1.val / 128) * 128 + i1.val % 128 = i0.val * 8192 + i1.val
    omega
  pointwise [S5XIdeal.Whole.GI, S5XIdeal.Whole.X]
  exact Finset.sum_congr rfl fun _ _ => mul_comm _ _

end Cert.S5XRefIdeal.Whole

/-! ## The claims -/

namespace Cert.Proof.S5X

open Idealize.ShloMosaic Idealize.ShloMosaic.TcCoe Idealize.SL.Sem

/-- The kernel runs to its end and keeps its arguments. -/
theorem frame : Cert.quiescent_S5X := fun m ρ _ => Cert.S5X.Gen.frame m ρ

/-- So does its idealized form. -/
theorem frameI : Cert.quiescent_S5XIdeal := fun m ρ _ => Cert.S5XIdeal.Gen.frame m ρ

/-- So does the host program. -/
theorem frameR : Cert.quiescent_S5XRefIdeal := fun m ρ _ =>
  (θ_run Cert.S5XRefIdeal.defs _ _).mono (fun r h => ⟨fun c => (h c).2.2,
      Idealize.ShloMosaic.sem_eq_zero_of_no_sems (by decide) r.2⟩)
    (Cert.S5XRefIdeal.Value.run (F := Ideal) m ρ)

/-- Nothing was rewritten on the way to the idealized form. -/
theorem preserves : Cert.preserves_S5X_S5XIdeal := trivial

/-- The kernel and the host program compute the same function. -/
theorem algebraic : Cert.algebraic_S5XIdeal_S5XRefIdeal := by
  intro m ρ m' ρ' _ hag
  refine ⟨fun c => Cert.S5XIdeal.Whole.G (m ((c.tc : Thread Cert.S5XIdeal.nD Cert.S5XIdeal.τ).loc Cert.S5XIdeal.main_arg0)) (m ((c.tc : Thread Cert.S5XIdeal.nD Cert.S5XIdeal.τ).loc Cert.S5XIdeal.main_arg1)),
    fun c => Cert.S5XIdeal.Whole.GI (m ((c.tc : Thread Cert.S5XIdeal.nD Cert.S5XIdeal.τ).loc Cert.S5XIdeal.main_arg0)) (m ((c.tc : Thread Cert.S5XIdeal.nD Cert.S5XIdeal.τ).loc Cert.S5XIdeal.main_arg1)), Cert.S5XIdeal.Whole.run m ρ, ?_⟩
  refine (θ_run Cert.S5XRefIdeal.defs _ _).mono (fun _ h c => ⟨(h c).1.trans ?_, (h c).2.1.trans ?_, (h c).2.2⟩)
    (Cert.S5XRefIdeal.Value.run (F := Ideal) m' ρ')
  · rw [(hag c).1, (hag c).2]
    exact Cert.S5XRefIdeal.Whole.ref_eq _ _
  · rw [(hag c).1, (hag c).2]
    exact Cert.S5XRefIdeal.Whole.ref_eqI _ _

end Cert.Proof.S5X
-- ==== Proof.Value.InProjS.lean ====
/-
  The value of the input projection at the rows of the sample: `a · w`, the query and key heads normalised by their root mean square, the values
  and the S5 input left as they are.
-/
module

public import proofs.«01_k».proof.Defs
public import proofs.«01_k».proof.Proof.Gen.InProjS.Frame
public import proofs.«01_k».proof.Proof.Gen.InProjSIdeal.Value
public import proofs.«01_k».proof.Proof.Gen.InProjSRefIdeal.Run
public import Idealize.ShloMosaic.Lib.Pipeline.Value
public import Idealize.ShloMosaic.Lib.Quiescent
public import Idealize.ShloMosaic.Lib.Pointwise
public import Idealize.ShloMosaic.Lib.ValueLayout

@[expose] public section

set_option maxRecDepth 16384

noncomputable section

namespace Cert.InProjSIdeal.Whole

open Cert.InProjSIdeal Cert.InProjSIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 16 points. -/
theorem lt_N (t : Fin cfg0.N) : t.val < 16 := by
  have h : cfg0.N = 16 := N_0
  have := t.isLt
  omega

/-- The origin of a two-dimensional block, as a constant function. -/
theorem hz : (![0, 0] : Fin 2 → Nat) = fun _ => 0 := funext fun a => by fin_cases a <;> rfl

/-- The origin of a three-dimensional block, as a constant function. -/
theorem hz3 : (![0, 0, 0] : Fin 3 → Nat) = fun _ => 0 := funext fun a => by fin_cases a <;> rfl

/-- The block index of window 0 at a point. -/
theorem index_a : ∀ t : Fin grid0.N, win0_0.index t 0 = t.val / 16 ∧ win0_0.index t 1 = 0 := by
  decide +kernel

/-- The block index of window 1 at a point. -/
theorem index_w : ∀ t : Fin grid0.N, win0_1.index t 0 = 0 ∧ win0_1.index t 1 = t.val % 16 := by
  decide +kernel

/-- The block index of window 2 at a point. -/
theorem index_gq : ∀ t : Fin grid0.N, win0_2.index t 0 = 0 ∧ win0_2.index t 1 = 0 := by
  decide +kernel

/-- The block index of window 3 at a point. -/
theorem index_gk : ∀ t : Fin grid0.N, win0_3.index t 0 = 0 ∧ win0_3.index t 1 = 0 := by
  decide +kernel

/-- The block index of window 4 at a point. -/
theorem index_o : ∀ t : Fin grid0.N, win0_4.index t 0 = t.val / 16 ∧ win0_4.index t 1 = t.val % 16 := by
  decide +kernel

/-- The block of window 0 at point `t`, entry by entry. -/
theorem iblk_a (c : Dev nD) (t : Fin cfg0.N) (r : Fin 1024) (k : Fin 4096) :
    iblk m c 0 t (ix2 r k : S1024x4096.Idx)
      = m ((c : Thread nD τ).loc main_arg0) (ix2 ⟨(t.val / 16) * 1024 + r, by have := lt_N t; omega⟩ k : S1024x4096.Idx) := by
  show m ((c : Thread nD τ).loc main_arg0) (((cfg0.win 0).blk t).view.emb (ix2 r k : S1024x4096.Idx)) = _
  congr 1
  funext a
  apply Fin.ext
  match a with
  | ⟨0, _⟩ => show win0_0.index t 0 * 1024 + 1 * r.val = _
              rw [(index_a t).1]
              show (t.val / 16) * 1024 + 1 * r.val = (t.val / 16) * 1024 + r.val
              omega
  | ⟨1, _⟩ => show win0_0.index t 1 * 4096 + 1 * k.val = _
              rw [(index_a t).2]
              show (0) * 4096 + 1 * k.val = k.val
              omega

/-- The block of window 1 at point `t`, entry by entry. -/
theorem iblk_w (c : Dev nD) (t : Fin cfg0.N) (r : Fin 4096) (k : Fin 512) :
    iblk m c 1 t (ix2 r k : S4096x512.Idx)
      = m ((c : Thread nD τ).loc main_arg1) (ix2 r ⟨(t.val % 16) * 512 + k, by have := lt_N t; omega⟩ : S4096x8192.Idx) := by
  show m ((c : Thread nD τ).loc main_arg1) (((cfg0.win 1).blk t).view.emb (ix2 r k : S4096x512.Idx)) = _
  congr 1
  funext a
  apply Fin.ext
  match a with
  | ⟨0, _⟩ => show win0_1.index t 0 * 4096 + 1 * r.val = _
              rw [(index_w t).1]
              show (0) * 4096 + 1 * r.val = r.val
              omega
  | ⟨1, _⟩ => show win0_1.index t 1 * 512 + 1 * k.val = _
              rw [(index_w t).2]
              show (t.val % 16) * 512 + 1 * k.val = (t.val % 16) * 512 + k.val
              omega

/-- The block of window 2 at point `t`, entry by entry. -/
theorem iblk_gq (c : Dev nD) (t : Fin cfg0.N) (r : Fin 1) (k : Fin 128) :
    iblk m c 2 t (ix2 r k : S1x128.Idx)
      = V m c main_v0 (ix2 r k : S1x128.Idx) := by
  show V m c main_v0 (((cfg0.win 2).blk t).view.emb (ix2 r k : S1x128.Idx)) = _
  congr 1
  funext a
  apply Fin.ext
  match a with
  | ⟨0, _⟩ => show win0_2.index t 0 * 1 + 1 * r.val = _
              rw [(index_gq t).1]
              show (0) * 1 + 1 * r.val = r.val
              omega
  | ⟨1, _⟩ => show win0_2.index t 1 * 128 + 1 * k.val = _
              rw [(index_gq t).2]
              show (0) * 128 + 1 * k.val = k.val
              omega

/-- The block of window 3 at point `t`, entry by entry. -/
theorem iblk_gk (c : Dev nD) (t : Fin cfg0.N) (r : Fin 1) (k : Fin 128) :
    iblk m c 3 t (ix2 r k : S1x128.Idx)
      = V m c main_v1 (ix2 r k : S1x128.Idx) := by
  show V m c main_v1 (((cfg0.win 3).blk t).view.emb (ix2 r k : S1x128.Idx)) = _
  congr 1
  funext a
  apply Fin.ext
  match a with
  | ⟨0, _⟩ => show win0_3.index t 0 * 1 + 1 * r.val = _
              rw [(index_gk t).1]
              show (0) * 1 + 1 * r.val = r.val
              omega
  | ⟨1, _⟩ => show win0_3.index t 1 * 128 + 1 * k.val = _
              rw [(index_gk t).2]
              show (0) * 128 + 1 * k.val = k.val
              omega

/-- Where an entry of point `t`'s block of window 4 lies in the whole array. -/
theorem emb_o (t : Fin cfg0.N) (r : Fin 1024) (k : Fin 512) :
    (win0_4.blk t).view.emb (ix2 r k : S1024x512.Idx)
      = (ix2 ⟨(t.val / 16) * 1024 + r, by have := lt_N t; omega⟩ ⟨(t.val % 16) * 512 + k, by have := lt_N t; omega⟩ : S1024x8192.Idx) := by
  funext a
  apply Fin.ext
  match a with
  | ⟨0, _⟩ => show win0_4.index t 0 * 1024 + 1 * r.val = _
              rw [(index_o t).1]
              show (t.val / 16) * 1024 + 1 * r.val = (t.val / 16) * 1024 + r.val
              omega
  | ⟨1, _⟩ => show win0_4.index t 1 * 512 + 1 * k.val = _
              rw [(index_o t).2]
              show (t.val % 16) * 512 + 1 * k.val = (t.val % 16) * 512 + k.val
              omega

/-- An entry lies in point `t`'s block of window 4 exactly when its coordinates do. -/
theorem mem_o (t : Fin cfg0.N) (i : S1024x8192.Idx) :
    i ∈ ((cfg0.win 4).blk t).view.set ↔ ((t.val / 16) * 1024 ≤ (i 0 : Nat) ∧ (i 0 : Nat) < (t.val / 16) * 1024 + 1024) ∧ ((t.val % 16) * 512 ≤ (i 1 : Nat) ∧ (i 1 : Nat) < (t.val % 16) * 512 + 512) := by
  show i ∈ ((View.whole main_v2).slice (win0_4.rect t)).set ↔ _
  rw [View.set_slice_whole, Rect.mem_set_unit]
  have e0 : win0_4.index t 0 * win0_4.size 0 = (t.val / 16) * 1024 := by rw [(index_o t).1]; rfl
  have e1 : win0_4.index t 1 * win0_4.size 1 = (t.val % 16) * 512 := by rw [(index_o t).2]; rfl
  refine ⟨fun h => ⟨?_, ?_⟩, fun h a => ?_⟩
  · have := h 0
    change win0_4.index t 0 * win0_4.size 0 ≤ (i 0 : Nat) ∧ (i 0 : Nat) < win0_4.index t 0 * win0_4.size 0 + 1024 at this
    rwa [e0] at this
  · have := h 1
    change win0_4.index t 1 * win0_4.size 1 ≤ (i 1 : Nat) ∧ (i 1 : Nat) < win0_4.index t 1 * win0_4.size 1 + 512 at this
    rwa [e1] at this
  · match a with
    | ⟨0, _⟩ => show win0_4.index t 0 * win0_4.size 0 ≤ (i 0 : Nat) ∧ (i 0 : Nat) < win0_4.index t 0 * win0_4.size 0 + 1024
                rw [e0]; exact h.1
    | ⟨1, _⟩ => show win0_4.index t 1 * win0_4.size 1 ≤ (i 1 : Nat) ∧ (i 1 : Nat) < win0_4.index t 1 * win0_4.size 1 + 512
                rw [e1]; exact h.2

/-- The blocks of window 4 fill the result. -/
theorem cover_o (i : S1024x8192.Idx) :
    ∃ t : Fin cfg0.N, (cfg0.win 4).flush t = true ∧ i ∈ ((cfg0.win 4).blk t).view.set := by
  have h0 : (i 0 : Nat) < 1024 := (i 0).isLt
  have h1 : (i 1 : Nat) < 8192 := (i 1).isLt
  have hN : cfg0.N = 16 := N_0
  refine ⟨⟨(i 0 : Nat) / 1024 * 16 + (i 1 : Nat) / 512, by omega⟩, flush0_4 _, ?_⟩
  rw [mem_o]
  dsimp only
  omega

/-- The window over the query gain holds the gain. -/
theorem gain_q (c : Dev nD) (d : Fin 128) : V m c main_v0 (ix2 0 d : S1x128.Idx) = m ((c : Thread nD τ).loc main_arg2) (ix1 d : S128.Idx) := by
  have h : V m c main_v0 = shapeCast _ (m ((c : Thread nD τ).loc main_arg2)) shapeCasts_S128_S1x128 := rfl
  rw [h]
  pointwise

/-- The window over the key gain holds the gain. -/
theorem gain_k (c : Dev nD) (d : Fin 128) : V m c main_v1 (ix2 0 d : S1x128.Idx) = m ((c : Thread nD τ).loc main_arg3) (ix1 d : S128.Idx) := by
  have h : V m c main_v1 = shapeCast _ (m ((c : Thread nD τ).loc main_arg3)) shapeCasts_S128_S1x128 := rfl
  rw [h]
  pointwise

/-- One entry of a row divided by the row's root mean square, times a gain. -/
def nrm (f : Fin 128 → EReal) (g : EReal) (d : Fin 128) : EReal :=
  f d * Ideal.rsqrt (Ideal.div (∑ x, f x * f x) (Ideal.ofBits FTy.f32 1124073472#32) + Ideal.ofBits FTy.f32 897988541#32) * g

/-- The product's entry. -/
def prod (a : Vec Ideal S1024x4096 .bf16) (w : Vec Ideal S4096x8192 .bf16) (i : Fin 1024) (j : Fin 8192) : EReal :=
  ∑ k : Fin 4096, a (ix2 i k) * w (ix2 k j)

/-- The whole result at row `i` and column `j`: queries and keys normalised head by head, the remaining columns the plain product. -/
def Gf (a : Vec Ideal S1024x4096 .bf16) (w : Vec Ideal S4096x8192 .bf16) (gq gk : Vec Ideal S128 .f32) (i : Fin 1024) (j : Fin 8192) : EReal :=
  if j.val < 4096 then
    nrm (fun d => prod a w i ⟨j.val / 128 * 128 + d, by omega⟩)
      (if j.val < 2048 then gq (ix1 ⟨j.val % 128, Nat.mod_lt _ (by omega)⟩) else gk (ix1 ⟨j.val % 128, Nat.mod_lt _ (by omega)⟩))
      ⟨j.val % 128, Nat.mod_lt _ (by omega)⟩
  else prod a w i j

/-- The whole result. -/
def G (a : Vec Ideal S1024x4096 .bf16) (w : Vec Ideal S4096x8192 .bf16) (gq gk : Vec Ideal S128 .f32) : Vec Ideal S1024x8192 .f32 :=
  fun i => Gf a w gq gk (i 0) (i 1)

/-- The result in head `h`: the first sixteen heads are the queries', the next sixteen the keys'. -/
theorem Gf_head (a : Vec Ideal S1024x4096 .bf16) (w : Vec Ideal S4096x8192 .bf16) (gq gk : Vec Ideal S128 .f32) (i : Fin 1024) (h : Nat) (hh : h < 32) (d : Fin 128)
    (j : Fin 8192) (hj : j.val = h * 128 + d.val) :
    Gf a w gq gk i j
      = nrm (fun d' => prod a w i ⟨h * 128 + d', by omega⟩) (if h < 16 then gq (ix1 d) else gk (ix1 d)) d := by
  have e1 : j.val / 128 * 128 = h * 128 := by omega
  have e2 : (⟨j.val % 128, Nat.mod_lt _ (by omega)⟩ : Fin 128) = d := Fin.ext (by show j.val % 128 = d.val; omega)
  unfold Gf
  rw [if_pos (by omega), e2]
  congr 1
  · funext d'
    congr 1
    exact Fin.ext (by show j.val / 128 * 128 + d'.val = h * 128 + d'.val; omega)
  · by_cases c : h < 16
    · rw [if_pos c, if_pos (by omega)]
    · rw [if_neg c, if_neg (by omega)]

/-- The result right of the heads. -/
theorem Gf_rest (a : Vec Ideal S1024x4096 .bf16) (w : Vec Ideal S4096x8192 .bf16) (gq gk : Vec Ideal S128 .f32) (i : Fin 1024) (j : Fin 8192) (hj : 4096 ≤ j.val) :
    Gf a w gq gk i j = prod a w i j := by
  unfold Gf
  rw [if_neg (by omega)]

/-- The same over one block, the gain given. -/
def B (a : Vec Ideal S1024x4096 .bf16) (w : Vec Ideal S4096x512 .bf16) (g : FVec Ideal S1x128 .f32) (r : Fin 1024) (j : Fin 512) : EReal :=
  nrm (fun d => ∑ k : Fin 4096, a (ix2 r k) * w (ix2 k ⟨j.val / 128 * 128 + d, by omega⟩))
    (g (ix2 0 ⟨j.val % 128, Nat.mod_lt _ (by omega)⟩)) ⟨j.val % 128, Nat.mod_lt _ (by omega)⟩

/-- `B` at a column of head `e`. -/
theorem B_head (a : Vec Ideal S1024x4096 .bf16) (w : Vec Ideal S4096x512 .bf16) (g : FVec Ideal S1x128 .f32) (r : Fin 1024) (e : Nat) (he : e < 4) (d : Fin 128) :
    B a w g r ⟨e * 128 + d, by omega⟩
      = nrm (fun d' => ∑ k : Fin 4096, a (ix2 r k) * w (ix2 k ⟨e * 128 + d', by omega⟩)) (g (ix2 0 d)) d := by
  have e2 : (⟨(e * 128 + d.val) % 128, Nat.mod_lt _ (by omega)⟩ : Fin 128) = d := Fin.ext (by show (e * 128 + d.val) % 128 = d.val; omega)
  unfold B
  dsimp only
  rw [e2]
  congr 1
  funext d'
  refine Finset.sum_congr rfl fun k _ => ?_
  congr 3
  exact Fin.ext (by show (e * 128 + d.val) / 128 * 128 + d'.val = e * 128 + d'.val; omega)

/-- The payload of the first head. -/
theorem pay5 (a : Vec Ideal S1024x4096 .bf16) (w : Vec Ideal S4096x512 .bf16) (v : BitVec 32) (g h : Vec Ideal S1x128 .f32) (r : Fin 1024) (d : Fin 128) :
    k0_pay5 (k0_pay1 a w) v g h (ix2 r d) = B a w (k0_pay4 v g h) r ⟨0 * 128 + d, by omega⟩ := by
  rw [B_head _ _ _ _ 0 (by omega)]
  pointwise [k0_pay5, k0_pay1, nrm]

/-- The payload of the second head. -/
theorem pay6 (a : Vec Ideal S1024x4096 .bf16) (w : Vec Ideal S4096x512 .bf16) (v : BitVec 32) (g h : Vec Ideal S1x128 .f32) (r : Fin 1024) (d : Fin 128) :
    k0_pay6 (k0_pay1 a w) v g h (ix2 r d) = B a w (k0_pay4 v g h) r ⟨1 * 128 + d, by omega⟩ := by
  rw [B_head _ _ _ _ 1 (by omega)]
  pointwise [k0_pay6, k0_pay1, nrm]

/-- The payload of the third head. -/
theorem pay2 (a : Vec Ideal S1024x4096 .bf16) (w : Vec Ideal S4096x512 .bf16) (g : FVec Ideal S1x128 .f32) (r : Fin 1024) (d : Fin 128) :
    k0_pay2 g (k0_pay7 (k0_pay1 a w)) (k0_pay8 (k0_pay1 a w)) (FloatOps.ofBits FTy.f32 897988541#32) (ix2 r d) = B a w g r ⟨2 * 128 + d, by omega⟩ := by
  rw [B_head _ _ _ _ 2 (by omega)]
  pointwise [k0_pay2, k0_pay7, k0_pay8, k0_pay1, nrm]

/-- The payload of the fourth head. -/
theorem pay3 (a : Vec Ideal S1024x4096 .bf16) (w : Vec Ideal S4096x512 .bf16) (g : FVec Ideal S1x128 .f32) (r : Fin 1024) (d : Fin 128) :
    k0_pay3 a w g (ix2 r d) = B a w g r ⟨3 * 128 + d, by omega⟩ := by
  rw [B_head _ _ _ _ 3 (by omega)]
  pointwise [k0_pay3, k0_pay1, nrm]

/-- Where a head's slice of a block lies. -/
theorem emb_head (o e : Nat) (inb) (he : e < 4) (ho : o = e * 128) (r : Fin 1024) (d : Fin 128) :
    (Rect.unit (s := S1024x512) ![0, o] ![1024, 128] inb).emb (ix2 r d : S1024x128.Idx) = (ix2 r ⟨e * 128 + d, by omega⟩ : S1024x512.Idx) := by
  funext a
  apply Fin.ext
  match a with
  | ⟨0, _⟩ => show 0 + 1 * r.val = r.val
              omega
  | ⟨1, _⟩ => show o + 1 * d.val = e * 128 + d.val
              omega

section Args

variable (c : Dev nD) (i : grid0.Coords) (arg2 : Memref sig .tc .vmem S1024x4096 .bf16) (harg2 : arg2.IsWhole)
    (arg3 : Memref sig .tc .vmem S4096x512 .bf16) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1024x512 .f32) (harg6 : arg6.IsWhole)

/-- What a point over query or key columns leaves in its block. -/
theorem out_A (hc0 : cond0_0 i) (hc1 : ¬cond0_1 i)
    (x0 : Vec Ideal S1024x4096 .bf16) (x1 : Vec Ideal S4096x512 .bf16) (x2 : Vec Ideal S1x128 .f32) (x3 : Vec Ideal S1x128 .f32) :
    out0_A_4 c i arg2 harg2 arg3 harg3 arg4 harg4 arg5 harg5 arg6 harg6 hc0 hc1 x0 x1 x2 x3 = fun y => B x0 x1 (k0_pay4 (Scalar.muli (BitVec.ofNat 32 (i 1).val) 512#32) x2 x3) (y 0) (y 1) := by
  funext y
  unfold out0_A_4
  refine View.read_writes_apply_of_pieces _ _ (fun y => B x0 x1 (k0_pay4 (Scalar.muli (BitVec.ofNat 32 (i 1).val) 512#32) x2 x3) (y 0) (y 1)) _ ?_ y (cover0_A_4 c i arg2 harg2 arg3 harg3 arg4 harg4 arg5 harg5 arg6 harg6 hc0 hc1 x0 x1 x2 x3 y)
  unfold kernelRun0_A
  dsimp only
  simp only [List.forall_mem_cons, List.not_mem_nil]
  sl_unfold_words
  simp only [View.readAt_eq_ld, harg2.read_unread, harg3.read_unread, harg4.read_unread, harg5.read_unread,
    View.ld_unit_zero (S := S1x128) hz, View.ld_unit_zero (S := S1024x4096) hz, View.ld_unit_zero (S := S4096x512) hz]
  refine ⟨fun x => ?_, fun x => ?_, fun x => ?_, fun x => ?_, fun _ h => h.elim⟩
  · obtain ⟨r, d, rfl⟩ : ∃ (r : Fin 1024) (d : Fin 128), x = (ix2 r d : S1024x128.Idx) := ⟨x 0, x 1, by funext a; match a with | ⟨0, _⟩ => rfl | ⟨1, _⟩ => rfl⟩
    rw [emb_head 384 3 _ (by omega) rfl]; exact pay3 _ _ _ _ _
  · obtain ⟨r, d, rfl⟩ : ∃ (r : Fin 1024) (d : Fin 128), x = (ix2 r d : S1024x128.Idx) := ⟨x 0, x 1, by funext a; match a with | ⟨0, _⟩ => rfl | ⟨1, _⟩ => rfl⟩
    rw [emb_head 256 2 _ (by omega) rfl]; exact pay2 _ _ _ _ _
  · obtain ⟨r, d, rfl⟩ : ∃ (r : Fin 1024) (d : Fin 128), x = (ix2 r d : S1024x128.Idx) := ⟨x 0, x 1, by funext a; match a with | ⟨0, _⟩ => rfl | ⟨1, _⟩ => rfl⟩
    rw [emb_head 128 1 _ (by omega) rfl]; exact pay6 _ _ _ _ _ _ _
  · obtain ⟨r, d, rfl⟩ : ∃ (r : Fin 1024) (d : Fin 128), x = (ix2 r d : S1024x128.Idx) := ⟨x 0, x 1, by funext a; match a with | ⟨0, _⟩ => rfl | ⟨1, _⟩ => rfl⟩
    rw [emb_head 0 0 _ (by omega) rfl]; exact pay5 _ _ _ _ _ _ _

/-- What a point over the other columns leaves in its block. -/
theorem out_B (hc0 : ¬cond0_0 i) (hc1 : cond0_1 i)
    (x0 : Vec Ideal S1024x4096 .bf16) (x1 : Vec Ideal S4096x512 .bf16) (x2 : Vec Ideal S1x128 .f32) (x3 : Vec Ideal S1x128 .f32) :
    out0_B_4 c i arg2 harg2 arg3 harg3 arg4 harg4 arg5 harg5 arg6 harg6 hc0 hc1 x0 x1 x2 x3 = k0_pay1 x0 x1 := by
  unfold out0_B_4
  rw [View.read_writes_eq_canon _ _ _ (cover0_B_4 c i arg2 harg2 arg3 harg3 arg4 harg4 arg5 harg5 arg6 harg6 hc0 hc1 x0 x1 x2 x3)]
  unfold kernelRun0_B
  dsimp only
  rw [View.canon_unit_zero hz]
  simp only [View.readAt_eq_ld, harg2.read_unread, harg3.read_unread,
    View.ld_unit_zero (S := S1024x4096) hz, View.ld_unit_zero (S := S4096x512) hz]

end Args

/-- The second grid coordinate. -/
theorem coord1 : ∀ t : Fin grid0.N, (grid0.coords t 1).val = t.val % 16 := by
  decide +kernel

/-- The gain a query or key block takes. -/
theorem pay4_eq (n : Nat) (hn : n < 16) (x y : Vec Ideal S1x128 .f32) (d : Fin 128) :
    k0_pay4 (Scalar.muli (BitVec.ofNat 32 n) 512#32) x y (ix2 0 d) = if n < 4 then x (ix2 0 d) else y (ix2 0 d) := by
  have h : Scalar.cmpi .slt (Scalar.muli (BitVec.ofNat 32 n) 512#32) 2048#32 = if n < 4 then 1#1 else 0#1 := by
    revert n; decide +kernel
  unfold k0_pay4
  simp only [h]
  split <;> pointwise [Scalar.select] <;> simp

/-- What a point writes back is its block of the whole-array function. -/
theorem flushed_eq (c : Dev nD) (t : Fin cfg0.N) :
    (dats m 0 c).flushed 4 t = (win0_4.blk t).view.read (Elt Ideal) (G (m ((c : Thread nD τ).loc main_arg0)) (m ((c : Thread nD τ).loc main_arg1)) (m ((c : Thread nD τ).loc main_arg2)) (m ((c : Thread nD τ).loc main_arg3))) := by
  have hN := lt_N t
  by_cases h0 : t.val % 16 ≤ 7
  · rw [Value.flushed4_A m c t (by omega) (by omega), out_A]
    funext j
    idx_vars j
    show B _ _ _ j0 j1 = G _ _ _ _ ((win0_4.blk t).view.emb (ix2 j0 j1 : S1024x512.Idx))
    rw [emb_o]
    obtain ⟨e, d, he, rfl⟩ : ∃ (e : Nat) (d : Fin 128) (he : e < 4), j1 = ⟨e * 128 + d, by omega⟩ :=
      ⟨j1.val / 128, ⟨j1.val % 128, Nat.mod_lt _ (by omega)⟩, by omega, Fin.ext (by show j1.val = j1.val / 128 * 128 + j1.val % 128; omega)⟩
    show _ = Gf _ _ _ _ ⟨t.val / 16 * 1024 + j0.val, _⟩ ⟨t.val % 16 * 512 + (e * 128 + d.val), _⟩
    rw [Gf_head _ _ _ _ _ (t.val % 16 * 4 + e) (by omega) d _ (by dsimp only; omega), B_head _ _ _ _ e he, coord1, pay4_eq _ (Nat.mod_lt _ (by omega))]
    simp only [iblk_a, iblk_w, iblk_gq, iblk_gk, gain_q, gain_k]
    congr 1
    · funext d'
      refine Finset.sum_congr rfl fun k _ => ?_
      congr 3
      exact Fin.ext (by show t.val % 16 * 512 + (e * 128 + d'.val) = (t.val % 16 * 4 + e) * 128 + d'.val; omega)
    · by_cases c4 : t.val % 16 < 4
      · rw [if_pos c4, if_pos (by omega)]
        exact gain_q m c d
      · rw [if_neg c4, if_neg (by omega)]
        exact gain_k m c d
  · rw [Value.flushed4_B m c t (by omega) (by omega), out_B]
    funext j
    idx_vars j
    show k0_pay1 (F := Ideal) _ _ (ix2 j0 j1) = G _ _ _ _ ((win0_4.blk t).view.emb (ix2 j0 j1 : S1024x512.Idx))
    rw [emb_o]
    show _ = Gf _ _ _ _ ⟨t.val / 16 * 1024 + j0.val, _⟩ ⟨t.val % 16 * 512 + j1.val, _⟩
    rw [Gf_rest _ _ _ _ _ _ (by dsimp only; omega)]
    pointwise [k0_pay1, prod]
    simp only [iblk_a, iblk_w]

/-- The kernel's result, and its arguments kept. -/
theorem run : θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans
      ((dats m 0 c).arrAt_eq_of_cover 4 _ (fun t _ => flushed_eq m c t) cover_o), (h c).2⟩)
    (Value.run_blocks m ρ)

end Cert.InProjSIdeal.Whole

namespace Cert.InProjSRefIdeal.Whole

open Cert.InProjSRefIdeal Cert.InProjSRefIdeal.Gen
open Idealize.ShloMosaic Idealize.ShloMosaic.TcCoe Idealize.SL.Sem

/-- Four arrays side by side, read in the first. -/
theorem cat0 (p q r s : Vec Ideal S1024x2048 .f32) (i : Fin 1024) (j : Fin 8192) (d : Fin 2048) (h : j.val = d.val) :
    concatenate S1024x8192 1 [⟨S1024x2048, p⟩, ⟨S1024x2048, q⟩, ⟨S1024x2048, r⟩, ⟨S1024x2048, s⟩]
      concatenates_S1024x2048_S1024x2048_S1024x2048_S1024x2048_S1024x8192_d1 (ix2 i j) = p (ix2 i d) := by
  pointwise
  rw [dif_pos (by omega)]
  exact congrArg (fun z => p (ix2 i z)) (Fin.ext h)

/-- … in the second. -/
theorem cat1 (p q r s : Vec Ideal S1024x2048 .f32) (i : Fin 1024) (j : Fin 8192) (d : Fin 2048) (h : j.val = 2048 + d.val) :
    concatenate S1024x8192 1 [⟨S1024x2048, p⟩, ⟨S1024x2048, q⟩, ⟨S1024x2048, r⟩, ⟨S1024x2048, s⟩]
      concatenates_S1024x2048_S1024x2048_S1024x2048_S1024x2048_S1024x8192_d1 (ix2 i j) = q (ix2 i d) := by
  pointwise
  rw [dif_neg (by omega), dif_pos (by omega)]
  exact congrArg (fun z => q (ix2 i z)) (Fin.ext (by show j.val - 2048 = d.val; omega))

/-- … in the third. -/
theorem cat2 (p q r s : Vec Ideal S1024x2048 .f32) (i : Fin 1024) (j : Fin 8192) (d : Fin 2048) (h : j.val = 4096 + d.val) :
    concatenate S1024x8192 1 [⟨S1024x2048, p⟩, ⟨S1024x2048, q⟩, ⟨S1024x2048, r⟩, ⟨S1024x2048, s⟩]
      concatenates_S1024x2048_S1024x2048_S1024x2048_S1024x2048_S1024x8192_d1 (ix2 i j) = r (ix2 i d) := by
  pointwise
  rw [dif_neg (by omega), dif_neg (by omega), dif_pos (by omega)]
  exact congrArg (fun z => r (ix2 i z)) (Fin.ext (by show j.val - 2048 - 2048 = d.val; omega))

/-- … in the fourth. -/
theorem cat3 (p q r s : Vec Ideal S1024x2048 .f32) (i : Fin 1024) (j : Fin 8192) (d : Fin 2048) (h : j.val = 6144 + d.val) :
    concatenate S1024x8192 1 [⟨S1024x2048, p⟩, ⟨S1024x2048, q⟩, ⟨S1024x2048, r⟩, ⟨S1024x2048, s⟩]
      concatenates_S1024x2048_S1024x2048_S1024x2048_S1024x2048_S1024x8192_d1 (ix2 i j) = s (ix2 i d) := by
  pointwise
  rw [dif_neg (by omega), dif_neg (by omega), dif_neg (by omega)]
  exact congrArg (fun z => s (ix2 i z)) (Fin.ext (by show j.val - 2048 - 2048 - 2048 = d.val; omega))

/-- A column split into head and lane. -/
theorem split_col (x : Nat) (hx : x < 2048) : x / 128 < 16 ∧ x % 128 < 128 ∧ x = x / 128 * 128 + x % 128 := by omega

/-- The host's product at an entry. -/
theorem prod_apply (a : Vec Ideal S1024x4096 .bf16) (w : Vec Ideal S4096x8192 .bf16) (i : Fin 1024) (j : Fin 8192) :
    Host.dotGeneral dot_S1024x4096_S4096x8192_S1024x8192_1_0_0_1_n_n none (extf (F := Ideal) .f32 a bitsLt_bf16_f32) (extf (F := Ideal) .f32 w bitsLt_bf16_f32) (ix2 i j)
      = InProjSIdeal.Whole.prod a w i j := by
  pointwise [InProjSIdeal.Whole.prod]

/-- The host program's result is the same function of its arguments. -/
theorem ref_eq (m : (ℓ : Loc nD τ sig) → Buf (Elt Ideal) ℓ) (c : Dev nD) :
    Value.res_main_v37 (F := Ideal) m c = InProjSIdeal.Whole.G (m ((c.tc : Thread nD τ).loc main_arg0)) (m ((c.tc : Thread nD τ).loc main_arg1))
      (m ((c.tc : Thread nD τ).loc main_arg2)) (m ((c.tc : Thread nD τ).loc main_arg3)) := by
  unfold Value.res_main_v37
  have hp := prod_apply (m ((c.tc : Thread nD τ).loc main_arg0)) (m ((c.tc : Thread nD τ).loc main_arg1))
  generalize Host.dotGeneral (F := Ideal) dot_S1024x4096_S4096x8192_S1024x8192_1_0_0_1_n_n none (extf .f32 (m ((c.tc : Thread nD τ).loc main_arg0)) bitsLt_bf16_f32) (extf .f32 (m ((c.tc : Thread nD τ).loc main_arg1)) bitsLt_bf16_f32) = D at hp ⊢
  generalize m ((c.tc : Thread nD τ).loc main_arg0) = a at hp ⊢
  generalize m ((c.tc : Thread nD τ).loc main_arg1) = w at hp ⊢
  generalize m ((c.tc : Thread nD τ).loc main_arg2) = gq
  generalize m ((c.tc : Thread nD τ).loc main_arg3) = gk
  change Vec Ideal S1024x4096 .bf16 at a
  change Vec Ideal S4096x8192 .bf16 at w
  change Vec Ideal S128 .f32 at gq
  change Vec Ideal S128 .f32 at gk
  change Vec Ideal S1024x8192 .f32 at D
  funext i
  idx_vars i
  show _ = InProjSIdeal.Whole.Gf a w gq gk i0 i1
  have hj := i1.isLt
  by_cases c1 : i1.val < 2048
  · refine (cat0 _ _ _ _ i0 i1 ⟨i1.val, c1⟩ rfl).trans ?_
    rw [InProjSIdeal.Whole.Gf_head a w gq gk i0 (i1.val / 128) (by omega) ⟨i1.val % 128, Nat.mod_lt _ (by omega)⟩ i1
      (by dsimp only; omega), if_pos (by omega)]
    pointwise [InProjSIdeal.Whole.nrm]
    simp only [hp]
  · by_cases c2 : i1.val < 4096
    · refine (cat1 _ _ _ _ i0 i1 ⟨i1.val - 2048, by omega⟩ (by dsimp only; omega)).trans ?_
      rw [InProjSIdeal.Whole.Gf_head a w gq gk i0 (16 + (i1.val - 2048) / 128) (by omega) ⟨(i1.val - 2048) % 128, Nat.mod_lt _ (by omega)⟩ i1
        (by dsimp only; omega), if_neg (by omega)]
      have e : ∀ x : Fin 128, (⟨(16 + (i1.val - 2048) / 128) * 128 + x.val, by omega⟩ : Fin 8192) = ⟨2048 + ((i1.val - 2048) / 128 * 128 + x.val), by omega⟩ :=
        fun x => Fin.ext (by show (16 + (i1.val - 2048) / 128) * 128 + x.val = 2048 + ((i1.val - 2048) / 128 * 128 + x.val); omega)
      simp only [e]
      pointwise [InProjSIdeal.Whole.nrm]
      simp only [hp]
    · rw [InProjSIdeal.Whole.Gf_rest _ _ _ _ _ _ (by omega), ← hp]
      by_cases c3 : i1.val < 6144
      · refine (cat2 _ _ _ _ i0 i1 ⟨i1.val - 4096, by omega⟩ (by dsimp only; omega)).trans ?_
        pointwise
        exact congrArg (fun z => D (ix2 i0 z)) (Fin.ext (by show 4096 + (i1.val - 4096) = i1.val; omega))
      · refine (cat3 _ _ _ _ i0 i1 ⟨i1.val - 6144, by omega⟩ (by dsimp only; omega)).trans ?_
        pointwise
        exact congrArg (fun z => D (ix2 i0 z)) (Fin.ext (by show 6144 + (i1.val - 6144) = i1.val; omega))

end Cert.InProjSRefIdeal.Whole

/-! ## The claims -/

namespace Cert.Proof.InProjS

open Idealize.ShloMosaic Idealize.ShloMosaic.TcCoe Idealize.SL.Sem

/-- The kernel runs to its end and keeps its arguments. -/
theorem frame : Cert.quiescent_InProjS := fun m ρ _ => Cert.InProjS.Gen.frame m ρ

/-- So does its idealized form. -/
theorem frameI : Cert.quiescent_InProjSIdeal := fun m ρ _ => Cert.InProjSIdeal.Gen.frame m ρ

/-- So does the host program. -/
theorem frameR : Cert.quiescent_InProjSRefIdeal := fun m ρ _ =>
  (θ_run Cert.InProjSRefIdeal.defs _ _).mono (fun r h => ⟨fun c => (h c).2,
      Idealize.ShloMosaic.sem_eq_zero_of_no_sems (by decide) r.2⟩)
    (Cert.InProjSRefIdeal.Value.run (F := Ideal) m ρ)

/-- Nothing was rewritten on the way to the idealized form. -/
theorem preserves : Cert.preserves_InProjS_InProjSIdeal := trivial

/-- The kernel and the host program compute the same function. -/
theorem algebraic : Cert.algebraic_InProjSIdeal_InProjSRefIdeal := by
  intro m ρ m' ρ' _ hag
  refine ⟨fun c => Cert.InProjSIdeal.Whole.G (m ((c.tc : Thread Cert.InProjSIdeal.nD Cert.InProjSIdeal.τ).loc Cert.InProjSIdeal.main_arg0)) (m ((c.tc : Thread Cert.InProjSIdeal.nD Cert.InProjSIdeal.τ).loc Cert.InProjSIdeal.main_arg1)) (m ((c.tc : Thread Cert.InProjSIdeal.nD Cert.InProjSIdeal.τ).loc Cert.InProjSIdeal.main_arg2)) (m ((c.tc : Thread Cert.InProjSIdeal.nD Cert.InProjSIdeal.τ).loc Cert.InProjSIdeal.main_arg3)), Cert.InProjSIdeal.Whole.run m ρ, ?_⟩
  refine (θ_run Cert.InProjSRefIdeal.defs _ _).mono (fun _ h c => ⟨(h c).1.trans ?_, (h c).2⟩)
    (Cert.InProjSRefIdeal.Value.run (F := Ideal) m' ρ')
  refine (Cert.InProjSRefIdeal.Whole.ref_eq m' c).trans ?_
  rw [(hag c).1, (hag c).2.1, (hag c).2.2.1, (hag c).2.2.2]

end Cert.Proof.InProjS
-- ==== Proof.Value.MobaMath.lean ====
/-
  The mathematics of the block attention, free of either program: which blocks a row selects, and the softmax taken
  block by block against the softmax taken at once.
-/
module

public import Idealize.ShloMosaic.Lib.Pointwise

@[expose] public section

noncomputable section

namespace Cert.MobaMath

open Idealize.ShloMosaic
open Classical in
/-- The blocks chosen in `k` rounds among the first `i`: in each round the one of the greatest score not yet chosen, of
    equals the first. -/
def chain (s : ℕ → EReal) (i : ℕ) : ℕ → Finset ℕ
  | 0 => ∅
  | k + 1 => chain s i k ∪ (Finset.range i).filter fun j =>
      j ∉ chain s i k ∧ ∀ j' < i, j' ∉ chain s i k → j' ≠ j → s j' < s j ∨ (s j' = s j ∧ j < j')

/-- Only the first `i` blocks are chosen. -/
theorem chain_lt (s : ℕ → EReal) (i k : ℕ) : ∀ j ∈ chain s i k, j < i := by
  induction k with
  | zero => intro j hj; simp [chain] at hj
  | succ k ih =>
    intro j hj
    simp only [chain, Finset.mem_union, Finset.mem_filter, Finset.mem_range] at hj
    rcases hj with h | h
    · exact ih j h
    · exact h.1

/-- A chosen block stays chosen. -/
theorem chain_mono (s : ℕ → EReal) (i k j : ℕ) (h : j ∈ chain s i k) : j ∈ chain s i (k + 1) := by
  simp only [chain, Finset.mem_union]
  exact Or.inl h

/-- With nothing left a round chooses nothing. -/
theorem chain_all (s : ℕ → EReal) (i k : ℕ) (h : ∀ j < i, j ∈ chain s i k) : chain s i (k + 1) = chain s i k := by
  ext j
  simp only [chain, Finset.mem_union, Finset.mem_filter, Finset.mem_range]
  constructor
  · rintro (h' | ⟨h1, h2, _⟩)
    · exact h'
    · exact h j h1
  · exact Or.inl

/-- A round chooses the best block left. -/
theorem chain_best (s : ℕ → EReal) (i k p : ℕ) (hp : p < i) (hn : p ∉ chain s i k)
    (hb : ∀ j' < i, j' ∉ chain s i k → j' ≠ p → s j' < s p ∨ (s j' = s p ∧ p < j')) :
    chain s i (k + 1) = insert p (chain s i k) := by
  ext j
  simp only [chain, Finset.mem_union, Finset.mem_filter, Finset.mem_range, Finset.mem_insert]
  constructor
  · rintro (h' | ⟨h1, h2, h3⟩)
    · exact Or.inr h'
    · left
      by_contra hne
      rcases hb j h1 h2 hne with a | ⟨a, a'⟩
      · rcases h3 p hp hn (Ne.symm hne) with b | ⟨b, _⟩
        · exact absurd a (not_lt.mpr b.le)
        · exact absurd a (by rw [b]; exact lt_irrefl _)
      · rcases h3 p hp hn (Ne.symm hne) with b | ⟨_, b'⟩
        · exact absurd b (by rw [a]; exact lt_irrefl _)
        · omega
  · rintro (rfl | h')
    · exact Or.inr ⟨hp, hn, hb⟩
    · exact Or.inl h'

/-- One round of a row of lanes: the lane that holds the maximum first is the block chosen. `T` holds the scores left. -/
theorem round (s : ℕ → EReal) (i k n : ℕ) (hs : ∀ j < i, s j ≠ ⊥) (T : Fin n → EReal) (M : EReal) (hit : Fin n → Prop)
    (hi : i ≤ n)
    (hT : ∀ l : Fin n, T l = open Classical in if l.val < i ∧ l.val ∉ chain s i k then s l else ⊥)
    (hM : ∀ l, T l ≤ M) (hM' : ∃ l, T l = M) (hh : ∀ l, hit l ↔ T l = M ∧ ∀ l' < l, T l' ≠ M)
    (l : Fin n) (hl : l.val < i) : l.val ∈ chain s i (k + 1) ↔ hit l ∨ l.val ∈ chain s i k := by
  by_cases hall : ∀ j < i, j ∈ chain s i k
  · rw [chain_all s i k hall]
    exact ⟨Or.inr, fun _ => hall _ hl⟩
  push Not at hall
  obtain ⟨j0, hj0, hj0'⟩ := hall
  have hT1 : ∀ l : Fin n, l.val < i → l.val ∉ chain s i k → T l = s l := fun l h1 h2 => by rw [hT, if_pos ⟨h1, h2⟩]
  have hT2 : ∀ l : Fin n, T l ≠ ⊥ → l.val < i ∧ l.val ∉ chain s i k := fun l h => by
    by_contra hc
    exact h (by rw [hT, if_neg hc])
  have hMb : M ≠ ⊥ := by
    intro h
    have := hM ⟨j0, by omega⟩
    rw [hT1 _ hj0 hj0', h, le_bot_iff] at this
    exact hs _ hj0 this
  constructor
  · intro h
    simp only [chain, Finset.mem_union, Finset.mem_filter, Finset.mem_range] at h
    rcases h with h | ⟨_, h2, h3⟩
    · exact Or.inr h
    left
    have hle : ∀ l', T l' ≤ T l := by
      intro l'
      by_cases hb : T l' = ⊥
      · rw [hb]; exact bot_le
      obtain ⟨a, b⟩ := hT2 l' hb
      by_cases he : l' = l
      · rw [he]
      rw [hT1 l' a b, hT1 l hl h2]
      rcases h3 l' a b (fun h => he (Fin.ext h)) with c | ⟨c, _⟩
      · exact c.le
      · exact c.le
    obtain ⟨l0, hl0⟩ := hM'
    have hTM : T l = M := le_antisymm (hM l) (hl0 ▸ hle l0)
    refine (hh l).mpr ⟨hTM, fun l' hlt he => ?_⟩
    obtain ⟨a, b⟩ := hT2 l' (by rw [he]; exact hMb)
    have e : s l' = s l := by rw [← hT1 l' a b, ← hT1 l hl h2, he, hTM]
    rcases h3 l' a b (fun h => absurd hlt (by rw [Fin.lt_def, h]; omega)) with c | ⟨_, c⟩
    · rw [e] at c; exact lt_irrefl _ c
    · have := Fin.lt_def.mp hlt; omega
  · rintro (h | h)
    · obtain ⟨h1, h2⟩ := (hh l).mp h
      obtain ⟨a, b⟩ := hT2 l (by rw [h1]; exact hMb)
      simp only [chain, Finset.mem_union, Finset.mem_filter, Finset.mem_range]
      refine Or.inr ⟨a, b, fun j' hj' hn hne => ?_⟩
      have hj : T ⟨j', by omega⟩ = s j' := hT1 ⟨j', by omega⟩ hj' hn
      have hle := hM ⟨j', by omega⟩
      rw [hj, ← h1, hT1 l a b] at hle
      rcases lt_or_eq_of_le hle with c | c
      · exact Or.inl c
      · refine Or.inr ⟨c, ?_⟩
        by_contra hlt
        refine h2 ⟨j', by omega⟩ (Fin.lt_def.mpr ?_) (by rw [hj, c, ← hT1 l a b, h1])
        show j' < l.val
        omega
    · exact chain_mono _ _ _ _ h

/-- The positions of a sort in descending order, ties in order of position, name the chosen blocks. -/
theorem sorted_step (s : ℕ → EReal) (i n : ℕ) (hs : ∀ j < i, s j ≠ ⊥) (hi : i ≤ n) (S : Fin n → EReal)
    (hS : ∀ l : Fin n, S l = if l.val < i then s l else ⊥) (idx : Fin n → Fin n) (hinj : Function.Injective idx)
    (hsur : Function.Surjective idx)
    (ho : ∀ a b, a < b → S (idx b) < S (idx a) ∨ (S (idx b) = S (idx a) ∧ idx a < idx b))
    (k : ℕ) (hk : k < i) (hc : chain s i k = (Finset.univ.filter fun a : Fin n => a.val < k).image fun a => (idx a).val) :
    (idx ⟨k, by omega⟩).val < i ∧ (idx ⟨k, by omega⟩).val ∉ chain s i k
      ∧ chain s i (k + 1) = insert (idx ⟨k, by omega⟩).val (chain s i k) := by
  have hnot : ∀ a : Fin n, (idx a).val ∉ chain s i k → k ≤ a.val := by
    intro a ha
    by_contra hlt
    exact ha (by rw [hc]; exact Finset.mem_image.mpr ⟨a, by simp; omega, rfl⟩)
  have hkn : (idx ⟨k, by omega⟩).val ∉ chain s i k := by
    rw [hc]
    intro h
    obtain ⟨a, ha, he⟩ := Finset.mem_image.mp h
    have := hinj (Fin.ext he)
    rw [this] at ha
    simp at ha
  have hcard : (chain s i k).card ≤ k := by
    rw [hc]
    refine Finset.card_image_le.trans ?_
    have : (Finset.univ.filter fun a : Fin n => a.val < k) ⊆ (Finset.univ : Finset (Fin k)).image fun a => ⟨a.val, by omega⟩ := by
      intro a ha
      simp at ha
      exact Finset.mem_image.mpr ⟨⟨a.val, ha⟩, Finset.mem_univ _, rfl⟩
    refine (Finset.card_le_card this).trans (Finset.card_image_le.trans ?_)
    simp
  have hex : ∃ j < i, j ∉ chain s i k := by
    by_contra hno
    push Not at hno
    have : (Finset.range i).card ≤ (chain s i k).card := Finset.card_le_card fun j hj => hno j (Finset.mem_range.mp hj)
    rw [Finset.card_range] at this
    omega
  have hlt : (idx ⟨k, by omega⟩).val < i := by
    obtain ⟨j, hj, hjn⟩ := hex
    obtain ⟨b, hb⟩ := hsur ⟨j, by omega⟩
    have hbv : (idx b).val = j := congrArg Fin.val hb
    have hkb := hnot b (by rw [hbv]; exact hjn)
    by_cases he : b.val = k
    · have : b = ⟨k, by omega⟩ := Fin.ext he
      rw [← this, hbv]; exact hj
    have hSb : S (idx b) ≠ ⊥ := by rw [hS, if_pos (by omega), hbv]; exact hs j hj
    by_contra hge
    have hSk : S (idx ⟨k, by omega⟩) = ⊥ := by rw [hS, if_neg hge]
    rcases ho ⟨k, by omega⟩ b (Fin.lt_def.mpr (by show k < b.val; omega)) with c | ⟨c, _⟩
    · rw [hSk] at c; exact not_lt_bot c
    · rw [hSk] at c; exact hSb c
  refine ⟨hlt, hkn, chain_best s i k _ hlt hkn fun j' hj' hn hne => ?_⟩
  obtain ⟨b, hb⟩ := hsur ⟨j', by omega⟩
  have hbv : (idx b).val = j' := congrArg Fin.val hb
  have hkb := hnot b (by rw [hbv]; exact hn)
  have hne' : b.val ≠ k := fun h => hne (by rw [← hbv]; congr 2; exact Fin.ext h)
  have := ho ⟨k, by omega⟩ b (Fin.lt_def.mpr (by show k < b.val; omega))
  rw [hS, hS, if_pos hlt, if_pos (by omega), hbv, Fin.lt_def, hbv] at this
  exact this

/-- A sum over the chosen blocks is a sum over the first positions of the sort. -/
theorem sum_chain {M : Type} [AddCommMonoid M] (s : ℕ → EReal) (i n : ℕ) (hs : ∀ j < i, s j ≠ ⊥) (hi : i ≤ n) (S : Fin n → EReal)
    (hS : ∀ l : Fin n, S l = if l.val < i then s l else ⊥) (idx : Fin n → Fin n) (hinj : Function.Injective idx)
    (hsur : Function.Surjective idx)
    (ho : ∀ a b, a < b → S (idx b) < S (idx a) ∨ (S (idx b) = S (idx a) ∧ idx a < idx b)) (f : ℕ → M) (k : ℕ) (hk : k ≤ n) :
    (∀ a : Fin n, a.val < k → a.val < i → (idx a).val < i) ∧
    ∑ j ∈ chain s i k, f j = ∑ J : Fin k, if J.val < i then f (idx ⟨J.val, by omega⟩).val else 0 := by
  have hc : ∀ k, k ≤ i → chain s i k = (Finset.univ.filter fun a : Fin n => a.val < k).image fun a => (idx a).val := by
    intro k
    induction k with
    | zero => intro _; simp [chain]
    | succ k ih =>
      intro hk
      obtain ⟨_, _, h⟩ := sorted_step s i n hs hi S hS idx hinj hsur ho k (by omega) (ih (by omega))
      rw [h, ih (by omega)]
      ext j
      simp only [Finset.mem_insert, Finset.mem_image, Finset.mem_filter, Finset.mem_univ, true_and]
      constructor
      · rintro (rfl | ⟨a, ha, rfl⟩)
        · exact ⟨⟨k, by omega⟩, by simp, rfl⟩
        · exact ⟨a, by omega, rfl⟩
      · rintro ⟨a, ha, rfl⟩
        by_cases he : a.val = k
        · left; congr 2; exact Fin.ext he
        · right; exact ⟨a, by omega, rfl⟩
  have hall : ∀ k, i ≤ k → (∀ j < i, j ∈ chain s i k) ∧ (chain s i (k + 1) = chain s i k) := by
    intro k hk
    have h : ∀ j < i, j ∈ chain s i k := by
      induction k with
      | zero => intro j hj; omega
      | succ k ih =>
        by_cases he : i = k + 1
        · intro j hj
          have hsub : chain s i (k + 1) = Finset.range i := by
            refine Finset.eq_of_subset_of_card_le (fun j hj => Finset.mem_range.mpr (chain_lt s i _ j hj)) ?_
            rw [Finset.card_range, hc (k + 1) (by omega), Finset.card_image_of_injective _ (fun a b h => hinj (Fin.ext h))]
            have : (Finset.univ : Finset (Fin (k + 1))).image (fun a => (⟨a.val, by omega⟩ : Fin n)) ⊆ Finset.univ.filter fun a : Fin n => a.val < k + 1 := by
              intro a ha
              obtain ⟨b, _, rfl⟩ := Finset.mem_image.mp ha
              have := b.isLt
              simp
              omega
            refine le_trans ?_ (Finset.card_le_card this)
            rw [Finset.card_image_of_injective _ (fun a b h => Fin.ext (by simpa using h))]
            simp [he]
          rw [hsub]; exact Finset.mem_range.mpr hj
        · intro j hj
          exact chain_mono _ _ _ _ (ih (by omega) j hj)
    exact ⟨h, chain_all s i k h⟩
  constructor
  · intro a _ hai
    exact (sorted_step s i n hs hi S hS idx hinj hsur ho a.val hai (hc _ (by omega))).1
  · induction k with
    | zero => simp [chain]
    | succ k ih =>
      rw [Fin.sum_univ_castSucc]
      by_cases hki : k < i
      · obtain ⟨_, h2, h3⟩ := sorted_step s i n hs hi S hS idx hinj hsur ho k hki (hc _ (by omega))
        rw [h3, Finset.sum_insert h2, ih (by omega), add_comm]
        congr 1
        simp [hki]
      · rw [(hall k (by omega)).2, ih (by omega)]
        simp [hki]

/-! ## Softmax -/

/-- A nonnegative real factor goes into a sum of extended reals. -/
theorem coe_mul_sum {ι : Type} (t : Finset ι) (c : ℝ) (hc : 0 ≤ c) (f : ι → EReal) :
    (c : EReal) * ∑ k ∈ t, f k = ∑ k ∈ t, (c : EReal) * f k := by
  classical
  induction t using Finset.induction_on with
  | empty => simp
  | insert a t ha ih =>
    rw [Finset.sum_insert ha, Finset.sum_insert ha, ← ih]
    exact EReal.left_distrib_of_nonneg_of_ne_top (EReal.coe_nonneg.mpr hc) (EReal.coe_ne_top c) _ _

/-- The exponential of a difference from a real. -/
theorem exp_sub (a : EReal) (ha : a ≠ ⊤) (M : ℝ) : Ideal.exp (a - (M : EReal)) = ((Real.exp (-M) : ℝ) : EReal) * Ideal.exp a := by
  induction a with
  | bot =>
    rw [EReal.bot_sub]
    show (0 : EReal) = ((Real.exp (-M) : ℝ) : EReal) * 0
    rw [mul_zero]
  | top => exact absurd rfl ha
  | coe r =>
    rw [← EReal.coe_sub]
    show ((Real.exp (r - M) : ℝ) : EReal) = ((Real.exp (-M) : ℝ) : EReal) * ((Real.exp r : ℝ) : EReal)
    rw [← EReal.coe_mul, ← Real.exp_add]
    congr 2
    ring

/-- An exponential as a real. -/
theorem exp_coe (a : EReal) (ha : a ≠ ⊤) : ∃ r : ℝ, 0 ≤ r ∧ Ideal.exp a = r := by
  induction a with
  | bot => exact ⟨0, le_rfl, rfl⟩
  | top => exact absurd rfl ha
  | coe r => exact ⟨Real.exp r, (Real.exp_pos r).le, rfl⟩

/-- A sum of reals is a real. -/
theorem sum_coe {ι : Type} (t : Finset ι) (f : ι → EReal) (hf : ∀ i, ∃ r : ℝ, 0 ≤ r ∧ f i = r) : ∃ r : ℝ, 0 ≤ r ∧ ∑ k ∈ t, f k = r := by
  classical
  induction t using Finset.induction_on with
  | empty => exact ⟨0, le_rfl, by simp⟩
  | insert a t ha ih =>
    obtain ⟨r, hr, e⟩ := ih
    obtain ⟨q, hq, e'⟩ := hf a
    exact ⟨q + r, add_nonneg hq hr, by rw [Finset.sum_insert ha, e, e', EReal.coe_add]⟩

/-- What a row's running values hold: the maximum is a real, the sum and the accumulator are the sums of exponentials so
    far, times the exponential of the negated maximum. -/
def Run (m l : EReal) (acc : Fin 128 → EReal) (L : EReal) (A : Fin 128 → EReal) : Prop :=
  ∃ M : ℝ, m = M ∧ l = ((Real.exp (-M) : ℝ) : EReal) * L ∧ ∀ d, acc d = ((Real.exp (-M) : ℝ) : EReal) * A d

/-- A nonempty finite row of extended reals below the top with one real entry has a real maximum. -/
theorem max_coe {n : ℕ} (a : Fin n → EReal) (ha : ∀ c, a c ≠ ⊤) (h : ∃ c, a c ≠ ⊥) : ∃ M : ℝ, Finset.univ.sup a = M := by
  obtain ⟨c, hc⟩ := h
  have h1 : Finset.univ.sup a ≠ ⊥ := fun e => hc (le_bot_iff.mp (e ▸ Finset.le_sup (f := a) (Finset.mem_univ c)))
  have h2 : Finset.univ.sup a ≠ ⊤ := ((Finset.sup_lt_iff (by simp : (⊥ : EReal) < ⊤)).mpr fun c _ => lt_top_iff_ne_top.mpr (ha c)).ne
  exact ⟨_, (EReal.coe_toReal h2 h1).symm⟩

/-- The first block of a row. -/
theorem run_init {n : ℕ} (a : Fin n → EReal) (v : Fin n → Fin 128 → EReal) (ha : ∀ c, a c ≠ ⊤) (h : ∃ c, a c ≠ ⊥) :
    Run (Finset.univ.sup a) (∑ c, Ideal.exp (a c - Finset.univ.sup a)) (fun d => ∑ c, Ideal.exp (a c - Finset.univ.sup a) * v c d)
      (∑ c, Ideal.exp (a c)) (fun d => ∑ c, Ideal.exp (a c) * v c d) := by
  obtain ⟨M, hM⟩ := max_coe a ha h
  refine ⟨M, hM, ?_, fun d => ?_⟩
  · rw [hM, coe_mul_sum _ _ (Real.exp_pos _).le]
    exact Finset.sum_congr rfl fun c _ => exp_sub _ (ha c) M
  · rw [hM, coe_mul_sum _ _ (Real.exp_pos _).le]
    refine Finset.sum_congr rfl fun c _ => ?_
    rw [exp_sub _ (ha c) M, mul_assoc]

/-- A further block of a row, taken in. -/
theorem run_on {n : ℕ} (m l : EReal) (acc : Fin 128 → EReal) (L : EReal) (A : Fin 128 → EReal) (hr : Run m l acc L A)
    (a : Fin n → EReal) (v : Fin n → Fin 128 → EReal) (ha : ∀ c, a c ≠ ⊤) (h : ∃ c, a c ≠ ⊥) :
    Run (max m (Finset.univ.sup a)) (Ideal.exp (m - max m (Finset.univ.sup a)) * l + 1 * ∑ c, Ideal.exp (a c - max m (Finset.univ.sup a)))
      (fun d => Ideal.exp (m - max m (Finset.univ.sup a)) * acc d + 1 * ∑ c, Ideal.exp (a c - max m (Finset.univ.sup a)) * v c d)
      (L + ∑ c, Ideal.exp (a c)) (fun d => A d + ∑ c, Ideal.exp (a c) * v c d) := by
  obtain ⟨M', hM'⟩ := max_coe a ha h
  obtain ⟨M, hM, hl, hacc⟩ := hr
  obtain ⟨N, hN⟩ : ∃ N : ℝ, max m (Finset.univ.sup a) = N := ⟨max M M', by rw [hM, hM']; exact (EReal.coe_strictMono.monotone.map_max).symm⟩
  have e0 : Ideal.exp (m - (N : EReal)) = ((Real.exp (M - N) : ℝ) : EReal) := by
    rw [hM, ← EReal.coe_sub]; rfl
  have e1 : ∀ x : EReal, ((Real.exp (M - N) : ℝ) : EReal) * (((Real.exp (-M) : ℝ) : EReal) * x) = ((Real.exp (-N) : ℝ) : EReal) * x := by
    intro x
    rw [← mul_assoc, ← EReal.coe_mul, ← Real.exp_add]
    congr 3
    ring
  refine ⟨N, hN, ?_, fun d => ?_⟩
  · rw [hN, e0, hl, e1, one_mul, EReal.left_distrib_of_nonneg_of_ne_top (EReal.coe_nonneg.mpr (Real.exp_pos _).le) (EReal.coe_ne_top _),
      coe_mul_sum _ _ (Real.exp_pos _).le]
    congr 1
    exact Finset.sum_congr rfl fun c _ => exp_sub _ (ha c) N
  · dsimp only
    rw [hN, e0, hacc, e1, one_mul, EReal.left_distrib_of_nonneg_of_ne_top (EReal.coe_nonneg.mpr (Real.exp_pos _).le) (EReal.coe_ne_top _),
      coe_mul_sum _ _ (Real.exp_pos _).le]
    congr 1
    refine Finset.sum_congr rfl fun c _ => ?_
    rw [exp_sub _ (ha c) N, mul_assoc]

/-- A further block of a row, left out. -/
theorem run_off (m l : EReal) (acc : Fin 128 → EReal) (L : EReal) (A : Fin 128 → EReal) (hr : Run m l acc L A) (x : EReal) (y : Fin 128 → EReal) :
    Run m (Ideal.exp (m - m) * l + 0 * x) (fun d => Ideal.exp (m - m) * acc d + 0 * y d) L A := by
  obtain ⟨M, hM, hl, hacc⟩ := hr
  have e0 : Ideal.exp (m - m) = 1 := by
    rw [hM, ← EReal.coe_sub, sub_self]
    show ((Real.exp 0 : ℝ) : EReal) = 1
    rw [Real.exp_zero]; rfl
  refine ⟨M, hM, ?_, fun d => ?_⟩
  · rw [e0, hl, one_mul, zero_mul, add_zero]
  · dsimp only
    rw [e0, hacc, one_mul, zero_mul, add_zero]

/-- The quotient at the end does not see the maximum. -/
theorem run_div (m l : EReal) (acc : Fin 128 → EReal) (L : ℝ) (A : Fin 128 → EReal) (hL : L ≠ 0) (hr : Run m l acc L A) (d : Fin 128) :
    Ideal.div (acc d) l = A d * ((1 / L : ℝ) : EReal) := by
  obtain ⟨M, hM, hl, hacc⟩ := hr
  have hE := (Real.exp_pos (-M)).ne'
  rw [hl, ← EReal.coe_mul, Ideal.div_coe (mul_ne_zero hE hL), hacc, mul_comm (((Real.exp (-M) : ℝ)) : EReal), mul_assoc, ← EReal.coe_mul]
  congr 2
  field_simp

/-- A softmax weight does not see the maximum. -/
theorem weight (x : EReal) (hx : x ≠ ⊤) (M L : ℝ) (hL : L ≠ 0) :
    Ideal.div (Ideal.exp (x - (M : EReal))) (((Real.exp (-M) : ℝ) : EReal) * (L : EReal)) = ((1 / L : ℝ) : EReal) * Ideal.exp x := by
  have hE := (Real.exp_pos (-M)).ne'
  rw [exp_sub x hx M, ← EReal.coe_mul, Ideal.div_coe (mul_ne_zero hE hL), mul_comm (((Real.exp (-M) : ℝ)) : EReal), mul_assoc, ← EReal.coe_mul,
    mul_comm]
  congr 2
  field_simp

end Cert.MobaMath
-- ==== Proof.Value.MobaPay.lean ====
/-
  The block attention's vector operations, read entry by entry.
-/
module

public import proofs.«01_k».proof.Proof.Gen.MobaIdeal.Value
public import proofs.«01_k».proof.Proof.Value.MobaMath
public import Idealize.ShloMosaic.Lib.Pipeline.Value
public import Idealize.ShloMosaic.Lib.Pointwise
public import Idealize.ShloMosaic.Lib.WordCmp
public import Idealize.ShloMosaic.Lib.IdealHost

@[expose] public section

set_option maxRecDepth 16384

noncomputable section

namespace Cert.MobaIdeal.Whole

open Cert.MobaIdeal Cert.MobaIdeal.Gen
open Idealize.ShloMosaic Idealize.ShloMosaic.TcCoe Idealize.SL.Sem Idealize.ShloMosaic.WordCmp

/-- The negative infinity of a row maximum's start. -/
theorem bot_bits : Ideal.ofBits FTy.f32 4286578688#32 = (⊥ : EReal) := by
  simp [Ideal.ofBits, Ideal.ieee]

/-- A row maximum started at negative infinity is the supremum. -/
theorem fold_sup {n : ℕ} (f : Fin n → EReal) : Finset.fold max (Ideal.ofBits FTy.f32 4286578688#32) f Finset.univ = Finset.univ.sup f := by
  rw [bot_bits]; rfl

/-- The mask's value. -/
theorem mask_bot : (Named.named κ "mask" 4048155338#32 : Ideal .f32) = (⊥ : EReal) := rfl

/-- A choice by a comparison of words, as a choice by the numbers. -/
theorem sel_le {α : Type} (a b : ℕ) (ha : a < 256) (hb : b < 256) (x y : α) :
    Scalar.select (IntOp.cmpi .sle (BitVec.ofNat 32 a) (BitVec.ofNat 32 b)) x y = if a ≤ b then x else y := by
  split
  · next h => exact WordCmp.select_of_eq_one ((cmpi_sle_ofNat_eq_one_iff (by omega) (by omega)).mpr h) _ _
  · next h => exact WordCmp.select_of_eq_zero ((cmpi_sle_ofNat_eq_zero_iff (by omega) (by omega)).mpr (by omega)) _ _

/-- The same of strict order. -/
theorem sel_lt {α : Type} (a b : ℕ) (ha : a < 256) (hb : b < 256) (x y : α) :
    Scalar.select (IntOp.cmpi .slt (BitVec.ofNat 32 a) (BitVec.ofNat 32 b)) x y = if a < b then x else y := by
  split
  · next h => exact WordCmp.select_of_eq_one ((cmpi_slt_ofNat_eq_one_iff (by omega) (by omega)).mpr h) _ _
  · next h => exact WordCmp.select_of_eq_zero ((cmpi_slt_ofNat_eq_zero_iff (by omega) (by omega)).mpr (by omega)) _ _

/-- The same of equality. -/
theorem sel_eq {α : Type} (a b : ℕ) (ha : a < 256) (hb : b < 256) (x y : α) :
    Scalar.select (IntOp.cmpi .eq (BitVec.ofNat 32 a) (BitVec.ofNat 32 b)) x y = if a = b then x else y := by
  split
  · next h => exact WordCmp.select_of_eq_one ((cmpi_eq_ofNat_eq_one_iff (by omega) (by omega)).mpr h) _ _
  · next h => exact WordCmp.select_of_eq_zero ((cmpi_eq_ofNat_eq_zero_iff (by omega) (by omega)).mpr (by omega)) _ _

/-- The loop's block number as a word. -/
theorem iv_ofNat (k : ℕ) : Scf.iv 0#32 1#32 k = BitVec.ofNat 32 k := by
  simp [Scf.iv]

/-- The scores of a block. -/
theorem pay2_apply (q : FVec Ideal S256x128 .bf16) (k : Vec Ideal S256x128 .bf16) (r c : Fin 256) :
    k0_pay2 q k (ix2 r c) = ∑ d : Fin 128, q (ix2 r d) * k (ix2 c d) := by
  pointwise [k0_pay2]

/-- The maximum with a further block. -/
theorem pay3_apply (q : FVec Ideal S256x128 .bf16) (m : FVec Ideal S256x1 .f32) (k : Vec Ideal S256x128 .bf16) (r : Fin 256) :
    k0_pay3 q m k (ix2 r 0) = max (m (ix2 r 0)) (Finset.univ.sup fun c => k0_pay2 q k (ix2 r c)) := by
  rw [← fold_sup]
  pointwise [k0_pay3]

/-- The exponentials of a further block. -/
theorem pay4_apply (q : FVec Ideal S256x128 .bf16) (m : FVec Ideal S256x1 .f32) (k : Vec Ideal S256x128 .bf16) (r c : Fin 256) :
    k0_pay4 q m k (ix2 r c) = Ideal.exp (k0_pay2 q k (ix2 r c) - k0_pay3 q m k (ix2 r 0)) := by
  pointwise [k0_pay4]

/-- Whether a block is chosen: its lane of the selection. -/
theorem pay1_apply (i : grid0.Coords) (sel : FVec Ideal S256x128 .f32) (k : Fin (k0_t1_loop i).trips) (hk : k.val < 128) (r : Fin 256)
    (h : ∀ l, 0 ≤ sel (ix2 r l)) :
    k0_pay1 i sel (iota .tc S256x128 32 [1] iota_S256x128_d1_w32) 0#32 k (ix2 r 0) = sel (ix2 r ⟨k.val, hk⟩) := by
  have e : k0_pay1 i sel (iota .tc S256x128 32 [1] iota_S256x128_d1_w32) 0#32 k (ix2 r 0)
      = Finset.univ.sup fun l : Fin 128 => if l.val = k.val then sel (ix2 r l) else 0 := by
    rw [← fold_sup]
    pointwise [k0_pay1]
    congr 1
    funext l
    rw [iv_ofNat]
    exact sel_eq l.val k.val (by omega) (by omega) _ _
  rw [e]
  refine le_antisymm (Finset.sup_le fun l _ => ?_) ?_
  · split
    · next h' => exact le_of_eq (congrArg sel (congrArg (ix2 r) (Fin.ext h')))
    · exact h _
  · refine le_trans (le_of_eq ?_) (Finset.le_sup (f := fun l : Fin 128 => if l.val = k.val then sel (ix2 r l) else 0) (Finset.mem_univ ⟨k.val, hk⟩))
    rw [if_pos rfl]

/-- The next running maximum. -/
theorem pay5_apply (i : grid0.Coords) (q : FVec Ideal S256x128 .bf16) (sel : FVec Ideal S256x128 .f32) (L : IVec S256x128 32) (z : BitVec 32) (k : Fin (k0_t1_loop i).trips)
    (m : FVec Ideal S256x1 .f32) (kb : Vec Ideal S256x128 .bf16) (r : Fin 256) :
    k0_pay5 i q sel L z k m kb (ix2 r 0) = if 0 < k0_pay1 i sel L z k (ix2 r 0) then k0_pay3 q m kb (ix2 r 0) else m (ix2 r 0) := by
  pointwise [k0_pay5]

/-- The next running sum. -/
theorem pay7_apply (i : grid0.Coords) (q : FVec Ideal S256x128 .bf16) (sel : FVec Ideal S256x128 .f32) (L : IVec S256x128 32) (z : BitVec 32) (k : Fin (k0_t1_loop i).trips)
    (m l : FVec Ideal S256x1 .f32) (kb : Vec Ideal S256x128 .bf16) (r : Fin 256) :
    k0_pay7 i q sel L z k m l kb (ix2 r 0) = Ideal.exp (m (ix2 r 0) - k0_pay5 i q sel L z k m kb (ix2 r 0)) * l (ix2 r 0)
      + k0_pay1 i sel L z k (ix2 r 0) * ∑ c : Fin 256, k0_pay4 q m kb (ix2 r c) := by
  pointwise [k0_pay7, k0_pay6]

/-- The next accumulator. -/
theorem pay8_apply (i : grid0.Coords) (q : FVec Ideal S256x128 .bf16) (sel : FVec Ideal S256x128 .f32) (L : IVec S256x128 32) (z : BitVec 32) (k : Fin (k0_t1_loop i).trips)
    (m : FVec Ideal S256x1 .f32) (acc : FVec Ideal S256x128 .f32) (kb vb : Vec Ideal S256x128 .bf16) (r : Fin 256) (d : Fin 128) :
    k0_pay8 i q sel L z k m acc kb vb (ix2 r d) = Ideal.exp (m (ix2 r 0) - k0_pay5 i q sel L z k m kb (ix2 r 0)) * acc (ix2 r d)
      + k0_pay1 i sel L z k (ix2 r 0) * ∑ c : Fin 256, k0_pay4 q m kb (ix2 r c) * vb (ix2 c d) := by
  pointwise [k0_pay8, k0_pay6]

/-- The result. -/
theorem pay17_apply (l : FVec Ideal S256x1 .f32) (acc : FVec Ideal S256x128 .f32) (r : Fin 256) (d : Fin 128) :
    k0_pay17 l acc (ix2 r d) = Ideal.div (acc (ix2 r d)) (l (ix2 r 0)) := by
  pointwise [k0_pay17]

/-- The scaled queries. -/
theorem pay53_apply (q : Vec Ideal S256x128 .f32) (r : Fin 256) (d : Fin 128) :
    k0_pay53 q (ix2 r d) = q (ix2 r d) * Ideal.ofBits FTy.f32 0x3DB504F3#32 := by
  pointwise [k0_pay53]

/-- The scores of the row's own block. -/
theorem pay54_apply (q : Vec Ideal S256x128 .f32) (k : Vec Ideal S256x128 .bf16) (r c : Fin 256) :
    k0_pay54 q k (ix2 r c) = if c.val ≤ r.val then ∑ d : Fin 128, k0_pay53 q (ix2 r d) * k (ix2 c d) else ⊥ := by
  pointwise [k0_pay54]
  rw [mask_bot]
  exact sel_le _ _ (by omega) (by omega) _ _

/-- Their maximum. -/
theorem pay55_apply (q : Vec Ideal S256x128 .f32) (k : Vec Ideal S256x128 .bf16) (r : Fin 256) :
    k0_pay55 q k (ix2 r 0) = Finset.univ.sup fun c : Fin 256 => k0_pay54 q k (ix2 r c) := by
  rw [← fold_sup]
  pointwise [k0_pay55]

/-- Their exponentials. -/
theorem pay56_apply (q : Vec Ideal S256x128 .f32) (k : Vec Ideal S256x128 .bf16) (r c : Fin 256) :
    k0_pay56 q k (ix2 r c) = Ideal.exp (k0_pay54 q k (ix2 r c) - k0_pay55 q k (ix2 r 0)) := by
  pointwise [k0_pay56]

/-- Their sum. -/
theorem pay57_apply (q : Vec Ideal S256x128 .f32) (k : Vec Ideal S256x128 .bf16) (r : Fin 256) :
    k0_pay57 q k (ix2 r 0) = ∑ c : Fin 256, k0_pay56 q k (ix2 r c) := by
  pointwise [k0_pay57]

/-- Their sum with the values. -/
theorem pay58_apply (q : Vec Ideal S256x128 .f32) (k v : Vec Ideal S256x128 .bf16) (r : Fin 256) (d : Fin 128) :
    k0_pay58 q k v (ix2 r d) = ∑ c : Fin 256, k0_pay56 q k (ix2 r c) * v (ix2 c d) := by
  pointwise [k0_pay58]

/-- The block scores, those from the row's own block on left out. -/
theorem pay59_apply (i : grid0.Coords) (q : Vec Ideal S256x128 .f32) (km : Vec Ideal S128x128 .f32) (r : Fin 256) (l : Fin 128) :
    k0_pay59 i q km (ix2 r l) = if l.val < (i 1).val then ∑ d : Fin 128, q (ix2 r d) * km (ix2 l d) else ⊥ := by
  pointwise [k0_pay59]
  rw [bot_bits]
  exact sel_lt _ _ (by omega) (by have : (i 1).val < 32 := (i 1).isLt; omega) _ _

/-- A block's mean key. -/
theorem pay21_apply (k : Vec Ideal S256x128 .f32) (d : Fin 128) :
    k0_pay21 k (ix2 0 d) = Ideal.div (∑ l : Fin 256, k (ix2 l d)) (Ideal.ofBits FTy.f32 0x43800000#32) := by
  pointwise [k0_pay21]

/-! ## The selection -/

/-- The lane numbers. -/
abbrev lanes : IVec S256x128 32 := iota .tc S256x128 32 [1] iota_S256x128_d1_w32

/-- The row maximum. -/
def rowMax (s : FVec Ideal S256x128 .f32) : FVec Ideal S256x1 .f32 :=
  shapeCast S256x1 (multiReduction .maximumf [1] S256 s 0xFF800000#32 reduces_S256x128_S256 (.inl rfl) rfl) shapeCasts_S256_S256x1

/-- The first lane that holds the row maximum. -/
def hitv (s : FVec Ideal S256x128 .f32) : IVec S256x128 1 :=
  cmpi .eq lanes (broadcastTo S256x128 (shapeCast S256x1 (multiReductionI .minsi [1] S256
    (select (cmpf .oeq s (broadcastTo (α := Ideal .f32) S256x128 (rowMax s) broadcasts_S256x1_S256x128)) lanes (broadcast S256x128 128#32))
    2147483647#32 reduces_S256x128_S256 rfl) shapeCasts_S256_S256x1) broadcasts_S256x1_S256x128)

/-- The scores after a round. -/
def nextS (s : FVec Ideal S256x128 .f32) : FVec Ideal S256x128 .f32 :=
  select (hitv s) (broadcast S256x128 (Scalar.ofBits (F := Ideal) .f32 0xFF800000#32)) s

/-- The selection after a round. -/
def nextSel (s sel : FVec Ideal S256x128 .f32) : FVec Ideal S256x128 .f32 :=
  select (hitv s) (broadcast S256x128 (Scalar.ofBits (F := Ideal) .f32 0x3F800000#32)) sel

/-- The selection is three rounds, kept to the blocks before the row's own. -/
theorem pay62_eq (a : BitVec 32) (s z : FVec Ideal S256x128 .f32) :
    k0_pay62 a lanes s z (rowMax s) = select (cmpi .slt lanes (broadcast S256x128 a))
      (nextSel (nextS (nextS s)) (nextSel (nextS s) (nextSel s z))) (broadcast S256x128 (Scalar.ofBits (F := Ideal) .f32 0x00000000#32)) := rfl

/-- The maximum of a row of block scores. -/
theorem pay61_eq (i : grid0.Coords) (q : Vec Ideal S256x128 .f32) (km : Vec Ideal S128x128 .f32) : k0_pay61 i q km = rowMax (k0_pay59 i q km) := rfl

/-- The row maximum at an entry. -/
theorem rowMax_apply (s : FVec Ideal S256x128 .f32) (r : Fin 256) : rowMax s (ix2 r 0) = Finset.univ.sup fun l : Fin 128 => s (ix2 r l) := by
  rw [← fold_sup]
  pointwise [rowMax]

/-- A signed minimum of small numbers: below every entry, and one of them unless it is the start. -/
theorem fold_min {n : ℕ} (g : Fin n → ℕ) (hg : ∀ x, g x < 2147483647) (t : Finset (Fin n)) :
    ∃ N ≤ 2147483647, Finset.fold IntOp.minsi (2147483647#32) (fun x => BitVec.ofNat 32 (g x)) t = BitVec.ofNat 32 N
      ∧ (∀ x ∈ t, N ≤ g x) ∧ (N = 2147483647 ∨ ∃ x ∈ t, g x = N) := by
  classical
  induction t using Finset.induction_on with
  | empty => exact ⟨2147483647, le_rfl, rfl, by simp, Or.inl rfl⟩
  | insert a t ha ih =>
    obtain ⟨N, hN, e, h1, h2⟩ := ih
    have hga := hg a
    have hm : IntOp.minsi (BitVec.ofNat 32 (g a)) (BitVec.ofNat 32 N) = BitVec.ofNat 32 (min (g a) N) := by
      have ea : (BitVec.ofNat 32 (g a)).toInt = (g a : Int) := by
        rw [toInt_eq_toNat_of_lt_half (by simp; omega)]; simp; omega
      have eN : (BitVec.ofNat 32 N).toInt = (N : Int) := by
        rw [toInt_eq_toNat_of_lt_half (by simp; omega)]; simp; omega
      unfold IntOp.minsi
      rcases le_total (g a) N with h | h
      · rw [min_eq_left h]
        split
        · rfl
        · next hc =>
          simp [BitVec.sle, BitVec.slt, ea, eN] at hc
          first
            | omega
            | exact congrArg _ (by omega)
      · rw [min_eq_right h]
        split
        · next hc =>
          simp [BitVec.sle, BitVec.slt, ea, eN] at hc
          first
            | omega
            | exact congrArg _ (by omega)
        · rfl
    rw [Finset.fold_insert ha, e, hm]
    refine ⟨min (g a) N, by omega, rfl, fun x hx => ?_, ?_⟩
    · rcases Finset.mem_insert.mp hx with rfl | hx
      · exact min_le_left _ _
      · exact (min_le_right _ _).trans (h1 x hx)
    · right
      rcases le_total (g a) N with h | h
      · exact ⟨a, Finset.mem_insert_self _ _, (min_eq_left h).symm⟩
      · rcases h2 with h2 | ⟨x, hx, hx'⟩
        · omega
        · exact ⟨x, Finset.mem_insert_of_mem hx, by rw [min_eq_right h]; exact hx'⟩

/-- The lane a round hits is the first that holds the row maximum. -/
theorem hit_iff (s : FVec Ideal S256x128 .f32) (r : Fin 256) (l : Fin 128) :
    hitv s (ix2 r l) = 1#1 ↔ s (ix2 r l) = rowMax s (ix2 r 0) ∧ ∀ l' < l, s (ix2 r l') ≠ rowMax s (ix2 r 0) := by
  classical
  have e : hitv s (ix2 r l) = IntOp.cmpi .eq (BitVec.ofNat 32 l.val) (Finset.fold IntOp.minsi (2147483647#32)
      (fun x : Fin 128 => BitVec.ofNat 32 (if s (ix2 r x) = rowMax s (ix2 r 0) then x.val else 128)) Finset.univ) := by
    pointwise [hitv]
    congr 2
    funext x
    split <;> rfl
  obtain ⟨N, hN, e2, h1, h2⟩ := fold_min (fun x : Fin 128 => if s (ix2 r x) = rowMax s (ix2 r 0) then x.val else 128)
    (fun x => by split <;> omega) Finset.univ
  rw [e, e2, cmpi_eq_ofNat_eq_one_iff (by omega) (by omega)]
  have hl := l.isLt
  constructor
  · intro hlN
    rcases h2 with h2 | ⟨x, _, hx⟩
    · omega
    by_cases hs : s (ix2 r x) = rowMax s (ix2 r 0)
    · rw [if_pos hs] at hx
      have : x = l := Fin.ext (by omega)
      subst this
      refine ⟨hs, fun l' hl' hs' => ?_⟩
      have := h1 l' (Finset.mem_univ _)
      rw [if_pos hs'] at this
      have := Fin.lt_def.mp hl'
      omega
    · rw [if_neg hs] at hx
      omega
  · rintro ⟨hs, hf⟩
    have h3 := h1 l (Finset.mem_univ _)
    rw [if_pos hs] at h3
    rcases h2 with h2 | ⟨x, _, hx⟩
    · omega
    by_cases hs' : s (ix2 r x) = rowMax s (ix2 r 0)
    · rw [if_pos hs'] at hx
      by_contra hne
      exact hf x (Fin.lt_def.mpr (by omega)) hs'
    · rw [if_neg hs'] at hx
      omega

/-- A bit that is not one is zero. -/
theorem eq_zero_of_ne (b : BitVec 1) (h : b ≠ 1#1) : b = 0#1 := by
  revert b; decide

/-- A choice of a constant at an entry. -/
theorem sel_nextS (h : IVec S256x128 1) (x : FVec Ideal S256x128 .f32) (i : S256x128.Idx) :
    select h (broadcast S256x128 (Scalar.ofBits (F := Ideal) .f32 0xFF800000#32)) x i = if h i = 1#1 then ⊥ else x i := by
  by_cases e : h i = 1#1
  · rw [if_pos e]
    exact (select_of_eq_one e _ _).trans bot_bits
  · rw [if_neg e]
    exact select_of_eq_zero (eq_zero_of_ne _ e) _ _

/-- A choice of a constant at an entry. -/
theorem sel_nextSel (h : IVec S256x128 1) (x : FVec Ideal S256x128 .f32) (i : S256x128.Idx) :
    select h (broadcast S256x128 (Scalar.ofBits (F := Ideal) .f32 0x3F800000#32)) x i = if h i = 1#1 then 1 else x i := by
  by_cases e : h i = 1#1
  · rw [if_pos e]
    exact (select_of_eq_one e _ _).trans Ideal.ofBits_one_f32
  · rw [if_neg e]
    exact select_of_eq_zero (eq_zero_of_ne _ e) _ _

/-- The scores after a round, at an entry. -/
theorem nextS_apply (s : FVec Ideal S256x128 .f32) (r : Fin 256) (l : Fin 128) :
    nextS s (ix2 r l) = if hitv s (ix2 r l) = 1#1 then ⊥ else s (ix2 r l) := by
  unfold nextS
  exact sel_nextS _ _ _

/-- The selection after a round, at an entry. -/
theorem nextSel_apply (s sel : FVec Ideal S256x128 .f32) (r : Fin 256) (l : Fin 128) :
    nextSel s sel (ix2 r l) = if hitv s (ix2 r l) = 1#1 then 1 else sel (ix2 r l) := by
  unfold nextSel
  exact sel_nextSel _ _ _

open Classical in
/-- A round keeps: the scores left are those of the blocks not chosen, the selection marks those chosen. -/
theorem round_step (s : ℕ → EReal) (i k : ℕ) (hs : ∀ j < i, s j ≠ ⊥) (hi : i ≤ 128) (T sel : FVec Ideal S256x128 .f32) (r : Fin 256)
    (hT : ∀ l : Fin 128, T (ix2 r l) = if l.val < i ∧ l.val ∉ MobaMath.chain s i k then s l else ⊥)
    (hsel : ∀ l : Fin 128, l.val < i → sel (ix2 r l) = if l.val ∈ MobaMath.chain s i k then 1 else 0) :
    (∀ l : Fin 128, nextS T (ix2 r l) = if l.val < i ∧ l.val ∉ MobaMath.chain s i (k + 1) then s l else ⊥) ∧
    ∀ l : Fin 128, l.val < i → nextSel T sel (ix2 r l) = if l.val ∈ MobaMath.chain s i (k + 1) then 1 else 0 := by
  have hr := MobaMath.round s i k 128 hs (fun l => T (ix2 r l)) (rowMax T (ix2 r 0)) (fun l => hitv T (ix2 r l) = 1#1) hi hT
    (fun l => by rw [rowMax_apply]; exact Finset.le_sup (f := fun l : Fin 128 => T (ix2 r l)) (Finset.mem_univ l))
    (by
      rw [rowMax_apply]
      obtain ⟨l, _, h⟩ := Finset.exists_mem_eq_sup Finset.univ ⟨(0 : Fin 128), Finset.mem_univ _⟩ (fun l : Fin 128 => T (ix2 r l))
      exact ⟨l, h.symm⟩)
    (fun l => hit_iff T r l)
  refine ⟨fun l => ?_, fun l hl => ?_⟩
  · rw [nextS_apply, hT]
    by_cases hl : l.val < i
    · have := hr l hl
      by_cases h1 : hitv T (ix2 r l) = 1#1
      · rw [if_pos h1, if_neg (fun h => h.2 (this.mpr (Or.inl h1)))]
      · rw [if_neg h1]
        by_cases h2 : l.val ∈ MobaMath.chain s i k
        · rw [if_neg (fun h => h.2 h2), if_neg (fun h => h.2 (this.mpr (Or.inr h2)))]
        · rw [if_pos ⟨hl, h2⟩, if_pos ⟨hl, fun h => (this.mp h).elim h1 h2⟩]
    · have e : (if l.val < i ∧ l.val ∉ MobaMath.chain s i k then s l else (⊥ : EReal)) = ⊥ := if_neg fun h => hl h.1
      have e' : (if l.val < i ∧ l.val ∉ MobaMath.chain s i (k + 1) then s l else (⊥ : EReal)) = ⊥ := if_neg fun h => hl h.1
      rw [e, e']
      split <;> rfl
  · have := hr l hl
    rw [nextSel_apply, hsel l hl]
    by_cases h1 : hitv T (ix2 r l) = 1#1
    · rw [if_pos h1, if_pos (this.mpr (Or.inl h1))]
    · rw [if_neg h1]
      by_cases h2 : l.val ∈ MobaMath.chain s i k
      · rw [if_pos h2, if_pos (this.mpr (Or.inr h2))]
      · rw [if_neg h2, if_neg (fun h => (this.mp h).elim h1 h2)]

open Classical in
/-- The selection marks the chosen blocks. -/
theorem pay62_apply (s : ℕ → EReal) (i : grid0.Coords) (hs : ∀ j < (i 1).val, s j ≠ ⊥) (q : Vec Ideal S256x128 .f32) (km : Vec Ideal S128x128 .f32) (r : Fin 256)
    (hT : ∀ l : Fin 128, l.val < (i 1).val → (∑ d : Fin 128, q (ix2 r d) * km (ix2 l d)) = s l) (l : Fin 128) :
    k0_pay62 (BitVec.ofNat 32 (i 1).val) lanes (k0_pay59 i q km) k0_pay60 (k0_pay61 i q km) (ix2 r l)
      = if l.val ∈ MobaMath.chain s (i 1).val 3 then 1 else 0 := by
  have hi : (i 1).val < 32 := (i 1).isLt
  rw [pay61_eq, pay62_eq]
  obtain ⟨a1, b1⟩ := round_step s (i 1).val 0 hs (by omega) (k0_pay59 i q km) k0_pay60 r
    (fun l => by
      rw [pay59_apply]
      by_cases h : l.val < (i 1).val
      · rw [if_pos h, if_pos ⟨h, by simp [MobaMath.chain]⟩, hT l h]
      · rw [if_neg h, if_neg (fun h' => h h'.1)])
    (fun l _ => by
      rw [if_neg (by simp [MobaMath.chain])]
      show Ideal.ofBits .f32 0x00000000#32 = 0
      exact Ideal.ofBits_zero_f32)
  obtain ⟨a2, b2⟩ := round_step s (i 1).val 1 hs (by omega) _ _ r a1 b1
  obtain ⟨_, b3⟩ := round_step s (i 1).val 2 hs (by omega) _ _ r a2 b2
  have e : ∀ X : FVec Ideal S256x128 .f32, select (cmpi .slt lanes (broadcast S256x128 (BitVec.ofNat 32 (i 1).val))) X (broadcast S256x128 (Scalar.ofBits (F := Ideal) .f32 0x00000000#32)) (ix2 r l)
      = if l.val < (i 1).val then X (ix2 r l) else 0 := by
    intro X
    pointwise
    exact sel_lt _ _ (by omega) (by omega) _ _
  rw [e]
  by_cases h : l.val < (i 1).val
  · rw [if_pos h, b3 l h]
  · rw [if_neg h, if_neg (fun h' => h (MobaMath.chain_lt _ _ _ _ h'))]

end Cert.MobaIdeal.Whole
-- ==== Proof.Value.MobaRun.lean ====
/-
  The block attention: the running maximum, sum and accumulator over the blocks a row attends to.
-/
module

public import proofs.«01_k».proof.Proof.Gen.MobaIdeal.Value
public import proofs.«01_k».proof.Proof.Value.MobaPay
public import Idealize.ShloMosaic.Lib.Pipeline.Value
public import Idealize.ShloMosaic.Lib.Pointwise

@[expose] public section

set_option maxRecDepth 16384

noncomputable section

namespace Cert.MobaIdeal.Whole

open Cert.MobaIdeal Cert.MobaIdeal.Gen
open Idealize.ShloMosaic Idealize.ShloMosaic.TcCoe Idealize.SL.Sem

/-- The origin of a block, as a constant function. -/
theorem hz : (![0, 0] : Fin 2 → Nat) = fun _ => 0 := funext fun a => by fin_cases a <;> rfl

section Args

variable (𝒱 : Variants) (c : Dev nD) (bd : Option 𝒱.V) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S128x128 .f32) (harg8 : arg8.IsWhole)

/-- What one trip of the loop hands on. -/
theorem trip1
    (v6 : FVec Ideal S256x128 .bf16) (v79 : FVec Ideal S256x128 .f32) (v80 : IVec S256x128 32) (c0 : BitVec 32)
    (X6 : BufTy.Contents (Elt Ideal) arg6.view.ty) (X7 : BufTy.Contents (Elt Ideal) arg7.view.ty) (k : Fin (k0_t1_loop i).trips)
    (acc : FVec Ideal S256x1 .f32 × FVec Ideal S256x1 .f32 × FVec Ideal S256x128 .f32) :
    tripR_k0_t1 𝒱 c bd i arg2 harg2 arg3 harg3 arg4 harg4 arg5 harg5 arg6 harg6 arg7 harg7 arg8 harg8 v6 v79 v80 c0 X6 X7 k acc
      = (k0_pay5 i v6 v79 v80 c0 k acc.1 (View.ld (arg6.view.read (Elt Ideal) X6) (Rect.unit (s := S8192x128) (k0_off2 i k) S256x128.size (k0_off2_inb i k))),
         k0_pay7 i v6 v79 v80 c0 k acc.1 acc.2.1 (View.ld (arg6.view.read (Elt Ideal) X6) (Rect.unit (s := S8192x128) (k0_off2 i k) S256x128.size (k0_off2_inb i k))),
         k0_pay8 i v6 v79 v80 c0 k acc.1 acc.2.2 (View.ld (arg6.view.read (Elt Ideal) X6) (Rect.unit (s := S8192x128) (k0_off2 i k) S256x128.size (k0_off2_inb i k)))
           (View.ld (arg7.view.read (Elt Ideal) X7) (Rect.unit (s := S8192x128) (k0_off2 i k) S256x128.size (k0_off2_inb i k)))) := by
  unfold tripR_k0_t1 trip_k0_t1
  dsimp only
  sl_unfold_words
  rfl

/-- The first loop's start: the row's own block. -/
def first (x0 : Vec Ideal S256x128 .f32) (ko vo : Vec Ideal S256x128 .bf16) : FVec Ideal S256x1 .f32 × FVec Ideal S256x1 .f32 × FVec Ideal S256x128 .f32 :=
  (k0_pay55 x0 ko, k0_pay57 x0 ko, k0_pay58 x0 ko vo)

/-- The selection of a block of rows. -/
def choice (i : grid0.Coords) (x0 : Vec Ideal S256x128 .f32) (km : Vec Ideal S128x128 .f32) : FVec Ideal S256x128 .f32 :=
  k0_pay62 (BitVec.ofNat 32 (i 1).val) lanes (k0_pay59 i x0 km) k0_pay60 (k0_pay61 i x0 km)

/-- The running triple before trip `n`. -/
def runAt (X6 : BufTy.Contents (Elt Ideal) arg6.view.ty) (X7 : BufTy.Contents (Elt Ideal) arg7.view.ty)
    (x0 : Vec Ideal S256x128 .f32) (ko vo : Vec Ideal S256x128 .bf16) (km : Vec Ideal S128x128 .f32) (n : ℕ) :
    FVec Ideal S256x1 .f32 × FVec Ideal S256x1 .f32 × FVec Ideal S256x128 .f32 :=
  st_k0_t1 Variants.none c none i arg2 harg2 arg3 harg3 arg4 harg4 arg5 harg5 arg6 harg6 arg7 harg7 arg8 harg8 (k0_pay53 x0) (choice i x0 km) lanes 0#32 X6 X7 (first x0 ko vo) n

/-- A point's block from the running triple: the second loop runs no trip. -/
def res (X6 : BufTy.Contents (Elt Ideal) arg6.view.ty) (X7 : BufTy.Contents (Elt Ideal) arg7.view.ty)
    (x0 : Vec Ideal S256x128 .f32) (ko vo : Vec Ideal S256x128 .bf16) (km : Vec Ideal S128x128 .f32) : FVec Ideal S256x128 .f32 :=
  k0_pay17
    (st_k0_t2 Variants.none c none i arg2 harg2 arg3 harg3 arg4 harg4 arg5 harg5 arg6 harg6 arg7 harg7 arg8 harg8 (k0_pay53 x0) (choice i x0 km) lanes 0#32 (Scalar.subi (BitVec.ofNat 32 (i 1).val) 0#32) X6 X7
      ((runAt c i arg2 harg2 arg3 harg3 arg4 harg4 arg5 harg5 arg6 harg6 arg7 harg7 arg8 harg8 X6 X7 x0 ko vo km (k0_t1_loop i).trips).1, (runAt c i arg2 harg2 arg3 harg3 arg4 harg4 arg5 harg5 arg6 harg6 arg7 harg7 arg8 harg8 X6 X7 x0 ko vo km (k0_t1_loop i).trips).2.1,
        (runAt c i arg2 harg2 arg3 harg3 arg4 harg4 arg5 harg5 arg6 harg6 arg7 harg7 arg8 harg8 X6 X7 x0 ko vo km (k0_t1_loop i).trips).2.2) (k0_t2_loop i).trips).2.1
    (st_k0_t2 Variants.none c none i arg2 harg2 arg3 harg3 arg4 harg4 arg5 harg5 arg6 harg6 arg7 harg7 arg8 harg8 (k0_pay53 x0) (choice i x0 km) lanes 0#32 (Scalar.subi (BitVec.ofNat 32 (i 1).val) 0#32) X6 X7
      ((runAt c i arg2 harg2 arg3 harg3 arg4 harg4 arg5 harg5 arg6 harg6 arg7 harg7 arg8 harg8 X6 X7 x0 ko vo km (k0_t1_loop i).trips).1, (runAt c i arg2 harg2 arg3 harg3 arg4 harg4 arg5 harg5 arg6 harg6 arg7 harg7 arg8 harg8 X6 X7 x0 ko vo km (k0_t1_loop i).trips).2.1,
        (runAt c i arg2 harg2 arg3 harg3 arg4 harg4 arg5 harg5 arg6 harg6 arg7 harg7 arg8 harg8 X6 X7 x0 ko vo km (k0_t1_loop i).trips).2.2) (k0_t2_loop i).trips).2.2

/-- The rows of the point's own block, of a whole array. -/
def ownRows (i : grid0.Coords) (x : Vec Ideal S8192x128 .bf16) : Vec Ideal S256x128 .bf16 :=
  View.ld x (Rect.unit (s := S8192x128) (k0_off1 i) S256x128.size (k0_off1_inb i))

/-- What a later point of a head leaves in its block. -/
theorem out_B (hc0 : ¬cond0_0 i) (x0 : Vec Ideal S256x128 .f32) (x1 x2 : Vec Ideal S8192x128 .f32) (xs0 xs1 : Vec Ideal S8192x128 .bf16) (xs2 : Vec Ideal S128x128 .f32) :
    out0_B_3 (F := Ideal) c i arg2 harg2 arg3 harg3 arg4 harg4 arg5 harg5 arg6 harg6 arg7 harg7 arg8 harg8 hc0 x0 x1 x2 xs0 xs1 xs2 = res c i arg2 harg2 arg3 harg3 arg4 harg4 arg5 harg5 arg6 harg6 arg7 harg7 arg8 harg8 (harg6.unread xs0) (harg7.unread xs1) x0 (ownRows i xs0) (ownRows i xs1) xs2 := by
  unfold out0_B_3
  rw [View.read_writes_eq_canon _ _ _ (cover0_B_3 c i arg2 harg2 arg3 harg3 arg4 harg4 arg5 harg5 arg6 harg6 arg7 harg7 arg8 harg8 hc0 x0 x1 x2 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread,
    harg8.read_unread, View.ld_unit_zero (S := S256x128) hz, View.ld_unit_zero (S := S8192x128) hz, View.ld_unit_zero (S := S128x128) hz]
  rfl

/-- What a head's first point leaves in its block. -/
theorem out_A (hc0 : cond0_0 i) (x0 : Vec Ideal S256x128 .f32) (x1 x2 : Vec Ideal S8192x128 .f32) :
    ∃ X6 X7 km, out0_A_3 (F := Ideal) c i arg2 harg2 arg3 harg3 arg4 harg4 arg5 harg5 arg6 harg6 arg7 harg7 arg8 harg8 hc0 x0 x1 x2 = res c i arg2 harg2 arg3 harg3 arg4 harg4 arg5 harg5 arg6 harg6 arg7 harg7 arg8 harg8 X6 X7 x0 (ownRows i (k0_pay18 x1)) (ownRows i (k0_pay19 x2)) km := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  rw [View.canon_unit_zero hz]
  simp only [View.readAt_eq_ld, harg2.read_unread, harg3.read_unread, harg4.read_unread, harg5.read_unread, harg6.read_unread, harg7.read_unread,
    harg8.read_unread, View.ld_unit_zero (S := S256x128) hz, View.ld_unit_zero (S := S8192x128) hz, View.ld_unit_zero (S := S128x128) hz]
  have e6 : View.read (Elt Ideal) arg6.view (arg6.view.writes (Elt Ideal) arg6.view.junk
      [⟨Rect.unit (s := S8192x128) ![0, 0] S8192x128.size inb_S8192x128_S8192x128_0_0, k0_pay18 x1⟩]) = k0_pay18 x1 :=
    (View.read_writes_eq_canon _ _ _ (View.cover_of_tiledL _ S8192x128.size (by sl_kernel_rfl))).trans (View.canon_unit_zero hz _ _)
  have e7 : View.read (Elt Ideal) arg7.view (arg7.view.writes (Elt Ideal) arg7.view.junk
      [⟨Rect.unit (s := S8192x128) ![0, 0] S8192x128.size inb_S8192x128_S8192x128_0_0, k0_pay19 x2⟩]) = k0_pay19 x2 :=
    (View.read_writes_eq_canon _ _ _ (View.cover_of_tiledL _ S8192x128.size (by sl_kernel_rfl))).trans (View.canon_unit_zero hz _ _)
  have key : ∀ X6 X7 ko vo km, ko = ownRows i (k0_pay18 x1) → vo = ownRows i (k0_pay19 x2) →
      ∃ X6' X7' km', res c i arg2 harg2 arg3 harg3 arg4 harg4 arg5 harg5 arg6 harg6 arg7 harg7 arg8 harg8 X6 X7 x0 ko vo km = res c i arg2 harg2 arg3 harg3 arg4 harg4 arg5 harg5 arg6 harg6 arg7 harg7 arg8 harg8 X6' X7' x0 (ownRows i (k0_pay18 x1)) (ownRows i (k0_pay19 x2)) km' := by
    rintro X6 X7 ko vo km rfl rfl
    exact ⟨X6, X7, km, rfl⟩
  refine key _ _ _ _ _ ?_ ?_
  · unfold ownRows
    rw [← e6]
    rfl
  · unfold ownRows
    rw [← e7]
    rfl

end Args

end Cert.MobaIdeal.Whole
-- ==== Proof.Value.MobaSpec.lean ====
/-
  The block attention of one query, as a function of the query and all keys and values.
-/
module

public import proofs.«01_k».proof.Proof.Value.MobaMath
public import Idealize.ShloMosaic.Lib.IdealHost

@[expose] public section

noncomputable section

namespace Cert.MobaMath

open Idealize.ShloMosaic

/-- The place of an entry of a block among all rows. -/
def row (j : ℕ) (c : Fin 256) : Fin 8192 := ⟨j % 32 * 256 + c.val, by omega⟩

/-- The scaled score of a query with a key. -/
def logit (Q : Fin 128 → EReal) (K : Fin 8192 → Fin 128 → EReal) (J : Fin 8192) : EReal :=
  ∑ d, Q d * Ideal.ofBits FTy.f32 0x3DB504F3#32 * K J d

/-- The score of a query with a block's mean key. -/
def score (Q : Fin 128 → EReal) (K : Fin 8192 → Fin 128 → EReal) (j : ℕ) : EReal :=
  ∑ d, Q d * Ideal.div (∑ c, K (row j c) d) (Ideal.ofBits FTy.f32 0x43800000#32)

/-- The scaled scores of a query with its own block, the later keys left out. -/
def own (Q : Fin 128 → EReal) (K : Fin 8192 → Fin 128 → EReal) (i : ℕ) (r c : Fin 256) : EReal :=
  if c.val ≤ r.val then logit Q K (row i c) else ⊥

/-- The sum of the weights. -/
def wsum (Q : Fin 128 → EReal) (K : Fin 8192 → Fin 128 → EReal) (i : ℕ) (r : Fin 256) : EReal :=
  (∑ c, Ideal.exp (own Q K i r c)) + ∑ j ∈ chain (score Q K) i 3, ∑ c, Ideal.exp (logit Q K (row j c))

/-- The weighted sum of the values. -/
def vsum (Q : Fin 128 → EReal) (K V : Fin 8192 → Fin 128 → EReal) (i : ℕ) (r : Fin 256) (d : Fin 128) : EReal :=
  (∑ c, Ideal.exp (own Q K i r c) * V (row i c) d) + ∑ j ∈ chain (score Q K) i 3, ∑ c, Ideal.exp (logit Q K (row j c)) * V (row j c) d

/-- The attention's result. -/
def att (Q : Fin 128 → EReal) (K V : Fin 8192 → Fin 128 → EReal) (i : ℕ) (r : Fin 256) (d : Fin 128) : EReal :=
  vsum Q K V i r d * ((1 / (wsum Q K i r).toReal : ℝ) : EReal)

/-- A sum of reals is a real. -/
theorem sum_real {ι : Type} (t : Finset ι) (f : ι → EReal) (hf : ∀ i, ∃ r : ℝ, f i = r) : ∃ r : ℝ, ∑ k ∈ t, f k = r := by
  classical
  induction t using Finset.induction_on with
  | empty => exact ⟨0, by simp⟩
  | insert a t ha ih =>
    obtain ⟨r, e⟩ := ih
    obtain ⟨q, e'⟩ := hf a
    exact ⟨q + r, by rw [Finset.sum_insert ha, e, e', EReal.coe_add]⟩

/-- A product of reals is a real. -/
theorem mul_real (a b : EReal) (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

/-- The scale is a real. -/
theorem scale_real : ∃ r : ℝ, Ideal.ofBits FTy.f32 0x3DB504F3#32 = r := ⟨_, rfl⟩

/-- The number of keys of a block. -/
theorem size_real : ∃ r : ℝ, r ≠ 0 ∧ Ideal.ofBits FTy.f32 0x43800000#32 = r := by
  refine ⟨_, ?_, rfl⟩
  norm_num
  split
  · exact neg_ne_zero.mpr (mul_ne_zero (by norm_num) (zpow_ne_zero _ (by norm_num)))
  · exact mul_ne_zero (by norm_num) (zpow_ne_zero _ (by norm_num))

section
variable (Q : Fin 128 → EReal) (K : Fin 8192 → Fin 128 → EReal) (hQ : ∀ d, ∃ r : ℝ, Q d = r) (hK : ∀ J d, ∃ r : ℝ, K J d = r)
include hQ hK

/-- A scaled score of reals is a real. -/
theorem logit_real (J : Fin 8192) : ∃ r : ℝ, logit Q K J = r :=
  sum_real _ _ fun d => mul_real _ _ (mul_real _ _ (hQ d) scale_real) (hK J d)

/-- A block score of reals is a real. -/
theorem score_real (j : ℕ) : ∃ r : ℝ, score Q K j = r := by
  refine sum_real _ _ fun d => mul_real _ _ (hQ d) ?_
  obtain ⟨x, hx⟩ := sum_real Finset.univ (fun c => K (row j c) d) fun c => hK _ d
  obtain ⟨y, hy, e⟩ := size_real
  rw [hx, e, Ideal.div_coe hy]
  exact mul_real _ _ ⟨_, rfl⟩ ⟨_, rfl⟩

/-- A masked score is below the top. -/
theorem own_ne_top (i : ℕ) (r c : Fin 256) : own Q K i r c ≠ ⊤ := by
  unfold own
  split
  · obtain ⟨x, hx⟩ := logit_real Q K hQ hK (row i c)
    rw [hx]
    exact EReal.coe_ne_top x
  · exact bot_ne_top

/-- The first key of its own block is not left out. -/
theorem own_some (i : ℕ) (r : Fin 256) : ∃ c, own Q K i r c ≠ ⊥ := by
  refine ⟨r, ?_⟩
  unfold own
  rw [if_pos le_rfl]
  obtain ⟨x, hx⟩ := logit_real Q K hQ hK (row i r)
  rw [hx]
  exact EReal.coe_ne_bot x

/-- The sum of the weights is a positive real. -/
theorem wsum_real (i : ℕ) (r : Fin 256) : ∃ L : ℝ, L ≠ 0 ∧ wsum Q K i r = L := by
  obtain ⟨a, ha, ea⟩ := sum_coe Finset.univ (fun c => Ideal.exp (own Q K i r c)) fun c => exp_coe _ (own_ne_top Q K hQ hK i r c)
  obtain ⟨b, hb, eb⟩ := sum_coe (chain (score Q K) i 3) (fun j => ∑ c, Ideal.exp (logit Q K (row j c))) fun j =>
    sum_coe _ _ fun c => exp_coe _ (by obtain ⟨x, hx⟩ := logit_real Q K hQ hK (row j c); rw [hx]; exact EReal.coe_ne_top x)
  refine ⟨a + b, ?_, by unfold wsum; rw [ea, eb, EReal.coe_add]⟩
  have h0 : ∀ c, 0 ≤ Ideal.exp (own Q K i r c) := fun c => by
    obtain ⟨x, hx, e⟩ := exp_coe _ (own_ne_top Q K hQ hK i r c)
    rw [e]
    exact EReal.coe_nonneg.mpr hx
  have h1 : Ideal.exp (own Q K i r r) ≤ (a : EReal) := by
    rw [← ea]
    exact Finset.single_le_sum (f := fun c => Ideal.exp (own Q K i r c)) (fun c _ => h0 c) (Finset.mem_univ r)
  obtain ⟨x, hx⟩ := logit_real Q K hQ hK (row i r)
  have h2 : Ideal.exp (own Q K i r r) = ((Real.exp x : ℝ) : EReal) := by
    unfold own
    rw [if_pos le_rfl, hx]
    rfl
  rw [h2, EReal.coe_le_coe_iff] at h1
  have := Real.exp_pos x
  linarith

end

end Cert.MobaMath
-- ==== Proof.Value.MobaScratch.lean ====
/-
  The block attention: what a head keeps between its points.
-/
module

public import proofs.«01_k».proof.Proof.Gen.MobaIdeal.Value
public import proofs.«01_k».proof.Proof.Value.MobaRun
public import proofs.«01_k».proof.Proof.Value.MobaSpec
public import Idealize.ShloMosaic.Lib.Pipeline.CanonAppend
public import Idealize.ShloMosaic.Lib.Pipeline.Value
public import Idealize.ShloMosaic.Lib.Pointwise

@[expose] public section

set_option maxRecDepth 16384

noncomputable section

namespace Cert.MobaIdeal.Whole

open Cert.MobaIdeal Cert.MobaIdeal.Gen
open Idealize.ShloMosaic Idealize.ShloMosaic.TcCoe Idealize.SL.Sem

section Args

variable (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S128x128 .f32) (harg8 : arg8.IsWhole)

/-- What a head's first point leaves in the key scratch. -/
theorem sout0 (hc0 : cond0_0 i) (x0 : Vec Ideal S256x128 .f32) (x1 x2 : Vec Ideal S8192x128 .f32) : sout0_A_0 (F := Ideal) c i arg2 harg2 arg3 harg3 arg4 harg4 arg5 harg5 arg6 harg6 arg7 harg7 arg8 harg8 hc0 x0 x1 x2 = k0_pay18 x1 := by
  unfold sout0_A_0
  rw [View.read_writes_eq_canon _ _ _ (scover0_A_0 c i arg2 harg2 arg3 harg3 arg4 harg4 arg5 harg5 arg6 harg6 arg7 harg7 arg8 harg8 hc0 x0 x1 x2)]
  unfold kernelRun0_A
  dsimp only
  sl_unfold_words
  rw [View.canon_unit_zero hz]
  simp only [View.readAt_eq_ld, harg2.read_unread, harg3.read_unread, harg4.read_unread, harg5.read_unread, harg6.read_unread, harg7.read_unread,
    harg8.read_unread, View.ld_unit_zero (S := S256x128) hz, View.ld_unit_zero (S := S8192x128) hz, View.ld_unit_zero (S := S128x128) hz]
  rfl

/-- What it leaves in the value scratch. -/
theorem sout1 (hc0 : cond0_0 i) (x0 : Vec Ideal S256x128 .f32) (x1 x2 : Vec Ideal S8192x128 .f32) : sout0_A_1 (F := Ideal) c i arg2 harg2 arg3 harg3 arg4 harg4 arg5 harg5 arg6 harg6 arg7 harg7 arg8 harg8 hc0 x0 x1 x2 = k0_pay19 x2 := by
  unfold sout0_A_1
  rw [View.read_writes_eq_canon _ _ _ (scover0_A_1 c i arg2 harg2 arg3 harg3 arg4 harg4 arg5 harg5 arg6 harg6 arg7 harg7 arg8 harg8 hc0 x0 x1 x2)]
  unfold kernelRun0_A
  dsimp only
  sl_unfold_words
  rw [View.canon_unit_zero hz]
  simp only [View.readAt_eq_ld, harg2.read_unread, harg3.read_unread, harg4.read_unread, harg5.read_unread, harg6.read_unread, harg7.read_unread,
    harg8.read_unread, View.ld_unit_zero (S := S256x128) hz, View.ld_unit_zero (S := S8192x128) hz, View.ld_unit_zero (S := S128x128) hz]
  rfl

/-- The rows of a block lie in the array. -/
theorem rows_inb (b : ℕ) (h : b < 32) : ∀ a, (![b * 256, 0] : Fin 2 → Nat) a + S256x128.size a ≤ S8192x128.size a := by
  intro a
  match a with
  | ⟨0, _⟩ => show b * 256 + 256 ≤ 8192
              omega
  | ⟨1, _⟩ => show 0 + 128 ≤ 128
              omega

/-- A row lies in the array of means. -/
theorem row_inb (b : ℕ) (h : b < 32) : ∀ a, (![b, 0] : Fin 2 → Nat) a + S1x128.size a ≤ S128x128.size a := by
  intro a
  match a with
  | ⟨0, _⟩ => show b + 1 ≤ 128
              omega
  | ⟨1, _⟩ => show 0 + 128 ≤ 128
              omega

/-- The store of a block's mean key. -/
def meanPiece (x1 : Vec Ideal S8192x128 .f32) (b : ℕ) (h : b < 32) : View.Piece (Elt Ideal) S128x128 .f32 :=
  ⟨Rect.unit (s := S128x128) ![b, 0] S1x128.size (row_inb b h),
    k0_pay21 (F := Ideal) (View.ld x1 (Rect.unit (s := S8192x128) ![b * 256, 0] S256x128.size (rows_inb b h)))⟩

/-- The mean key of a block. -/
def meanAt (x1 : Vec Ideal S8192x128 .f32) (y : S128x128.Idx) : EReal :=
  Ideal.div (∑ c : Fin 256, x1 (ix2 (MobaMath.row (y 0).val c) (y 1))) (Ideal.ofBits FTy.f32 0x43800000#32)

/-- A stored mean key is the block's. -/
theorem meanPiece_eq (z : Vec Ideal S8192x128 .f32) (b : ℕ) (h : b < 32) (x : S1x128.Idx) :
    k0_pay21 (F := Ideal) (View.ld z (Rect.unit (s := S8192x128) ![b * 256, 0] S256x128.size (rows_inb b h))) x
      = meanAt z ((Rect.unit (s := S128x128) ![b, 0] S1x128.size (row_inb b h)).emb x) := by
  idx_vars x
  have e0 : x0 = 0 := by omega
  subst e0
  rw [pay21_apply]
  unfold meanAt
  congr 1
  refine Finset.sum_congr rfl fun c _ => congrArg z ?_
  funext a
  apply Fin.ext
  match a with
  | ⟨0, _⟩ => show b * 256 + 1 * c.val = (b + 1 * 0) % 32 * 256 + c.val
              omega
  | ⟨1, _⟩ => show 0 + 1 * x1.val = 0 + 1 * x1.val
              rfl

/-- What it leaves in the scratch of mean keys, at the rows of the blocks. -/
theorem sout2 (hc0 : cond0_0 i) (x0 : Vec Ideal S256x128 .f32) (x1 x2 : Vec Ideal S8192x128 .f32) (l d : Fin 128) (hl : l.val < 32) :
    sout0_A_2 (F := Ideal) c i arg2 harg2 arg3 harg3 arg4 harg4 arg5 harg5 arg6 harg6 arg7 harg7 arg8 harg8 hc0 x0 x1 x2 (ix2 l d) = meanAt x1 (ix2 l d) := by
  unfold sout0_A_2
  rw [View.read_writes_eq_canon _ _ _ (scover0_A_2 c i arg2 harg2 arg3 harg3 arg4 harg4 arg5 harg5 arg6 harg6 arg7 harg7 arg8 harg8 hc0 x0 x1 x2)]
  unfold kernelRun0_A
  dsimp only
  sl_unfold_words
  simp only [View.readAt_eq_ld, harg2.read_unread, harg3.read_unread, harg4.read_unread, harg5.read_unread, harg6.read_unread, harg7.read_unread,
    harg8.read_unread, View.ld_unit_zero (S := S256x128) hz, View.ld_unit_zero (S := S8192x128) hz, View.ld_unit_zero (S := S128x128) hz]
  refine (View.canon_append_of_pieces (meanAt x1) [⟨Rect.unit (s := S128x128) ![0, 0] S128x128.size inb_S128x128_S128x128_0_0, k0_pay20 (F := Ideal)⟩]
    (List.ofFn fun k : Fin 32 => meanPiece x1 (31 - k.val) (by omega)) ?_ (ix2 l d) ?_ :)
  · intro p hp
    obtain ⟨k, rfl⟩ := List.mem_ofFn.mp hp
    exact fun x => meanPiece_eq x1 (31 - k.val) (by omega) x
  · refine ⟨meanPiece x1 (31 - (31 - l.val)) (by omega), List.mem_ofFn.mpr ⟨⟨31 - l.val, by omega⟩, rfl⟩, ?_⟩
    have e : (Rect.unit (s := S128x128) ![31 - (31 - l.val), 0] S1x128.size (row_inb _ (by omega))).emb (ix2 0 d : S1x128.Idx) = ix2 l d := by
      funext a
      apply Fin.ext
      match a with
      | ⟨0, _⟩ => show 31 - (31 - l.val) + 1 * 0 = l.val
                  omega
      | ⟨1, _⟩ => show 0 + 1 * d.val = d.val
                  omega
    rw [← e]
    exact LoadRect.idx_mem _ _

end Args

end Cert.MobaIdeal.Whole
-- ==== Proof.Value.MobaState.lean ====
/-
  The block attention: the running maximum, sum and accumulator over the blocks a row attends to.
-/
module

public import proofs.«01_k».proof.Proof.Gen.MobaIdeal.Value
public import proofs.«01_k».proof.Proof.Value.MobaRun
public import proofs.«01_k».proof.Proof.Value.MobaSpec
public import Idealize.ShloMosaic.Lib.Pipeline.Value
public import Idealize.ShloMosaic.Lib.Pointwise

@[expose] public section

set_option maxRecDepth 16384

noncomputable section

namespace Cert.MobaIdeal.Whole

open Cert.MobaIdeal Cert.MobaIdeal.Gen
open Idealize.ShloMosaic Idealize.ShloMosaic.TcCoe Idealize.SL.Sem

/-- A block's row offset as the kernel computes it. -/
theorem word_off : ∀ b : Fin 32, (Scalar.indexCast (Scalar.muli (BitVec.ofNat 32 b.val) 256#32)).toNat = b.val * 256 := by
  decide +kernel

/-- The number of trips as the kernel computes it. -/
theorem word_trips : ∀ b : Fin 32, Scf.trips (0#32) (Scalar.addi (0#32) (Scalar.muli (Scalar.divsi (Scalar.subi (BitVec.ofNat 32 b.val) 0#32) 1#32) 1#32)) 1#32 = b.val := by
  decide +kernel

/-- The second loop's number of trips. -/
theorem word_trips2 : ∀ b : Fin 32, Scf.trips (Scalar.addi (0#32) (Scalar.muli (Scalar.divsi (Scalar.subi (BitVec.ofNat 32 b.val) 0#32) 1#32) 1#32))
    (Scalar.addi (0#32) (Scalar.subi (BitVec.ofNat 32 b.val) 0#32)) 1#32 = 0 := by
  decide +kernel

/-- The first loop runs one trip for each earlier block. -/
theorem trips1 (i : grid0.Coords) : (k0_t1_loop i).trips = (i 1).val := word_trips (i 1)

/-- The second loop runs none. -/
theorem trips2 (i : grid0.Coords) : (k0_t2_loop i).trips = 0 := word_trips2 (i 1)

/-- The row's own block, among all rows. -/
theorem ownRows_apply (i : grid0.Coords) (x : Vec Ideal S8192x128 .bf16) (c : Fin 256) (d : Fin 128) :
    ownRows i x (ix2 c d) = x (ix2 (MobaMath.row (i 1).val c) d) := by
  have hi : (i 1).val < 32 := (i 1).isLt
  refine congrArg x ?_
  funext a
  apply Fin.ext
  match a with
  | ⟨0, _⟩ => show (Scalar.indexCast (Scalar.muli (BitVec.ofNat 32 (i 1).val) 256#32)).toNat + 1 * c.val = (i 1).val % 32 * 256 + c.val
              rw [word_off ⟨(i 1).val, hi⟩]
              show (i 1).val * 256 + 1 * c.val = _
              omega
  | ⟨1, _⟩ => show 0 + 1 * d.val = d.val
              omega

/-- A trip's block, among all rows. -/
theorem ld_trip (i : grid0.Coords) (k : Fin (k0_t1_loop i).trips) (x : Vec Ideal S8192x128 .bf16) (c : Fin 256) (d : Fin 128) :
    View.ld x (Rect.unit (s := S8192x128) (k0_off2 i k) S256x128.size (k0_off2_inb i k)) (ix2 c d) = x (ix2 (MobaMath.row k.val c) d) := by
  have hi : (i 1).val < 32 := (i 1).isLt
  have hk : k.val < 32 := by have := k.isLt; have := trips1 i; omega
  refine congrArg x ?_
  funext a
  apply Fin.ext
  match a with
  | ⟨0, _⟩ => show (Scalar.indexCast (Scalar.muli (Scf.iv 0#32 1#32 k.val) 256#32)).toNat + 1 * c.val = k.val % 32 * 256 + c.val
              rw [iv_ofNat, word_off ⟨k.val, hk⟩]
              show k.val * 256 + 1 * c.val = _
              omega
  | ⟨1, _⟩ => show 0 + 1 * d.val = d.val
              omega

/-- One trip, at a row: it takes a block up when it is chosen and leaves all as it is when not. -/
theorem step (i : grid0.Coords) (q : FVec Ideal S256x128 .bf16) (sel : FVec Ideal S256x128 .f32) (k : Fin (k0_t1_loop i).trips) (hk : k.val < 128)
    (m l : FVec Ideal S256x1 .f32) (acc : FVec Ideal S256x128 .f32) (kb vb : Vec Ideal S256x128 .bf16) (r : Fin 256) (L : EReal) (A : Fin 128 → EReal)
    (b : Prop) [Decidable b] (hsel : sel (ix2 r ⟨k.val, hk⟩) = if b then 1 else 0) (hpos : ∀ l, 0 ≤ sel (ix2 r l))
    (a : Fin 256 → EReal) (ha : ∀ c, k0_pay2 q kb (ix2 r c) = a c) (hfin : ∀ c, ∃ x : ℝ, a c = x)
    (v : Fin 256 → Fin 128 → EReal) (hv : ∀ c d, vb (ix2 c d) = v c d)
    (h : MobaMath.Run (m (ix2 r 0)) (l (ix2 r 0)) (fun d => acc (ix2 r d)) L A) :
    MobaMath.Run (k0_pay5 i q sel lanes 0#32 k m kb (ix2 r 0)) (k0_pay7 i q sel lanes 0#32 k m l kb (ix2 r 0))
      (fun d => k0_pay8 i q sel lanes 0#32 k m acc kb vb (ix2 r d))
      (L + if b then ∑ c, Ideal.exp (a c) else 0) (fun d => A d + if b then ∑ c, Ideal.exp (a c) * v c d else 0) := by
  have h1 : k0_pay1 i sel lanes 0#32 k (ix2 r 0) = if b then 1 else 0 := (pay1_apply i sel k hk r hpos).trans hsel
  have ht : ∀ c, a c ≠ ⊤ := fun c => by
    obtain ⟨x, hx⟩ := hfin c
    rw [hx]
    exact EReal.coe_ne_top x
  have hb : ∃ c, a c ≠ ⊥ := ⟨0, by
    obtain ⟨x, hx⟩ := hfin 0
    rw [hx]
    exact EReal.coe_ne_bot x⟩
  simp only [pay5_apply, pay7_apply, pay8_apply, pay4_apply, pay3_apply, h1, ha, hv]
  by_cases hc : b
  · simp only [if_pos hc, zero_lt_one, if_true]
    exact MobaMath.run_on _ _ _ L A h a v ht hb
  · simp only [if_neg hc, lt_irrefl, if_false, add_zero]
    exact MobaMath.run_off _ _ _ L A h _ _

section
variable (c : Dev nD) (i : grid0.Coords) (arg2 : Memref sig .tc .vmem S256x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S128x128 .f32) (harg8 : arg8.IsWhole)
variable (X6 : BufTy.Contents (Elt Ideal) arg6.view.ty) (X7 : BufTy.Contents (Elt Ideal) arg7.view.ty)
  (x0 : Vec Ideal S256x128 .f32) (xk xv : Vec Ideal S8192x128 .bf16) (km : Vec Ideal S128x128 .f32) (r : Fin 256)
  (h6 : 0 < (i 1).val → View.read (Elt Ideal) arg6.view X6 = xk) (h7 : 0 < (i 1).val → View.read (Elt Ideal) arg7.view X7 = xv)
  (hm : ∀ l d : Fin 128, l.val < (i 1).val → km (ix2 l d) = Ideal.div (∑ c, xk (ix2 (MobaMath.row l.val c) d)) (Ideal.ofBits FTy.f32 0x43800000#32))
  (hQ : ∀ d, ∃ x : ℝ, x0 (ix2 r d) = x) (hK : ∀ J d, ∃ x : ℝ, xk (ix2 J d) = x)
include h6 h7 hm hQ hK

open Classical in
/-- The running triple before trip `n`, at a row. -/
theorem run_row (n : ℕ) (hn : n ≤ (i 1).val) :
    MobaMath.Run ((runAt c i arg2 harg2 arg3 harg3 arg4 harg4 arg5 harg5 arg6 harg6 arg7 harg7 arg8 harg8 X6 X7 x0 (ownRows i xk) (ownRows i xv) km n).1 (ix2 r 0))
      ((runAt c i arg2 harg2 arg3 harg3 arg4 harg4 arg5 harg5 arg6 harg6 arg7 harg7 arg8 harg8 X6 X7 x0 (ownRows i xk) (ownRows i xv) km n).2.1 (ix2 r 0))
      (fun d => (runAt c i arg2 harg2 arg3 harg3 arg4 harg4 arg5 harg5 arg6 harg6 arg7 harg7 arg8 harg8 X6 X7 x0 (ownRows i xk) (ownRows i xv) km n).2.2 (ix2 r d))
      ((∑ c, Ideal.exp (MobaMath.own (fun d => x0 (ix2 r d)) (fun J d => xk (ix2 J d)) (i 1).val r c))
        + ∑ j ∈ Finset.range n, if j ∈ MobaMath.chain (MobaMath.score (fun d => x0 (ix2 r d)) (fun J d => xk (ix2 J d))) (i 1).val 3 then
            ∑ c, Ideal.exp (MobaMath.logit (fun d => x0 (ix2 r d)) (fun J d => xk (ix2 J d)) (MobaMath.row j c)) else 0)
      (fun d => (∑ c, Ideal.exp (MobaMath.own (fun d => x0 (ix2 r d)) (fun J d => xk (ix2 J d)) (i 1).val r c) * xv (ix2 (MobaMath.row (i 1).val c) d))
        + ∑ j ∈ Finset.range n, if j ∈ MobaMath.chain (MobaMath.score (fun d => x0 (ix2 r d)) (fun J d => xk (ix2 J d))) (i 1).val 3 then
            ∑ c, Ideal.exp (MobaMath.logit (fun d => x0 (ix2 r d)) (fun J d => xk (ix2 J d)) (MobaMath.row j c)) * xv (ix2 (MobaMath.row j c) d) else 0) := by
  have hi : (i 1).val < 32 := (i 1).isLt
  induction n with
  | zero =>
    have h := MobaMath.run_init (MobaMath.own (fun d => x0 (ix2 r d)) (fun J d => xk (ix2 J d)) (i 1).val r) (fun c d => xv (ix2 (MobaMath.row (i 1).val c) d))
      (MobaMath.own_ne_top _ _ hQ hK _ r) (MobaMath.own_some _ _ hQ hK _ r)
    have e : ∀ c, k0_pay54 x0 (ownRows i xk) (ix2 r c) = MobaMath.own (fun d => x0 (ix2 r d)) (fun J d => xk (ix2 J d)) (i 1).val r c := fun c => by
      rw [pay54_apply]
      simp only [pay53_apply, ownRows_apply]
      rfl
    simp only [Finset.range_zero, Finset.sum_empty, add_zero]
    unfold runAt
    rw [st_k0_t1_zero]
    unfold first
    dsimp only
    simp only [pay57_apply, pay58_apply, pay56_apply, pay55_apply, e, ownRows_apply]
    exact h
  | succ n ih =>
    have hl : n < (k0_t1_loop i).trips := by rw [trips1]; omega
    have e := st_k0_t1_succ Variants.none c none i arg2 harg2 arg3 harg3 arg4 harg4 arg5 harg5 arg6 harg6 arg7 harg7 arg8 harg8 (k0_pay53 x0) (choice i x0 km) lanes 0#32 X6 X7 (first x0 (ownRows i xk) (ownRows i xv)) ⟨n, hl⟩
    rw [trip1, h6 (by omega), h7 (by omega)] at e
    have hsel : ∀ l : Fin 128, choice i x0 km (ix2 r l)
        = if l.val ∈ MobaMath.chain (MobaMath.score (fun d => x0 (ix2 r d)) (fun J d => xk (ix2 J d))) (i 1).val 3 then 1 else 0 := fun l =>
      pay62_apply (MobaMath.score (fun d => x0 (ix2 r d)) (fun J d => xk (ix2 J d))) i
        (fun j _ => by
          obtain ⟨x, hx⟩ := MobaMath.score_real (fun d => x0 (ix2 r d)) (fun J d => xk (ix2 J d)) hQ hK j
          rw [hx]
          exact EReal.coe_ne_bot x)
        x0 km r (fun l hl => Finset.sum_congr rfl fun d _ => by rw [hm l d hl]) l
    have h := step i (k0_pay53 x0) (choice i x0 km) ⟨n, hl⟩ (by show n < 128; omega) _ _ _
      (View.ld xk (Rect.unit (s := S8192x128) (k0_off2 i ⟨n, hl⟩) S256x128.size (k0_off2_inb i ⟨n, hl⟩)))
      (View.ld xv (Rect.unit (s := S8192x128) (k0_off2 i ⟨n, hl⟩) S256x128.size (k0_off2_inb i ⟨n, hl⟩))) r _ _
      (n ∈ MobaMath.chain (MobaMath.score (fun d => x0 (ix2 r d)) (fun J d => xk (ix2 J d))) (i 1).val 3) (hsel _)
      (fun l => by rw [hsel]; split <;> simp)
      (fun c => MobaMath.logit (fun d => x0 (ix2 r d)) (fun J d => xk (ix2 J d)) (MobaMath.row n c))
      (fun c => by rw [pay2_apply]; exact Finset.sum_congr rfl fun d _ => congrArg₂ (· * ·) (pay53_apply x0 r d) (ld_trip i ⟨n, hl⟩ xk c d))
      (fun c => MobaMath.logit_real _ _ hQ hK _)
      (fun c d => xv (ix2 (MobaMath.row n c) d)) (fun c d => ld_trip i ⟨n, hl⟩ xv c d) (ih (by omega))
    simp only [Finset.sum_range_succ, ← add_assoc]
    have e' : runAt c i arg2 harg2 arg3 harg3 arg4 harg4 arg5 harg5 arg6 harg6 arg7 harg7 arg8 harg8 X6 X7 x0 (ownRows i xk) (ownRows i xv) km (n + 1) = _ := e
    rw [e']
    dsimp only
    unfold runAt at h
    exact h

/-- A point's block at an entry. -/
theorem res_apply (d : Fin 128) : res c i arg2 harg2 arg3 harg3 arg4 harg4 arg5 harg5 arg6 harg6 arg7 harg7 arg8 harg8 X6 X7 x0 (ownRows i xk) (ownRows i xv) km (ix2 r d)
    = MobaMath.att (fun d => x0 (ix2 r d)) (fun J d => xk (ix2 J d)) (fun J d => xv (ix2 J d)) (i 1).val r d := by
  classical
  obtain ⟨L, hL, hw⟩ := MobaMath.wsum_real (fun d => x0 (ix2 r d)) (fun J d => xk (ix2 J d)) hQ hK (i 1).val r
  have h := run_row c i arg2 harg2 arg3 harg3 arg4 harg4 arg5 harg5 arg6 harg6 arg7 harg7 arg8 harg8 X6 X7 x0 xk xv km r h6 h7 hm hQ hK (i 1).val le_rfl
  have hs : ∀ f : ℕ → EReal, (∑ j ∈ Finset.range (i 1).val, if j ∈ MobaMath.chain (MobaMath.score (fun d => x0 (ix2 r d)) (fun J d => xk (ix2 J d))) (i 1).val 3 then f j else 0)
      = ∑ j ∈ MobaMath.chain (MobaMath.score (fun d => x0 (ix2 r d)) (fun J d => xk (ix2 J d))) (i 1).val 3, f j := fun f => by
    rw [← Finset.sum_filter]
    refine Finset.sum_congr ?_ fun _ _ => rfl
    ext j
    simp only [Finset.mem_filter, Finset.mem_range]
    exact ⟨fun h => h.2, fun h => ⟨MobaMath.chain_lt _ _ _ _ h, h⟩⟩
  simp only [hs] at h
  have hw' := hw
  unfold MobaMath.wsum at hw'
  rw [hw'] at h
  have hd := MobaMath.run_div _ _ _ L _ hL h d
  unfold MobaMath.att
  rw [hw, EReal.toReal_coe]
  unfold res
  rw [trips1, trips2, st_k0_t2_zero, pay17_apply]
  exact hd

end

end Cert.MobaIdeal.Whole
-- ==== Proof.Value.MobaKernel.lean ====
/-
  The value of the block attention: every query attends to its own block and to the three earlier blocks whose mean key
  scores best with it.
-/
module

public import proofs.«01_k».proof.Defs
public import proofs.«01_k».proof.Proof.Gen.MobaIdeal.Value
public import Idealize.ShloMosaic.Lib.Pipeline.Value
public import Idealize.ShloMosaic.Lib.Quiescent
public import Idealize.ShloMosaic.Lib.Pointwise
public import Idealize.ShloMosaic.Lib.ValueLayout
public import proofs.«01_k».proof.Proof.Value.MobaScratch
public import proofs.«01_k».proof.Proof.Value.MobaState

@[expose] public section

set_option maxRecDepth 16384

noncomputable section

namespace Cert.MobaIdeal.Whole

open Cert.MobaIdeal Cert.MobaIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 512 points. -/
theorem lt_N (t : Fin cfg0.N) : t.val < 512 := by
  have h : cfg0.N = 512 := N_0
  have := t.isLt
  omega

/-- The block index of window 0 at a point. -/
theorem index_q : ∀ t : Fin grid0.N, win0_0.index t 0 = t.val % 32 ∧ win0_0.index t 1 = t.val / 32 := by
  decide +kernel

/-- The block index of window 1 at a point. -/
theorem index_k : ∀ t : Fin grid0.N, win0_1.index t 0 = 0 ∧ win0_1.index t 1 = t.val / 32 + 16 := by
  decide +kernel

/-- The block index of window 2 at a point. -/
theorem index_v : ∀ t : Fin grid0.N, win0_2.index t 0 = 0 ∧ win0_2.index t 1 = t.val / 32 + 32 := by
  decide +kernel

/-- The block index of window 3 at a point. -/
theorem index_o : ∀ t : Fin grid0.N, win0_3.index t 0 = t.val % 32 ∧ win0_3.index t 1 = t.val / 32 := by
  decide +kernel

/-- The block of window 0 at point `t`, entry by entry. -/
theorem iblk_q (c : Dev nD) (t : Fin cfg0.N) (r : Fin 256) (k : Fin 128) :
    iblk m c 0 t (ix2 r k : S256x128.Idx)
      = m ((c : Thread nD τ).loc main_arg0) (ix2 ⟨(t.val % 32) * 256 + r, by have := lt_N t; omega⟩ ⟨(t.val / 32) * 128 + k, by have := lt_N t; omega⟩ : S8192x8192.Idx) := by
  show m ((c : Thread nD τ).loc main_arg0) (((cfg0.win 0).blk t).view.emb (ix2 r k : S256x128.Idx)) = _
  congr 1
  funext a
  apply Fin.ext
  match a with
  | ⟨0, _⟩ => show win0_0.index t 0 * 256 + 1 * r.val = _
              rw [(index_q t).1]
              show (t.val % 32) * 256 + 1 * r.val = (t.val % 32) * 256 + r.val
              omega
  | ⟨1, _⟩ => show win0_0.index t 1 * 128 + 1 * k.val = _
              rw [(index_q t).2]
              show (t.val / 32) * 128 + 1 * k.val = (t.val / 32) * 128 + k.val
              omega

/-- The block of window 1 at point `t`, entry by entry. -/
theorem iblk_k (c : Dev nD) (t : Fin cfg0.N) (r : Fin 8192) (k : Fin 128) :
    iblk m c 1 t (ix2 r k : S8192x128.Idx)
      = m ((c : Thread nD τ).loc main_arg0) (ix2 r ⟨(t.val / 32 + 16) * 128 + k, by have := lt_N t; omega⟩ : S8192x8192.Idx) := by
  show m ((c : Thread nD τ).loc main_arg0) (((cfg0.win 1).blk t).view.emb (ix2 r k : S8192x128.Idx)) = _
  congr 1
  funext a
  apply Fin.ext
  match a with
  | ⟨0, _⟩ => show win0_1.index t 0 * 8192 + 1 * r.val = _
              rw [(index_k t).1]
              show (0) * 8192 + 1 * r.val = r.val
              omega
  | ⟨1, _⟩ => show win0_1.index t 1 * 128 + 1 * k.val = _
              rw [(index_k t).2]
              show (t.val / 32 + 16) * 128 + 1 * k.val = (t.val / 32 + 16) * 128 + k.val
              omega

/-- The block of window 2 at point `t`, entry by entry. -/
theorem iblk_v (c : Dev nD) (t : Fin cfg0.N) (r : Fin 8192) (k : Fin 128) :
    iblk m c 2 t (ix2 r k : S8192x128.Idx)
      = m ((c : Thread nD τ).loc main_arg0) (ix2 r ⟨(t.val / 32 + 32) * 128 + k, by have := lt_N t; omega⟩ : S8192x8192.Idx) := by
  show m ((c : Thread nD τ).loc main_arg0) (((cfg0.win 2).blk t).view.emb (ix2 r k : S8192x128.Idx)) = _
  congr 1
  funext a
  apply Fin.ext
  match a with
  | ⟨0, _⟩ => show win0_2.index t 0 * 8192 + 1 * r.val = _
              rw [(index_v t).1]
              show (0) * 8192 + 1 * r.val = r.val
              omega
  | ⟨1, _⟩ => show win0_2.index t 1 * 128 + 1 * k.val = _
              rw [(index_v t).2]
              show (t.val / 32 + 32) * 128 + 1 * k.val = (t.val / 32 + 32) * 128 + k.val
              omega

/-- Where an entry of point `t`'s block of window 3 lies in the whole array. -/
theorem emb_o (t : Fin cfg0.N) (r : Fin 256) (k : Fin 128) :
    (win0_3.blk t).view.emb (ix2 r k : S256x128.Idx)
      = (ix2 ⟨(t.val % 32) * 256 + r, by have := lt_N t; omega⟩ ⟨(t.val / 32) * 128 + k, by have := lt_N t; omega⟩ : S8192x2048.Idx) := by
  funext a
  apply Fin.ext
  match a with
  | ⟨0, _⟩ => show win0_3.index t 0 * 256 + 1 * r.val = _
              rw [(index_o t).1]
              show (t.val % 32) * 256 + 1 * r.val = (t.val % 32) * 256 + r.val
              omega
  | ⟨1, _⟩ => show win0_3.index t 1 * 128 + 1 * k.val = _
              rw [(index_o t).2]
              show (t.val / 32) * 128 + 1 * k.val = (t.val / 32) * 128 + k.val
              omega

/-- An entry lies in point `t`'s block of window 3 exactly when its coordinates do. -/
theorem mem_o (t : Fin cfg0.N) (i : S8192x2048.Idx) :
    i ∈ ((cfg0.win 3).blk t).view.set ↔ ((t.val % 32) * 256 ≤ (i 0 : Nat) ∧ (i 0 : Nat) < (t.val % 32) * 256 + 256) ∧ ((t.val / 32) * 128 ≤ (i 1 : Nat) ∧ (i 1 : Nat) < (t.val / 32) * 128 + 128) := by
  show i ∈ ((View.whole main_v0).slice (win0_3.rect t)).set ↔ _
  rw [View.set_slice_whole, Rect.mem_set_unit]
  have e0 : win0_3.index t 0 * win0_3.size 0 = (t.val % 32) * 256 := by rw [(index_o t).1]; rfl
  have e1 : win0_3.index t 1 * win0_3.size 1 = (t.val / 32) * 128 := by rw [(index_o t).2]; rfl
  refine ⟨fun h => ⟨?_, ?_⟩, fun h a => ?_⟩
  · have := h 0
    change win0_3.index t 0 * win0_3.size 0 ≤ (i 0 : Nat) ∧ (i 0 : Nat) < win0_3.index t 0 * win0_3.size 0 + 256 at this
    rwa [e0] at this
  · have := h 1
    change win0_3.index t 1 * win0_3.size 1 ≤ (i 1 : Nat) ∧ (i 1 : Nat) < win0_3.index t 1 * win0_3.size 1 + 128 at this
    rwa [e1] at this
  · match a with
    | ⟨0, _⟩ => show win0_3.index t 0 * win0_3.size 0 ≤ (i 0 : Nat) ∧ (i 0 : Nat) < win0_3.index t 0 * win0_3.size 0 + 256
                rw [e0]; exact h.1
    | ⟨1, _⟩ => show win0_3.index t 1 * win0_3.size 1 ≤ (i 1 : Nat) ∧ (i 1 : Nat) < win0_3.index t 1 * win0_3.size 1 + 128
                rw [e1]; exact h.2

/-- The blocks of window 3 fill the result. -/
theorem cover_o (i : S8192x2048.Idx) :
    ∃ t : Fin cfg0.N, (cfg0.win 3).flush t = true ∧ i ∈ ((cfg0.win 3).blk t).view.set := by
  have h0 : (i 0 : Nat) < 8192 := (i 0).isLt
  have h1 : (i 1 : Nat) < 2048 := (i 1).isLt
  have hN : cfg0.N = 512 := N_0
  refine ⟨⟨(i 1).val / 128 * 32 + (i 0).val / 256, by omega⟩, flush0_3 _, ?_⟩
  rw [mem_o]
  dsimp only
  omega

/-- The queries of a head. -/
def Qh (X : Vec Ideal S8192x8192 .f32) (h : ℕ) (hh : h < 16) (R : Fin 8192) (d : Fin 128) : EReal := X (ix2 R ⟨h * 128 + d.val, by omega⟩)

/-- The keys of a head. -/
def Kh (X : Vec Ideal S8192x8192 .f32) (h : ℕ) (hh : h < 16) (R : Fin 8192) (d : Fin 128) : EReal := X (ix2 R ⟨(h + 16) * 128 + d.val, by omega⟩)

/-- The values of a head. -/
def Vh (X : Vec Ideal S8192x8192 .f32) (h : ℕ) (hh : h < 16) (R : Fin 8192) (d : Fin 128) : EReal := X (ix2 R ⟨(h + 32) * 128 + d.val, by omega⟩)

/-- The attention at an entry: head `h`, block `b`, row `r` of the block, coordinate `d`. -/
def Gf (X : Vec Ideal S8192x8192 .f32) (h : ℕ) (hh : h < 16) (b : ℕ) (r : Fin 256) (d : Fin 128) : EReal :=
  MobaMath.att (Qh X h hh (MobaMath.row b r)) (Kh X h hh) (Vh X h hh) b r d

/-- The whole result. -/
def G (X : Vec Ideal S8192x8192 .f32) : Vec Ideal S8192x2048 .f32 :=
  fun i => Gf X ((i 1).val / 128) (by have h : (i 1).val < 2048 := (i 1).isLt; omega) ((i 0).val / 256) ⟨(i 0).val % 256, by omega⟩ ⟨(i 1).val % 128, by omega⟩

/-- The queries and keys are numbers. -/
def Fin_ (X : Vec Ideal S8192x8192 .f32) : Prop := ∀ (R C : Fin 8192), C.val < 4096 → ∃ x : ℝ, X (ix2 R C) = x

/-- The second grid coordinate. -/
theorem coord1 : ∀ t : Fin grid0.N, (grid0.coords t 1).val = t.val % 32 := by
  decide +kernel

/-- The key scratch's store keeps the values. -/
theorem pay18_apply (x : Vec Ideal S8192x128 .f32) (J : Fin 8192) (d : Fin 128) : k0_pay18 x (ix2 J d) = x (ix2 J d) := by
  pointwise [k0_pay18]

/-- The value scratch's store keeps the values. -/
theorem pay19_apply (x : Vec Ideal S8192x128 .f32) (J : Fin 8192) (d : Fin 128) : k0_pay19 x (ix2 J d) = x (ix2 J d) := by
  pointwise [k0_pay19]

/-- What the scratches hold after a point: the head's keys, its values, its mean keys. -/
theorem scratch (c : Dev nD) (n : ℕ) (hn : n < cfg0.N) (hh : n / 32 < 16) :
    (∀ J d, (outsAt0 m c n hn).2.1 (ix2 J d) = Kh (m ((c : Thread nD τ).loc main_arg0)) (n / 32) hh J d)
    ∧ (∀ J d, (outsAt0 m c n hn).2.2.1 (ix2 J d) = Vh (m ((c : Thread nD τ).loc main_arg0)) (n / 32) hh J d)
    ∧ ∀ l d : Fin 128, l.val < 32 → (outsAt0 m c n hn).2.2.2 (ix2 l d)
        = Ideal.div (∑ b, Kh (m ((c : Thread nD τ).loc main_arg0)) (n / 32) hh (MobaMath.row l.val b) d) (Ideal.ofBits FTy.f32 0x43800000#32) := by
  have hA : ∀ (t : Fin cfg0.N) (h0 : t.val % 32 = 0) (hh : t.val / 32 < 16),
      (∀ J d, (outsAt0 m c t.val t.isLt).2.1 (ix2 J d) = Kh (m ((c : Thread nD τ).loc main_arg0)) (t.val / 32) hh J d)
      ∧ (∀ J d, (outsAt0 m c t.val t.isLt).2.2.1 (ix2 J d) = Vh (m ((c : Thread nD τ).loc main_arg0)) (t.val / 32) hh J d)
      ∧ ∀ l d : Fin 128, l.val < 32 → (outsAt0 m c t.val t.isLt).2.2.2 (ix2 l d)
          = Ideal.div (∑ b, Kh (m ((c : Thread nD τ).loc main_arg0)) (t.val / 32) hh (MobaMath.row l.val b) d) (Ideal.ofBits FTy.f32 0x43800000#32) := by
    intro t h0 hh
    have e0 := congrArg (fun p => p.2.1) (outsAt0_A m c t h0)
    have e1 := congrArg (fun p => p.2.2.1) (outsAt0_A m c t h0)
    have e2 := congrArg (fun p => p.2.2.2) (outsAt0_A m c t h0)
    dsimp only at e0 e1 e2
    refine ⟨fun J d => ?_, fun J d => ?_, fun l d hl => ?_⟩
    · rw [e0, sout0, pay18_apply, iblk_k]
      rfl
    · rw [e1, sout1, pay19_apply, iblk_v]
      rfl
    · rw [e2, sout2 (hl := hl)]
      show Ideal.div (∑ b : Fin 256, iblk m c 1 t (ix2 (MobaMath.row l.val b) d : S8192x128.Idx)) _ = _
      simp only [iblk_k]
      rfl
  induction n with
  | zero => exact hA ⟨0, hn⟩ rfl hh
  | succ n ih =>
    by_cases h0 : (n + 1) % 32 = 0
    · exact hA ⟨n + 1, hn⟩ h0 hh
    · have e0 := congrArg (fun p => p.2.1) (outsAt0_B m c ⟨n + 1, hn⟩ h0)
      have e1 := congrArg (fun p => p.2.2.1) (outsAt0_B m c ⟨n + 1, hn⟩ h0)
      have e2 := congrArg (fun p => p.2.2.2) (outsAt0_B m c ⟨n + 1, hn⟩ h0)
      dsimp only at e0 e1 e2
      rw [e0, e1, e2]
      unfold sout0_B_0 sout0_B_1 sout0_B_2
      have e : n / 32 = (n + 1) / 32 := by omega
      have := ih (by omega) (by omega)
      simp only [e] at this
      exact this

/-- What a point writes back is its block of the whole-array function. -/
theorem flushed_eq (c : Dev nD) (hX : Fin_ (m ((c : Thread nD τ).loc main_arg0))) (t : Fin cfg0.N) :
    (dats m 0 c).flushed 3 t = (win0_3.blk t).view.read (Elt Ideal) (G (m ((c : Thread nD τ).loc main_arg0))) := by
  have hN := lt_N t
  have hh : t.val / 32 < 16 := by omega
  have hQ : ∀ (r : Fin 256) (d : Fin 128), ∃ x : ℝ, iblk m c 0 t (ix2 r d : S256x128.Idx) = (x : EReal) := fun r d => by
    rw [iblk_q]
    exact hX _ _ (by show t.val / 32 * 128 + d.val < 4096; omega)
  have hG : ∀ (r : Fin 256) (d : Fin 128), G (m ((c : Thread nD τ).loc main_arg0)) ((win0_3.blk t).view.emb (ix2 r d : S256x128.Idx))
      = MobaMath.att (fun d => iblk m c 0 t (ix2 r d : S256x128.Idx)) (Kh (m ((c : Thread nD τ).loc main_arg0)) (t.val / 32) hh)
          (Vh (m ((c : Thread nD τ).loc main_arg0)) (t.val / 32) hh) (t.val % 32) r d := fun r d => by
    rw [emb_o]
    show Gf _ ((t.val / 32 * 128 + d.val) / 128) _ ((t.val % 32 * 256 + r.val) / 256) ⟨(t.val % 32 * 256 + r.val) % 256, _⟩ ⟨(t.val / 32 * 128 + d.val) % 128, _⟩ = _
    have a1 : (t.val / 32 * 128 + d.val) / 128 = t.val / 32 := by omega
    have a2 : (t.val % 32 * 256 + r.val) / 256 = t.val % 32 := by omega
    have a3 : (⟨(t.val % 32 * 256 + r.val) % 256, by omega⟩ : Fin 256) = r := Fin.ext (by show (t.val % 32 * 256 + r.val) % 256 = r.val; omega)
    have a4 : (⟨(t.val / 32 * 128 + d.val) % 128, by omega⟩ : Fin 128) = d := Fin.ext (by show (t.val / 32 * 128 + d.val) % 128 = d.val; omega)
    rw [a3, a4]
    simp only [a1, a2]
    unfold Gf
    congr 1
    funext d
    rw [iblk_q]
    unfold Qh
    congr 2
    exact Fin.ext (by show t.val % 32 % 32 * 256 + r.val = t.val % 32 * 256 + r.val; omega)
  by_cases h0 : t.val % 32 = 0
  · rw [Value.flushed3_A m c t h0]
    obtain ⟨X6, X7, km, e⟩ := out_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t)
    rw [e]
    funext j
    idx_vars j
    show res c _ _ _ _ _ _ _ _ _ _ _ _ _ _ _ X6 X7 _ _ _ km (ix2 j0 j1) = G _ ((win0_3.blk t).view.emb (ix2 j0 j1 : S256x128.Idx))
    have hz : ¬ 0 < (grid0.coords t 1).val := by rw [coord1]; omega
    rw [hG]
    refine (res_apply _ _ _ _ _ _ _ _ _ _ _ _ _ _ _ _ X6 X7 _ _ _ km j0 (fun h => absurd h hz) (fun h => absurd h hz) (fun l d h => absurd (by omega) hz) (hQ j0)
      (fun J d => ?_) j1).trans ?_
    · rw [pay18_apply, iblk_k]
      exact hX _ _ (by show (t.val / 32 + 16) * 128 + d.val < 4096; omega)
    rw [coord1]
    congr 1
    · funext J d
      rw [pay18_apply, iblk_k]
      rfl
    · funext J d
      rw [pay19_apply, iblk_v]
      rfl
  · rw [Value.flushed3_B m c t h0, out_B]
    obtain ⟨s0, s1, s2⟩ := scratch m c (t.val - 1) (Nat.lt_of_le_of_lt (Nat.sub_le _ _) t.isLt) (by omega)
    have e : (t.val - 1) / 32 = t.val / 32 := by omega
    simp only [e] at s0 s1 s2
    generalize (outsAt0 m c (t.val - 1) (Nat.lt_of_le_of_lt (Nat.sub_le _ _) t.isLt)).2.1 = xk at s0
    generalize (outsAt0 m c (t.val - 1) (Nat.lt_of_le_of_lt (Nat.sub_le _ _) t.isLt)).2.2.1 = xv at s1
    generalize (outsAt0 m c (t.val - 1) (Nat.lt_of_le_of_lt (Nat.sub_le _ _) t.isLt)).2.2.2 = km at s2
    funext j
    idx_vars j
    show res c _ _ _ _ _ _ _ _ _ _ _ _ _ _ _ _ _ _ _ _ km (ix2 j0 j1) = G _ ((win0_3.blk t).view.emb (ix2 j0 j1 : S256x128.Idx))
    rw [hG]
    refine (res_apply _ _ _ _ _ _ _ _ _ _ _ _ _ _ _ _ _ _ _ _ _ km j0 (fun _ => ?_) (fun _ => ?_)
      (fun l d h => ?_) (hQ j0) (fun J d => ?_) j1).trans ?_
    · exact Memref.IsWhole.read_unread _ _
    · exact Memref.IsWhole.read_unread _ _
    · rw [coord1] at h
      rw [s2 l d (by omega)]
      simp only [s0]
    · rw [s0]
      exact hX _ _ (by show (t.val / 32 + 16) * 128 + d.val < 4096; omega)
    rw [coord1]
    congr 1
    · funext J d
      exact s0 J d
    · funext J d
      exact s1 J d

/-- The kernel's result, and its arguments kept. -/
theorem run (hX : ∀ c : Dev nD, Fin_ (m ((c : Thread nD τ).loc main_arg0))) : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun _ h c => ⟨(h c).1.trans
      ((dats m 0 c).arrAt_eq_of_cover 3 _ (fun t _ => flushed_eq m c (hX c) t) cover_o), (h c).2⟩)
    (Value.run_blocks m ρ)

end Cert.MobaIdeal.Whole
-- ==== Proof.Value.MobaSort.lean ====
/-
  The order in which a stable selection of the greatest entries lists its positions: greater entries first, equal entries in
  the order of their positions.
-/
module

public import Idealize.ShloMosaic.Lib.SortPrefix
public import Idealize.ShloMosaic.Lib.Pointwise
public import proofs.«01_k».proof.Proof.Value.MobaSpec

@[expose] public section

noncomputable section

namespace Cert.MobaMath

open Idealize.ShloMosaic

/-- On an increasing list a stable sort by a relation is the sort by any relation that agrees with it from later to earlier elements. -/
theorem stable_agree {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The same for the sorting permutation. -/
theorem sorted_agree {n : ℕ} (R R' : Fin n → Fin n → Bool) (h : ∀ a b, a < b → R b a = R' b a) : sortedFrom R = sortedFrom R' := by
  funext k
  unfold sortedFrom
  have e : sortPositions n R = sortPositions n R' := stable_agree R R' h _ (List.pairwise_lt_finRange n)
  rw [List.get_of_eq e]
  rfl

/-- The positions in order of their entries: greatest first, equal entries by position. -/
def best {n : ℕ} (S : Fin n → EReal) : Fin n → Fin n := sortedFrom fun k k' => Ideal.cmpTotal .gt (S k) (S k') == 1#1

/-- Of two positions of the order the first has the greater entry, or an equal one at a lower position. -/
theorem best_order {n : ℕ} (S : Fin n → EReal) (a b : Fin n) (hab : a < b) :
    S (best S b) < S (best S a) ∨ (S (best S b) = S (best S a) ∧ best S a < best S b) := by
  classical
  let R : Fin n → Fin n → Bool := fun k k' => decide (S k' < S k) || (decide (S k = S k') && decide (k < k'))
  have hR : StrictTotalBefore R := StrictTotalBefore.of_key_then_position (fun x y : EReal => decide (y < x)) S (by simp)
    (by simp only [decide_eq_true_eq]; exact fun a b c h1 h2 => lt_trans h2 h1)
    (by simp only [decide_eq_true_eq]; exact fun a b => (lt_trichotomy b a).imp id (Or.imp Eq.symm id))
  have e : best S = sortedFrom R := sorted_agree _ _ fun a b hab => by
    show (BitVec.ofBool (decide (S b > S a)) == 1#1) = (decide (S a < S b) || (decide (S b = S a) && decide (b < a)))
    have : ¬ b < a := not_lt.mpr hab.le
    by_cases h : S a < S b <;> simp [h, this]
  have hn := sortedFrom_noInversion R R (fun a b h => hR.asymm a b h) (fun _ _ h => h) (fun a b c h1 h2 => hR.negTrans a b c h1 h2) a b hab
  have hne : best S a ≠ best S b := fun h => hab.ne (sortedFrom_injective _ h)
  rw [← e] at hn
  simp only [R, Bool.or_eq_false_iff, Bool.and_eq_false_iff, decide_eq_false_iff_not, not_lt] at hn
  rcases lt_or_eq_of_le hn.1 with h | h
  · exact Or.inl h
  · refine Or.inr ⟨h, lt_of_le_of_ne ?_ hne⟩
    rcases hn.2 with h' | h'
    · exact absurd h h'
    · exact h'

/-- The order lists each position once. -/
theorem best_injective {n : ℕ} (S : Fin n → EReal) : Function.Injective (best S) := sortedFrom_injective _

/-- The order lists every position. -/
theorem best_surjective {n : ℕ} (S : Fin n → EReal) : Function.Surjective (best S) := sortedFrom_surjective _

end Cert.MobaMath

end
-- ==== Proof.Value.MobaSoft.lean ====
/-
  A softmax over the entries of the three selected blocks and of a query's own block, as the reference writes it, is the
  attention of `MobaSpec`.
-/
module

public import proofs.«01_k».proof.Proof.Value.MobaSort

@[expose] public section

noncomputable section

namespace Cert.MobaMath

open Idealize.ShloMosaic

/-- A sum over 1024 entries, split into three blocks of 256 and one more. -/
theorem sum1024 (f : Fin 1024 → EReal) :
    ∑ p, f p = (∑ J : Fin 3, ∑ c : Fin 256, f ⟨J.val * 256 + c.val, by omega⟩) + ∑ c : Fin 256, f ⟨768 + c.val, by omega⟩ := by
  refine (Fin.sum_univ_add (a := 768) (b := 256) f).trans ?_
  congr 1
  rw [← Equiv.sum_comp (finProdFinEquiv (m := 3) (n := 256)), Fintype.sum_prod_type]
  refine Finset.sum_congr rfl fun J _ => Finset.sum_congr rfl fun c _ => congrArg f (Fin.ext ?_)
  show c.val + 256 * J.val = J.val * 256 + c.val
  omega

section
variable (Q : Fin 128 → EReal) (K : Fin 8192 → Fin 128 → EReal)

/-- The block scores, those of blocks not before the query's own left out. -/
def sel (b : ℕ) (l : Fin 31) : EReal := if l.val < b then score Q K l.val else ⊥

/-- The blocks the reference selects. -/
def pick (b : ℕ) (J : Fin 3) : ℕ := (best (sel Q K b) ⟨J.val, by omega⟩).val

/-- The scaled scores the softmax is taken over. -/
def line (b : ℕ) (r : Fin 256) (p : Fin 1024) : EReal :=
  if h : p.val < 768 then
    if p.val / 256 < b then logit Q K (row (pick Q K b ⟨p.val / 256, by omega⟩) ⟨p.val % 256, by omega⟩) else ⊥
  else own Q K b r ⟨p.val - 768, by omega⟩

/-- An entry of a selected block. -/
theorem line_sel (b : ℕ) (r : Fin 256) (J : Fin 3) (c : Fin 256) :
    line Q K b r ⟨J.val * 256 + c.val, by omega⟩ = if J.val < b then logit Q K (row (pick Q K b J) c) else ⊥ := by
  have h : J.val * 256 + c.val < 768 := by omega
  unfold line
  rw [dif_pos h]
  have e1 : (J.val * 256 + c.val) / 256 = J.val := by omega
  have e2 : (J.val * 256 + c.val) % 256 = c.val := by omega
  simp only [e1, e2]

/-- An entry of the query's own block. -/
theorem line_own (b : ℕ) (r c : Fin 256) : line Q K b r ⟨768 + c.val, by omega⟩ = own Q K b r c := by
  have h : ¬ 768 + c.val < 768 := by omega
  unfold line
  rw [dif_neg h]
  exact congrArg _ (Fin.ext (by show 768 + c.val - 768 = c.val; omega))

variable (hQ : ∀ d, ∃ r : ℝ, Q d = r) (hK : ∀ J d, ∃ r : ℝ, K J d = r)
include hQ hK

/-- No entry is the top. -/
theorem line_ne_top (b : ℕ) (r : Fin 256) (p : Fin 1024) : line Q K b r p ≠ ⊤ := by
  unfold line
  split
  · split
    · obtain ⟨x, hx⟩ := logit_real Q K hQ hK (row (pick Q K b ⟨p.val / 256, by omega⟩) ⟨p.val % 256, by omega⟩)
      rw [hx]
      exact EReal.coe_ne_top x
    · exact bot_ne_top
  · exact own_ne_top Q K hQ hK b r _

/-- The greatest entry is a real. -/
theorem line_max (b : ℕ) (r : Fin 256) : ∃ M : ℝ, Finset.univ.sup (line Q K b r) = M := by
  refine max_coe _ (line_ne_top Q K hQ hK b r) ?_
  obtain ⟨c, hc⟩ := own_some Q K hQ hK b r
  exact ⟨⟨768 + c.val, by omega⟩, by rw [line_own]; exact hc⟩

/-- A sum over the chosen blocks is the sum over the selected ones before the query's own. -/
theorem sum_pick (b : ℕ) (hb : b ≤ 31) (f : ℕ → EReal) :
    ∑ j ∈ chain (score Q K) b 3, f j = ∑ J : Fin 3, if J.val < b then f (pick Q K b J) else 0 :=
  (sum_chain (score Q K) b 31 (fun j _ => by obtain ⟨x, hx⟩ := score_real Q K hQ hK j; rw [hx]; exact EReal.coe_ne_bot x) hb
    (sel Q K b) (fun _ => rfl) (best (sel Q K b)) (best_injective _) (best_surjective _) (best_order _) f 3 (by omega)).2

/-- The sum of the exponentials of the entries. -/
theorem line_sum (b : ℕ) (hb : b ≤ 31) (r : Fin 256) : ∑ p, Ideal.exp (line Q K b r p) = wsum Q K b r := by
  rw [sum1024, add_comm]
  unfold wsum
  simp only [line_sel, line_own]
  congr 1
  rw [sum_pick Q K hQ hK b hb]
  refine Finset.sum_congr rfl fun J _ => ?_
  by_cases h : J.val < b
  · simp only [if_pos h]
  · simp only [if_neg h]
    exact Finset.sum_eq_zero fun _ _ => rfl

/-- The reference's softmax and its two sums of weighted values. -/
theorem soft (V : Fin 8192 → Fin 128 → EReal) (b : ℕ) (hb : b ≤ 31) (r : Fin 256) (d : Fin 128) :
    (∑ J : Fin 3, ∑ c : Fin 256, Ideal.div (Ideal.exp (line Q K b r ⟨J.val * 256 + c.val, by omega⟩ - Finset.univ.sup (line Q K b r)))
        (∑ p, Ideal.exp (line Q K b r p - Finset.univ.sup (line Q K b r))) * V (row (pick Q K b J) c) d)
      + (∑ c : Fin 256, Ideal.div (Ideal.exp (line Q K b r ⟨768 + c.val, by omega⟩ - Finset.univ.sup (line Q K b r)))
        (∑ p, Ideal.exp (line Q K b r p - Finset.univ.sup (line Q K b r))) * V (row b c) d)
      = att Q K V b r d := by
  obtain ⟨M, hM⟩ := line_max Q K hQ hK b r
  obtain ⟨L, hL, eL⟩ := wsum_real Q K hQ hK b r
  have hS : ∑ p, Ideal.exp (line Q K b r p - (M : EReal)) = ((Real.exp (-M) : ℝ) : EReal) * (L : EReal) := by
    rw [← eL, ← line_sum Q K hQ hK b hb r, coe_mul_sum _ _ (Real.exp_pos _).le]
    exact Finset.sum_congr rfl fun p _ => exp_sub _ (line_ne_top Q K hQ hK b r p) M
  have hLp : 0 ≤ 1 / L := by
    obtain ⟨x, hx, e⟩ := sum_coe Finset.univ (fun p => Ideal.exp (line Q K b r p)) fun p => exp_coe _ (line_ne_top Q K hQ hK b r p)
    rw [line_sum Q K hQ hK b hb r, eL] at e
    rw [EReal.coe_eq_coe_iff.mp e]
    positivity
  have hw : ∀ p, Ideal.div (Ideal.exp (line Q K b r p - (M : EReal))) (((Real.exp (-M) : ℝ) : EReal) * (L : EReal))
      = ((1 / L : ℝ) : EReal) * Ideal.exp (line Q K b r p) := fun p => weight _ (line_ne_top Q K hQ hK b r p) M L hL
  rw [hM, hS]
  simp only [hw, mul_assoc]
  unfold att
  rw [eL, EReal.toReal_coe, mul_comm]
  unfold vsum
  rw [sum_pick Q K hQ hK b hb fun j => ∑ c, Ideal.exp (logit Q K (row j c)) * V (row j c) d, add_comm]
  simp only [← coe_mul_sum _ _ hLp]
  rw [← EReal.left_distrib_of_nonneg_of_ne_top (EReal.coe_nonneg.mpr hLp) (EReal.coe_ne_top _)]
  simp only [line_sel, line_own]
  congr 2
  refine Finset.sum_congr rfl fun J _ => ?_
  by_cases h : J.val < b
  · simp only [if_pos h]
  · simp only [if_neg h]
    refine Finset.sum_eq_zero fun c _ => ?_
    show (0 : EReal) * _ = 0
    rw [zero_mul]

end

end Cert.MobaMath

end
-- ==== Proof.Value.MobaGather.lean ====
/-
  The gathers, the start indices and the choice of the best blocks in the block attention's reference, read entry by entry.
-/
module

public import proofs.«01_k».proof.Proof.Gen.MobaRefIdeal.Run
public import proofs.«01_k».proof.Proof.Value.MobaSoft
public import Idealize.ShloMosaic.Lib.Pointwise
public import Idealize.ShloMosaic.Lib.ValueLayout

@[expose] public section

set_option maxRecDepth 16384

noncomputable section

namespace Cert.MobaRefIdeal.Whole

open Cert.MobaRefIdeal Cert.MobaRefIdeal.Gen
open Idealize.ShloMosaic Idealize.ShloMosaic.TcCoe Idealize.ShloMosaic.StableHlo Idealize.SL.Sem

/-- A small number read back from its word. -/
theorem toInt_small (p : ℕ) (hp : p < 32) : (BitVec.ofNat 32 p).toInt.toNat = p := by
  interval_cases p <;> rfl

/-- The gather of the selected blocks, read at an entry. -/
theorem gather_sel (x : Vec Ideal S32x256x16x128 .f32) (I : IVec S8192x16x3x2 32) (R : Fin 8192) (h : Fin 16) (j : Fin 3) (c : Fin 256) (d : Fin 128)
    (p : Fin 32) (hp : I (ix4 R h j 0) = BitVec.ofNat 32 p.val) (hh : I (ix4 R h j 1) = BitVec.ofNat 32 h.val) :
    Host.gather gather_S32x256x16x128_S8192x16x3x2_S8192x16x3x256x128_34_02_n_n_02_3_12561128 x I (ix5 R h j c d) = x (ix4 p c h d) := by
  unfold Host.gather
  congr 1
  funext a
  refine Fin.ext ?_
  show GatherDims.start _ _ _ a + GatherDims.batchCoord _ _ a + GatherDims.offCoord _ _ a = _
  have ha : a = (0 : Fin 4) ∨ a = (1 : Fin 4) ∨ a = (2 : Fin 4) ∨ a = (3 : Fin 4) := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  ·
    have e : GatherDims.start gather_S32x256x16x128_S8192x16x3x2_S8192x16x3x256x128_34_02_n_n_02_3_12561128 (ix5 R h j c d) I 0
        = min (I (ix4 R h j 0)).toInt.toNat 31 := by
      unfold GatherDims.start
      rw [dif_pos (by decide)]
      congr 4
      funext b
      match b with
      | ⟨0, _⟩ => rfl
      | ⟨1, _⟩ => rfl
      | ⟨2, _⟩ => rfl
      | ⟨3, _⟩ => rfl
    refine Eq.trans (congrArg₂ (· + ·) (congrArg₂ (· + ·) e (GatherDims.batchCoord_eq_zero _ _ _ (by decide))) (GatherDims.offCoord_eq_zero _ _ _ (by decide))) ?_
    rw [hp, toInt_small _ p.isLt]
    show min p.val 31 + 0 + 0 = p.val
    omega
  ·
    exact congrArg₂ (· + ·) (congrArg₂ (· + ·) (by unfold GatherDims.start; rw [dif_neg (by decide)]) (GatherDims.batchCoord_eq_zero _ _ _ (by decide))) (rfl : _ = c.val) |>.trans (by simp)
  ·
    have e : GatherDims.start gather_S32x256x16x128_S8192x16x3x2_S8192x16x3x256x128_34_02_n_n_02_3_12561128 (ix5 R h j c d) I 2
        = min (I (ix4 R h j 1)).toInt.toNat 15 := by
      unfold GatherDims.start
      rw [dif_pos (by decide)]
      congr 4
      funext b
      match b with
      | ⟨0, _⟩ => rfl
      | ⟨1, _⟩ => rfl
      | ⟨2, _⟩ => rfl
      | ⟨3, _⟩ => rfl
    refine Eq.trans (congrArg₂ (· + ·) (congrArg₂ (· + ·) e (GatherDims.batchCoord_eq_zero _ _ _ (by decide))) (GatherDims.offCoord_eq_zero _ _ _ (by decide))) ?_
    rw [hh, toInt_small _ (by omega)]
    show min h.val 15 + 0 + 0 = h.val
    omega
  ·
    exact congrArg₂ (· + ·) (congrArg₂ (· + ·) (by unfold GatherDims.start; rw [dif_neg (by decide)]) (GatherDims.batchCoord_eq_zero _ _ _ (by decide))) (rfl : _ = d.val) |>.trans (by simp)

/-- The gather of the queries' own blocks, read at an entry. -/
theorem gather_own (x : Vec Ideal S32x256x16x128 .f32) (I : IVec S8192x1 32) (R : Fin 8192) (c : Fin 256) (h : Fin 16) (d : Fin 128)
    (p : Fin 32) (hp : I (ix2 R 0) = BitVec.ofNat 32 p.val) :
    Host.gather gather_S32x256x16x128_S8192x1_S8192x256x16x128_123_0_n_n_0_1_125616128 x I (ix4 R c h d) = x (ix4 p c h d) := by
  unfold Host.gather
  congr 1
  funext a
  refine Fin.ext ?_
  show GatherDims.start _ _ _ a + GatherDims.batchCoord _ _ a + GatherDims.offCoord _ _ a = _
  have ha : a = (0 : Fin 4) ∨ a = (1 : Fin 4) ∨ a = (2 : Fin 4) ∨ a = (3 : Fin 4) := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  ·
    have e : GatherDims.start gather_S32x256x16x128_S8192x1_S8192x256x16x128_123_0_n_n_0_1_125616128 (ix4 R c h d) I 0
        = min (I (ix2 R 0)).toInt.toNat 31 := by
      unfold GatherDims.start
      rw [dif_pos (by decide)]
      congr 4
      funext b
      match b with
      | ⟨0, _⟩ => rfl
      | ⟨1, _⟩ => rfl
    refine Eq.trans (congrArg₂ (· + ·) (congrArg₂ (· + ·) e (GatherDims.batchCoord_eq_zero _ _ _ (by decide))) (GatherDims.offCoord_eq_zero _ _ _ (by decide))) ?_
    rw [hp, toInt_small _ p.isLt]
    show min p.val 31 + 0 + 0 = p.val
    omega
  ·
    exact congrArg₂ (· + ·) (congrArg₂ (· + ·) (by unfold GatherDims.start; rw [dif_neg (by decide)]) (GatherDims.batchCoord_eq_zero _ _ _ (by decide))) (rfl : _ = c.val) |>.trans (by simp)
  ·
    exact congrArg₂ (· + ·) (congrArg₂ (· + ·) (by unfold GatherDims.start; rw [dif_neg (by decide)]) (GatherDims.batchCoord_eq_zero _ _ _ (by decide))) (rfl : _ = h.val) |>.trans (by simp)
  ·
    exact congrArg₂ (· + ·) (congrArg₂ (· + ·) (by unfold GatherDims.start; rw [dif_neg (by decide)]) (GatherDims.batchCoord_eq_zero _ _ _ (by decide))) (rfl : _ = d.val) |>.trans (by simp)

/-- The start indices of the selected blocks: the block and the head. -/
def pairs {F} [FloatOps F] (V0 : Valuation τ sig (Elt F)) (I : IVec S8192x16x3 32) : IVec S8192x16x3x2 32 :=
  concatenate S8192x16x3x2 3 [⟨S8192x16x3x1, (broadcastInDim S8192x16x3x1 ![0, 1, 2] bcast_S8192x16x3_S8192x16x3x1_0_1_2 (select (cmpi .slt I (broadcastInDim S8192x16x3 ![] bcast_S_S8192x16x3 (constantI S_ 32 0#32))) (addi I (broadcastInDim S8192x16x3 ![] bcast_S_S8192x16x3 (constantI S_ 32 32#32))) I))⟩, ⟨S8192x16x3x1, (broadcastInDim S8192x16x3x1 ![0, 1, 2] bcast_S8192x16x3_S8192x16x3x1_0_1_2 (broadcastInDim S8192x16x3 ![0, 1, 2] bcast_S1x16x1_S8192x16x3_0_1_2 (select (cmpi .slt (Value.res_main_v30 V0) (broadcastInDim S1x16x1 ![] bcast_S_S1x16x1 (constantI S_ 32 0#32))) (addi (Value.res_main_v30 V0) (broadcastInDim S1x16x1 ![] bcast_S_S1x16x1 (constantI S_ 32 16#32))) (Value.res_main_v30 V0))))⟩] concatenates_S8192x16x3x1_S8192x16x3x1_S8192x16x3x2_d3

/-- A small number is not negative, so it is not wrapped around. -/
theorem wrap_word (w : BitVec 32) : ∀ p : Fin 32, Scalar.select (IntOp.cmpi CmpIPredicate.slt (BitVec.ofNat 32 p.val) 0#32) (IntOp.addi (BitVec.ofNat 32 p.val) w) (BitVec.ofNat 32 p.val) = BitVec.ofNat 32 p.val := by
  intro p
  have h : IntOp.cmpi CmpIPredicate.slt (BitVec.ofNat 32 p.val) 0#32 = 0#1 := by
    revert p
    decide
  rw [h]
  rfl

/-- The block of a start index. -/
theorem pairs0 (V0 : Valuation τ sig (Elt Ideal)) (I : IVec S8192x16x3 32) (R : Fin 8192) (h : Fin 16) (j : Fin 3) (p : Fin 32) (hp : I (ix3 R h j) = BitVec.ofNat 32 p.val) :
    pairs V0 I (ix4 R h j 0) = BitVec.ofNat 32 p.val := by
  refine Eq.trans ?_ (wrap_word 32#32 p)
  rw [← hp]
  pointwise [pairs]

/-- The head of a start index. -/
theorem pairs1 (V0 : Valuation τ sig (Elt Ideal)) (I : IVec S8192x16x3 32) (R : Fin 8192) (h : Fin 16) (j : Fin 3) : pairs V0 I (ix4 R h j 1) = BitVec.ofNat 32 h.val := by
  refine Eq.trans ?_ (wrap_word 16#32 ⟨h.val, by omega⟩)
  pointwise [pairs, Value.res_main_v30]

/-- The start indices of the queries' own blocks. -/
def owns {F} [FloatOps F] (n : IVec S8192 32) : IVec S8192x1 32 :=
  broadcastInDim S8192x1 ![0] bcast_S8192_S8192x1_0 (select (cmpi .slt n (broadcastInDim S8192 ![] bcast_S_S8192 (constantI S_ 32 0#32))) (addi n (broadcastInDim S8192 ![] bcast_S_S8192 (constantI S_ 32 32#32))) n)

/-- The block of a start index. -/
theorem owns_apply (n : IVec S8192 32) (R : Fin 8192) (p : Fin 32) (hp : n (ix1 R) = BitVec.ofNat 32 p.val) : owns (F := Ideal) n (ix2 R 0) = BitVec.ofNat 32 p.val := by
  refine Eq.trans ?_ (wrap_word 32#32 p)
  rw [← hp]
  pointwise [owns]

/-- A stable sort of pairs along the last of three axes lists the second components in the order of `best`. -/
theorem sort_last {n0 n1 n2 : ℕ} (x : (⟨3, ![n0, n1, n2]⟩ : Shape).Idx → EReal) (y : (⟨3, ![n0, n1, n2]⟩ : Shape).Idx → BitVec 32) (a : Fin n0) (b : Fin n1) (c : Fin n2) :
    (Host.sort2 ⟨3, ![n0, n1, n2]⟩ 2 (fun l r : EReal × BitVec 32 => Ideal.cmpTotal .gt l.1 r.1) x y).2 (ix3 a b c)
      = y (ix3 a b (MobaMath.best (fun l => x (ix3 a b l)) c)) := by
  have hk : ∀ k : Fin n2, (ix3 a b c : (⟨3, ![n0, n1, n2]⟩ : Shape).Idx).along (2 : Fin 3) k = ix3 a b k := fun k => by
    funext i
    match i with
    | ⟨0, _⟩ => rfl
    | ⟨1, _⟩ => rfl
    | ⟨2, _⟩ => rfl
  unfold Host.sort2
  rw [dif_pos (show 2 < (⟨3, ![n0, n1, n2]⟩ : Shape).rank from Nat.lt_succ_self 2)]
  exact congrArg y ((hk _).trans (congrArg (ix3 a b) (congrFun (congrArg sortedFrom (funext fun k => funext fun k' =>
    congrArg₂ (fun u v => Ideal.cmpTotal .gt (x u) (x v) == 1#1) (hk k) (hk k'))) c)))

/-- The positions of the three greatest entries along the last axis. -/
theorem top_apply (x : Vec Ideal S8192x16x31 .f32) (R : Fin 8192) (h : Fin 16) (J : Fin 3) :
    (Host.topK S8192x16x3 2 (FloatOps.cmpfTotal (F := Ideal) (φ := .f32) .gt) x sliceFits_S8192x16x31_S8192x16x3).2 (ix3 R h J)
      = BitVec.ofNat 32 (MobaMath.best (fun l => x (ix3 R h l)) ⟨J.val, by omega⟩).val := by
  refine Eq.trans ?_ (sort_last (n0 := 8192) (n1 := 16) (n2 := 31) x (fun i => BitVec.ofNat 32 (i 2).val) R h ⟨J.val, by omega⟩)
  unfold Host.topK
  pointwise
  rfl

end Cert.MobaRefIdeal.Whole

end
-- ==== Proof.Value.MobaRef.lean ====
/-
  The value of the block attention's reference: at every entry the attention of `MobaSpec`.
-/
module

public import proofs.«01_k».proof.Proof.Value.MobaGather
public import proofs.«01_k».proof.Proof.Value.MobaPay

@[expose] public section

set_option maxRecDepth 16384

noncomputable section

namespace Cert.MobaRefIdeal.Whole

open Cert.MobaRefIdeal Cert.MobaRefIdeal.Gen
open Idealize.ShloMosaic Idealize.ShloMosaic.TcCoe Idealize.ShloMosaic.StableHlo Idealize.SL.Sem

/-- The queries of a head. -/
def Qr (X : Vec Ideal S8192x8192 .f32) (h : Fin 16) (R : Fin 8192) (d : Fin 128) : EReal := X (ix2 R ⟨h.val * 128 + d.val, by omega⟩)

/-- The keys of a head. -/
def Kr (X : Vec Ideal S8192x8192 .f32) (h : Fin 16) (R : Fin 8192) (d : Fin 128) : EReal := X (ix2 R ⟨2048 + (h.val * 128 + d.val), by omega⟩)

/-- The values of a head. -/
def Vr (X : Vec Ideal S8192x8192 .f32) (h : Fin 16) (R : Fin 8192) (d : Fin 128) : EReal := X (ix2 R ⟨4096 + (h.val * 128 + d.val), by omega⟩)

/-- The argument. -/
abbrev arg (V0 : Valuation τ sig (Elt Ideal)) : Vec Ideal S8192x8192 .f32 := V0 (Proc.devRef .tc main_arg0)

/-- The number of a query's block, as a word. -/
theorem nblk_word : ∀ (a : Fin 32) (b : Fin 256), Scalar.select
      (IntOp.andi
        (IntOp.cmpi CmpIPredicate.ne
          (if BitVec.ofNat 32 (a.val * 256 + b.val) = 0 then 0 else if (BitVec.ofNat 32 (a.val * 256 + b.val)).msb = true then -1 else 1)
          (if 256#32 = 0 then 0 else if BitVec.msb (256#32) = true then -1 else (1 : BitVec 32)))
        (IntOp.cmpi CmpIPredicate.ne (IntOp.remsi ArithUnit.host (BitVec.ofNat 32 (a.val * 256 + b.val)) 256#32) 0#32))
      (IntOp.subi (IntOp.divsi ArithUnit.host (BitVec.ofNat 32 (a.val * 256 + b.val)) 256#32) 1#32)
      (IntOp.divsi ArithUnit.host (BitVec.ofNat 32 (a.val * 256 + b.val)) 256#32) = BitVec.ofNat 32 a.val := by
  decide +kernel

/-- The block of a query. -/
theorem nblk_apply (V0 : Valuation τ sig (Elt Ideal)) (R : Fin 8192) : Value.res_main_v13 V0 (ix1 R) = BitVec.ofNat 32 (R.val / 256) := by
  have h := nblk_word ⟨R.val / 256, by omega⟩ ⟨R.val % 256, by omega⟩
  have e : R.val / 256 * 256 + R.val % 256 = R.val := by omega
  simp only [e] at h
  refine Eq.trans ?_ h
  pointwise [Value.res_main_v13, Value.res_main_v12, Value.res_main_call0_v2, Value.res_main_call0_v0]
  rfl

/-- The place of a query in its block, as a word. -/
theorem place_word : ∀ (a : Fin 32) (b : Fin 256), Scalar.select
      (IntOp.andi (IntOp.cmpi CmpIPredicate.ne (IntOp.cmpi CmpIPredicate.slt (IntOp.remsi ArithUnit.host (BitVec.ofNat 32 (a.val * 256 + b.val)) (Scalar.select (IntOp.cmpi CmpIPredicate.eq 256#32 0#32) (1#32) 256#32)) 0#32) (IntOp.cmpi CmpIPredicate.slt (Scalar.select (IntOp.cmpi CmpIPredicate.eq 256#32 0#32) (1#32) 256#32) 0#32))
        (IntOp.cmpi CmpIPredicate.ne (IntOp.remsi ArithUnit.host (BitVec.ofNat 32 (a.val * 256 + b.val)) (Scalar.select (IntOp.cmpi CmpIPredicate.eq 256#32 0#32) (1#32) 256#32)) 0#32))
      (IntOp.addi (IntOp.remsi ArithUnit.host (BitVec.ofNat 32 (a.val * 256 + b.val)) (Scalar.select (IntOp.cmpi CmpIPredicate.eq 256#32 0#32) (1#32) 256#32)) (Scalar.select (IntOp.cmpi CmpIPredicate.eq 256#32 0#32) (1#32) 256#32)) (IntOp.remsi ArithUnit.host (BitVec.ofNat 32 (a.val * 256 + b.val)) (Scalar.select (IntOp.cmpi CmpIPredicate.eq 256#32 0#32) (1#32) 256#32)) = BitVec.ofNat 32 b.val := by
  decide +kernel

/-- The same of a query's number. -/
theorem place_word' (R : Fin 8192) : Scalar.select
      (IntOp.andi (IntOp.cmpi CmpIPredicate.ne (IntOp.cmpi CmpIPredicate.slt (IntOp.remsi ArithUnit.host (BitVec.ofNat 32 R.val) (Scalar.select (IntOp.cmpi CmpIPredicate.eq 256#32 0#32) (1#32) 256#32)) 0#32) (IntOp.cmpi CmpIPredicate.slt (Scalar.select (IntOp.cmpi CmpIPredicate.eq 256#32 0#32) (1#32) 256#32) 0#32))
        (IntOp.cmpi CmpIPredicate.ne (IntOp.remsi ArithUnit.host (BitVec.ofNat 32 R.val) (Scalar.select (IntOp.cmpi CmpIPredicate.eq 256#32 0#32) (1#32) 256#32)) 0#32))
      (IntOp.addi (IntOp.remsi ArithUnit.host (BitVec.ofNat 32 R.val) (Scalar.select (IntOp.cmpi CmpIPredicate.eq 256#32 0#32) (1#32) 256#32)) (Scalar.select (IntOp.cmpi CmpIPredicate.eq 256#32 0#32) (1#32) 256#32)) (IntOp.remsi ArithUnit.host (BitVec.ofNat 32 R.val) (Scalar.select (IntOp.cmpi CmpIPredicate.eq 256#32 0#32) (1#32) 256#32)) = BitVec.ofNat 32 (R.val % 256) := by
  have h := place_word ⟨R.val / 256, by omega⟩ ⟨R.val % 256, by omega⟩
  have e : R.val / 256 * 256 + R.val % 256 = R.val := by omega
  simp only [e] at h
  exact h

/-- The queries, head by head. -/
theorem q_apply (V0 : Valuation τ sig (Elt Ideal)) (R : Fin 8192) (h : Fin 16) (d : Fin 128) : Value.res_main_v1 V0 (ix3 R h d) = Qr (arg V0) h R d := by
  unfold Value.res_main_v1 Qr
  unfold arg
  generalize V0 (Proc.devRef .tc main_arg0) = X
  pointwise

/-- A block's row. -/
theorem row_eq (b : Fin 32) (c : Fin 256) : MobaMath.row b.val c = ⟨b.val * 256 + c.val, by omega⟩ :=
  Fin.ext (by show b.val % 32 * 256 + c.val = b.val * 256 + c.val; omega)

/-- The keys, block by block. -/
theorem k_apply (V0 : Valuation τ sig (Elt Ideal)) (b : Fin 32) (c : Fin 256) (h : Fin 16) (d : Fin 128) :
    Value.res_main_v6 V0 (ix4 b c h d) = Kr (arg V0) h (MobaMath.row b.val c) d := by
  unfold Value.res_main_v6
  rw [row_eq]
  unfold Kr arg
  generalize V0 (Proc.devRef .tc main_arg0) = X
  pointwise

/-- The values, block by block. -/
theorem v_apply (V0 : Valuation τ sig (Elt Ideal)) (b : Fin 32) (c : Fin 256) (h : Fin 16) (d : Fin 128) :
    Value.res_main_v7 V0 (ix4 b c h d) = Vr (arg V0) h (MobaMath.row b.val c) d := by
  unfold Value.res_main_v7
  rw [row_eq]
  unfold Vr arg
  generalize V0 (Proc.devRef .tc main_arg0) = X
  pointwise

/-- The scaled queries. -/
theorem qs_apply (V0 : Valuation τ sig (Elt Ideal)) (R : Fin 8192) (h : Fin 16) (d : Fin 128) :
    Value.res_main_v84 V0 (ix3 R h d) = Qr (arg V0) h R d * Ideal.ofBits FTy.f32 0x3DB504F3#32 := by
  rw [← q_apply]
  unfold Value.res_main_v84
  generalize Value.res_main_v1 V0 = X
  pointwise

/-- The masked block scores, over any queries, keys and block numbers. -/
def scores {F} [FloatOps F] (q : Vec F S8192x16x128 .f32) (kb : Vec F S32x256x16x128 .f32) (n : IVec S8192 32) : Vec F S8192x16x31 .f32 :=
  select (broadcastInDim S8192x16x31 ![0, 1, 2] bcast_S8192x1x31_S8192x16x31_0_1_2 (cmpi .slt (broadcastInDim S8192x1x31 ![0, 1, 2] bcast_S1x1x31_S8192x1x31_0_1_2 (broadcastInDim S1x1x31 ![2] bcast_S31_S1x1x31_2 (iotaInDim S31 32 0))) (broadcastInDim S8192x1x31 ![0, 1, 2] bcast_S8192x1x1_S8192x1x31_0_1_2 (broadcastInDim S8192x1x1 ![0] bcast_S8192_S8192x1x1_0 n)))) (transpose S8192x16x31 [2, 0, 1] (Host.dotGeneral dot_S31x16x128_S8192x16x128_S16x31x8192_2_2_0_0_1_1 none (Host.divf (Host.reduceAdd (extractStridedSlice S31x256x16x128 ![0, 0, 0, 0] kb slices_S32x256x16x128_S31x256x16x128_0_0_0_0) (constant S_ .f32 0x00000000#32) reducesTo_S31x256x16x128_S31x16x128_d1 h_S_) (broadcastInDim S31x16x128 ![] bcast_S_S31x16x128 (constant S_ .f32 0x43800000#32))) q) transposes_S16x31x8192_S8192x16x31_2_0_1) (broadcastInDim S8192x16x31 ![] bcast_S_S8192x16x31 (id (constant S_ .f32 0xFF800000#32)))

/-- The masked block scores, read at an entry. -/
theorem scores_read (q : Vec Ideal S8192x16x128 .f32) (kb : Vec Ideal S32x256x16x128 .f32) (n : IVec S8192 32)
    (R : Fin 8192) (h : Fin 16) (l : Fin 31) : scores q kb n (ix3 R h l)
      = Scalar.select (IntOp.cmpi CmpIPredicate.slt (BitVec.ofNat 32 l.val) (n (ix1 R)))
        (∑ d, Ideal.div (∑ c, kb (ix4 ⟨l.val, by omega⟩ c h d)) (Ideal.ofBits FTy.f32 0x43800000#32) * q (ix3 R h d)) (Ideal.ofBits FTy.f32 4286578688#32) := by
  pointwise [scores]
  rfl

/-- The reference's masked block scores. -/
theorem scores_apply (V0 : Valuation τ sig (Elt Ideal)) (R : Fin 8192) (h : Fin 16) (l : Fin 31) :
    Value.res_main_v22 V0 (ix3 R h l) = MobaMath.sel (Qr (arg V0) h R) (Kr (arg V0) h) (R.val / 256) l := by
  refine (scores_read (Value.res_main_v1 V0) (Value.res_main_v6 V0) (Value.res_main_v13 V0) R h l).trans ?_
  rw [nblk_apply, MobaIdeal.Whole.sel_lt _ _ (by omega) (by omega), MobaIdeal.Whole.bot_bits]
  unfold MobaMath.sel MobaMath.score
  split
  · refine Finset.sum_congr rfl fun d _ => ?_
    rw [q_apply, mul_comm]
    simp only [k_apply]
  · rfl

/-- The selected blocks. -/
theorem index_apply (V0 : Valuation τ sig (Elt Ideal)) (R : Fin 8192) (h : Fin 16) (J : Fin 3) :
    Value.res_main_indices V0 (ix3 R h J) = BitVec.ofNat 32 (MobaMath.pick (Qr (arg V0) h R) (Kr (arg V0) h) (R.val / 256) J) := by
  refine (top_apply (Value.res_main_v22 V0) R h J).trans ?_
  unfold MobaMath.pick
  rw [show (fun l => Value.res_main_v22 V0 (ix3 R h l)) = MobaMath.sel (Qr (arg V0) h R) (Kr (arg V0) h) (R.val / 256) from
    funext fun l => scores_apply V0 R h l]

/-- A selected block is one of the blocks. -/
theorem pick_lt (Q : Fin 128 → EReal) (K : Fin 8192 → Fin 128 → EReal) (b : ℕ) (J : Fin 3) : MobaMath.pick Q K b J < 32 := by
  unfold MobaMath.pick
  omega

/-- The rows of a block whose number the indices name. -/
theorem named_rows (V0 : Valuation τ sig (Elt Ideal)) (x : Vec Ideal S32x256x16x128 .f32) (I : IVec S8192x16x3 32) (R : Fin 8192) (h : Fin 16) (J : Fin 3) (c : Fin 256) (d : Fin 128)
    (p : ℕ) (hp : p < 32) (hi : I (ix3 R h J) = BitVec.ofNat 32 p) :
    Host.gather gather_S32x256x16x128_S8192x16x3x2_S8192x16x3x256x128_34_02_n_n_02_3_12561128 x (pairs V0 I) (ix5 R h J c d) = x (ix4 ⟨p, hp⟩ c h d) := by
  have h0 := pairs0 V0 I R h J ⟨p, hp⟩ hi
  have h1 := pairs1 V0 I R h J
  generalize pairs V0 I = P at h0 h1 ⊢
  exact gather_sel x P R h J c d ⟨p, hp⟩ h0 h1

/-- The selected rows of an array of blocks. -/
theorem sel_rows (V0 : Valuation τ sig (Elt Ideal)) (x : Vec Ideal S32x256x16x128 .f32) (R : Fin 8192) (h : Fin 16) (J : Fin 3) (c : Fin 256) (d : Fin 128) :
    Host.gather gather_S32x256x16x128_S8192x16x3x2_S8192x16x3x256x128_34_02_n_n_02_3_12561128 x (pairs V0 (Value.res_main_indices V0)) (ix5 R h J c d)
      = x (ix4 ⟨MobaMath.pick (Qr (arg V0) h R) (Kr (arg V0) h) (R.val / 256) J, pick_lt _ _ _ _⟩ c h d) :=
  named_rows V0 x (Value.res_main_indices V0) R h J c d _ (pick_lt _ _ _ _) (index_apply V0 R h J)

/-- The own rows of an array of blocks. -/
theorem own_rows (V0 : Valuation τ sig (Elt Ideal)) (x : Vec Ideal S32x256x16x128 .f32) (R : Fin 8192) (c : Fin 256) (h : Fin 16) (d : Fin 128) :
    Host.gather gather_S32x256x16x128_S8192x1_S8192x256x16x128_123_0_n_n_0_1_125616128 x (owns (F := Ideal) (Value.res_main_v13 V0)) (ix4 R c h d)
      = x (ix4 ⟨R.val / 256, by omega⟩ c h d) :=
  gather_own x _ R c h d ⟨R.val / 256, by omega⟩ (owns_apply _ R ⟨R.val / 256, by omega⟩ (nblk_apply V0 R))

/-- The masked scores the softmax is taken over. -/
def lines {F} [FloatOps F] (V0 : Valuation τ sig (Elt F)) (q : Vec F S8192x16x128 .f32) (KS : Vec F S8192x16x3x256x128 .f32) (KO : Vec F S8192x256x16x128 .f32) (n : IVec S8192 32) : Vec F S8192x16x1024 .f32 :=
  concatenate S8192x16x1024 2 [⟨S8192x16x768, (shapeCast _ (select (broadcastInDim S8192x16x3x256 ![0, 1, 2, 3] bcast_S8192x1x3x1_S8192x16x3x256_0_1_2_3 (broadcastInDim S8192x1x3x1 ![0, 1, 2] bcast_S8192x1x3_S8192x1x3x1_0_1_2 (cmpi .slt (broadcastInDim S8192x1x3 ![0, 1, 2] bcast_S1x1x3_S8192x1x3_0_1_2 (broadcastInDim S1x1x3 ![2] bcast_S3_S1x1x3_2 (iotaInDim S3 32 0))) (broadcastInDim S8192x1x3 ![0, 1, 2] bcast_S8192x1x1_S8192x1x3_0_1_2 (broadcastInDim S8192x1x1 ![0] bcast_S8192_S8192x1x1_0 n))))) (Host.dotGeneral dot_S8192x16x128_S8192x16x3x256x128_S8192x16x3x256_2_4_n_23_01_01 none q KS) (broadcastInDim S8192x16x3x256 ![] bcast_S_S8192x16x3x256 (id (constant S_ .f32 0xFF800000#32)))) shapeCasts_S8192x16x3x256_S8192x16x768)⟩, ⟨S8192x16x256, (select (broadcastInDim S8192x16x256 ![0, 1, 2] bcast_S8192x1x256_S8192x16x256_0_1_2 (broadcastInDim S8192x1x256 ![0, 2] bcast_S8192x256_S8192x1x256_0_2 (cmpi .sle (broadcastInDim S8192x256 ![0, 1] bcast_S1x256_S8192x256_0_1 (broadcastInDim S1x256 ![1] bcast_S256_S1x256_1 (iotaInDim S256 32 0))) (broadcastInDim S8192x256 ![0, 1] bcast_S8192x1_S8192x256_0_1 (broadcastInDim S8192x1 ![0] bcast_S8192_S8192x1_0 (select (andi (cmpi .ne (cmpi .slt (Value.res_main_call2_v4 V0) (broadcastInDim S8192 ![] bcast_S_S8192 (constantI S_ 32 0#32))) (broadcastInDim S8192 ![] bcast_S_S8192 (cmpi .slt (Value.res_main_call2_v2 V0) (constantI S_ 32 0#32)))) (cmpi .ne (Value.res_main_call2_v4 V0) (broadcastInDim S8192 ![] bcast_S_S8192 (constantI S_ 32 0#32)))) (addi (Value.res_main_call2_v4 V0) (broadcastInDim S8192 ![] bcast_S_S8192 (Value.res_main_call2_v2 V0))) (Value.res_main_call2_v4 V0))))))) (Host.dotGeneral dot_S8192x16x128_S8192x256x16x128_S8192x16x256_2_3_n_1_01_02 none q KO) (broadcastInDim S8192x16x256 ![] bcast_S_S8192x16x256 (id (constant S_ .f32 0xFF800000#32))))⟩] concatenates_S8192x16x768_S8192x16x256_S8192x16x1024_d2

/-- An entry of a selected block. -/
theorem lines_sel (V0 : Valuation τ sig (Elt Ideal)) (q : Vec Ideal S8192x16x128 .f32) (KS : Vec Ideal S8192x16x3x256x128 .f32) (KO : Vec Ideal S8192x256x16x128 .f32) (n : IVec S8192 32)
    (R : Fin 8192) (h : Fin 16) (J : Fin 3) (c : Fin 256) : lines V0 q KS KO n (ix3 R h ⟨J.val * 256 + c.val, by omega⟩)
      = Scalar.select (IntOp.cmpi CmpIPredicate.slt (BitVec.ofNat 32 J.val) (n (ix1 R)))
        (∑ d, q (ix3 R h d) * KS (ix5 R h J c d)) (Ideal.ofBits FTy.f32 4286578688#32) := by
  have e0 : J.val * 256 + c.val < 768 := by omega
  pointwise [lines]
  rw [dif_pos e0]
  rfl

/-- An entry of the query's own block. -/
theorem lines_own (V0 : Valuation τ sig (Elt Ideal)) (q : Vec Ideal S8192x16x128 .f32) (KS : Vec Ideal S8192x16x3x256x128 .f32) (KO : Vec Ideal S8192x256x16x128 .f32) (n : IVec S8192 32)
    (R : Fin 8192) (h : Fin 16) (c : Fin 256) : lines V0 q KS KO n (ix3 R h ⟨768 + c.val, by omega⟩)
      = Scalar.select (IntOp.cmpi CmpIPredicate.sle (BitVec.ofNat 32 c.val) (BitVec.ofNat 32 (R.val % 256)))
        (∑ d, q (ix3 R h d) * KO (ix4 R c h d)) (Ideal.ofBits FTy.f32 4286578688#32) := by
  rw [← place_word' R]
  pointwise [lines, Value.res_main_call2_v4, Value.res_main_call2_v2, Value.res_main_call2_v0]
  rfl

/-- The 1024 columns are those of three selected blocks and of the own block. -/
theorem cover {motive : Fin 1024 → Prop} (hs : ∀ (J : Fin 3) (c : Fin 256), motive ⟨J.val * 256 + c.val, by omega⟩)
    (ho : ∀ c : Fin 256, motive ⟨768 + c.val, by omega⟩) (p : Fin 1024) : motive p := by
  by_cases hp : p.val < 768
  · have h := hs ⟨p.val / 256, by omega⟩ ⟨p.val % 256, by omega⟩
    rwa [show (⟨p.val / 256 * 256 + p.val % 256, by omega⟩ : Fin 1024) = p from Fin.ext (by show p.val / 256 * 256 + p.val % 256 = p.val; omega)] at h
  · have h := ho ⟨p.val - 768, by omega⟩
    rwa [show (⟨768 + (p.val - 768), by omega⟩ : Fin 1024) = p from Fin.ext (by show 768 + (p.val - 768) = p.val; omega)] at h

/-- The masked scores are those of `MobaMath.line`. -/
theorem lines_apply (V0 : Valuation τ sig (Elt Ideal)) (q : Vec Ideal S8192x16x128 .f32) (KS : Vec Ideal S8192x16x3x256x128 .f32) (KO : Vec Ideal S8192x256x16x128 .f32) (n : IVec S8192 32)
    (Q : Fin 128 → EReal) (K : Fin 8192 → Fin 128 → EReal) (R : Fin 8192) (h : Fin 16) (hn : n (ix1 R) = BitVec.ofNat 32 (R.val / 256))
    (hq : ∀ d, q (ix3 R h d) = Q d * Ideal.ofBits FTy.f32 0x3DB504F3#32)
    (hs : ∀ J c d, KS (ix5 R h J c d) = K (MobaMath.row (MobaMath.pick Q K (R.val / 256) J) c) d)
    (ho : ∀ c d, KO (ix4 R c h d) = K (MobaMath.row (R.val / 256) c) d) (p : Fin 1024) :
    lines V0 q KS KO n (ix3 R h p) = MobaMath.line Q K (R.val / 256) ⟨R.val % 256, by omega⟩ p := by
  revert p
  refine cover ?_ ?_
  · intro J c
    rw [lines_sel, MobaMath.line_sel, hn, MobaIdeal.Whole.sel_lt _ _ (by omega) (by omega), MobaIdeal.Whole.bot_bits]
    simp only [hq, hs]
    rfl
  · intro c
    rw [lines_own, MobaMath.line_own, MobaIdeal.Whole.sel_le _ _ (by omega) (by omega), MobaIdeal.Whole.bot_bits]
    simp only [hq, ho]
    rfl

/-- The greatest score of each row. -/
def most {F} [FloatOps F] (x : Vec F S8192x16x1024 .f32) : Vec F S8192x16 .f32 :=
  Host.reduce FloatOps.maximumf x (constant S_ .f32 0xFF800000#32) reducesTo_S8192x16x1024_S8192x16_d2 h_S_

/-- The greatest score of a row. -/
theorem most_apply (x : Vec Ideal S8192x16x1024 .f32) (R : Fin 8192) (h : Fin 16) :
    most x (ix2 R h) = Finset.fold max (Ideal.ofBits FTy.f32 4286578688#32) (fun p => x (ix3 R h p)) Finset.univ := by
  pointwise [most]

/-- The exponentials of the scores less the greatest one. -/
def expo {F} [FloatOps F] (x : Vec F S8192x16x1024 .f32) (y : Vec F S8192x16 .f32) : Vec F S8192x16x1024 .f32 :=
  Host.exp (subf x (broadcastInDim S8192x16x1024 ![0, 1, 2] bcast_S8192x16x1_S8192x16x1024_0_1_2 (broadcastInDim S8192x16x1 ![0, 1] bcast_S8192x16_S8192x16x1_0_1 (maximumf (broadcastInDim S8192x16 ![] bcast_S_S8192x16 (constant S_ .f32 0xFF800000#32)) y))))

/-- The same, read at an entry. -/
theorem expo_apply (x : Vec Ideal S8192x16x1024 .f32) (y : Vec Ideal S8192x16 .f32) (R : Fin 8192) (h : Fin 16) (p : Fin 1024) :
    expo x y (ix3 R h p) = Ideal.exp (x (ix3 R h p) - max (Ideal.ofBits FTy.f32 4286578688#32) (y (ix2 R h))) := by
  pointwise [expo]

/-- The weights: each exponential over the row's sum. -/
def share {F} [FloatOps F] (x : Vec F S8192x16x1024 .f32) : Vec F S8192x16x1024 .f32 :=
  Host.divf x (broadcastInDim S8192x16x1024 ![0, 1, 2] bcast_S8192x16x1_S8192x16x1024_0_1_2 (broadcastInDim S8192x16x1 ![0, 1] bcast_S8192x16_S8192x16x1_0_1 (Host.reduceAdd x (constant S_ .f32 0x00000000#32) reducesTo_S8192x16x1024_S8192x16_d2 h_S_)))

/-- The same, read at an entry. -/
theorem share_apply (x : Vec Ideal S8192x16x1024 .f32) (R : Fin 8192) (h : Fin 16) (p : Fin 1024) :
    share x (ix3 R h p) = Ideal.div (x (ix3 R h p)) (∑ p, x (ix3 R h p)) := by
  pointwise [share]

/-- The weighted sums of the values. -/
def outs {F} [FloatOps F] (x : Vec F S8192x16x1024 .f32) (VS : Vec F S8192x16x3x256x128 .f32) (VO : Vec F S8192x256x16x128 .f32) : Vec F S8192x2048 .f32 :=
  shapeCast _ (addf (Host.dotGeneral dot_S8192x16x3x256_S8192x16x3x256x128_S8192x16x128_23_23_n_4_01_01 none (shapeCast _ (extractStridedSlice S8192x16x768 ![0, 0, 0] x slices_S8192x16x1024_S8192x16x768_0_0_0) shapeCasts_S8192x16x768_S8192x16x3x256) VS) (Host.dotGeneral dot_S8192x16x256_S8192x256x16x128_S8192x16x128_2_1_n_3_01_02 none (extractStridedSlice S8192x16x256 ![0, 0, 768] x slices_S8192x16x1024_S8192x16x256_0_0_768) VO)) shapeCasts_S8192x16x128_S8192x2048

/-- The same, read at an entry. -/
theorem outs_apply (x : Vec Ideal S8192x16x1024 .f32) (VS : Vec Ideal S8192x16x3x256x128 .f32) (VO : Vec Ideal S8192x256x16x128 .f32) (R : Fin 8192) (C : Fin 2048) :
    outs x VS VO (ix2 R C)
      = (∑ J : Fin 3, ∑ c : Fin 256, x (ix3 R ⟨C.val / 128, by omega⟩ ⟨J.val * 256 + c.val, by omega⟩) * VS (ix5 R ⟨C.val / 128, by omega⟩ J c ⟨C.val % 128, by omega⟩))
        + ∑ c : Fin 256, x (ix3 R ⟨C.val / 128, by omega⟩ ⟨768 + c.val, by omega⟩) * VO (ix4 R c ⟨C.val / 128, by omega⟩ ⟨C.val % 128, by omega⟩) := by
  pointwise [outs]

/-- The exponentials of a row whose scores are known. -/
theorem expo_row (x : Vec Ideal S8192x16x1024 .f32) (R : Fin 8192) (h : Fin 16) (L : Fin 1024 → EReal) (hL : ∀ p, x (ix3 R h p) = L p) (p : Fin 1024) :
    expo x (most x) (ix3 R h p) = Ideal.exp (L p - Finset.univ.sup L) := by
  rw [expo_apply, most_apply, MobaIdeal.Whole.fold_sup, MobaIdeal.Whole.bot_bits, max_eq_right bot_le, hL]
  simp only [hL]

/-- The reference's result over the stages' arrays. -/
def whole (V0 : Valuation τ sig (Elt Ideal)) : Vec Ideal S8192x2048 .f32 :=
  outs (Value.res_main_v103 V0)
    (Host.gather gather_S32x256x16x128_S8192x16x3x2_S8192x16x3x256x128_34_02_n_n_02_3_12561128 (Value.res_main_v7 V0) (pairs V0 (Value.res_main_indices V0)))
    (Host.gather gather_S32x256x16x128_S8192x1_S8192x256x16x128_123_0_n_n_0_1_125616128 (Value.res_main_v7 V0) (owns (F := Ideal) (Value.res_main_v13 V0)))

/-- The scores, as the stages' arrays. -/
theorem lines_whole (V0 : Valuation τ sig (Elt Ideal)) : Value.res_main_v92 V0 = lines V0 (Value.res_main_v84 V0)
    (Host.gather gather_S32x256x16x128_S8192x16x3x2_S8192x16x3x256x128_34_02_n_n_02_3_12561128 (Value.res_main_v6 V0) (pairs V0 (Value.res_main_indices V0)))
    (Host.gather gather_S32x256x16x128_S8192x1_S8192x256x16x128_123_0_n_n_0_1_125616128 (Value.res_main_v6 V0) (owns (F := Ideal) (Value.res_main_v13 V0)))
    (Value.res_main_v13 V0) := rfl

/-- A row's scores. -/
theorem scores_row (V0 : Valuation τ sig (Elt Ideal)) (R : Fin 8192) (h : Fin 16) (p : Fin 1024) :
    Value.res_main_v92 V0 (ix3 R h p) = MobaMath.line (Qr (arg V0) h R) (Kr (arg V0) h) (R.val / 256) ⟨R.val % 256, by omega⟩ p := by
  rw [lines_whole]
  exact lines_apply V0 _ _ _ _ _ _ R h (nblk_apply V0 R) (qs_apply V0 R h) (fun J c d => by rw [sel_rows, k_apply])
    (fun c d => by rw [own_rows, k_apply]) p

/-- A row's weights. -/
theorem share_row (V0 : Valuation τ sig (Elt Ideal)) (R : Fin 8192) (h : Fin 16) (L : Fin 1024 → EReal)
    (hL : L = MobaMath.line (Qr (arg V0) h R) (Kr (arg V0) h) (R.val / 256) ⟨R.val % 256, by omega⟩) (p : Fin 1024) :
    Value.res_main_v103 V0 (ix3 R h p) = Ideal.div (Ideal.exp (L p - Finset.univ.sup L)) (∑ p, Ideal.exp (L p - Finset.univ.sup L)) := by
  have e : ∀ p, Value.res_main_v99 V0 (ix3 R h p) = Ideal.exp (L p - Finset.univ.sup L) := fun p =>
    expo_row (Value.res_main_v92 V0) R h L (fun p => by rw [scores_row, hL]) p
  refine (share_apply (Value.res_main_v99 V0) R h p).trans ?_
  simp only [e]

/-- The values of the selected rows. -/
theorem sel_vals (V0 : Valuation τ sig (Elt Ideal)) (R : Fin 8192) (h : Fin 16) (J : Fin 3) (c : Fin 256) (d : Fin 128) :
    Host.gather gather_S32x256x16x128_S8192x16x3x2_S8192x16x3x256x128_34_02_n_n_02_3_12561128 (Value.res_main_v7 V0) (pairs V0 (Value.res_main_indices V0)) (ix5 R h J c d)
      = Vr (arg V0) h (MobaMath.row (MobaMath.pick (Qr (arg V0) h R) (Kr (arg V0) h) (R.val / 256) J) c) d := by
  rw [sel_rows, v_apply]

/-- The values of the own rows. -/
theorem own_vals (V0 : Valuation τ sig (Elt Ideal)) (R : Fin 8192) (c : Fin 256) (h : Fin 16) (d : Fin 128) :
    Host.gather gather_S32x256x16x128_S8192x1_S8192x256x16x128_123_0_n_n_0_1_125616128 (Value.res_main_v7 V0) (owns (F := Ideal) (Value.res_main_v13 V0)) (ix4 R c h d)
      = Vr (arg V0) h (MobaMath.row (R.val / 256) c) d := by
  rw [own_rows, v_apply]

/-- Weighted sums whose weights and values are known are the attention. -/
theorem sums (x : Vec Ideal S8192x16x1024 .f32) (VS : Vec Ideal S8192x16x3x256x128 .f32) (VO : Vec Ideal S8192x256x16x128 .f32)
    (Q : Fin 128 → EReal) (K V : Fin 8192 → Fin 128 → EReal) (hQ : ∀ d, ∃ r : ℝ, Q d = r) (hK : ∀ R d, ∃ r : ℝ, K R d = r)
    (R : Fin 8192) (h : Fin 16) (d : Fin 128) (b : ℕ) (hb : b ≤ 31) (r : Fin 256)
    (hx : ∀ p, x (ix3 R h p) = Ideal.div (Ideal.exp (MobaMath.line Q K b r p - Finset.univ.sup (MobaMath.line Q K b r)))
      (∑ p, Ideal.exp (MobaMath.line Q K b r p - Finset.univ.sup (MobaMath.line Q K b r))))
    (hs : ∀ J c, VS (ix5 R h J c d) = V (MobaMath.row (MobaMath.pick Q K b J) c) d)
    (ho : ∀ c, VO (ix4 R c h d) = V (MobaMath.row b c) d) :
    (∑ J : Fin 3, ∑ c : Fin 256, x (ix3 R h ⟨J.val * 256 + c.val, by omega⟩) * VS (ix5 R h J c d))
      + ∑ c : Fin 256, x (ix3 R h ⟨768 + c.val, by omega⟩) * VO (ix4 R c h d) = MobaMath.att Q K V b r d := by
  rw [← MobaMath.soft Q K hQ hK V b hb r d]
  simp only [hx, hs, ho]

/-- The reference's result at an entry. -/
theorem whole_apply (V0 : Valuation τ sig (Elt Ideal)) (hQ : ∀ h R d, ∃ r : ℝ, Qr (arg V0) h R d = r) (hK : ∀ h R d, ∃ r : ℝ, Kr (arg V0) h R d = r)
    (R : Fin 8192) (C : Fin 2048) :
    whole V0 (ix2 R C) = MobaMath.att (Qr (arg V0) ⟨C.val / 128, by omega⟩ R) (Kr (arg V0) ⟨C.val / 128, by omega⟩) (Vr (arg V0) ⟨C.val / 128, by omega⟩)
      (R.val / 256) ⟨R.val % 256, by omega⟩ ⟨C.val % 128, by omega⟩ := by
  unfold whole
  rw [outs_apply]
  exact sums _ _ _ _ _ _ (hQ _ R) (hK _) R _ _ _ (by omega) _ (share_row V0 R _ _ rfl) (fun J c => sel_vals V0 R _ J c _) (fun c => own_vals V0 R c _ _)

end Cert.MobaRefIdeal.Whole

end
-- ==== Proof.Value.Moba.lean ====
/-
  The claims of the block attention: the kernel and its reference compute the attention of `MobaSpec` of every finite argument.
-/
module

public import proofs.«01_k».proof.Defs
public import proofs.«01_k».proof.Proof.Gen.Pre_finite
public import proofs.«01_k».proof.Proof.Gen.Moba.Frame
public import proofs.«01_k».proof.Proof.Gen.MobaIdeal.Value
public import proofs.«01_k».proof.Proof.Gen.MobaRefIdeal.Run
public import proofs.«01_k».proof.Proof.Value.MobaKernel
public import proofs.«01_k».proof.Proof.Value.MobaRef
public import Idealize.ShloMosaic.Lib.Quiescent

@[expose] public section

set_option maxRecDepth 16384

noncomputable section

namespace Cert.MobaRefIdeal.Whole

open Cert.MobaRefIdeal Cert.MobaRefIdeal.Gen
open Idealize.ShloMosaic Idealize.ShloMosaic.TcCoe Idealize.ShloMosaic.StableHlo Idealize.SL.Sem

/-- The reference's queries of a head are the kernel's. -/
theorem q_same (X : Vec Ideal S8192x8192 .f32) (h : Fin 16) : Qr X h = MobaIdeal.Whole.Qh X h.val h.isLt := rfl

/-- The keys too. -/
theorem k_same (X : Vec Ideal S8192x8192 .f32) (h : Fin 16) : Kr X h = MobaIdeal.Whole.Kh X h.val h.isLt :=
  funext fun R => funext fun d => congrArg (fun z => X (ix2 R z)) (Fin.ext (by show 2048 + (h.val * 128 + d.val) = (h.val + 16) * 128 + d.val; omega))

/-- And the values. -/
theorem v_same (X : Vec Ideal S8192x8192 .f32) (h : Fin 16) : Vr X h = MobaIdeal.Whole.Vh X h.val h.isLt :=
  funext fun R => funext fun d => congrArg (fun z => X (ix2 R z)) (Fin.ext (by show 4096 + (h.val * 128 + d.val) = (h.val + 32) * 128 + d.val; omega))

/-- A row is the row of its place in its block. -/
theorem row_self (R : Fin 8192) : MobaMath.row (R.val / 256) ⟨R.val % 256, by omega⟩ = R :=
  Fin.ext (by show R.val / 256 % 32 * 256 + R.val % 256 = R.val; omega)

/-- The reference computes what the kernel does, of a finite argument. -/
theorem whole_eq (V0 : Valuation τ sig (Elt Ideal)) (hX : MobaIdeal.Whole.Fin_ (arg V0)) : whole V0 = MobaIdeal.Whole.G (arg V0) := by
  have hQ : ∀ h R d, ∃ r : ℝ, Qr (arg V0) h R d = r := fun h R d => hX R _ (by show h.val * 128 + d.val < 4096; omega)
  have hK : ∀ h R d, ∃ r : ℝ, Kr (arg V0) h R d = r := fun h R d => hX R _ (by show 2048 + (h.val * 128 + d.val) < 4096; omega)
  funext i
  obtain ⟨R, C, rfl⟩ : ∃ (R : Fin 8192) (C : Fin 2048), i = (ix2 R C : S8192x2048.Idx) := ⟨i 0, i 1, by funext a; match a with | ⟨0, _⟩ => rfl | ⟨1, _⟩ => rfl⟩
  rw [whole_apply V0 hQ hK, q_same, k_same, v_same]
  show _ = MobaMath.att (MobaIdeal.Whole.Qh (arg V0) (C.val / 128) _ (MobaMath.row (R.val / 256) ⟨R.val % 256, _⟩)) _ _ _ _ _
  rw [row_self]
  rfl

end Cert.MobaRefIdeal.Whole

namespace Cert.MobaIdeal.Whole

open Cert.MobaIdeal Cert.MobaIdeal.Gen
open Idealize.ShloMosaic Idealize.ShloMosaic.TcCoe Idealize.SL.Sem

/-- The word of positive infinity. -/
theorem top_bits : Ideal.ofBits FTy.f32 2139095040#32 = (⊤ : EReal) := by
  simp [Ideal.ofBits, Ideal.ieee]

/-- A value whose magnitude is below infinity is a number. -/
theorem real_of_abs (x : EReal) (h : max x (-x) < ⊤) : ∃ r : ℝ, x = r := by
  induction x using EReal.rec with
  | bot => simp at h
  | top => simp at h
  | coe r => exact ⟨r, rfl⟩

/-- The precondition, read at an entry. -/
theorem pre_read (X : Vec Ideal S8192x8192 .f32) (R : Fin 8192) (C : Fin 4096) :
    Cert.Pre_finite.fn (F := Ideal) X (ix2 R C)
      = BitVec.ofBool (decide ((FloatOps.absf (X (ix2 R ⟨C.val, by omega⟩)) : Ideal .f32) < Ideal.ofBits FTy.f32 2139095040#32)) := by
  pointwise [Cert.Pre_finite.fn]

/-- The precondition says that the queries and keys are numbers. -/
theorem fin_of_pre (X : Vec Ideal S8192x8192 .f32) (h : Cert.Pre_finite.fn (F := Ideal) X = fun _ => 1#1) : Fin_ X := by
  intro R C hC
  have e := (pre_read X R ⟨C.val, hC⟩).symm.trans (congrFun h _)
  rw [top_bits] at e
  refine real_of_abs _ ?_
  by_contra hn
  rw [decide_eq_false (show ¬ ((FloatOps.absf (X (ix2 R ⟨C.val, _⟩)) : Ideal .f32) < (⊤ : EReal)) from hn)] at e
  exact absurd e (by decide)

end Cert.MobaIdeal.Whole

/-! ## The claims -/

namespace Cert.Proof.Moba

open Idealize.ShloMosaic Idealize.ShloMosaic.TcCoe Idealize.SL.Sem

/-- The kernel runs to its end and keeps its argument. -/
theorem frame : Cert.quiescent_Moba := fun m ρ _ => Cert.Moba.Gen.frame m ρ

/-- So does its idealized form. -/
theorem frameI : Cert.quiescent_MobaIdeal := fun m ρ _ => Cert.MobaIdeal.Gen.frame m ρ

/-- Of finite arguments too. -/
theorem frameI_finite : Cert.quiescent_MobaIdeal_pre_finite := fun m ρ _ => Cert.MobaIdeal.Gen.frame m ρ

/-- So does the reference. -/
theorem frameR : Cert.quiescent_MobaRefIdeal := fun m ρ _ =>
  (θ_run Cert.MobaRefIdeal.defs _ _).mono (fun r h => ⟨fun c => (h c).2,
      Idealize.ShloMosaic.sem_eq_zero_of_no_sems (by decide) r.2⟩)
    (Cert.MobaRefIdeal.Value.run (F := Ideal) m ρ)

/-- Of finite arguments too. -/
theorem frameR_finite : Cert.quiescent_MobaRefIdeal_pre_finite := fun m ρ _ => frameR m ρ trivial

/-- The one rewrite: the mask constant stands for −∞. -/
theorem preserves : Cert.preserves_Moba_MobaIdeal :=
  IdealRules.named_const.statement Cert.MobaIdeal.κ "mask" .f32 0xF149F2CA#32 ⊥ rfl

/-- The kernel and the reference compute the same function of finite arguments. -/
theorem algebraic : Cert.algebraic_MobaIdeal_MobaRefIdeal_pre_finite := by
  intro m ρ m' ρ' hp hag
  have hX := fun c => Cert.MobaIdeal.Whole.fin_of_pre _ (hp c)
  refine ⟨fun c => Cert.MobaIdeal.Whole.G (m ((c.tc : Thread Cert.MobaIdeal.nD Cert.MobaIdeal.τ).loc Cert.MobaIdeal.main_arg0)), Cert.MobaIdeal.Whole.run m ρ hX, ?_⟩
  refine (θ_run Cert.MobaRefIdeal.defs _ _).mono (fun _ h c => ⟨(h c).1.trans ?_, (h c).2⟩)
    (Cert.MobaRefIdeal.Value.run (F := Ideal) m' ρ')
  have e : Cert.MobaRefIdeal.Whole.arg (Idealize.ShloMosaic.StableHlo.launchContents m' c) = m ((c.tc : Thread Cert.MobaIdeal.nD Cert.MobaIdeal.τ).loc Cert.MobaIdeal.main_arg0) := hag c
  refine Eq.trans ?_ ((Cert.MobaRefIdeal.Whole.whole_eq (Idealize.ShloMosaic.StableHlo.launchContents m' c) (by rw [e]; exact hX c)).trans (congrArg _ e))
  rfl

end Cert.Proof.Moba

end
-- ==== Proof.Value.Glu.lean ====
/-
  The value of the gated output of the recurrence: gelu of the output plus the scaled input, times the sigmoid of its
  own projection.
-/
module

public import proofs.«01_k».proof.Defs
public import proofs.«01_k».proof.Proof.Gen.Glu.Frame
public import proofs.«01_k».proof.Proof.Gen.GluIdeal.Value
public import proofs.«01_k».proof.Proof.Gen.GluRefIdeal.Run
public import Idealize.ShloMosaic.Lib.Pipeline.Value
public import Idealize.ShloMosaic.Lib.Quiescent
public import Idealize.ShloMosaic.Lib.Pointwise
public import Idealize.ShloMosaic.Lib.ValueLayout

@[expose] public section

set_option maxRecDepth 16384

noncomputable section

namespace Cert.GluIdeal.Whole

open Cert.GluIdeal Cert.GluIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 64 points. -/
theorem lt_N (t : Fin cfg0.N) : t.val < 64 := by
  have h : cfg0.N = 64 := N_0
  have := t.isLt
  omega

/-- The origin of a two-dimensional block, as a constant function. -/
theorem hz : (![0, 0] : Fin 2 → Nat) = fun _ => 0 := funext fun a => by fin_cases a <;> rfl

/-- The origin of a three-dimensional block, as a constant function. -/
theorem hz3 : (![0, 0, 0] : Fin 3 → Nat) = fun _ => 0 := funext fun a => by fin_cases a <;> rfl

/-- The block index of window 0 at a point. -/
theorem index_y : ∀ t : Fin grid0.N, win0_0.index t 0 = t.val / 4 ∧ win0_0.index t 1 = 0 := by
  decide +kernel

/-- The block index of window 1 at a point. -/
theorem index_u : ∀ t : Fin grid0.N, win0_1.index t 0 = t.val / 4 ∧ win0_1.index t 1 = 3 := by
  decide +kernel

/-- The block index of window 2 at a point. -/
theorem index_d : ∀ t : Fin grid0.N, win0_2.index t 0 = 0 ∧ win0_2.index t 1 = 0 := by
  decide +kernel

/-- The block index of window 3 at a point. -/
theorem index_w : ∀ t : Fin grid0.N, win0_3.index t 0 = 0 ∧ win0_3.index t 1 = t.val % 4 := by
  decide +kernel

/-- The block index of window 4 at a point. -/
theorem index_b : ∀ t : Fin grid0.N, win0_4.index t 0 = 0 ∧ win0_4.index t 1 = t.val % 4 := by
  decide +kernel

/-- The block index of window 5 at a point. -/
theorem index_o : ∀ t : Fin grid0.N, win0_5.index t 0 = t.val / 4 ∧ win0_5.index t 1 = t.val % 4 := by
  decide +kernel

/-- The block of window 0 at point `t`, entry by entry. -/
theorem iblk_y (c : Dev nD) (t : Fin cfg0.N) (r : Fin 512) (k : Fin 2048) :
    iblk m c 0 t (ix2 r k : S512x2048.Idx)
      = m ((c : Thread nD τ).loc main_arg0) (ix2 ⟨(t.val / 4) * 512 + r, by have := lt_N t; omega⟩ k : S8192x2048.Idx) := by
  show m ((c : Thread nD τ).loc main_arg0) (((cfg0.win 0).blk t).view.emb (ix2 r k : S512x2048.Idx)) = _
  congr 1
  funext a
  apply Fin.ext
  match a with
  | ⟨0, _⟩ => show win0_0.index t 0 * 512 + 1 * r.val = _
              rw [(index_y t).1]
              show (t.val / 4) * 512 + 1 * r.val = (t.val / 4) * 512 + r.val
              omega
  | ⟨1, _⟩ => show win0_0.index t 1 * 2048 + 1 * k.val = _
              rw [(index_y t).2]
              show (0) * 2048 + 1 * k.val = k.val
              omega

/-- The block of window 1 at point `t`, entry by entry. -/
theorem iblk_u (c : Dev nD) (t : Fin cfg0.N) (r : Fin 512) (k : Fin 2048) :
    iblk m c 1 t (ix2 r k : S512x2048.Idx)
      = m ((c : Thread nD τ).loc main_arg1) (ix2 ⟨(t.val / 4) * 512 + r, by have := lt_N t; omega⟩ ⟨(3) * 2048 + k, by have := lt_N t; omega⟩ : S8192x8192.Idx) := by
  show m ((c : Thread nD τ).loc main_arg1) (((cfg0.win 1).blk t).view.emb (ix2 r k : S512x2048.Idx)) = _
  congr 1
  funext a
  apply Fin.ext
  match a with
  | ⟨0, _⟩ => show win0_1.index t 0 * 512 + 1 * r.val = _
              rw [(index_u t).1]
              show (t.val / 4) * 512 + 1 * r.val = (t.val / 4) * 512 + r.val
              omega
  | ⟨1, _⟩ => show win0_1.index t 1 * 2048 + 1 * k.val = _
              rw [(index_u t).2]
              show (3) * 2048 + 1 * k.val = (3) * 2048 + k.val
              omega

/-- The block of window 2 at point `t`, entry by entry. -/
theorem iblk_d (c : Dev nD) (t : Fin cfg0.N) (r : Fin 1) (k : Fin 2048) :
    iblk m c 2 t (ix2 r k : S1x2048.Idx)
      = V m c main_v0 (ix2 r k : S1x2048.Idx) := by
  show V m c main_v0 (((cfg0.win 2).blk t).view.emb (ix2 r k : S1x2048.Idx)) = _
  congr 1
  funext a
  apply Fin.ext
  match a with
  | ⟨0, _⟩ => show win0_2.index t 0 * 1 + 1 * r.val = _
              rw [(index_d t).1]
              show (0) * 1 + 1 * r.val = r.val
              omega
  | ⟨1, _⟩ => show win0_2.index t 1 * 2048 + 1 * k.val = _
              rw [(index_d t).2]
              show (0) * 2048 + 1 * k.val = k.val
              omega

/-- The block of window 3 at point `t`, entry by entry. -/
theorem iblk_w (c : Dev nD) (t : Fin cfg0.N) (r : Fin 2048) (k : Fin 512) :
    iblk m c 3 t (ix2 r k : S2048x512.Idx)
      = m ((c : Thread nD τ).loc main_arg3) (ix2 r ⟨(t.val % 4) * 512 + k, by have := lt_N t; omega⟩ : S2048x2048.Idx) := by
  show m ((c : Thread nD τ).loc main_arg3) (((cfg0.win 3).blk t).view.emb (ix2 r k : S2048x512.Idx)) = _
  congr 1
  funext a
  apply Fin.ext
  match a with
  | ⟨0, _⟩ => show win0_3.index t 0 * 2048 + 1 * r.val = _
              rw [(index_w t).1]
              show (0) * 2048 + 1 * r.val = r.val
              omega
  | ⟨1, _⟩ => show win0_3.index t 1 * 512 + 1 * k.val = _
              rw [(index_w t).2]
              show (t.val % 4) * 512 + 1 * k.val = (t.val % 4) * 512 + k.val
              omega

/-- The block of window 4 at point `t`, entry by entry. -/
theorem iblk_b (c : Dev nD) (t : Fin cfg0.N) (r : Fin 1) (k : Fin 512) :
    iblk m c 4 t (ix2 r k : S1x512.Idx)
      = V m c main_v1 (ix2 r ⟨(t.val % 4) * 512 + k, by have := lt_N t; omega⟩ : S1x2048.Idx) := by
  show V m c main_v1 (((cfg0.win 4).blk t).view.emb (ix2 r k : S1x512.Idx)) = _
  congr 1
  funext a
  apply Fin.ext
  match a with
  | ⟨0, _⟩ => show win0_4.index t 0 * 1 + 1 * r.val = _
              rw [(index_b t).1]
              show (0) * 1 + 1 * r.val = r.val
              omega
  | ⟨1, _⟩ => show win0_4.index t 1 * 512 + 1 * k.val = _
              rw [(index_b t).2]
              show (t.val % 4) * 512 + 1 * k.val = (t.val % 4) * 512 + k.val
              omega

/-- Where an entry of point `t`'s block of window 5 lies in the whole array. -/
theorem emb_o (t : Fin cfg0.N) (r : Fin 512) (k : Fin 512) :
    (win0_5.blk t).view.emb (ix2 r k : S512x512.Idx)
      = (ix2 ⟨(t.val / 4) * 512 + r, by have := lt_N t; omega⟩ ⟨(t.val % 4) * 512 + k, by have := lt_N t; omega⟩ : S8192x2048.Idx) := by
  funext a
  apply Fin.ext
  match a with
  | ⟨0, _⟩ => show win0_5.index t 0 * 512 + 1 * r.val = _
              rw [(index_o t).1]
              show (t.val / 4) * 512 + 1 * r.val = (t.val / 4) * 512 + r.val
              omega
  | ⟨1, _⟩ => show win0_5.index t 1 * 512 + 1 * k.val = _
              rw [(index_o t).2]
              show (t.val % 4) * 512 + 1 * k.val = (t.val % 4) * 512 + k.val
              omega

/-- An entry lies in point `t`'s block of window 5 exactly when its coordinates do. -/
theorem mem_o (t : Fin cfg0.N) (i : S8192x2048.Idx) :
    i ∈ ((cfg0.win 5).blk t).view.set ↔ ((t.val / 4) * 512 ≤ (i 0 : Nat) ∧ (i 0 : Nat) < (t.val / 4) * 512 + 512) ∧ ((t.val % 4) * 512 ≤ (i 1 : Nat) ∧ (i 1 : Nat) < (t.val % 4) * 512 + 512) := by
  show i ∈ ((View.whole main_v2).slice (win0_5.rect t)).set ↔ _
  rw [View.set_slice_whole, Rect.mem_set_unit]
  have e0 : win0_5.index t 0 * win0_5.size 0 = (t.val / 4) * 512 := by rw [(index_o t).1]; rfl
  have e1 : win0_5.index t 1 * win0_5.size 1 = (t.val % 4) * 512 := by rw [(index_o t).2]; rfl
  refine ⟨fun h => ⟨?_, ?_⟩, fun h a => ?_⟩
  · have := h 0
    change win0_5.index t 0 * win0_5.size 0 ≤ (i 0 : Nat) ∧ (i 0 : Nat) < win0_5.index t 0 * win0_5.size 0 + 512 at this
    rwa [e0] at this
  · have := h 1
    change win0_5.index t 1 * win0_5.size 1 ≤ (i 1 : Nat) ∧ (i 1 : Nat) < win0_5.index t 1 * win0_5.size 1 + 512 at this
    rwa [e1] at this
  · match a with
    | ⟨0, _⟩ => show win0_5.index t 0 * win0_5.size 0 ≤ (i 0 : Nat) ∧ (i 0 : Nat) < win0_5.index t 0 * win0_5.size 0 + 512
                rw [e0]; exact h.1
    | ⟨1, _⟩ => show win0_5.index t 1 * win0_5.size 1 ≤ (i 1 : Nat) ∧ (i 1 : Nat) < win0_5.index t 1 * win0_5.size 1 + 512
                rw [e1]; exact h.2

/-- The blocks of window 5 fill the result. -/
theorem cover_o (i : S8192x2048.Idx) :
    ∃ t : Fin cfg0.N, (cfg0.win 5).flush t = true ∧ i ∈ ((cfg0.win 5).blk t).view.set := by
  have h0 : (i 0 : Nat) < 8192 := (i 0).isLt
  have h1 : (i 1 : Nat) < 2048 := (i 1).isLt
  have hN : cfg0.N = 64 := N_0
  refine ⟨⟨(i 0 : Nat) / 512 * 4 + (i 1 : Nat) / 512, by omega⟩, flush0_5 _, ?_⟩
  rw [mem_o]
  dsimp only
  omega

/-- A vector cast to one row, read at an entry. -/
theorem row_d (v : Vec Ideal S2048 .f32) (d : Fin 2048) : shapeCast S1x2048 v shapeCasts_S2048_S1x2048 (ix2 0 d) = v (ix1 d) := by
  refine shapeCast_apply _ _ _ _ ?_
  rw [Shape.rowMajor_val_two, Shape.rowMajor_val_one]
  show d.val = 0 * 2048 + d.val
  omega

/-- The window over `d` holds it. -/
theorem gain_d (c : Dev nD) (d : Fin 2048) : V m c main_v0 (ix2 0 d : S1x2048.Idx) = m ((c : Thread nD τ).loc main_arg2) (ix1 d : S2048.Idx) := by
  have h : V m c main_v0 = shapeCast _ (m ((c : Thread nD τ).loc main_arg2)) shapeCasts_S2048_S1x2048 := rfl
  rw [h]
  exact row_d _ d

/-- A vector cast to one row, read at an entry. -/
theorem row_b (v : Vec Ideal S2048 .f32) (d : Fin 2048) : shapeCast S1x2048 v shapeCasts_S2048_S1x2048 (ix2 0 d) = v (ix1 d) := by
  refine shapeCast_apply _ _ _ _ ?_
  rw [Shape.rowMajor_val_two, Shape.rowMajor_val_one]
  show d.val = 0 * 2048 + d.val
  omega

/-- The window over `b` holds it. -/
theorem gain_b (c : Dev nD) (d : Fin 2048) : V m c main_v1 (ix2 0 d : S1x2048.Idx) = m ((c : Thread nD τ).loc main_arg4) (ix1 d : S2048.Idx) := by
  have h : V m c main_v1 = shapeCast _ (m ((c : Thread nD τ).loc main_arg4)) shapeCasts_S2048_S1x2048 := rfl
  rw [h]
  exact row_b _ d

/-- The tanh form of gelu, of one number. -/
def gelu (x : EReal) : EReal :=
  x * (Ideal.ofBits FTy.f32 0x3F000000#32 * (Ideal.ofBits FTy.f32 0x3F800000#32 + Ideal.tanh (Ideal.ofBits FTy.f32 0x3F4C422A#32 * (x + Ideal.ofBits FTy.f32 0x3D372713#32 * (x * (x * x))))))

/-- The gelu of the output plus the scaled input. -/
def zf (y : Vec Ideal S8192x2048 .f32) (u : Vec Ideal S8192x8192 .f32) (d : Vec Ideal S2048 .f32) (i : Fin 8192) (k : Fin 2048) : EReal :=
  gelu (y (ix2 i k) + d (ix1 k) * u (ix2 i ⟨6144 + k, by omega⟩))

/-- The whole result at an entry. -/
def Gf (y : Vec Ideal S8192x2048 .f32) (u : Vec Ideal S8192x8192 .f32) (d : Vec Ideal S2048 .f32) (w : Vec Ideal S2048x2048 .bf16) (b : Vec Ideal S2048 .f32) (i : Fin 8192) (j : Fin 2048) : EReal :=
  zf y u d i j * Ideal.logistic ((∑ k : Fin 2048, zf y u d i k * w (ix2 k j)) + b (ix1 j))

/-- The whole result. -/
def G (y : Vec Ideal S8192x2048 .f32) (u : Vec Ideal S8192x8192 .f32) (d : Vec Ideal S2048 .f32) (w : Vec Ideal S2048x2048 .bf16) (b : Vec Ideal S2048 .f32) : Vec Ideal S8192x2048 .f32 :=
  fun i => Gf y u d w b (i 0) (i 1)

/-- The first payload at an entry. -/
theorem pay1_apply (y : Vec Ideal S512x2048 .f32) (d : Vec Ideal S1x2048 .f32) (u : Vec Ideal S512x2048 .f32) (r : Fin 512) (k : Fin 2048) :
    k0_pay1 y d u (ix2 r k) = gelu (y (ix2 r k) + d (ix2 0 k) * u (ix2 r k)) := by
  pointwise [k0_pay1, gelu]

/-- The second payload at an entry. -/
theorem pay2_apply (z : Vec Ideal S512x2048 .f32) (w : Vec Ideal S2048x512 .bf16) (b : Vec Ideal S1x512 .f32) (x : Vec Ideal S512x512 .f32) (r : Fin 512) (j : Fin 512) :
    k0_pay2 z w b x (ix2 r j) = x (ix2 r j) * Ideal.logistic ((∑ k : Fin 2048, z (ix2 r k) * w (ix2 k j)) + b (ix2 0 j)) := by
  pointwise [k0_pay2]

/-- The slice of the scratch a point loads. -/
theorem ld_slice (i : grid0.Coords) (z : Vec Ideal S512x2048 .f32) (r : Fin 512) (j : Fin 512) (k : Fin 2048) (h : k.val = (i 1).val * 512 + j.val) :
    View.ld z (Rect.unit (s := S512x2048) (k0_off1 i) S512x512.size (k0_off1_inb i)) (ix2 r j) = z (ix2 r k) := by
  refine congrArg z ?_
  have ho := k0_off1_eq i
  funext a
  apply Fin.ext
  match a with
  | ⟨0, _⟩ => show (k0_off1 i) 0 + 1 * r.val = r.val
              rw [ho]
              show 0 + 1 * r.val = r.val
              omega
  | ⟨1, _⟩ => show (k0_off1 i) 1 + 1 * j.val = k.val
              rw [ho]
              show 512 * (i 1).val + 1 * j.val = k.val
              omega

section Args

variable (c : Dev nD) (i : grid0.Coords) (arg2 : Memref sig .tc .vmem S512x2048 .f32) (harg2 : arg2.IsWhole)
    (arg3 : Memref sig .tc .vmem S512x2048 .f32) (harg3 : arg3.IsWhole)
    (arg4 : Memref sig .tc .vmem S1x2048 .f32) (harg4 : arg4.IsWhole)
    (arg5 : Memref sig .tc .vmem S2048x512 .bf16) (harg5 : arg5.IsWhole)
    (arg6 : Memref sig .tc .vmem S1x512 .f32) (harg6 : arg6.IsWhole)
    (arg7 : Memref sig .tc .vmem S512x512 .f32) (harg7 : arg7.IsWhole)
    (arg8 : Memref sig .tc .vmem S512x2048 .f32) (harg8 : arg8.IsWhole)

/-- What a first point of a row block leaves in the scratch. -/
theorem sout_A (hc0 : cond0_0 i) (x0 : Vec Ideal S512x2048 .f32) (x1 : Vec Ideal S512x2048 .f32) (x2 : Vec Ideal S1x2048 .f32) (x3 : Vec Ideal S2048x512 .bf16) (x4 : Vec Ideal S1x512 .f32) :
    sout0_A_0 c i arg2 harg2 arg3 harg3 arg4 harg4 arg5 harg5 arg6 harg6 arg7 harg7 arg8 harg8 hc0 x0 x1 x2 x3 x4 = k0_pay1 x0 x2 x1 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread, harg8.read_unread,
    View.ld_unit_zero (S := S512x2048) hz, View.ld_unit_zero (S := S1x2048) hz, View.ld_unit_zero (S := S2048x512) hz, View.ld_unit_zero (S := S1x512) hz]

/-- What a first point leaves in its block. -/
theorem out_A (hc0 : cond0_0 i) (x0 : Vec Ideal S512x2048 .f32) (x1 : Vec Ideal S512x2048 .f32) (x2 : Vec Ideal S1x2048 .f32) (x3 : Vec Ideal S2048x512 .bf16) (x4 : Vec Ideal S1x512 .f32) :
    out0_A_5 c i arg2 harg2 arg3 harg3 arg4 harg4 arg5 harg5 arg6 harg6 arg7 harg7 arg8 harg8 hc0 x0 x1 x2 x3 x4 = k0_pay2 (k0_pay1 x0 x2 x1) x3 x4 (View.ld (k0_pay1 x0 x2 x1) (Rect.unit (s := S512x2048) (k0_off1 i) S512x512.size (k0_off1_inb i))) := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  rw [View.canon_unit_zero hz]
  simp only [View.readAt_eq_ld, harg2.read_unread, harg3.read_unread, harg4.read_unread, harg5.read_unread, harg6.read_unread, harg8.read_unread,
    View.ld_unit_zero (S := S512x2048) hz, View.ld_unit_zero (S := S1x2048) hz, View.ld_unit_zero (S := S2048x512) hz, View.ld_unit_zero (S := S1x512) hz]
  sl_unfold_words
  simp only [View.readAt_eq_ld, harg2.read_unread, harg3.read_unread, harg4.read_unread, harg5.read_unread, harg6.read_unread, harg8.read_unread,
    View.ld_unit_zero (S := S512x2048) hz, View.ld_unit_zero (S := S1x2048) hz, View.ld_unit_zero (S := S2048x512) hz, View.ld_unit_zero (S := S1x512) hz]
  have e : View.read (Elt Ideal) arg8.view (arg8.view.writes (Elt Ideal) arg8.view.junk
      [⟨Rect.unit (s := S512x2048) ![0, 0] S512x2048.size inb_S512x2048_S512x2048_0_0, k0_pay1 x0 x2 x1⟩]) = k0_pay1 x0 x2 x1 :=
    (View.read_writes_eq_canon _ _ _ (View.cover_of_tiledL _ S512x2048.size (by sl_kernel_rfl))).trans (View.canon_unit_zero hz _ _)
  rw [e, View.readCov_unit_zero (S := S512x2048) arg8.view hz]

/-- What a later point leaves in its block. -/
theorem out_B (hc0 : ¬cond0_0 i) (x0 : Vec Ideal S512x2048 .f32) (x1 : Vec Ideal S512x2048 .f32) (x2 : Vec Ideal S1x2048 .f32) (x3 : Vec Ideal S2048x512 .bf16) (x4 : Vec Ideal S1x512 .f32) (xs0 : Vec Ideal S512x2048 .f32) :
    out0_B_5 c i arg2 harg2 arg3 harg3 arg4 harg4 arg5 harg5 arg6 harg6 arg7 harg7 arg8 harg8 hc0 x0 x1 x2 x3 x4 xs0 = k0_pay2 xs0 x3 x4 (View.ld xs0 (Rect.unit (s := S512x2048) (k0_off1 i) S512x512.size (k0_off1_inb i))) := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  rw [View.canon_unit_zero hz]
  simp only [View.readAt_eq_ld, harg2.read_unread, harg3.read_unread, harg4.read_unread, harg5.read_unread, harg6.read_unread, harg8.read_unread,
    View.ld_unit_zero (S := S512x2048) hz, View.ld_unit_zero (S := S1x2048) hz, View.ld_unit_zero (S := S2048x512) hz, View.ld_unit_zero (S := S1x512) hz]

end Args

/-- The second grid coordinate. -/
theorem coord1 : ∀ t : Fin grid0.N, (grid0.coords t 1).val = t.val % 4 := by
  decide +kernel

/-- What the scratch holds after a point: the gelu of the point's row block. -/
theorem scratch (c : Dev nD) (n : Nat) (hn : n < cfg0.N) (r : Fin 512) (k : Fin 2048) (hb : n / 4 * 512 + r.val < 8192) :
    (outsAt0 m c n hn).2 (ix2 r k) = zf (m ((c : Thread nD τ).loc main_arg0)) (m ((c : Thread nD τ).loc main_arg1)) (m ((c : Thread nD τ).loc main_arg2)) ⟨n / 4 * 512 + r.val, hb⟩ k := by
  induction n with
  | zero =>
    have := congrArg Prod.snd (outsAt0_A m c ⟨0, hn⟩ rfl)
    dsimp only at this
    rw [this, sout_A, pay1_apply, iblk_y, iblk_u, iblk_d, gain_d]
    rfl
  | succ n ih =>
    by_cases h0 : (n + 1) % 4 = 0
    · have := congrArg Prod.snd (outsAt0_A m c ⟨n + 1, hn⟩ h0)
      dsimp only at this
      rw [this, sout_A, pay1_apply, iblk_y, iblk_u, iblk_d, gain_d]
      rfl
    · have := congrArg Prod.snd (outsAt0_B m c ⟨n + 1, hn⟩ h0)
      dsimp only at this
      rw [this]
      unfold sout0_B_0
      have e : n / 4 = (n + 1) / 4 := by omega
      refine (ih (by omega) (by omega)).trans ?_
      congr 1
      exact Fin.ext (by show n / 4 * 512 + r.val = (n + 1) / 4 * 512 + r.val; rw [e])

/-- A block's entry, from the gelu of the row block. -/
theorem block_eq (c : Dev nD) (t : Fin cfg0.N) (z : Vec Ideal S512x2048 .f32) (hN : t.val < 64)
    (hzf : ∀ (r : Fin 512) (k : Fin 2048), z (ix2 r k) = zf (m ((c : Thread nD τ).loc main_arg0)) (m ((c : Thread nD τ).loc main_arg1)) (m ((c : Thread nD τ).loc main_arg2)) ⟨t.val / 4 * 512 + r.val, by omega⟩ k)
    (r j : Fin 512) :
    k0_pay2 z (iblk m c 3 t) (iblk m c 4 t) (View.ld z (Rect.unit (s := S512x2048) (k0_off1 (grid0.coords t)) S512x512.size (k0_off1_inb _))) (ix2 r j)
      = Gf (m ((c : Thread nD τ).loc main_arg0)) (m ((c : Thread nD τ).loc main_arg1)) (m ((c : Thread nD τ).loc main_arg2)) (m ((c : Thread nD τ).loc main_arg3)) (m ((c : Thread nD τ).loc main_arg4))
        ⟨t.val / 4 * 512 + r.val, by omega⟩ ⟨t.val % 4 * 512 + j.val, by omega⟩ := by
  rw [pay2_apply, ld_slice _ _ r j ⟨t.val % 4 * 512 + j.val, by omega⟩ (by rw [coord1]), iblk_b, gain_b]
  simp only [hzf, iblk_w]
  rfl

/-- What a point writes back is its block of the whole-array function. -/
theorem flushed_eq (c : Dev nD) (t : Fin cfg0.N) :
    (dats m 0 c).flushed 5 t = (win0_5.blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4))) := by
  have hN := lt_N t
  by_cases h0 : t.val % 4 = 0
  · rw [Value.flushed5_A m c t h0, out_A]
    funext j
    idx_vars j
    show k0_pay2 (F := Ideal) _ _ _ _ (ix2 j0 j1) = G _ _ _ _ _ ((win0_5.blk t).view.emb (ix2 j0 j1 : S512x512.Idx))
    rw [emb_o]
    refine block_eq m c t _ hN (fun r k => ?_) j0 j1
    rw [pay1_apply, iblk_y, iblk_u, iblk_d, gain_d]
    rfl
  · rw [Value.flushed5_B m c t h0, out_B]
    funext j
    idx_vars j
    show k0_pay2 (F := Ideal) _ _ _ _ (ix2 j0 j1) = G _ _ _ _ _ ((win0_5.blk t).view.emb (ix2 j0 j1 : S512x512.Idx))
    rw [emb_o]
    refine block_eq m c t _ hN (fun r k => ?_) j0 j1
    have e : (t.val - 1) / 4 = t.val / 4 := by omega
    refine (scratch m c (t.val - 1) _ r k (by omega)).trans ?_
    congr 1
    exact Fin.ext (by show (t.val - 1) / 4 * 512 + r.val = t.val / 4 * 512 + r.val; rw [e])

/-- The kernel's result, and its arguments kept. -/
theorem run : θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans
      ((dats m 0 c).arrAt_eq_of_cover 5 _ (fun t _ => flushed_eq m c t) cover_o), (h c).2⟩)
    (Value.run_blocks m ρ)

end Cert.GluIdeal.Whole

namespace Cert.GluRefIdeal.Whole

open Cert.GluRefIdeal Cert.GluRefIdeal.Gen
open Idealize.ShloMosaic Idealize.ShloMosaic.TcCoe Idealize.SL.Sem

/-- The host program's term of its arguments. -/
def host {F : FTy → Type} [FloatOps F] (y : Vec F S8192x2048 .f32) (u : Vec F S8192x8192 .f32) (d : Vec F S2048 .f32) (w : Vec F S2048x2048 .bf16) (b : Vec F S2048 .f32) : Vec F S8192x2048 .f32 :=
  mulf (mulf (addf y (mulf (broadcastInDim S8192x2048 ![0, 1] bcast_S1x2048_S8192x2048_0_1 (broadcastInDim S1x2048 ![1] bcast_S2048_S1x2048_1 d)) (extractStridedSlice S8192x2048 ![0, 6144] u slices_S8192x8192_S8192x2048_0_6144))) (mulf (broadcastInDim S8192x2048 ![] bcast_S_S8192x2048 (constant S_ .f32 0x3F000000#32)) (addf (broadcastInDim S8192x2048 ![] bcast_S_S8192x2048 (constant S_ .f32 0x3F800000#32)) (Host.tanh (mulf (broadcastInDim S8192x2048 ![] bcast_S_S8192x2048 (constant S_ .f32 0x3F4C422A#32)) (addf (addf y (mulf (broadcastInDim S8192x2048 ![0, 1] bcast_S1x2048_S8192x2048_0_1 (broadcastInDim S1x2048 ![1] bcast_S2048_S1x2048_1 d)) (extractStridedSlice S8192x2048 ![0, 6144] u slices_S8192x8192_S8192x2048_0_6144))) (mulf (broadcastInDim S8192x2048 ![] bcast_S_S8192x2048 (constant S_ .f32 0x3D372713#32)) (mulf (mulf (addf y (mulf (broadcastInDim S8192x2048 ![0, 1] bcast_S1x2048_S8192x2048_0_1 (broadcastInDim S1x2048 ![1] bcast_S2048_S1x2048_1 d)) (extractStridedSlice S8192x2048 ![0, 6144] u slices_S8192x8192_S8192x2048_0_6144))) (addf y (mulf (broadcastInDim S8192x2048 ![0, 1] bcast_S1x2048_S8192x2048_0_1 (broadcastInDim S1x2048 ![1] bcast_S2048_S1x2048_1 d)) (extractStridedSlice S8192x2048 ![0, 6144] u slices_S8192x8192_S8192x2048_0_6144)))) (addf y (mulf (broadcastInDim S8192x2048 ![0, 1] bcast_S1x2048_S8192x2048_0_1 (broadcastInDim S1x2048 ![1] bcast_S2048_S1x2048_1 d)) (extractStridedSlice S8192x2048 ![0, 6144] u slices_S8192x8192_S8192x2048_0_6144))))))))))) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf (Host.dotGeneral dot_S8192x2048_S2048x2048_S8192x2048_1_0_0_1_n_n none (mulf (addf y (mulf (broadcastInDim S8192x2048 ![0, 1] bcast_S1x2048_S8192x2048_0_1 (broadcastInDim S1x2048 ![1] bcast_S2048_S1x2048_1 d)) (extractStridedSlice S8192x2048 ![0, 6144] u slices_S8192x8192_S8192x2048_0_6144))) (mulf (broadcastInDim S8192x2048 ![] bcast_S_S8192x2048 (constant S_ .f32 0x3F000000#32)) (addf (broadcastInDim S8192x2048 ![] bcast_S_S8192x2048 (constant S_ .f32 0x3F800000#32)) (Host.tanh (mulf (broadcastInDim S8192x2048 ![] bcast_S_S8192x2048 (constant S_ .f32 0x3F4C422A#32)) (addf (addf y (mulf (broadcastInDim S8192x2048 ![0, 1] bcast_S1x2048_S8192x2048_0_1 (broadcastInDim S1x2048 ![1] bcast_S2048_S1x2048_1 d)) (extractStridedSlice S8192x2048 ![0, 6144] u slices_S8192x8192_S8192x2048_0_6144))) (mulf (broadcastInDim S8192x2048 ![] bcast_S_S8192x2048 (constant S_ .f32 0x3D372713#32)) (mulf (mulf (addf y (mulf (broadcastInDim S8192x2048 ![0, 1] bcast_S1x2048_S8192x2048_0_1 (broadcastInDim S1x2048 ![1] bcast_S2048_S1x2048_1 d)) (extractStridedSlice S8192x2048 ![0, 6144] u slices_S8192x8192_S8192x2048_0_6144))) (addf y (mulf (broadcastInDim S8192x2048 ![0, 1] bcast_S1x2048_S8192x2048_0_1 (broadcastInDim S1x2048 ![1] bcast_S2048_S1x2048_1 d)) (extractStridedSlice S8192x2048 ![0, 6144] u slices_S8192x8192_S8192x2048_0_6144)))) (addf y (mulf (broadcastInDim S8192x2048 ![0, 1] bcast_S1x2048_S8192x2048_0_1 (broadcastInDim S1x2048 ![1] bcast_S2048_S1x2048_1 d)) (extractStridedSlice S8192x2048 ![0, 6144] u slices_S8192x8192_S8192x2048_0_6144))))))))))) (extf .f32 w bitsLt_bf16_f32)) (broadcastInDim S8192x2048 ![0, 1] bcast_S1x2048_S8192x2048_0_1 (broadcastInDim S1x2048 ![1] bcast_S2048_S1x2048_1 b)))))))

/-- The host program's result is the same function of its arguments. -/
theorem ref_eq (y : Vec Ideal S8192x2048 .f32) (u : Vec Ideal S8192x8192 .f32) (d : Vec Ideal S2048 .f32) (w : Vec Ideal S2048x2048 .bf16) (b : Vec Ideal S2048 .f32) :
    host (F := Ideal) y u d w b = GluIdeal.Whole.G y u d w b := by
  unfold host
  funext i
  idx_vars i
  pointwise [GluIdeal.Whole.G, GluIdeal.Whole.Gf, GluIdeal.Whole.zf, GluIdeal.Whole.gelu, Ideal.logistic]
  simp only [mul_assoc]

end Cert.GluRefIdeal.Whole

/-! ## The claims -/

namespace Cert.Proof.Glu

open Idealize.ShloMosaic Idealize.ShloMosaic.TcCoe Idealize.SL.Sem

/-- The kernel runs to its end and keeps its arguments. -/
theorem frame : Cert.quiescent_Glu := fun m ρ _ => Cert.Glu.Gen.frame m ρ

/-- So does its idealized form. -/
theorem frameI : Cert.quiescent_GluIdeal := fun m ρ _ => Cert.GluIdeal.Gen.frame m ρ

/-- So does the host program. -/
theorem frameR : Cert.quiescent_GluRefIdeal := fun m ρ _ =>
  (θ_run Cert.GluRefIdeal.defs _ _).mono (fun r h => ⟨fun c => (h c).2,
      Idealize.ShloMosaic.sem_eq_zero_of_no_sems (by decide) r.2⟩)
    (Cert.GluRefIdeal.Value.run (F := Ideal) m ρ)

/-- Nothing was rewritten on the way to the idealized form. -/
theorem preserves : Cert.preserves_Glu_GluIdeal := trivial

/-- The kernel and the host program compute the same function. -/
theorem algebraic : Cert.algebraic_GluIdeal_GluRefIdeal := by
  intro m ρ m' ρ' _ hag
  refine ⟨fun c => Cert.GluIdeal.Whole.G (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2)) (m ((c.tc : Thread Cert.GluIdeal.nD Cert.GluIdeal.τ).loc Cert.GluIdeal.main_arg3)) (m ((c.tc : Thread Cert.GluIdeal.nD Cert.GluIdeal.τ).loc Cert.GluIdeal.main_arg4)), Cert.GluIdeal.Whole.run m ρ, ?_⟩
  refine (θ_run Cert.GluRefIdeal.defs _ _).mono (fun _ h c => ⟨(h c).1.trans ?_, (h c).2⟩)
    (Cert.GluRefIdeal.Value.run (F := Ideal) m' ρ')
  unfold Cert.GluRefIdeal.Value.res_main_v29
  rw [(hag c).1, (hag c).2.1, (hag c).2.2.1, (hag c).2.2.2.1, (hag c).2.2.2.2]
  exact Cert.GluRefIdeal.Whole.ref_eq _ _ _ _ _

end Cert.Proof.Glu
-- ==== Proof.Value.DownS.lean ====
/-
  The value of the down projection at the rows of the sample: every block written back is the block of `x + gate * (a · w)`, the
  function the host program computes.
-/
module

public import proofs.«01_k».proof.Defs
public import proofs.«01_k».proof.Proof.Gen.DownS.Frame
public import proofs.«01_k».proof.Proof.Gen.DownSIdeal.Value
public import proofs.«01_k».proof.Proof.Gen.DownSRefIdeal.Run
public import Idealize.ShloMosaic.Lib.Pipeline.Value
public import Idealize.ShloMosaic.Lib.Quiescent
public import Idealize.ShloMosaic.Lib.Pointwise

@[expose] public section

set_option maxRecDepth 16384

noncomputable section

namespace Cert.DownSIdeal.Whole

open Cert.DownSIdeal Cert.DownSIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 32 points. -/
theorem lt_N (t : Fin cfg0.N) : t.val < 32 := by
  have h : cfg0.N = 32 := N_0
  have := t.isLt
  omega

/-- The origin of a block, as a constant function. -/
theorem hz : (![0, 0] : Fin 2 → Nat) = fun _ => 0 := funext fun a => by fin_cases a <;> rfl

/-- The block index of window 0 at a point. -/
theorem index_a : ∀ t : Fin grid0.N, win0_0.index t 0 = t.val / 16 ∧ win0_0.index t 1 = 0 := by
  decide +kernel

/-- The block index of window 1 at a point. -/
theorem index_w : ∀ t : Fin grid0.N, win0_1.index t 0 = 0 ∧ win0_1.index t 1 = t.val % 16 := by
  decide +kernel

/-- The block index of window 2 at a point. -/
theorem index_x : ∀ t : Fin grid0.N, win0_2.index t 0 = t.val / 16 ∧ win0_2.index t 1 = t.val % 16 := by
  decide +kernel

/-- The block index of window 3 at a point. -/
theorem index_q : ∀ t : Fin grid0.N, win0_3.index t 0 = t.val / 16 ∧ win0_3.index t 1 = 80 + t.val % 16 := by
  decide +kernel

/-- The block index of window 4 at a point. -/
theorem index_o : ∀ t : Fin grid0.N, win0_4.index t 0 = t.val / 16 ∧ win0_4.index t 1 = t.val % 16 := by
  decide +kernel

/-- The block of window 0 at point `t`, entry by entry. -/
theorem iblk_a (c : Dev nD) (t : Fin cfg0.N) (r : Fin 512) (k : Fin 11008) :
    iblk m c 0 t (ix2 r k : S512x11008.Idx)
      = m ((c : Thread nD τ).loc main_arg0) (ix2 ⟨(t.val / 16) * 512 + r, by have := lt_N t; omega⟩ k : S1024x11008.Idx) := by
  show m ((c : Thread nD τ).loc main_arg0) (((cfg0.win 0).blk t).view.emb (ix2 r k : S512x11008.Idx)) = _
  congr 1
  funext a
  apply Fin.ext
  match a with
  | ⟨0, _⟩ => show win0_0.index t 0 * 512 + 1 * r.val = _
              rw [(index_a t).1]
              show (t.val / 16) * 512 + 1 * r.val = (t.val / 16) * 512 + r.val
              omega
  | ⟨1, _⟩ => show win0_0.index t 1 * 11008 + 1 * k.val = _
              rw [(index_a t).2]
              show (0) * 11008 + 1 * k.val = k.val
              omega

/-- The block of window 1 at point `t`, entry by entry. -/
theorem iblk_w (c : Dev nD) (t : Fin cfg0.N) (r : Fin 11008) (k : Fin 256) :
    iblk m c 1 t (ix2 r k : S11008x256.Idx)
      = m ((c : Thread nD τ).loc main_arg1) (ix2 r ⟨(t.val % 16) * 256 + k, by have := lt_N t; omega⟩ : S11008x4096.Idx) := by
  show m ((c : Thread nD τ).loc main_arg1) (((cfg0.win 1).blk t).view.emb (ix2 r k : S11008x256.Idx)) = _
  congr 1
  funext a
  apply Fin.ext
  match a with
  | ⟨0, _⟩ => show win0_1.index t 0 * 11008 + 1 * r.val = _
              rw [(index_w t).1]
              show (0) * 11008 + 1 * r.val = r.val
              omega
  | ⟨1, _⟩ => show win0_1.index t 1 * 256 + 1 * k.val = _
              rw [(index_w t).2]
              show (t.val % 16) * 256 + 1 * k.val = (t.val % 16) * 256 + k.val
              omega

/-- The block of window 2 at point `t`, entry by entry. -/
theorem iblk_x (c : Dev nD) (t : Fin cfg0.N) (r : Fin 512) (k : Fin 256) :
    iblk m c 2 t (ix2 r k : S512x256.Idx)
      = m ((c : Thread nD τ).loc main_arg2) (ix2 ⟨(t.val / 16) * 512 + r, by have := lt_N t; omega⟩ ⟨(t.val % 16) * 256 + k, by have := lt_N t; omega⟩ : S1024x4096.Idx) := by
  show m ((c : Thread nD τ).loc main_arg2) (((cfg0.win 2).blk t).view.emb (ix2 r k : S512x256.Idx)) = _
  congr 1
  funext a
  apply Fin.ext
  match a with
  | ⟨0, _⟩ => show win0_2.index t 0 * 512 + 1 * r.val = _
              rw [(index_x t).1]
              show (t.val / 16) * 512 + 1 * r.val = (t.val / 16) * 512 + r.val
              omega
  | ⟨1, _⟩ => show win0_2.index t 1 * 256 + 1 * k.val = _
              rw [(index_x t).2]
              show (t.val % 16) * 256 + 1 * k.val = (t.val % 16) * 256 + k.val
              omega

/-- The block of window 3 at point `t`, entry by entry. -/
theorem iblk_q (c : Dev nD) (t : Fin cfg0.N) (r : Fin 512) (k : Fin 256) :
    iblk m c 3 t (ix2 r k : S512x256.Idx)
      = m ((c : Thread nD τ).loc main_arg3) (ix2 ⟨(t.val / 16) * 512 + r, by have := lt_N t; omega⟩ ⟨(80 + t.val % 16) * 256 + k, by have := lt_N t; omega⟩ : S1024x24576.Idx) := by
  show m ((c : Thread nD τ).loc main_arg3) (((cfg0.win 3).blk t).view.emb (ix2 r k : S512x256.Idx)) = _
  congr 1
  funext a
  apply Fin.ext
  match a with
  | ⟨0, _⟩ => show win0_3.index t 0 * 512 + 1 * r.val = _
              rw [(index_q t).1]
              show (t.val / 16) * 512 + 1 * r.val = (t.val / 16) * 512 + r.val
              omega
  | ⟨1, _⟩ => show win0_3.index t 1 * 256 + 1 * k.val = _
              rw [(index_q t).2]
              show (80 + t.val % 16) * 256 + 1 * k.val = (80 + t.val % 16) * 256 + k.val
              omega

/-- `x + gate * (a · w)` over the whole arrays, the gate the sixth chunk of each modulation row. -/
def G (a : Vec Ideal S1024x11008 .bf16) (w : Vec Ideal S11008x4096 .bf16) (x : Vec Ideal S1024x4096 .f32) (q : Vec Ideal S1024x24576 .f32) :
    Vec Ideal S1024x4096 .f32 := fun i =>
  x i + q (ix2 (i 0) ⟨20480 + (i 1 : Nat), by have : (i 1 : Nat) < 4096 := (i 1).isLt; omega⟩) * ∑ k : Fin 11008, a (ix2 (i 0) k) * w (ix2 k (i 1))

/-- The payload at an entry. -/
theorem pay_apply (a : Vec Ideal S512x11008 .bf16) (w : Vec Ideal S11008x256 .bf16) (x : Vec Ideal S512x256 .f32) (q : Vec Ideal S512x256 .f32)
    (r : Fin 512) (j : Fin 256) :
    k0_pay1 a w x q (ix2 r j) = x (ix2 r j) + q (ix2 r j) * ∑ k : Fin 11008, a (ix2 r k) * w (ix2 k j) := by
  pointwise [k0_pay1]

/-- What a point writes back is its block of the whole-array function. -/
theorem flushed_eq (c : Dev nD) (t : Fin cfg0.N) :
    (dats m 0 c).flushed 4 t = (win0_4.blk t).view.read (Elt Ideal) (G (m ((c : Thread nD τ).loc main_arg0)) (m ((c : Thread nD τ).loc main_arg1)) (m ((c : Thread nD τ).loc main_arg2)) (m ((c : Thread nD τ).loc main_arg3))) := by
  rw [Value.flushed4]
  unfold out0_4
  rw [View.canon_unit_zero hz, View.ld_unit_zero hz, View.ld_unit_zero hz, View.ld_unit_zero hz, View.ld_unit_zero hz]
  funext j
  show k0_pay1 (F := Ideal) _ _ _ _ j = G _ _ _ _ ((win0_4.blk t).view.emb j)
  idx_vars j
  have e : (win0_4.blk t).view.emb (ix2 j0 j1 : S512x256.Idx)
      = (ix2 ⟨(t.val / 16) * 512 + j0, by have := lt_N t; omega⟩ ⟨(t.val % 16) * 256 + j1, by have := lt_N t; omega⟩ : S1024x4096.Idx) := by
    funext a
    apply Fin.ext
    match a with
    | ⟨0, _⟩ => show win0_4.index t 0 * 512 + 1 * j0.val = _
                rw [(index_o t).1]
                show (t.val / 16) * 512 + 1 * j0.val = (t.val / 16) * 512 + j0.val
                omega
    | ⟨1, _⟩ => show win0_4.index t 1 * 256 + 1 * j1.val = _
                rw [(index_o t).2]
                show (t.val % 16) * 256 + 1 * j1.val = (t.val % 16) * 256 + j1.val
                omega
  rw [e, pay_apply]
  simp only [iblk_a, iblk_w, iblk_x, iblk_q]
  have e2 : (⟨(80 + t.val % 16) * 256 + j1, by omega⟩ : Fin 24576) = ⟨20480 + (t.val % 16 * 256 + j1.val), by omega⟩ :=
    Fin.ext (show (80 + t.val % 16) * 256 + j1.val = 20480 + (t.val % 16 * 256 + j1.val) by omega)
  rw [e2]
  rfl

/-- An entry lies in point `t`'s block exactly when its row and column do. -/
theorem mem_blk (t : Fin cfg0.N) (i : S1024x4096.Idx) :
    i ∈ ((cfg0.win 4).blk t).view.set ↔ ((t.val / 16) * 512 ≤ (i 0 : Nat) ∧ (i 0 : Nat) < (t.val / 16) * 512 + 512)
      ∧ ((t.val % 16) * 256 ≤ (i 1 : Nat) ∧ (i 1 : Nat) < (t.val % 16) * 256 + 256) := by
  show i ∈ ((View.whole main_v0).slice (win0_4.rect t)).set ↔ _
  rw [View.set_slice_whole, Rect.mem_set_unit]
  have e0 : win0_4.index t 0 * win0_4.size 0 = (t.val / 16) * 512 := by rw [(index_o t).1]; rfl
  have e1 : win0_4.index t 1 * win0_4.size 1 = (t.val % 16) * 256 := by rw [(index_o t).2]; rfl
  refine ⟨fun h => ⟨?_, ?_⟩, fun h a => ?_⟩
  · have := h 0
    change win0_4.index t 0 * win0_4.size 0 ≤ (i 0 : Nat) ∧ (i 0 : Nat) < win0_4.index t 0 * win0_4.size 0 + 512 at this
    rwa [e0] at this
  · have := h 1
    change win0_4.index t 1 * win0_4.size 1 ≤ (i 1 : Nat) ∧ (i 1 : Nat) < win0_4.index t 1 * win0_4.size 1 + 256 at this
    rwa [e1] at this
  · match a with
    | ⟨0, _⟩ => show win0_4.index t 0 * win0_4.size 0 ≤ (i 0 : Nat) ∧ (i 0 : Nat) < win0_4.index t 0 * win0_4.size 0 + 512
                rw [e0]; exact h.1
    | ⟨1, _⟩ => show win0_4.index t 1 * win0_4.size 1 ≤ (i 1 : Nat) ∧ (i 1 : Nat) < win0_4.index t 1 * win0_4.size 1 + 256
                rw [e1]; exact h.2

/-- The blocks fill the result. -/
theorem cover (i : S1024x4096.Idx) :
    ∃ t : Fin cfg0.N, (cfg0.win 4).flush t = true ∧ i ∈ ((cfg0.win 4).blk t).view.set := by
  have h0 : (i 0 : Nat) < 1024 := (i 0).isLt
  have h1 : (i 1 : Nat) < 4096 := (i 1).isLt
  have hN : cfg0.N = 32 := N_0
  refine ⟨⟨(i 0 : Nat) / 512 * 16 + (i 1 : Nat) / 256, by omega⟩, flush0_4 _, ?_⟩
  rw [mem_blk]
  dsimp only
  omega

/-- The kernel's result, and its arguments kept. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans
      ((dats m 0 c).arrAt_eq_of_cover 4 _ (fun t _ => flushed_eq m c t) cover), (h c).2⟩)
    (Value.run_blocks m ρ)

end Cert.DownSIdeal.Whole

namespace Cert.DownSRefIdeal.Whole

open Cert.DownSRefIdeal Cert.DownSRefIdeal.Gen
open Idealize.ShloMosaic Idealize.ShloMosaic.TcCoe Idealize.SL.Sem

/-- The host program's result is the same function. -/
theorem ref_eq (a : Vec Ideal S1024x11008 .bf16) (w : Vec Ideal S11008x4096 .bf16) (x : Vec Ideal S1024x4096 .f32) (q : Vec Ideal S1024x24576 .f32) :
    addf (F := Ideal) x (mulf (extractStridedSlice S1024x4096 ![0, 20480] q slices_S1024x24576_S1024x4096_0_20480) (Host.dotGeneral dot_S1024x11008_S11008x4096_S1024x4096_1_0_0_1_n_n none (extf .f32 a bitsLt_bf16_f32) (extf .f32 w bitsLt_bf16_f32))) = DownSIdeal.Whole.G a w x q := by
  funext i
  idx_vars i
  pointwise [DownSIdeal.Whole.G]

end Cert.DownSRefIdeal.Whole

/-! ## The claims -/

namespace Cert.Proof.DownS

open Idealize.ShloMosaic Idealize.ShloMosaic.TcCoe Idealize.SL.Sem

/-- The kernel runs to its end and keeps its arguments. -/
theorem frame : Cert.quiescent_DownS := fun m ρ _ => Cert.DownS.Gen.frame m ρ

/-- So does its idealized form. -/
theorem frameI : Cert.quiescent_DownSIdeal := fun m ρ _ => Cert.DownSIdeal.Gen.frame m ρ

/-- So does the host program. -/
theorem frameR : Cert.quiescent_DownSRefIdeal := fun m ρ _ =>
  (θ_run Cert.DownSRefIdeal.defs _ _).mono (fun r h => ⟨fun c => (h c).2,
      Idealize.ShloMosaic.sem_eq_zero_of_no_sems (by decide) r.2⟩)
    (Cert.DownSRefIdeal.Value.run (F := Ideal) m ρ)

/-- Nothing was rewritten on the way to the idealized form. -/
theorem preserves : Cert.preserves_DownS_DownSIdeal := trivial

/-- The kernel and the host program compute the same function. -/
theorem algebraic : Cert.algebraic_DownSIdeal_DownSRefIdeal := by
  intro m ρ m' ρ' _ hag
  refine ⟨fun c => Cert.DownSIdeal.Whole.G (m ((c.tc : Thread Cert.DownSIdeal.nD Cert.DownSIdeal.τ).loc Cert.DownSIdeal.main_arg0)) (m ((c.tc : Thread Cert.DownSIdeal.nD Cert.DownSIdeal.τ).loc Cert.DownSIdeal.main_arg1)) (m ((c.tc : Thread Cert.DownSIdeal.nD Cert.DownSIdeal.τ).loc Cert.DownSIdeal.main_arg2)) (m ((c.tc : Thread Cert.DownSIdeal.nD Cert.DownSIdeal.τ).loc Cert.DownSIdeal.main_arg3)), Cert.DownSIdeal.Whole.run m ρ, ?_⟩
  refine (θ_run Cert.DownSRefIdeal.defs _ _).mono (fun _ h c => ⟨(h c).1.trans ?_, (h c).2⟩)
    (Cert.DownSRefIdeal.Value.run (F := Ideal) m' ρ')
  rw [(hag c).1, (hag c).2.1, (hag c).2.2.1, (hag c).2.2.2]
  exact Cert.DownSRefIdeal.Whole.ref_eq _ _ _ _

end Cert.Proof.DownS
-- ==== Proof.Value.Scan.lean ====
/-
  The value of the recurrence over the chunks: the state before every chunk, and the state after the last.
-/
module

public import proofs.«01_k».proof.Defs
public import proofs.«01_k».proof.Proof.Gen.Scan.Frame
public import proofs.«01_k».proof.Proof.Gen.ScanIdeal.Value
public import proofs.«01_k».proof.Proof.Gen.ScanRefIdeal.Run
public import Idealize.ShloMosaic.Lib.Pipeline.Value
public import Idealize.ShloMosaic.Lib.Quiescent
public import Idealize.ShloMosaic.Lib.Pointwise
public import Idealize.ShloMosaic.Lib.ValueLayout
public import Idealize.ShloMosaic.Lib.DynamicIndex

@[expose] public section

set_option maxRecDepth 16384

noncomputable section

namespace Cert.ScanIdeal.Whole

open Cert.ScanIdeal Cert.ScanIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 8 points. -/
theorem lt_N (t : Fin cfg0.N) : t.val < 8 := by
  have h : cfg0.N = 8 := N_0
  have := t.isLt
  omega

/-- The origin of a two-dimensional block, as a constant function. -/
theorem hz : (![0, 0] : Fin 2 → Nat) = fun _ => 0 := funext fun a => by fin_cases a <;> rfl

/-- The origin of a three-dimensional block, as a constant function. -/
theorem hz3 : (![0, 0, 0] : Fin 3 → Nat) = fun _ => 0 := funext fun a => by fin_cases a <;> rfl

/-- The block index of window 0 at a point. -/
theorem index_xr : ∀ t : Fin grid0.N, win0_0.index t 0 = 0 ∧ win0_0.index t 1 = t.val := by
  decide +kernel

/-- The block index of window 1 at a point. -/
theorem index_xi : ∀ t : Fin grid0.N, win0_1.index t 0 = 0 ∧ win0_1.index t 1 = t.val := by
  decide +kernel

/-- The block index of window 2 at a point. -/
theorem index_ar : ∀ t : Fin grid0.N, win0_2.index t 0 = 0 ∧ win0_2.index t 1 = t.val := by
  decide +kernel

/-- The block index of window 3 at a point. -/
theorem index_ai : ∀ t : Fin grid0.N, win0_3.index t 0 = 0 ∧ win0_3.index t 1 = t.val := by
  decide +kernel

/-- The block index of window 4 at a point. -/
theorem index_o : ∀ t : Fin grid0.N, win0_4.index t 0 = 0 ∧ win0_4.index t 1 = t.val := by
  decide +kernel

/-- The block index of window 5 at a point. -/
theorem index_p : ∀ t : Fin grid0.N, win0_5.index t 0 = 0 ∧ win0_5.index t 1 = t.val := by
  decide +kernel

/-- The block index of window 6 at a point. -/
theorem index_f : ∀ t : Fin grid0.N, win0_6.index t 0 = 0 ∧ win0_6.index t 1 = t.val := by
  decide +kernel

/-- The block index of window 7 at a point. -/
theorem index_g : ∀ t : Fin grid0.N, win0_7.index t 0 = 0 ∧ win0_7.index t 1 = t.val := by
  decide +kernel

/-- The block of window 0 at point `t`, entry by entry. -/
theorem iblk_xr (c : Dev nD) (t : Fin cfg0.N) (r : Fin 1024) (k : Fin 1024) :
    iblk m c 0 t (ix2 r k : S1024x1024.Idx)
      = m ((c : Thread nD τ).loc main_arg0) (ix2 r ⟨(t.val) * 1024 + k, by have := lt_N t; omega⟩ : S1024x8192.Idx) := by
  show m ((c : Thread nD τ).loc main_arg0) (((cfg0.win 0).blk t).view.emb (ix2 r k : S1024x1024.Idx)) = _
  congr 1
  funext a
  apply Fin.ext
  match a with
  | ⟨0, _⟩ => show win0_0.index t 0 * 1024 + 1 * r.val = _
              rw [(index_xr t).1]
              show (0) * 1024 + 1 * r.val = r.val
              omega
  | ⟨1, _⟩ => show win0_0.index t 1 * 1024 + 1 * k.val = _
              rw [(index_xr t).2]
              show (t.val) * 1024 + 1 * k.val = (t.val) * 1024 + k.val
              omega

/-- The block of window 1 at point `t`, entry by entry. -/
theorem iblk_xi (c : Dev nD) (t : Fin cfg0.N) (r : Fin 1024) (k : Fin 1024) :
    iblk m c 1 t (ix2 r k : S1024x1024.Idx)
      = m ((c : Thread nD τ).loc main_arg1) (ix2 r ⟨(t.val) * 1024 + k, by have := lt_N t; omega⟩ : S1024x8192.Idx) := by
  show m ((c : Thread nD τ).loc main_arg1) (((cfg0.win 1).blk t).view.emb (ix2 r k : S1024x1024.Idx)) = _
  congr 1
  funext a
  apply Fin.ext
  match a with
  | ⟨0, _⟩ => show win0_1.index t 0 * 1024 + 1 * r.val = _
              rw [(index_xi t).1]
              show (0) * 1024 + 1 * r.val = r.val
              omega
  | ⟨1, _⟩ => show win0_1.index t 1 * 1024 + 1 * k.val = _
              rw [(index_xi t).2]
              show (t.val) * 1024 + 1 * k.val = (t.val) * 1024 + k.val
              omega

/-- The block of window 2 at point `t`, entry by entry. -/
theorem iblk_ar (c : Dev nD) (t : Fin cfg0.N) (r : Fin 8) (k : Fin 1024) :
    iblk m c 2 t (ix2 r k : S8x1024.Idx)
      = m ((c : Thread nD τ).loc main_arg2) (ix2 r ⟨(t.val) * 1024 + k, by have := lt_N t; omega⟩ : S8x8192.Idx) := by
  show m ((c : Thread nD τ).loc main_arg2) (((cfg0.win 2).blk t).view.emb (ix2 r k : S8x1024.Idx)) = _
  congr 1
  funext a
  apply Fin.ext
  match a with
  | ⟨0, _⟩ => show win0_2.index t 0 * 8 + 1 * r.val = _
              rw [(index_ar t).1]
              show (0) * 8 + 1 * r.val = r.val
              omega
  | ⟨1, _⟩ => show win0_2.index t 1 * 1024 + 1 * k.val = _
              rw [(index_ar t).2]
              show (t.val) * 1024 + 1 * k.val = (t.val) * 1024 + k.val
              omega

/-- The block of window 3 at point `t`, entry by entry. -/
theorem iblk_ai (c : Dev nD) (t : Fin cfg0.N) (r : Fin 8) (k : Fin 1024) :
    iblk m c 3 t (ix2 r k : S8x1024.Idx)
      = m ((c : Thread nD τ).loc main_arg3) (ix2 r ⟨(t.val) * 1024 + k, by have := lt_N t; omega⟩ : S8x8192.Idx) := by
  show m ((c : Thread nD τ).loc main_arg3) (((cfg0.win 3).blk t).view.emb (ix2 r k : S8x1024.Idx)) = _
  congr 1
  funext a
  apply Fin.ext
  match a with
  | ⟨0, _⟩ => show win0_3.index t 0 * 8 + 1 * r.val = _
              rw [(index_ai t).1]
              show (0) * 8 + 1 * r.val = r.val
              omega
  | ⟨1, _⟩ => show win0_3.index t 1 * 1024 + 1 * k.val = _
              rw [(index_ai t).2]
              show (t.val) * 1024 + 1 * k.val = (t.val) * 1024 + k.val
              omega

/-- Where an entry of point `t`'s block of window 4 lies in the whole array. -/
theorem emb_o (t : Fin cfg0.N) (r : Fin 1024) (k : Fin 1024) :
    (win0_4.blk t).view.emb (ix2 r k : S1024x1024.Idx)
      = (ix2 r ⟨(t.val) * 1024 + k, by have := lt_N t; omega⟩ : S1024x8192.Idx) := by
  funext a
  apply Fin.ext
  match a with
  | ⟨0, _⟩ => show win0_4.index t 0 * 1024 + 1 * r.val = _
              rw [(index_o t).1]
              show (0) * 1024 + 1 * r.val = r.val
              omega
  | ⟨1, _⟩ => show win0_4.index t 1 * 1024 + 1 * k.val = _
              rw [(index_o t).2]
              show (t.val) * 1024 + 1 * k.val = (t.val) * 1024 + k.val
              omega

/-- An entry lies in point `t`'s block of window 4 exactly when its coordinates do. -/
theorem mem_o (t : Fin cfg0.N) (i : S1024x8192.Idx) :
    i ∈ ((cfg0.win 4).blk t).view.set ↔ ((0) * 1024 ≤ (i 0 : Nat) ∧ (i 0 : Nat) < (0) * 1024 + 1024) ∧ ((t.val) * 1024 ≤ (i 1 : Nat) ∧ (i 1 : Nat) < (t.val) * 1024 + 1024) := by
  show i ∈ ((View.whole main_v0_0).slice (win0_4.rect t)).set ↔ _
  rw [View.set_slice_whole, Rect.mem_set_unit]
  have e0 : win0_4.index t 0 * win0_4.size 0 = (0) * 1024 := by rw [(index_o t).1]; rfl
  have e1 : win0_4.index t 1 * win0_4.size 1 = (t.val) * 1024 := by rw [(index_o t).2]; rfl
  refine ⟨fun h => ⟨?_, ?_⟩, fun h a => ?_⟩
  · have := h 0
    change win0_4.index t 0 * win0_4.size 0 ≤ (i 0 : Nat) ∧ (i 0 : Nat) < win0_4.index t 0 * win0_4.size 0 + 1024 at this
    rwa [e0] at this
  · have := h 1
    change win0_4.index t 1 * win0_4.size 1 ≤ (i 1 : Nat) ∧ (i 1 : Nat) < win0_4.index t 1 * win0_4.size 1 + 1024 at this
    rwa [e1] at this
  · match a with
    | ⟨0, _⟩ => show win0_4.index t 0 * win0_4.size 0 ≤ (i 0 : Nat) ∧ (i 0 : Nat) < win0_4.index t 0 * win0_4.size 0 + 1024
                rw [e0]; exact h.1
    | ⟨1, _⟩ => show win0_4.index t 1 * win0_4.size 1 ≤ (i 1 : Nat) ∧ (i 1 : Nat) < win0_4.index t 1 * win0_4.size 1 + 1024
                rw [e1]; exact h.2

/-- The blocks of window 4 fill the result. -/
theorem cover_o (i : S1024x8192.Idx) :
    ∃ t : Fin cfg0.N, (cfg0.win 4).flush t = true ∧ i ∈ ((cfg0.win 4).blk t).view.set := by
  have h0 : (i 0 : Nat) < 1024 := (i 0).isLt
  have h1 : (i 1 : Nat) < 8192 := (i 1).isLt
  have hN : cfg0.N = 8 := N_0
  refine ⟨⟨(i 1 : Nat) / 1024, by omega⟩, flush0_4 _, ?_⟩
  rw [mem_o]
  dsimp only
  omega

/-- Where an entry of point `t`'s block of window 5 lies in the whole array. -/
theorem emb_p (t : Fin cfg0.N) (r : Fin 1024) (k : Fin 1024) :
    (win0_5.blk t).view.emb (ix2 r k : S1024x1024.Idx)
      = (ix2 r ⟨(t.val) * 1024 + k, by have := lt_N t; omega⟩ : S1024x8192.Idx) := by
  funext a
  apply Fin.ext
  match a with
  | ⟨0, _⟩ => show win0_5.index t 0 * 1024 + 1 * r.val = _
              rw [(index_p t).1]
              show (0) * 1024 + 1 * r.val = r.val
              omega
  | ⟨1, _⟩ => show win0_5.index t 1 * 1024 + 1 * k.val = _
              rw [(index_p t).2]
              show (t.val) * 1024 + 1 * k.val = (t.val) * 1024 + k.val
              omega

/-- An entry lies in point `t`'s block of window 5 exactly when its coordinates do. -/
theorem mem_p (t : Fin cfg0.N) (i : S1024x8192.Idx) :
    i ∈ ((cfg0.win 5).blk t).view.set ↔ ((0) * 1024 ≤ (i 0 : Nat) ∧ (i 0 : Nat) < (0) * 1024 + 1024) ∧ ((t.val) * 1024 ≤ (i 1 : Nat) ∧ (i 1 : Nat) < (t.val) * 1024 + 1024) := by
  show i ∈ ((View.whole main_v0_1).slice (win0_5.rect t)).set ↔ _
  rw [View.set_slice_whole, Rect.mem_set_unit]
  have e0 : win0_5.index t 0 * win0_5.size 0 = (0) * 1024 := by rw [(index_p t).1]; rfl
  have e1 : win0_5.index t 1 * win0_5.size 1 = (t.val) * 1024 := by rw [(index_p t).2]; rfl
  refine ⟨fun h => ⟨?_, ?_⟩, fun h a => ?_⟩
  · have := h 0
    change win0_5.index t 0 * win0_5.size 0 ≤ (i 0 : Nat) ∧ (i 0 : Nat) < win0_5.index t 0 * win0_5.size 0 + 1024 at this
    rwa [e0] at this
  · have := h 1
    change win0_5.index t 1 * win0_5.size 1 ≤ (i 1 : Nat) ∧ (i 1 : Nat) < win0_5.index t 1 * win0_5.size 1 + 1024 at this
    rwa [e1] at this
  · match a with
    | ⟨0, _⟩ => show win0_5.index t 0 * win0_5.size 0 ≤ (i 0 : Nat) ∧ (i 0 : Nat) < win0_5.index t 0 * win0_5.size 0 + 1024
                rw [e0]; exact h.1
    | ⟨1, _⟩ => show win0_5.index t 1 * win0_5.size 1 ≤ (i 1 : Nat) ∧ (i 1 : Nat) < win0_5.index t 1 * win0_5.size 1 + 1024
                rw [e1]; exact h.2

/-- The blocks of window 5 fill the result. -/
theorem cover_p (i : S1024x8192.Idx) :
    ∃ t : Fin cfg0.N, (cfg0.win 5).flush t = true ∧ i ∈ ((cfg0.win 5).blk t).view.set := by
  have h0 : (i 0 : Nat) < 1024 := (i 0).isLt
  have h1 : (i 1 : Nat) < 8192 := (i 1).isLt
  have hN : cfg0.N = 8 := N_0
  refine ⟨⟨(i 1 : Nat) / 1024, by omega⟩, flush0_5 _, ?_⟩
  rw [mem_p]
  dsimp only
  omega

/-- Where an entry of point `t`'s block of window 6 lies in the whole array. -/
theorem emb_f (t : Fin cfg0.N) (r : Fin 8) (k : Fin 1024) :
    (win0_6.blk t).view.emb (ix2 r k : S8x1024.Idx)
      = (ix2 r ⟨(t.val) * 1024 + k, by have := lt_N t; omega⟩ : S8x8192.Idx) := by
  funext a
  apply Fin.ext
  match a with
  | ⟨0, _⟩ => show win0_6.index t 0 * 8 + 1 * r.val = _
              rw [(index_f t).1]
              show (0) * 8 + 1 * r.val = r.val
              omega
  | ⟨1, _⟩ => show win0_6.index t 1 * 1024 + 1 * k.val = _
              rw [(index_f t).2]
              show (t.val) * 1024 + 1 * k.val = (t.val) * 1024 + k.val
              omega

/-- An entry lies in point `t`'s block of window 6 exactly when its coordinates do. -/
theorem mem_f (t : Fin cfg0.N) (i : S8x8192.Idx) :
    i ∈ ((cfg0.win 6).blk t).view.set ↔ ((0) * 8 ≤ (i 0 : Nat) ∧ (i 0 : Nat) < (0) * 8 + 8) ∧ ((t.val) * 1024 ≤ (i 1 : Nat) ∧ (i 1 : Nat) < (t.val) * 1024 + 1024) := by
  show i ∈ ((View.whole main_v0_2).slice (win0_6.rect t)).set ↔ _
  rw [View.set_slice_whole, Rect.mem_set_unit]
  have e0 : win0_6.index t 0 * win0_6.size 0 = (0) * 8 := by rw [(index_f t).1]; rfl
  have e1 : win0_6.index t 1 * win0_6.size 1 = (t.val) * 1024 := by rw [(index_f t).2]; rfl
  refine ⟨fun h => ⟨?_, ?_⟩, fun h a => ?_⟩
  · have := h 0
    change win0_6.index t 0 * win0_6.size 0 ≤ (i 0 : Nat) ∧ (i 0 : Nat) < win0_6.index t 0 * win0_6.size 0 + 8 at this
    rwa [e0] at this
  · have := h 1
    change win0_6.index t 1 * win0_6.size 1 ≤ (i 1 : Nat) ∧ (i 1 : Nat) < win0_6.index t 1 * win0_6.size 1 + 1024 at this
    rwa [e1] at this
  · match a with
    | ⟨0, _⟩ => show win0_6.index t 0 * win0_6.size 0 ≤ (i 0 : Nat) ∧ (i 0 : Nat) < win0_6.index t 0 * win0_6.size 0 + 8
                rw [e0]; exact h.1
    | ⟨1, _⟩ => show win0_6.index t 1 * win0_6.size 1 ≤ (i 1 : Nat) ∧ (i 1 : Nat) < win0_6.index t 1 * win0_6.size 1 + 1024
                rw [e1]; exact h.2

/-- The blocks of window 6 fill the result. -/
theorem cover_f (i : S8x8192.Idx) :
    ∃ t : Fin cfg0.N, (cfg0.win 6).flush t = true ∧ i ∈ ((cfg0.win 6).blk t).view.set := by
  have h0 : (i 0 : Nat) < 8 := (i 0).isLt
  have h1 : (i 1 : Nat) < 8192 := (i 1).isLt
  have hN : cfg0.N = 8 := N_0
  refine ⟨⟨(i 1 : Nat) / 1024, by omega⟩, flush0_6 _, ?_⟩
  rw [mem_f]
  dsimp only
  omega

/-- Where an entry of point `t`'s block of window 7 lies in the whole array. -/
theorem emb_g (t : Fin cfg0.N) (r : Fin 8) (k : Fin 1024) :
    (win0_7.blk t).view.emb (ix2 r k : S8x1024.Idx)
      = (ix2 r ⟨(t.val) * 1024 + k, by have := lt_N t; omega⟩ : S8x8192.Idx) := by
  funext a
  apply Fin.ext
  match a with
  | ⟨0, _⟩ => show win0_7.index t 0 * 8 + 1 * r.val = _
              rw [(index_g t).1]
              show (0) * 8 + 1 * r.val = r.val
              omega
  | ⟨1, _⟩ => show win0_7.index t 1 * 1024 + 1 * k.val = _
              rw [(index_g t).2]
              show (t.val) * 1024 + 1 * k.val = (t.val) * 1024 + k.val
              omega

/-- An entry lies in point `t`'s block of window 7 exactly when its coordinates do. -/
theorem mem_g (t : Fin cfg0.N) (i : S8x8192.Idx) :
    i ∈ ((cfg0.win 7).blk t).view.set ↔ ((0) * 8 ≤ (i 0 : Nat) ∧ (i 0 : Nat) < (0) * 8 + 8) ∧ ((t.val) * 1024 ≤ (i 1 : Nat) ∧ (i 1 : Nat) < (t.val) * 1024 + 1024) := by
  show i ∈ ((View.whole main_v0_3).slice (win0_7.rect t)).set ↔ _
  rw [View.set_slice_whole, Rect.mem_set_unit]
  have e0 : win0_7.index t 0 * win0_7.size 0 = (0) * 8 := by rw [(index_g t).1]; rfl
  have e1 : win0_7.index t 1 * win0_7.size 1 = (t.val) * 1024 := by rw [(index_g t).2]; rfl
  refine ⟨fun h => ⟨?_, ?_⟩, fun h a => ?_⟩
  · have := h 0
    change win0_7.index t 0 * win0_7.size 0 ≤ (i 0 : Nat) ∧ (i 0 : Nat) < win0_7.index t 0 * win0_7.size 0 + 8 at this
    rwa [e0] at this
  · have := h 1
    change win0_7.index t 1 * win0_7.size 1 ≤ (i 1 : Nat) ∧ (i 1 : Nat) < win0_7.index t 1 * win0_7.size 1 + 1024 at this
    rwa [e1] at this
  · match a with
    | ⟨0, _⟩ => show win0_7.index t 0 * win0_7.size 0 ≤ (i 0 : Nat) ∧ (i 0 : Nat) < win0_7.index t 0 * win0_7.size 0 + 8
                rw [e0]; exact h.1
    | ⟨1, _⟩ => show win0_7.index t 1 * win0_7.size 1 ≤ (i 1 : Nat) ∧ (i 1 : Nat) < win0_7.index t 1 * win0_7.size 1 + 1024
                rw [e1]; exact h.2

/-- The blocks of window 7 fill the result. -/
theorem cover_g (i : S8x8192.Idx) :
    ∃ t : Fin cfg0.N, (cfg0.win 7).flush t = true ∧ i ∈ ((cfg0.win 7).blk t).view.set := by
  have h0 : (i 0 : Nat) < 8 := (i 0).isLt
  have h1 : (i 1 : Nat) < 8192 := (i 1).isLt
  have hN : cfg0.N = 8 := N_0
  refine ⟨⟨(i 1 : Nat) / 1024, by omega⟩, flush0_7 _, ?_⟩
  rw [mem_g]
  dsimp only
  omega

/-- The state of one lane after `n` steps of the recurrence `h ← a h + x` on complex numbers, in real and imaginary parts. -/
def H (a b : EReal) (xr xi : ℕ → EReal) : ℕ → EReal × EReal
  | 0 => (0, 0)
  | n + 1 => (a * (H a b xr xi n).1 - b * (H a b xr xi n).2 + xr n, a * (H a b xr xi n).2 + b * (H a b xr xi n).1 + xi n)

/-- A column of an array of 1024 rows, as a sequence. -/
def col {w : Nat} (x : (⟨2, ![1024, w]⟩ : Shape).Idx → EReal) (j : Fin w) : ℕ → EReal :=
  fun n => if h : n < 1024 then x (ix2 ⟨n, h⟩ j) else 0

/-- A column at a row. -/
theorem col_of {w : Nat} (x : (⟨2, ![1024, w]⟩ : Shape).Idx → EReal) (j : Fin w) (n : Fin 1024) : col x j n.val = x (ix2 n j) := dif_pos n.isLt

/-- The state of lane `j` after `n` steps, from whole arrays. -/
def Hc {w : Nat} (xr xi : (⟨2, ![1024, w]⟩ : Shape).Idx → EReal) (ar ai : (⟨2, ![8, w]⟩ : Shape).Idx → EReal) (j : Fin w) (n : ℕ) : EReal × EReal :=
  H (ar (ix2 0 j)) (ai (ix2 0 j)) (col xr j) (col xi j) n

/-- The states before every chunk, real parts. -/
def Gr {w : Nat} (xr xi : (⟨2, ![1024, w]⟩ : Shape).Idx → EReal) (ar ai : (⟨2, ![8, w]⟩ : Shape).Idx → EReal) : (⟨2, ![1024, w]⟩ : Shape).Idx → EReal :=
  fun i => (Hc xr xi ar ai (i 1) (i 0).val).1

/-- The states before every chunk, imaginary parts. -/
def Gi {w : Nat} (xr xi : (⟨2, ![1024, w]⟩ : Shape).Idx → EReal) (ar ai : (⟨2, ![8, w]⟩ : Shape).Idx → EReal) : (⟨2, ![1024, w]⟩ : Shape).Idx → EReal :=
  fun i => (Hc xr xi ar ai (i 1) (i 0).val).2

/-- The last state in every row, real part. -/
def Fr {w : Nat} (xr xi : (⟨2, ![1024, w]⟩ : Shape).Idx → EReal) (ar ai : (⟨2, ![8, w]⟩ : Shape).Idx → EReal) : (⟨2, ![8, w]⟩ : Shape).Idx → EReal :=
  fun i => (Hc xr xi ar ai (i 1) 1024).1

/-- The last state in every row, imaginary part. -/
def Fi {w : Nat} (xr xi : (⟨2, ![1024, w]⟩ : Shape).Idx → EReal) (ar ai : (⟨2, ![8, w]⟩ : Shape).Idx → EReal) : (⟨2, ![8, w]⟩ : Shape).Idx → EReal :=
  fun i => (Hc xr xi ar ai (i 1) 1024).2

/-- What the eight rows of one tile are computed from, at lane `d`: the factor, the state before the tile and the tile's rows. -/
structure Lane (v0 v1 a10 a11 : Vec Ideal S1x1024 .f32) (v14 v16 : Vec Ideal S8x1024 .f32) (d : Fin 1024) (a b : EReal) (xr xi : ℕ → EReal) (n : ℕ) : Prop where
  a0 : v0 (ix2 0 d) = a
  b0 : v1 (ix2 0 d) = b
  hr : a10 (ix2 0 d) = (H a b xr xi n).1
  hi : a11 (ix2 0 d) = (H a b xr xi n).2
  x : ∀ r : Fin 8, v14 (ix2 r d) = xr (n + r.val)
  y : ∀ r : Fin 8, v16 (ix2 r d) = xi (n + r.val)

section Tile

variable {v0 v1 a10 a11 : Vec Ideal S1x1024 .f32} {v14 v16 : Vec Ideal S8x1024 .f32} {d : Fin 1024} {a b : EReal} {xr xi : ℕ → EReal} {n : ℕ}

/-- The real part after row 0 of the tile. -/
theorem st1r (h : Lane v0 v1 a10 a11 v14 v16 d a b xr xi n) : k0_pay12 v0 v1 a10 a11 v14 (ix2 0 d) = (H a b xr xi (n + 1)).1 := by
  have e : (H a b xr xi (n + 1)).1 = a * (H a b xr xi (n + 0)).1 - b * (H a b xr xi (n + 0)).2 + xr (n + 0) := rfl
  have hx := h.x 0
  have hp := h.hr
  have hq := h.hi
  rw [e]
  pointwise [k0_pay12]
  simp only [h.a0, h.b0, h.hr, h.hi, Nat.add_zero]
  first | exact congrArg _ hx | skip

/-- The imaginary part after row 0 of the tile. -/
theorem st1i (h : Lane v0 v1 a10 a11 v14 v16 d a b xr xi n) : k0_pay13 v0 v1 a10 a11 v16 (ix2 0 d) = (H a b xr xi (n + 1)).2 := by
  have e : (H a b xr xi (n + 1)).2 = a * (H a b xr xi (n + 0)).2 + b * (H a b xr xi (n + 0)).1 + xi (n + 0) := rfl
  have hx := h.y 0
  have hp := h.hr
  have hq := h.hi
  rw [e]
  pointwise [k0_pay13]
  simp only [h.a0, h.b0, h.hr, h.hi, Nat.add_zero]
  first | exact congrArg _ hx | skip

/-- The real part after row 1 of the tile. -/
theorem st2r (h : Lane v0 v1 a10 a11 v14 v16 d a b xr xi n) : k0_pay14 v0 v1 a10 a11 v14 v16 (ix2 0 d) = (H a b xr xi (n + 2)).1 := by
  have e : (H a b xr xi (n + 2)).1 = a * (H a b xr xi (n + 1)).1 - b * (H a b xr xi (n + 1)).2 + xr (n + 1) := rfl
  have hx := h.x 1
  have hp := st1r h
  have hq := st1i h
  rw [e, ← hp, ← hq]
  pointwise [k0_pay14]
  simp only [h.a0, h.b0]
  first | exact congrArg _ hx | skip

/-- The imaginary part after row 1 of the tile. -/
theorem st2i (h : Lane v0 v1 a10 a11 v14 v16 d a b xr xi n) : k0_pay15 v0 v1 a10 a11 v14 v16 (ix2 0 d) = (H a b xr xi (n + 2)).2 := by
  have e : (H a b xr xi (n + 2)).2 = a * (H a b xr xi (n + 1)).2 + b * (H a b xr xi (n + 1)).1 + xi (n + 1) := rfl
  have hx := h.y 1
  have hp := st1r h
  have hq := st1i h
  rw [e, ← hp, ← hq]
  pointwise [k0_pay15]
  simp only [h.a0, h.b0]
  first | exact congrArg _ hx | skip

/-- The real part after row 2 of the tile. -/
theorem st3r (h : Lane v0 v1 a10 a11 v14 v16 d a b xr xi n) : k0_pay16 v0 v1 a10 a11 v14 v16 (ix2 0 d) = (H a b xr xi (n + 3)).1 := by
  have e : (H a b xr xi (n + 3)).1 = a * (H a b xr xi (n + 2)).1 - b * (H a b xr xi (n + 2)).2 + xr (n + 2) := rfl
  have hx := h.x 2
  have hp := st2r h
  have hq := st2i h
  rw [e, ← hp, ← hq]
  pointwise [k0_pay16]
  simp only [h.a0, h.b0]
  first | exact congrArg _ hx | skip

/-- The imaginary part after row 2 of the tile. -/
theorem st3i (h : Lane v0 v1 a10 a11 v14 v16 d a b xr xi n) : k0_pay17 v0 v1 a10 a11 v14 v16 (ix2 0 d) = (H a b xr xi (n + 3)).2 := by
  have e : (H a b xr xi (n + 3)).2 = a * (H a b xr xi (n + 2)).2 + b * (H a b xr xi (n + 2)).1 + xi (n + 2) := rfl
  have hx := h.y 2
  have hp := st2r h
  have hq := st2i h
  rw [e, ← hp, ← hq]
  pointwise [k0_pay17]
  simp only [h.a0, h.b0]
  first | exact congrArg _ hx | skip

/-- The real part after row 3 of the tile. -/
theorem st4r (h : Lane v0 v1 a10 a11 v14 v16 d a b xr xi n) : k0_pay18 v0 v1 a10 a11 v14 v16 (ix2 0 d) = (H a b xr xi (n + 4)).1 := by
  have e : (H a b xr xi (n + 4)).1 = a * (H a b xr xi (n + 3)).1 - b * (H a b xr xi (n + 3)).2 + xr (n + 3) := rfl
  have hx := h.x 3
  have hp := st3r h
  have hq := st3i h
  rw [e, ← hp, ← hq]
  pointwise [k0_pay18]
  simp only [h.a0, h.b0]
  first | exact congrArg _ hx | skip

/-- The imaginary part after row 3 of the tile. -/
theorem st4i (h : Lane v0 v1 a10 a11 v14 v16 d a b xr xi n) : k0_pay19 v0 v1 a10 a11 v14 v16 (ix2 0 d) = (H a b xr xi (n + 4)).2 := by
  have e : (H a b xr xi (n + 4)).2 = a * (H a b xr xi (n + 3)).2 + b * (H a b xr xi (n + 3)).1 + xi (n + 3) := rfl
  have hx := h.y 3
  have hp := st3r h
  have hq := st3i h
  rw [e, ← hp, ← hq]
  pointwise [k0_pay19]
  simp only [h.a0, h.b0]
  first | exact congrArg _ hx | skip

/-- The real part after row 4 of the tile. -/
theorem st5r (h : Lane v0 v1 a10 a11 v14 v16 d a b xr xi n) : k0_pay20 v0 v1 a10 a11 v14 v16 (ix2 0 d) = (H a b xr xi (n + 5)).1 := by
  have e : (H a b xr xi (n + 5)).1 = a * (H a b xr xi (n + 4)).1 - b * (H a b xr xi (n + 4)).2 + xr (n + 4) := rfl
  have hx := h.x 4
  have hp := st4r h
  have hq := st4i h
  rw [e, ← hp, ← hq]
  pointwise [k0_pay20]
  simp only [h.a0, h.b0]
  first | exact congrArg _ hx | skip

/-- The imaginary part after row 4 of the tile. -/
theorem st5i (h : Lane v0 v1 a10 a11 v14 v16 d a b xr xi n) : k0_pay21 v0 v1 a10 a11 v14 v16 (ix2 0 d) = (H a b xr xi (n + 5)).2 := by
  have e : (H a b xr xi (n + 5)).2 = a * (H a b xr xi (n + 4)).2 + b * (H a b xr xi (n + 4)).1 + xi (n + 4) := rfl
  have hx := h.y 4
  have hp := st4r h
  have hq := st4i h
  rw [e, ← hp, ← hq]
  pointwise [k0_pay21]
  simp only [h.a0, h.b0]
  first | exact congrArg _ hx | skip

/-- The real part after row 5 of the tile. -/
theorem st6r (h : Lane v0 v1 a10 a11 v14 v16 d a b xr xi n) : k0_pay2 v0 v1 v14 (k0_pay20 v0 v1 a10 a11 v14 v16) (k0_pay21 v0 v1 a10 a11 v14 v16) (ix2 0 d) = (H a b xr xi (n + 6)).1 := by
  have e : (H a b xr xi (n + 6)).1 = a * (H a b xr xi (n + 5)).1 - b * (H a b xr xi (n + 5)).2 + xr (n + 5) := rfl
  have hx := h.x 5
  have hp := st5r h
  have hq := st5i h
  rw [e, ← hp, ← hq]
  pointwise [k0_pay2]
  simp only [h.a0, h.b0]
  first | exact congrArg _ hx | skip

/-- The imaginary part after row 5 of the tile. -/
theorem st6i (h : Lane v0 v1 a10 a11 v14 v16 d a b xr xi n) : k0_pay3 v0 v1 v16 (k0_pay20 v0 v1 a10 a11 v14 v16) (k0_pay21 v0 v1 a10 a11 v14 v16) (ix2 0 d) = (H a b xr xi (n + 6)).2 := by
  have e : (H a b xr xi (n + 6)).2 = a * (H a b xr xi (n + 5)).2 + b * (H a b xr xi (n + 5)).1 + xi (n + 5) := rfl
  have hx := h.y 5
  have hp := st5r h
  have hq := st5i h
  rw [e, ← hp, ← hq]
  pointwise [k0_pay3]
  simp only [h.a0, h.b0]
  first | exact congrArg _ hx | skip

/-- The real part after row 6 of the tile. -/
theorem st7r (h : Lane v0 v1 a10 a11 v14 v16 d a b xr xi n) : k0_pay4 v0 v1 v14 v16 (k0_pay20 v0 v1 a10 a11 v14 v16) (k0_pay21 v0 v1 a10 a11 v14 v16) (ix2 0 d) = (H a b xr xi (n + 7)).1 := by
  have e : (H a b xr xi (n + 7)).1 = a * (H a b xr xi (n + 6)).1 - b * (H a b xr xi (n + 6)).2 + xr (n + 6) := rfl
  have hx := h.x 6
  have hp := st6r h
  have hq := st6i h
  rw [e, ← hp, ← hq]
  pointwise [k0_pay4]
  simp only [h.a0, h.b0]
  first | exact congrArg _ hx | skip

/-- The imaginary part after row 6 of the tile. -/
theorem st7i (h : Lane v0 v1 a10 a11 v14 v16 d a b xr xi n) : k0_pay5 v0 v1 v14 v16 (k0_pay20 v0 v1 a10 a11 v14 v16) (k0_pay21 v0 v1 a10 a11 v14 v16) (ix2 0 d) = (H a b xr xi (n + 7)).2 := by
  have e : (H a b xr xi (n + 7)).2 = a * (H a b xr xi (n + 6)).2 + b * (H a b xr xi (n + 6)).1 + xi (n + 6) := rfl
  have hx := h.y 6
  have hp := st6r h
  have hq := st6i h
  rw [e, ← hp, ← hq]
  pointwise [k0_pay5]
  simp only [h.a0, h.b0]
  first | exact congrArg _ hx | skip

/-- The real part after row 7 of the tile. -/
theorem st8r (h : Lane v0 v1 a10 a11 v14 v16 d a b xr xi n) : k0_pay6 v0 v1 v14 v16 (k0_pay20 v0 v1 a10 a11 v14 v16) (k0_pay21 v0 v1 a10 a11 v14 v16) (ix2 0 d) = (H a b xr xi (n + 8)).1 := by
  have e : (H a b xr xi (n + 8)).1 = a * (H a b xr xi (n + 7)).1 - b * (H a b xr xi (n + 7)).2 + xr (n + 7) := rfl
  have hx := h.x 7
  have hp := st7r h
  have hq := st7i h
  rw [e, ← hp, ← hq]
  pointwise [k0_pay6]
  simp only [h.a0, h.b0]
  first | exact congrArg _ hx | skip

/-- The imaginary part after row 7 of the tile. -/
theorem st8i (h : Lane v0 v1 a10 a11 v14 v16 d a b xr xi n) : k0_pay7 v0 v1 v14 v16 (k0_pay20 v0 v1 a10 a11 v14 v16) (k0_pay21 v0 v1 a10 a11 v14 v16) (ix2 0 d) = (H a b xr xi (n + 8)).2 := by
  have e : (H a b xr xi (n + 8)).2 = a * (H a b xr xi (n + 7)).2 + b * (H a b xr xi (n + 7)).1 + xi (n + 7) := rfl
  have hx := h.y 7
  have hp := st7r h
  have hq := st7i h
  rw [e, ← hp, ← hq]
  pointwise [k0_pay7]
  simp only [h.a0, h.b0]
  first | exact congrArg _ hx | skip

/-- The eight rows stored, real parts. -/
theorem rowsr (h : Lane v0 v1 a10 a11 v14 v16 d a b xr xi n) (r : Fin 8) :
    k0_pay8 v0 v1 a10 v14 v16 (k0_pay12 v0 v1 a10 a11 v14) (k0_pay14 v0 v1 a10 a11 v14 v16) (k0_pay16 v0 v1 a10 a11 v14 v16) (k0_pay18 v0 v1 a10 a11 v14 v16) (k0_pay20 v0 v1 a10 a11 v14 v16) (k0_pay21 v0 v1 a10 a11 v14 v16) (ix2 r d) = (H a b xr xi (n + r.val)).1 := by
  match r with
  | ⟨0, _⟩ => exact Eq.trans (by pointwise [k0_pay8]) h.hr
  | ⟨1, _⟩ => exact Eq.trans (by pointwise [k0_pay8]) (st1r h)
  | ⟨2, _⟩ => exact Eq.trans (by pointwise [k0_pay8]) (st2r h)
  | ⟨3, _⟩ => exact Eq.trans (by pointwise [k0_pay8]) (st3r h)
  | ⟨4, _⟩ => exact Eq.trans (by pointwise [k0_pay8]) (st4r h)
  | ⟨5, _⟩ => exact Eq.trans (by pointwise [k0_pay8]) (st5r h)
  | ⟨6, _⟩ => exact Eq.trans (by pointwise [k0_pay8]) (st6r h)
  | ⟨7, _⟩ => exact Eq.trans (by pointwise [k0_pay8]) (st7r h)

/-- The eight rows stored, imaginary parts. -/
theorem rowsi (h : Lane v0 v1 a10 a11 v14 v16 d a b xr xi n) (r : Fin 8) :
    k0_pay9 v0 v1 a11 v14 v16 (k0_pay13 v0 v1 a10 a11 v16) (k0_pay15 v0 v1 a10 a11 v14 v16) (k0_pay17 v0 v1 a10 a11 v14 v16) (k0_pay19 v0 v1 a10 a11 v14 v16) (k0_pay20 v0 v1 a10 a11 v14 v16) (k0_pay21 v0 v1 a10 a11 v14 v16) (ix2 r d) = (H a b xr xi (n + r.val)).2 := by
  match r with
  | ⟨0, _⟩ => exact Eq.trans (by pointwise [k0_pay9]) h.hi
  | ⟨1, _⟩ => exact Eq.trans (by pointwise [k0_pay9]) (st1i h)
  | ⟨2, _⟩ => exact Eq.trans (by pointwise [k0_pay9]) (st2i h)
  | ⟨3, _⟩ => exact Eq.trans (by pointwise [k0_pay9]) (st3i h)
  | ⟨4, _⟩ => exact Eq.trans (by pointwise [k0_pay9]) (st4i h)
  | ⟨5, _⟩ => exact Eq.trans (by pointwise [k0_pay9]) (st5i h)
  | ⟨6, _⟩ => exact Eq.trans (by pointwise [k0_pay9]) (st6i h)
  | ⟨7, _⟩ => exact Eq.trans (by pointwise [k0_pay9]) (st7i h)

end Tile

section Args

variable (𝒱 : Variants) (c : Dev nD) (bd : Option 𝒱.V) (i : grid0.Coords) (arg1 : Memref sig .tc .vmem S1024x1024 .f32) (harg1 : arg1.IsWhole) (arg2 : Memref sig .tc .vmem S1024x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S8x1024 .f32) (harg7 : arg7.IsWhole) (arg8 : Memref sig .tc .vmem S8x1024 .f32) (harg8 : arg8.IsWhole)

/-- What one trip of the loop hands on: the state after its eight rows. -/
theorem trip_eq
    (v0 v1 : Vec Ideal S1x1024 .f32) (X1 : BufTy.Contents (Elt Ideal) arg1.view.ty) (X2 : BufTy.Contents (Elt Ideal) arg2.view.ty) (k : Fin k0_t1_loop.trips)
    (acc : FVec Ideal S1x1024 .f32 × FVec Ideal S1x1024 .f32) :
    tripR_k0_t1 𝒱 c bd i arg1 harg1 arg2 harg2 arg3 harg3 arg4 harg4 arg5 harg5 arg6 harg6 arg7 harg7 arg8 harg8 v0 v1 X1 X2 k acc
      = (k0_pay6 v0 v1 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k))) (k0_pay20 v0 v1 acc.1 acc.2 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k)))) (k0_pay21 v0 v1 acc.1 acc.2 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k)))), k0_pay7 v0 v1 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k))) (k0_pay20 v0 v1 acc.1 acc.2 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k)))) (k0_pay21 v0 v1 acc.1 acc.2 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k))))) := by
  unfold tripR_k0_t1 trip_k0_t1
  dsimp only
  sl_unfold_words
  rfl

/-- What one trip of the loop stores. -/
theorem tripL_eq
    (v0 v1 : Vec Ideal S1x1024 .f32) (X1 : BufTy.Contents (Elt Ideal) arg1.view.ty) (X2 : BufTy.Contents (Elt Ideal) arg2.view.ty) (k : Fin k0_t1_loop.trips)
    (acc : FVec Ideal S1x1024 .f32 × FVec Ideal S1x1024 .f32) :
    tripL_k0_t1 𝒱 c bd i arg1 harg1 arg2 harg2 arg3 harg3 arg4 harg4 arg5 harg5 arg6 harg6 arg7 harg7 arg8 harg8 v0 v1 X1 X2 k acc
      = ([⟨Rect.unit (s := S1024x1024) (k0_off1 k) S8x1024.size (k0_off1_inb k), k0_pay8 v0 v1 acc.1 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k))) (k0_pay12 v0 v1 acc.1 acc.2 (View.ld (arg1.view.read (Elt Ideal) X1) (Rect.unit (s := S1024x1024) (k0_off1 k) S8x1024.size (k0_off1_inb k)))) (k0_pay14 v0 v1 acc.1 acc.2 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k)))) (k0_pay16 v0 v1 acc.1 acc.2 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k)))) (k0_pay18 v0 v1 acc.1 acc.2 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k)))) (k0_pay20 v0 v1 acc.1 acc.2 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k)))) (k0_pay21 v0 v1 acc.1 acc.2 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k))))⟩], [⟨Rect.unit (s := S1024x1024) (k0_off1 k) S8x1024.size (k0_off1_inb k), k0_pay9 v0 v1 acc.2 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k))) (k0_pay13 v0 v1 acc.1 acc.2 (View.ld (arg2.view.read (Elt Ideal) X2) (Rect.unit (s := S1024x1024) (k0_off1 k) S8x1024.size (k0_off1_inb k)))) (k0_pay15 v0 v1 acc.1 acc.2 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k)))) (k0_pay17 v0 v1 acc.1 acc.2 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k)))) (k0_pay19 v0 v1 acc.1 acc.2 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k)))) (k0_pay20 v0 v1 acc.1 acc.2 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k)))) (k0_pay21 v0 v1 acc.1 acc.2 (View.ld (arg1.view.read (Elt Ideal) X1) (Rect.unit (s := S1024x1024) (k0_off1 k) S8x1024.size (k0_off1_inb k))) (View.ld (arg2.view.read (Elt Ideal) X2) (Rect.unit (s := S1024x1024) (k0_off1 k) S8x1024.size (k0_off1_inb k))))⟩]) := by
  unfold tripL_k0_t1 trip_k0_t1
  dsimp only
  sl_unfold_words
  rfl

/-- The loop runs 128 trips. -/
theorem trips_eq : k0_t1_loop.trips = 128 := by decide

/-- Trip `k` reads and writes rows from `8 k`. -/
theorem off_eq : ∀ k : Fin k0_t1_loop.trips, k0_off1 k = ![k.val * 8, 0] := by decide +kernel

/-- A tile of eight rows of an array. -/
theorem ld_tile (z : Vec Ideal S1024x1024 .f32) (k : Fin k0_t1_loop.trips) (r : Fin 8) (d : Fin 1024) :
    View.ld z (Rect.unit (s := S1024x1024) (k0_off1 k) S8x1024.size (k0_off1_inb k)) (ix2 r d)
      = col z d (k.val * 8 + r.val) := by
  have hk : k.val < 128 := Nat.lt_of_lt_of_eq k.isLt trips_eq
  have ho := off_eq k
  rw [col_of z d ⟨k.val * 8 + r.val, by omega⟩]
  refine congrArg z ?_
  funext a
  apply Fin.ext
  match a with
  | ⟨0, _⟩ => show k0_off1 k 0 + 1 * r.val = k.val * 8 + r.val; rw [ho]; show k.val * 8 + 1 * r.val = _; omega
  | ⟨1, _⟩ => show k0_off1 k 1 + 1 * d.val = d.val; rw [ho]; show 0 + 1 * d.val = _; omega

/-- The loop before trip `k`: the state carried is the state after `8 k` rows, and every tile stored holds the states before its rows. -/
theorem inv
    (v0 v1 : Vec Ideal S1x1024 .f32) (X1 : BufTy.Contents (Elt Ideal) arg1.view.ty) (X2 : BufTy.Contents (Elt Ideal) arg2.view.ty)
    (ar ai : Vec Ideal S8x1024 .f32) (ha : ∀ d, v0 (ix2 0 d) = ar (ix2 0 d)) (hb : ∀ d, v1 (ix2 0 d) = ai (ix2 0 d)) (n : ℕ) (hn : n ≤ 128) :
    ((∀ d, (st_k0_t1 𝒱 c bd i arg1 harg1 arg2 harg2 arg3 harg3 arg4 harg4 arg5 harg5 arg6 harg6 arg7 harg7 arg8 harg8 v0 v1 X1 X2 (k0_pay1, k0_pay1) n).1.1 (ix2 0 d) = (Hc (arg1.view.read (Elt Ideal) X1) (arg2.view.read (Elt Ideal) X2) ar ai d (n * 8)).1)
      ∧ (∀ d, (st_k0_t1 𝒱 c bd i arg1 harg1 arg2 harg2 arg3 harg3 arg4 harg4 arg5 harg5 arg6 harg6 arg7 harg7 arg8 harg8 v0 v1 X1 X2 (k0_pay1, k0_pay1) n).1.2 (ix2 0 d) = (Hc (arg1.view.read (Elt Ideal) X1) (arg2.view.read (Elt Ideal) X2) ar ai d (n * 8)).2))
    ∧ (∀ p ∈ (st_k0_t1 𝒱 c bd i arg1 harg1 arg2 harg2 arg3 harg3 arg4 harg4 arg5 harg5 arg6 harg6 arg7 harg7 arg8 harg8 v0 v1 X1 X2 (k0_pay1, k0_pay1) n).2.1, ∀ x : p.1.shape.Idx, p.2 x = Gr (arg1.view.read (Elt Ideal) X1) (arg2.view.read (Elt Ideal) X2) ar ai (p.1.emb x))
    ∧ (∀ p ∈ (st_k0_t1 𝒱 c bd i arg1 harg1 arg2 harg2 arg3 harg3 arg4 harg4 arg5 harg5 arg6 harg6 arg7 harg7 arg8 harg8 v0 v1 X1 X2 (k0_pay1, k0_pay1) n).2.2, ∀ x : p.1.shape.Idx, p.2 x = Gi (arg1.view.read (Elt Ideal) X1) (arg2.view.read (Elt Ideal) X2) ar ai (p.1.emb x)) := by
  induction n with
  | zero =>
    refine ⟨⟨fun d => ?_, fun d => ?_⟩, fun p hp => absurd hp (List.not_mem_nil), fun p hp => absurd hp (List.not_mem_nil)⟩
    · show k0_pay1 (F := Ideal) (ix2 0 d) = 0
      pointwise [k0_pay1]
    · show k0_pay1 (F := Ideal) (ix2 0 d) = 0
      pointwise [k0_pay1]
  | succ n ih =>
    obtain ⟨⟨h1, h2⟩, h3, h4⟩ := ih (by omega)
    have hl : n < k0_t1_loop.trips := by rw [trips_eq]; omega
    have e := st_k0_t1_succ 𝒱 c bd i arg1 harg1 arg2 harg2 arg3 harg3 arg4 harg4 arg5 harg5 arg6 harg6 arg7 harg7 arg8 harg8 v0 v1 X1 X2 (k0_pay1, k0_pay1) ⟨n, hl⟩
    rw [trip_eq, tripL_eq] at e
    have hL : ∀ d : Fin 1024, Lane v0 v1 (st_k0_t1 𝒱 c bd i arg1 harg1 arg2 harg2 arg3 harg3 arg4 harg4 arg5 harg5 arg6 harg6 arg7 harg7 arg8 harg8 v0 v1 X1 X2 (k0_pay1, k0_pay1) n).1.1 (st_k0_t1 𝒱 c bd i arg1 harg1 arg2 harg2 arg3 harg3 arg4 harg4 arg5 harg5 arg6 harg6 arg7 harg7 arg8 harg8 v0 v1 X1 X2 (k0_pay1, k0_pay1) n).1.2 (View.ld (arg1.view.read (Elt Ideal) X1) (Rect.unit (s := S1024x1024) (k0_off1 ⟨n, hl⟩) S8x1024.size (k0_off1_inb ⟨n, hl⟩))) (View.ld (arg2.view.read (Elt Ideal) X2) (Rect.unit (s := S1024x1024) (k0_off1 ⟨n, hl⟩) S8x1024.size (k0_off1_inb ⟨n, hl⟩))) d (ar (ix2 0 d)) (ai (ix2 0 d)) (col (arg1.view.read (Elt Ideal) X1) d) (col (arg2.view.read (Elt Ideal) X2) d) (n * 8) :=
      fun d => ⟨ha d, hb d, h1 d, h2 d, fun r => ld_tile _ _ _ _, fun r => ld_tile _ _ _ _⟩
    have key : st_k0_t1 𝒱 c bd i arg1 harg1 arg2 harg2 arg3 harg3 arg4 harg4 arg5 harg5 arg6 harg6 arg7 harg7 arg8 harg8 v0 v1 X1 X2 (k0_pay1, k0_pay1) (n + 1) = _ := e
    rw [key]
    have hn8 : (n + 1) * 8 = n * 8 + 8 := by omega
    have hemb : ∀ (r : Fin 8) (d : Fin 1024), (Rect.unit (s := S1024x1024) (k0_off1 ⟨n, hl⟩) S8x1024.size (k0_off1_inb ⟨n, hl⟩)).emb (ix2 r d) = ix2 (⟨n * 8 + r.val, by omega⟩ : Fin 1024) d := by
      intro r d
      have ho := off_eq ⟨n, hl⟩
      funext a
      apply Fin.ext
      match a with
      | ⟨0, _⟩ => show k0_off1 ⟨n, hl⟩ 0 + 1 * r.val = n * 8 + r.val; rw [ho]; show n * 8 + 1 * r.val = _; omega
      | ⟨1, _⟩ => show k0_off1 ⟨n, hl⟩ 1 + 1 * d.val = d.val; rw [ho]; show 0 + 1 * d.val = _; omega
    refine ⟨⟨fun d => ?_, fun d => ?_⟩, ?_, ?_⟩
    · rw [hn8]; exact st8r (hL d)
    · rw [hn8]; exact st8i (hL d)
    · refine List.forall_mem_cons.2 ⟨fun x => ?_, h3⟩
      obtain ⟨r, d, rfl⟩ : ∃ (r : Fin 8) (d : Fin 1024), x = ix2 r d := ⟨x 0, x 1, by funext a; fin_cases a <;> rfl⟩
      exact (rowsr (hL d) r).trans (congrArg (Gr _ _ ar ai) (hemb r d)).symm
    · refine List.forall_mem_cons.2 ⟨fun x => ?_, h4⟩
      obtain ⟨r, d, rfl⟩ : ∃ (r : Fin 8) (d : Fin 1024), x = ix2 r d := ⟨x 0, x 1, by funext a; fin_cases a <;> rfl⟩
      exact (rowsi (hL d) r).trans (congrArg (Gi _ _ ar ai) (hemb r d)).symm

/-- The first row of the factors, as the body loads it. -/
theorem ld_row (z : Vec Ideal S8x1024 .f32) (d : Fin 1024) :
    View.ld z (Rect.unit (s := S8x1024) ![0, 0] S1x1024.size inb_S8x1024_S1x1024_0_0) (ix2 0 d) = z (ix2 0 d) :=
  congrArg z (funext fun a => Fin.ext (by
    match a with
    | ⟨0, _⟩ => rfl
    | ⟨1, _⟩ => show 0 + 1 * d.val = d.val; omega))

/-- The block of output 1: the states before every chunk. -/
theorem out4 (x0 x1 : Vec Ideal S1024x1024 .f32) (x2 x3 : Vec Ideal S8x1024 .f32) :
    out0_A_4 c i arg1 harg1 arg2 harg2 arg3 harg3 arg4 harg4 arg5 harg5 arg6 harg6 arg7 harg7 arg8 harg8 x0 x1 x2 x3 = Gr x0 x1 x2 x3 := by
  unfold out0_A_4
  rw [View.read_writes_eq_canon _ _ _ (cover0_A_4 c i arg1 harg1 arg2 harg2 arg3 harg3 arg4 harg4 arg5 harg5 arg6 harg6 arg7 harg7 arg8 harg8 x0 x1 x2 x3)]
  funext y
  refine View.canon_apply_of_pieces _ _ ?_ y (cover0_A_4 c i arg1 harg1 arg2 harg2 arg3 harg3 arg4 harg4 arg5 harg5 arg6 harg6 arg7 harg7 arg8 harg8 x0 x1 x2 x3 y)
  unfold kernelRun0_A
  dsimp only
  sl_unfold_words
  have h := inv Variants.none c none i arg1 harg1 arg2 harg2 arg3 harg3 arg4 harg4 arg5 harg5 arg6 harg6 arg7 harg7 arg8 harg8 (View.readAt (Elt Ideal) arg3.view (Rect.unit (s := S8x1024) ![0, 0] S1x1024.size inb_S8x1024_S1x1024_0_0).toLoadRect (harg3.unread x2)) (View.readAt (Elt Ideal) arg4.view (Rect.unit (s := S8x1024) ![0, 0] S1x1024.size inb_S8x1024_S1x1024_0_0).toLoadRect (harg4.unread x3)) (harg1.unread x0) (harg2.unread x1) x2 x3
    (fun d => by rw [View.readAt_eq_ld, harg3.read_unread]; exact ld_row x2 d) (fun d => by rw [View.readAt_eq_ld, harg4.read_unread]; exact ld_row x3 d) 128 (le_refl _)
  rw [harg1.read_unread, harg2.read_unread] at h
  exact h.2.1

/-- The block of output 2: the states before every chunk. -/
theorem out5 (x0 x1 : Vec Ideal S1024x1024 .f32) (x2 x3 : Vec Ideal S8x1024 .f32) :
    out0_A_5 c i arg1 harg1 arg2 harg2 arg3 harg3 arg4 harg4 arg5 harg5 arg6 harg6 arg7 harg7 arg8 harg8 x0 x1 x2 x3 = Gi x0 x1 x2 x3 := by
  unfold out0_A_5
  rw [View.read_writes_eq_canon _ _ _ (cover0_A_5 c i arg1 harg1 arg2 harg2 arg3 harg3 arg4 harg4 arg5 harg5 arg6 harg6 arg7 harg7 arg8 harg8 x0 x1 x2 x3)]
  funext y
  refine View.canon_apply_of_pieces _ _ ?_ y (cover0_A_5 c i arg1 harg1 arg2 harg2 arg3 harg3 arg4 harg4 arg5 harg5 arg6 harg6 arg7 harg7 arg8 harg8 x0 x1 x2 x3 y)
  unfold kernelRun0_A
  dsimp only
  sl_unfold_words
  have h := inv Variants.none c none i arg1 harg1 arg2 harg2 arg3 harg3 arg4 harg4 arg5 harg5 arg6 harg6 arg7 harg7 arg8 harg8 (View.readAt (Elt Ideal) arg3.view (Rect.unit (s := S8x1024) ![0, 0] S1x1024.size inb_S8x1024_S1x1024_0_0).toLoadRect (harg3.unread x2)) (View.readAt (Elt Ideal) arg4.view (Rect.unit (s := S8x1024) ![0, 0] S1x1024.size inb_S8x1024_S1x1024_0_0).toLoadRect (harg4.unread x3)) (harg1.unread x0) (harg2.unread x1) x2 x3
    (fun d => by rw [View.readAt_eq_ld, harg3.read_unread]; exact ld_row x2 d) (fun d => by rw [View.readAt_eq_ld, harg4.read_unread]; exact ld_row x3 d) 128 (le_refl _)
  rw [harg1.read_unread, harg2.read_unread] at h
  exact h.2.2

/-- A row spread over eight rows. -/
theorem k0_pay10_apply (v : Vec Ideal S1x1024 .f32) (r : Fin 8) (d : Fin 1024) : k0_pay10 (F := Ideal) v (ix2 r d) = v (ix2 0 d) := by
  pointwise [k0_pay10]

/-- The block of output 3: the last state. -/
theorem out6 (x0 x1 : Vec Ideal S1024x1024 .f32) (x2 x3 : Vec Ideal S8x1024 .f32) :
    out0_A_6 c i arg1 harg1 arg2 harg2 arg3 harg3 arg4 harg4 arg5 harg5 arg6 harg6 arg7 harg7 arg8 harg8 x0 x1 x2 x3 = Fr x0 x1 x2 x3 := by
  unfold out0_A_6
  rw [View.read_writes_eq_canon _ _ _ (cover0_A_6 c i arg1 harg1 arg2 harg2 arg3 harg3 arg4 harg4 arg5 harg5 arg6 harg6 arg7 harg7 arg8 harg8 x0 x1 x2 x3)]
  unfold kernelRun0_A
  dsimp only
  sl_unfold_words
  rw [View.canon_unit_zero hz]
  have h := inv Variants.none c none i arg1 harg1 arg2 harg2 arg3 harg3 arg4 harg4 arg5 harg5 arg6 harg6 arg7 harg7 arg8 harg8 (View.readAt (Elt Ideal) arg3.view (Rect.unit (s := S8x1024) ![0, 0] S1x1024.size inb_S8x1024_S1x1024_0_0).toLoadRect (harg3.unread x2)) (View.readAt (Elt Ideal) arg4.view (Rect.unit (s := S8x1024) ![0, 0] S1x1024.size inb_S8x1024_S1x1024_0_0).toLoadRect (harg4.unread x3)) (harg1.unread x0) (harg2.unread x1) x2 x3
    (fun d => by rw [View.readAt_eq_ld, harg3.read_unread]; exact ld_row x2 d) (fun d => by rw [View.readAt_eq_ld, harg4.read_unread]; exact ld_row x3 d) 128 (le_refl _)
  rw [harg1.read_unread, harg2.read_unread] at h
  funext y
  idx_vars y
  exact (k0_pay10_apply _ y0 y1).trans (h.1.1 y1)

/-- A row spread over eight rows. -/
theorem k0_pay11_apply (v : Vec Ideal S1x1024 .f32) (r : Fin 8) (d : Fin 1024) : k0_pay11 (F := Ideal) v (ix2 r d) = v (ix2 0 d) := by
  pointwise [k0_pay11]

/-- The block of output 4: the last state. -/
theorem out7 (x0 x1 : Vec Ideal S1024x1024 .f32) (x2 x3 : Vec Ideal S8x1024 .f32) :
    out0_A_7 c i arg1 harg1 arg2 harg2 arg3 harg3 arg4 harg4 arg5 harg5 arg6 harg6 arg7 harg7 arg8 harg8 x0 x1 x2 x3 = Fi x0 x1 x2 x3 := by
  unfold out0_A_7
  rw [View.read_writes_eq_canon _ _ _ (cover0_A_7 c i arg1 harg1 arg2 harg2 arg3 harg3 arg4 harg4 arg5 harg5 arg6 harg6 arg7 harg7 arg8 harg8 x0 x1 x2 x3)]
  unfold kernelRun0_A
  dsimp only
  sl_unfold_words
  rw [View.canon_unit_zero hz]
  have h := inv Variants.none c none i arg1 harg1 arg2 harg2 arg3 harg3 arg4 harg4 arg5 harg5 arg6 harg6 arg7 harg7 arg8 harg8 (View.readAt (Elt Ideal) arg3.view (Rect.unit (s := S8x1024) ![0, 0] S1x1024.size inb_S8x1024_S1x1024_0_0).toLoadRect (harg3.unread x2)) (View.readAt (Elt Ideal) arg4.view (Rect.unit (s := S8x1024) ![0, 0] S1x1024.size inb_S8x1024_S1x1024_0_0).toLoadRect (harg4.unread x3)) (harg1.unread x0) (harg2.unread x1) x2 x3
    (fun d => by rw [View.readAt_eq_ld, harg3.read_unread]; exact ld_row x2 d) (fun d => by rw [View.readAt_eq_ld, harg4.read_unread]; exact ld_row x3 d) 128 (le_refl _)
  rw [harg1.read_unread, harg2.read_unread] at h
  funext y
  idx_vars y
  exact (k0_pay11_apply _ y0 y1).trans (h.1.2 y1)

end Args

/-- The states computed from a point's blocks are the whole arrays' at the point's lanes. -/
theorem Hc_block (c : Dev nD) (t : Fin cfg0.N) (j : Fin 1024) (n : ℕ) :
    Hc (iblk m c 0 t) (iblk m c 1 t) (iblk m c 2 t) (iblk m c 3 t) j n
      = Hc (m ((c : Thread nD τ).loc main_arg0)) (m ((c : Thread nD τ).loc main_arg1)) (m ((c : Thread nD τ).loc main_arg2)) (m ((c : Thread nD τ).loc main_arg3)) ⟨t.val * 1024 + j.val, by have := lt_N t; omega⟩ n := by
  have e0 : col (iblk m c 0 t) j = col (m ((c : Thread nD τ).loc main_arg0)) ⟨t.val * 1024 + j.val, by have := lt_N t; omega⟩ := by
    funext n
    unfold col
    split
    · exact iblk_xr m c t _ _
    · rfl
  have e1 : col (iblk m c 1 t) j = col (m ((c : Thread nD τ).loc main_arg1)) ⟨t.val * 1024 + j.val, by have := lt_N t; omega⟩ := by
    funext n
    unfold col
    split
    · exact iblk_xi m c t _ _
    · rfl
  have e2 := iblk_ar m c t 0 j
  have e3 := iblk_ai m c t 0 j
  unfold Hc
  rw [e0, e1, e2, e3]

/-- What a point writes back to output 1 is its block of the whole array. -/
theorem flushed_o (c : Dev nD) (t : Fin cfg0.N) :
    (dats m 0 c).flushed 4 t = (win0_4.blk t).view.read (Elt Ideal) (Gr (m ((c : Thread nD τ).loc main_arg0)) (m ((c : Thread nD τ).loc main_arg1)) (m ((c : Thread nD τ).loc main_arg2)) (m ((c : Thread nD τ).loc main_arg3))) := by
  have hN := lt_N t
  rw [Value.flushed4_A, out4]
  funext j
  idx_vars j
  show Gr (iblk m c 0 t) (iblk m c 1 t) (iblk m c 2 t) (iblk m c 3 t) (ix2 j0 j1) = Gr _ _ _ _ ((win0_4.blk t).view.emb (ix2 j0 j1))
  rw [emb_o]
  show (Hc (iblk m c 0 t) (iblk m c 1 t) (iblk m c 2 t) (iblk m c 3 t) j1 j0.val).1 = (Hc _ _ _ _ _ j0.val).1
  rw [Hc_block]
  rfl

/-- What a point writes back to output 2 is its block of the whole array. -/
theorem flushed_p (c : Dev nD) (t : Fin cfg0.N) :
    (dats m 0 c).flushed 5 t = (win0_5.blk t).view.read (Elt Ideal) (Gi (m ((c : Thread nD τ).loc main_arg0)) (m ((c : Thread nD τ).loc main_arg1)) (m ((c : Thread nD τ).loc main_arg2)) (m ((c : Thread nD τ).loc main_arg3))) := by
  have hN := lt_N t
  rw [Value.flushed5_A, out5]
  funext j
  idx_vars j
  show Gi (iblk m c 0 t) (iblk m c 1 t) (iblk m c 2 t) (iblk m c 3 t) (ix2 j0 j1) = Gi _ _ _ _ ((win0_5.blk t).view.emb (ix2 j0 j1))
  rw [emb_p]
  show (Hc (iblk m c 0 t) (iblk m c 1 t) (iblk m c 2 t) (iblk m c 3 t) j1 j0.val).2 = (Hc _ _ _ _ _ j0.val).2
  rw [Hc_block]
  rfl

/-- What a point writes back to output 3 is its block of the whole array. -/
theorem flushed_f (c : Dev nD) (t : Fin cfg0.N) :
    (dats m 0 c).flushed 6 t = (win0_6.blk t).view.read (Elt Ideal) (Fr (m ((c : Thread nD τ).loc main_arg0)) (m ((c : Thread nD τ).loc main_arg1)) (m ((c : Thread nD τ).loc main_arg2)) (m ((c : Thread nD τ).loc main_arg3))) := by
  have hN := lt_N t
  rw [Value.flushed6_A, out6]
  funext j
  idx_vars j
  show Fr (iblk m c 0 t) (iblk m c 1 t) (iblk m c 2 t) (iblk m c 3 t) (ix2 j0 j1) = Fr _ _ _ _ ((win0_6.blk t).view.emb (ix2 j0 j1))
  rw [emb_f]
  show (Hc (iblk m c 0 t) (iblk m c 1 t) (iblk m c 2 t) (iblk m c 3 t) j1 1024).1 = (Hc _ _ _ _ _ 1024).1
  rw [Hc_block]
  rfl

/-- What a point writes back to output 4 is its block of the whole array. -/
theorem flushed_g (c : Dev nD) (t : Fin cfg0.N) :
    (dats m 0 c).flushed 7 t = (win0_7.blk t).view.read (Elt Ideal) (Fi (m ((c : Thread nD τ).loc main_arg0)) (m ((c : Thread nD τ).loc main_arg1)) (m ((c : Thread nD τ).loc main_arg2)) (m ((c : Thread nD τ).loc main_arg3))) := by
  have hN := lt_N t
  rw [Value.flushed7_A, out7]
  funext j
  idx_vars j
  show Fi (iblk m c 0 t) (iblk m c 1 t) (iblk m c 2 t) (iblk m c 3 t) (ix2 j0 j1) = Fi _ _ _ _ ((win0_7.blk t).view.emb (ix2 j0 j1))
  rw [emb_g]
  show (Hc (iblk m c 0 t) (iblk m c 1 t) (iblk m c 2 t) (iblk m c 3 t) j1 1024).2 = (Hc _ _ _ _ _ 1024).2
  rw [Hc_block]
  rfl

/-- The kernel's results, and its arguments kept. -/
theorem run : θ_run defs (onTc (τ := τ) (main (F := Ideal))) ⟨m, fun _ => 0, ρ⟩ fun r => ∀ c : Dev nD,
      r.2.mem ((c : Thread nD τ).loc main_v0_0) = Gr (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = Gi (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = Fr (m ((c : Thread nD τ).loc main_arg0)) (m ((c : Thread nD τ).loc main_arg1)) (m ((c : Thread nD τ).loc main_arg2)) (m ((c : Thread nD τ).loc main_arg3))
      ∧ r.2.mem ((c : Thread nD τ).loc main_v0_3) = Fi (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 _ (fun t _ => flushed_o m c t) cover_o),
      (h c).2.1.trans ((dats m 0 c).arrAt_eq_of_cover 5 _ (fun t _ => flushed_p m c t) cover_p),
      (h c).2.2.1.trans ((dats m 0 c).arrAt_eq_of_cover 6 _ (fun t _ => flushed_f m c t) cover_f),
      (h c).2.2.2.1.trans ((dats m 0 c).arrAt_eq_of_cover 7 _ (fun t _ => flushed_g m c t) cover_g), (h c).2.2.2.2⟩)
    (Value.run_blocks m ρ)

end Cert.ScanIdeal.Whole

namespace Cert.ScanRefIdeal.Whole

open Cert.ScanRefIdeal Cert.ScanRefIdeal.Gen Cert.ScanRefIdeal.Value
open Idealize.ShloMosaic Idealize.ShloMosaic.TcCoe Idealize.SL.Sem Idealize.ShloMosaic.StableHlo
open Cert.ScanIdeal.Whole (H col col_of Hc Gr Gi Fr Fi)

variable (m : (ℓ : Loc nD τ sig) → Buf (Elt Ideal) ℓ) (ρ : Dev nD → PrngReg)

/-- A one-word constant at its element. -/
theorem word_toInt (w : IVec S_ 32) (n : ℕ) (hn : n < 1024) (hw : w = fun _ => BitVec.ofNat 32 n) : (w (Shape.Idx.first h_S_)).toInt = (n : Int) := by
  subst hw
  show (BitVec.ofNat 32 n).toInt = _
  rw [BitVec.toInt_eq_toNat_of_lt (by rw [BitVec.toNat_ofNat]; omega), BitVec.toNat_ofNat]
  omega

/-- The row at the counter, as a vector. -/
theorem row_read (x : Vec Ideal S1024x8192 .f32) (w : IVec S_ 32) (n : ℕ) (hn : n < 1024) (hw : w = fun _ => BitVec.ofNat 32 n) (j : Fin 8192) :
    shapeCast S8192 (Host.dynamicSlice S1x8192 x (fun k => (((![w, constantI S_ 32 0#32] : Fin 2 → (⟨S_, .i32⟩ : BufTy).Contents (Elt Ideal))) k (Shape.Idx.first h_S_)).toInt) sliceFits_S1024x8192_S1x8192) shapeCasts_S1x8192_S8192 (ix1 j)
      = col x j n := by
  refine (shapeCast_apply _ _ _ (ix2 0 j : S1x8192.Idx) ?_).trans ?_
  · rw [Shape.rowMajor_val_two, Shape.rowMajor_val_one]
    show 0 * 8192 + j.val = j.val
    omega
  have h0 := word_toInt w n hn hw
  rw [Host.dynamicSlice_eq_extractStridedSlice S1x8192 x _ ![n, 0] sliceFits_S1024x8192_S1x8192
    ⟨rfl, fun a => by match a with | ⟨0, _⟩ => (show n + 1 ≤ 1024; omega) | ⟨1, _⟩ => (show 0 + 8192 ≤ 8192; omega)⟩
    (fun a => by match a with | ⟨0, _⟩ => exact h0 | ⟨1, _⟩ => rfl)]
  rw [col_of x j ⟨n, hn⟩]
  refine congrArg x (funext fun a => Fin.ext ?_)
  match a with
  | ⟨0, _⟩ => show n + 0 = n; omega
  | ⟨1, _⟩ => show 0 + j.val = j.val; omega

/-- The array with the row at the counter replaced. -/
theorem row_write (x : Vec Ideal S1024x8192 .f32) (v : Vec Ideal S8192 .f32) (w : IVec S_ 32) (n : ℕ) (hn : n < 1024) (hw : w = fun _ => BitVec.ofNat 32 n) (r : Fin 1024) (j : Fin 8192) :
    Host.dynamicUpdateSlice x (broadcastInDim S1x8192 ![1] bcast_S8192_S1x8192_1 v) (fun k => (((![w, constantI S_ 32 0#32] : Fin 2 → (⟨S_, .i32⟩ : BufTy).Contents (Elt Ideal))) k (Shape.Idx.first h_S_)).toInt) updateFits_S1024x8192_S1x8192 (ix2 r j)
      = if r.val = n then v (ix1 j) else x (ix2 r j) := by
  have h0 := word_toInt w n hn hw
  rw [Host.dynamicUpdateSlice_eq_updateSlice x _ _ updateFits_S1024x8192_S1x8192 ![n, 0]
    (fun a => by match a with | ⟨0, _⟩ => (show (min (max ((w (Shape.Idx.first h_S_)).toInt) 0) ((1024 - 1 : Nat) : Int)).toNat = n; rw [h0]; omega) | ⟨1, _⟩ => rfl)
    ⟨rfl, fun a => by match a with | ⟨0, _⟩ => (show n + 1 ≤ 1024; omega) | ⟨1, _⟩ => (show 0 + 8192 ≤ 8192; omega)⟩]
  unfold updateSlice
  by_cases hr : r.val = n
  · rw [if_pos hr, dif_pos (fun a => by match a with | ⟨0, _⟩ => (show n ≤ r.val ∧ r.val < n + 1; omega) | ⟨1, _⟩ => (show 0 ≤ j.val ∧ j.val < 0 + 8192; omega))]
    refine congrArg v (funext fun a => Fin.ext ?_)
    match a with
    | ⟨0, _⟩ => rfl
  · rw [if_neg hr, dif_neg (fun h => hr (by have := h ⟨0, by decide⟩; have h2 : n ≤ r.val ∧ r.val < n + 1 := this; omega))]

/-- What holds of the carried buffers after `k` trips. -/
structure Inv (xr xi : Vec Ideal S1024x8192 .f32) (ar ai : Vec Ideal S8x8192 .f32) (k : ℕ) (V : Valuation τ sig (Elt Ideal)) : Prop where
  x0 : V (Proc.devRef .tc main_v7_0) = xr
  x1 : V (Proc.devRef .tc main_v7_1) = xi
  a : ∀ j : Fin 8192, (V (Proc.devRef .tc main_v7_2) : Vec Ideal S8192 .f32) (ix1 j) = ar (ix2 0 j)
  b : ∀ j : Fin 8192, (V (Proc.devRef .tc main_v7_3) : Vec Ideal S8192 .f32) (ix1 j) = ai (ix2 0 j)
  ctr : V (Proc.devRef .tc main_v7_4) = fun _ => BitVec.ofNat 32 k
  hr : ∀ j : Fin 8192, (V (Proc.devRef .tc main_v7_5) : Vec Ideal S8192 .f32) (ix1 j) = (Hc xr xi ar ai j k).1
  hi : ∀ j : Fin 8192, (V (Proc.devRef .tc main_v7_6) : Vec Ideal S8192 .f32) (ix1 j) = (Hc xr xi ar ai j k).2
  sr : ∀ (r : Fin 1024) (j : Fin 8192), r.val < k → (V (Proc.devRef .tc main_v7_7) : Vec Ideal S1024x8192 .f32) (ix2 r j) = (Hc xr xi ar ai j r.val).1
  si : ∀ (r : Fin 1024) (j : Fin 8192), r.val < k → (V (Proc.devRef .tc main_v7_8) : Vec Ideal S1024x8192 .f32) (ix2 r j) = (Hc xr xi ar ai j r.val).2

variable {xr xi : Vec Ideal S1024x8192 .f32} {ar ai : Vec Ideal S8x8192 .f32}

/-- The real part's step at a lane. -/
theorem term_r (a h b g x : Vec Ideal S8192 .f32) (j : Fin 8192) :
    (id (addf (F := Ideal) (φ := .f32) (subf (mulf a h) (mulf b g)) x)) (ix1 j) = a (ix1 j) * h (ix1 j) - b (ix1 j) * g (ix1 j) + x (ix1 j) := by
  show addf (F := Ideal) (φ := .f32) _ _ (ix1 j) = _
  pointwise []

/-- The imaginary part's step at a lane. -/
theorem term_i (a h b g x : Vec Ideal S8192 .f32) (j : Fin 8192) :
    (id (addf (F := Ideal) (φ := .f32) (addf (mulf a g) (mulf b h)) x)) (ix1 j) = a (ix1 j) * g (ix1 j) + b (ix1 j) * h (ix1 j) + x (ix1 j) := by
  show addf (F := Ideal) (φ := .f32) _ _ (ix1 j) = _
  pointwise []

/-- A vector spread over eight rows. -/
theorem spread (v : Vec Ideal S8192 .f32) (r : Fin 8) (j : Fin 8192) : broadcastInDim S8x8192 ![1] bcast_S8192_S8x8192_1 v (ix2 r j) = v (ix1 j) := by
  pointwise []

/-- One trip keeps it. -/
theorem Inv.step {k : ℕ} {V : Valuation τ sig (Elt Ideal)} (h : Inv xr xi ar ai k V) (hk : k < 1024) : Inv xr xi ar ai (k + 1) (STEP V) where
  x0 := (STEP_main_v7_0 V).trans h.x0
  x1 := (STEP_main_v7_1 V).trans h.x1
  a j := (congrFun (STEP_main_v7_2 V) (ix1 j)).trans (h.a j)
  b j := (congrFun (STEP_main_v7_3 V) (ix1 j)).trans (h.b j)
  ctr := by
    rw [STEP_main_v7_4]
    unfold step_main_v7_4
    rw [h.ctr]
    funext i
    show BitVec.ofNat 32 k + 1#32 = BitVec.ofNat 32 (k + 1)
    rw [BitVec.ofNat_add]
  hr j := by
    refine (congrFun (STEP_main_v7_5 V) (ix1 j)).trans ?_
    have e := row_read (V (Proc.devRef .tc main_v7_0)) (V (Proc.devRef .tc main_v7_4)) k hk h.ctr j
    rw [h.x0] at e
    refine (term_r _ _ _ _ _ j).trans ?_
    rw [h.a, h.b, h.hr, h.hi, h.x0]
    exact congrArg _ e
  hi j := by
    refine (congrFun (STEP_main_v7_6 V) (ix1 j)).trans ?_
    have e := row_read (V (Proc.devRef .tc main_v7_1)) (V (Proc.devRef .tc main_v7_4)) k hk h.ctr j
    rw [h.x1] at e
    refine (term_i _ _ _ _ _ j).trans ?_
    rw [h.a, h.b, h.hr, h.hi, h.x1]
    exact congrArg _ e
  sr r j hj := by
    refine (congrFun (STEP_main_v7_7 V) (ix2 r j)).trans ((row_write (V (Proc.devRef .tc main_v7_7)) (V (Proc.devRef .tc main_v7_5)) (V (Proc.devRef .tc main_v7_4)) k hk h.ctr r j).trans ?_)
    split
    · next e => rw [e]; exact h.hr j
    · next e => exact h.sr r j (by omega)
  si r j hj := by
    refine (congrFun (STEP_main_v7_8 V) (ix2 r j)).trans ((row_write (V (Proc.devRef .tc main_v7_8)) (V (Proc.devRef .tc main_v7_6)) (V (Proc.devRef .tc main_v7_4)) k hk h.ctr r j).trans ?_)
    split
    · next e => rw [e]; exact h.hi j
    · next e => exact h.si r j (by omega)

/-- The first row of the factors, as a vector. -/
theorem first_row (x : Vec Ideal S8x8192 .f32) (j : Fin 8192) :
    shapeCast S8192 (extractStridedSlice S1x8192 ![0, 0] x slices_S8x8192_S1x8192_0_0) shapeCasts_S1x8192_S8192 (ix1 j) = x (ix2 0 j) := by
  pointwise []

/-- It holds at the loop's entry. -/
theorem entry_inv (c : Dev nD) : Inv (m ((c.tc : Thread nD τ).loc main_arg0)) (m ((c.tc : Thread nD τ).loc main_arg1)) (m ((c.tc : Thread nD τ).loc main_arg2)) (m ((c.tc : Thread nD τ).loc main_arg3)) 0 (entryContents preI m c) where
  x0 := by simp only [entryContents, afterL_cons, afterL_nil]; after_reads_simp; rfl
  x1 := by simp only [entryContents, afterL_cons, afterL_nil]; after_reads_simp; rfl
  a j := by simp only [entryContents, afterL_cons, afterL_nil]; after_reads_simp; exact first_row _ j
  b j := by simp only [entryContents, afterL_cons, afterL_nil]; after_reads_simp; exact first_row _ j
  ctr := by simp only [entryContents, afterL_cons, afterL_nil]; after_reads_simp; rfl
  hr j := by
    simp only [entryContents, afterL_cons, afterL_nil]
    after_reads_simp
    show Ideal.ofBits .f32 0#32 = 0
    pointwise []
  hi j := by
    simp only [entryContents, afterL_cons, afterL_nil]
    after_reads_simp
    show Ideal.ofBits .f32 0#32 = 0
    pointwise []
  sr r j h := absurd h (Nat.not_lt_zero _)
  si r j h := absurd h (Nat.not_lt_zero _)

/-- It holds after every number of trips. -/
theorem iter_inv (c : Dev nD) (k : ℕ) (hk : k ≤ 1024) : Inv (m ((c.tc : Thread nD τ).loc main_arg0)) (m ((c.tc : Thread nD τ).loc main_arg1)) (m ((c.tc : Thread nD τ).loc main_arg2)) (m ((c.tc : Thread nD τ).loc main_arg3)) k (STEP^[k] (entryContents preI m c)) := by
  induction k with
  | zero => exact entry_inv m c
  | succ k ih =>
    rw [Function.iterate_succ_apply']
    exact (ih (by omega)).step (by omega)

/-- The states before every chunk, real parts. -/
theorem res0_of {V : Valuation τ sig (Elt Ideal)} (h : Inv xr xi ar ai 1024 V) : V (Proc.devRef .tc main_v7_7) = Gr xr xi ar ai := by
  funext i
  idx_vars i
  exact h.sr i0 i1 i0.isLt

/-- The states before every chunk, real parts. -/
theorem res0 (c : Dev nD) : (STEP^[1024] (entryContents preI m c)) (Proc.devRef .tc main_v7_7) = Gr (m ((c.tc : Thread nD τ).loc main_arg0)) (m ((c.tc : Thread nD τ).loc main_arg1)) (m ((c.tc : Thread nD τ).loc main_arg2)) (m ((c.tc : Thread nD τ).loc main_arg3)) :=
  res0_of (iter_inv m c 1024 (le_refl _))

/-- The states before every chunk, imaginary parts. -/
theorem res1_of {V : Valuation τ sig (Elt Ideal)} (h : Inv xr xi ar ai 1024 V) : V (Proc.devRef .tc main_v7_8) = Gi xr xi ar ai := by
  funext i
  idx_vars i
  exact h.si i0 i1 i0.isLt

/-- The states before every chunk, imaginary parts. -/
theorem res1 (c : Dev nD) : (STEP^[1024] (entryContents preI m c)) (Proc.devRef .tc main_v7_8) = Gi (m ((c.tc : Thread nD τ).loc main_arg0)) (m ((c.tc : Thread nD τ).loc main_arg1)) (m ((c.tc : Thread nD τ).loc main_arg2)) (m ((c.tc : Thread nD τ).loc main_arg3)) :=
  res1_of (iter_inv m c 1024 (le_refl _))

/-- The last state, real part. -/
theorem res2_of {V : Valuation τ sig (Elt Ideal)} (h : Inv xr xi ar ai 1024 V) : out_main_v8 V = Fr xr xi ar ai := by
  funext i
  idx_vars i
  exact (spread _ i0 i1).trans (h.hr i1)

/-- The last state, real part. -/
theorem res2 (c : Dev nD) : out_main_v8 (STEP^[1024] (entryContents preI m c)) = Fr (m ((c.tc : Thread nD τ).loc main_arg0)) (m ((c.tc : Thread nD τ).loc main_arg1)) (m ((c.tc : Thread nD τ).loc main_arg2)) (m ((c.tc : Thread nD τ).loc main_arg3)) :=
  res2_of (iter_inv m c 1024 (le_refl _))

/-- The last state, imaginary part. -/
theorem res3_of {V : Valuation τ sig (Elt Ideal)} (h : Inv xr xi ar ai 1024 V) : out_main_v9 V = Fi xr xi ar ai := by
  funext i
  idx_vars i
  exact (spread _ i0 i1).trans (h.hi i1)

/-- The last state, imaginary part. -/
theorem res3 (c : Dev nD) : out_main_v9 (STEP^[1024] (entryContents preI m c)) = Fi (m ((c.tc : Thread nD τ).loc main_arg0)) (m ((c.tc : Thread nD τ).loc main_arg1)) (m ((c.tc : Thread nD τ).loc main_arg2)) (m ((c.tc : Thread nD τ).loc main_arg3)) :=
  res3_of (iter_inv m c 1024 (le_refl _))

end Cert.ScanRefIdeal.Whole

/-! ## The claims -/

namespace Cert.Proof.Scan

open Idealize.ShloMosaic Idealize.ShloMosaic.TcCoe Idealize.SL.Sem

/-- The kernel runs to its end and keeps its arguments. -/
theorem frame : Cert.quiescent_Scan := fun m ρ _ => Cert.Scan.Gen.frame m ρ

/-- So does its idealized form. -/
theorem frameI : Cert.quiescent_ScanIdeal := fun m ρ _ => Cert.ScanIdeal.Gen.frame m ρ

/-- So does the host program. -/
theorem frameR : Cert.quiescent_ScanRefIdeal := fun m ρ _ =>
  (θ_run Cert.ScanRefIdeal.defs _ _).mono (fun r h => ⟨fun c => (h c).2.2.2.2,
      Idealize.ShloMosaic.sem_eq_zero_of_no_sems (by decide) r.2⟩)
    (Cert.ScanRefIdeal.Value.run (F := Ideal) m ρ)

/-- Nothing was rewritten on the way to the idealized form. -/
theorem preserves : Cert.preserves_Scan_ScanIdeal := trivial

/-- The kernel and the host program compute the same function. -/
theorem algebraic : Cert.algebraic_ScanIdeal_ScanRefIdeal := by
  intro m ρ m' ρ' _ hag
  refine ⟨fun c => Cert.ScanIdeal.Whole.Gr (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)),
    fun c => Cert.ScanIdeal.Whole.Gi (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)),
    fun c => Cert.ScanIdeal.Whole.Fr (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)),
    fun c => Cert.ScanIdeal.Whole.Fi (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)),
    Cert.ScanIdeal.Whole.run m ρ, ?_⟩
  refine (θ_run Cert.ScanRefIdeal.defs _ _).mono (fun _ h c => ⟨(h c).1.trans ?_, (h c).2.1.trans ?_, (h c).2.2.1.trans ?_, (h c).2.2.2.1.trans ?_, (h c).2.2.2.2⟩)
    (Cert.ScanRefIdeal.Value.run (F := Ideal) m' ρ')
  · refine (Cert.ScanRefIdeal.Whole.res0 m' c).trans ?_
    rw [(hag c).1, (hag c).2.1, (hag c).2.2.1, (hag c).2.2.2]
  · refine (Cert.ScanRefIdeal.Whole.res1 m' c).trans ?_
    rw [(hag c).1, (hag c).2.1, (hag c).2.2.1, (hag c).2.2.2]
  · refine (Cert.ScanRefIdeal.Whole.res2 m' c).trans ?_
    rw [(hag c).1, (hag c).2.1, (hag c).2.2.1, (hag c).2.2.2]
  · refine (Cert.ScanRefIdeal.Whole.res3 m' c).trans ?_
    rw [(hag c).1, (hag c).2.1, (hag c).2.2.1, (hag c).2.2.2]

end Cert.Proof.Scan
-- ==== Proof.Value.CoefHost.lean ====
/-
  The recurrence's coefficients: the host's arrangements of the arguments, and the block of each at a point of the grid.
-/
module

public import proofs.«01_k».proof.Defs
public import proofs.«01_k».proof.Proof.Gen.CoefIdeal.Value
public import Idealize.ShloMosaic.Lib.Pipeline.Value
public import Idealize.ShloMosaic.Lib.Quiescent
public import Idealize.ShloMosaic.Lib.Pointwise
public import Idealize.ShloMosaic.Lib.ValueLayout

@[expose] public section

set_option maxRecDepth 16384

noncomputable section

namespace Cert.CoefIdeal.Whole

open Cert.CoefIdeal Cert.CoefIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 64 points. -/
theorem lt_N (t : Fin cfg0.N) : t.val < 64 := by
  have h : cfg0.N = 64 := N_0
  have := t.isLt
  omega

/-- The pair of groups a point of the grid works on. -/
def pr (t : Fin cfg0.N) : Fin 64 := ⟨t.val, lt_N t⟩

/-- The group of a state's place among a pair's 128. -/
def gr (q : Fin 64) (l : Fin 128) : Fin 128 := ⟨2 * q.val + l.val / 64, by omega⟩

/-- The state of a place. -/
def st (l : Fin 128) : Fin 64 := ⟨l.val % 64, by omega⟩

/-- The channel of a place among a pair's 256 of step and channel. -/
def ch (r : Fin 256) : Fin 16 := ⟨r.val % 16, by omega⟩

/-- The eigenvalues' re parts as a row of each pair. -/
theorem row_re (c : Dev nD) (q : Fin 64) (l : Fin 128) : V m c main_v2 (ix3 q 0 l : S64x1x128.Idx) = m ((c : Thread nD τ).loc main_arg0) (ix2 (gr q l) (st l) : S128x64.Idx) := by
  have h : V m c main_v2 = shapeCast S64x1x128 (m ((c : Thread nD τ).loc main_arg0)) shapeCasts_S128x64_S64x1x128 := rfl
  rw [h]
  refine shapeCast_apply _ _ (ix3 q 0 l : S64x1x128.Idx) (ix2 (gr q l) (st l) : S128x64.Idx) ?_
  rw [Shape.rowMajor_val_two, Shape.rowMajor_val_three]
  show (2 * q.val + l.val / 64) * 64 + l.val % 64 = (q.val * 1 + 0) * 128 + l.val
  omega

/-- The same as a column. -/
theorem col_re (c : Dev nD) (q : Fin 64) (l : Fin 128) : V m c main_v5 (ix3 q l 0 : S64x128x1.Idx) = m ((c : Thread nD τ).loc main_arg0) (ix2 (gr q l) (st l) : S128x64.Idx) := by
  have h : V m c main_v5 = shapeCast S64x128x1 (m ((c : Thread nD τ).loc main_arg0)) shapeCasts_S128x64_S64x128x1 := rfl
  rw [h]
  refine shapeCast_apply _ _ (ix3 q l 0 : S64x128x1.Idx) (ix2 (gr q l) (st l) : S128x64.Idx) ?_
  rw [Shape.rowMajor_val_two, Shape.rowMajor_val_three]
  show (2 * q.val + l.val / 64) * 64 + l.val % 64 = (q.val * 128 + l.val) * 1 + 0
  omega

/-- The eigenvalues' im parts as a row of each pair. -/
theorem row_im (c : Dev nD) (q : Fin 64) (l : Fin 128) : V m c main_v3 (ix3 q 0 l : S64x1x128.Idx) = m ((c : Thread nD τ).loc main_arg1) (ix2 (gr q l) (st l) : S128x64.Idx) := by
  have h : V m c main_v3 = shapeCast S64x1x128 (m ((c : Thread nD τ).loc main_arg1)) shapeCasts_S128x64_S64x1x128 := rfl
  rw [h]
  refine shapeCast_apply _ _ (ix3 q 0 l : S64x1x128.Idx) (ix2 (gr q l) (st l) : S128x64.Idx) ?_
  rw [Shape.rowMajor_val_two, Shape.rowMajor_val_three]
  show (2 * q.val + l.val / 64) * 64 + l.val % 64 = (q.val * 1 + 0) * 128 + l.val
  omega

/-- The same as a column. -/
theorem col_im (c : Dev nD) (q : Fin 64) (l : Fin 128) : V m c main_v6 (ix3 q l 0 : S64x128x1.Idx) = m ((c : Thread nD τ).loc main_arg1) (ix2 (gr q l) (st l) : S128x64.Idx) := by
  have h : V m c main_v6 = shapeCast S64x128x1 (m ((c : Thread nD τ).loc main_arg1)) shapeCasts_S128x64_S64x128x1 := rfl
  rw [h]
  refine shapeCast_apply _ _ (ix3 q l 0 : S64x128x1.Idx) (ix2 (gr q l) (st l) : S128x64.Idx) ?_
  rw [Shape.rowMajor_val_two, Shape.rowMajor_val_three]
  show (2 * q.val + l.val / 64) * 64 + l.val % 64 = (q.val * 128 + l.val) * 1 + 0
  omega

/-- The logarithm of the step of each group, for each of its states. -/
def steps {F : FTy → Type} [FloatOps F] (x : Vec F S128 .f32) : Vec F S128x64 .f32 :=
  broadcastInDim S128x64 ![0, 1] bcast_S128x1_S128x64_0_1 (broadcastInDim S128x1 ![0] bcast_S128_S128x1_0 x)

/-- It does not depend on the state. -/
theorem steps_apply (x : Vec Ideal S128 .f32) (g : Fin 128) (p : Fin 64) : steps (F := Ideal) x (ix2 g p) = x (ix1 g) := by
  pointwise [steps]

/-- The steps as a row of each pair. -/
theorem row_st (c : Dev nD) (q : Fin 64) (l : Fin 128) : V m c main_v4 (ix3 q 0 l : S64x1x128.Idx) = m ((c : Thread nD τ).loc main_arg2) (ix1 (gr q l) : S128.Idx) := by
  have h : V m c main_v4 = shapeCast S64x1x128 (steps (F := Ideal) (m ((c : Thread nD τ).loc main_arg2))) shapeCasts_S128x64_S64x1x128 := rfl
  rw [h]
  refine (shapeCast_apply _ _ (ix3 q 0 l : S64x1x128.Idx) (ix2 (gr q l) (st l) : S128x64.Idx) ?_).trans (steps_apply _ _ _)
  rw [Shape.rowMajor_val_two, Shape.rowMajor_val_three]
  show (2 * q.val + l.val / 64) * 64 + l.val % 64 = (q.val * 1 + 0) * 128 + l.val
  omega

/-- The same as a column. -/
theorem col_st (c : Dev nD) (q : Fin 64) (l : Fin 128) : V m c main_v7 (ix3 q l 0 : S64x128x1.Idx) = m ((c : Thread nD τ).loc main_arg2) (ix1 (gr q l) : S128.Idx) := by
  have h : V m c main_v7 = shapeCast S64x128x1 (steps (F := Ideal) (m ((c : Thread nD τ).loc main_arg2))) shapeCasts_S128x64_S64x128x1 := rfl
  rw [h]
  refine (shapeCast_apply _ _ (ix3 q l 0 : S64x128x1.Idx) (ix2 (gr q l) (st l) : S128x64.Idx) ?_).trans (steps_apply _ _ _)
  rw [Shape.rowMajor_val_two, Shape.rowMajor_val_three]
  show (2 * q.val + l.val / 64) * 64 + l.val % 64 = (q.val * 128 + l.val) * 1 + 0
  omega

/-- The input matrix with the channels before the states, a pair's two groups apart. -/
def bA {F : FTy → Type} [FloatOps F] (b : Vec F S128x64x16 .f32) : Vec F S64x2x16x64 .f32 :=
  shapeCast S64x2x16x64 (transpose S128x16x64 [0, 2, 1] b transposes_S128x64x16_S128x16x64_0_2_1) shapeCasts_S128x16x64_S64x2x16x64

/-- The two groups' states side by side. -/
def bB {F : FTy → Type} [FloatOps F] (x : Vec F S64x2x16x64 .f32) : Vec F S64x1x16x128 .f32 :=
  shapeCast S64x1x16x128 (transpose S64x16x2x64 [0, 2, 1, 3] x transposes_S64x2x16x64_S64x16x2x64_0_2_1_3) shapeCasts_S64x16x2x64_S64x1x16x128

/-- Repeated for each half and step. -/
def bC {F : FTy → Type} [FloatOps F] (x : Vec F S64x1x16x128 .f32) : Vec F S64x256x128 .f32 :=
  shapeCast S64x256x128 (broadcastInDim S64x16x16x128 ![0, 1, 2, 3] bcast_S64x1x16x128_S64x16x16x128_0_1_2_3 x) shapeCasts_S64x16x16x128_S64x256x128

/-- The first arrangement at an entry. -/
theorem bA_apply (b : Vec Ideal S128x64x16 .f32) (q : Fin 64) (h : Fin 2) (k : Fin 16) (p : Fin 64) :
    bA (F := Ideal) b (ix4 q h k p) = b (ix3 ⟨2 * q.val + h.val, by omega⟩ p k) := by
  unfold bA
  refine (shapeCast_apply _ _ (ix4 q h k p : S64x2x16x64.Idx) (ix3 ⟨2 * q.val + h.val, by omega⟩ k p : S128x16x64.Idx) ?_).trans ?_
  · rw [Shape.rowMajor_val_four, Shape.rowMajor_val_three]
    show ((2 * q.val + h.val) * 16 + k.val) * 64 + p.val = ((q.val * 2 + h.val) * 16 + k.val) * 64 + p.val
    omega
  pointwise

/-- The second at an entry. -/
theorem bB_apply (x : Vec Ideal S64x2x16x64 .f32) (q : Fin 64) (k : Fin 16) (l : Fin 128) :
    bB (F := Ideal) x (ix4 q 0 k l) = x (ix4 q ⟨l.val / 64, by omega⟩ k (st l)) := by
  unfold bB
  refine (shapeCast_apply _ _ (ix4 q 0 k l : S64x1x16x128.Idx) (ix4 q k ⟨l.val / 64, by omega⟩ (st l) : S64x16x2x64.Idx) ?_).trans ?_
  · rw [Shape.rowMajor_val_four, Shape.rowMajor_val_four]
    show ((q.val * 16 + k.val) * 2 + l.val / 64) * 64 + l.val % 64 = ((q.val * 1 + 0) * 16 + k.val) * 128 + l.val
    omega
  pointwise

/-- The third at an entry. -/
theorem bC_apply (x : Vec Ideal S64x1x16x128 .f32) (q : Fin 64) (r : Fin 256) (l : Fin 128) :
    bC (F := Ideal) x (ix3 q r l) = x (ix4 q 0 (ch r) l) := by
  unfold bC
  refine (shapeCast_apply _ _ (ix3 q r l : S64x256x128.Idx) (ix4 q ⟨r.val / 16, by omega⟩ (ch r) l : S64x16x16x128.Idx) ?_).trans ?_
  · rw [Shape.rowMajor_val_four, Shape.rowMajor_val_three]
    show ((q.val * 16 + r.val / 16) * 16 + r.val % 16) * 128 + l.val = (q.val * 256 + r.val) * 128 + l.val
    omega
  pointwise

/-- The output matrix with the states before the channels. -/
def cA {F : FTy → Type} [FloatOps F] (b : Vec F S128x16x64 .f32) : Vec F S64x128x1x16 .f32 :=
  shapeCast S64x128x1x16 (transpose S128x64x16 [0, 2, 1] b transposes_S128x16x64_S128x64x16_0_2_1) shapeCasts_S128x64x16_S64x128x1x16

/-- Repeated for each half and step. -/
def cB {F : FTy → Type} [FloatOps F] (x : Vec F S64x128x1x16 .f32) : Vec F S64x128x256 .f32 :=
  shapeCast S64x128x256 (broadcastInDim S64x128x16x16 ![0, 1, 2, 3] bcast_S64x128x1x16_S64x128x16x16_0_1_2_3 x) shapeCasts_S64x128x16x16_S64x128x256

/-- The first arrangement at an entry. -/
theorem cA_apply (b : Vec Ideal S128x16x64 .f32) (q : Fin 64) (l : Fin 128) (k : Fin 16) :
    cA (F := Ideal) b (ix4 q l 0 k) = b (ix3 (gr q l) k (st l)) := by
  unfold cA
  refine (shapeCast_apply _ _ (ix4 q l 0 k : S64x128x1x16.Idx) (ix3 (gr q l) (st l) k : S128x64x16.Idx) ?_).trans ?_
  · rw [Shape.rowMajor_val_four, Shape.rowMajor_val_three]
    show ((2 * q.val + l.val / 64) * 64 + l.val % 64) * 16 + k.val = ((q.val * 128 + l.val) * 1 + 0) * 16 + k.val
    omega
  pointwise

/-- The second at an entry. -/
theorem cB_apply (x : Vec Ideal S64x128x1x16 .f32) (q : Fin 64) (l : Fin 128) (r : Fin 256) :
    cB (F := Ideal) x (ix3 q l r) = x (ix4 q l 0 (ch r)) := by
  unfold cB
  refine (shapeCast_apply _ _ (ix3 q l r : S64x128x256.Idx) (ix4 q l ⟨r.val / 16, by omega⟩ (ch r) : S64x128x16x16.Idx) ?_).trans ?_
  · rw [Shape.rowMajor_val_four, Shape.rowMajor_val_three]
    show ((q.val * 128 + l.val) * 16 + r.val / 16) * 16 + r.val % 16 = (q.val * 128 + l.val) * 256 + r.val
    omega
  pointwise

/-- The arranged input matrix's re part. -/
theorem mat_bre (c : Dev nD) (q : Fin 64) (r : Fin 256) (l : Fin 128) : V m c main_v13 (ix3 q r l : S64x256x128.Idx) = m ((c : Thread nD τ).loc main_arg3) (ix3 (gr q l) (st l) (ch r) : S128x64x16.Idx) := by
  have h : V m c main_v13 = bC (F := Ideal) (bB (bA (m ((c : Thread nD τ).loc main_arg3)))) := rfl
  rw [h, bC_apply, bB_apply, bA_apply]
  rfl

/-- The arranged input matrix's im part. -/
theorem mat_bim (c : Dev nD) (q : Fin 64) (r : Fin 256) (l : Fin 128) : V m c main_v19 (ix3 q r l : S64x256x128.Idx) = m ((c : Thread nD τ).loc main_arg4) (ix3 (gr q l) (st l) (ch r) : S128x64x16.Idx) := by
  have h : V m c main_v19 = bC (F := Ideal) (bB (bA (m ((c : Thread nD τ).loc main_arg4)))) := rfl
  rw [h, bC_apply, bB_apply, bA_apply]
  rfl

/-- The arranged output matrix's re part. -/
theorem mat_cre (c : Dev nD) (q : Fin 64) (l : Fin 128) (r : Fin 256) : V m c main_v23 (ix3 q l r : S64x128x256.Idx) = m ((c : Thread nD τ).loc main_arg5) (ix3 (gr q l) (ch r) (st l) : S128x16x64.Idx) := by
  have h : V m c main_v23 = cB (F := Ideal) (cA (m ((c : Thread nD τ).loc main_arg5))) := rfl
  rw [h, cB_apply, cA_apply]

/-- The arranged output matrix's im part. -/
theorem mat_cim (c : Dev nD) (q : Fin 64) (l : Fin 128) (r : Fin 256) : V m c main_v27 (ix3 q l r : S64x128x256.Idx) = m ((c : Thread nD τ).loc main_arg6) (ix3 (gr q l) (ch r) (st l) : S128x16x64.Idx) := by
  have h : V m c main_v27 = cB (F := Ideal) (cA (m ((c : Thread nD τ).loc main_arg6))) := rfl
  rw [h, cB_apply, cA_apply]

/-- The block index of window 0 at a point. -/
theorem index_0 : ∀ t : Fin grid0.N, win0_0.index t 0 = t.val ∧ win0_0.index t 1 = 0 ∧ win0_0.index t 2 = 0 := by
  decide +kernel

/-- The block of window 0 at point `t`, entry by entry. -/
theorem iblk_0 (c : Dev nD) (t : Fin cfg0.N) (l : Fin 128) :
    iblk m c 0 t (ix3 0 0 l : S1x1x128.Idx) = m ((c : Thread nD τ).loc main_arg0) (ix2 (gr (pr t) l) (st l) : S128x64.Idx) := by
  refine Eq.trans ?_ (row_re m c (pr t) l)
  show V m c main_v2 (((cfg0.win 0).blk t).view.emb (ix3 0 0 l : S1x1x128.Idx)) = _
  congr 1
  funext a
  apply Fin.ext
  match a with
  | ⟨0, _⟩ => show win0_0.index t 0 * 1 + 1 * 0 = _
              rw [(index_0 t).1]
              show t.val * 1 + 1 * 0 = t.val
              omega
  | ⟨1, _⟩ => show win0_0.index t 1 * 1 + 1 * 0 = _
              rw [(index_0 t).2.1]
              show 0 * 1 + 1 * 0 = 0
              omega
  | ⟨2, _⟩ => show win0_0.index t 2 * 128 + 1 * l.val = _
              rw [(index_0 t).2.2]
              show 0 * 128 + 1 * l.val = l.val
              omega

/-- The block index of window 1 at a point. -/
theorem index_1 : ∀ t : Fin grid0.N, win0_1.index t 0 = t.val ∧ win0_1.index t 1 = 0 ∧ win0_1.index t 2 = 0 := by
  decide +kernel

/-- The block of window 1 at point `t`, entry by entry. -/
theorem iblk_1 (c : Dev nD) (t : Fin cfg0.N) (l : Fin 128) :
    iblk m c 1 t (ix3 0 0 l : S1x1x128.Idx) = m ((c : Thread nD τ).loc main_arg1) (ix2 (gr (pr t) l) (st l) : S128x64.Idx) := by
  refine Eq.trans ?_ (row_im m c (pr t) l)
  show V m c main_v3 (((cfg0.win 1).blk t).view.emb (ix3 0 0 l : S1x1x128.Idx)) = _
  congr 1
  funext a
  apply Fin.ext
  match a with
  | ⟨0, _⟩ => show win0_1.index t 0 * 1 + 1 * 0 = _
              rw [(index_1 t).1]
              show t.val * 1 + 1 * 0 = t.val
              omega
  | ⟨1, _⟩ => show win0_1.index t 1 * 1 + 1 * 0 = _
              rw [(index_1 t).2.1]
              show 0 * 1 + 1 * 0 = 0
              omega
  | ⟨2, _⟩ => show win0_1.index t 2 * 128 + 1 * l.val = _
              rw [(index_1 t).2.2]
              show 0 * 128 + 1 * l.val = l.val
              omega

/-- The block index of window 2 at a point. -/
theorem index_2 : ∀ t : Fin grid0.N, win0_2.index t 0 = t.val ∧ win0_2.index t 1 = 0 ∧ win0_2.index t 2 = 0 := by
  decide +kernel

/-- The block of window 2 at point `t`, entry by entry. -/
theorem iblk_2 (c : Dev nD) (t : Fin cfg0.N) (l : Fin 128) :
    iblk m c 2 t (ix3 0 0 l : S1x1x128.Idx) = m ((c : Thread nD τ).loc main_arg2) (ix1 (gr (pr t) l) : S128.Idx) := by
  refine Eq.trans ?_ (row_st m c (pr t) l)
  show V m c main_v4 (((cfg0.win 2).blk t).view.emb (ix3 0 0 l : S1x1x128.Idx)) = _
  congr 1
  funext a
  apply Fin.ext
  match a with
  | ⟨0, _⟩ => show win0_2.index t 0 * 1 + 1 * 0 = _
              rw [(index_2 t).1]
              show t.val * 1 + 1 * 0 = t.val
              omega
  | ⟨1, _⟩ => show win0_2.index t 1 * 1 + 1 * 0 = _
              rw [(index_2 t).2.1]
              show 0 * 1 + 1 * 0 = 0
              omega
  | ⟨2, _⟩ => show win0_2.index t 2 * 128 + 1 * l.val = _
              rw [(index_2 t).2.2]
              show 0 * 128 + 1 * l.val = l.val
              omega

/-- The block index of window 3 at a point. -/
theorem index_3 : ∀ t : Fin grid0.N, win0_3.index t 0 = t.val ∧ win0_3.index t 1 = 0 ∧ win0_3.index t 2 = 0 := by
  decide +kernel

/-- The block of window 3 at point `t`, entry by entry. -/
theorem iblk_3 (c : Dev nD) (t : Fin cfg0.N) (k : Fin 128) :
    iblk m c 3 t (ix3 0 k 0 : S1x128x1.Idx) = m ((c : Thread nD τ).loc main_arg0) (ix2 (gr (pr t) k) (st k) : S128x64.Idx) := by
  refine Eq.trans ?_ (col_re m c (pr t) k)
  show V m c main_v5 (((cfg0.win 3).blk t).view.emb (ix3 0 k 0 : S1x128x1.Idx)) = _
  congr 1
  funext a
  apply Fin.ext
  match a with
  | ⟨0, _⟩ => show win0_3.index t 0 * 1 + 1 * 0 = _
              rw [(index_3 t).1]
              show t.val * 1 + 1 * 0 = t.val
              omega
  | ⟨1, _⟩ => show win0_3.index t 1 * 128 + 1 * k.val = _
              rw [(index_3 t).2.1]
              show 0 * 128 + 1 * k.val = k.val
              omega
  | ⟨2, _⟩ => show win0_3.index t 2 * 1 + 1 * 0 = _
              rw [(index_3 t).2.2]
              show 0 * 1 + 1 * 0 = 0
              omega

/-- The block index of window 4 at a point. -/
theorem index_4 : ∀ t : Fin grid0.N, win0_4.index t 0 = t.val ∧ win0_4.index t 1 = 0 ∧ win0_4.index t 2 = 0 := by
  decide +kernel

/-- The block of window 4 at point `t`, entry by entry. -/
theorem iblk_4 (c : Dev nD) (t : Fin cfg0.N) (k : Fin 128) :
    iblk m c 4 t (ix3 0 k 0 : S1x128x1.Idx) = m ((c : Thread nD τ).loc main_arg1) (ix2 (gr (pr t) k) (st k) : S128x64.Idx) := by
  refine Eq.trans ?_ (col_im m c (pr t) k)
  show V m c main_v6 (((cfg0.win 4).blk t).view.emb (ix3 0 k 0 : S1x128x1.Idx)) = _
  congr 1
  funext a
  apply Fin.ext
  match a with
  | ⟨0, _⟩ => show win0_4.index t 0 * 1 + 1 * 0 = _
              rw [(index_4 t).1]
              show t.val * 1 + 1 * 0 = t.val
              omega
  | ⟨1, _⟩ => show win0_4.index t 1 * 128 + 1 * k.val = _
              rw [(index_4 t).2.1]
              show 0 * 128 + 1 * k.val = k.val
              omega
  | ⟨2, _⟩ => show win0_4.index t 2 * 1 + 1 * 0 = _
              rw [(index_4 t).2.2]
              show 0 * 1 + 1 * 0 = 0
              omega

/-- The block index of window 5 at a point. -/
theorem index_5 : ∀ t : Fin grid0.N, win0_5.index t 0 = t.val ∧ win0_5.index t 1 = 0 ∧ win0_5.index t 2 = 0 := by
  decide +kernel

/-- The block of window 5 at point `t`, entry by entry. -/
theorem iblk_5 (c : Dev nD) (t : Fin cfg0.N) (k : Fin 128) :
    iblk m c 5 t (ix3 0 k 0 : S1x128x1.Idx) = m ((c : Thread nD τ).loc main_arg2) (ix1 (gr (pr t) k) : S128.Idx) := by
  refine Eq.trans ?_ (col_st m c (pr t) k)
  show V m c main_v7 (((cfg0.win 5).blk t).view.emb (ix3 0 k 0 : S1x128x1.Idx)) = _
  congr 1
  funext a
  apply Fin.ext
  match a with
  | ⟨0, _⟩ => show win0_5.index t 0 * 1 + 1 * 0 = _
              rw [(index_5 t).1]
              show t.val * 1 + 1 * 0 = t.val
              omega
  | ⟨1, _⟩ => show win0_5.index t 1 * 128 + 1 * k.val = _
              rw [(index_5 t).2.1]
              show 0 * 128 + 1 * k.val = k.val
              omega
  | ⟨2, _⟩ => show win0_5.index t 2 * 1 + 1 * 0 = _
              rw [(index_5 t).2.2]
              show 0 * 1 + 1 * 0 = 0
              omega

/-- The block index of window 6 at a point. -/
theorem index_6 : ∀ t : Fin grid0.N, win0_6.index t 0 = t.val ∧ win0_6.index t 1 = 0 ∧ win0_6.index t 2 = 0 := by
  decide +kernel

/-- The block of window 6 at point `t`, entry by entry. -/
theorem iblk_6 (c : Dev nD) (t : Fin cfg0.N) (k : Fin 256) (l : Fin 128) :
    iblk m c 6 t (ix3 0 k l : S1x256x128.Idx) = m ((c : Thread nD τ).loc main_arg3) (ix3 (gr (pr t) l) (st l) (ch k) : S128x64x16.Idx) := by
  refine Eq.trans ?_ (mat_bre m c (pr t) k l)
  show V m c main_v13 (((cfg0.win 6).blk t).view.emb (ix3 0 k l : S1x256x128.Idx)) = _
  congr 1
  funext a
  apply Fin.ext
  match a with
  | ⟨0, _⟩ => show win0_6.index t 0 * 1 + 1 * 0 = _
              rw [(index_6 t).1]
              show t.val * 1 + 1 * 0 = t.val
              omega
  | ⟨1, _⟩ => show win0_6.index t 1 * 256 + 1 * k.val = _
              rw [(index_6 t).2.1]
              show 0 * 256 + 1 * k.val = k.val
              omega
  | ⟨2, _⟩ => show win0_6.index t 2 * 128 + 1 * l.val = _
              rw [(index_6 t).2.2]
              show 0 * 128 + 1 * l.val = l.val
              omega

/-- The block index of window 7 at a point. -/
theorem index_7 : ∀ t : Fin grid0.N, win0_7.index t 0 = t.val ∧ win0_7.index t 1 = 0 ∧ win0_7.index t 2 = 0 := by
  decide +kernel

/-- The block of window 7 at point `t`, entry by entry. -/
theorem iblk_7 (c : Dev nD) (t : Fin cfg0.N) (k : Fin 256) (l : Fin 128) :
    iblk m c 7 t (ix3 0 k l : S1x256x128.Idx) = m ((c : Thread nD τ).loc main_arg4) (ix3 (gr (pr t) l) (st l) (ch k) : S128x64x16.Idx) := by
  refine Eq.trans ?_ (mat_bim m c (pr t) k l)
  show V m c main_v19 (((cfg0.win 7).blk t).view.emb (ix3 0 k l : S1x256x128.Idx)) = _
  congr 1
  funext a
  apply Fin.ext
  match a with
  | ⟨0, _⟩ => show win0_7.index t 0 * 1 + 1 * 0 = _
              rw [(index_7 t).1]
              show t.val * 1 + 1 * 0 = t.val
              omega
  | ⟨1, _⟩ => show win0_7.index t 1 * 256 + 1 * k.val = _
              rw [(index_7 t).2.1]
              show 0 * 256 + 1 * k.val = k.val
              omega
  | ⟨2, _⟩ => show win0_7.index t 2 * 128 + 1 * l.val = _
              rw [(index_7 t).2.2]
              show 0 * 128 + 1 * l.val = l.val
              omega

/-- The block index of window 8 at a point. -/
theorem index_8 : ∀ t : Fin grid0.N, win0_8.index t 0 = t.val ∧ win0_8.index t 1 = 0 ∧ win0_8.index t 2 = 0 := by
  decide +kernel

/-- The block of window 8 at point `t`, entry by entry. -/
theorem iblk_8 (c : Dev nD) (t : Fin cfg0.N) (k : Fin 128) (l : Fin 256) :
    iblk m c 8 t (ix3 0 k l : S1x128x256.Idx) = m ((c : Thread nD τ).loc main_arg5) (ix3 (gr (pr t) k) (ch l) (st k) : S128x16x64.Idx) := by
  refine Eq.trans ?_ (mat_cre m c (pr t) k l)
  show V m c main_v23 (((cfg0.win 8).blk t).view.emb (ix3 0 k l : S1x128x256.Idx)) = _
  congr 1
  funext a
  apply Fin.ext
  match a with
  | ⟨0, _⟩ => show win0_8.index t 0 * 1 + 1 * 0 = _
              rw [(index_8 t).1]
              show t.val * 1 + 1 * 0 = t.val
              omega
  | ⟨1, _⟩ => show win0_8.index t 1 * 128 + 1 * k.val = _
              rw [(index_8 t).2.1]
              show 0 * 128 + 1 * k.val = k.val
              omega
  | ⟨2, _⟩ => show win0_8.index t 2 * 256 + 1 * l.val = _
              rw [(index_8 t).2.2]
              show 0 * 256 + 1 * l.val = l.val
              omega

/-- The block index of window 9 at a point. -/
theorem index_9 : ∀ t : Fin grid0.N, win0_9.index t 0 = t.val ∧ win0_9.index t 1 = 0 ∧ win0_9.index t 2 = 0 := by
  decide +kernel

/-- The block of window 9 at point `t`, entry by entry. -/
theorem iblk_9 (c : Dev nD) (t : Fin cfg0.N) (k : Fin 128) (l : Fin 256) :
    iblk m c 9 t (ix3 0 k l : S1x128x256.Idx) = m ((c : Thread nD τ).loc main_arg6) (ix3 (gr (pr t) k) (ch l) (st k) : S128x16x64.Idx) := by
  refine Eq.trans ?_ (mat_cim m c (pr t) k l)
  show V m c main_v27 (((cfg0.win 9).blk t).view.emb (ix3 0 k l : S1x128x256.Idx)) = _
  congr 1
  funext a
  apply Fin.ext
  match a with
  | ⟨0, _⟩ => show win0_9.index t 0 * 1 + 1 * 0 = _
              rw [(index_9 t).1]
              show t.val * 1 + 1 * 0 = t.val
              omega
  | ⟨1, _⟩ => show win0_9.index t 1 * 128 + 1 * k.val = _
              rw [(index_9 t).2.1]
              show 0 * 128 + 1 * k.val = k.val
              omega
  | ⟨2, _⟩ => show win0_9.index t 2 * 256 + 1 * l.val = _
              rw [(index_9 t).2.2]
              show 0 * 256 + 1 * l.val = l.val
              omega

/-- The block index of window 10 at a point. -/
theorem index_10 : ∀ t : Fin grid0.N, win0_10.index t 0 = t.val ∧ win0_10.index t 1 = 0 ∧ win0_10.index t 2 = 0 := by
  decide +kernel

/-- Where an entry of point `t`'s block of window 10 lies in the whole array. -/
theorem emb_10 (t : Fin cfg0.N) (r : Fin 1) (k : Fin 256) (l : Fin 256) :
    (win0_10.blk t).view.emb (ix3 r k l : S1x256x256.Idx) = (ix3 (pr t) k l : S64x256x256.Idx) := by
  funext a
  apply Fin.ext
  match a with
  | ⟨0, _⟩ => show win0_10.index t 0 * 1 + 1 * r.val = _
              rw [(index_10 t).1]
              show t.val * 1 + 1 * r.val = t.val
              omega
  | ⟨1, _⟩ => show win0_10.index t 1 * 256 + 1 * k.val = _
              rw [(index_10 t).2.1]
              show 0 * 256 + 1 * k.val = k.val
              omega
  | ⟨2, _⟩ => show win0_10.index t 2 * 256 + 1 * l.val = _
              rw [(index_10 t).2.2]
              show 0 * 256 + 1 * l.val = l.val
              omega

/-- The blocks of window 10 fill the result. -/
theorem cover_10 (i : S64x256x256.Idx) :
    ∃ t : Fin cfg0.N, (cfg0.win 10).flush t = true ∧ i ∈ ((cfg0.win 10).blk t).view.set := by
  have h0 : (i 0 : Nat) < 64 := (i 0).isLt
  have h1 : (i 1 : Nat) < 256 := (i 1).isLt
  have h2 : (i 2 : Nat) < 256 := (i 2).isLt
  have hN : cfg0.N = 64 := N_0
  obtain ⟨t, ht⟩ : ∃ t : Fin cfg0.N, t.val = (i 0 : Nat) := ⟨⟨(i 0 : Nat), by omega⟩, rfl⟩
  refine ⟨t, flush0_10 t, ?_⟩
  show i ∈ ((View.whole main_v28_0).slice (win0_10.rect t)).set
  rw [View.set_slice_whole, Rect.mem_set_unit]
  intro a
  match a with
  | ⟨0, _⟩ => show win0_10.index t 0 * win0_10.size 0 ≤ (i 0 : Nat) ∧ (i 0 : Nat) < win0_10.index t 0 * win0_10.size 0 + 1
              rw [(index_10 t).1]
              show t.val * 1 ≤ (i 0 : Nat) ∧ (i 0 : Nat) < t.val * 1 + 1
              omega
  | ⟨1, _⟩ => show win0_10.index t 1 * win0_10.size 1 ≤ (i 1 : Nat) ∧ (i 1 : Nat) < win0_10.index t 1 * win0_10.size 1 + 256
              rw [(index_10 t).2.1]
              show 0 * 256 ≤ (i 1 : Nat) ∧ (i 1 : Nat) < 0 * 256 + 256
              omega
  | ⟨2, _⟩ => show win0_10.index t 2 * win0_10.size 2 ≤ (i 2 : Nat) ∧ (i 2 : Nat) < win0_10.index t 2 * win0_10.size 2 + 256
              rw [(index_10 t).2.2]
              show 0 * 256 ≤ (i 2 : Nat) ∧ (i 2 : Nat) < 0 * 256 + 256
              omega

/-- The block index of window 11 at a point. -/
theorem index_11 : ∀ t : Fin grid0.N, win0_11.index t 0 = t.val ∧ win0_11.index t 1 = 0 ∧ win0_11.index t 2 = 0 := by
  decide +kernel

/-- Where an entry of point `t`'s block of window 11 lies in the whole array. -/
theorem emb_11 (t : Fin cfg0.N) (r : Fin 1) (k : Fin 256) (l : Fin 256) :
    (win0_11.blk t).view.emb (ix3 r k l : S1x256x256.Idx) = (ix3 (pr t) k l : S64x256x256.Idx) := by
  funext a
  apply Fin.ext
  match a with
  | ⟨0, _⟩ => show win0_11.index t 0 * 1 + 1 * r.val = _
              rw [(index_11 t).1]
              show t.val * 1 + 1 * r.val = t.val
              omega
  | ⟨1, _⟩ => show win0_11.index t 1 * 256 + 1 * k.val = _
              rw [(index_11 t).2.1]
              show 0 * 256 + 1 * k.val = k.val
              omega
  | ⟨2, _⟩ => show win0_11.index t 2 * 256 + 1 * l.val = _
              rw [(index_11 t).2.2]
              show 0 * 256 + 1 * l.val = l.val
              omega

/-- The blocks of window 11 fill the result. -/
theorem cover_11 (i : S64x256x256.Idx) :
    ∃ t : Fin cfg0.N, (cfg0.win 11).flush t = true ∧ i ∈ ((cfg0.win 11).blk t).view.set := by
  have h0 : (i 0 : Nat) < 64 := (i 0).isLt
  have h1 : (i 1 : Nat) < 256 := (i 1).isLt
  have h2 : (i 2 : Nat) < 256 := (i 2).isLt
  have hN : cfg0.N = 64 := N_0
  obtain ⟨t, ht⟩ : ∃ t : Fin cfg0.N, t.val = (i 0 : Nat) := ⟨⟨(i 0 : Nat), by omega⟩, rfl⟩
  refine ⟨t, flush0_11 t, ?_⟩
  show i ∈ ((View.whole main_v28_1).slice (win0_11.rect t)).set
  rw [View.set_slice_whole, Rect.mem_set_unit]
  intro a
  match a with
  | ⟨0, _⟩ => show win0_11.index t 0 * win0_11.size 0 ≤ (i 0 : Nat) ∧ (i 0 : Nat) < win0_11.index t 0 * win0_11.size 0 + 1
              rw [(index_11 t).1]
              show t.val * 1 ≤ (i 0 : Nat) ∧ (i 0 : Nat) < t.val * 1 + 1
              omega
  | ⟨1, _⟩ => show win0_11.index t 1 * win0_11.size 1 ≤ (i 1 : Nat) ∧ (i 1 : Nat) < win0_11.index t 1 * win0_11.size 1 + 256
              rw [(index_11 t).2.1]
              show 0 * 256 ≤ (i 1 : Nat) ∧ (i 1 : Nat) < 0 * 256 + 256
              omega
  | ⟨2, _⟩ => show win0_11.index t 2 * win0_11.size 2 ≤ (i 2 : Nat) ∧ (i 2 : Nat) < win0_11.index t 2 * win0_11.size 2 + 256
              rw [(index_11 t).2.2]
              show 0 * 256 ≤ (i 2 : Nat) ∧ (i 2 : Nat) < 0 * 256 + 256
              omega

/-- The block index of window 12 at a point. -/
theorem index_12 : ∀ t : Fin grid0.N, win0_12.index t 0 = t.val ∧ win0_12.index t 1 = 0 ∧ win0_12.index t 2 = 0 := by
  decide +kernel

/-- Where an entry of point `t`'s block of window 12 lies in the whole array. -/
theorem emb_12 (t : Fin cfg0.N) (r : Fin 1) (k : Fin 256) (l : Fin 256) :
    (win0_12.blk t).view.emb (ix3 r k l : S1x256x256.Idx) = (ix3 (pr t) k l : S64x256x256.Idx) := by
  funext a
  apply Fin.ext
  match a with
  | ⟨0, _⟩ => show win0_12.index t 0 * 1 + 1 * r.val = _
              rw [(index_12 t).1]
              show t.val * 1 + 1 * r.val = t.val
              omega
  | ⟨1, _⟩ => show win0_12.index t 1 * 256 + 1 * k.val = _
              rw [(index_12 t).2.1]
              show 0 * 256 + 1 * k.val = k.val
              omega
  | ⟨2, _⟩ => show win0_12.index t 2 * 256 + 1 * l.val = _
              rw [(index_12 t).2.2]
              show 0 * 256 + 1 * l.val = l.val
              omega

/-- The blocks of window 12 fill the result. -/
theorem cover_12 (i : S64x256x256.Idx) :
    ∃ t : Fin cfg0.N, (cfg0.win 12).flush t = true ∧ i ∈ ((cfg0.win 12).blk t).view.set := by
  have h0 : (i 0 : Nat) < 64 := (i 0).isLt
  have h1 : (i 1 : Nat) < 256 := (i 1).isLt
  have h2 : (i 2 : Nat) < 256 := (i 2).isLt
  have hN : cfg0.N = 64 := N_0
  obtain ⟨t, ht⟩ : ∃ t : Fin cfg0.N, t.val = (i 0 : Nat) := ⟨⟨(i 0 : Nat), by omega⟩, rfl⟩
  refine ⟨t, flush0_12 t, ?_⟩
  show i ∈ ((View.whole main_v28_2).slice (win0_12.rect t)).set
  rw [View.set_slice_whole, Rect.mem_set_unit]
  intro a
  match a with
  | ⟨0, _⟩ => show win0_12.index t 0 * win0_12.size 0 ≤ (i 0 : Nat) ∧ (i 0 : Nat) < win0_12.index t 0 * win0_12.size 0 + 1
              rw [(index_12 t).1]
              show t.val * 1 ≤ (i 0 : Nat) ∧ (i 0 : Nat) < t.val * 1 + 1
              omega
  | ⟨1, _⟩ => show win0_12.index t 1 * win0_12.size 1 ≤ (i 1 : Nat) ∧ (i 1 : Nat) < win0_12.index t 1 * win0_12.size 1 + 256
              rw [(index_12 t).2.1]
              show 0 * 256 ≤ (i 1 : Nat) ∧ (i 1 : Nat) < 0 * 256 + 256
              omega
  | ⟨2, _⟩ => show win0_12.index t 2 * win0_12.size 2 ≤ (i 2 : Nat) ∧ (i 2 : Nat) < win0_12.index t 2 * win0_12.size 2 + 256
              rw [(index_12 t).2.2]
              show 0 * 256 ≤ (i 2 : Nat) ∧ (i 2 : Nat) < 0 * 256 + 256
              omega

/-- The block index of window 13 at a point. -/
theorem index_13 : ∀ t : Fin grid0.N, win0_13.index t 0 = t.val ∧ win0_13.index t 1 = 0 ∧ win0_13.index t 2 = 0 := by
  decide +kernel

/-- Where an entry of point `t`'s block of window 13 lies in the whole array. -/
theorem emb_13 (t : Fin cfg0.N) (r : Fin 1) (k : Fin 8) (l : Fin 256) :
    (win0_13.blk t).view.emb (ix3 r k l : S1x8x256.Idx) = (ix3 (pr t) k l : S64x8x256.Idx) := by
  funext a
  apply Fin.ext
  match a with
  | ⟨0, _⟩ => show win0_13.index t 0 * 1 + 1 * r.val = _
              rw [(index_13 t).1]
              show t.val * 1 + 1 * r.val = t.val
              omega
  | ⟨1, _⟩ => show win0_13.index t 1 * 8 + 1 * k.val = _
              rw [(index_13 t).2.1]
              show 0 * 8 + 1 * k.val = k.val
              omega
  | ⟨2, _⟩ => show win0_13.index t 2 * 256 + 1 * l.val = _
              rw [(index_13 t).2.2]
              show 0 * 256 + 1 * l.val = l.val
              omega

/-- The blocks of window 13 fill the result. -/
theorem cover_13 (i : S64x8x256.Idx) :
    ∃ t : Fin cfg0.N, (cfg0.win 13).flush t = true ∧ i ∈ ((cfg0.win 13).blk t).view.set := by
  have h0 : (i 0 : Nat) < 64 := (i 0).isLt
  have h1 : (i 1 : Nat) < 8 := (i 1).isLt
  have h2 : (i 2 : Nat) < 256 := (i 2).isLt
  have hN : cfg0.N = 64 := N_0
  obtain ⟨t, ht⟩ : ∃ t : Fin cfg0.N, t.val = (i 0 : Nat) := ⟨⟨(i 0 : Nat), by omega⟩, rfl⟩
  refine ⟨t, flush0_13 t, ?_⟩
  show i ∈ ((View.whole main_v28_3).slice (win0_13.rect t)).set
  rw [View.set_slice_whole, Rect.mem_set_unit]
  intro a
  match a with
  | ⟨0, _⟩ => show win0_13.index t 0 * win0_13.size 0 ≤ (i 0 : Nat) ∧ (i 0 : Nat) < win0_13.index t 0 * win0_13.size 0 + 1
              rw [(index_13 t).1]
              show t.val * 1 ≤ (i 0 : Nat) ∧ (i 0 : Nat) < t.val * 1 + 1
              omega
  | ⟨1, _⟩ => show win0_13.index t 1 * win0_13.size 1 ≤ (i 1 : Nat) ∧ (i 1 : Nat) < win0_13.index t 1 * win0_13.size 1 + 8
              rw [(index_13 t).2.1]
              show 0 * 8 ≤ (i 1 : Nat) ∧ (i 1 : Nat) < 0 * 8 + 8
              omega
  | ⟨2, _⟩ => show win0_13.index t 2 * win0_13.size 2 ≤ (i 2 : Nat) ∧ (i 2 : Nat) < win0_13.index t 2 * win0_13.size 2 + 256
              rw [(index_13 t).2.2]
              show 0 * 256 ≤ (i 2 : Nat) ∧ (i 2 : Nat) < 0 * 256 + 256
              omega

end Cert.CoefIdeal.Whole
-- ==== Proof.Value.CoefPay.lean ====
/-
  The recurrence's coefficients: what the kernel's payloads are at an entry.
-/
module

public import proofs.«01_k».proof.Defs
public import proofs.«01_k».proof.Proof.Gen.CoefIdeal.Value
public import proofs.«01_k».proof.Proof.Value.CoefHost
public import Idealize.ShloMosaic.Lib.Pipeline.Value
public import Idealize.ShloMosaic.Lib.Quiescent
public import Idealize.ShloMosaic.Lib.Pointwise
public import Idealize.ShloMosaic.Lib.ValueLayout

@[expose] public section

set_option maxRecDepth 16384

noncomputable section

namespace Cert.CoefIdeal.Whole

open Cert.CoefIdeal Cert.CoefIdeal.Gen
open Idealize.ShloMosaic Idealize.ShloMosaic.TcCoe Idealize.SL.Sem
open Idealize.ShloMosaic.Pipeline (Dat)

/-! ## The mathematics -/

/-- The real part of `exp (λ s e)`, of an eigenvalue `λ = x + i y`. -/
def cre (x y s e : EReal) : EReal := Ideal.exp (x * s * e) * Ideal.cos (y * s * e)

/-- The imaginary part. -/
def cim (x y s e : EReal) : EReal := Ideal.exp (x * s * e) * Ideal.sin (y * s * e)

/-- The real part of `(exp (λ s) - 1) / λ`. -/
def fre (x y s : EReal) : EReal :=
  Ideal.div ((Ideal.exp (x * s) * Ideal.cos (y * s) - 1) * x + Ideal.exp (x * s) * Ideal.sin (y * s) * y) (x * x + y * y)

/-- The imaginary part. -/
def fim (x y s : EReal) : EReal :=
  Ideal.div (Ideal.exp (x * s) * Ideal.sin (y * s) * x - (Ideal.exp (x * s) * Ideal.cos (y * s) - 1) * y) (x * x + y * y)

/-- The real part of the product of `(exp (λ s) - 1) / λ` with an entry of the input matrix. -/
def bre (x y s b b' : EReal) : EReal := fre x y s * b - fim x y s * b'

/-- The imaginary part. -/
def bim (x y s b b' : EReal) : EReal := fre x y s * b' + fim x y s * b

/-- The real part of a product of complex numbers. -/
def mre (p p' b b' : EReal) : EReal := p * b - p' * b'

/-- The imaginary part. -/
def mim (p p' b b' : EReal) : EReal := p * b' + p' * b

/-- The number a word stands for. -/
def num (w : BitVec 32) : EReal := FloatOps.sitofp (F := Ideal) FTy.f32 w

/-- One more than a step's number. -/
theorem num_succ (n : Nat) (h : n < 8) : num (BitVec.ofNat 32 n) + 1 = num (BitVec.ofNat 32 (n + 1)) := by
  have e : (BitVec.ofNat 32 (n + 1)).toInt = (BitVec.ofNat 32 n).toInt + 1 := by
    interval_cases n <;> decide
  show (((BitVec.ofNat 32 n).toInt : ℝ) : EReal) + 1 = (((BitVec.ofNat 32 (n + 1)).toInt : ℝ) : EReal)
  rw [e]
  push_cast
  rfl

/-! ## The kernel's payloads at an entry -/

/-- The gain's real part. -/
theorem pay10_apply (x y z : Vec Ideal S1x1x128 .f32) (l : Fin 128) :
    k0_pay10 x y z (ix2 0 l) = fre (x (ix3 0 0 l)) (y (ix3 0 0 l)) (Ideal.exp (z (ix3 0 0 l))) := by
  pointwise [k0_pay10, k0_pay9, k0_pay8, k0_pay7, k0_pay6, k0_pay5, k0_pay4, k0_pay3, k0_pay2, fre]

/-- Its imaginary part. -/
theorem pay11_apply (x y z : Vec Ideal S1x1x128 .f32) (l : Fin 128) :
    k0_pay11 x y z (ix2 0 l) = fim (x (ix3 0 0 l)) (y (ix3 0 0 l)) (Ideal.exp (z (ix3 0 0 l))) := by
  pointwise [k0_pay11, k0_pay9, k0_pay8, k0_pay7, k0_pay6, k0_pay5, k0_pay4, k0_pay3, k0_pay2, fim]

/-- The input matrix times the gain, its real part, over an opaque gain. -/
theorem pay16_of (f f' : FVec Ideal S1x128 .f32) (b b' : Vec Ideal S1x256x128 .f32) (r : Fin 256) (l : Fin 128) :
    k0_pay16 (F := Ideal) (k0_pay13 b') (mulf (broadcastTo S256x128 f broadcasts_S1x128_S256x128) (k0_pay12 b)) (broadcastTo S256x128 f' broadcasts_S1x128_S256x128) (ix2 r l)
      = f (ix2 0 l) * b (ix3 0 r l) - f' (ix2 0 l) * b' (ix3 0 r l) := by
  pointwise [k0_pay16, k0_pay12, k0_pay13]

/-- The input matrix times the gain, its imaginary part, over an opaque gain. -/
theorem pay17_of (f f' : FVec Ideal S1x128 .f32) (b b' : Vec Ideal S1x256x128 .f32) (r : Fin 256) (l : Fin 128) :
    k0_pay17 (F := Ideal) f f' (k0_pay12 b) (k0_pay13 b') (ix2 r l)
      = f (ix2 0 l) * b' (ix3 0 r l) + f' (ix2 0 l) * b (ix3 0 r l) := by
  pointwise [k0_pay17, k0_pay12, k0_pay13]

/-- The input matrix times the gain, real part. -/
theorem bre_apply (x y z : Vec Ideal S1x1x128 .f32) (b b' : Vec Ideal S1x256x128 .f32) (r : Fin 256) (l : Fin 128) :
    k0_pay16 (F := Ideal) (k0_pay13 b') (k0_pay14 x y z b) (k0_pay15 x y z) (ix2 r l)
      = bre (x (ix3 0 0 l)) (y (ix3 0 0 l)) (Ideal.exp (z (ix3 0 0 l))) (b (ix3 0 r l)) (b' (ix3 0 r l)) := by
  refine (pay16_of (k0_pay10 x y z) (k0_pay11 x y z) b b' r l).trans ?_
  rw [pay10_apply, pay11_apply]
  rfl

/-- The input matrix times the gain, imaginary part. -/
theorem bim_apply (x y z : Vec Ideal S1x1x128 .f32) (b b' : Vec Ideal S1x256x128 .f32) (r : Fin 256) (l : Fin 128) :
    k0_pay17 (F := Ideal) (k0_pay10 x y z) (k0_pay11 x y z) (k0_pay12 b) (k0_pay13 b') (ix2 r l)
      = bim (x (ix3 0 0 l)) (y (ix3 0 0 l)) (Ideal.exp (z (ix3 0 0 l))) (b (ix3 0 r l)) (b' (ix3 0 r l)) := by
  rw [pay17_of, pay10_apply, pay11_apply]
  rfl

/-- The half of a row. -/
theorem pay18_apply (a : Fin 256) (b : Fin 128) : k0_pay18 (ix2 a b) = BitVec.ofNat 32 (a.val / 128) := by
  pointwise [k0_pay18]
  revert a
  decide +kernel

/-- The half of a column. -/
def half : IVec S256x128 32 :=
  select (andi (cmpi .ne k0_pay20 k0_pay21) (cmpi .ne (remsi (iota .tc S256x128 32 [1] iota_S256x128_d1_w32) (broadcast S256x128 64#32)) (broadcast S256x128 0#32)))
    (subi k0_pay19 (broadcast S256x128 1#32)) k0_pay19

/-- It is the column's quotient by 64. -/
theorem half_apply (a : Fin 256) (b : Fin 128) : half (ix2 a b) = BitVec.ofNat 32 (b.val / 64) := by
  pointwise [half, k0_pay19, k0_pay20, k0_pay21]
  revert b
  decide +kernel

/-- Whether a row and a column are of the same group. -/
theorem same_apply (a : Fin 256) (b : Fin 128) :
    k0_pay22 (iota .tc S256x128 32 [1] iota_S256x128_d1_w32) k0_pay18 64#32 k0_pay19 k0_pay20 k0_pay21 (ix2 a b)
      = if a.val / 128 = b.val / 64 then 1#1 else 0#1 := by
  have h : k0_pay22 (iota .tc S256x128 32 [1] iota_S256x128_d1_w32) k0_pay18 64#32 k0_pay19 k0_pay20 k0_pay21 (ix2 a b)
      = IntOp.cmpi .eq (k0_pay18 (ix2 a b)) (half (ix2 a b)) := rfl
  rw [h, pay18_apply, half_apply]
  have ha : a.val / 128 < 2 := by omega
  have hb : b.val / 64 < 2 := by omega
  generalize a.val / 128 = u at *
  generalize b.val / 64 = v at *
  interval_cases u <;> interval_cases v <;> rfl

/-- The steps that remain after a row's step. -/
def rest (v115 : IVec S256x128 32) (v129 v133 : IVec S256x128 1) : IVec S256x128 32 :=
  subi (broadcast S256x128 7#32) (select (andi v129 v133) (subi v115 (broadcast S256x128 1#32)) v115)

/-- They number seven less the row's step. -/
theorem rest_apply (a : Fin 256) (b : Fin 128) :
    rest (k0_pay24 (iota .tc S256x128 32 [0] iota_S256x128_d0_w32)) (k0_pay25 (iota .tc S256x128 32 [0] iota_S256x128_d0_w32)) (k0_pay26 (iota .tc S256x128 32 [0] iota_S256x128_d0_w32)) (ix2 a b)
      = BitVec.ofNat 32 (7 - a.val % 128 / 16) := by
  pointwise [rest, k0_pay23, k0_pay24, k0_pay25, k0_pay26]
  revert a
  decide +kernel

/-- The product of a power and a matrix, where a mask holds. -/
def into {F : FTy → Type} [FloatOps F] (v1 v3 v6 : FVec F S1x128 .f32) (v41 v46 : FVec F S256x128 .f32) (v97 : IVec S256x128 1) (e : IVec S256x128 32) : FVec F S1x256x256 .bf16 :=
  have v140 : FVec F S256x128 .f32 := sitofp .f32 e
  have v142 : FVec F S256x128 .f32 := broadcastTo S256x128 (mulf v1 v6) broadcasts_S1x128_S256x128
  have v144 : FVec F S256x128 .f32 := exp (mulf v142 v140)
  have v146 : FVec F S256x128 .f32 := broadcastTo S256x128 (mulf v3 v6) broadcasts_S1x128_S256x128
  have v147 : FVec F S256x128 .f32 := mulf v146 v140
  have v149 : FVec F S256x128 .f32 := mulf v144 (cos v147)
  have v151 : FVec F S256x128 .f32 := mulf v144 (sin v147)
  have v154 : FVec F S256x128 .f32 := subf (mulf v149 v41) (mulf v151 v46)
  have v156 : FVec F S256x128 .f32 := select v97 v154 (broadcast S256x128 (Scalar.ofBits .f32 0x00000000#32))
  have v159 : FVec F S256x128 .f32 := addf (mulf v149 v46) (mulf v151 v41)
  have v161 : FVec F S256x128 .f32 := select v97 v159 (broadcast S256x128 (Scalar.ofBits .f32 0x00000000#32))
  shapeCast S1x256x256 (truncf .bf16 (concatenate S256x256 1 [⟨S256x128, v156⟩, ⟨S256x128, v161⟩] concatenates_S256x128_S256x128_S256x256_d1) bitsLt_bf16_f32) shapeCasts_S256x256_S1x256x256

/-- The first result's payload at an entry of its left half. -/
theorem into_left (v1 v3 v6 : FVec Ideal S1x128 .f32) (v41 v46 : FVec Ideal S256x128 .f32) (v97 : IVec S256x128 1) (e : IVec S256x128 32) (r : Fin 256) (l : Fin 128) :
    into v1 v3 v6 v41 v46 v97 e (ix3 0 r ⟨l.val, by omega⟩)
      = Scalar.select (v97 (ix2 r l)) (mre (cre (v1 (ix2 0 l)) (v3 (ix2 0 l)) (v6 (ix2 0 l)) (num (e (ix2 r l)))) (cim (v1 (ix2 0 l)) (v3 (ix2 0 l)) (v6 (ix2 0 l)) (num (e (ix2 r l)))) (v41 (ix2 r l)) (v46 (ix2 r l))) 0 := by
  pointwise [into, mre, cre, cim, num]

/-- At an entry of its right half. -/
theorem into_right (v1 v3 v6 : FVec Ideal S1x128 .f32) (v41 v46 : FVec Ideal S256x128 .f32) (v97 : IVec S256x128 1) (e : IVec S256x128 32) (r : Fin 256) (l : Fin 128) :
    into v1 v3 v6 v41 v46 v97 e (ix3 0 r ⟨128 + l.val, by omega⟩)
      = Scalar.select (v97 (ix2 r l)) (mim (cre (v1 (ix2 0 l)) (v3 (ix2 0 l)) (v6 (ix2 0 l)) (num (e (ix2 r l)))) (cim (v1 (ix2 0 l)) (v3 (ix2 0 l)) (v6 (ix2 0 l)) (num (e (ix2 r l)))) (v41 (ix2 r l)) (v46 (ix2 r l))) 0 := by
  pointwise [into, mim, cre, cim, num]

/-- The first result's payload is that product. -/
theorem pay27_eq (v1 v3 v6 : FVec Ideal S1x128 .f32) (v41 v46 : FVec Ideal S256x128 .f32) (v97 : IVec S256x128 1) (v115 : IVec S256x128 32) (v129 v133 : IVec S256x128 1) :
    k0_pay27 v1 v3 v6 v41 v46 v97 v115 v129 v133 = into v1 v3 v6 v41 v46 v97 (rest v115 v129 v133) := rfl

/-- A row loaded, at an entry. -/
theorem pay2_apply (x : Vec Ideal S1x1x128 .f32) (l : Fin 128) : k0_pay2 x (ix2 0 l) = x (ix3 0 0 l) := by
  pointwise [k0_pay2]

/-- A row loaded, at an entry. -/
theorem pay3_apply (x : Vec Ideal S1x1x128 .f32) (l : Fin 128) : k0_pay3 x (ix2 0 l) = x (ix3 0 0 l) := by
  pointwise [k0_pay3]

/-- The exponential of a row loaded, at an entry. -/
theorem pay4_apply (x : Vec Ideal S1x1x128 .f32) (l : Fin 128) : k0_pay4 x (ix2 0 l) = Ideal.exp (x (ix3 0 0 l)) := by
  pointwise [k0_pay4]

/-- The fourth result's payload at an entry of its left half. -/
theorem last_left (x y s : FVec Ideal S1x128 .f32) (r : Fin 8) (l : Fin 128) :
    k0_pay29 (k0_pay28 x y s) (ix3 0 r ⟨l.val, by omega⟩) = cre (x (ix2 0 l)) (y (ix2 0 l)) (s (ix2 0 l)) (Ideal.ofBits .f32 0x41000000#32) := by
  pointwise [k0_pay29, k0_pay28, cre]

/-- At an entry of its right half. -/
theorem last_right (x y s : FVec Ideal S1x128 .f32) (r : Fin 8) (l : Fin 128) :
    k0_pay29 (k0_pay28 x y s) (ix3 0 r ⟨128 + l.val, by omega⟩) = cim (x (ix2 0 l)) (y (ix2 0 l)) (s (ix2 0 l)) (Ideal.ofBits .f32 0x41000000#32) := by
  pointwise [k0_pay29, k0_pay28, cim]

/-- The half of a state's row. -/
def half2 : IVec S128x256 32 :=
  select (andi k0_pay36 k0_pay37) (subi k0_pay35 (broadcast S128x256 1#32)) k0_pay35

/-- It is the row's quotient by 64. -/
theorem half2_apply (a : Fin 128) (b : Fin 256) : half2 (ix2 a b) = BitVec.ofNat 32 (a.val / 64) := by
  pointwise [half2, k0_pay35, k0_pay36, k0_pay37]
  revert a
  decide +kernel

/-- Whether a state and a column are of the same group. -/
theorem same2_apply (a : Fin 128) (b : Fin 256) :
    k0_pay38 (iota .tc S128x256 32 [1] iota_S128x256_d1_w32) k0_pay35 k0_pay36 k0_pay37 (ix2 a b)
      = if a.val / 64 = b.val / 128 then 1#1 else 0#1 := by
  have h : ∀ (u : IVec S128x256 32) (v w : IVec S128x256 1), k0_pay38 (iota .tc S128x256 32 [1] iota_S128x256_d1_w32) u v w (ix2 a b)
      = IntOp.cmpi .eq (select (andi v w) (subi u (broadcast S128x256 1#32)) u (ix2 a b)) (BitVec.ofNat 32 (b.val / 128)) := by
    intro u v w
    pointwise [k0_pay38]
    refine congrArg (IntOp.cmpi .eq _) ?_
    revert b
    decide +kernel
  have h' : select (andi k0_pay36 k0_pay37) (subi k0_pay35 (broadcast S128x256 1#32)) k0_pay35 (ix2 a b) = half2 (ix2 a b) := rfl
  rw [h, h', half2_apply]
  have ha : a.val / 64 < 2 := by omega
  have hb : b.val / 128 < 2 := by omega
  generalize a.val / 64 = u at *
  generalize b.val / 128 = v at *
  interval_cases u <;> interval_cases v <;> rfl

/-- A column's step, as a number. -/
theorem tau_apply (a : Fin 128) (b : Fin 256) :
    k0_pay40 (F := Ideal) (k0_pay39 (iota .tc S128x256 32 [1] iota_S128x256_d1_w32)) 16#32 (ix2 a b)
      = num (BitVec.ofNat 32 (b.val % 128 / 16)) := by
  pointwise [k0_pay40, k0_pay39]
  unfold num
  refine congrArg (FloatOps.sitofp (F := Ideal) FTy.f32) ?_
  revert b
  decide +kernel

/-- The third result's upper payload at an entry. -/
theorem pay46_apply (x y s : FVec Ideal S128x1 .f32) (b b' : FVec Ideal S128x256 .f32) (e : IVec S128x256 1) (n : IVec S128x256 32) (k : Fin 128) (l : Fin 256) :
    k0_pay46 x y s b b' e n 16#32 (ix2 k l)
      = Scalar.select (e (ix2 k l)) (mre (cre (x (ix2 k 0)) (y (ix2 k 0)) (s (ix2 k 0)) (k0_pay40 (F := Ideal) n 16#32 (ix2 k l) + 1)) (cim (x (ix2 k 0)) (y (ix2 k 0)) (s (ix2 k 0)) (k0_pay40 (F := Ideal) n 16#32 (ix2 k l) + 1)) (b (ix2 k l)) (b' (ix2 k l))) 0 := by
  pointwise [k0_pay46, k0_pay45, k0_pay44, k0_pay43, k0_pay42, k0_pay41, mre, cre, cim]

/-- Its lower payload at an entry. -/
theorem pay47_apply (x y s : FVec Ideal S128x1 .f32) (b b' : FVec Ideal S128x256 .f32) (e : IVec S128x256 1) (n : IVec S128x256 32) (k : Fin 128) (l : Fin 256) :
    k0_pay47 x y s b b' e n 16#32 (ix2 k l)
      = 0 - Scalar.select (e (ix2 k l)) (mim (cre (x (ix2 k 0)) (y (ix2 k 0)) (s (ix2 k 0)) (k0_pay40 (F := Ideal) n 16#32 (ix2 k l) + 1)) (cim (x (ix2 k 0)) (y (ix2 k 0)) (s (ix2 k 0)) (k0_pay40 (F := Ideal) n 16#32 (ix2 k l) + 1)) (b (ix2 k l)) (b' (ix2 k l))) 0 := by
  pointwise [k0_pay47, k0_pay45, k0_pay44, k0_pay43, k0_pay42, k0_pay41, mim, cre, cim]

/-- The two of them, one above the other: above. -/
theorem pay48_upper (x y : FVec Ideal S128x256 .f32) (k : Fin 128) (l : Fin 256) :
    k0_pay48 x y (ix3 0 ⟨k.val, by omega⟩ l) = x (ix2 k l) := by
  pointwise [k0_pay48]

/-- Below. -/
theorem pay48_lower (x y : FVec Ideal S128x256 .f32) (k : Fin 128) (l : Fin 256) :
    k0_pay48 x y (ix3 0 ⟨128 + k.val, by omega⟩ l) = y (ix2 k l) := by
  pointwise [k0_pay48]

/-- A column loaded, at an entry. -/
theorem pay30_apply (x : Vec Ideal S1x128x1 .f32) (k : Fin 128) : k0_pay30 x (ix2 k 0) = x (ix3 0 k 0) := by
  pointwise [k0_pay30]

/-- A column loaded, at an entry. -/
theorem pay31_apply (x : Vec Ideal S1x128x1 .f32) (k : Fin 128) : k0_pay31 x (ix2 k 0) = x (ix3 0 k 0) := by
  pointwise [k0_pay31]

/-- The exponential of a column loaded, at an entry. -/
theorem pay32_apply (x : Vec Ideal S1x128x1 .f32) (k : Fin 128) : k0_pay32 x (ix2 k 0) = Ideal.exp (x (ix3 0 k 0)) := by
  pointwise [k0_pay32]

/-- A matrix loaded, at an entry. -/
theorem pay33_apply (x : Vec Ideal S1x128x256 .f32) (k : Fin 128) (l : Fin 256) : k0_pay33 x (ix2 k l) = x (ix3 0 k l) := by
  pointwise [k0_pay33]

/-- A matrix loaded, at an entry. -/
theorem pay34_apply (x : Vec Ideal S1x128x256 .f32) (k : Fin 128) (l : Fin 256) : k0_pay34 x (ix2 k l) = x (ix3 0 k l) := by
  pointwise [k0_pay34]

/-- The real part of the output matrix times a power, where a mask holds. -/
def outre {F : FTy → Type} [FloatOps F] (x y s : FVec F S128x1 .f32) (b b' : FVec F S128x256 .f32) (e : IVec S128x256 1) (n : FVec F S128x256 .f32) : FVec F S128x256 .f32 :=
  have v322 : FVec F S128x256 .f32 := exp (mulf (broadcastTo S128x256 (mulf x s) broadcasts_S128x1_S128x256) n)
  have v325 : FVec F S128x256 .f32 := mulf (broadcastTo S128x256 (mulf y s) broadcasts_S128x1_S128x256) n
  select e (subf (mulf (mulf v322 (cos v325)) b) (mulf (mulf v322 (sin v325)) b')) (broadcast S128x256 (Scalar.ofBits .f32 0x00000000#32))

/-- The imaginary part. -/
def outim {F : FTy → Type} [FloatOps F] (x y s : FVec F S128x1 .f32) (b b' : FVec F S128x256 .f32) (e : IVec S128x256 1) (n : FVec F S128x256 .f32) : FVec F S128x256 .f32 :=
  have v322 : FVec F S128x256 .f32 := exp (mulf (broadcastTo S128x256 (mulf x s) broadcasts_S128x1_S128x256) n)
  have v325 : FVec F S128x256 .f32 := mulf (broadcastTo S128x256 (mulf y s) broadcasts_S128x1_S128x256) n
  select e (addf (mulf (mulf v322 (cos v325)) b') (mulf (mulf v322 (sin v325)) b)) (broadcast S128x256 (Scalar.ofBits .f32 0x00000000#32))

/-- The real part at an entry. -/
theorem outre_apply (x y s : FVec Ideal S128x1 .f32) (b b' : FVec Ideal S128x256 .f32) (e : IVec S128x256 1) (n : FVec Ideal S128x256 .f32) (k : Fin 128) (l : Fin 256) :
    outre x y s b b' e n (ix2 k l)
      = Scalar.select (e (ix2 k l)) (mre (cre (x (ix2 k 0)) (y (ix2 k 0)) (s (ix2 k 0)) (n (ix2 k l))) (cim (x (ix2 k 0)) (y (ix2 k 0)) (s (ix2 k 0)) (n (ix2 k l))) (b (ix2 k l)) (b' (ix2 k l))) 0 := by
  pointwise [outre, mre, cre, cim]

/-- The imaginary part at an entry. -/
theorem outim_apply (x y s : FVec Ideal S128x1 .f32) (b b' : FVec Ideal S128x256 .f32) (e : IVec S128x256 1) (n : FVec Ideal S128x256 .f32) (k : Fin 128) (l : Fin 256) :
    outim x y s b b' e n (ix2 k l)
      = Scalar.select (e (ix2 k l)) (mim (cre (x (ix2 k 0)) (y (ix2 k 0)) (s (ix2 k 0)) (n (ix2 k l))) (cim (x (ix2 k 0)) (y (ix2 k 0)) (s (ix2 k 0)) (n (ix2 k l))) (b (ix2 k l)) (b' (ix2 k l))) 0 := by
  pointwise [outim, mim, cre, cim]

/-- The products of the first sixteen rows of the input matrix with the output matrix: real part. -/
def allk {F : FTy → Type} [FloatOps F] (v41 v46 : FVec F S256x128 .f32) (e e' : FVec F S128x256 .f32) : FVec F S16x256 .f32 :=
  subf (matmul dot_S16x128_S128x256_S16x256_1_0_0_1_n_n (some .fp32) (extractStridedSlice S16x128 ![0, 0] v41 slices_S256x128_o0_0_S16x128) e (constant S16x256 .f32 0x00000000#32))
    (matmul dot_S16x128_S128x256_S16x256_1_0_0_1_n_n (some .fp32) (extractStridedSlice S16x128 ![0, 0] v46 slices_S256x128_o0_0_S16x128) e' (constant S16x256 .f32 0x00000000#32))

/-- They at an entry. -/
theorem allk_apply (v41 v46 : FVec Ideal S256x128 .f32) (e e' : FVec Ideal S128x256 .f32) (r : Fin 16) (l : Fin 256) :
    allk v41 v46 e e' (ix2 r l)
      = (∑ k : Fin 128, v41 (ix2 ⟨r.val, by omega⟩ k) * e (ix2 k l)) - ∑ k : Fin 128, v46 (ix2 ⟨r.val, by omega⟩ k) * e' (ix2 k l) := by
  pointwise [allk]

/-- The payload of the products. -/
theorem pay49_eq (v41 v46 : FVec Ideal S256x128 .f32) (x y s : FVec Ideal S128x1 .f32) (b b' : FVec Ideal S128x256 .f32) (e : IVec S128x256 1) (n : FVec Ideal S128x256 .f32) :
    k0_pay49 v41 v46 x y s b b' e n = allk v41 v46 (outre x y s b b' e n) (outim x y s b b' e n) := rfl

end Cert.CoefIdeal.Whole
-- ==== Proof.Value.CoefBlk.lean ====
/-
  The recurrence's coefficients: the second result's blocks of rows.
-/
module

public import proofs.«01_k».proof.Defs
public import proofs.«01_k».proof.Proof.Gen.CoefIdeal.Value
public import proofs.«01_k».proof.Proof.Value.CoefPay
public import Idealize.ShloMosaic.Lib.Pipeline.Value
public import Idealize.ShloMosaic.Lib.Quiescent
public import Idealize.ShloMosaic.Lib.Pointwise
public import Idealize.ShloMosaic.Lib.ValueLayout

@[expose] public section

set_option maxRecDepth 16384

noncomputable section

namespace Cert.CoefIdeal.Whole

open Cert.CoefIdeal Cert.CoefIdeal.Gen
open Idealize.ShloMosaic Idealize.ShloMosaic.TcCoe Idealize.SL.Sem
open Idealize.ShloMosaic.Pipeline (Dat)

/-- The column's number. -/
abbrev iota1 : IVec S16x256 32 := iota .tc S16x256 32 [1] iota_S16x256_d1_w32

/-- The number of columns to a group, as the kernel guards it. -/
abbrev n128 : BitVec 32 := Scalar.select (Scalar.cmpi .eq 128#32 0#32) 1#32 128#32

/-- The column's number inside its group, before its sign is put right. -/
def rem0 : IVec S16x256 32 := remsi iota1 (broadcast S16x256 n128)

/-- Where a block of rows is kept: inside its group and from its own step on. -/
def keep (lo g : BitVec 32) : IVec S16x256 1 :=
  have u1 : IVec S16x256 32 := broadcast S16x256 0#32
  have u2 : IVec S16x256 1 := cmpi .ne rem0 u1
  have u3 : IVec S16x256 32 := broadcast S16x256 0#32
  have u4 : IVec S16x256 1 := cmpi .slt rem0 u3
  let u5 : BitVec 1 := Scalar.cmpi .slt n128 0#32
  have u6 : IVec S16x256 1 := broadcast S16x256 u5
  have u7 : IVec S16x256 1 := broadcastTo S16x256 u6 broadcasts_S16x256_S16x256
  have u8 : IVec S16x256 1 := xori u4 u7
  have u9 : IVec S16x256 1 := andi u8 u2
  have u10 : IVec S16x256 32 := broadcast S16x256 n128
  have u11 : IVec S16x256 32 := addi rem0 u10
  have u12 : IVec S16x256 32 := select u9 u11 rem0
  have u13 : IVec S16x256 32 := broadcast S16x256 lo
  have u14 : IVec S16x256 1 := cmpi .sge u12 u13
  have u15 : IVec S16x256 32 := broadcast S16x256 128#32
  have u16 : IVec S16x256 32 := divsi iota1 u15
  have u17 : IVec S16x256 32 := broadcast S16x256 0#32
  have u18 : IVec S16x256 1 := cmpi .sgt iota1 u17
  have u19 : IVec S16x256 32 := extui 32 u18 natLt_1_32
  have u20 : IVec S16x256 32 := broadcast S16x256 0#32
  have u21 : IVec S16x256 1 := cmpi .slt iota1 u20
  have u22 : IVec S16x256 32 := extui 32 u21 natLt_1_32
  have u23 : IVec S16x256 32 := subi u19 u22
  let u24 : BitVec 1 := Scalar.cmpi .sgt 128#32 0#32
  let u25 : BitVec 32 := Scalar.extui u24
  let u26 : BitVec 1 := Scalar.cmpi .slt 128#32 0#32
  let u27 : BitVec 32 := Scalar.extui u26
  let u28 : BitVec 32 := Scalar.subi u25 u27
  have u29 : IVec S16x256 32 := broadcast S16x256 u28
  have u30 : IVec S16x256 1 := cmpi .ne u23 u29
  have u31 : IVec S16x256 32 := broadcast S16x256 128#32
  have u32 : IVec S16x256 32 := remsi iota1 u31
  have u33 : IVec S16x256 32 := broadcast S16x256 0#32
  have u34 : IVec S16x256 1 := cmpi .ne u32 u33
  have u35 : IVec S16x256 1 := andi u30 u34
  have u36 : IVec S16x256 32 := broadcast S16x256 1#32
  have u37 : IVec S16x256 32 := subi u16 u36
  have u38 : IVec S16x256 32 := select u35 u37 u16
  have u39 : IVec S16x256 32 := broadcast S16x256 g
  have u40 : IVec S16x256 1 := cmpi .eq u38 u39
  have u41 : IVec S16x256 1 := andi u14 u40
  u41

/-- A block of rows, moved to its own step and kept there. -/
def blk (sh lo g : BitVec 32) (x : FVec Ideal S16x256 .f32) : FVec Ideal S16x256 .f32 :=
  select (keep lo g) (dynamicRotate 1 sh none x rotates_S16x256_d1) (broadcast S16x256 (Scalar.ofBits .f32 0x00000000#32))

/-- The block of the first step, which need not move. -/
def blk0 (lo g : BitVec 32) (x : FVec Ideal S16x256 .f32) : FVec Ideal S16x256 .f32 :=
  select (keep lo g) x (broadcast S16x256 (Scalar.ofBits .f32 0x00000000#32))

/-- Sixteen blocks one under the other. -/
def stack (b0 b1 b2 b3 b4 b5 b6 b7 b8 b9 b10 b11 b12 b13 b14 b15 : FVec Ideal S16x256 .f32) : FVec Ideal S256x256 .bf16 :=
  truncf .bf16 (concatenate S256x256 0 [⟨S16x256, b0⟩, ⟨S16x256, b1⟩, ⟨S16x256, b2⟩, ⟨S16x256, b3⟩, ⟨S16x256, b4⟩, ⟨S16x256, b5⟩, ⟨S16x256, b6⟩, ⟨S16x256, b7⟩, ⟨S16x256, b8⟩, ⟨S16x256, b9⟩, ⟨S16x256, b10⟩, ⟨S16x256, b11⟩, ⟨S16x256, b12⟩, ⟨S16x256, b13⟩, ⟨S16x256, b14⟩, ⟨S16x256, b15⟩] concatenates_S16x256_S16x256_S16x256_S16x256_S16x256_S16x256_S16x256_S16x256_S16x256_S16x256_S16x256_S16x256_S16x256_S16x256_S16x256_S16x256_S256x256_d0) bitsLt_bf16_f32

/-- Block 0 is one of these. -/
theorem block0 (x : FVec Ideal S16x256 .f32) :
    (k0_pay53 x iota1 k0_pay50 k0_pay51 k0_pay52) = blk0 0#32 0#32 x := rfl

/-- Block 1 is one of these. -/
theorem block1 (x : FVec Ideal S16x256 .f32) :
    (k0_pay58 iota1 (k0_pay54 x) (Scalar.select (Scalar.cmpi .eq 128#32 0#32) 1#32 128#32) (k0_pay55 iota1) (k0_pay56 iota1) (k0_pay57 iota1) (Scalar.cmpi .slt (Scalar.select (Scalar.cmpi .eq 128#32 0#32) 1#32 128#32) 0#32)) = blk 16#32 16#32 0#32 x := rfl

/-- Block 2 is one of these. -/
theorem block2 (x : FVec Ideal S16x256 .f32) :
    (k0_pay62 iota1 (k0_pay59 x) (Scalar.select (Scalar.cmpi .eq 128#32 0#32) 1#32 128#32) (k0_pay60 iota1) (k0_pay61 iota1)) = blk 32#32 32#32 0#32 x := rfl

/-- Block 3 is one of these. -/
theorem block3 (x : FVec Ideal S16x256 .f32) :
    (k0_pay64 iota1 (k0_pay63 x) (Scalar.select (Scalar.cmpi .eq 128#32 0#32) 1#32 128#32)) = blk 48#32 48#32 0#32 x := rfl

/-- Block 4 is one of these. -/
theorem block4 (x : FVec Ideal S16x256 .f32) :
    (k0_pay67 (k0_pay65 x) (k0_pay66 iota1)) = blk 64#32 64#32 0#32 x := rfl

/-- Block 5 is one of these. -/
theorem block5 (x : FVec Ideal S16x256 .f32) :
    (k0_pay73 (k0_pay68 x) (k0_pay69 iota1) (k0_pay70 iota1) (k0_pay71 iota1) (k0_pay72 iota1)) = blk 80#32 80#32 0#32 x := rfl

/-- Block 6 is one of these. -/
theorem block6 (x : FVec Ideal S16x256 .f32) :
    (k0_pay80 (k0_pay74 x) (k0_pay75 iota1) (k0_pay76 iota1) (k0_pay77 iota1) (k0_pay78 iota1) k0_pay79) = blk 96#32 96#32 0#32 x := rfl

/-- Block 7 is one of these. -/
theorem block7 (x : FVec Ideal S16x256 .f32) :
    (k0_pay86 iota1 (k0_pay81 x) (k0_pay82 iota1) 128#32 (k0_pay83 iota1) (k0_pay84 iota1) k0_pay85) = blk 112#32 112#32 0#32 x := rfl

/-- Block 8 is one of these. -/
theorem block8 (x : FVec Ideal S16x256 .f32) :
    (k0_pay90 x iota1 (k0_pay87 iota1) 128#32 (k0_pay88 iota1) (k0_pay89 iota1) (Scalar.extui (Scalar.cmpi .sgt 128#32 0#32)) (Scalar.cmpi .slt 128#32 0#32)) = blk0 0#32 1#32 x := rfl

/-- Block 9 is one of these. -/
theorem block9 (x : FVec Ideal S16x256 .f32) :
    (k0_pay95 iota1 (k0_pay91 x) (k0_pay92 iota1) 128#32 (k0_pay93 iota1) (k0_pay94 iota1)) = blk 16#32 16#32 1#32 x := rfl

/-- Block 10 is one of these. -/
theorem block10 (x : FVec Ideal S16x256 .f32) :
    (k0_pay100 iota1 (k0_pay96 x) (k0_pay97 iota1) 128#32 (k0_pay98 iota1) (k0_pay99 iota1)) = blk 32#32 32#32 1#32 x := rfl

/-- Block 11 is one of these. -/
theorem block11 (x : FVec Ideal S16x256 .f32) :
    (k0_pay104 iota1 (k0_pay101 x) (k0_pay102 iota1) 128#32 k0_pay103) = blk 48#32 48#32 1#32 x := rfl

/-- Block 12 is one of these. -/
theorem block12 (x : FVec Ideal S16x256 .f32) :
    (k0_pay107 iota1 (k0_pay105 x) (k0_pay106 iota1)) = blk 64#32 64#32 1#32 x := rfl

/-- Block 13 is one of these. -/
theorem block13 (x : FVec Ideal S16x256 .f32) :
    (k0_pay113 iota1 (k0_pay108 x) (Scalar.select (Scalar.cmpi .eq 128#32 0#32) 1#32 128#32) (k0_pay109 iota1) (k0_pay110 iota1) (k0_pay111 iota1) k0_pay112) = blk 80#32 80#32 1#32 x := rfl

/-- Block 14 is one of these. -/
theorem block14 (x : FVec Ideal S16x256 .f32) :
    (k0_pay118 iota1 (k0_pay114 x) (Scalar.select (Scalar.cmpi .eq 128#32 0#32) 1#32 128#32) (k0_pay115 iota1) (k0_pay116 iota1) k0_pay117) = blk 96#32 96#32 1#32 x := rfl

/-- The payload of the second result is their stack. -/
theorem pay121_eq (b0 b1 b2 b3 b4 b5 b6 b7 b8 b9 b10 b11 b12 b13 b14 x : FVec Ideal S16x256 .f32) :
    k0_pay121 iota1 b0 b1 b2 b3 b4 b5 b6 b7 b8 b9 b10 b11 b12 b13 b14 (k0_pay119 x) n128 (k0_pay120 iota1) = stack b0 b1 b2 b3 b4 b5 b6 b7 b8 b9 b10 b11 b12 b13 b14 (blk 112#32 112#32 1#32 x) := rfl

/-- The mask's two words. -/
theorem keep_word (lo g : BitVec 32) (c : Fin 16) (l : Fin 256) :
    keep lo g (ix2 c l) = IntOp.andi (IntOp.cmpi .sge (BitVec.ofNat 32 (l.val % 128)) lo) (IntOp.cmpi .eq (BitVec.ofNat 32 (l.val / 128)) g) := by
  pointwise [keep, rem0]
  refine congrArg₂ IntOp.andi (congrArg (fun w => IntOp.cmpi .sge w lo) ?_) (congrArg (fun w => IntOp.cmpi .eq w g) ?_)
  · revert l
    decide +kernel
  · revert l
    decide +kernel

/-- When the mask holds. -/
theorem keep_cond : ∀ (j : Fin 8) (g : Fin 2) (l : Fin 256),
    IntOp.andi (IntOp.cmpi .sge (BitVec.ofNat 32 (l.val % 128)) (BitVec.ofNat 32 (16 * j.val))) (IntOp.cmpi .eq (BitVec.ofNat 32 (l.val / 128)) (BitVec.ofNat 32 g.val))
      = if g.val = l.val / 128 ∧ j.val ≤ l.val % 128 / 16 then 1#1 else 0#1 := by
  decide +kernel

/-- A choice by a word that says whether a condition holds. -/
theorem pick {p : Prop} [Decidable p] (x y : EReal) : Scalar.select (if p then 1#1 else 0#1) x y = if p then x else y := by
  by_cases h : p
  · rw [if_pos h, if_pos h]; rfl
  · rw [if_neg h, if_neg h]; rfl

/-- A moved block at an entry. -/
theorem blk_apply (j : Fin 8) (g : Fin 2) (x : FVec Ideal S16x256 .f32) (c : Fin 16) (l : Fin 256) :
    blk (BitVec.ofNat 32 (16 * j.val)) (BitVec.ofNat 32 (16 * j.val)) (BitVec.ofNat 32 g.val) x (ix2 c l)
      = if g.val = l.val / 128 ∧ j.val ≤ l.val % 128 / 16 then x (ix2 c ⟨(l.val + 256 - 16 * j.val) % 256, by omega⟩) else 0 := by
  have h : ∀ sh lo g : BitVec 32, blk sh lo g x (ix2 c l)
      = Scalar.select (keep lo g (ix2 c l)) (x (ix2 c ⟨(l.val + 256 - sh.toNat % 256) % 256, by omega⟩)) 0 := by
    intro sh lo g
    pointwise [blk]
  rw [h, keep_word, keep_cond, pick]
  have e : (BitVec.ofNat 32 (16 * j.val)).toNat % 256 = 16 * j.val := by
    revert j
    decide
  simp only [e]

/-- The unmoved block at an entry. -/
theorem blk0_apply (g : Fin 2) (x : FVec Ideal S16x256 .f32) (c : Fin 16) (l : Fin 256) :
    blk0 0#32 (BitVec.ofNat 32 g.val) x (ix2 c l)
      = if g.val = l.val / 128 ∧ (0 : Fin 8).val ≤ l.val % 128 / 16 then x (ix2 c ⟨(l.val + 256 - 16 * (0 : Fin 8).val) % 256, by omega⟩) else 0 := by
  have h : ∀ lo g : BitVec 32, blk0 lo g x (ix2 c l) = Scalar.select (keep lo g (ix2 c l)) (x (ix2 c l)) 0 := by
    intro lo g
    pointwise [blk0]
  have e : (⟨(l.val + 256 - 16 * (0 : Fin 8).val) % 256, by omega⟩ : Fin 256) = l := Fin.ext (by show (l.val + 256 - 16 * 0) % 256 = l.val; omega)
  rw [h, keep_word, e]
  exact (congrArg (fun w => Scalar.select w (x (ix2 c l)) 0) (keep_cond 0 g l)).trans (pick _ _)

/-- The rows before a block. -/
theorem pre_sum (k : Nat) : ((List.replicate k S16x256).map fun s : Shape => if h : s.rank = S256x256.rank then s.size ((0 : Fin S256x256.rank).cast h.symm) else 0).sum = 16 * k := by
  rw [List.map_replicate, List.sum_replicate]
  show k * 16 = 16 * k
  omega

/-- The blocks, each moved to its own step. -/
def moved (x : FVec Ideal S16x256 .f32) : Fin 16 → FVec Ideal S16x256 .f32 :=
  ![blk0 0#32 0#32 x, blk 16#32 16#32 0#32 x, blk 32#32 32#32 0#32 x, blk 48#32 48#32 0#32 x, blk 64#32 64#32 0#32 x, blk 80#32 80#32 0#32 x, blk 96#32 96#32 0#32 x, blk 112#32 112#32 0#32 x, blk0 0#32 1#32 x, blk 16#32 16#32 1#32 x, blk 32#32 32#32 1#32 x, blk 48#32 48#32 1#32 x, blk 64#32 64#32 1#32 x, blk 80#32 80#32 1#32 x, blk 96#32 96#32 1#32 x, blk 112#32 112#32 1#32 x]

/-- All the rows: each block moved to its own step. -/
def rows (x : FVec Ideal S16x256 .f32) : FVec Ideal S256x256 .bf16 :=
  stack (blk0 0#32 0#32 x) (blk 16#32 16#32 0#32 x) (blk 32#32 32#32 0#32 x) (blk 48#32 48#32 0#32 x) (blk 64#32 64#32 0#32 x) (blk 80#32 80#32 0#32 x) (blk 96#32 96#32 0#32 x) (blk 112#32 112#32 0#32 x) (blk0 0#32 1#32 x) (blk 16#32 16#32 1#32 x) (blk 32#32 32#32 1#32 x) (blk 48#32 48#32 1#32 x) (blk 64#32 64#32 1#32 x) (blk 80#32 80#32 1#32 x) (blk 96#32 96#32 1#32 x) (blk 112#32 112#32 1#32 x)

/-- The blocks of a stack, as a list. -/
abbrev parts (b : Fin 16 → FVec Ideal S16x256 .f32) : List ((s : Shape) × (s.Idx → EReal)) :=
  [⟨S16x256, b 0⟩, ⟨S16x256, b 1⟩, ⟨S16x256, b 2⟩, ⟨S16x256, b 3⟩, ⟨S16x256, b 4⟩, ⟨S16x256, b 5⟩, ⟨S16x256, b 6⟩, ⟨S16x256, b 7⟩, ⟨S16x256, b 8⟩, ⟨S16x256, b 9⟩, ⟨S16x256, b 10⟩, ⟨S16x256, b 11⟩, ⟨S16x256, b 12⟩, ⟨S16x256, b 13⟩, ⟨S16x256, b 14⟩, ⟨S16x256, b 15⟩]

/-- A block of a stack. -/
theorem piece (b : Fin 16 → FVec Ideal S16x256 .f32) (n c : Fin 16) (l : Fin 256) :
    stack (b 0) (b 1) (b 2) (b 3) (b 4) (b 5) (b 6) (b 7) (b 8) (b 9) (b 10) (b 11) (b 12) (b 13) (b 14) (b 15) (ix2 ⟨16 * n.val + c.val, by omega⟩ l) = b n (ix2 c l) := by
  have hx : (parts b)[n.val] = ⟨S16x256, b n⟩ := by fin_cases n <;> rfl
  have hp : ((((parts b).take n.val).map (·.1)).map fun s : Shape => if h : s.rank = S256x256.rank then s.size ((0 : Fin S256x256.rank).cast h.symm) else 0).sum = 16 * n.val := by
    fin_cases n
    exacts [pre_sum 0, pre_sum 1, pre_sum 2, pre_sum 3, pre_sum 4, pre_sum 5, pre_sum 6, pre_sum 7, pre_sum 8, pre_sum 9, pre_sum 10, pre_sum 11, pre_sum 12, pre_sum 13, pre_sum 14, pre_sum 15]
  exact concatenate_apply_piece (t := S256x256) 0 (parts b) concatenates_S16x256_S16x256_S16x256_S16x256_S16x256_S16x256_S16x256_S16x256_S16x256_S16x256_S16x256_S16x256_S16x256_S16x256_S16x256_S16x256_S256x256_d0 (ix2 ⟨16 * n.val + c.val, by omega⟩ l : S256x256.Idx) n.val n.isLt S16x256 (b n) hx rfl (16 * n.val) hp (ix2 c l : S16x256.Idx)
    (fun b hb => match b with
      | ⟨0, _⟩ => absurd (Fin.ext rfl) hb
      | ⟨1, _⟩ => rfl) rfl

/-- The rows at an entry. -/
theorem rows_apply (x : FVec Ideal S16x256 .f32) (r l : Fin 256) :
    rows x (ix2 r l) = if r.val / 128 = l.val / 128 ∧ r.val % 128 / 16 ≤ l.val % 128 / 16
      then x (ix2 (ch r) ⟨(l.val + 256 - 16 * (r.val % 128 / 16)) % 256, by omega⟩) else 0 := by
  have key : ∀ (n : Fin 16) (c : Fin 16) (g : Fin 2) (j : Fin 8) (_ : n.val = 8 * g.val + j.val) (hr : r.val = 16 * n.val + c.val)
      (_ : rows x (ix2 ⟨16 * n.val + c.val, by omega⟩ l) = if g.val = l.val / 128 ∧ j.val ≤ l.val % 128 / 16 then x (ix2 c ⟨(l.val + 256 - 16 * j.val) % 256, by omega⟩) else 0),
      rows x (ix2 r l) = if r.val / 128 = l.val / 128 ∧ r.val % 128 / 16 ≤ l.val % 128 / 16
        then x (ix2 (ch r) ⟨(l.val + 256 - 16 * (r.val % 128 / 16)) % 256, by omega⟩) else 0 := by
    intro n c g j hn hr h
    have e1 : r = ⟨16 * n.val + c.val, by omega⟩ := Fin.ext hr
    have e2 : ch r = c := Fin.ext (by show r.val % 16 = c.val; omega)
    have e3 : r.val / 128 = g.val := by omega
    have e4 : r.val % 128 / 16 = j.val := by omega
    rw [e2]
    simp only [e3, e4]
    exact (congrArg (fun a => rows x (ix2 a l)) e1).trans h
  have hn : r.val / 16 < 16 := by omega
  have hr : r.val = 16 * (r.val / 16) + r.val % 16 := by omega
  have hc : r.val % 16 < 16 := by omega
  generalize r.val / 16 = n at hn hr
  generalize r.val % 16 = c at hr hc
  interval_cases n
  · exact key 0 ⟨c, hc⟩ 0 0 rfl hr ((piece (moved x) 0 ⟨c, hc⟩ l).trans (blk0_apply 0 x ⟨c, hc⟩ l))
  · exact key 1 ⟨c, hc⟩ 0 1 rfl hr ((piece (moved x) 1 ⟨c, hc⟩ l).trans (blk_apply 1 0 x ⟨c, hc⟩ l))
  · exact key 2 ⟨c, hc⟩ 0 2 rfl hr ((piece (moved x) 2 ⟨c, hc⟩ l).trans (blk_apply 2 0 x ⟨c, hc⟩ l))
  · exact key 3 ⟨c, hc⟩ 0 3 rfl hr ((piece (moved x) 3 ⟨c, hc⟩ l).trans (blk_apply 3 0 x ⟨c, hc⟩ l))
  · exact key 4 ⟨c, hc⟩ 0 4 rfl hr ((piece (moved x) 4 ⟨c, hc⟩ l).trans (blk_apply 4 0 x ⟨c, hc⟩ l))
  · exact key 5 ⟨c, hc⟩ 0 5 rfl hr ((piece (moved x) 5 ⟨c, hc⟩ l).trans (blk_apply 5 0 x ⟨c, hc⟩ l))
  · exact key 6 ⟨c, hc⟩ 0 6 rfl hr ((piece (moved x) 6 ⟨c, hc⟩ l).trans (blk_apply 6 0 x ⟨c, hc⟩ l))
  · exact key 7 ⟨c, hc⟩ 0 7 rfl hr ((piece (moved x) 7 ⟨c, hc⟩ l).trans (blk_apply 7 0 x ⟨c, hc⟩ l))
  · exact key 8 ⟨c, hc⟩ 1 0 rfl hr ((piece (moved x) 8 ⟨c, hc⟩ l).trans (blk0_apply 1 x ⟨c, hc⟩ l))
  · exact key 9 ⟨c, hc⟩ 1 1 rfl hr ((piece (moved x) 9 ⟨c, hc⟩ l).trans (blk_apply 1 1 x ⟨c, hc⟩ l))
  · exact key 10 ⟨c, hc⟩ 1 2 rfl hr ((piece (moved x) 10 ⟨c, hc⟩ l).trans (blk_apply 2 1 x ⟨c, hc⟩ l))
  · exact key 11 ⟨c, hc⟩ 1 3 rfl hr ((piece (moved x) 11 ⟨c, hc⟩ l).trans (blk_apply 3 1 x ⟨c, hc⟩ l))
  · exact key 12 ⟨c, hc⟩ 1 4 rfl hr ((piece (moved x) 12 ⟨c, hc⟩ l).trans (blk_apply 4 1 x ⟨c, hc⟩ l))
  · exact key 13 ⟨c, hc⟩ 1 5 rfl hr ((piece (moved x) 13 ⟨c, hc⟩ l).trans (blk_apply 5 1 x ⟨c, hc⟩ l))
  · exact key 14 ⟨c, hc⟩ 1 6 rfl hr ((piece (moved x) 14 ⟨c, hc⟩ l).trans (blk_apply 6 1 x ⟨c, hc⟩ l))
  · exact key 15 ⟨c, hc⟩ 1 7 rfl hr ((piece (moved x) 15 ⟨c, hc⟩ l).trans (blk_apply 7 1 x ⟨c, hc⟩ l))

end Cert.CoefIdeal.Whole
-- ==== Proof.Value.CoefOut.lean ====
/-
  The recurrence's coefficients: the four results as functions of the arguments, and the blocks a point writes.
-/
module

public import proofs.«01_k».proof.Defs
public import proofs.«01_k».proof.Proof.Gen.CoefIdeal.Value
public import proofs.«01_k».proof.Proof.Value.CoefBlk
public import Idealize.ShloMosaic.Lib.Pipeline.Value
public import Idealize.ShloMosaic.Lib.Quiescent
public import Idealize.ShloMosaic.Lib.Pointwise
public import Idealize.ShloMosaic.Lib.ValueLayout

@[expose] public section

set_option maxRecDepth 16384

noncomputable section

namespace Cert.CoefIdeal.Whole

open Cert.CoefIdeal Cert.CoefIdeal.Gen
open Idealize.ShloMosaic Idealize.ShloMosaic.TcCoe Idealize.SL.Sem
open Idealize.ShloMosaic.Pipeline (Dat)

/-- The zero offset at rank 3. -/
theorem hz3 : (![0, 0, 0] : Fin 3 → Nat) = fun _ => 0 := funext fun a => by fin_cases a <;> rfl

/-! ## The results as functions of the arguments -/

/-- The group of a row of a pair. -/
def rg (r : Fin 256) : Fin 2 := ⟨r.val / 128, by omega⟩

/-- The step of a row inside its group. -/
def rt (r : Fin 256) : Fin 8 := ⟨r.val % 128 / 16, by omega⟩

/-- The group of a state's column inside its part. -/
def lg (l : Fin 256) : Fin 2 := ⟨l.val % 128 / 64, by omega⟩

/-- The state of a state's column. -/
def ls (l : Fin 256) : Fin 64 := ⟨l.val % 64, by omega⟩

/-- The number of a pair's group among all groups. -/
def gp (q : Fin 64) (g : Fin 2) : Fin 128 := ⟨2 * q.val + g.val, by omega⟩

section Arrays

variable (a0 a1 : Vec Ideal S128x64 .f32) (a2 : Vec Ideal S128 .f32) (a3 a4 : Vec Ideal S128x64x16 .f32) (a5 a6 : Vec Ideal S128x16x64 .f32)

/-- A power of a state's factor, real part. -/
def Pre (h : Fin 128) (p : Fin 64) (e : EReal) : EReal :=
  cre (a0 (ix2 h p)) (a1 (ix2 h p)) (Ideal.exp (a2 (ix1 h))) e

/-- A power of a state's factor, imaginary part. -/
def Pim (h : Fin 128) (p : Fin 64) (e : EReal) : EReal :=
  cim (a0 (ix2 h p)) (a1 (ix2 h p)) (Ideal.exp (a2 (ix1 h))) e

/-- The input matrix with its gain, real part. -/
def Bre (h : Fin 128) (p : Fin 64) (c : Fin 16) : EReal :=
  bre (a0 (ix2 h p)) (a1 (ix2 h p)) (Ideal.exp (a2 (ix1 h))) (a3 (ix3 h p c)) (a4 (ix3 h p c))

/-- The input matrix with its gain, imaginary part. -/
def Bim (h : Fin 128) (p : Fin 64) (c : Fin 16) : EReal :=
  bim (a0 (ix2 h p)) (a1 (ix2 h p)) (Ideal.exp (a2 (ix1 h))) (a3 (ix3 h p c)) (a4 (ix3 h p c))

/-- From a step's channel into the chunk's last state, real part. -/
def Wre (h : Fin 128) (p : Fin 64) (c : Fin 16) (t : Fin 8) : EReal :=
  mre (Pre a0 a1 a2 h p (num (BitVec.ofNat 32 (7 - t.val)))) (Pim a0 a1 a2 h p (num (BitVec.ofNat 32 (7 - t.val)))) (Bre a0 a1 a2 a3 a4 h p c) (Bim a0 a1 a2 a3 a4 h p c)

/-- The imaginary part. -/
def Wim (h : Fin 128) (p : Fin 64) (c : Fin 16) (t : Fin 8) : EReal :=
  mim (Pre a0 a1 a2 h p (num (BitVec.ofNat 32 (7 - t.val)))) (Pim a0 a1 a2 h p (num (BitVec.ofNat 32 (7 - t.val)))) (Bre a0 a1 a2 a3 a4 h p c) (Bim a0 a1 a2 a3 a4 h p c)

/-- From a state to an output, after as many steps, real part. -/
def Vre (h : Fin 128) (p : Fin 64) (d : Fin 16) (n : Nat) : EReal :=
  mre (Pre a0 a1 a2 h p (num (BitVec.ofNat 32 n))) (Pim a0 a1 a2 h p (num (BitVec.ofNat 32 n))) (a5 (ix3 h d p)) (a6 (ix3 h d p))

/-- The imaginary part. -/
def Vim (h : Fin 128) (p : Fin 64) (d : Fin 16) (n : Nat) : EReal :=
  mim (Pre a0 a1 a2 h p (num (BitVec.ofNat 32 n))) (Pim a0 a1 a2 h p (num (BitVec.ofNat 32 n))) (a5 (ix3 h d p)) (a6 (ix3 h d p))

/-- From one step's channel to another step's output, as many steps later. -/
def Mst (h : Fin 128) (c d : Fin 16) (n : Nat) : EReal :=
  (∑ p : Fin 64, Bre a0 a1 a2 a3 a4 h p c * Vre a0 a1 a2 a5 a6 h p d n) - ∑ p : Fin 64, Bim a0 a1 a2 a3 a4 h p c * Vim a0 a1 a2 a5 a6 h p d n

/-- The first result at an entry. -/
def W1 (q : Fin 64) (r l : Fin 256) : EReal :=
  if rg r = lg l then (if l.val < 128 then Wre a0 a1 a2 a3 a4 (gp q (rg r)) (ls l) (ch r) (rt r) else Wim a0 a1 a2 a3 a4 (gp q (rg r)) (ls l) (ch r) (rt r)) else 0

/-- The second result at an entry. -/
def M1 (q : Fin 64) (r l : Fin 256) : EReal :=
  if rg r = rg l ∧ (rt r).val ≤ (rt l).val then Mst a0 a1 a2 a3 a4 a5 a6 (gp q (rg r)) (ch r) (ch l) ((rt l).val - (rt r).val) else 0

/-- The third result at an entry. -/
def V1 (q : Fin 64) (r l : Fin 256) : EReal :=
  if lg r = rg l then (if r.val < 128 then Vre a0 a1 a2 a5 a6 (gp q (lg r)) (ls r) (ch l) ((rt l).val + 1) else 0 - Vim a0 a1 a2 a5 a6 (gp q (lg r)) (ls r) (ch l) ((rt l).val + 1)) else 0

/-- The fourth result at an entry. -/
def A1 (q : Fin 64) (l : Fin 256) : EReal :=
  if l.val < 128 then Pre a0 a1 a2 (gp q (lg l)) (ls l) (Ideal.ofBits .f32 0x41000000#32) else Pim a0 a1 a2 (gp q (lg l)) (ls l) (Ideal.ofBits .f32 0x41000000#32)

/-- The first result. -/
def GW : Vec Ideal S64x256x256 .bf16 := fun i => W1 a0 a1 a2 a3 a4 (i 0) (i 1) (i 2)

/-- The second result. -/
def GM : Vec Ideal S64x256x256 .bf16 := fun i => M1 a0 a1 a2 a3 a4 a5 a6 (i 0) (i 1) (i 2)

/-- The third result. -/
def GV : Vec Ideal S64x256x256 .bf16 := fun i => V1 a0 a1 a2 a5 a6 (i 0) (i 1) (i 2)

/-- The fourth result. -/
def GA : Vec Ideal S64x8x256 .f32 := fun i => A1 a0 a1 a2 (i 0) (i 2)

end Arrays

/-! ## The blocks a point writes, as payloads of the blocks it reads -/

/-- The input matrix with its gain, of the blocks read. -/
def gre (x0 x1 x2 : Vec Ideal S1x1x128 .f32) (x6 x7 : Vec Ideal S1x256x128 .f32) : FVec Ideal S256x128 .f32 :=
  k0_pay16 (F := Ideal) (k0_pay13 x7) (k0_pay14 x0 x1 x2 x6) (k0_pay15 x0 x1 x2)

/-- The imaginary part. -/
def gim (x0 x1 x2 : Vec Ideal S1x1x128 .f32) (x6 x7 : Vec Ideal S1x256x128 .f32) : FVec Ideal S256x128 .f32 :=
  k0_pay17 (F := Ideal) (k0_pay10 x0 x1 x2) (k0_pay11 x0 x1 x2) (k0_pay12 x6) (k0_pay13 x7)

/-- Which rows and columns of the first result are of the same group. -/
def eqw : IVec S256x128 1 := k0_pay22 (iota .tc S256x128 32 [1] iota_S256x128_d1_w32) k0_pay18 64#32 k0_pay19 k0_pay20 k0_pay21

/-- The powers in the first result. -/
def tow : IVec S256x128 32 :=
  rest (k0_pay24 (iota .tc S256x128 32 [0] iota_S256x128_d0_w32)) (k0_pay25 (iota .tc S256x128 32 [0] iota_S256x128_d0_w32)) (k0_pay26 (iota .tc S256x128 32 [0] iota_S256x128_d0_w32))

/-- Which rows and columns of the third result are of the same group. -/
def eqv : IVec S128x256 1 := k0_pay38 (iota .tc S128x256 32 [1] iota_S128x256_d1_w32) k0_pay35 k0_pay36 k0_pay37

/-- The steps of the third result. -/
def nv : IVec S128x256 32 := k0_pay39 (iota .tc S128x256 32 [1] iota_S128x256_d1_w32)

/-- A whole block loaded. -/
theorem ld0 (x : Vec Ideal S1x1x128 .f32) : View.ld x r0_0 = x := by
  rw [View.ld_unit_zero hz3]

/-- A whole block loaded. -/
theorem ld1 (x : Vec Ideal S1x256x128 .f32) : View.ld x r0_1 = x := by
  rw [View.ld_unit_zero hz3]

/-- A whole block loaded. -/
theorem ld4 (x : Vec Ideal S1x128x1 .f32) : View.ld x r0_4 = x := by
  rw [View.ld_unit_zero hz3]

/-- A whole block loaded. -/
theorem ld5 (x : Vec Ideal S1x128x256 .f32) : View.ld x r0_5 = x := by
  rw [View.ld_unit_zero hz3]

/-- The block of the first result. -/
theorem out10 (x0 x1 x2 : Vec Ideal S1x1x128 .f32) (x3 x4 x5 : Vec Ideal S1x128x1 .f32) (x6 x7 : Vec Ideal S1x256x128 .f32) (x8 x9 : Vec Ideal S1x128x256 .f32) : out0_10 (F := Ideal) x0 x1 x2 x3 x4 x5 x6 x7 x8 x9
    = into (k0_pay2 x0) (k0_pay3 x1) (k0_pay4 x2) (gre x0 x1 x2 x6 x7) (gim x0 x1 x2 x6 x7) eqw tow := by
  unfold out0_10 k0_pay122 k0_pay123 k0_pay124 k0_pay127 k0_pay128 k0_pay125 k0_pay126
  rw [View.canon_unit_zero hz3]
  simp only [ld0, ld1, ld4, ld5]
  exact pay27_eq _ _ _ _ _ _ _ _ _

/-- The block of the third result. -/
theorem out12 (x0 x1 x2 : Vec Ideal S1x1x128 .f32) (x3 x4 x5 : Vec Ideal S1x128x1 .f32) (x6 x7 : Vec Ideal S1x256x128 .f32) (x8 x9 : Vec Ideal S1x128x256 .f32) : out0_12 (F := Ideal) x0 x1 x2 x3 x4 x5 x6 x7 x8 x9
    = k0_pay48 (k0_pay46 (k0_pay30 x3) (k0_pay31 x4) (k0_pay32 x5) (k0_pay33 x8) (k0_pay34 x9) eqv nv 16#32)
        (k0_pay47 (k0_pay30 x3) (k0_pay31 x4) (k0_pay32 x5) (k0_pay33 x8) (k0_pay34 x9) eqv nv 16#32) := by
  unfold out0_12 k0_pay130 k0_pay131 k0_pay132 k0_pay133 k0_pay134 k0_pay135 k0_pay136 k0_pay129
  rw [View.canon_unit_zero hz3]
  simp only [ld0, ld1, ld4, ld5]
  rfl

/-- The block of the fourth result. -/
theorem out13 (x0 x1 x2 : Vec Ideal S1x1x128 .f32) (x3 x4 x5 : Vec Ideal S1x128x1 .f32) (x6 x7 : Vec Ideal S1x256x128 .f32) (x8 x9 : Vec Ideal S1x128x256 .f32) : out0_13 (F := Ideal) x0 x1 x2 x3 x4 x5 x6 x7 x8 x9 = k0_pay29 (k0_pay28 (k0_pay2 x0) (k0_pay3 x1) (k0_pay4 x2)) := by
  unfold out0_13 k0_pay122 k0_pay123 k0_pay124
  rw [View.canon_unit_zero hz3]
  simp only [ld0, ld1, ld4, ld5]

/-- The products the second result is made of. -/
def prods (x0 x1 x2 : Vec Ideal S1x1x128 .f32) (x3 x4 x5 : Vec Ideal S1x128x1 .f32) (x6 x7 : Vec Ideal S1x256x128 .f32) (x8 x9 : Vec Ideal S1x128x256 .f32) : FVec Ideal S16x256 .f32 :=
  allk (gre x0 x1 x2 x6 x7) (gim x0 x1 x2 x6 x7)
    (outre (k0_pay30 x3) (k0_pay31 x4) (k0_pay32 x5) (k0_pay33 x8) (k0_pay34 x9) eqv (k0_pay40 (F := Ideal) nv 16#32))
    (outim (k0_pay30 x3) (k0_pay31 x4) (k0_pay32 x5) (k0_pay33 x8) (k0_pay34 x9) eqv (k0_pay40 (F := Ideal) nv 16#32))

/-- They as the kernel's payload. -/
theorem pay138_eq (x0 x1 x2 : Vec Ideal S1x1x128 .f32) (x3 x4 x5 : Vec Ideal S1x128x1 .f32) (x6 x7 : Vec Ideal S1x256x128 .f32) (x8 x9 : Vec Ideal S1x128x256 .f32) : k0_pay138 (F := Ideal) x0 x1 x2 x3 x4 x5 x6 x7 x8 x9 = prods x0 x1 x2 x3 x4 x5 x6 x7 x8 x9 := by
  unfold k0_pay138 k0_pay127 k0_pay128 k0_pay125 k0_pay130 k0_pay131 k0_pay132 k0_pay133 k0_pay134 k0_pay135 k0_pay136 k0_pay129
  simp only [ld0, ld1, ld4, ld5]
  rfl

/-- The block of the second result. -/
theorem out11 (x0 x1 x2 : Vec Ideal S1x1x128 .f32) (x3 x4 x5 : Vec Ideal S1x128x1 .f32) (x6 x7 : Vec Ideal S1x256x128 .f32) (x8 x9 : Vec Ideal S1x128x256 .f32) : out0_11 (F := Ideal) x0 x1 x2 x3 x4 x5 x6 x7 x8 x9 = k0_pay1 (rows (prods x0 x1 x2 x3 x4 x5 x6 x7 x8 x9)) := by
  unfold out0_11
  rw [View.canon_unit_zero hz3, pay138_eq]
  unfold k0_pay137
  simp only [block0, block1, block2, block3, block4, block5, block6, block7, block8, block9, block10, block11, block12, block13, block14, pay121_eq]
  rfl

end Cert.CoefIdeal.Whole
-- ==== Proof.Value.CoefKer.lean ====
/-
  The recurrence's coefficients: the kernel's four results are the functions of its arguments.
-/
module

public import proofs.«01_k».proof.Defs
public import proofs.«01_k».proof.Proof.Gen.CoefIdeal.Value
public import proofs.«01_k».proof.Proof.Value.CoefOut
public import Idealize.ShloMosaic.Lib.Pipeline.Value
public import Idealize.ShloMosaic.Lib.Quiescent
public import Idealize.ShloMosaic.Lib.Pointwise
public import Idealize.ShloMosaic.Lib.ValueLayout

@[expose] public section

set_option maxRecDepth 16384

noncomputable section

namespace Cert.CoefIdeal.Whole

open Cert.CoefIdeal Cert.CoefIdeal.Gen
open Idealize.ShloMosaic Idealize.ShloMosaic.TcCoe Idealize.SL.Sem
open Idealize.ShloMosaic.Pipeline (Dat)

/-! ## A block read at an entry -/

/-- The input matrix with its gain, at an entry. -/
theorem gre_apply (x0 x1 x2 : Vec Ideal S1x1x128 .f32) (x6 x7 : Vec Ideal S1x256x128 .f32) (r : Fin 256) (l : Fin 128) :
    gre x0 x1 x2 x6 x7 (ix2 r l) = bre (x0 (ix3 0 0 l)) (x1 (ix3 0 0 l)) (Ideal.exp (x2 (ix3 0 0 l))) (x6 (ix3 0 r l)) (x7 (ix3 0 r l)) :=
  bre_apply x0 x1 x2 x6 x7 r l

/-- Its imaginary part. -/
theorem gim_apply (x0 x1 x2 : Vec Ideal S1x1x128 .f32) (x6 x7 : Vec Ideal S1x256x128 .f32) (r : Fin 256) (l : Fin 128) :
    gim x0 x1 x2 x6 x7 (ix2 r l) = bim (x0 (ix3 0 0 l)) (x1 (ix3 0 0 l)) (Ideal.exp (x2 (ix3 0 0 l))) (x6 (ix3 0 r l)) (x7 (ix3 0 r l)) :=
  bim_apply x0 x1 x2 x6 x7 r l

/-- When a row and a column of the first result are of the same group. -/
theorem eqw_apply (a : Fin 256) (b : Fin 128) : eqw (ix2 a b) = if a.val / 128 = b.val / 64 then 1#1 else 0#1 := same_apply a b

/-- The power of a row. -/
theorem tow_apply (a : Fin 256) (b : Fin 128) : tow (ix2 a b) = BitVec.ofNat 32 (7 - a.val % 128 / 16) := rest_apply a b

/-- When a row and a column of the third result are of the same group. -/
theorem eqv_apply (a : Fin 128) (b : Fin 256) : eqv (ix2 a b) = if a.val / 64 = b.val / 128 then 1#1 else 0#1 := same2_apply a b

/-- The step of a column. -/
theorem nv_apply (a : Fin 128) (b : Fin 256) : k0_pay40 (F := Ideal) nv 16#32 (ix2 a b) = num (BitVec.ofNat 32 (b.val % 128 / 16)) := tau_apply a b

/-- The step after it. -/
theorem nv_succ (a : Fin 128) (b : Fin 256) : k0_pay40 (F := Ideal) nv 16#32 (ix2 a b) + 1 = num (BitVec.ofNat 32 (b.val % 128 / 16 + 1)) := by
  rw [nv_apply]
  exact num_succ _ (by omega)

/-- A sum over a pair's states of what is kept in one of its groups is the sum over that group's. -/
theorem half_sum (g : Fin 2) (f h : Fin 128 → EReal) :
    ∑ k : Fin 128, f k * (if k.val / 64 = g.val then h k else 0)
      = ∑ p : Fin 64, f ⟨64 * g.val + p.val, by omega⟩ * h ⟨64 * g.val + p.val, by omega⟩ := by
  have e : ∑ k : Fin 128, f k * (if k.val / 64 = g.val then h k else 0)
      = (∑ p : Fin 64, f ⟨p.val, by omega⟩ * (if p.val / 64 = g.val then h ⟨p.val, by omega⟩ else 0))
        + ∑ p : Fin 64, f ⟨64 + p.val, by omega⟩ * (if (64 + p.val) / 64 = g.val then h ⟨64 + p.val, by omega⟩ else 0) :=
    Fin.sum_univ_add (a := 64) (b := 64) (fun k : Fin (64 + 64) => f k * (if k.val / 64 = g.val then h k else 0))
  rw [e]
  match g with
  | ⟨0, _⟩ =>
    have z : ∑ p : Fin 64, f ⟨64 + p.val, by omega⟩ * (if (64 + p.val) / 64 = 0 then h ⟨64 + p.val, by omega⟩ else 0) = 0 :=
      Finset.sum_eq_zero fun p _ => by rw [if_neg (by omega), mul_zero]
    refine (congrArg₂ (· + ·) (Finset.sum_congr rfl fun p _ => ?_) z).trans (add_zero _)
    rw [if_pos (by show p.val / 64 = 0; omega)]
    have i : (⟨64 * 0 + p.val, by omega⟩ : Fin 128) = ⟨p.val, by omega⟩ := Fin.ext (by show 64 * 0 + p.val = p.val; omega)
    show _ = f ⟨64 * 0 + p.val, by omega⟩ * h ⟨64 * 0 + p.val, by omega⟩
    rw [i]
  | ⟨1, _⟩ =>
    have z : ∑ p : Fin 64, f ⟨p.val, by omega⟩ * (if p.val / 64 = 1 then h ⟨p.val, by omega⟩ else 0) = 0 :=
      Finset.sum_eq_zero fun p _ => by rw [if_neg (by omega), mul_zero]
    refine (congrArg₂ (· + ·) z (Finset.sum_congr rfl fun p _ => ?_)).trans (zero_add _)
    rw [if_pos (by show (64 + p.val) / 64 = 1; omega)]
    rfl

section Blocks

variable (q : Fin 64) (a0 a1 : Vec Ideal S128x64 .f32) (a2 : Vec Ideal S128 .f32) (a3 a4 : Vec Ideal S128x64x16 .f32) (a5 a6 : Vec Ideal S128x16x64 .f32)
variable (x0 x1 x2 : Vec Ideal S1x1x128 .f32) (x3 x4 x5 : Vec Ideal S1x128x1 .f32) (x6 x7 : Vec Ideal S1x256x128 .f32) (x8 x9 : Vec Ideal S1x128x256 .f32)
variable (h0 : ∀ l : Fin 128, x0 (ix3 0 0 l) = a0 (ix2 (gr q l) (st l))) (h1 : ∀ l : Fin 128, x1 (ix3 0 0 l) = a1 (ix2 (gr q l) (st l)))
  (h2 : ∀ l : Fin 128, x2 (ix3 0 0 l) = a2 (ix1 (gr q l)))
  (h3 : ∀ l : Fin 128, x3 (ix3 0 l 0) = a0 (ix2 (gr q l) (st l))) (h4 : ∀ l : Fin 128, x4 (ix3 0 l 0) = a1 (ix2 (gr q l) (st l)))
  (h5 : ∀ l : Fin 128, x5 (ix3 0 l 0) = a2 (ix1 (gr q l)))
  (h6 : ∀ (k : Fin 256) (l : Fin 128), x6 (ix3 0 k l) = a3 (ix3 (gr q l) (st l) (ch k))) (h7 : ∀ (k : Fin 256) (l : Fin 128), x7 (ix3 0 k l) = a4 (ix3 (gr q l) (st l) (ch k)))
  (h8 : ∀ (k : Fin 128) (l : Fin 256), x8 (ix3 0 k l) = a5 (ix3 (gr q k) (ch l) (st k))) (h9 : ∀ (k : Fin 128) (l : Fin 256), x9 (ix3 0 k l) = a6 (ix3 (gr q k) (ch l) (st k)))

include h0 h1 h2 in
/-- The fourth result's block. -/
theorem a_apply (r : Fin 8) (l : Fin 256) : out0_13 (F := Ideal) x0 x1 x2 x3 x4 x5 x6 x7 x8 x9 (ix3 0 r l) = A1 a0 a1 a2 q l := by
  rw [out13]
  unfold A1
  by_cases hl : l.val < 128
  · rw [if_pos hl]
    refine (last_left (k0_pay2 x0) (k0_pay3 x1) (k0_pay4 x2) r ⟨l.val, hl⟩).trans ?_
    rw [pay2_apply, pay3_apply, pay4_apply, h0, h1, h2]
    have e : gr q ⟨l.val, hl⟩ = gp q (lg l) := Fin.ext (by show 2 * q.val + l.val / 64 = 2 * q.val + l.val % 128 / 64; omega)
    rw [e]
    rfl
  · rw [if_neg hl]
    have el : l = ⟨128 + (⟨l.val - 128, by omega⟩ : Fin 128).val, by omega⟩ := Fin.ext (by show l.val = 128 + (l.val - 128); omega)
    refine (congrArg (fun l => k0_pay29 (k0_pay28 (k0_pay2 x0) (k0_pay3 x1) (k0_pay4 x2)) (ix3 0 r l)) el).trans ((last_right (k0_pay2 x0) (k0_pay3 x1) (k0_pay4 x2) r ⟨l.val - 128, by omega⟩).trans ?_)
    rw [pay2_apply, pay3_apply, pay4_apply, h0, h1, h2]
    have e : gr q ⟨l.val - 128, by omega⟩ = gp q (lg l) := Fin.ext (by show 2 * q.val + (l.val - 128) / 64 = 2 * q.val + l.val % 128 / 64; omega)
    have e' : st ⟨l.val - 128, by omega⟩ = ls l := Fin.ext (by show (l.val - 128) % 64 = l.val % 64; omega)
    rw [e, e']
    rfl

include h0 h1 h2 h6 h7 in
/-- The first result's block. -/
theorem w_apply (r l : Fin 256) : out0_10 (F := Ideal) x0 x1 x2 x3 x4 x5 x6 x7 x8 x9 (ix3 0 r l) = W1 a0 a1 a2 a3 a4 q r l := by
  rw [out10]
  unfold W1
  by_cases hl : l.val < 128
  · rw [if_pos hl]
    refine (into_left _ _ _ _ _ _ _ r ⟨l.val, hl⟩).trans ?_
    rw [pay2_apply, pay3_apply, pay4_apply, gre_apply, gim_apply, eqw_apply, tow_apply, pick, h0, h1, h2, h6, h7]
    by_cases hm : r.val / 128 = l.val / 64
    · have e : gr q ⟨l.val, hl⟩ = gp q (rg r) := Fin.ext (by show 2 * q.val + l.val / 64 = 2 * q.val + r.val / 128; omega)
      rw [if_pos hm, if_pos (Fin.ext (by show r.val / 128 = l.val % 128 / 64; omega)), e]
      rfl
    · rw [if_neg hm, if_neg fun h => hm (by have h' : r.val / 128 = l.val % 128 / 64 := congrArg Fin.val h; omega)]
  · rw [if_neg hl]
    have el : l = ⟨128 + (⟨l.val - 128, by omega⟩ : Fin 128).val, by omega⟩ := Fin.ext (by show l.val = 128 + (l.val - 128); omega)
    refine (congrArg (fun l => into (k0_pay2 x0) (k0_pay3 x1) (k0_pay4 x2) (gre x0 x1 x2 x6 x7) (gim x0 x1 x2 x6 x7) eqw tow (ix3 0 r l)) el).trans
      ((into_right _ _ _ _ _ _ _ r ⟨l.val - 128, by omega⟩).trans ?_)
    rw [pay2_apply, pay3_apply, pay4_apply, gre_apply, gim_apply, eqw_apply, tow_apply, pick, h0, h1, h2, h6, h7]
    have e' : st ⟨l.val - 128, by omega⟩ = ls l := Fin.ext (by show (l.val - 128) % 64 = l.val % 64; omega)
    rw [e']
    by_cases hm : r.val / 128 = (l.val - 128) / 64
    · have e : gr q ⟨l.val - 128, by omega⟩ = gp q (rg r) := Fin.ext (by show 2 * q.val + (l.val - 128) / 64 = 2 * q.val + r.val / 128; omega)
      rw [if_pos hm, if_pos (Fin.ext (by show r.val / 128 = l.val % 128 / 64; omega)), e]
      rfl
    · rw [if_neg hm, if_neg fun h => hm (by have h' : r.val / 128 = l.val % 128 / 64 := congrArg Fin.val h; omega)]

include h3 h4 h5 h8 h9 in
/-- The third result's block. -/
theorem v_apply (r l : Fin 256) : out0_12 (F := Ideal) x0 x1 x2 x3 x4 x5 x6 x7 x8 x9 (ix3 0 r l) = V1 a0 a1 a2 a5 a6 q r l := by
  rw [out12]
  unfold V1
  by_cases hr : r.val < 128
  · rw [if_pos hr]
    refine (pay48_upper _ _ ⟨r.val, hr⟩ l).trans ?_
    rw [pay46_apply, nv_succ, eqv_apply, pick, pay30_apply, pay31_apply, pay32_apply, pay33_apply, pay34_apply, h3, h4, h5, h8, h9]
    have e : gr q ⟨r.val, hr⟩ = gp q (lg r) := Fin.ext (by show 2 * q.val + r.val / 64 = 2 * q.val + r.val % 128 / 64; omega)
    rw [e]
    by_cases hm : r.val / 64 = l.val / 128
    · rw [if_pos hm, if_pos (Fin.ext (by show r.val % 128 / 64 = l.val / 128; omega))]
      rfl
    · rw [if_neg hm, if_neg fun h => hm (by have h' : r.val % 128 / 64 = l.val / 128 := congrArg Fin.val h; omega)]
  · rw [if_neg hr]
    have er : r = ⟨128 + (⟨r.val - 128, by omega⟩ : Fin 128).val, by omega⟩ := Fin.ext (by show r.val = 128 + (r.val - 128); omega)
    refine (congrArg (fun r => k0_pay48 (k0_pay46 (k0_pay30 x3) (k0_pay31 x4) (k0_pay32 x5) (k0_pay33 x8) (k0_pay34 x9) eqv nv 16#32)
        (k0_pay47 (k0_pay30 x3) (k0_pay31 x4) (k0_pay32 x5) (k0_pay33 x8) (k0_pay34 x9) eqv nv 16#32) (ix3 0 r l)) er).trans
      ((pay48_lower _ _ ⟨r.val - 128, by omega⟩ l).trans ?_)
    rw [pay47_apply, nv_succ, eqv_apply, pick, pay30_apply, pay31_apply, pay32_apply, pay33_apply, pay34_apply, h3, h4, h5, h8, h9]
    have e : gr q ⟨r.val - 128, by omega⟩ = gp q (lg r) := Fin.ext (by show 2 * q.val + (r.val - 128) / 64 = 2 * q.val + r.val % 128 / 64; omega)
    have e' : st ⟨r.val - 128, by omega⟩ = ls r := Fin.ext (by show (r.val - 128) % 64 = r.val % 64; omega)
    rw [e, e']
    by_cases hm : (r.val - 128) / 64 = l.val / 128
    · rw [if_pos hm, if_pos (Fin.ext (by show r.val % 128 / 64 = l.val / 128; omega))]
      rfl
    · rw [if_neg hm, if_neg fun h => hm (by have h' : r.val % 128 / 64 = l.val / 128 := congrArg Fin.val h; omega), sub_zero]

include h0 h1 h2 h3 h4 h5 h6 h7 h8 h9 in
/-- The products the second result is made of. -/
theorem prods_apply (c : Fin 16) (l : Fin 256) :
    prods x0 x1 x2 x3 x4 x5 x6 x7 x8 x9 (ix2 c l) = Mst a0 a1 a2 a3 a4 a5 a6 (gp q (rg l)) c (ch l) (l.val % 128 / 16) := by
  have ec : ch ⟨c.val, by omega⟩ = c := Fin.ext (by show c.val % 16 = c.val; omega)
  have eg : ∀ p : Fin 64, gr q ⟨64 * (rg l).val + p.val, by omega⟩ = gp q (rg l) := fun p => Fin.ext (by show 2 * q.val + (64 * (rg l).val + p.val) / 64 = 2 * q.val + (rg l).val; omega)
  have es : ∀ p : Fin 64, st ⟨64 * (rg l).val + p.val, by omega⟩ = p := fun p => Fin.ext (by show (64 * (rg l).val + p.val) % 64 = p.val; omega)
  unfold prods
  rw [allk_apply]
  simp only [gre_apply, gim_apply, outre_apply, outim_apply, nv_apply, eqv_apply, pick, pay30_apply, pay31_apply, pay32_apply, pay33_apply, pay34_apply, h0, h1, h2, h3, h4, h5, h6, h7, h8, h9, ec]
  have eh : ∀ k : Fin 128, (k.val / 64 = l.val / 128) = (k.val / 64 = (rg l).val) := fun _ => rfl
  simp only [eh]
  rw [half_sum, half_sum]
  simp only [eg, es]
  rfl

include h0 h1 h2 h3 h4 h5 h6 h7 h8 h9 in
/-- The second result's block. -/
theorem m_apply (r l : Fin 256) : out0_11 (F := Ideal) x0 x1 x2 x3 x4 x5 x6 x7 x8 x9 (ix3 0 r l) = M1 a0 a1 a2 a3 a4 a5 a6 q r l := by
  have e1 : ∀ x : FVec Ideal S256x256 .bf16, k0_pay1 x (ix3 0 r l) = x (ix2 r l) := by
    intro x
    pointwise [k0_pay1]
  rw [out11, e1, rows_apply]
  unfold M1
  by_cases hm : r.val / 128 = l.val / 128 ∧ r.val % 128 / 16 ≤ l.val % 128 / 16
  · have hm' : rg r = rg l ∧ (rt r).val ≤ (rt l).val := ⟨Fin.ext hm.1, hm.2⟩
    rw [if_pos hm, if_pos hm', prods_apply q a0 a1 a2 a3 a4 a5 a6 x0 x1 x2 x3 x4 x5 x6 x7 x8 x9 h0 h1 h2 h3 h4 h5 h6 h7 h8 h9]
    have i1 : (l.val + 256 - 16 * (r.val % 128 / 16)) % 256 = l.val - 16 * (r.val % 128 / 16) := by omega
    have i2 : rg ⟨(l.val + 256 - 16 * (r.val % 128 / 16)) % 256, by omega⟩ = rg r := Fin.ext (by
      show (l.val + 256 - 16 * (r.val % 128 / 16)) % 256 / 128 = r.val / 128
      omega)
    have i3 : ch ⟨(l.val + 256 - 16 * (r.val % 128 / 16)) % 256, by omega⟩ = ch l := Fin.ext (by
      show (l.val + 256 - 16 * (r.val % 128 / 16)) % 256 % 16 = l.val % 16
      omega)
    have i4 : (l.val + 256 - 16 * (r.val % 128 / 16)) % 256 % 128 / 16 = (rt l).val - (rt r).val := by
      show (l.val + 256 - 16 * (r.val % 128 / 16)) % 256 % 128 / 16 = l.val % 128 / 16 - r.val % 128 / 16
      omega
    rw [i2, i3]
    exact congrArg _ i4
  · have hm' : ¬ (rg r = rg l ∧ (rt r).val ≤ (rt l).val) := fun h => hm ⟨congrArg Fin.val h.1, h.2⟩
    rw [if_neg hm, if_neg hm']

end Blocks

/-! ## The whole arrays -/

variable (m : (ℓ : Loc nD τ sig) → Buf (Elt Ideal) ℓ) (ρ : Dev nD → PrngReg)

/-- What a point writes back to window 10 is its block of the whole-array function. -/
theorem flushed_10 (c : Dev nD) (t : Fin cfg0.N) :
    (dats m 0 c).flushed 10 t = (win0_10.blk t).view.read (Elt Ideal) (GW (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed10]
  funext j
  idx_vars j
  have hj : j0 = 0 := Fin.ext (by omega)
  subst hj
  show out0_10 (F := Ideal) _ _ _ _ _ _ _ _ _ _ (ix3 0 j1 j2) = GW _ _ _ _ _ ((win0_10.blk t).view.emb (ix3 0 j1 j2))
  rw [emb_10]
  exact w_apply (pr t) _ _ _ _ _ _ _ _ _ _ _ _ _ _ _ (iblk_0 m c t) (iblk_1 m c t) (iblk_2 m c t) (iblk_6 m c t) (iblk_7 m c t) j1 j2

/-- What a point writes back to window 11 is its block of the whole-array function. -/
theorem flushed_11 (c : Dev nD) (t : Fin cfg0.N) :
    (dats m 0 c).flushed 11 t = (win0_11.blk t).view.read (Elt Ideal) (GM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed11]
  funext j
  idx_vars j
  have hj : j0 = 0 := Fin.ext (by omega)
  subst hj
  show out0_11 (F := Ideal) _ _ _ _ _ _ _ _ _ _ (ix3 0 j1 j2) = GM _ _ _ _ _ _ _ ((win0_11.blk t).view.emb (ix3 0 j1 j2))
  rw [emb_11]
  exact m_apply (pr t) _ _ _ _ _ _ _ _ _ _ _ _ _ _ _ _ _ (iblk_0 m c t) (iblk_1 m c t) (iblk_2 m c t) (iblk_3 m c t) (iblk_4 m c t) (iblk_5 m c t) (iblk_6 m c t) (iblk_7 m c t) (iblk_8 m c t) (iblk_9 m c t) j1 j2

/-- What a point writes back to window 12 is its block of the whole-array function. -/
theorem flushed_12 (c : Dev nD) (t : Fin cfg0.N) :
    (dats m 0 c).flushed 12 t = (win0_12.blk t).view.read (Elt Ideal) (GV (m ((c : Thread nD τ).loc main_arg0)) (m ((c : Thread nD τ).loc main_arg1)) (m ((c : Thread nD τ).loc main_arg2)) (m ((c : Thread nD τ).loc main_arg5)) (m ((c : Thread nD τ).loc main_arg6))) := by
  rw [Value.flushed12]
  funext j
  idx_vars j
  have hj : j0 = 0 := Fin.ext (by omega)
  subst hj
  show out0_12 (F := Ideal) _ _ _ _ _ _ _ _ _ _ (ix3 0 j1 j2) = GV _ _ _ _ _ ((win0_12.blk t).view.emb (ix3 0 j1 j2))
  rw [emb_12]
  exact v_apply (pr t) _ _ _ _ _ _ _ _ _ _ _ _ _ _ _ (iblk_3 m c t) (iblk_4 m c t) (iblk_5 m c t) (iblk_8 m c t) (iblk_9 m c t) j1 j2

/-- What a point writes back to window 13 is its block of the whole-array function. -/
theorem flushed_13 (c : Dev nD) (t : Fin cfg0.N) :
    (dats m 0 c).flushed 13 t = (win0_13.blk t).view.read (Elt Ideal) (GA (m ((c : Thread nD τ).loc main_arg0)) (m ((c : Thread nD τ).loc main_arg1)) (m ((c : Thread nD τ).loc main_arg2))) := by
  rw [Value.flushed13]
  funext j
  idx_vars j
  have hj : j0 = 0 := Fin.ext (by omega)
  subst hj
  show out0_13 (F := Ideal) _ _ _ _ _ _ _ _ _ _ (ix3 0 j1 j2) = GA _ _ _ ((win0_13.blk t).view.emb (ix3 0 j1 j2))
  rw [emb_13]
  exact a_apply (pr t) _ _ _ _ _ _ _ _ _ _ _ _ _ (iblk_0 m c t) (iblk_1 m c t) (iblk_2 m c t) j1 j2

/-- The kernel's results, and its arguments kept. -/
theorem run : θ_run defs (onTc (τ := τ) (main (F := Ideal))) ⟨m, fun _ => 0, ρ⟩ fun r => ∀ c : Dev nD,
      r.2.mem ((c : Thread nD τ).loc main_v28_0) = GW (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v28_1) = GM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v28_2) = GV (m ((c : Thread nD τ).loc main_arg0)) (m ((c : Thread nD τ).loc main_arg1)) (m ((c : Thread nD τ).loc main_arg2)) (m ((c : Thread nD τ).loc main_arg5)) (m ((c : Thread nD τ).loc main_arg6))
      ∧ r.2.mem ((c : Thread nD τ).loc main_v28_3) = GA (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans ((dats m 0 c).arrAt_eq_of_cover 10 _ (fun t _ => flushed_10 m c t) cover_10),
      (h c).2.1.trans ((dats m 0 c).arrAt_eq_of_cover 11 _ (fun t _ => flushed_11 m c t) cover_11),
      (h c).2.2.1.trans ((dats m 0 c).arrAt_eq_of_cover 12 _ (fun t _ => flushed_12 m c t) cover_12),
      (h c).2.2.2.1.trans ((dats m 0 c).arrAt_eq_of_cover 13 _ (fun t _ => flushed_13 m c t) cover_13), (h c).2.2.2.2⟩)
    (Value.run_blocks m ρ)

end Cert.CoefIdeal.Whole
-- ==== Proof.Value.CoefRef.lean ====
/-
  The recurrence's coefficients: the host program's intermediate values at an entry.
-/
module

public import proofs.«01_k».proof.Defs
public import proofs.«01_k».proof.Proof.Gen.CoefRefIdeal.Run
public import proofs.«01_k».proof.Proof.Value.CoefOut
public import Idealize.ShloMosaic.Lib.ValueIdxRank6
public import Idealize.ShloMosaic.Lib.Pipeline.Value
public import Idealize.ShloMosaic.Lib.Quiescent
public import Idealize.ShloMosaic.Lib.Pointwise
public import Idealize.ShloMosaic.Lib.ValueLayout

@[expose] public section

set_option maxRecDepth 16384

noncomputable section

namespace Cert.CoefRefIdeal.Whole

open Cert.CoefRefIdeal Cert.CoefRefIdeal.Gen
open Idealize.ShloMosaic Idealize.ShloMosaic.TcCoe Idealize.SL.Sem
open Idealize.ShloMosaic.Pipeline (Dat)
open Cert.CoefIdeal.Whole (cre cim fre fim bre bim mre mim num Pre Pim Bre Bim Wre Wim Vre Vim Mst rg rt lg ls gp ch W1 M1 V1 A1 GW GM GV GA pick)
open Cert.CoefRefIdeal.Value

variable (V : Valuation τ sig (Elt Ideal))

/-- The eigenvalues' real parts. -/
abbrev A0 : Vec Ideal S128x64 .f32 := V (Proc.devRef .tc main_arg0)

/-- Their imaginary parts. -/
abbrev A1a : Vec Ideal S128x64 .f32 := V (Proc.devRef .tc main_arg1)

/-- The logarithms of the steps. -/
abbrev A2 : Vec Ideal S128 .f32 := V (Proc.devRef .tc main_arg2)

/-- The input matrix, real part. -/
abbrev A3 : Vec Ideal S128x64x16 .f32 := V (Proc.devRef .tc main_arg3)

/-- The input matrix, imaginary part. -/
abbrev A4 : Vec Ideal S128x64x16 .f32 := V (Proc.devRef .tc main_arg4)

/-- The output matrix, real part. -/
abbrev A5 : Vec Ideal S128x16x64 .f32 := V (Proc.devRef .tc main_arg5)

/-- The output matrix, imaginary part. -/
abbrev A6 : Vec Ideal S128x16x64 .f32 := V (Proc.devRef .tc main_arg6)

/-- The gain's real part. -/
theorem v21_apply (h : Fin 128) (p : Fin 64) : res_main_v21 V (ix2 h p) = fre (A0 V (ix2 h p)) (A1a V (ix2 h p)) (Ideal.exp (A2 V (ix1 h))) := by
  pointwise [res_main_v21, res_main_v8, res_main_v4, res_main_v12, res_main_v15, res_main_v1, fre]

/-- Its imaginary part. -/
theorem v27_apply (h : Fin 128) (p : Fin 64) : res_main_v27 V (ix2 h p) = fim (A0 V (ix2 h p)) (A1a V (ix2 h p)) (Ideal.exp (A2 V (ix1 h))) := by
  pointwise [res_main_v27, res_main_v8, res_main_v4, res_main_v12, res_main_v15, res_main_v1, fim]

/-- The input matrix with its gain, real part. -/
theorem v34_apply (h : Fin 128) (p : Fin 64) (c : Fin 16) : res_main_v34 V (ix3 h p c) = Bre (A0 V) (A1a V) (A2 V) (A3 V) (A4 V) h p c := by
  pointwise [res_main_v34]
  rw [v21_apply, v27_apply]
  rfl

/-- The imaginary part. -/
theorem v41_apply (h : Fin 128) (p : Fin 64) (c : Fin 16) : res_main_v41 V (ix3 h p c) = Bim (A0 V) (A1a V) (A2 V) (A3 V) (A4 V) h p c := by
  pointwise [res_main_v41]
  rw [v21_apply, v27_apply]
  rfl

/-- Which groups of a pair are the same. -/
theorem v49_apply (g g' : Fin 2) : res_main_v49 V (ix2 g g') = if g = g' then 1#1 else 0#1 := by
  pointwise [res_main_v49]
  fin_cases g <;> fin_cases g' <;> rfl

/-- The powers left after a step, real part. -/
theorem v71_apply (t : Fin 8) (h : Fin 128) (p : Fin 64) : res_main_v71 V (ix4 t h p 0) = Pre (A0 V) (A1a V) (A2 V) h p (num (BitVec.ofNat 32 (7 - t.val))) := by
  have e : BitVec.ofNat 32 (7 - t.val) = IntOp.subi 7#32 (BitVec.ofNat 32 t.val) := by revert t; decide
  rw [e]
  pointwise [res_main_v71, res_main_v60, res_main_v66, res_main_v53, res_main_v42, res_main_v1, Pre, cre, num]

/-- The imaginary part. -/
theorem v72_apply (t : Fin 8) (h : Fin 128) (p : Fin 64) : res_main_v72 V (ix4 t h p 0) = Pim (A0 V) (A1a V) (A2 V) h p (num (BitVec.ofNat 32 (7 - t.val))) := by
  have e : BitVec.ofNat 32 (7 - t.val) = IntOp.subi 7#32 (BitVec.ofNat 32 t.val) := by revert t; decide
  rw [e]
  pointwise [res_main_v72, res_main_v60, res_main_v66, res_main_v53, res_main_v42, res_main_v1, Pim, cim, num]

/-- The powers between two steps, real part. -/
theorem v120_apply (j t : Fin 8) (hjt : j.val ≤ t.val) (h : Fin 128) (p : Fin 64) : res_main_v120 V (ix4 j t h p) = Pre (A0 V) (A1a V) (A2 V) h p (num (BitVec.ofNat 32 (t.val - j.val))) := by
  have e : BitVec.ofNat 32 (t.val - j.val) = IntOp.subi (BitVec.ofNat 32 t.val) (BitVec.ofNat 32 j.val) := by revert j t; decide
  rw [e]
  pointwise [res_main_v120, res_main_v112, res_main_v118, res_main_v105, res_main_v42, res_main_v1, Pre, cre, num]

/-- The imaginary part. -/
theorem v122_apply (j t : Fin 8) (hjt : j.val ≤ t.val) (h : Fin 128) (p : Fin 64) : res_main_v122 V (ix4 j t h p) = Pim (A0 V) (A1a V) (A2 V) h p (num (BitVec.ofNat 32 (t.val - j.val))) := by
  have e : BitVec.ofNat 32 (t.val - j.val) = IntOp.subi (BitVec.ofNat 32 t.val) (BitVec.ofNat 32 j.val) := by revert j t; decide
  rw [e]
  pointwise [res_main_v122, res_main_v112, res_main_v118, res_main_v105, res_main_v42, res_main_v1, Pim, cim, num]

/-- The powers up to and with a step, real part. -/
theorem v180_apply (t : Fin 8) (h : Fin 128) (p : Fin 64) : res_main_v180 V (ix4 t h 0 p) = Pre (A0 V) (A1a V) (A2 V) h p (num (BitVec.ofNat 32 (t.val + 1))) := by
  have e : BitVec.ofNat 32 (t.val + 1) = IntOp.addi (BitVec.ofNat 32 t.val) 1#32 := by revert t; decide
  rw [e]
  pointwise [res_main_v180, res_main_v169, res_main_v175, res_main_v162, res_main_v42, res_main_v1, Pre, cre, num]

/-- The imaginary part. -/
theorem v181_apply (t : Fin 8) (h : Fin 128) (p : Fin 64) : res_main_v181 V (ix4 t h 0 p) = Pim (A0 V) (A1a V) (A2 V) h p (num (BitVec.ofNat 32 (t.val + 1))) := by
  have e : BitVec.ofNat 32 (t.val + 1) = IntOp.addi (BitVec.ofNat 32 t.val) 1#32 := by revert t; decide
  rw [e]
  pointwise [res_main_v181, res_main_v169, res_main_v175, res_main_v162, res_main_v42, res_main_v1, Pim, cim, num]

/-- The power over a whole chunk, real part. -/
theorem v219_apply (h : Fin 128) (p : Fin 64) :
    mulf (res_main_v213 V) (Host.cos (res_main_v217 V)) (ix2 h p) = Pre (A0 V) (A1a V) (A2 V) h p (Ideal.ofBits .f32 0x41000000#32) := by
  pointwise [res_main_v213, res_main_v217, res_main_v1, Pre, cre]

/-- The imaginary part. -/
theorem v221_apply (h : Fin 128) (p : Fin 64) :
    mulf (res_main_v213 V) (Host.sin (res_main_v217 V)) (ix2 h p) = Pim (A0 V) (A1a V) (A2 V) h p (Ideal.ofBits .f32 0x41000000#32) := by
  pointwise [res_main_v213, res_main_v217, res_main_v1, Pim, cim]

/-- A rank-7 index from its coordinates. -/
abbrev ix7 {n0 n1 n2 n3 n4 n5 n6 : Nat} (a : Fin n0) (b : Fin n1) (c : Fin n2) (d : Fin n3) (e : Fin n4) (f : Fin n5) (g : Fin n6) :
    (⟨7, ![n0, n1, n2, n3, n4, n5, n6]⟩ : Shape).Idx :=
  fun z => match z with | ⟨0, _⟩ => a | ⟨1, _⟩ => b | ⟨2, _⟩ => c | ⟨3, _⟩ => d | ⟨4, _⟩ => e | ⟨5, _⟩ => f | ⟨6, _⟩ => g

/-- The place of a rank-7 index in row-major order. -/
theorem place7 {n0 n1 n2 n3 n4 n5 n6 : Nat} (a : Fin n0) (b : Fin n1) (c : Fin n2) (d : Fin n3) (e : Fin n4) (f : Fin n5) (g : Fin n6) :
    ((⟨7, ![n0, n1, n2, n3, n4, n5, n6]⟩ : Shape).rowMajor (ix7 a b c d e f g)).val
      = a.val * (n1 * n2 * n3 * n4 * n5 * n6) + (((((b.val * n2 + c.val) * n3 + d.val) * n4 + e.val) * n5 + f.val) * n6 + g.val) := by
  rw [Shape.rowMajor_val_succ, Shape.rowMajor_val_six]
  refine congrArg₂ (· + ·) (congrArg (a.val * ·) ?_) rfl
  show ∏ i : Fin 6, (![n0, n1, n2, n3, n4, n5, n6] : Fin 7 → Nat) i.succ = _
  simp [Fin.prod_univ_succ, Nat.mul_assoc]

/-- The last steps of the first result: the groups of a pair kept apart, and the axes joined. -/
def apartW (e : IVec S2x2 1) (u : Vec Ideal S64x2x8x16x2x64 .f32) : Vec Ideal S64x2x8x16x2x2x64 .f32 :=
  select (broadcastInDim S64x2x8x16x2x2x64 ![0, 1, 2, 3, 4, 5, 6] bcast_S1x2x1x1x1x2x1_S64x2x8x16x2x2x64_0_1_2_3_4_5_6 (broadcastInDim S1x2x1x1x1x2x1 ![1, 5] bcast_S2x2_S1x2x1x1x1x2x1_1_5 e)) (broadcastInDim S64x2x8x16x2x2x64 ![0, 1, 2, 3, 4, 5, 6] bcast_S64x2x8x16x2x1x64_S64x2x8x16x2x2x64_0_1_2_3_4_5_6 (broadcastInDim S64x2x8x16x2x1x64 ![0, 1, 2, 3, 4, 6] bcast_S64x2x8x16x2x64_S64x2x8x16x2x1x64_0_1_2_3_4_6 u)) (broadcastInDim S64x2x8x16x2x2x64 ![] bcast_S_S64x2x8x16x2x2x64 (id (constant (F := Ideal) S_ .f32 0x00000000#32)))

/-- The axes joined. -/
def lastW (e : IVec S2x2 1) (u : Vec Ideal S64x2x8x16x2x64 .f32) : Vec Ideal S64x256x256 .bf16 :=
  truncf (F := Ideal) .bf16 (shapeCast _ (apartW e u) shapeCasts_S64x2x8x16x2x2x64_S64x256x256) bitsLt_bf16_f32

/-- They at an entry. -/
theorem lastW_apply (e : IVec S2x2 1) (u : Vec Ideal S64x2x8x16x2x64 .f32) (q : Fin 64) (r l : Fin 256) :
    lastW e u (ix3 q r l) = Scalar.select (e (ix2 (rg r) (lg l))) (u (ix6 q (rg r) (rt r) (ch r) (rg l) (ls l))) 0 := by
  show (shapeCast S64x256x256 (apartW e u) shapeCasts_S64x2x8x16x2x2x64_S64x256x256 (ix3 q r l) : EReal) = _
  refine (shapeCast_apply _ _ (ix3 q r l : S64x256x256.Idx) (ix7 q (rg r) (rt r) (ch r) (rg l) (lg l) (ls l) : S64x2x8x16x2x2x64.Idx) ?_).trans ?_
  · rw [place7, Shape.rowMajor_val_three]
    show q.val * (2 * 8 * 16 * 2 * 2 * 64) + (((((r.val / 128 * 8 + r.val % 128 / 16) * 16 + r.val % 16) * 2 + l.val / 128) * 2 + l.val % 128 / 64) * 64 + l.val % 64) = (q.val * 256 + r.val) * 256 + l.val
    omega
  · refine congr (congrArg₂ Scalar.select ?_ ?_) ?_
    · refine (broadcastInDim_apply _ _ _ _ (ix7 0 (rg r) 0 0 0 (lg l) 0 : S1x2x1x1x1x2x1.Idx) fun a => ?_).trans
        (broadcastInDim_apply _ _ _ _ (ix2 (rg r) (lg l) : S2x2.Idx) fun a => ?_)
      · fin_cases a <;> rfl
      · fin_cases a <;> rfl
    · refine (broadcastInDim_apply _ _ _ _ (ix7 q (rg r) (rt r) (ch r) (rg l) 0 (ls l) : S64x2x8x16x2x1x64.Idx) fun a => ?_).trans
        (broadcastInDim_apply _ _ _ _ (ix6 q (rg r) (rt r) (ch r) (rg l) (ls l) : S64x2x8x16x2x64.Idx) fun a => ?_)
      · fin_cases a <;> rfl
      · fin_cases a <;> rfl
    · show Ideal.ofBits .f32 0x00000000#32 = 0
      simp

/-- The axes of the first result put in order. -/
theorem orderW (x : Vec Ideal S2x8x128x64x16 .f32) (q : Fin 64) (g : Fin 2) (t : Fin 8) (c : Fin 16) (o : Fin 2) (p : Fin 64) :
    transpose S64x2x8x16x2x64 [2, 3, 1, 5, 0, 4] (shapeCast _ x shapeCasts_S2x8x128x64x16_S2x8x64x2x64x16) transposes_S2x8x64x2x64x16_S64x2x8x16x2x64_2_3_1_5_0_4 (ix6 q g t c o p)
      = x (ix5 o t (gp q g) p c) := by
  refine (transpose_apply _ _ _ _ (ix6 o t q g p c : S2x8x64x2x64x16.Idx) fun b => ?_).trans (shapeCast_apply _ _ _ (ix5 o t (gp q g) p c : S2x8x128x64x16.Idx) ?_)
  · fin_cases b <;> rfl
  · rw [Shape.rowMajor_val_five, Shape.rowMajor_val_six]
    show (((o.val * 8 + t.val) * 128 + (2 * q.val + g.val)) * 64 + p.val) * 16 + c.val = ((((o.val * 8 + t.val) * 64 + q.val) * 2 + g.val) * 64 + p.val) * 16 + c.val
    omega

/-- The two parts of the first result. -/
def bothW : Vec Ideal S2x8x128x64x16 .f32 :=
  concatenate S2x8x128x64x16 0 [⟨S1x8x128x64x16, (broadcastInDim S1x8x128x64x16 ![1, 2, 3, 4] bcast_S8x128x64x16_S1x8x128x64x16_1_2_3_4 (subf (mulf (broadcastInDim S8x128x64x16 ![0, 1, 2, 3] bcast_S8x128x64x1_S8x128x64x16_0_1_2_3 (res_main_v71 V)) (broadcastInDim S8x128x64x16 ![0, 1, 2, 3] bcast_S1x128x64x16_S8x128x64x16_0_1_2_3 (broadcastInDim S1x128x64x16 ![1, 2, 3] bcast_S128x64x16_S1x128x64x16_1_2_3 (res_main_v34 V)))) (mulf (broadcastInDim S8x128x64x16 ![0, 1, 2, 3] bcast_S8x128x64x1_S8x128x64x16_0_1_2_3 (res_main_v72 V)) (broadcastInDim S8x128x64x16 ![0, 1, 2, 3] bcast_S1x128x64x16_S8x128x64x16_0_1_2_3 (broadcastInDim S1x128x64x16 ![1, 2, 3] bcast_S128x64x16_S1x128x64x16_1_2_3 (res_main_v41 V))))))⟩, ⟨S1x8x128x64x16, (broadcastInDim S1x8x128x64x16 ![1, 2, 3, 4] bcast_S8x128x64x16_S1x8x128x64x16_1_2_3_4 (addf (mulf (broadcastInDim S8x128x64x16 ![0, 1, 2, 3] bcast_S8x128x64x1_S8x128x64x16_0_1_2_3 (res_main_v71 V)) (broadcastInDim S8x128x64x16 ![0, 1, 2, 3] bcast_S1x128x64x16_S8x128x64x16_0_1_2_3 (broadcastInDim S1x128x64x16 ![1, 2, 3] bcast_S128x64x16_S1x128x64x16_1_2_3 (res_main_v41 V)))) (mulf (broadcastInDim S8x128x64x16 ![0, 1, 2, 3] bcast_S8x128x64x1_S8x128x64x16_0_1_2_3 (res_main_v72 V)) (broadcastInDim S8x128x64x16 ![0, 1, 2, 3] bcast_S1x128x64x16_S8x128x64x16_0_1_2_3 (broadcastInDim S1x128x64x16 ![1, 2, 3] bcast_S128x64x16_S1x128x64x16_1_2_3 (res_main_v34 V))))))⟩] concatenates_S1x8x128x64x16_S1x8x128x64x16_S2x8x128x64x16_d0

/-- They at an entry. -/
theorem bothW_apply (o : Fin 2) (t : Fin 8) (h : Fin 128) (p : Fin 64) (c : Fin 16) :
    bothW V (ix5 o t h p c) = if o.val < 1 then Wre (A0 V) (A1a V) (A2 V) (A3 V) (A4 V) h p c t else Wim (A0 V) (A1a V) (A2 V) (A3 V) (A4 V) h p c t := by
  pointwise [bothW]
  simp only [v71_apply, v72_apply, v34_apply, v41_apply]
  rfl

/-- The first result of the host program. -/
theorem refW : lastW (res_main_v49 V) (transpose S64x2x8x16x2x64 [2, 3, 1, 5, 0, 4] (shapeCast _ (bothW V) shapeCasts_S2x8x128x64x16_S2x8x64x2x64x16) transposes_S2x8x64x2x64x16_S64x2x8x16x2x64_2_3_1_5_0_4) = GW (A0 V) (A1a V) (A2 V) (A3 V) (A4 V) := by
  funext i
  idx_vars i
  rw [lastW_apply, orderW, bothW_apply, v49_apply, pick]
  show _ = W1 (A0 V) (A1a V) (A2 V) (A3 V) (A4 V) i0 i1 i2
  unfold W1
  have e : ((rg i2).val < 1) = (i2.val < 128) := propext ⟨fun h => by have h' : i2.val / 128 < 1 := h; omega, fun h => by show i2.val / 128 < 1; omega⟩
  simp only [e]

/-- The last steps of the third result. -/
def apartV (e : IVec S2x2 1) (u : Vec Ideal S64x2x2x64x8x16 .f32) : Vec Ideal S64x2x2x64x2x8x16 .f32 :=
  select (broadcastInDim S64x2x2x64x2x8x16 ![0, 1, 2, 3, 4, 5, 6] bcast_S1x1x2x1x2x1x1_S64x2x2x64x2x8x16_0_1_2_3_4_5_6 (broadcastInDim S1x1x2x1x2x1x1 ![2, 4] bcast_S2x2_S1x1x2x1x2x1x1_2_4 e)) (broadcastInDim S64x2x2x64x2x8x16 ![0, 1, 2, 3, 4, 5, 6] bcast_S64x2x2x64x1x8x16_S64x2x2x64x2x8x16_0_1_2_3_4_5_6 (broadcastInDim S64x2x2x64x1x8x16 ![0, 1, 2, 3, 5, 6] bcast_S64x2x2x64x8x16_S64x2x2x64x1x8x16_0_1_2_3_5_6 u)) (broadcastInDim S64x2x2x64x2x8x16 ![] bcast_S_S64x2x2x64x2x8x16 (id (constant (F := Ideal) S_ .f32 0x00000000#32)))

/-- The axes joined. -/
def lastV (e : IVec S2x2 1) (u : Vec Ideal S64x2x2x64x8x16 .f32) : Vec Ideal S64x256x256 .bf16 :=
  truncf (F := Ideal) .bf16 (shapeCast _ (apartV e u) shapeCasts_S64x2x2x64x2x8x16_S64x256x256) bitsLt_bf16_f32

/-- They at an entry. -/
theorem lastV_apply (e : IVec S2x2 1) (u : Vec Ideal S64x2x2x64x8x16 .f32) (q : Fin 64) (r l : Fin 256) :
    lastV e u (ix3 q r l) = Scalar.select (e (ix2 (lg r) (rg l))) (u (ix6 q (rg r) (lg r) (ls r) (rt l) (ch l))) 0 := by
  show (shapeCast S64x256x256 (apartV e u) shapeCasts_S64x2x2x64x2x8x16_S64x256x256 (ix3 q r l) : EReal) = _
  refine (shapeCast_apply _ _ (ix3 q r l : S64x256x256.Idx) (ix7 q (rg r) (lg r) (ls r) (rg l) (rt l) (ch l) : S64x2x2x64x2x8x16.Idx) ?_).trans ?_
  · rw [place7, Shape.rowMajor_val_three]
    show q.val * (2 * 2 * 64 * 2 * 8 * 16) + (((((r.val / 128 * 2 + r.val % 128 / 64) * 64 + r.val % 64) * 2 + l.val / 128) * 8 + l.val % 128 / 16) * 16 + l.val % 16) = (q.val * 256 + r.val) * 256 + l.val
    omega
  · refine congr (congrArg₂ Scalar.select ?_ ?_) ?_
    · refine (broadcastInDim_apply _ _ _ _ (ix7 0 0 (lg r) 0 (rg l) 0 0 : S1x1x2x1x2x1x1.Idx) fun a => ?_).trans
        (broadcastInDim_apply _ _ _ _ (ix2 (lg r) (rg l) : S2x2.Idx) fun a => ?_)
      · fin_cases a <;> rfl
      · fin_cases a <;> rfl
    · refine (broadcastInDim_apply _ _ _ _ (ix7 q (rg r) (lg r) (ls r) 0 (rt l) (ch l) : S64x2x2x64x1x8x16.Idx) fun a => ?_).trans
        (broadcastInDim_apply _ _ _ _ (ix6 q (rg r) (lg r) (ls r) (rt l) (ch l) : S64x2x2x64x8x16.Idx) fun a => ?_)
      · fin_cases a <;> rfl
      · fin_cases a <;> rfl
    · show Ideal.ofBits .f32 0x00000000#32 = 0
      simp

/-- The axes of the third result put in order. -/
theorem orderV (x : Vec Ideal S2x8x128x16x64 .f32) (q : Fin 64) (o g : Fin 2) (p : Fin 64) (t : Fin 8) (d : Fin 16) :
    transpose S64x2x2x64x8x16 [2, 0, 3, 5, 1, 4] (shapeCast _ x shapeCasts_S2x8x128x16x64_S2x8x64x2x16x64) transposes_S2x8x64x2x16x64_S64x2x2x64x8x16_2_0_3_5_1_4 (ix6 q o g p t d)
      = x (ix5 o t (gp q g) d p) := by
  refine (transpose_apply _ _ _ _ (ix6 o t q g d p : S2x8x64x2x16x64.Idx) fun b => ?_).trans (shapeCast_apply _ _ _ (ix5 o t (gp q g) d p : S2x8x128x16x64.Idx) ?_)
  · fin_cases b <;> rfl
  · rw [Shape.rowMajor_val_five, Shape.rowMajor_val_six]
    show (((o.val * 8 + t.val) * 128 + (2 * q.val + g.val)) * 16 + d.val) * 64 + p.val = ((((o.val * 8 + t.val) * 64 + q.val) * 2 + g.val) * 16 + d.val) * 64 + p.val
    omega

/-- The two parts of the third result. -/
def bothV : Vec Ideal S2x8x128x16x64 .f32 :=
  concatenate S2x8x128x16x64 0 [⟨S1x8x128x16x64, (broadcastInDim S1x8x128x16x64 ![1, 2, 3, 4] bcast_S8x128x16x64_S1x8x128x16x64_1_2_3_4 (subf (mulf (broadcastInDim S8x128x16x64 ![0, 1, 2, 3] bcast_S8x128x1x64_S8x128x16x64_0_1_2_3 (res_main_v180 V)) (broadcastInDim S8x128x16x64 ![0, 1, 2, 3] bcast_S1x128x16x64_S8x128x16x64_0_1_2_3 (broadcastInDim S1x128x16x64 ![1, 2, 3] bcast_S128x16x64_S1x128x16x64_1_2_3 (V (Proc.devRef .tc main_arg5))))) (mulf (broadcastInDim S8x128x16x64 ![0, 1, 2, 3] bcast_S8x128x1x64_S8x128x16x64_0_1_2_3 (res_main_v181 V)) (broadcastInDim S8x128x16x64 ![0, 1, 2, 3] bcast_S1x128x16x64_S8x128x16x64_0_1_2_3 (broadcastInDim S1x128x16x64 ![1, 2, 3] bcast_S128x16x64_S1x128x16x64_1_2_3 (V (Proc.devRef .tc main_arg6)))))))⟩, ⟨S1x8x128x16x64, (broadcastInDim S1x8x128x16x64 ![1, 2, 3, 4] bcast_S8x128x16x64_S1x8x128x16x64_1_2_3_4 (Host.negf (addf (mulf (broadcastInDim S8x128x16x64 ![0, 1, 2, 3] bcast_S8x128x1x64_S8x128x16x64_0_1_2_3 (res_main_v180 V)) (broadcastInDim S8x128x16x64 ![0, 1, 2, 3] bcast_S1x128x16x64_S8x128x16x64_0_1_2_3 (broadcastInDim S1x128x16x64 ![1, 2, 3] bcast_S128x16x64_S1x128x16x64_1_2_3 (V (Proc.devRef .tc main_arg6))))) (mulf (broadcastInDim S8x128x16x64 ![0, 1, 2, 3] bcast_S8x128x1x64_S8x128x16x64_0_1_2_3 (res_main_v181 V)) (broadcastInDim S8x128x16x64 ![0, 1, 2, 3] bcast_S1x128x16x64_S8x128x16x64_0_1_2_3 (broadcastInDim S1x128x16x64 ![1, 2, 3] bcast_S128x16x64_S1x128x16x64_1_2_3 (V (Proc.devRef .tc main_arg5))))))))⟩] concatenates_S1x8x128x16x64_S1x8x128x16x64_S2x8x128x16x64_d0

/-- They at an entry. -/
theorem bothV_apply (o : Fin 2) (t : Fin 8) (h : Fin 128) (d : Fin 16) (p : Fin 64) :
    bothV V (ix5 o t h d p) = if o.val < 1 then Vre (A0 V) (A1a V) (A2 V) (A5 V) (A6 V) h p d (t.val + 1) else 0 - Vim (A0 V) (A1a V) (A2 V) (A5 V) (A6 V) h p d (t.val + 1) := by
  rw [zero_sub]
  pointwise [bothV]
  simp only [v180_apply, v181_apply]
  rfl

/-- The third result of the host program. -/
theorem refV : lastV (res_main_v49 V) (transpose S64x2x2x64x8x16 [2, 0, 3, 5, 1, 4] (shapeCast _ (bothV V) shapeCasts_S2x8x128x16x64_S2x8x64x2x16x64) transposes_S2x8x64x2x16x64_S64x2x2x64x8x16_2_0_3_5_1_4) = GV (A0 V) (A1a V) (A2 V) (A5 V) (A6 V) := by
  funext i
  idx_vars i
  rw [lastV_apply, orderV, bothV_apply, v49_apply, pick]
  show _ = V1 (A0 V) (A1a V) (A2 V) (A5 V) (A6 V) i0 i1 i2
  unfold V1
  have e : ((rg i1).val < 1) = (i1.val < 128) := propext ⟨fun h => by have h' : i1.val / 128 < 1 := h; omega, fun h => by show i1.val / 128 < 1; omega⟩
  simp only [e]

/-- The last steps of the second result. -/
def apartM (e : IVec S2x2 1) (u : Vec Ideal S128x8x16x8x16 .f32) : Vec Ideal S64x2x8x16x2x8x16 .f32 :=
  select (broadcastInDim S64x2x8x16x2x8x16 ![0, 1, 2, 3, 4, 5, 6] bcast_S1x2x1x1x2x1x1_S64x2x8x16x2x8x16_0_1_2_3_4_5_6 (broadcastInDim S1x2x1x1x2x1x1 ![1, 4] bcast_S2x2_S1x2x1x1x2x1x1_1_4 e)) (broadcastInDim S64x2x8x16x2x8x16 ![0, 1, 2, 3, 4, 5, 6] bcast_S64x2x8x16x1x8x16_S64x2x8x16x2x8x16_0_1_2_3_4_5_6 (broadcastInDim S64x2x8x16x1x8x16 ![0, 1, 2, 3, 5, 6] bcast_S64x2x8x16x8x16_S64x2x8x16x1x8x16_0_1_2_3_5_6 (shapeCast _ u shapeCasts_S128x8x16x8x16_S64x2x8x16x8x16))) (broadcastInDim S64x2x8x16x2x8x16 ![] bcast_S_S64x2x8x16x2x8x16 (id (constant (F := Ideal) S_ .f32 0x00000000#32)))

/-- The axes joined. -/
def lastM (e : IVec S2x2 1) (u : Vec Ideal S128x8x16x8x16 .f32) : Vec Ideal S64x256x256 .bf16 :=
  truncf (F := Ideal) .bf16 (shapeCast _ (apartM e u) shapeCasts_S64x2x8x16x2x8x16_S64x256x256) bitsLt_bf16_f32

/-- They at an entry. -/
theorem lastM_apply (e : IVec S2x2 1) (u : Vec Ideal S128x8x16x8x16 .f32) (q : Fin 64) (r l : Fin 256) :
    lastM e u (ix3 q r l) = Scalar.select (e (ix2 (rg r) (rg l))) (u (ix5 (gp q (rg r)) (rt r) (ch r) (rt l) (ch l))) 0 := by
  show (shapeCast S64x256x256 (apartM e u) shapeCasts_S64x2x8x16x2x8x16_S64x256x256 (ix3 q r l) : EReal) = _
  refine (shapeCast_apply _ _ (ix3 q r l : S64x256x256.Idx) (ix7 q (rg r) (rt r) (ch r) (rg l) (rt l) (ch l) : S64x2x8x16x2x8x16.Idx) ?_).trans ?_
  · rw [place7, Shape.rowMajor_val_three]
    show q.val * (2 * 8 * 16 * 2 * 8 * 16) + (((((r.val / 128 * 8 + r.val % 128 / 16) * 16 + r.val % 16) * 2 + l.val / 128) * 8 + l.val % 128 / 16) * 16 + l.val % 16) = (q.val * 256 + r.val) * 256 + l.val
    omega
  · refine congr (congrArg₂ Scalar.select ?_ ?_) ?_
    · refine (broadcastInDim_apply _ _ _ _ (ix7 0 (rg r) 0 0 (rg l) 0 0 : S1x2x1x1x2x1x1.Idx) fun a => ?_).trans
        (broadcastInDim_apply _ _ _ _ (ix2 (rg r) (rg l) : S2x2.Idx) fun a => ?_)
      · fin_cases a <;> rfl
      · fin_cases a <;> rfl
    · refine (broadcastInDim_apply _ _ _ _ (ix7 q (rg r) (rt r) (ch r) 0 (rt l) (ch l) : S64x2x8x16x1x8x16.Idx) fun a => ?_).trans
        ((broadcastInDim_apply _ _ _ _ (ix6 q (rg r) (rt r) (ch r) (rt l) (ch l) : S64x2x8x16x8x16.Idx) fun a => ?_).trans
          (shapeCast_apply _ _ _ (ix5 (gp q (rg r)) (rt r) (ch r) (rt l) (ch l) : S128x8x16x8x16.Idx) ?_))
      · fin_cases a <;> rfl
      · fin_cases a <;> rfl
      · rw [Shape.rowMajor_val_five, Shape.rowMajor_val_six]
        show (((((2 * q.val + r.val / 128) * 8 + r.val % 128 / 16) * 16 + r.val % 16) * 8 + l.val % 128 / 16) * 16 + l.val % 16) = ((((q.val * 2 + r.val / 128) * 8 + r.val % 128 / 16) * 16 + r.val % 16) * 8 + l.val % 128 / 16) * 16 + l.val % 16
        omega
    · show Ideal.ofBits .f32 0x00000000#32 = 0
      simp

/-- From a state to an output between two steps, real part. -/
def fromRe : Vec Ideal S8x8x128x16x64 .f32 :=
  subf (F := Ideal) (φ := .f32) (mulf (F := Ideal) (φ := .f32) (broadcastInDim S8x8x128x16x64 ![0, 1, 2, 3, 4] bcast_S8x8x128x1x64_S8x8x128x16x64_0_1_2_3_4 (broadcastInDim S8x8x128x1x64 ![0, 1, 2, 4] bcast_S8x8x128x64_S8x8x128x1x64_0_1_2_4 (res_main_v120 V))) (broadcastInDim S8x8x128x16x64 ![0, 1, 2, 3, 4] bcast_S1x1x128x16x64_S8x8x128x16x64_0_1_2_3_4 (res_main_v123 V))) (mulf (F := Ideal) (φ := .f32) (broadcastInDim S8x8x128x16x64 ![0, 1, 2, 3, 4] bcast_S8x8x128x1x64_S8x8x128x16x64_0_1_2_3_4 (broadcastInDim S8x8x128x1x64 ![0, 1, 2, 4] bcast_S8x8x128x64_S8x8x128x1x64_0_1_2_4 (res_main_v122 V))) (broadcastInDim S8x8x128x16x64 ![0, 1, 2, 3, 4] bcast_S1x1x128x16x64_S8x8x128x16x64_0_1_2_3_4 (res_main_v124 V)))

/-- The imaginary part. -/
def fromIm : Vec Ideal S8x8x128x16x64 .f32 :=
  addf (F := Ideal) (φ := .f32) (mulf (F := Ideal) (φ := .f32) (broadcastInDim S8x8x128x16x64 ![0, 1, 2, 3, 4] bcast_S8x8x128x1x64_S8x8x128x16x64_0_1_2_3_4 (broadcastInDim S8x8x128x1x64 ![0, 1, 2, 4] bcast_S8x8x128x64_S8x8x128x1x64_0_1_2_4 (res_main_v120 V))) (broadcastInDim S8x8x128x16x64 ![0, 1, 2, 3, 4] bcast_S1x1x128x16x64_S8x8x128x16x64_0_1_2_3_4 (res_main_v124 V))) (mulf (F := Ideal) (φ := .f32) (broadcastInDim S8x8x128x16x64 ![0, 1, 2, 3, 4] bcast_S8x8x128x1x64_S8x8x128x16x64_0_1_2_3_4 (broadcastInDim S8x8x128x1x64 ![0, 1, 2, 4] bcast_S8x8x128x64_S8x8x128x1x64_0_1_2_4 (res_main_v122 V))) (broadcastInDim S8x8x128x16x64 ![0, 1, 2, 3, 4] bcast_S1x1x128x16x64_S8x8x128x16x64_0_1_2_3_4 (res_main_v123 V)))

/-- They at an entry. -/
theorem fromRe_apply (j t : Fin 8) (hjt : j.val ≤ t.val) (h : Fin 128) (d : Fin 16) (p : Fin 64) :
    fromRe V (ix5 j t h d p) = Vre (A0 V) (A1a V) (A2 V) (A5 V) (A6 V) h p d (t.val - j.val) := by
  pointwise [fromRe, res_main_v123, res_main_v124]
  rw [v120_apply V j t hjt, v122_apply V j t hjt]
  rfl

/-- The imaginary part. -/
theorem fromIm_apply (j t : Fin 8) (hjt : j.val ≤ t.val) (h : Fin 128) (d : Fin 16) (p : Fin 64) :
    fromIm V (ix5 j t h d p) = Vim (A0 V) (A1a V) (A2 V) (A5 V) (A6 V) h p d (t.val - j.val) := by
  pointwise [fromIm, res_main_v123, res_main_v124]
  rw [v120_apply V j t hjt, v122_apply V j t hjt]
  rfl

/-- The products between two steps, kept from the earlier to the later one. -/
def stepsM : Vec Ideal S128x8x16x8x16 .f32 :=
  select (broadcastInDim S128x8x16x8x16 ![0, 1, 2, 3, 4] bcast_S1x8x1x8x1_S128x8x16x8x16_0_1_2_3_4 (broadcastInDim S1x8x1x8x1 ![1, 3] bcast_S8x8_S1x8x1x8x1_1_3 (cmpi .sge (broadcastInDim S8x8 ![0, 1] bcast_S1x8_S8x8_0_1 (broadcastInDim S1x8 ![1] bcast_S8_S1x8_1 (res_main_v42 V))) (broadcastInDim S8x8 ![0, 1] bcast_S8x1_S8x8_0_1 (broadcastInDim S8x1 ![0] bcast_S8_S8x1_0 (res_main_v42 V)))))) (subf (F := Ideal) (φ := .f32) (transpose S128x8x16x8x16 [0, 1, 4, 2, 3] (Host.dotGeneral (φ₁ := .f32) (φ₂ := .f32) dot_S8x8x128x16x64_S128x64x16_S128x8x8x16x16_4_1_013_2_2_0 none (fromRe V) (res_main_v34 V : FVec Ideal S128x64x16 .f32)) transposes_S128x8x8x16x16_S128x8x16x8x16_0_1_4_2_3) (transpose S128x8x16x8x16 [0, 1, 4, 2, 3] (Host.dotGeneral (φ₁ := .f32) (φ₂ := .f32) dot_S8x8x128x16x64_S128x64x16_S128x8x8x16x16_4_1_013_2_2_0 none (fromIm V) (res_main_v41 V : FVec Ideal S128x64x16 .f32)) transposes_S128x8x8x16x16_S128x8x16x8x16_0_1_4_2_3)) (broadcastInDim S128x8x16x8x16 ![] bcast_S_S128x8x16x8x16 (constant (F := Ideal) S_ .f32 0x00000000#32))

/-- They at an entry. -/
theorem stepsM_apply (h : Fin 128) (j : Fin 8) (c : Fin 16) (t : Fin 8) (d : Fin 16) :
    stepsM V (ix5 h j c t d) = if j.val ≤ t.val then Mst (A0 V) (A1a V) (A2 V) (A3 V) (A4 V) (A5 V) (A6 V) h c d (t.val - j.val) else 0 := by
  have hc : IntOp.cmpi .sge (BitVec.ofNat 32 t.val) (BitVec.ofNat 32 j.val) = if j.val ≤ t.val then 1#1 else 0#1 := by
    fin_cases t <;> fin_cases j <;> rfl
  pointwise [stepsM, res_main_v42]
  rw [hc, pick]
  split_ifs with hjt
  · simp only [fromRe_apply V _ _ hjt, fromIm_apply V _ _ hjt, v34_apply, v41_apply]
    exact congrArg₂ (· - ·) (Finset.sum_congr rfl fun _ _ => mul_comm _ _) (Finset.sum_congr rfl fun _ _ => mul_comm _ _)
  · rfl

/-- The second result of the host program. -/
theorem refM : lastM (res_main_v49 V) (stepsM V) = GM (A0 V) (A1a V) (A2 V) (A3 V) (A4 V) (A5 V) (A6 V) := by
  funext i
  idx_vars i
  rw [lastM_apply, stepsM_apply, v49_apply, pick]
  show _ = M1 (A0 V) (A1a V) (A2 V) (A3 V) (A4 V) (A5 V) (A6 V) i0 i1 i2
  unfold M1
  by_cases h : rg i1 = rg i2
  · rw [if_pos h]
    by_cases h' : (rt i1).val ≤ (rt i2).val
    · rw [if_pos h', if_pos ⟨h, h'⟩]
    · rw [if_neg h', if_neg fun x => h' x.2]
  · rw [if_neg h, if_neg fun x => h x.1]

/-- The fourth result of the host program. -/
theorem refA : broadcastInDim S64x8x256 ![0, 1, 2] bcast_S64x1x256_S64x8x256_0_1_2 (broadcastInDim S64x1x256 ![0, 2] bcast_S64x256_S64x1x256_0_2 (concatenate S64x256 1 [⟨S64x128, (shapeCast _ (mulf (res_main_v213 V) (Host.cos (res_main_v217 V))) shapeCasts_S128x64_S64x128)⟩, ⟨S64x128, (shapeCast _ (mulf (res_main_v213 V) (Host.sin (res_main_v217 V))) shapeCasts_S128x64_S64x128)⟩] concatenates_S64x128_S64x128_S64x256_d1)) = GA (A0 V) (A1a V) (A2 V) := by
  funext i
  idx_vars i
  show _ = A1 (A0 V) (A1a V) (A2 V) i0 i2
  unfold A1
  pointwise []
  by_cases h : i2.val < 128
  · rw [dif_pos h, if_pos h]
    refine (v219_apply V _ _).trans (congrArg₂ (fun a b => Pre (A0 V) (A1a V) (A2 V) a b _) (Fin.ext ?_) (Fin.ext ?_))
    · show i0.val * 2 + i2.val / 64 = 2 * i0.val + i2.val % 128 / 64
      omega
    · rfl
  · rw [dif_neg h, if_neg h]
    refine (v221_apply V _ _).trans (congrArg₂ (fun a b => Pim (A0 V) (A1a V) (A2 V) a b _) (Fin.ext ?_) (Fin.ext ?_))
    · show i0.val * 2 + (i2.val - 128) / 64 = 2 * i0.val + i2.val % 128 / 64
      omega
    · show (i2.val - 128) % 64 = i2.val % 64
      omega

end Cert.CoefRefIdeal.Whole
-- ==== Proof.Value.Coef.lean ====
/-
  The recurrence's coefficients: the claims.
-/
module

public import proofs.«01_k».proof.Defs
public import proofs.«01_k».proof.Proof.Gen.Coef.Frame
public import proofs.«01_k».proof.Proof.Value.CoefKer
public import proofs.«01_k».proof.Proof.Value.CoefRef

@[expose] public section

set_option maxRecDepth 16384

noncomputable section

/-! ## The claims -/

namespace Cert.Proof.Coef

open Idealize.ShloMosaic Idealize.ShloMosaic.TcCoe Idealize.SL.Sem
open Idealize.ShloMosaic.StableHlo (launchContents)
open Cert.CoefRefIdeal.Whole (A0 A1a A2 A3 A4 A5 A6)

/-- The kernel runs to its end and keeps its arguments. -/
theorem frame : Cert.quiescent_Coef := fun m ρ _ => Cert.Coef.Gen.frame m ρ

/-- So does its idealized form. -/
theorem frameI : Cert.quiescent_CoefIdeal := fun m ρ _ => Cert.CoefIdeal.Gen.frame m ρ

/-- So does the host program. -/
theorem frameR : Cert.quiescent_CoefRefIdeal := fun m ρ _ =>
  (θ_run Cert.CoefRefIdeal.defs _ _).mono (fun r h => ⟨fun c => (h c).2.2.2.2,
      Idealize.ShloMosaic.sem_eq_zero_of_no_sems (by decide) r.2⟩)
    (Cert.CoefRefIdeal.Value.run (F := Ideal) m ρ)

/-- Nothing was rewritten on the way to the idealized form. -/
theorem preserves : Cert.preserves_Coef_CoefIdeal := trivial

/-- The kernel and the host program compute the same four functions. -/
theorem algebraic : Cert.algebraic_CoefIdeal_CoefRefIdeal := by
  intro m ρ m' ρ' _ hag
  refine ⟨fun c => Cert.CoefIdeal.Whole.GW (m ((c.tc : Thread Cert.CoefIdeal.nD Cert.CoefIdeal.τ).loc Cert.CoefIdeal.main_arg0)) (m ((c.tc : Thread Cert.CoefIdeal.nD Cert.CoefIdeal.τ).loc Cert.CoefIdeal.main_arg1)) (m ((c.tc : Thread Cert.CoefIdeal.nD Cert.CoefIdeal.τ).loc Cert.CoefIdeal.main_arg2)) (m ((c.tc : Thread Cert.CoefIdeal.nD Cert.CoefIdeal.τ).loc Cert.CoefIdeal.main_arg3)) (m ((c.tc : Thread Cert.CoefIdeal.nD Cert.CoefIdeal.τ).loc Cert.CoefIdeal.main_arg4)),
    fun c => Cert.CoefIdeal.Whole.GM (m ((c.tc : Thread Cert.CoefIdeal.nD Cert.CoefIdeal.τ).loc Cert.CoefIdeal.main_arg0)) (m ((c.tc : Thread Cert.CoefIdeal.nD Cert.CoefIdeal.τ).loc Cert.CoefIdeal.main_arg1)) (m ((c.tc : Thread Cert.CoefIdeal.nD Cert.CoefIdeal.τ).loc Cert.CoefIdeal.main_arg2)) (m ((c.tc : Thread Cert.CoefIdeal.nD Cert.CoefIdeal.τ).loc Cert.CoefIdeal.main_arg3)) (m ((c.tc : Thread Cert.CoefIdeal.nD Cert.CoefIdeal.τ).loc Cert.CoefIdeal.main_arg4)) (m ((c.tc : Thread Cert.CoefIdeal.nD Cert.CoefIdeal.τ).loc Cert.CoefIdeal.main_arg5)) (m ((c.tc : Thread Cert.CoefIdeal.nD Cert.CoefIdeal.τ).loc Cert.CoefIdeal.main_arg6)),
    fun c => Cert.CoefIdeal.Whole.GV (m ((c.tc : Thread Cert.CoefIdeal.nD Cert.CoefIdeal.τ).loc Cert.CoefIdeal.main_arg0)) (m ((c.tc : Thread Cert.CoefIdeal.nD Cert.CoefIdeal.τ).loc Cert.CoefIdeal.main_arg1)) (m ((c.tc : Thread Cert.CoefIdeal.nD Cert.CoefIdeal.τ).loc Cert.CoefIdeal.main_arg2)) (m ((c.tc : Thread Cert.CoefIdeal.nD Cert.CoefIdeal.τ).loc Cert.CoefIdeal.main_arg5)) (m ((c.tc : Thread Cert.CoefIdeal.nD Cert.CoefIdeal.τ).loc Cert.CoefIdeal.main_arg6)),
    fun c => Cert.CoefIdeal.Whole.GA (m ((c.tc : Thread Cert.CoefIdeal.nD Cert.CoefIdeal.τ).loc Cert.CoefIdeal.main_arg0)) (m ((c.tc : Thread Cert.CoefIdeal.nD Cert.CoefIdeal.τ).loc Cert.CoefIdeal.main_arg1)) (m ((c.tc : Thread Cert.CoefIdeal.nD Cert.CoefIdeal.τ).loc Cert.CoefIdeal.main_arg2)),
    Cert.CoefIdeal.Whole.run m ρ, ?_⟩
  refine (θ_run Cert.CoefRefIdeal.defs _ _).mono (fun _ h c => ⟨(h c).1.trans ?_, (h c).2.1.trans ?_, (h c).2.2.1.trans ?_, (h c).2.2.2.1.trans ?_, (h c).2.2.2.2⟩)
    (Cert.CoefRefIdeal.Value.run (F := Ideal) m' ρ')
  · refine (Cert.CoefRefIdeal.Whole.refW (launchContents m' c)).trans ?_
    rw [show A0 (launchContents m' c) = _ from (hag c).1, show A1a (launchContents m' c) = _ from (hag c).2.1, show A2 (launchContents m' c) = _ from (hag c).2.2.1, show A3 (launchContents m' c) = _ from (hag c).2.2.2.1, show A4 (launchContents m' c) = _ from (hag c).2.2.2.2.1]
  · refine (Cert.CoefRefIdeal.Whole.refM (launchContents m' c)).trans ?_
    rw [show A0 (launchContents m' c) = _ from (hag c).1, show A1a (launchContents m' c) = _ from (hag c).2.1, show A2 (launchContents m' c) = _ from (hag c).2.2.1, show A3 (launchContents m' c) = _ from (hag c).2.2.2.1, show A4 (launchContents m' c) = _ from (hag c).2.2.2.2.1, show A5 (launchContents m' c) = _ from (hag c).2.2.2.2.2.1, show A6 (launchContents m' c) = _ from (hag c).2.2.2.2.2.2]
  · refine (Cert.CoefRefIdeal.Whole.refV (launchContents m' c)).trans ?_
    rw [show A0 (launchContents m' c) = _ from (hag c).1, show A1a (launchContents m' c) = _ from (hag c).2.1, show A2 (launchContents m' c) = _ from (hag c).2.2.1, show A5 (launchContents m' c) = _ from (hag c).2.2.2.2.2.1, show A6 (launchContents m' c) = _ from (hag c).2.2.2.2.2.2]
  · refine (Cert.CoefRefIdeal.Whole.refA (launchContents m' c)).trans ?_
    rw [show A0 (launchContents m' c) = _ from (hag c).1, show A1a (launchContents m' c) = _ from (hag c).2.1, show A2 (launchContents m' c) = _ from (hag c).2.2.1]

end Cert.Proof.Coef
-- ==== Proof.Value.NormB.lean ====
/-
  The value of the modulated norm: each row divided by its root mean square, scaled by the gain, then scaled and shifted
  by two chunks of the modulation row.
-/
module

public import proofs.«01_k».proof.Defs
public import proofs.«01_k».proof.Proof.Gen.NormB.Frame
public import proofs.«01_k».proof.Proof.Gen.NormBIdeal.Value
public import proofs.«01_k».proof.Proof.Gen.NormBRefIdeal.Run
public import Idealize.ShloMosaic.Lib.Pipeline.Value
public import Idealize.ShloMosaic.Lib.Quiescent
public import Idealize.ShloMosaic.Lib.Pointwise
public import Idealize.ShloMosaic.Lib.ValueLayout

@[expose] public section

set_option maxRecDepth 16384

noncomputable section

namespace Cert.NormBIdeal.Whole

open Cert.NormBIdeal Cert.NormBIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 32 points. -/
theorem lt_N (t : Fin cfg0.N) : t.val < 32 := by
  have h : cfg0.N = 32 := N_0
  have := t.isLt
  omega

/-- The origin of a two-dimensional block, as a constant function. -/
theorem hz : (![0, 0] : Fin 2 → Nat) = fun _ => 0 := funext fun a => by fin_cases a <;> rfl

/-- The origin of a three-dimensional block, as a constant function. -/
theorem hz3 : (![0, 0, 0] : Fin 3 → Nat) = fun _ => 0 := funext fun a => by fin_cases a <;> rfl

/-- The block index of window 0 at a point. -/
theorem index_x : ∀ t : Fin grid0.N, win0_0.index t 0 = t.val ∧ win0_0.index t 1 = 0 := by
  decide +kernel

/-- The block index of window 1 at a point. -/
theorem index_g : ∀ t : Fin grid0.N, win0_1.index t 0 = 0 ∧ win0_1.index t 1 = 0 := by
  decide +kernel

/-- The block index of window 2 at a point. -/
theorem index_sc : ∀ t : Fin grid0.N, win0_2.index t 0 = 0 ∧ win0_2.index t 1 = 4 := by
  decide +kernel

/-- The block index of window 3 at a point. -/
theorem index_sh : ∀ t : Fin grid0.N, win0_3.index t 0 = 0 ∧ win0_3.index t 1 = 3 := by
  decide +kernel

/-- The block index of window 4 at a point. -/
theorem index_o : ∀ t : Fin grid0.N, win0_4.index t 0 = t.val ∧ win0_4.index t 1 = 0 := by
  decide +kernel

/-- The block of window 0 at point `t`, entry by entry. -/
theorem iblk_x (c : Dev nD) (t : Fin cfg0.N) (r : Fin 256) (k : Fin 4096) :
    iblk m c 0 t (ix2 r k : S256x4096.Idx)
      = m ((c : Thread nD τ).loc main_arg0) (ix2 ⟨(t.val) * 256 + r, by have := lt_N t; omega⟩ k : S8192x4096.Idx) := by
  show m ((c : Thread nD τ).loc main_arg0) (((cfg0.win 0).blk t).view.emb (ix2 r k : S256x4096.Idx)) = _
  congr 1
  funext a
  apply Fin.ext
  match a with
  | ⟨0, _⟩ => show win0_0.index t 0 * 256 + 1 * r.val = _
              rw [(index_x t).1]
              show (t.val) * 256 + 1 * r.val = (t.val) * 256 + r.val
              omega
  | ⟨1, _⟩ => show win0_0.index t 1 * 4096 + 1 * k.val = _
              rw [(index_x t).2]
              show (0) * 4096 + 1 * k.val = k.val
              omega

/-- The block of window 1 at point `t`, entry by entry. -/
theorem iblk_g (c : Dev nD) (t : Fin cfg0.N) (r : Fin 1) (k : Fin 4096) :
    iblk m c 1 t (ix2 r k : S1x4096.Idx)
      = V m c main_v0 (ix2 r k : S1x4096.Idx) := by
  show V m c main_v0 (((cfg0.win 1).blk t).view.emb (ix2 r k : S1x4096.Idx)) = _
  congr 1
  funext a
  apply Fin.ext
  match a with
  | ⟨0, _⟩ => show win0_1.index t 0 * 1 + 1 * r.val = _
              rw [(index_g t).1]
              show (0) * 1 + 1 * r.val = r.val
              omega
  | ⟨1, _⟩ => show win0_1.index t 1 * 4096 + 1 * k.val = _
              rw [(index_g t).2]
              show (0) * 4096 + 1 * k.val = k.val
              omega

/-- The block of window 2 at point `t`, entry by entry. -/
theorem iblk_sc (c : Dev nD) (t : Fin cfg0.N) (r : Fin 1) (k : Fin 4096) :
    iblk m c 2 t (ix2 r k : S1x4096.Idx)
      = m ((c : Thread nD τ).loc main_arg2) (ix2 r ⟨(4) * 4096 + k, by have := lt_N t; omega⟩ : S1x24576.Idx) := by
  show m ((c : Thread nD τ).loc main_arg2) (((cfg0.win 2).blk t).view.emb (ix2 r k : S1x4096.Idx)) = _
  congr 1
  funext a
  apply Fin.ext
  match a with
  | ⟨0, _⟩ => show win0_2.index t 0 * 1 + 1 * r.val = _
              rw [(index_sc t).1]
              show (0) * 1 + 1 * r.val = r.val
              omega
  | ⟨1, _⟩ => show win0_2.index t 1 * 4096 + 1 * k.val = _
              rw [(index_sc t).2]
              show (4) * 4096 + 1 * k.val = (4) * 4096 + k.val
              omega

/-- The block of window 3 at point `t`, entry by entry. -/
theorem iblk_sh (c : Dev nD) (t : Fin cfg0.N) (r : Fin 1) (k : Fin 4096) :
    iblk m c 3 t (ix2 r k : S1x4096.Idx)
      = m ((c : Thread nD τ).loc main_arg2) (ix2 r ⟨(3) * 4096 + k, by have := lt_N t; omega⟩ : S1x24576.Idx) := by
  show m ((c : Thread nD τ).loc main_arg2) (((cfg0.win 3).blk t).view.emb (ix2 r k : S1x4096.Idx)) = _
  congr 1
  funext a
  apply Fin.ext
  match a with
  | ⟨0, _⟩ => show win0_3.index t 0 * 1 + 1 * r.val = _
              rw [(index_sh t).1]
              show (0) * 1 + 1 * r.val = r.val
              omega
  | ⟨1, _⟩ => show win0_3.index t 1 * 4096 + 1 * k.val = _
              rw [(index_sh t).2]
              show (3) * 4096 + 1 * k.val = (3) * 4096 + k.val
              omega

/-- Where an entry of point `t`'s block of window 4 lies in the whole array. -/
theorem emb_o (t : Fin cfg0.N) (r : Fin 256) (k : Fin 4096) :
    (win0_4.blk t).view.emb (ix2 r k : S256x4096.Idx)
      = (ix2 ⟨(t.val) * 256 + r, by have := lt_N t; omega⟩ k : S8192x4096.Idx) := by
  funext a
  apply Fin.ext
  match a with
  | ⟨0, _⟩ => show win0_4.index t 0 * 256 + 1 * r.val = _
              rw [(index_o t).1]
              show (t.val) * 256 + 1 * r.val = (t.val) * 256 + r.val
              omega
  | ⟨1, _⟩ => show win0_4.index t 1 * 4096 + 1 * k.val = _
              rw [(index_o t).2]
              show (0) * 4096 + 1 * k.val = k.val
              omega

/-- An entry lies in point `t`'s block of window 4 exactly when its coordinates do. -/
theorem mem_o (t : Fin cfg0.N) (i : S8192x4096.Idx) :
    i ∈ ((cfg0.win 4).blk t).view.set ↔ ((t.val) * 256 ≤ (i 0 : Nat) ∧ (i 0 : Nat) < (t.val) * 256 + 256) ∧ ((0) * 4096 ≤ (i 1 : Nat) ∧ (i 1 : Nat) < (0) * 4096 + 4096) := by
  show i ∈ ((View.whole main_v1).slice (win0_4.rect t)).set ↔ _
  rw [View.set_slice_whole, Rect.mem_set_unit]
  have e0 : win0_4.index t 0 * win0_4.size 0 = (t.val) * 256 := by rw [(index_o t).1]; rfl
  have e1 : win0_4.index t 1 * win0_4.size 1 = (0) * 4096 := by rw [(index_o t).2]; rfl
  refine ⟨fun h => ⟨?_, ?_⟩, fun h a => ?_⟩
  · have := h 0
    change win0_4.index t 0 * win0_4.size 0 ≤ (i 0 : Nat) ∧ (i 0 : Nat) < win0_4.index t 0 * win0_4.size 0 + 256 at this
    rwa [e0] at this
  · have := h 1
    change win0_4.index t 1 * win0_4.size 1 ≤ (i 1 : Nat) ∧ (i 1 : Nat) < win0_4.index t 1 * win0_4.size 1 + 4096 at this
    rwa [e1] at this
  · match a with
    | ⟨0, _⟩ => show win0_4.index t 0 * win0_4.size 0 ≤ (i 0 : Nat) ∧ (i 0 : Nat) < win0_4.index t 0 * win0_4.size 0 + 256
                rw [e0]; exact h.1
    | ⟨1, _⟩ => show win0_4.index t 1 * win0_4.size 1 ≤ (i 1 : Nat) ∧ (i 1 : Nat) < win0_4.index t 1 * win0_4.size 1 + 4096
                rw [e1]; exact h.2

/-- The blocks of window 4 fill the result. -/
theorem cover_o (i : S8192x4096.Idx) :
    ∃ t : Fin cfg0.N, (cfg0.win 4).flush t = true ∧ i ∈ ((cfg0.win 4).blk t).view.set := by
  have h0 : (i 0 : Nat) < 8192 := (i 0).isLt
  have h1 : (i 1 : Nat) < 4096 := (i 1).isLt
  have hN : cfg0.N = 32 := N_0
  refine ⟨⟨(i 0 : Nat) / 256, by omega⟩, flush0_4 _, ?_⟩
  rw [mem_o]
  dsimp only
  omega

/-- A vector cast to one row, read at an entry. -/
theorem row_g (v : Vec Ideal S4096 .f32) (d : Fin 4096) : shapeCast S1x4096 v shapeCasts_S4096_S1x4096 (ix2 0 d) = v (ix1 d) := by
  refine shapeCast_apply _ _ _ _ ?_
  rw [Shape.rowMajor_val_two, Shape.rowMajor_val_one]
  show d.val = 0 * 4096 + d.val
  omega

/-- The window over `g` holds it. -/
theorem gain_g (c : Dev nD) (d : Fin 4096) : V m c main_v0 (ix2 0 d : S1x4096.Idx) = m ((c : Thread nD τ).loc main_arg1) (ix1 d : S4096.Idx) := by
  have h : V m c main_v0 = shapeCast _ (m ((c : Thread nD τ).loc main_arg1)) shapeCasts_S4096_S1x4096 := rfl
  rw [h]
  exact row_g _ d

/-- The normed and modulated rows over the whole arrays: the scale is chunk 4, the shift chunk 3. -/
def G (x : Vec Ideal S8192x4096 .f32) (g : Vec Ideal S4096 .f32) (q : Vec Ideal S1x24576 .f32) : Vec Ideal S8192x4096 .bf16 := fun i =>
  have h1 : (i 1 : Nat) < 4096 := (i 1).isLt
  x (ix2 (i 0) (i 1)) * Ideal.rsqrt (Ideal.div (∑ k : Fin 4096, x (ix2 (i 0) k) * x (ix2 (i 0) k)) (Ideal.ofBits FTy.f32 0x45800000#32) + Ideal.ofBits FTy.f32 897988541#32)
    * g (ix1 (i 1)) * (1 + q (ix2 0 ⟨16384 + (i 1 : Nat), by omega⟩)) + q (ix2 0 ⟨12288 + (i 1 : Nat), by omega⟩)

/-- The payload at an entry. -/
theorem pay_apply (x : Vec Ideal S256x4096 .f32) (g sc sh : Vec Ideal S1x4096 .f32) (r : Fin 256) (j : Fin 4096) :
    k0_pay1 x g sc sh (ix2 r j) = x (ix2 r j) * Ideal.rsqrt (Ideal.div (∑ k : Fin 4096, x (ix2 r k) * x (ix2 r k)) (Ideal.ofBits FTy.f32 0x45800000#32) + Ideal.ofBits FTy.f32 897988541#32)
    * g (ix2 0 j) * (1 + sc (ix2 0 j)) + sh (ix2 0 j) := by
  pointwise [k0_pay1]

/-- What a point writes back to window 4 is its block of the whole-array function. -/
theorem flushed_eq (c : Dev nD) (t : Fin cfg0.N) :
    (dats m 0 c).flushed 4 t = (win0_4.blk t).view.read (Elt Ideal) (G (m ((c : Thread nD τ).loc main_arg0)) (m ((c : Thread nD τ).loc main_arg1)) (m ((c : Thread nD τ).loc main_arg2))) := by
  have hN := lt_N t
  rw [Value.flushed4]
  unfold out0_4
  rw [View.canon_unit_zero hz, View.ld_unit_zero hz, View.ld_unit_zero hz, View.ld_unit_zero hz, View.ld_unit_zero hz]
  funext j
  idx_vars j
  show k0_pay1 (F := Ideal) _ _ _ _ (ix2 j0 j1) = G _ _ _ ((win0_4.blk t).view.emb (ix2 j0 j1))
  rw [emb_o, pay_apply]
  simp only [iblk_x, iblk_g, iblk_sc, iblk_sh]
  rw [gain_g]
  have e2 : (⟨(4) * 4096 + j1, by omega⟩ : Fin 24576) = ⟨16384 + j1.val, by omega⟩ := Fin.ext rfl
  have e3 : (⟨(3) * 4096 + j1, by omega⟩ : Fin 24576) = ⟨12288 + j1.val, by omega⟩ := Fin.ext (show (3) * 4096 + j1.val = 12288 + j1.val by omega)
  rw [e2, e3]
  rfl

/-- The kernel's result, and its arguments kept. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans
      ((dats m 0 c).arrAt_eq_of_cover 4 _ (fun t _ => flushed_eq m c t) cover_o), (h c).2⟩)
    (Value.run_blocks m ρ)

end Cert.NormBIdeal.Whole

namespace Cert.NormBRefIdeal.Whole

open Cert.NormBRefIdeal Cert.NormBRefIdeal.Gen
open Idealize.ShloMosaic Idealize.ShloMosaic.TcCoe Idealize.SL.Sem

/-- The host program's term of its arguments. -/
def host {F : FTy → Type} [FloatOps F] (x : Vec F S8192x4096 .f32) (g : Vec F S4096 .f32) (q : Vec F S1x24576 .f32) : Vec F S8192x4096 .bf16 :=
  truncf .bf16 (addf (mulf (mulf (mulf x (broadcastInDim S8192x4096 ![0, 1] bcast_S8192x1_S8192x4096_0_1 (Host.rsqrt (addf (Host.divf (broadcastInDim S8192x1 ![0] bcast_S8192_S8192x1_0 (Host.reduceAdd (mulf x x) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g))) (broadcastInDim S8192x4096 ![0, 1] bcast_S1x4096_S8192x4096_0_1 (addf (broadcastInDim S1x4096 ![] bcast_S_S1x4096 (constant S_ .f32 0x3F800000#32)) (extractStridedSlice S1x4096 ![0, 16384] q slices_S1x24576_S1x4096_0_16384)))) (broadcastInDim S8192x4096 ![0, 1] bcast_S1x4096_S8192x4096_0_1 (extractStridedSlice S1x4096 ![0, 12288] q slices_S1x24576_S1x4096_0_12288))) bitsLt_bf16_f32

/-- The host program's result is the same function of its arguments. -/
theorem ref_eq (x : Vec Ideal S8192x4096 .f32) (g : Vec Ideal S4096 .f32) (q : Vec Ideal S1x24576 .f32) :
    host (F := Ideal) x g q = NormBIdeal.Whole.G x g q := by
  unfold host
  funext i
  idx_vars i
  pointwise [NormBIdeal.Whole.G]

end Cert.NormBRefIdeal.Whole

/-! ## The claims -/

namespace Cert.Proof.NormB

open Idealize.ShloMosaic Idealize.ShloMosaic.TcCoe Idealize.SL.Sem

/-- The kernel runs to its end and keeps its arguments. -/
theorem frame : Cert.quiescent_NormB := fun m ρ _ => Cert.NormB.Gen.frame m ρ

/-- So does its idealized form. -/
theorem frameI : Cert.quiescent_NormBIdeal := fun m ρ _ => Cert.NormBIdeal.Gen.frame m ρ

/-- So does the host program. -/
theorem frameR : Cert.quiescent_NormBRefIdeal := fun m ρ _ =>
  (θ_run Cert.NormBRefIdeal.defs _ _).mono (fun r h => ⟨fun c => (h c).2,
      Idealize.ShloMosaic.sem_eq_zero_of_no_sems (by decide) r.2⟩)
    (Cert.NormBRefIdeal.Value.run (F := Ideal) m ρ)

/-- Nothing was rewritten on the way to the idealized form. -/
theorem preserves : Cert.preserves_NormB_NormBIdeal := trivial

/-- The kernel and the host program compute the same function. -/
theorem algebraic : Cert.algebraic_NormBIdeal_NormBRefIdeal := by
  intro m ρ m' ρ' _ hag
  refine ⟨fun c => Cert.NormBIdeal.Whole.G (m ((c.tc : Thread Cert.NormBIdeal.nD Cert.NormBIdeal.τ).loc Cert.NormBIdeal.main_arg0)) (m ((c.tc : Thread Cert.NormBIdeal.nD Cert.NormBIdeal.τ).loc Cert.NormBIdeal.main_arg1)) (m ((c.tc : Thread Cert.NormBIdeal.nD Cert.NormBIdeal.τ).loc Cert.NormBIdeal.main_arg2)), Cert.NormBIdeal.Whole.run m ρ, ?_⟩
  refine (θ_run Cert.NormBRefIdeal.defs _ _).mono (fun _ h c => ⟨(h c).1.trans ?_, (h c).2⟩)
    (Cert.NormBRefIdeal.Value.run (F := Ideal) m' ρ')
  rw [(hag c).1, (hag c).2.1, (hag c).2.2]
  exact Cert.NormBRefIdeal.Whole.ref_eq _ _ _

end Cert.Proof.NormB
-- ==== Proof.Value.Step.lean ====
/-
  The value of the recurrence's single step: the states times the first row of powers, plus the inputs.
-/
module

public import proofs.«01_k».proof.Defs
public import proofs.«01_k».proof.Proof.Gen.Step.Frame
public import proofs.«01_k».proof.Proof.Gen.StepIdeal.Value
public import proofs.«01_k».proof.Proof.Gen.StepRefIdeal.Run
public import Idealize.ShloMosaic.Lib.Pipeline.Value
public import Idealize.ShloMosaic.Lib.Quiescent
public import Idealize.ShloMosaic.Lib.Pointwise
public import Idealize.ShloMosaic.Lib.ValueLayout

@[expose] public section

set_option maxRecDepth 16384

noncomputable section

namespace Cert.StepIdeal.Whole

open Cert.StepIdeal Cert.StepIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 4 points. -/
theorem lt_N (t : Fin cfg0.N) : t.val < 4 := by
  have h : cfg0.N = 4 := N_0
  have := t.isLt
  omega

/-- The origin of a two-dimensional block, as a constant function. -/
theorem hz : (![0, 0] : Fin 2 → Nat) = fun _ => 0 := funext fun a => by fin_cases a <;> rfl

/-- The origin of a three-dimensional block, as a constant function. -/
theorem hz3 : (![0, 0, 0] : Fin 3 → Nat) = fun _ => 0 := funext fun a => by fin_cases a <;> rfl

/-- The block index of window 0 at a point. -/
theorem index_hr : ∀ t : Fin grid0.N, win0_0.index t 0 = 0 ∧ win0_0.index t 1 = t.val := by
  decide +kernel

/-- The block index of window 1 at a point. -/
theorem index_hi : ∀ t : Fin grid0.N, win0_1.index t 0 = 0 ∧ win0_1.index t 1 = t.val := by
  decide +kernel

/-- The block index of window 2 at a point. -/
theorem index_xr : ∀ t : Fin grid0.N, win0_2.index t 0 = 0 ∧ win0_2.index t 1 = t.val := by
  decide +kernel

/-- The block index of window 3 at a point. -/
theorem index_xi : ∀ t : Fin grid0.N, win0_3.index t 0 = 0 ∧ win0_3.index t 1 = t.val := by
  decide +kernel

/-- The block index of window 4 at a point. -/
theorem index_ar : ∀ t : Fin grid0.N, win0_4.index t 0 = 0 ∧ win0_4.index t 1 = t.val := by
  decide +kernel

/-- The block index of window 5 at a point. -/
theorem index_ai : ∀ t : Fin grid0.N, win0_5.index t 0 = 0 ∧ win0_5.index t 1 = t.val := by
  decide +kernel

/-- The block index of window 6 at a point. -/
theorem index_o : ∀ t : Fin grid0.N, win0_6.index t 0 = 0 ∧ win0_6.index t 1 = t.val := by
  decide +kernel

/-- The block index of window 7 at a point. -/
theorem index_p : ∀ t : Fin grid0.N, win0_7.index t 0 = 0 ∧ win0_7.index t 1 = t.val := by
  decide +kernel

/-- The block of window 0 at point `t`, entry by entry. -/
theorem iblk_hr (c : Dev nD) (t : Fin cfg0.N) (r : Fin 128) (k : Fin 2048) :
    iblk m c 0 t (ix2 r k : S128x2048.Idx)
      = m ((c : Thread nD τ).loc main_arg0) (ix2 r ⟨(t.val) * 2048 + k, by have := lt_N t; omega⟩ : S128x8192.Idx) := by
  show m ((c : Thread nD τ).loc main_arg0) (((cfg0.win 0).blk t).view.emb (ix2 r k : S128x2048.Idx)) = _
  congr 1
  funext a
  apply Fin.ext
  match a with
  | ⟨0, _⟩ => show win0_0.index t 0 * 128 + 1 * r.val = _
              rw [(index_hr t).1]
              show (0) * 128 + 1 * r.val = r.val
              omega
  | ⟨1, _⟩ => show win0_0.index t 1 * 2048 + 1 * k.val = _
              rw [(index_hr t).2]
              show (t.val) * 2048 + 1 * k.val = (t.val) * 2048 + k.val
              omega

/-- The block of window 1 at point `t`, entry by entry. -/
theorem iblk_hi (c : Dev nD) (t : Fin cfg0.N) (r : Fin 128) (k : Fin 2048) :
    iblk m c 1 t (ix2 r k : S128x2048.Idx)
      = m ((c : Thread nD τ).loc main_arg1) (ix2 r ⟨(t.val) * 2048 + k, by have := lt_N t; omega⟩ : S128x8192.Idx) := by
  show m ((c : Thread nD τ).loc main_arg1) (((cfg0.win 1).blk t).view.emb (ix2 r k : S128x2048.Idx)) = _
  congr 1
  funext a
  apply Fin.ext
  match a with
  | ⟨0, _⟩ => show win0_1.index t 0 * 128 + 1 * r.val = _
              rw [(index_hi t).1]
              show (0) * 128 + 1 * r.val = r.val
              omega
  | ⟨1, _⟩ => show win0_1.index t 1 * 2048 + 1 * k.val = _
              rw [(index_hi t).2]
              show (t.val) * 2048 + 1 * k.val = (t.val) * 2048 + k.val
              omega

/-- The block of window 2 at point `t`, entry by entry. -/
theorem iblk_xr (c : Dev nD) (t : Fin cfg0.N) (r : Fin 128) (k : Fin 2048) :
    iblk m c 2 t (ix2 r k : S128x2048.Idx)
      = m ((c : Thread nD τ).loc main_arg2) (ix2 r ⟨(t.val) * 2048 + k, by have := lt_N t; omega⟩ : S128x8192.Idx) := by
  show m ((c : Thread nD τ).loc main_arg2) (((cfg0.win 2).blk t).view.emb (ix2 r k : S128x2048.Idx)) = _
  congr 1
  funext a
  apply Fin.ext
  match a with
  | ⟨0, _⟩ => show win0_2.index t 0 * 128 + 1 * r.val = _
              rw [(index_xr t).1]
              show (0) * 128 + 1 * r.val = r.val
              omega
  | ⟨1, _⟩ => show win0_2.index t 1 * 2048 + 1 * k.val = _
              rw [(index_xr t).2]
              show (t.val) * 2048 + 1 * k.val = (t.val) * 2048 + k.val
              omega

/-- The block of window 3 at point `t`, entry by entry. -/
theorem iblk_xi (c : Dev nD) (t : Fin cfg0.N) (r : Fin 128) (k : Fin 2048) :
    iblk m c 3 t (ix2 r k : S128x2048.Idx)
      = m ((c : Thread nD τ).loc main_arg3) (ix2 r ⟨(t.val) * 2048 + k, by have := lt_N t; omega⟩ : S128x8192.Idx) := by
  show m ((c : Thread nD τ).loc main_arg3) (((cfg0.win 3).blk t).view.emb (ix2 r k : S128x2048.Idx)) = _
  congr 1
  funext a
  apply Fin.ext
  match a with
  | ⟨0, _⟩ => show win0_3.index t 0 * 128 + 1 * r.val = _
              rw [(index_xi t).1]
              show (0) * 128 + 1 * r.val = r.val
              omega
  | ⟨1, _⟩ => show win0_3.index t 1 * 2048 + 1 * k.val = _
              rw [(index_xi t).2]
              show (t.val) * 2048 + 1 * k.val = (t.val) * 2048 + k.val
              omega

/-- The block of window 4 at point `t`, entry by entry. -/
theorem iblk_ar (c : Dev nD) (t : Fin cfg0.N) (r : Fin 8) (k : Fin 2048) :
    iblk m c 4 t (ix2 r k : S8x2048.Idx)
      = m ((c : Thread nD τ).loc main_arg4) (ix2 r ⟨(t.val) * 2048 + k, by have := lt_N t; omega⟩ : S8x8192.Idx) := by
  show m ((c : Thread nD τ).loc main_arg4) (((cfg0.win 4).blk t).view.emb (ix2 r k : S8x2048.Idx)) = _
  congr 1
  funext a
  apply Fin.ext
  match a with
  | ⟨0, _⟩ => show win0_4.index t 0 * 8 + 1 * r.val = _
              rw [(index_ar t).1]
              show (0) * 8 + 1 * r.val = r.val
              omega
  | ⟨1, _⟩ => show win0_4.index t 1 * 2048 + 1 * k.val = _
              rw [(index_ar t).2]
              show (t.val) * 2048 + 1 * k.val = (t.val) * 2048 + k.val
              omega

/-- The block of window 5 at point `t`, entry by entry. -/
theorem iblk_ai (c : Dev nD) (t : Fin cfg0.N) (r : Fin 8) (k : Fin 2048) :
    iblk m c 5 t (ix2 r k : S8x2048.Idx)
      = m ((c : Thread nD τ).loc main_arg5) (ix2 r ⟨(t.val) * 2048 + k, by have := lt_N t; omega⟩ : S8x8192.Idx) := by
  show m ((c : Thread nD τ).loc main_arg5) (((cfg0.win 5).blk t).view.emb (ix2 r k : S8x2048.Idx)) = _
  congr 1
  funext a
  apply Fin.ext
  match a with
  | ⟨0, _⟩ => show win0_5.index t 0 * 8 + 1 * r.val = _
              rw [(index_ai t).1]
              show (0) * 8 + 1 * r.val = r.val
              omega
  | ⟨1, _⟩ => show win0_5.index t 1 * 2048 + 1 * k.val = _
              rw [(index_ai t).2]
              show (t.val) * 2048 + 1 * k.val = (t.val) * 2048 + k.val
              omega

/-- Where an entry of point `t`'s block of window 6 lies in the whole array. -/
theorem emb_o (t : Fin cfg0.N) (r : Fin 128) (k : Fin 2048) :
    (win0_6.blk t).view.emb (ix2 r k : S128x2048.Idx)
      = (ix2 r ⟨(t.val) * 2048 + k, by have := lt_N t; omega⟩ : S128x8192.Idx) := by
  funext a
  apply Fin.ext
  match a with
  | ⟨0, _⟩ => show win0_6.index t 0 * 128 + 1 * r.val = _
              rw [(index_o t).1]
              show (0) * 128 + 1 * r.val = r.val
              omega
  | ⟨1, _⟩ => show win0_6.index t 1 * 2048 + 1 * k.val = _
              rw [(index_o t).2]
              show (t.val) * 2048 + 1 * k.val = (t.val) * 2048 + k.val
              omega

/-- An entry lies in point `t`'s block of window 6 exactly when its coordinates do. -/
theorem mem_o (t : Fin cfg0.N) (i : S128x8192.Idx) :
    i ∈ ((cfg0.win 6).blk t).view.set ↔ ((0) * 128 ≤ (i 0 : Nat) ∧ (i 0 : Nat) < (0) * 128 + 128) ∧ ((t.val) * 2048 ≤ (i 1 : Nat) ∧ (i 1 : Nat) < (t.val) * 2048 + 2048) := by
  show i ∈ ((View.whole main_v0_0).slice (win0_6.rect t)).set ↔ _
  rw [View.set_slice_whole, Rect.mem_set_unit]
  have e0 : win0_6.index t 0 * win0_6.size 0 = (0) * 128 := by rw [(index_o t).1]; rfl
  have e1 : win0_6.index t 1 * win0_6.size 1 = (t.val) * 2048 := by rw [(index_o t).2]; rfl
  refine ⟨fun h => ⟨?_, ?_⟩, fun h a => ?_⟩
  · have := h 0
    change win0_6.index t 0 * win0_6.size 0 ≤ (i 0 : Nat) ∧ (i 0 : Nat) < win0_6.index t 0 * win0_6.size 0 + 128 at this
    rwa [e0] at this
  · have := h 1
    change win0_6.index t 1 * win0_6.size 1 ≤ (i 1 : Nat) ∧ (i 1 : Nat) < win0_6.index t 1 * win0_6.size 1 + 2048 at this
    rwa [e1] at this
  · match a with
    | ⟨0, _⟩ => show win0_6.index t 0 * win0_6.size 0 ≤ (i 0 : Nat) ∧ (i 0 : Nat) < win0_6.index t 0 * win0_6.size 0 + 128
                rw [e0]; exact h.1
    | ⟨1, _⟩ => show win0_6.index t 1 * win0_6.size 1 ≤ (i 1 : Nat) ∧ (i 1 : Nat) < win0_6.index t 1 * win0_6.size 1 + 2048
                rw [e1]; exact h.2

/-- The blocks of window 6 fill the result. -/
theorem cover_o (i : S128x8192.Idx) :
    ∃ t : Fin cfg0.N, (cfg0.win 6).flush t = true ∧ i ∈ ((cfg0.win 6).blk t).view.set := by
  have h0 : (i 0 : Nat) < 128 := (i 0).isLt
  have h1 : (i 1 : Nat) < 8192 := (i 1).isLt
  have hN : cfg0.N = 4 := N_0
  refine ⟨⟨(i 1 : Nat) / 2048, by omega⟩, flush0_6 _, ?_⟩
  rw [mem_o]
  dsimp only
  omega

/-- Where an entry of point `t`'s block of window 7 lies in the whole array. -/
theorem emb_p (t : Fin cfg0.N) (r : Fin 128) (k : Fin 2048) :
    (win0_7.blk t).view.emb (ix2 r k : S128x2048.Idx)
      = (ix2 r ⟨(t.val) * 2048 + k, by have := lt_N t; omega⟩ : S128x8192.Idx) := by
  funext a
  apply Fin.ext
  match a with
  | ⟨0, _⟩ => show win0_7.index t 0 * 128 + 1 * r.val = _
              rw [(index_p t).1]
              show (0) * 128 + 1 * r.val = r.val
              omega
  | ⟨1, _⟩ => show win0_7.index t 1 * 2048 + 1 * k.val = _
              rw [(index_p t).2]
              show (t.val) * 2048 + 1 * k.val = (t.val) * 2048 + k.val
              omega

/-- An entry lies in point `t`'s block of window 7 exactly when its coordinates do. -/
theorem mem_p (t : Fin cfg0.N) (i : S128x8192.Idx) :
    i ∈ ((cfg0.win 7).blk t).view.set ↔ ((0) * 128 ≤ (i 0 : Nat) ∧ (i 0 : Nat) < (0) * 128 + 128) ∧ ((t.val) * 2048 ≤ (i 1 : Nat) ∧ (i 1 : Nat) < (t.val) * 2048 + 2048) := by
  show i ∈ ((View.whole main_v0_1).slice (win0_7.rect t)).set ↔ _
  rw [View.set_slice_whole, Rect.mem_set_unit]
  have e0 : win0_7.index t 0 * win0_7.size 0 = (0) * 128 := by rw [(index_p t).1]; rfl
  have e1 : win0_7.index t 1 * win0_7.size 1 = (t.val) * 2048 := by rw [(index_p t).2]; rfl
  refine ⟨fun h => ⟨?_, ?_⟩, fun h a => ?_⟩
  · have := h 0
    change win0_7.index t 0 * win0_7.size 0 ≤ (i 0 : Nat) ∧ (i 0 : Nat) < win0_7.index t 0 * win0_7.size 0 + 128 at this
    rwa [e0] at this
  · have := h 1
    change win0_7.index t 1 * win0_7.size 1 ≤ (i 1 : Nat) ∧ (i 1 : Nat) < win0_7.index t 1 * win0_7.size 1 + 2048 at this
    rwa [e1] at this
  · match a with
    | ⟨0, _⟩ => show win0_7.index t 0 * win0_7.size 0 ≤ (i 0 : Nat) ∧ (i 0 : Nat) < win0_7.index t 0 * win0_7.size 0 + 128
                rw [e0]; exact h.1
    | ⟨1, _⟩ => show win0_7.index t 1 * win0_7.size 1 ≤ (i 1 : Nat) ∧ (i 1 : Nat) < win0_7.index t 1 * win0_7.size 1 + 2048
                rw [e1]; exact h.2

/-- The blocks of window 7 fill the result. -/
theorem cover_p (i : S128x8192.Idx) :
    ∃ t : Fin cfg0.N, (cfg0.win 7).flush t = true ∧ i ∈ ((cfg0.win 7).blk t).view.set := by
  have h0 : (i 0 : Nat) < 128 := (i 0).isLt
  have h1 : (i 1 : Nat) < 8192 := (i 1).isLt
  have hN : cfg0.N = 4 := N_0
  refine ⟨⟨(i 1 : Nat) / 2048, by omega⟩, flush0_7 _, ?_⟩
  rw [mem_p]
  dsimp only
  omega

/-- The real parts of the new states. -/
def G (hr hi xr xi : Vec Ideal S128x8192 .f32) (ar ai : Vec Ideal S8x8192 .f32) : Vec Ideal S128x8192 .f32 := fun i =>
  ar (ix2 0 (i 1)) * hr i - ai (ix2 0 (i 1)) * hi i + xr i

/-- The imaginary parts of the new states. -/
def GI (hr hi xr xi : Vec Ideal S128x8192 .f32) (ar ai : Vec Ideal S8x8192 .f32) : Vec Ideal S128x8192 .f32 := fun i =>
  ar (ix2 0 (i 1)) * hi i + ai (ix2 0 (i 1)) * hr i + xi i

/-- The first row of a block of powers. -/
theorem ld_row (x : Vec Ideal S8x2048 .f32) (k : Fin 2048) : View.ld x r0_0 (ix2 0 k : S1x2048.Idx) = x (ix2 0 k : S8x2048.Idx) := by
  show x (r0_0.emb (ix2 0 k : S1x2048.Idx)) = _
  congr 1
  funext a
  apply Fin.ext
  match a with
  | ⟨0, _⟩ => rfl
  | ⟨1, _⟩ => show 0 + 1 * k.val = k.val
              omega

/-- The real payload at an entry. -/
theorem pay1_apply (ar ai : Vec Ideal S1x2048 .f32) (hr hi x : Vec Ideal S128x2048 .f32) (r : Fin 128) (k : Fin 2048) :
    k0_pay1 ar ai hr hi x (ix2 r k) = ar (ix2 0 k) * hr (ix2 r k) - ai (ix2 0 k) * hi (ix2 r k) + x (ix2 r k) := by
  pointwise [k0_pay1]

/-- The imaginary payload at an entry. -/
theorem pay2_apply (ar ai : Vec Ideal S1x2048 .f32) (hr hi x : Vec Ideal S128x2048 .f32) (r : Fin 128) (k : Fin 2048) :
    k0_pay2 ar ai hr hi x (ix2 r k) = ar (ix2 0 k) * hi (ix2 r k) + ai (ix2 0 k) * hr (ix2 r k) + x (ix2 r k) := by
  pointwise [k0_pay2]

/-- What a point writes back to window 6 is its block of the whole-array function. -/
theorem flushed_eq (c : Dev nD) (t : Fin cfg0.N) :
    (dats m 0 c).flushed 6 t = (win0_6.blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed6]
  unfold out0_6
  rw [View.canon_unit_zero hz, View.ld_unit_zero hz, View.ld_unit_zero hz, View.ld_unit_zero hz]
  funext j
  idx_vars j
  show k0_pay1 (F := Ideal) _ _ _ _ _ (ix2 j0 j1) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((win0_6.blk t).view.emb (ix2 j0 j1))
  rw [emb_o, pay1_apply]
  rw [(ld_row _ j1 : View.ld (iblk m c 4 t) r0_0 (ix2 0 j1) = _), (ld_row _ j1 : View.ld (iblk m c 5 t) r0_0 (ix2 0 j1) = _)]
  simp only [iblk_hr, iblk_hi, iblk_xr, iblk_xi, iblk_ar, iblk_ai]
  rfl

/-- What a point writes back to window 7 is its block of the whole-array function. -/
theorem flushed_eqI (c : Dev nD) (t : Fin cfg0.N) :
    (dats m 0 c).flushed 7 t = (win0_7.blk t).view.read (Elt Ideal) (GI (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed7]
  unfold out0_7
  rw [View.canon_unit_zero hz, View.ld_unit_zero hz, View.ld_unit_zero hz, View.ld_unit_zero hz]
  funext j
  idx_vars j
  show k0_pay2 (F := Ideal) _ _ _ _ _ (ix2 j0 j1) = GI (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((win0_7.blk t).view.emb (ix2 j0 j1))
  rw [emb_p, pay2_apply]
  rw [(ld_row _ j1 : View.ld (iblk m c 4 t) r0_0 (ix2 0 j1) = _), (ld_row _ j1 : View.ld (iblk m c 5 t) r0_0 (ix2 0 j1) = _)]
  simp only [iblk_hr, iblk_hi, iblk_xr, iblk_xi, iblk_ar, iblk_ai]
  rfl

/-- The kernel's results, and its arguments kept. -/
theorem run : θ_run defs (onTc (τ := τ) (main (F := Ideal))) ⟨m, fun _ => 0, ρ⟩ fun r => ∀ c : Dev nD,
      r.2.mem ((c : Thread nD τ).loc main_v0_0) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = GI (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans
      ((dats m 0 c).arrAt_eq_of_cover 6 _ (fun t _ => flushed_eq m c t) cover_o),
      (h c).2.1.trans ((dats m 0 c).arrAt_eq_of_cover 7 _ (fun t _ => flushed_eqI m c t) cover_p), (h c).2.2⟩)
    (Value.run_blocks m ρ)

end Cert.StepIdeal.Whole

namespace Cert.StepRefIdeal.Whole

open Cert.StepRefIdeal Cert.StepRefIdeal.Gen
open Idealize.ShloMosaic Idealize.ShloMosaic.TcCoe Idealize.SL.Sem

/-- The host program's term of its arguments. -/
def host {F : FTy → Type} [FloatOps F] (hr : Vec F S128x8192 .f32) (hi : Vec F S128x8192 .f32) (xr : Vec F S128x8192 .f32) (xi : Vec F S128x8192 .f32) (ar : Vec F S8x8192 .f32) (ai : Vec F S8x8192 .f32) : Vec F S128x8192 .f32 :=
  addf (subf (mulf (broadcastInDim S128x8192 ![0, 1] bcast_S1x8192_S128x8192_0_1 (broadcastInDim S1x8192 ![1] bcast_S8192_S1x8192_1 (shapeCast _ (extractStridedSlice S1x8192 ![0, 0] ar slices_S8x8192_S1x8192_0_0) shapeCasts_S1x8192_S8192))) hr) (mulf (broadcastInDim S128x8192 ![0, 1] bcast_S1x8192_S128x8192_0_1 (broadcastInDim S1x8192 ![1] bcast_S8192_S1x8192_1 (shapeCast _ (extractStridedSlice S1x8192 ![0, 0] ai slices_S8x8192_S1x8192_0_0) shapeCasts_S1x8192_S8192))) hi)) xr

/-- The host program's result is the same function of its arguments. -/
theorem ref_eq (hr : Vec Ideal S128x8192 .f32) (hi : Vec Ideal S128x8192 .f32) (xr : Vec Ideal S128x8192 .f32) (xi : Vec Ideal S128x8192 .f32) (ar : Vec Ideal S8x8192 .f32) (ai : Vec Ideal S8x8192 .f32) :
    host (F := Ideal) hr hi xr xi ar ai = StepIdeal.Whole.G hr hi xr xi ar ai := by
  unfold host
  funext i
  idx_vars i
  pointwise [StepIdeal.Whole.G]

/-- The host program's term of its arguments. -/
def hostI {F : FTy → Type} [FloatOps F] (hr : Vec F S128x8192 .f32) (hi : Vec F S128x8192 .f32) (xr : Vec F S128x8192 .f32) (xi : Vec F S128x8192 .f32) (ar : Vec F S8x8192 .f32) (ai : Vec F S8x8192 .f32) : Vec F S128x8192 .f32 :=
  addf (addf (mulf (broadcastInDim S128x8192 ![0, 1] bcast_S1x8192_S128x8192_0_1 (broadcastInDim S1x8192 ![1] bcast_S8192_S1x8192_1 (shapeCast _ (extractStridedSlice S1x8192 ![0, 0] ar slices_S8x8192_S1x8192_0_0) shapeCasts_S1x8192_S8192))) hi) (mulf (broadcastInDim S128x8192 ![0, 1] bcast_S1x8192_S128x8192_0_1 (broadcastInDim S1x8192 ![1] bcast_S8192_S1x8192_1 (shapeCast _ (extractStridedSlice S1x8192 ![0, 0] ai slices_S8x8192_S1x8192_0_0) shapeCasts_S1x8192_S8192))) hr)) xi

/-- The host program's result is the same function of its arguments. -/
theorem ref_eqI (hr : Vec Ideal S128x8192 .f32) (hi : Vec Ideal S128x8192 .f32) (xr : Vec Ideal S128x8192 .f32) (xi : Vec Ideal S128x8192 .f32) (ar : Vec Ideal S8x8192 .f32) (ai : Vec Ideal S8x8192 .f32) :
    hostI (F := Ideal) hr hi xr xi ar ai = StepIdeal.Whole.GI hr hi xr xi ar ai := by
  unfold hostI
  funext i
  idx_vars i
  pointwise [StepIdeal.Whole.GI]

end Cert.StepRefIdeal.Whole

/-! ## The claims -/

namespace Cert.Proof.Step

open Idealize.ShloMosaic Idealize.ShloMosaic.TcCoe Idealize.SL.Sem

/-- The kernel runs to its end and keeps its arguments. -/
theorem frame : Cert.quiescent_Step := fun m ρ _ => Cert.Step.Gen.frame m ρ

/-- So does its idealized form. -/
theorem frameI : Cert.quiescent_StepIdeal := fun m ρ _ => Cert.StepIdeal.Gen.frame m ρ

/-- So does the host program. -/
theorem frameR : Cert.quiescent_StepRefIdeal := fun m ρ _ =>
  (θ_run Cert.StepRefIdeal.defs _ _).mono (fun r h => ⟨fun c => (h c).2.2,
      Idealize.ShloMosaic.sem_eq_zero_of_no_sems (by decide) r.2⟩)
    (Cert.StepRefIdeal.Value.run (F := Ideal) m ρ)

/-- Nothing was rewritten on the way to the idealized form. -/
theorem preserves : Cert.preserves_Step_StepIdeal := trivial

/-- The kernel and the host program compute the same function. -/
theorem algebraic : Cert.algebraic_StepIdeal_StepRefIdeal := by
  intro m ρ m' ρ' _ hag
  refine ⟨fun c => Cert.StepIdeal.Whole.G (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg4)) (m ((c.tc : Thread Cert.StepIdeal.nD Cert.StepIdeal.τ).loc Cert.StepIdeal.main_arg5)),
    fun c => Cert.StepIdeal.Whole.GI (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg4)) (m ((c.tc : Thread Cert.StepIdeal.nD Cert.StepIdeal.τ).loc Cert.StepIdeal.main_arg5)), Cert.StepIdeal.Whole.run m ρ, ?_⟩
  refine (θ_run Cert.StepRefIdeal.defs _ _).mono (fun _ h c => ⟨(h c).1.trans ?_, (h c).2.1.trans ?_, (h c).2.2⟩)
    (Cert.StepRefIdeal.Value.run (F := Ideal) m' ρ')
  · rw [(hag c).1, (hag c).2.1, (hag c).2.2.1, (hag c).2.2.2.2.1, (hag c).2.2.2.2.2]
    exact Cert.StepRefIdeal.Whole.ref_eq _ _ _ _ _ _
  · rw [(hag c).1, (hag c).2.1, (hag c).2.2.2.1, (hag c).2.2.2.2.1, (hag c).2.2.2.2.2]
    exact Cert.StepRefIdeal.Whole.ref_eqI _ _ _ _ _ _

end Cert.Proof.Step
-- ==== Proof.Value.GateUp.lean ====
/-
  The value of the gate/up product: every block the kernel writes back is the block of
  `silu(h · wg) * (h · wu)`, the function the host program computes.
-/
module

public import proofs.«01_k».proof.Defs
public import proofs.«01_k».proof.Proof.Gen.GateUp.Frame
public import proofs.«01_k».proof.Proof.Gen.GateUpIdeal.Value
public import proofs.«01_k».proof.Proof.Gen.GateUpRefIdeal.Run
public import Idealize.ShloMosaic.Lib.Pipeline.Value
public import Idealize.ShloMosaic.Lib.Quiescent
public import Idealize.ShloMosaic.Lib.Pointwise

@[expose] public section

set_option maxRecDepth 16384

noncomputable section

namespace Cert.GateUpIdeal.Whole

open Cert.GateUpIdeal Cert.GateUpIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where the four windows' blocks lie: point `t` is row tile `t / 43` and column tile `t % 43`. -/
theorem index_at : ∀ t : Fin grid0.N,
    (win0_0.index t 0 = t.val / 43 ∧ win0_0.index t 1 = 0)
    ∧ (win0_1.index t 0 = 0 ∧ win0_1.index t 1 = t.val % 43)
    ∧ (win0_2.index t 0 = 0 ∧ win0_2.index t 1 = t.val % 43)
    ∧ (win0_3.index t 0 = t.val / 43 ∧ win0_3.index t 1 = t.val % 43) := by
  decide +kernel

/-- The grid has 344 points. -/
theorem lt_N (t : Fin cfg0.N) : t.val < 344 := by
  have h : cfg0.N = 344 := N_0
  have := t.isLt
  omega

theorem hz : (![0, 0] : Fin 2 → Nat) = fun _ => 0 := funext fun a => by fin_cases a <;> rfl

/-- The activations' block at point `t`, entry by entry. -/
theorem iblk_h (c : Dev nD) (t : Fin cfg0.N) (r : Fin 1024) (k : Fin 4096) :
    iblk m c 0 t (ix2 r k : S1024x4096.Idx)
      = m ((c : Thread nD τ).loc main_arg0) (ix2 ⟨t.val / 43 * 1024 + r, by have := lt_N t; omega⟩ k : S8192x4096.Idx) := by
  show m ((c : Thread nD τ).loc main_arg0) (((cfg0.win 0).blk t).view.emb (ix2 r k : S1024x4096.Idx)) = _
  congr 1
  funext a
  apply Fin.ext
  match a with
  | ⟨0, _⟩ => show win0_0.index t 0 * 1024 + 1 * r.val = _
              rw [(index_at t).1.1, one_mul]; rfl
  | ⟨1, _⟩ => show win0_0.index t 1 * 4096 + 1 * k.val = _
              rw [(index_at t).1.2, one_mul, zero_mul, zero_add]; rfl

/-- The gate weights' block at point `t`, entry by entry. -/
theorem iblk_g (c : Dev nD) (t : Fin cfg0.N) (k : Fin 4096) (j : Fin 256) :
    iblk m c 1 t (ix2 k j : S4096x256.Idx)
      = m ((c : Thread nD τ).loc main_arg1) (ix2 k ⟨t.val % 43 * 256 + j, by have := lt_N t; omega⟩ : S4096x11008.Idx) := by
  show m ((c : Thread nD τ).loc main_arg1) (((cfg0.win 1).blk t).view.emb (ix2 k j : S4096x256.Idx)) = _
  congr 1
  funext a
  apply Fin.ext
  match a with
  | ⟨0, _⟩ => show win0_1.index t 0 * 4096 + 1 * k.val = _
              rw [(index_at t).2.1.1, one_mul, zero_mul, zero_add]; rfl
  | ⟨1, _⟩ => show win0_1.index t 1 * 256 + 1 * j.val = _
              rw [(index_at t).2.1.2, one_mul]; rfl

/-- The up weights' block at point `t`, entry by entry. -/
theorem iblk_u (c : Dev nD) (t : Fin cfg0.N) (k : Fin 4096) (j : Fin 256) :
    iblk m c 2 t (ix2 k j : S4096x256.Idx)
      = m ((c : Thread nD τ).loc main_arg2) (ix2 k ⟨t.val % 43 * 256 + j, by have := lt_N t; omega⟩ : S4096x11008.Idx) := by
  show m ((c : Thread nD τ).loc main_arg2) (((cfg0.win 2).blk t).view.emb (ix2 k j : S4096x256.Idx)) = _
  congr 1
  funext a
  apply Fin.ext
  match a with
  | ⟨0, _⟩ => show win0_2.index t 0 * 4096 + 1 * k.val = _
              rw [(index_at t).2.2.1.1, one_mul, zero_mul, zero_add]; rfl
  | ⟨1, _⟩ => show win0_2.index t 1 * 256 + 1 * j.val = _
              rw [(index_at t).2.2.1.2, one_mul]; rfl

/-- `silu(h · wg) * (h · wu)` over the whole arrays. -/
def glu (h : Vec Ideal S8192x4096 .bf16) (g u : Vec Ideal S4096x11008 .bf16) : Vec Ideal S8192x11008 .bf16 := fun i =>
  ((∑ k : Fin 4096, h (ix2 (i 0) k) * g (ix2 k (i 1))) * Ideal.logistic (∑ k : Fin 4096, h (ix2 (i 0) k) * g (ix2 k (i 1))))
    * ∑ k : Fin 4096, h (ix2 (i 0) k) * u (ix2 k (i 1))

/-- The body's payload at an entry. -/
theorem pay_apply (x : Vec Ideal S1024x4096 .bf16) (g u : Vec Ideal S4096x256 .bf16) (r : Fin 1024) (j : Fin 256) :
    k0_pay1 x g u (ix2 r j)
      = ((∑ k : Fin 4096, x (ix2 r k) * g (ix2 k j)) * Ideal.logistic (∑ k : Fin 4096, x (ix2 r k) * g (ix2 k j)))
        * ∑ k : Fin 4096, x (ix2 r k) * u (ix2 k j) := by
  pointwise [k0_pay1]

/-- What a point writes back is its block of the whole-array function. -/
theorem flushed_eq (c : Dev nD) (t : Fin cfg0.N) :
    (dats m 0 c).flushed 3 t = (win0_3.blk t).view.read (Elt Ideal)
      (glu (m ((c : Thread nD τ).loc main_arg0)) (m ((c : Thread nD τ).loc main_arg1)) (m ((c : Thread nD τ).loc main_arg2))) := by
  rw [Value.flushed3]
  unfold out0_3
  rw [View.canon_unit_zero hz, View.ld_unit_zero hz, View.ld_unit_zero hz, View.ld_unit_zero hz]
  funext j
  show k0_pay1 (F := Ideal) _ _ _ j = glu _ _ _ ((win0_3.blk t).view.emb j)
  idx_vars j
  have e : (win0_3.blk t).view.emb (ix2 j0 j1 : S1024x256.Idx)
      = (ix2 ⟨t.val / 43 * 1024 + j0, by have := lt_N t; omega⟩ ⟨t.val % 43 * 256 + j1, by have := lt_N t; omega⟩ : S8192x11008.Idx) := by
    funext a
    apply Fin.ext
    match a with
    | ⟨0, _⟩ => show win0_3.index t 0 * 1024 + 1 * j0.val = _
                rw [(index_at t).2.2.2.1, one_mul]; rfl
    | ⟨1, _⟩ => show win0_3.index t 1 * 256 + 1 * j1.val = _
                rw [(index_at t).2.2.2.2, one_mul]; rfl
  rw [e, pay_apply]
  simp only [iblk_h, iblk_g, iblk_u]
  rfl

/-- An entry lies in point `t`'s block exactly when its row and column do. -/
theorem mem_blk (t : Fin cfg0.N) (i : S8192x11008.Idx) :
    i ∈ ((cfg0.win 3).blk t).view.set ↔ (t.val / 43 * 1024 ≤ (i 0 : Nat) ∧ (i 0 : Nat) < t.val / 43 * 1024 + 1024)
      ∧ (t.val % 43 * 256 ≤ (i 1 : Nat) ∧ (i 1 : Nat) < t.val % 43 * 256 + 256) := by
  show i ∈ ((View.whole main_v0).slice (win0_3.rect t)).set ↔ _
  rw [View.set_slice_whole, Rect.mem_set_unit]
  have e0 : win0_3.index t 0 * win0_3.size 0 = t.val / 43 * 1024 := by rw [(index_at t).2.2.2.1]; rfl
  have e1 : win0_3.index t 1 * win0_3.size 1 = t.val % 43 * 256 := by rw [(index_at t).2.2.2.2]; rfl
  refine ⟨fun h => ⟨?_, ?_⟩, fun h a => ?_⟩
  · have := h 0
    change win0_3.index t 0 * win0_3.size 0 ≤ (i 0 : Nat) ∧ (i 0 : Nat) < win0_3.index t 0 * win0_3.size 0 + 1024 at this
    rwa [e0] at this
  · have := h 1
    change win0_3.index t 1 * win0_3.size 1 ≤ (i 1 : Nat) ∧ (i 1 : Nat) < win0_3.index t 1 * win0_3.size 1 + 256 at this
    rwa [e1] at this
  · match a with
    | ⟨0, _⟩ => show win0_3.index t 0 * win0_3.size 0 ≤ (i 0 : Nat) ∧ (i 0 : Nat) < win0_3.index t 0 * win0_3.size 0 + 1024
                rw [e0]; exact h.1
    | ⟨1, _⟩ => show win0_3.index t 1 * win0_3.size 1 ≤ (i 1 : Nat) ∧ (i 1 : Nat) < win0_3.index t 1 * win0_3.size 1 + 256
                rw [e1]; exact h.2

/-- The blocks fill the result. -/
theorem cover (i : S8192x11008.Idx) :
    ∃ t : Fin cfg0.N, (cfg0.win 3).flush t = true ∧ i ∈ ((cfg0.win 3).blk t).view.set := by
  have h0 : (i 0 : Nat) < 8192 := (i 0).isLt
  have h1 : (i 1 : Nat) < 11008 := (i 1).isLt
  have hN : cfg0.N = 344 := N_0
  refine ⟨⟨(i 0 : Nat) / 1024 * 43 + (i 1 : Nat) / 256, by omega⟩, flush0_3 _, ?_⟩
  rw [mem_blk]
  dsimp only
  omega

/-- The kernel's result, and its arguments kept. -/
theorem run : θ_run defs (onTc (τ := τ) (main (F := Ideal))) ⟨m, fun _ => 0, ρ⟩ fun r => ∀ c : Dev nD,
      r.2.mem ((c : Thread nD τ).loc main_v0)
        = glu (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans
      ((dats m 0 c).arrAt_eq_of_cover 3 _ (fun t _ => flushed_eq m c t) cover), (h c).2⟩)
    (Value.run_blocks m ρ)

end Cert.GateUpIdeal.Whole

namespace Cert.GateUpRefIdeal.Whole
open Cert.GateUpRefIdeal Cert.GateUpRefIdeal.Gen
open Idealize.ShloMosaic Idealize.ShloMosaic.TcCoe Idealize.SL.Sem

/-- The host program's result is the same function. -/
theorem ref_eq (h : Vec Ideal S8192x4096 .bf16) (g u : Vec Ideal S4096x11008 .bf16) :
   truncf (F := Ideal) .bf16 (mulf (mulf (Host.dotGeneral dot_S8192x4096_S4096x11008_S8192x11008_1_0_0_1_n_n none (extf .f32 h bitsLt_bf16_f32) (extf .f32 g bitsLt_bf16_f32)) (Host.divf (broadcastInDim S8192x11008 ![] bcast_S_S8192x11008 (constant S_ .f32 0x3F800000#32)) (addf (broadcastInDim S8192x11008 ![] bcast_S_S8192x11008 (constant S_ .f32 0x3F800000#32)) (Host.exp (Host.negf (Host.dotGeneral dot_S8192x4096_S4096x11008_S8192x11008_1_0_0_1_n_n none (extf .f32 h bitsLt_bf16_f32) (extf .f32 g bitsLt_bf16_f32))))))) (Host.dotGeneral dot_S8192x4096_S4096x11008_S8192x11008_1_0_0_1_n_n none (extf .f32 h bitsLt_bf16_f32) (extf .f32 u bitsLt_bf16_f32))) bitsLt_bf16_f32
    = GateUpIdeal.Whole.glu h g u := by
  funext i
  idx_vars i
  pointwise [GateUpIdeal.Whole.glu, Ideal.logistic]

end Cert.GateUpRefIdeal.Whole

/-! ## The claims -/

namespace Cert.Proof.GateUp

open Idealize.ShloMosaic Idealize.ShloMosaic.TcCoe Idealize.SL.Sem

/-- The kernel runs to its end and keeps its arguments. -/
theorem frame : Cert.quiescent_GateUp := fun m ρ _ => Cert.GateUp.Gen.frame m ρ

/-- So does its idealized form. -/
theorem frameI : Cert.quiescent_GateUpIdeal := fun m ρ _ => Cert.GateUpIdeal.Gen.frame m ρ

/-- So does the host program. -/
theorem frameR : Cert.quiescent_GateUpRefIdeal := fun m ρ _ =>
  (θ_run Cert.GateUpRefIdeal.defs _ _).mono (fun r h => ⟨fun c => (h c).2,
      Idealize.ShloMosaic.sem_eq_zero_of_no_sems (by decide) r.2⟩)
    (Cert.GateUpRefIdeal.Value.run (F := Ideal) m ρ)

/-- Nothing was rewritten on the way to the idealized form. -/
theorem preserves : Cert.preserves_GateUp_GateUpIdeal := trivial

/-- The kernel and the host program compute the same function. -/
theorem algebraic : Cert.algebraic_GateUpIdeal_GateUpRefIdeal := by
  intro m ρ m' ρ' _ hag
  refine ⟨fun c => Cert.GateUpIdeal.Whole.glu (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)), Cert.GateUpIdeal.Whole.run m ρ, ?_⟩
  refine (θ_run Cert.GateUpRefIdeal.defs _ _).mono (fun _ h c => ⟨(h c).1.trans ?_, (h c).2⟩)
    (Cert.GateUpRefIdeal.Value.run (F := Ideal) m' ρ')
  rw [(hag c).1, (hag c).2.1, (hag c).2.2]
  exact Cert.GateUpRefIdeal.Whole.ref_eq _ _ _

end Cert.Proof.GateUp
-- ==== Proof.Value.S5Y.lean ====
/-
  The value of the output step of the recurrence: each pair of chunks times its matrix, plus the states before the
  chunks times theirs.
-/
module

public import proofs.«01_k».proof.Defs
public import proofs.«01_k».proof.Proof.Gen.S5Y.Frame
public import proofs.«01_k».proof.Proof.Gen.S5YIdeal.Value
public import proofs.«01_k».proof.Proof.Gen.S5YRefIdeal.Run
public import Idealize.ShloMosaic.Lib.Pipeline.Value
public import Idealize.ShloMosaic.Lib.Quiescent
public import Idealize.ShloMosaic.Lib.Pointwise
public import Idealize.ShloMosaic.Lib.ValueLayout

@[expose] public section

set_option maxRecDepth 16384

noncomputable section

namespace Cert.S5YIdeal.Whole

open Cert.S5YIdeal Cert.S5YIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 64 points. -/
theorem lt_N (t : Fin cfg0.N) : t.val < 64 := by
  have h : cfg0.N = 64 := N_0
  have := t.isLt
  omega

/-- The origin of a two-dimensional block, as a constant function. -/
theorem hz : (![0, 0] : Fin 2 → Nat) = fun _ => 0 := funext fun a => by fin_cases a <;> rfl

/-- The origin of a three-dimensional block, as a constant function. -/
theorem hz3 : (![0, 0, 0] : Fin 3 → Nat) = fun _ => 0 := funext fun a => by fin_cases a <;> rfl

/-- The block index of window 0 at a point. -/
theorem index_u : ∀ t : Fin grid0.N, win0_0.index t 0 = t.val ∧ win0_0.index t 1 = 0 ∧ win0_0.index t 2 = 0 := by
  decide +kernel

/-- The block index of window 1 at a point. -/
theorem index_hr : ∀ t : Fin grid0.N, win0_1.index t 0 = 0 ∧ win0_1.index t 1 = t.val := by
  decide +kernel

/-- The block index of window 2 at a point. -/
theorem index_hi : ∀ t : Fin grid0.N, win0_2.index t 0 = 0 ∧ win0_2.index t 1 = t.val := by
  decide +kernel

/-- The block index of window 3 at a point. -/
theorem index_mm : ∀ t : Fin grid0.N, win0_3.index t 0 = t.val ∧ win0_3.index t 1 = 0 ∧ win0_3.index t 2 = 0 := by
  decide +kernel

/-- The block index of window 4 at a point. -/
theorem index_vv : ∀ t : Fin grid0.N, win0_4.index t 0 = t.val ∧ win0_4.index t 1 = 0 ∧ win0_4.index t 2 = 0 := by
  decide +kernel

/-- The block index of window 5 at a point. -/
theorem index_o : ∀ t : Fin grid0.N, win0_5.index t 0 = t.val ∧ win0_5.index t 1 = 0 ∧ win0_5.index t 2 = 0 := by
  decide +kernel

/-- The block of window 0 at point `t`, entry by entry. -/
theorem iblk_u (c : Dev nD) (t : Fin cfg0.N) (r : Fin 1) (k : Fin 1024) (l : Fin 256) :
    iblk m c 0 t (ix3 r k l : S1x1024x256.Idx)
      = m ((c : Thread nD τ).loc main_arg0) (ix3 ⟨(t.val) * 1 + r, by have := lt_N t; omega⟩ k l : S64x1024x256.Idx) := by
  show m ((c : Thread nD τ).loc main_arg0) (((cfg0.win 0).blk t).view.emb (ix3 r k l : S1x1024x256.Idx)) = _
  congr 1
  funext a
  apply Fin.ext
  match a with
  | ⟨0, _⟩ => show win0_0.index t 0 * 1 + 1 * r.val = _
              rw [(index_u t).1]
              show (t.val) * 1 + 1 * r.val = (t.val) * 1 + r.val
              omega
  | ⟨1, _⟩ => show win0_0.index t 1 * 1024 + 1 * k.val = _
              rw [(index_u t).2.1]
              show (0) * 1024 + 1 * k.val = k.val
              omega
  | ⟨2, _⟩ => show win0_0.index t 2 * 256 + 1 * l.val = _
              rw [(index_u t).2.2]
              show (0) * 256 + 1 * l.val = l.val
              omega

/-- The block of window 1 at point `t`, entry by entry. -/
theorem iblk_hr (c : Dev nD) (t : Fin cfg0.N) (r : Fin 1024) (k : Fin 128) :
    iblk m c 1 t (ix2 r k : S1024x128.Idx)
      = m ((c : Thread nD τ).loc main_arg1) (ix2 r ⟨(t.val) * 128 + k, by have := lt_N t; omega⟩ : S1024x8192.Idx) := by
  show m ((c : Thread nD τ).loc main_arg1) (((cfg0.win 1).blk t).view.emb (ix2 r k : S1024x128.Idx)) = _
  congr 1
  funext a
  apply Fin.ext
  match a with
  | ⟨0, _⟩ => show win0_1.index t 0 * 1024 + 1 * r.val = _
              rw [(index_hr t).1]
              show (0) * 1024 + 1 * r.val = r.val
              omega
  | ⟨1, _⟩ => show win0_1.index t 1 * 128 + 1 * k.val = _
              rw [(index_hr t).2]
              show (t.val) * 128 + 1 * k.val = (t.val) * 128 + k.val
              omega

/-- The block of window 2 at point `t`, entry by entry. -/
theorem iblk_hi (c : Dev nD) (t : Fin cfg0.N) (r : Fin 1024) (k : Fin 128) :
    iblk m c 2 t (ix2 r k : S1024x128.Idx)
      = m ((c : Thread nD τ).loc main_arg2) (ix2 r ⟨(t.val) * 128 + k, by have := lt_N t; omega⟩ : S1024x8192.Idx) := by
  show m ((c : Thread nD τ).loc main_arg2) (((cfg0.win 2).blk t).view.emb (ix2 r k : S1024x128.Idx)) = _
  congr 1
  funext a
  apply Fin.ext
  match a with
  | ⟨0, _⟩ => show win0_2.index t 0 * 1024 + 1 * r.val = _
              rw [(index_hi t).1]
              show (0) * 1024 + 1 * r.val = r.val
              omega
  | ⟨1, _⟩ => show win0_2.index t 1 * 128 + 1 * k.val = _
              rw [(index_hi t).2]
              show (t.val) * 128 + 1 * k.val = (t.val) * 128 + k.val
              omega

/-- The block of window 3 at point `t`, entry by entry. -/
theorem iblk_mm (c : Dev nD) (t : Fin cfg0.N) (r : Fin 1) (k : Fin 256) (l : Fin 256) :
    iblk m c 3 t (ix3 r k l : S1x256x256.Idx)
      = m ((c : Thread nD τ).loc main_arg3) (ix3 ⟨(t.val) * 1 + r, by have := lt_N t; omega⟩ k l : S64x256x256.Idx) := by
  show m ((c : Thread nD τ).loc main_arg3) (((cfg0.win 3).blk t).view.emb (ix3 r k l : S1x256x256.Idx)) = _
  congr 1
  funext a
  apply Fin.ext
  match a with
  | ⟨0, _⟩ => show win0_3.index t 0 * 1 + 1 * r.val = _
              rw [(index_mm t).1]
              show (t.val) * 1 + 1 * r.val = (t.val) * 1 + r.val
              omega
  | ⟨1, _⟩ => show win0_3.index t 1 * 256 + 1 * k.val = _
              rw [(index_mm t).2.1]
              show (0) * 256 + 1 * k.val = k.val
              omega
  | ⟨2, _⟩ => show win0_3.index t 2 * 256 + 1 * l.val = _
              rw [(index_mm t).2.2]
              show (0) * 256 + 1 * l.val = l.val
              omega

/-- The block of window 4 at point `t`, entry by entry. -/
theorem iblk_vv (c : Dev nD) (t : Fin cfg0.N) (r : Fin 1) (k : Fin 256) (l : Fin 256) :
    iblk m c 4 t (ix3 r k l : S1x256x256.Idx)
      = m ((c : Thread nD τ).loc main_arg4) (ix3 ⟨(t.val) * 1 + r, by have := lt_N t; omega⟩ k l : S64x256x256.Idx) := by
  show m ((c : Thread nD τ).loc main_arg4) (((cfg0.win 4).blk t).view.emb (ix3 r k l : S1x256x256.Idx)) = _
  congr 1
  funext a
  apply Fin.ext
  match a with
  | ⟨0, _⟩ => show win0_4.index t 0 * 1 + 1 * r.val = _
              rw [(index_vv t).1]
              show (t.val) * 1 + 1 * r.val = (t.val) * 1 + r.val
              omega
  | ⟨1, _⟩ => show win0_4.index t 1 * 256 + 1 * k.val = _
              rw [(index_vv t).2.1]
              show (0) * 256 + 1 * k.val = k.val
              omega
  | ⟨2, _⟩ => show win0_4.index t 2 * 256 + 1 * l.val = _
              rw [(index_vv t).2.2]
              show (0) * 256 + 1 * l.val = l.val
              omega

/-- Where an entry of point `t`'s block of window 5 lies in the whole array. -/
theorem emb_o (t : Fin cfg0.N) (r : Fin 1) (k : Fin 1024) (l : Fin 256) :
    (win0_5.blk t).view.emb (ix3 r k l : S1x1024x256.Idx)
      = (ix3 ⟨(t.val) * 1 + r, by have := lt_N t; omega⟩ k l : S64x1024x256.Idx) := by
  funext a
  apply Fin.ext
  match a with
  | ⟨0, _⟩ => show win0_5.index t 0 * 1 + 1 * r.val = _
              rw [(index_o t).1]
              show (t.val) * 1 + 1 * r.val = (t.val) * 1 + r.val
              omega
  | ⟨1, _⟩ => show win0_5.index t 1 * 1024 + 1 * k.val = _
              rw [(index_o t).2.1]
              show (0) * 1024 + 1 * k.val = k.val
              omega
  | ⟨2, _⟩ => show win0_5.index t 2 * 256 + 1 * l.val = _
              rw [(index_o t).2.2]
              show (0) * 256 + 1 * l.val = l.val
              omega

/-- An entry lies in point `t`'s block of window 5 exactly when its coordinates do. -/
theorem mem_o (t : Fin cfg0.N) (i : S64x1024x256.Idx) :
    i ∈ ((cfg0.win 5).blk t).view.set ↔ ((t.val) * 1 ≤ (i 0 : Nat) ∧ (i 0 : Nat) < (t.val) * 1 + 1) ∧ ((0) * 1024 ≤ (i 1 : Nat) ∧ (i 1 : Nat) < (0) * 1024 + 1024) ∧ ((0) * 256 ≤ (i 2 : Nat) ∧ (i 2 : Nat) < (0) * 256 + 256) := by
  show i ∈ ((View.whole main_v0).slice (win0_5.rect t)).set ↔ _
  rw [View.set_slice_whole, Rect.mem_set_unit]
  have e0 : win0_5.index t 0 * win0_5.size 0 = (t.val) * 1 := by rw [(index_o t).1]; rfl
  have e1 : win0_5.index t 1 * win0_5.size 1 = (0) * 1024 := by rw [(index_o t).2.1]; rfl
  have e2 : win0_5.index t 2 * win0_5.size 2 = (0) * 256 := by rw [(index_o t).2.2]; rfl
  refine ⟨fun h => ⟨?_, ?_, ?_⟩, fun h a => ?_⟩
  · have := h 0
    change win0_5.index t 0 * win0_5.size 0 ≤ (i 0 : Nat) ∧ (i 0 : Nat) < win0_5.index t 0 * win0_5.size 0 + 1 at this
    rwa [e0] at this
  · have := h 1
    change win0_5.index t 1 * win0_5.size 1 ≤ (i 1 : Nat) ∧ (i 1 : Nat) < win0_5.index t 1 * win0_5.size 1 + 1024 at this
    rwa [e1] at this
  · have := h 2
    change win0_5.index t 2 * win0_5.size 2 ≤ (i 2 : Nat) ∧ (i 2 : Nat) < win0_5.index t 2 * win0_5.size 2 + 256 at this
    rwa [e2] at this
  · match a with
    | ⟨0, _⟩ => show win0_5.index t 0 * win0_5.size 0 ≤ (i 0 : Nat) ∧ (i 0 : Nat) < win0_5.index t 0 * win0_5.size 0 + 1
                rw [e0]; exact h.1
    | ⟨1, _⟩ => show win0_5.index t 1 * win0_5.size 1 ≤ (i 1 : Nat) ∧ (i 1 : Nat) < win0_5.index t 1 * win0_5.size 1 + 1024
                rw [e1]; exact h.2.1
    | ⟨2, _⟩ => show win0_5.index t 2 * win0_5.size 2 ≤ (i 2 : Nat) ∧ (i 2 : Nat) < win0_5.index t 2 * win0_5.size 2 + 256
                rw [e2]; exact h.2.2

/-- The blocks of window 5 fill the result. -/
theorem cover_o (i : S64x1024x256.Idx) :
    ∃ t : Fin cfg0.N, (cfg0.win 5).flush t = true ∧ i ∈ ((cfg0.win 5).blk t).view.set := by
  have h0 : (i 0 : Nat) < 64 := (i 0).isLt
  have h1 : (i 1 : Nat) < 1024 := (i 1).isLt
  have h2 : (i 2 : Nat) < 256 := (i 2).isLt
  have hN : cfg0.N = 64 := N_0
  refine ⟨⟨(i 0 : Nat), by omega⟩, flush0_5 _, ?_⟩
  rw [mem_o]
  dsimp only
  omega

/-- Real and imaginary states side by side. -/
def st (hr hi : Fin 128 → EReal) (k : Fin 256) : EReal :=
  if h : k.val < 128 then hr ⟨k.val, h⟩ else hi ⟨k.val - 128, by omega⟩

/-- The whole result. -/
def G (u : Vec Ideal S64x1024x256 .f32) (hr hi : Vec Ideal S1024x8192 .f32) (mm vv : Vec Ideal S64x256x256 .bf16) : Vec Ideal S64x1024x256 .f32 := fun i =>
  have h0 : (i 0 : Nat) < 64 := (i 0).isLt
  (∑ k : Fin 256, u (ix3 (i 0) (i 1) k) * mm (ix3 (i 0) k (i 2)))
    + ∑ k : Fin 256, st (fun d => hr (ix2 (i 1) ⟨(i 0 : Nat) * 128 + d, by omega⟩)) (fun d => hi (ix2 (i 1) ⟨(i 0 : Nat) * 128 + d, by omega⟩)) k * vv (ix3 (i 0) k (i 2))

/-- The payload at an entry. -/
theorem pay_apply (u : Vec Ideal S1x1024x256 .f32) (hr hi : Vec Ideal S1024x128 .f32) (mm vv : Vec Ideal S1x256x256 .bf16) (z : Fin 1) (r : Fin 1024) (j : Fin 256) :
    k0_pay1 u hr hi mm vv (ix3 z r j) = (∑ k : Fin 256, u (ix3 0 r k) * mm (ix3 0 k j))
      + ∑ k : Fin 256, st (fun d => hr (ix2 r d)) (fun d => hi (ix2 r d)) k * vv (ix3 0 k j) := by
  pointwise [k0_pay1, st]

/-- What a point writes back to window 5 is its block of the whole-array function. -/
theorem flushed_eq (c : Dev nD) (t : Fin cfg0.N) :
    (dats m 0 c).flushed 5 t = (win0_5.blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4))) := by
  have hN := lt_N t
  rw [Value.flushed5]
  unfold out0_5
  rw [View.canon_unit_zero hz3, View.ld_unit_zero hz3, View.ld_unit_zero hz, View.ld_unit_zero hz, View.ld_unit_zero hz3, View.ld_unit_zero hz3]
  funext j
  idx_vars j
  show k0_pay1 (F := Ideal) _ _ _ _ _ (ix3 j0 j1 j2) = G _ _ _ _ _ ((win0_5.blk t).view.emb (ix3 j0 j1 j2))
  rw [emb_o, pay_apply]
  simp only [iblk_u, iblk_hr, iblk_hi, iblk_mm, iblk_vv]
  obtain rfl : j0 = 0 := Fin.ext (by omega)
  have e : (⟨(t.val) * 1 + (0 : Fin 1), by omega⟩ : Fin 64) = ⟨t.val, hN⟩ := Fin.ext (by show t.val * 1 + 0 = t.val; omega)
  rw [e]
  rfl

/-- The kernel's result, and its arguments kept. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans
      ((dats m 0 c).arrAt_eq_of_cover 5 _ (fun t _ => flushed_eq m c t) cover_o), (h c).2⟩)
    (Value.run_blocks m ρ)

end Cert.S5YIdeal.Whole

namespace Cert.S5YRefIdeal.Whole

open Cert.S5YRefIdeal Cert.S5YRefIdeal.Gen
open Idealize.ShloMosaic Idealize.ShloMosaic.TcCoe Idealize.SL.Sem

/-- The host program's term of its arguments. -/
def host {F : FTy → Type} [FloatOps F] (u : Vec F S64x1024x256 .f32) (hr : Vec F S1024x8192 .f32) (hi : Vec F S1024x8192 .f32) (mm : Vec F S64x256x256 .bf16) (vv : Vec F S64x256x256 .bf16) : Vec F S64x1024x256 .f32 :=
  addf (Host.dotGeneral dot_S64x1024x256_S64x256x256_S64x1024x256_2_1_1_2_0_0 none u (extf .f32 mm bitsLt_bf16_f32)) (Host.dotGeneral dot_S1024x64x256_S64x256x256_S64x1024x256_2_1_0_2_1_0 none (concatenate S1024x64x256 2 [⟨S1024x64x128, (shapeCast _ hr shapeCasts_S1024x8192_S1024x64x128)⟩, ⟨S1024x64x128, (shapeCast _ hi shapeCasts_S1024x8192_S1024x64x128)⟩] concatenates_S1024x64x128_S1024x64x128_S1024x64x256_d2) (extf .f32 vv bitsLt_bf16_f32))

/-- The host program's result is the same function of its arguments. -/
theorem ref_eq (u : Vec Ideal S64x1024x256 .f32) (hr : Vec Ideal S1024x8192 .f32) (hi : Vec Ideal S1024x8192 .f32) (mm : Vec Ideal S64x256x256 .bf16) (vv : Vec Ideal S64x256x256 .bf16) :
    host (F := Ideal) u hr hi mm vv = S5YIdeal.Whole.G u hr hi mm vv := by
  unfold host
  funext i
  idx_vars i
  pointwise [S5YIdeal.Whole.G, S5YIdeal.Whole.st]

end Cert.S5YRefIdeal.Whole

/-! ## The claims -/

namespace Cert.Proof.S5Y

open Idealize.ShloMosaic Idealize.ShloMosaic.TcCoe Idealize.SL.Sem

/-- The kernel runs to its end and keeps its arguments. -/
theorem frame : Cert.quiescent_S5Y := fun m ρ _ => Cert.S5Y.Gen.frame m ρ

/-- So does its idealized form. -/
theorem frameI : Cert.quiescent_S5YIdeal := fun m ρ _ => Cert.S5YIdeal.Gen.frame m ρ

/-- So does the host program. -/
theorem frameR : Cert.quiescent_S5YRefIdeal := fun m ρ _ =>
  (θ_run Cert.S5YRefIdeal.defs _ _).mono (fun r h => ⟨fun c => (h c).2,
      Idealize.ShloMosaic.sem_eq_zero_of_no_sems (by decide) r.2⟩)
    (Cert.S5YRefIdeal.Value.run (F := Ideal) m ρ)

/-- Nothing was rewritten on the way to the idealized form. -/
theorem preserves : Cert.preserves_S5Y_S5YIdeal := trivial

/-- The kernel and the host program compute the same function. -/
theorem algebraic : Cert.algebraic_S5YIdeal_S5YRefIdeal := by
  intro m ρ m' ρ' _ hag
  refine ⟨fun c => Cert.S5YIdeal.Whole.G (m ((c.tc : Thread Cert.S5YIdeal.nD Cert.S5YIdeal.τ).loc Cert.S5YIdeal.main_arg0)) (m ((c.tc : Thread Cert.S5YIdeal.nD Cert.S5YIdeal.τ).loc Cert.S5YIdeal.main_arg1)) (m ((c.tc : Thread Cert.S5YIdeal.nD Cert.S5YIdeal.τ).loc Cert.S5YIdeal.main_arg2)) (m ((c.tc : Thread Cert.S5YIdeal.nD Cert.S5YIdeal.τ).loc Cert.S5YIdeal.main_arg3)) (m ((c.tc : Thread Cert.S5YIdeal.nD Cert.S5YIdeal.τ).loc Cert.S5YIdeal.main_arg4)), Cert.S5YIdeal.Whole.run m ρ, ?_⟩
  refine (θ_run Cert.S5YRefIdeal.defs _ _).mono (fun _ h c => ⟨(h c).1.trans ?_, (h c).2⟩)
    (Cert.S5YRefIdeal.Value.run (F := Ideal) m' ρ')
  rw [(hag c).1, (hag c).2.1, (hag c).2.2.1, (hag c).2.2.2.1, (hag c).2.2.2.2]
  exact Cert.S5YRefIdeal.Whole.ref_eq _ _ _ _ _

end Cert.Proof.S5Y
-- ==== Proof.Value.OutProj.lean ====
/-
  The value of the output projection: every block written back is the block of `x + gate * (a · w)`, the
  function the host program computes.
-/
module

public import proofs.«01_k».proof.Defs
public import proofs.«01_k».proof.Proof.Gen.OutProj.Frame
public import proofs.«01_k».proof.Proof.Gen.OutProjIdeal.Value
public import proofs.«01_k».proof.Proof.Gen.OutProjRefIdeal.Run
public import Idealize.ShloMosaic.Lib.Pipeline.Value
public import Idealize.ShloMosaic.Lib.Quiescent
public import Idealize.ShloMosaic.Lib.Pointwise

@[expose] public section

set_option maxRecDepth 16384

noncomputable section

namespace Cert.OutProjIdeal.Whole

open Cert.OutProjIdeal Cert.OutProjIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 64 points. -/
theorem lt_N (t : Fin cfg0.N) : t.val < 64 := by
  have h : cfg0.N = 64 := N_0
  have := t.isLt
  omega

/-- The origin of a block, as a constant function. -/
theorem hz : (![0, 0] : Fin 2 → Nat) = fun _ => 0 := funext fun a => by fin_cases a <;> rfl

/-- The block index of window 0 at a point. -/
theorem index_a : ∀ t : Fin grid0.N, win0_0.index t 0 = t.val / 8 ∧ win0_0.index t 1 = 0 := by
  decide +kernel

/-- The block index of window 1 at a point. -/
theorem index_w : ∀ t : Fin grid0.N, win0_1.index t 0 = 0 ∧ win0_1.index t 1 = t.val % 8 := by
  decide +kernel

/-- The block index of window 2 at a point. -/
theorem index_x : ∀ t : Fin grid0.N, win0_2.index t 0 = t.val / 8 ∧ win0_2.index t 1 = t.val % 8 := by
  decide +kernel

/-- The block index of window 3 at a point. -/
theorem index_q : ∀ t : Fin grid0.N, win0_3.index t 0 = 0 ∧ win0_3.index t 1 = 16 + t.val % 8 := by
  decide +kernel

/-- The block index of window 4 at a point. -/
theorem index_o : ∀ t : Fin grid0.N, win0_4.index t 0 = t.val / 8 ∧ win0_4.index t 1 = t.val % 8 := by
  decide +kernel

/-- The block of window 0 at point `t`, entry by entry. -/
theorem iblk_a (c : Dev nD) (t : Fin cfg0.N) (r : Fin 1024) (k : Fin 4096) :
    iblk m c 0 t (ix2 r k : S1024x4096.Idx)
      = m ((c : Thread nD τ).loc main_arg0) (ix2 ⟨(t.val / 8) * 1024 + r, by have := lt_N t; omega⟩ k : S8192x4096.Idx) := by
  show m ((c : Thread nD τ).loc main_arg0) (((cfg0.win 0).blk t).view.emb (ix2 r k : S1024x4096.Idx)) = _
  congr 1
  funext a
  apply Fin.ext
  match a with
  | ⟨0, _⟩ => show win0_0.index t 0 * 1024 + 1 * r.val = _
              rw [(index_a t).1]
              show (t.val / 8) * 1024 + 1 * r.val = (t.val / 8) * 1024 + r.val
              omega
  | ⟨1, _⟩ => show win0_0.index t 1 * 4096 + 1 * k.val = _
              rw [(index_a t).2]
              show (0) * 4096 + 1 * k.val = k.val
              omega

/-- The block of window 1 at point `t`, entry by entry. -/
theorem iblk_w (c : Dev nD) (t : Fin cfg0.N) (r : Fin 4096) (k : Fin 512) :
    iblk m c 1 t (ix2 r k : S4096x512.Idx)
      = m ((c : Thread nD τ).loc main_arg1) (ix2 r ⟨(t.val % 8) * 512 + k, by have := lt_N t; omega⟩ : S4096x4096.Idx) := by
  show m ((c : Thread nD τ).loc main_arg1) (((cfg0.win 1).blk t).view.emb (ix2 r k : S4096x512.Idx)) = _
  congr 1
  funext a
  apply Fin.ext
  match a with
  | ⟨0, _⟩ => show win0_1.index t 0 * 4096 + 1 * r.val = _
              rw [(index_w t).1]
              show (0) * 4096 + 1 * r.val = r.val
              omega
  | ⟨1, _⟩ => show win0_1.index t 1 * 512 + 1 * k.val = _
              rw [(index_w t).2]
              show (t.val % 8) * 512 + 1 * k.val = (t.val % 8) * 512 + k.val
              omega

/-- The block of window 2 at point `t`, entry by entry. -/
theorem iblk_x (c : Dev nD) (t : Fin cfg0.N) (r : Fin 1024) (k : Fin 512) :
    iblk m c 2 t (ix2 r k : S1024x512.Idx)
      = m ((c : Thread nD τ).loc main_arg2) (ix2 ⟨(t.val / 8) * 1024 + r, by have := lt_N t; omega⟩ ⟨(t.val % 8) * 512 + k, by have := lt_N t; omega⟩ : S8192x4096.Idx) := by
  show m ((c : Thread nD τ).loc main_arg2) (((cfg0.win 2).blk t).view.emb (ix2 r k : S1024x512.Idx)) = _
  congr 1
  funext a
  apply Fin.ext
  match a with
  | ⟨0, _⟩ => show win0_2.index t 0 * 1024 + 1 * r.val = _
              rw [(index_x t).1]
              show (t.val / 8) * 1024 + 1 * r.val = (t.val / 8) * 1024 + r.val
              omega
  | ⟨1, _⟩ => show win0_2.index t 1 * 512 + 1 * k.val = _
              rw [(index_x t).2]
              show (t.val % 8) * 512 + 1 * k.val = (t.val % 8) * 512 + k.val
              omega

/-- The block of window 3 at point `t`, entry by entry. -/
theorem iblk_q (c : Dev nD) (t : Fin cfg0.N) (r : Fin 1) (k : Fin 512) :
    iblk m c 3 t (ix2 r k : S1x512.Idx)
      = m ((c : Thread nD τ).loc main_arg3) (ix2 r ⟨(16 + t.val % 8) * 512 + k, by have := lt_N t; omega⟩ : S1x24576.Idx) := by
  show m ((c : Thread nD τ).loc main_arg3) (((cfg0.win 3).blk t).view.emb (ix2 r k : S1x512.Idx)) = _
  congr 1
  funext a
  apply Fin.ext
  match a with
  | ⟨0, _⟩ => show win0_3.index t 0 * 1 + 1 * r.val = _
              rw [(index_q t).1]
              show (0) * 1 + 1 * r.val = r.val
              omega
  | ⟨1, _⟩ => show win0_3.index t 1 * 512 + 1 * k.val = _
              rw [(index_q t).2]
              show (16 + t.val % 8) * 512 + 1 * k.val = (16 + t.val % 8) * 512 + k.val
              omega

/-- `x + gate * (a · w)` over the whole arrays, the gate the third chunk of the modulation row. -/
def G (a : Vec Ideal S8192x4096 .bf16) (w : Vec Ideal S4096x4096 .bf16) (x : Vec Ideal S8192x4096 .f32) (q : Vec Ideal S1x24576 .f32) :
    Vec Ideal S8192x4096 .f32 := fun i =>
  x i + q (ix2 0 ⟨8192 + (i 1 : Nat), by have : (i 1 : Nat) < 4096 := (i 1).isLt; omega⟩) * ∑ k : Fin 4096, a (ix2 (i 0) k) * w (ix2 k (i 1))

/-- The payload at an entry. -/
theorem pay_apply (a : Vec Ideal S1024x4096 .bf16) (w : Vec Ideal S4096x512 .bf16) (x : Vec Ideal S1024x512 .f32) (q : Vec Ideal S1x512 .f32)
    (r : Fin 1024) (j : Fin 512) :
    k0_pay1 a w x q (ix2 r j) = x (ix2 r j) + q (ix2 0 j) * ∑ k : Fin 4096, a (ix2 r k) * w (ix2 k j) := by
  pointwise [k0_pay1]

/-- What a point writes back is its block of the whole-array function. -/
theorem flushed_eq (c : Dev nD) (t : Fin cfg0.N) :
    (dats m 0 c).flushed 4 t = (win0_4.blk t).view.read (Elt Ideal) (G (m ((c : Thread nD τ).loc main_arg0)) (m ((c : Thread nD τ).loc main_arg1)) (m ((c : Thread nD τ).loc main_arg2)) (m ((c : Thread nD τ).loc main_arg3))) := by
  rw [Value.flushed4]
  unfold out0_4
  rw [View.canon_unit_zero hz, View.ld_unit_zero hz, View.ld_unit_zero hz, View.ld_unit_zero hz, View.ld_unit_zero hz]
  funext j
  show k0_pay1 (F := Ideal) _ _ _ _ j = G _ _ _ _ ((win0_4.blk t).view.emb j)
  idx_vars j
  have e : (win0_4.blk t).view.emb (ix2 j0 j1 : S1024x512.Idx)
      = (ix2 ⟨(t.val / 8) * 1024 + j0, by have := lt_N t; omega⟩ ⟨(t.val % 8) * 512 + j1, by have := lt_N t; omega⟩ : S8192x4096.Idx) := by
    funext a
    apply Fin.ext
    match a with
    | ⟨0, _⟩ => show win0_4.index t 0 * 1024 + 1 * j0.val = _
                rw [(index_o t).1]
                show (t.val / 8) * 1024 + 1 * j0.val = (t.val / 8) * 1024 + j0.val
                omega
    | ⟨1, _⟩ => show win0_4.index t 1 * 512 + 1 * j1.val = _
                rw [(index_o t).2]
                show (t.val % 8) * 512 + 1 * j1.val = (t.val % 8) * 512 + j1.val
                omega
  rw [e, pay_apply]
  simp only [iblk_a, iblk_w, iblk_x, iblk_q]
  have e2 : (⟨(16 + t.val % 8) * 512 + j1, by omega⟩ : Fin 24576) = ⟨8192 + (t.val % 8 * 512 + j1.val), by omega⟩ :=
    Fin.ext (show (16 + t.val % 8) * 512 + j1.val = 8192 + (t.val % 8 * 512 + j1.val) by omega)
  rw [e2]
  rfl

/-- An entry lies in point `t`'s block exactly when its row and column do. -/
theorem mem_blk (t : Fin cfg0.N) (i : S8192x4096.Idx) :
    i ∈ ((cfg0.win 4).blk t).view.set ↔ ((t.val / 8) * 1024 ≤ (i 0 : Nat) ∧ (i 0 : Nat) < (t.val / 8) * 1024 + 1024)
      ∧ ((t.val % 8) * 512 ≤ (i 1 : Nat) ∧ (i 1 : Nat) < (t.val % 8) * 512 + 512) := by
  show i ∈ ((View.whole main_v0).slice (win0_4.rect t)).set ↔ _
  rw [View.set_slice_whole, Rect.mem_set_unit]
  have e0 : win0_4.index t 0 * win0_4.size 0 = (t.val / 8) * 1024 := by rw [(index_o t).1]; rfl
  have e1 : win0_4.index t 1 * win0_4.size 1 = (t.val % 8) * 512 := by rw [(index_o t).2]; rfl
  refine ⟨fun h => ⟨?_, ?_⟩, fun h a => ?_⟩
  · have := h 0
    change win0_4.index t 0 * win0_4.size 0 ≤ (i 0 : Nat) ∧ (i 0 : Nat) < win0_4.index t 0 * win0_4.size 0 + 1024 at this
    rwa [e0] at this
  · have := h 1
    change win0_4.index t 1 * win0_4.size 1 ≤ (i 1 : Nat) ∧ (i 1 : Nat) < win0_4.index t 1 * win0_4.size 1 + 512 at this
    rwa [e1] at this
  · match a with
    | ⟨0, _⟩ => show win0_4.index t 0 * win0_4.size 0 ≤ (i 0 : Nat) ∧ (i 0 : Nat) < win0_4.index t 0 * win0_4.size 0 + 1024
                rw [e0]; exact h.1
    | ⟨1, _⟩ => show win0_4.index t 1 * win0_4.size 1 ≤ (i 1 : Nat) ∧ (i 1 : Nat) < win0_4.index t 1 * win0_4.size 1 + 512
                rw [e1]; exact h.2

/-- The blocks fill the result. -/
theorem cover (i : S8192x4096.Idx) :
    ∃ t : Fin cfg0.N, (cfg0.win 4).flush t = true ∧ i ∈ ((cfg0.win 4).blk t).view.set := by
  have h0 : (i 0 : Nat) < 8192 := (i 0).isLt
  have h1 : (i 1 : Nat) < 4096 := (i 1).isLt
  have hN : cfg0.N = 64 := N_0
  refine ⟨⟨(i 0 : Nat) / 1024 * 8 + (i 1 : Nat) / 512, by omega⟩, flush0_4 _, ?_⟩
  rw [mem_blk]
  dsimp only
  omega

/-- The kernel's result, and its arguments kept. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans
      ((dats m 0 c).arrAt_eq_of_cover 4 _ (fun t _ => flushed_eq m c t) cover), (h c).2⟩)
    (Value.run_blocks m ρ)

end Cert.OutProjIdeal.Whole

namespace Cert.OutProjRefIdeal.Whole

open Cert.OutProjRefIdeal Cert.OutProjRefIdeal.Gen
open Idealize.ShloMosaic Idealize.ShloMosaic.TcCoe Idealize.SL.Sem

/-- The host program's result is the same function. -/
theorem ref_eq (a : Vec Ideal S8192x4096 .bf16) (w : Vec Ideal S4096x4096 .bf16) (x : Vec Ideal S8192x4096 .f32) (q : Vec Ideal S1x24576 .f32) :
    addf (F := Ideal) x (mulf (broadcastInDim S8192x4096 ![0, 1] bcast_S1x4096_S8192x4096_0_1 (extractStridedSlice S1x4096 ![0, 8192] q slices_S1x24576_S1x4096_0_8192)) (Host.dotGeneral dot_S8192x4096_S4096x4096_S8192x4096_1_0_0_1_n_n none (extf .f32 a bitsLt_bf16_f32) (extf .f32 w bitsLt_bf16_f32))) = OutProjIdeal.Whole.G a w x q := by
  funext i
  idx_vars i
  pointwise [OutProjIdeal.Whole.G]

end Cert.OutProjRefIdeal.Whole

/-! ## The claims -/

namespace Cert.Proof.OutProj

open Idealize.ShloMosaic Idealize.ShloMosaic.TcCoe Idealize.SL.Sem

/-- The kernel runs to its end and keeps its arguments. -/
theorem frame : Cert.quiescent_OutProj := fun m ρ _ => Cert.OutProj.Gen.frame m ρ

/-- So does its idealized form. -/
theorem frameI : Cert.quiescent_OutProjIdeal := fun m ρ _ => Cert.OutProjIdeal.Gen.frame m ρ

/-- So does the host program. -/
theorem frameR : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)

/-- Nothing was rewritten on the way to the idealized form. -/
theorem preserves : Cert.preserves_OutProj_OutProjIdeal := trivial

/-- The kernel and the host program compute the same function. -/
theorem algebraic : Cert.algebraic_OutProjIdeal_OutProjRefIdeal := by
  intro m ρ m' ρ' _ hag
  refine ⟨fun c => Cert.OutProjIdeal.Whole.G (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)), Cert.OutProjIdeal.Whole.run m ρ, ?_⟩
  refine (θ_run Cert.OutProjRefIdeal.defs _ _).mono (fun _ h c => ⟨(h c).1.trans ?_, (h c).2⟩)
    (Cert.OutProjRefIdeal.Value.run (F := Ideal) m' ρ')
  rw [(hag c).1, (hag c).2.1, (hag c).2.2.1, (hag c).2.2.2]
  exact Cert.OutProjRefIdeal.Whole.ref_eq _ _ _ _

end Cert.Proof.OutProj
-- ==== Proof.Value.Rms.lean ====
/-
  The value of the two norms: the two halves of each row, each divided by its root mean square and scaled by its gain.
-/
module

public import proofs.«01_k».proof.Defs
public import proofs.«01_k».proof.Proof.Gen.Rms.Frame
public import proofs.«01_k».proof.Proof.Gen.RmsIdeal.Value
public import proofs.«01_k».proof.Proof.Gen.RmsRefIdeal.Run
public import Idealize.ShloMosaic.Lib.Pipeline.Value
public import Idealize.ShloMosaic.Lib.Quiescent
public import Idealize.ShloMosaic.Lib.Pointwise
public import Idealize.ShloMosaic.Lib.ValueLayout

@[expose] public section

set_option maxRecDepth 16384

noncomputable section

namespace Cert.RmsIdeal.Whole

open Cert.RmsIdeal Cert.RmsIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 32 points. -/
theorem lt_N (t : Fin cfg0.N) : t.val < 32 := by
  have h : cfg0.N = 32 := N_0
  have := t.isLt
  omega

/-- The origin of a two-dimensional block, as a constant function. -/
theorem hz : (![0, 0] : Fin 2 → Nat) = fun _ => 0 := funext fun a => by fin_cases a <;> rfl

/-- The origin of a three-dimensional block, as a constant function. -/
theorem hz3 : (![0, 0, 0] : Fin 3 → Nat) = fun _ => 0 := funext fun a => by fin_cases a <;> rfl

/-- The block index of window 0 at a point. -/
theorem index_a : ∀ t : Fin grid0.N, win0_0.index t 0 = t.val ∧ win0_0.index t 1 = 0 := by
  decide +kernel

/-- The block index of window 1 at a point. -/
theorem index_b : ∀ t : Fin grid0.N, win0_1.index t 0 = t.val ∧ win0_1.index t 1 = 0 := by
  decide +kernel

/-- The block index of window 2 at a point. -/
theorem index_ga : ∀ t : Fin grid0.N, win0_2.index t 0 = 0 ∧ win0_2.index t 1 = 0 := by
  decide +kernel

/-- The block index of window 3 at a point. -/
theorem index_gb : ∀ t : Fin grid0.N, win0_3.index t 0 = 0 ∧ win0_3.index t 1 = 0 := by
  decide +kernel

/-- The block index of window 4 at a point. -/
theorem index_o : ∀ t : Fin grid0.N, win0_4.index t 0 = t.val ∧ win0_4.index t 1 = 0 := by
  decide +kernel

/-- The block of window 0 at point `t`, entry by entry. -/
theorem iblk_a (c : Dev nD) (t : Fin cfg0.N) (r : Fin 256) (k : Fin 2048) :
    iblk m c 0 t (ix2 r k : S256x2048.Idx)
      = m ((c : Thread nD τ).loc main_arg0) (ix2 ⟨(t.val) * 256 + r, by have := lt_N t; omega⟩ k : S8192x2048.Idx) := by
  show m ((c : Thread nD τ).loc main_arg0) (((cfg0.win 0).blk t).view.emb (ix2 r k : S256x2048.Idx)) = _
  congr 1
  funext a
  apply Fin.ext
  match a with
  | ⟨0, _⟩ => show win0_0.index t 0 * 256 + 1 * r.val = _
              rw [(index_a t).1]
              show (t.val) * 256 + 1 * r.val = (t.val) * 256 + r.val
              omega
  | ⟨1, _⟩ => show win0_0.index t 1 * 2048 + 1 * k.val = _
              rw [(index_a t).2]
              show (0) * 2048 + 1 * k.val = k.val
              omega

/-- The block of window 1 at point `t`, entry by entry. -/
theorem iblk_b (c : Dev nD) (t : Fin cfg0.N) (r : Fin 256) (k : Fin 2048) :
    iblk m c 1 t (ix2 r k : S256x2048.Idx)
      = m ((c : Thread nD τ).loc main_arg1) (ix2 ⟨(t.val) * 256 + r, by have := lt_N t; omega⟩ k : S8192x2048.Idx) := by
  show m ((c : Thread nD τ).loc main_arg1) (((cfg0.win 1).blk t).view.emb (ix2 r k : S256x2048.Idx)) = _
  congr 1
  funext a
  apply Fin.ext
  match a with
  | ⟨0, _⟩ => show win0_1.index t 0 * 256 + 1 * r.val = _
              rw [(index_b t).1]
              show (t.val) * 256 + 1 * r.val = (t.val) * 256 + r.val
              omega
  | ⟨1, _⟩ => show win0_1.index t 1 * 2048 + 1 * k.val = _
              rw [(index_b t).2]
              show (0) * 2048 + 1 * k.val = k.val
              omega

/-- The block of window 2 at point `t`, entry by entry. -/
theorem iblk_ga (c : Dev nD) (t : Fin cfg0.N) (r : Fin 1) (k : Fin 2048) :
    iblk m c 2 t (ix2 r k : S1x2048.Idx)
      = V m c main_v0 (ix2 r k : S1x2048.Idx) := by
  show V m c main_v0 (((cfg0.win 2).blk t).view.emb (ix2 r k : S1x2048.Idx)) = _
  congr 1
  funext a
  apply Fin.ext
  match a with
  | ⟨0, _⟩ => show win0_2.index t 0 * 1 + 1 * r.val = _
              rw [(index_ga t).1]
              show (0) * 1 + 1 * r.val = r.val
              omega
  | ⟨1, _⟩ => show win0_2.index t 1 * 2048 + 1 * k.val = _
              rw [(index_ga t).2]
              show (0) * 2048 + 1 * k.val = k.val
              omega

/-- The block of window 3 at point `t`, entry by entry. -/
theorem iblk_gb (c : Dev nD) (t : Fin cfg0.N) (r : Fin 1) (k : Fin 2048) :
    iblk m c 3 t (ix2 r k : S1x2048.Idx)
      = V m c main_v1 (ix2 r k : S1x2048.Idx) := by
  show V m c main_v1 (((cfg0.win 3).blk t).view.emb (ix2 r k : S1x2048.Idx)) = _
  congr 1
  funext a
  apply Fin.ext
  match a with
  | ⟨0, _⟩ => show win0_3.index t 0 * 1 + 1 * r.val = _
              rw [(index_gb t).1]
              show (0) * 1 + 1 * r.val = r.val
              omega
  | ⟨1, _⟩ => show win0_3.index t 1 * 2048 + 1 * k.val = _
              rw [(index_gb t).2]
              show (0) * 2048 + 1 * k.val = k.val
              omega

/-- Where an entry of point `t`'s block of window 4 lies in the whole array. -/
theorem emb_o (t : Fin cfg0.N) (r : Fin 256) (k : Fin 4096) :
    (win0_4.blk t).view.emb (ix2 r k : S256x4096.Idx)
      = (ix2 ⟨(t.val) * 256 + r, by have := lt_N t; omega⟩ k : S8192x4096.Idx) := by
  funext a
  apply Fin.ext
  match a with
  | ⟨0, _⟩ => show win0_4.index t 0 * 256 + 1 * r.val = _
              rw [(index_o t).1]
              show (t.val) * 256 + 1 * r.val = (t.val) * 256 + r.val
              omega
  | ⟨1, _⟩ => show win0_4.index t 1 * 4096 + 1 * k.val = _
              rw [(index_o t).2]
              show (0) * 4096 + 1 * k.val = k.val
              omega

/-- An entry lies in point `t`'s block of window 4 exactly when its coordinates do. -/
theorem mem_o (t : Fin cfg0.N) (i : S8192x4096.Idx) :
    i ∈ ((cfg0.win 4).blk t).view.set ↔ ((t.val) * 256 ≤ (i 0 : Nat) ∧ (i 0 : Nat) < (t.val) * 256 + 256) ∧ ((0) * 4096 ≤ (i 1 : Nat) ∧ (i 1 : Nat) < (0) * 4096 + 4096) := by
  show i ∈ ((View.whole main_v2).slice (win0_4.rect t)).set ↔ _
  rw [View.set_slice_whole, Rect.mem_set_unit]
  have e0 : win0_4.index t 0 * win0_4.size 0 = (t.val) * 256 := by rw [(index_o t).1]; rfl
  have e1 : win0_4.index t 1 * win0_4.size 1 = (0) * 4096 := by rw [(index_o t).2]; rfl
  refine ⟨fun h => ⟨?_, ?_⟩, fun h a => ?_⟩
  · have := h 0
    change win0_4.index t 0 * win0_4.size 0 ≤ (i 0 : Nat) ∧ (i 0 : Nat) < win0_4.index t 0 * win0_4.size 0 + 256 at this
    rwa [e0] at this
  · have := h 1
    change win0_4.index t 1 * win0_4.size 1 ≤ (i 1 : Nat) ∧ (i 1 : Nat) < win0_4.index t 1 * win0_4.size 1 + 4096 at this
    rwa [e1] at this
  · match a with
    | ⟨0, _⟩ => show win0_4.index t 0 * win0_4.size 0 ≤ (i 0 : Nat) ∧ (i 0 : Nat) < win0_4.index t 0 * win0_4.size 0 + 256
                rw [e0]; exact h.1
    | ⟨1, _⟩ => show win0_4.index t 1 * win0_4.size 1 ≤ (i 1 : Nat) ∧ (i 1 : Nat) < win0_4.index t 1 * win0_4.size 1 + 4096
                rw [e1]; exact h.2

/-- The blocks of window 4 fill the result. -/
theorem cover_o (i : S8192x4096.Idx) :
    ∃ t : Fin cfg0.N, (cfg0.win 4).flush t = true ∧ i ∈ ((cfg0.win 4).blk t).view.set := by
  have h0 : (i 0 : Nat) < 8192 := (i 0).isLt
  have h1 : (i 1 : Nat) < 4096 := (i 1).isLt
  have hN : cfg0.N = 32 := N_0
  refine ⟨⟨(i 0 : Nat) / 256, by omega⟩, flush0_4 _, ?_⟩
  rw [mem_o]
  dsimp only
  omega

/-- A vector cast to one row, read at an entry. -/
theorem row_ga (v : Vec Ideal S2048 .f32) (d : Fin 2048) : shapeCast S1x2048 v shapeCasts_S2048_S1x2048 (ix2 0 d) = v (ix1 d) := by
  refine shapeCast_apply _ _ _ _ ?_
  rw [Shape.rowMajor_val_two, Shape.rowMajor_val_one]
  show d.val = 0 * 2048 + d.val
  omega

/-- The window over `ga` holds it. -/
theorem gain_ga (c : Dev nD) (d : Fin 2048) : V m c main_v0 (ix2 0 d : S1x2048.Idx) = m ((c : Thread nD τ).loc main_arg2) (ix1 d : S2048.Idx) := by
  have h : V m c main_v0 = shapeCast _ (m ((c : Thread nD τ).loc main_arg2)) shapeCasts_S2048_S1x2048 := rfl
  rw [h]
  exact row_ga _ d

/-- A vector cast to one row, read at an entry. -/
theorem row_gb (v : Vec Ideal S2048 .f32) (d : Fin 2048) : shapeCast S1x2048 v shapeCasts_S2048_S1x2048 (ix2 0 d) = v (ix1 d) := by
  refine shapeCast_apply _ _ _ _ ?_
  rw [Shape.rowMajor_val_two, Shape.rowMajor_val_one]
  show d.val = 0 * 2048 + d.val
  omega

/-- The window over `gb` holds it. -/
theorem gain_gb (c : Dev nD) (d : Fin 2048) : V m c main_v1 (ix2 0 d : S1x2048.Idx) = m ((c : Thread nD τ).loc main_arg3) (ix1 d : S2048.Idx) := by
  have h : V m c main_v1 = shapeCast _ (m ((c : Thread nD τ).loc main_arg3)) shapeCasts_S2048_S1x2048 := rfl
  rw [h]
  exact row_gb _ d

/-- One entry of a row divided by the row's root mean square, times a gain. -/
def nrm (f : Fin 2048 → EReal) (g : EReal) (d : Fin 2048) : EReal :=
  f d * Ideal.rsqrt (Ideal.div (∑ x, f x * f x) (Ideal.ofBits FTy.f32 0x45000000#32) + Ideal.ofBits FTy.f32 897988541#32) * g

/-- The result at row `i`, column `j`. -/
def Gf (a b : Vec Ideal S8192x2048 .f32) (ga gb : Vec Ideal S2048 .f32) (i : Fin 8192) (j : Fin 4096) : EReal :=
  if h : j.val < 2048 then nrm (fun x => a (ix2 i x)) (ga (ix1 ⟨j.val, h⟩)) ⟨j.val, h⟩
  else nrm (fun x => b (ix2 i x)) (gb (ix1 ⟨j.val - 2048, by omega⟩)) ⟨j.val - 2048, by omega⟩

/-- The whole result. -/
def G (a b : Vec Ideal S8192x2048 .f32) (ga gb : Vec Ideal S2048 .f32) : Vec Ideal S8192x4096 .bf16 := fun i => Gf a b ga gb (i 0) (i 1)

/-- The result in the left half. -/
theorem Gf_left (a b : Vec Ideal S8192x2048 .f32) (ga gb : Vec Ideal S2048 .f32) (i : Fin 8192) (j : Fin 4096) (d : Fin 2048) (h : j.val = d.val) :
    Gf a b ga gb i j = nrm (fun x => a (ix2 i x)) (ga (ix1 d)) d := by
  have e : ∀ h', (⟨j.val, h'⟩ : Fin 2048) = d := fun h' => Fin.ext h
  unfold Gf
  rw [dif_pos (by omega)]
  simp only [e]

/-- The result in the right half. -/
theorem Gf_right (a b : Vec Ideal S8192x2048 .f32) (ga gb : Vec Ideal S2048 .f32) (i : Fin 8192) (j : Fin 4096) (d : Fin 2048) (h : j.val = 2048 + d.val) :
    Gf a b ga gb i j = nrm (fun x => b (ix2 i x)) (gb (ix1 d)) d := by
  have e : ∀ h', (⟨j.val - 2048, h'⟩ : Fin 2048) = d := fun h' => Fin.ext (by show j.val - 2048 = d.val; omega)
  unfold Gf
  rw [dif_neg (by omega)]
  simp only [e]

/-- The left payload at an entry. -/
theorem pay1_apply (a : Vec Ideal S256x2048 .f32) (g : Vec Ideal S1x2048 .f32) (r : Fin 256) (d : Fin 2048) :
    k0_pay1 a g (ix2 r d) = nrm (fun x => a (ix2 r x)) (g (ix2 0 d)) d := by
  pointwise [k0_pay1, nrm]

/-- The right payload at an entry. -/
theorem pay2_apply (a : Vec Ideal S256x2048 .f32) (g : Vec Ideal S1x2048 .f32) (r : Fin 256) (d : Fin 2048) :
    k0_pay2 a g (ix2 r d) = nrm (fun x => a (ix2 r x)) (g (ix2 0 d)) d := by
  pointwise [k0_pay2, nrm]

/-- Where an entry of the left half of a block lies. -/
theorem emb_left (r : Fin 256) (d : Fin 2048) : r0_2.emb (ix2 r d : S256x2048.Idx) = (ix2 r ⟨d.val, by omega⟩ : S256x4096.Idx) := by
  funext a
  apply Fin.ext
  match a with
  | ⟨0, _⟩ => show 0 + 1 * r.val = r.val
              omega
  | ⟨1, _⟩ => show 0 + 1 * d.val = d.val
              omega

/-- Where an entry of the right half of a block lies. -/
theorem emb_right (r : Fin 256) (d : Fin 2048) : r0_3.emb (ix2 r d : S256x2048.Idx) = (ix2 r ⟨2048 + d.val, by omega⟩ : S256x4096.Idx) := by
  funext a
  apply Fin.ext
  match a with
  | ⟨0, _⟩ => show 0 + 1 * r.val = r.val
              omega
  | ⟨1, _⟩ => show 2048 + 1 * d.val = 2048 + d.val
              omega

/-- What a point writes back is its block of the whole-array function. -/
theorem flushed_eq (c : Dev nD) (t : Fin cfg0.N) :
    (dats m 0 c).flushed 4 t = (win0_4.blk t).view.read (Elt Ideal) (G (m ((c : Thread nD τ).loc main_arg0)) (m ((c : Thread nD τ).loc main_arg1)) (m ((c : Thread nD τ).loc main_arg2)) (m ((c : Thread nD τ).loc main_arg3))) := by
  have hN := lt_N t
  rw [Value.flushed4]
  unfold out0_4
  rw [View.ld_unit_zero hz, View.ld_unit_zero hz, View.ld_unit_zero hz, View.ld_unit_zero hz]
  funext j
  idx_vars j
  refine (View.canon_apply_of_pieces (fun y => Gf (m ((c : Thread nD τ).loc main_arg0)) (m ((c : Thread nD τ).loc main_arg1)) (m ((c : Thread nD τ).loc main_arg2)) (m ((c : Thread nD τ).loc main_arg3))
      ⟨t.val * 256 + (y 0 : Nat), by have : (y 0 : Nat) < 256 := (y 0).isLt; omega⟩ (y 1)) _ ?_ _ (cover0_4 _ _ _)).trans ?_
  · simp only [List.forall_mem_cons, List.not_mem_nil]
    refine ⟨fun x => ?_, fun x => ?_, fun _ h => h.elim⟩
    · obtain ⟨r, d, rfl⟩ : ∃ (r : Fin 256) (d : Fin 2048), x = (ix2 r d : S256x2048.Idx) := ⟨x 0, x 1, by funext a; match a with | ⟨0, _⟩ => rfl | ⟨1, _⟩ => rfl⟩
      rw [emb_right]
      show k0_pay2 (F := Ideal) _ _ (ix2 r d) = Gf _ _ _ _ ⟨t.val * 256 + r.val, _⟩ ⟨2048 + d.val, _⟩
      rw [Gf_right _ _ _ _ _ _ d rfl, pay2_apply]
      simp only [iblk_b, iblk_gb]
      rw [gain_gb]
    · obtain ⟨r, d, rfl⟩ : ∃ (r : Fin 256) (d : Fin 2048), x = (ix2 r d : S256x2048.Idx) := ⟨x 0, x 1, by funext a; match a with | ⟨0, _⟩ => rfl | ⟨1, _⟩ => rfl⟩
      rw [emb_left]
      show k0_pay1 (F := Ideal) _ _ (ix2 r d) = Gf _ _ _ _ ⟨t.val * 256 + r.val, _⟩ ⟨d.val, _⟩
      rw [Gf_left _ _ _ _ _ _ d rfl, pay1_apply]
      simp only [iblk_a, iblk_ga]
      rw [gain_ga]
  · show _ = G _ _ _ _ ((win0_4.blk t).view.emb (ix2 j0 j1 : S256x4096.Idx))
    rw [emb_o]
    rfl

/-- The kernel's result, and its arguments kept. -/
theorem run : θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans
      ((dats m 0 c).arrAt_eq_of_cover 4 _ (fun t _ => flushed_eq m c t) cover_o), (h c).2⟩)
    (Value.run_blocks m ρ)

end Cert.RmsIdeal.Whole

namespace Cert.RmsRefIdeal.Whole

open Cert.RmsRefIdeal Cert.RmsRefIdeal.Gen
open Idealize.ShloMosaic Idealize.ShloMosaic.TcCoe Idealize.SL.Sem

/-- Two arrays side by side, read in the left one. -/
theorem cat0 (p q : Vec Ideal S8192x2048 .f32) (i : Fin 8192) (j : Fin 4096) (d : Fin 2048) (h : j.val = d.val) :
    concatenate S8192x4096 1 [⟨S8192x2048, p⟩, ⟨S8192x2048, q⟩] concatenates_S8192x2048_S8192x2048_S8192x4096_d1 (ix2 i j) = p (ix2 i d) := by
  pointwise
  rw [dif_pos (by omega)]
  exact congrArg (fun z => p (ix2 i z)) (Fin.ext h)

/-- … in the right one. -/
theorem cat1 (p q : Vec Ideal S8192x2048 .f32) (i : Fin 8192) (j : Fin 4096) (d : Fin 2048) (h : j.val = 2048 + d.val) :
    concatenate S8192x4096 1 [⟨S8192x2048, p⟩, ⟨S8192x2048, q⟩] concatenates_S8192x2048_S8192x2048_S8192x4096_d1 (ix2 i j) = q (ix2 i d) := by
  pointwise
  rw [dif_neg (by omega)]
  exact congrArg (fun z => q (ix2 i z)) (Fin.ext (by show j.val - 2048 = d.val; omega))

/-- The host program's term of its arguments. -/
def host {F : FTy → Type} [FloatOps F] (a : Vec F S8192x2048 .f32) (b : Vec F S8192x2048 .f32) (ga : Vec F S2048 .f32) (gb : Vec F S2048 .f32) : Vec F S8192x4096 .bf16 :=
  truncf .bf16 (concatenate S8192x4096 1 [⟨S8192x2048, (mulf (mulf a (broadcastInDim S8192x2048 ![0, 1] bcast_S8192x1_S8192x2048_0_1 (Host.rsqrt (addf (Host.divf (broadcastInDim S8192x1 ![0] bcast_S8192_S8192x1_0 (Host.reduceAdd (mulf a a) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 ga)))⟩, ⟨S8192x2048, (mulf (mulf b (broadcastInDim S8192x2048 ![0, 1] bcast_S8192x1_S8192x2048_0_1 (Host.rsqrt (addf (Host.divf (broadcastInDim S8192x1 ![0] bcast_S8192_S8192x1_0 (Host.reduceAdd (mulf b b) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 gb)))⟩] concatenates_S8192x2048_S8192x2048_S8192x4096_d1) bitsLt_bf16_f32

/-- The host program's result is the same function of its arguments. -/
theorem ref_eq (a : Vec Ideal S8192x2048 .f32) (b : Vec Ideal S8192x2048 .f32) (ga : Vec Ideal S2048 .f32) (gb : Vec Ideal S2048 .f32) :
    host (F := Ideal) a b ga gb = RmsIdeal.Whole.G a b ga gb := by
  unfold host
  funext i
  idx_vars i
  show (concatenate S8192x4096 1 [⟨S8192x2048, _⟩, ⟨S8192x2048, _⟩] concatenates_S8192x2048_S8192x2048_S8192x4096_d1 (ix2 i0 i1) : EReal) = RmsIdeal.Whole.Gf a b ga gb i0 i1
  by_cases c1 : i1.val < 2048
  · refine (cat0 _ _ i0 i1 ⟨i1.val, c1⟩ rfl).trans ?_
    rw [RmsIdeal.Whole.Gf_left _ _ _ _ _ _ ⟨i1.val, c1⟩ rfl]
    pointwise [RmsIdeal.Whole.nrm]
  · refine (cat1 _ _ i0 i1 ⟨i1.val - 2048, by omega⟩ (by dsimp only; omega)).trans ?_
    rw [RmsIdeal.Whole.Gf_right _ _ _ _ _ _ ⟨i1.val - 2048, by omega⟩ (by dsimp only; omega)]
    pointwise [RmsIdeal.Whole.nrm]

end Cert.RmsRefIdeal.Whole

/-! ## The claims -/

namespace Cert.Proof.Rms

open Idealize.ShloMosaic Idealize.ShloMosaic.TcCoe Idealize.SL.Sem

/-- The kernel runs to its end and keeps its arguments. -/
theorem frame : Cert.quiescent_Rms := fun m ρ _ => Cert.Rms.Gen.frame m ρ

/-- So does its idealized form. -/
theorem frameI : Cert.quiescent_RmsIdeal := fun m ρ _ => Cert.RmsIdeal.Gen.frame m ρ

/-- So does the host program. -/
theorem frameR : Cert.quiescent_RmsRefIdeal := fun m ρ _ =>
  (θ_run Cert.RmsRefIdeal.defs _ _).mono (fun r h => ⟨fun c => (h c).2,
      Idealize.ShloMosaic.sem_eq_zero_of_no_sems (by decide) r.2⟩)
    (Cert.RmsRefIdeal.Value.run (F := Ideal) m ρ)

/-- Nothing was rewritten on the way to the idealized form. -/
theorem preserves : Cert.preserves_Rms_RmsIdeal := trivial

/-- The kernel and the host program compute the same function. -/
theorem algebraic : Cert.algebraic_RmsIdeal_RmsRefIdeal := by
  intro m ρ m' ρ' _ hag
  refine ⟨fun c => Cert.RmsIdeal.Whole.G (m ((c.tc : Thread Cert.RmsIdeal.nD Cert.RmsIdeal.τ).loc Cert.RmsIdeal.main_arg0)) (m ((c.tc : Thread Cert.RmsIdeal.nD Cert.RmsIdeal.τ).loc Cert.RmsIdeal.main_arg1)) (m ((c.tc : Thread Cert.RmsIdeal.nD Cert.RmsIdeal.τ).loc Cert.RmsIdeal.main_arg2)) (m ((c.tc : Thread Cert.RmsIdeal.nD Cert.RmsIdeal.τ).loc Cert.RmsIdeal.main_arg3)), Cert.RmsIdeal.Whole.run m ρ, ?_⟩
  refine (θ_run Cert.RmsRefIdeal.defs _ _).mono (fun _ h c => ⟨(h c).1.trans ?_, (h c).2⟩)
    (Cert.RmsRefIdeal.Value.run (F := Ideal) m' ρ')
  rw [(hag c).1, (hag c).2.1, (hag c).2.2.1, (hag c).2.2.2]
  exact Cert.RmsRefIdeal.Whole.ref_eq _ _ _ _

end Cert.Proof.Rms
-- ==== Proof.Value.Down.lean ====
/-
  The value of the down projection: every block written back is the block of `x + gate * (a · w)`, the
  function the host program computes.
-/
module

public import proofs.«01_k».proof.Defs
public import proofs.«01_k».proof.Proof.Gen.Down.Frame
public import proofs.«01_k».proof.Proof.Gen.DownIdeal.Value
public import proofs.«01_k».proof.Proof.Gen.DownRefIdeal.Run
public import Idealize.ShloMosaic.Lib.Pipeline.Value
public import Idealize.ShloMosaic.Lib.Quiescent
public import Idealize.ShloMosaic.Lib.Pointwise

@[expose] public section

set_option maxRecDepth 16384

noncomputable section

namespace Cert.DownIdeal.Whole

open Cert.DownIdeal Cert.DownIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The grid has 256 points. -/
theorem lt_N (t : Fin cfg0.N) : t.val < 256 := by
  have h : cfg0.N = 256 := N_0
  have := t.isLt
  omega

/-- The origin of a block, as a constant function. -/
theorem hz : (![0, 0] : Fin 2 → Nat) = fun _ => 0 := funext fun a => by fin_cases a <;> rfl

/-- The block index of window 0 at a point. -/
theorem index_a : ∀ t : Fin grid0.N, win0_0.index t 0 = t.val / 16 ∧ win0_0.index t 1 = 0 := by
  decide +kernel

/-- The block index of window 1 at a point. -/
theorem index_w : ∀ t : Fin grid0.N, win0_1.index t 0 = 0 ∧ win0_1.index t 1 = t.val % 16 := by
  decide +kernel

/-- The block index of window 2 at a point. -/
theorem index_x : ∀ t : Fin grid0.N, win0_2.index t 0 = t.val / 16 ∧ win0_2.index t 1 = t.val % 16 := by
  decide +kernel

/-- The block index of window 3 at a point. -/
theorem index_q : ∀ t : Fin grid0.N, win0_3.index t 0 = 0 ∧ win0_3.index t 1 = 80 + t.val % 16 := by
  decide +kernel

/-- The block index of window 4 at a point. -/
theorem index_o : ∀ t : Fin grid0.N, win0_4.index t 0 = t.val / 16 ∧ win0_4.index t 1 = t.val % 16 := by
  decide +kernel

/-- The block of window 0 at point `t`, entry by entry. -/
theorem iblk_a (c : Dev nD) (t : Fin cfg0.N) (r : Fin 512) (k : Fin 11008) :
    iblk m c 0 t (ix2 r k : S512x11008.Idx)
      = m ((c : Thread nD τ).loc main_arg0) (ix2 ⟨(t.val / 16) * 512 + r, by have := lt_N t; omega⟩ k : S8192x11008.Idx) := by
  show m ((c : Thread nD τ).loc main_arg0) (((cfg0.win 0).blk t).view.emb (ix2 r k : S512x11008.Idx)) = _
  congr 1
  funext a
  apply Fin.ext
  match a with
  | ⟨0, _⟩ => show win0_0.index t 0 * 512 + 1 * r.val = _
              rw [(index_a t).1]
              show (t.val / 16) * 512 + 1 * r.val = (t.val / 16) * 512 + r.val
              omega
  | ⟨1, _⟩ => show win0_0.index t 1 * 11008 + 1 * k.val = _
              rw [(index_a t).2]
              show (0) * 11008 + 1 * k.val = k.val
              omega

/-- The block of window 1 at point `t`, entry by entry. -/
theorem iblk_w (c : Dev nD) (t : Fin cfg0.N) (r : Fin 11008) (k : Fin 256) :
    iblk m c 1 t (ix2 r k : S11008x256.Idx)
      = m ((c : Thread nD τ).loc main_arg1) (ix2 r ⟨(t.val % 16) * 256 + k, by have := lt_N t; omega⟩ : S11008x4096.Idx) := by
  show m ((c : Thread nD τ).loc main_arg1) (((cfg0.win 1).blk t).view.emb (ix2 r k : S11008x256.Idx)) = _
  congr 1
  funext a
  apply Fin.ext
  match a with
  | ⟨0, _⟩ => show win0_1.index t 0 * 11008 + 1 * r.val = _
              rw [(index_w t).1]
              show (0) * 11008 + 1 * r.val = r.val
              omega
  | ⟨1, _⟩ => show win0_1.index t 1 * 256 + 1 * k.val = _
              rw [(index_w t).2]
              show (t.val % 16) * 256 + 1 * k.val = (t.val % 16) * 256 + k.val
              omega

/-- The block of window 2 at point `t`, entry by entry. -/
theorem iblk_x (c : Dev nD) (t : Fin cfg0.N) (r : Fin 512) (k : Fin 256) :
    iblk m c 2 t (ix2 r k : S512x256.Idx)
      = m ((c : Thread nD τ).loc main_arg2) (ix2 ⟨(t.val / 16) * 512 + r, by have := lt_N t; omega⟩ ⟨(t.val % 16) * 256 + k, by have := lt_N t; omega⟩ : S8192x4096.Idx) := by
  show m ((c : Thread nD τ).loc main_arg2) (((cfg0.win 2).blk t).view.emb (ix2 r k : S512x256.Idx)) = _
  congr 1
  funext a
  apply Fin.ext
  match a with
  | ⟨0, _⟩ => show win0_2.index t 0 * 512 + 1 * r.val = _
              rw [(index_x t).1]
              show (t.val / 16) * 512 + 1 * r.val = (t.val / 16) * 512 + r.val
              omega
  | ⟨1, _⟩ => show win0_2.index t 1 * 256 + 1 * k.val = _
              rw [(index_x t).2]
              show (t.val % 16) * 256 + 1 * k.val = (t.val % 16) * 256 + k.val
              omega

/-- The block of window 3 at point `t`, entry by entry. -/
theorem iblk_q (c : Dev nD) (t : Fin cfg0.N) (r : Fin 1) (k : Fin 256) :
    iblk m c 3 t (ix2 r k : S1x256.Idx)
      = m ((c : Thread nD τ).loc main_arg3) (ix2 r ⟨(80 + t.val % 16) * 256 + k, by have := lt_N t; omega⟩ : S1x24576.Idx) := by
  show m ((c : Thread nD τ).loc main_arg3) (((cfg0.win 3).blk t).view.emb (ix2 r k : S1x256.Idx)) = _
  congr 1
  funext a
  apply Fin.ext
  match a with
  | ⟨0, _⟩ => show win0_3.index t 0 * 1 + 1 * r.val = _
              rw [(index_q t).1]
              show (0) * 1 + 1 * r.val = r.val
              omega
  | ⟨1, _⟩ => show win0_3.index t 1 * 256 + 1 * k.val = _
              rw [(index_q t).2]
              show (80 + t.val % 16) * 256 + 1 * k.val = (80 + t.val % 16) * 256 + k.val
              omega

/-- `x + gate * (a · w)` over the whole arrays, the gate the sixth chunk of the modulation row. -/
def G (a : Vec Ideal S8192x11008 .bf16) (w : Vec Ideal S11008x4096 .bf16) (x : Vec Ideal S8192x4096 .f32) (q : Vec Ideal S1x24576 .f32) :
    Vec Ideal S8192x4096 .f32 := fun i =>
  x i + q (ix2 0 ⟨20480 + (i 1 : Nat), by have : (i 1 : Nat) < 4096 := (i 1).isLt; omega⟩) * ∑ k : Fin 11008, a (ix2 (i 0) k) * w (ix2 k (i 1))

/-- The payload at an entry. -/
theorem pay_apply (a : Vec Ideal S512x11008 .bf16) (w : Vec Ideal S11008x256 .bf16) (x : Vec Ideal S512x256 .f32) (q : Vec Ideal S1x256 .f32)
    (r : Fin 512) (j : Fin 256) :
    k0_pay1 a w x q (ix2 r j) = x (ix2 r j) + q (ix2 0 j) * ∑ k : Fin 11008, a (ix2 r k) * w (ix2 k j) := by
  pointwise [k0_pay1]

/-- What a point writes back is its block of the whole-array function. -/
theorem flushed_eq (c : Dev nD) (t : Fin cfg0.N) :
    (dats m 0 c).flushed 4 t = (win0_4.blk t).view.read (Elt Ideal) (G (m ((c : Thread nD τ).loc main_arg0)) (m ((c : Thread nD τ).loc main_arg1)) (m ((c : Thread nD τ).loc main_arg2)) (m ((c : Thread nD τ).loc main_arg3))) := by
  rw [Value.flushed4]
  unfold out0_4
  rw [View.canon_unit_zero hz, View.ld_unit_zero hz, View.ld_unit_zero hz, View.ld_unit_zero hz, View.ld_unit_zero hz]
  funext j
  show k0_pay1 (F := Ideal) _ _ _ _ j = G _ _ _ _ ((win0_4.blk t).view.emb j)
  idx_vars j
  have e : (win0_4.blk t).view.emb (ix2 j0 j1 : S512x256.Idx)
      = (ix2 ⟨(t.val / 16) * 512 + j0, by have := lt_N t; omega⟩ ⟨(t.val % 16) * 256 + j1, by have := lt_N t; omega⟩ : S8192x4096.Idx) := by
    funext a
    apply Fin.ext
    match a with
    | ⟨0, _⟩ => show win0_4.index t 0 * 512 + 1 * j0.val = _
                rw [(index_o t).1]
                show (t.val / 16) * 512 + 1 * j0.val = (t.val / 16) * 512 + j0.val
                omega
    | ⟨1, _⟩ => show win0_4.index t 1 * 256 + 1 * j1.val = _
                rw [(index_o t).2]
                show (t.val % 16) * 256 + 1 * j1.val = (t.val % 16) * 256 + j1.val
                omega
  rw [e, pay_apply]
  simp only [iblk_a, iblk_w, iblk_x, iblk_q]
  have e2 : (⟨(80 + t.val % 16) * 256 + j1, by omega⟩ : Fin 24576) = ⟨20480 + (t.val % 16 * 256 + j1.val), by omega⟩ :=
    Fin.ext (show (80 + t.val % 16) * 256 + j1.val = 20480 + (t.val % 16 * 256 + j1.val) by omega)
  rw [e2]
  rfl

/-- An entry lies in point `t`'s block exactly when its row and column do. -/
theorem mem_blk (t : Fin cfg0.N) (i : S8192x4096.Idx) :
    i ∈ ((cfg0.win 4).blk t).view.set ↔ ((t.val / 16) * 512 ≤ (i 0 : Nat) ∧ (i 0 : Nat) < (t.val / 16) * 512 + 512)
      ∧ ((t.val % 16) * 256 ≤ (i 1 : Nat) ∧ (i 1 : Nat) < (t.val % 16) * 256 + 256) := by
  show i ∈ ((View.whole main_v0).slice (win0_4.rect t)).set ↔ _
  rw [View.set_slice_whole, Rect.mem_set_unit]
  have e0 : win0_4.index t 0 * win0_4.size 0 = (t.val / 16) * 512 := by rw [(index_o t).1]; rfl
  have e1 : win0_4.index t 1 * win0_4.size 1 = (t.val % 16) * 256 := by rw [(index_o t).2]; rfl
  refine ⟨fun h => ⟨?_, ?_⟩, fun h a => ?_⟩
  · have := h 0
    change win0_4.index t 0 * win0_4.size 0 ≤ (i 0 : Nat) ∧ (i 0 : Nat) < win0_4.index t 0 * win0_4.size 0 + 512 at this
    rwa [e0] at this
  · have := h 1
    change win0_4.index t 1 * win0_4.size 1 ≤ (i 1 : Nat) ∧ (i 1 : Nat) < win0_4.index t 1 * win0_4.size 1 + 256 at this
    rwa [e1] at this
  · match a with
    | ⟨0, _⟩ => show win0_4.index t 0 * win0_4.size 0 ≤ (i 0 : Nat) ∧ (i 0 : Nat) < win0_4.index t 0 * win0_4.size 0 + 512
                rw [e0]; exact h.1
    | ⟨1, _⟩ => show win0_4.index t 1 * win0_4.size 1 ≤ (i 1 : Nat) ∧ (i 1 : Nat) < win0_4.index t 1 * win0_4.size 1 + 256
                rw [e1]; exact h.2

/-- The blocks fill the result. -/
theorem cover (i : S8192x4096.Idx) :
    ∃ t : Fin cfg0.N, (cfg0.win 4).flush t = true ∧ i ∈ ((cfg0.win 4).blk t).view.set := by
  have h0 : (i 0 : Nat) < 8192 := (i 0).isLt
  have h1 : (i 1 : Nat) < 4096 := (i 1).isLt
  have hN : cfg0.N = 256 := N_0
  refine ⟨⟨(i 0 : Nat) / 512 * 16 + (i 1 : Nat) / 256, by omega⟩, flush0_4 _, ?_⟩
  rw [mem_blk]
  dsimp only
  omega

/-- The kernel's result, and its arguments kept. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans
      ((dats m 0 c).arrAt_eq_of_cover 4 _ (fun t _ => flushed_eq m c t) cover), (h c).2⟩)
    (Value.run_blocks m ρ)

end Cert.DownIdeal.Whole

namespace Cert.DownRefIdeal.Whole

open Cert.DownRefIdeal Cert.DownRefIdeal.Gen
open Idealize.ShloMosaic Idealize.ShloMosaic.TcCoe Idealize.SL.Sem

/-- The host program's result is the same function. -/
theorem ref_eq (a : Vec Ideal S8192x11008 .bf16) (w : Vec Ideal S11008x4096 .bf16) (x : Vec Ideal S8192x4096 .f32) (q : Vec Ideal S1x24576 .f32) :
    addf (F := Ideal) x (mulf (broadcastInDim S8192x4096 ![0, 1] bcast_S1x4096_S8192x4096_0_1 (extractStridedSlice S1x4096 ![0, 20480] q slices_S1x24576_S1x4096_0_20480)) (Host.dotGeneral dot_S8192x11008_S11008x4096_S8192x4096_1_0_0_1_n_n none (extf .f32 a bitsLt_bf16_f32) (extf .f32 w bitsLt_bf16_f32))) = DownIdeal.Whole.G a w x q := by
  funext i
  idx_vars i
  pointwise [DownIdeal.Whole.G]

end Cert.DownRefIdeal.Whole

/-! ## The claims -/

namespace Cert.Proof.Down

open Idealize.ShloMosaic Idealize.ShloMosaic.TcCoe Idealize.SL.Sem

/-- The kernel runs to its end and keeps its arguments. -/
theorem frame : Cert.quiescent_Down := fun m ρ _ => Cert.Down.Gen.frame m ρ

/-- So does its idealized form. -/
theorem frameI : Cert.quiescent_DownIdeal := fun m ρ _ => Cert.DownIdeal.Gen.frame m ρ

/-- So does the host program. -/
theorem frameR : Cert.quiescent_DownRefIdeal := fun m ρ _ =>
  (θ_run Cert.DownRefIdeal.defs _ _).mono (fun r h => ⟨fun c => (h c).2,
      Idealize.ShloMosaic.sem_eq_zero_of_no_sems (by decide) r.2⟩)
    (Cert.DownRefIdeal.Value.run (F := Ideal) m ρ)

/-- Nothing was rewritten on the way to the idealized form. -/
theorem preserves : Cert.preserves_Down_DownIdeal := trivial

/-- The kernel and the host program compute the same function. -/
theorem algebraic : Cert.algebraic_DownIdeal_DownRefIdeal := by
  intro m ρ m' ρ' _ hag
  refine ⟨fun c => Cert.DownIdeal.Whole.G (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)), Cert.DownIdeal.Whole.run m ρ, ?_⟩
  refine (θ_run Cert.DownRefIdeal.defs _ _).mono (fun _ h c => ⟨(h c).1.trans ?_, (h c).2⟩)
    (Cert.DownRefIdeal.Value.run (F := Ideal) m' ρ')
  rw [(hag c).1, (hag c).2.1, (hag c).2.2.1, (hag c).2.2.2]
  exact Cert.DownRefIdeal.Whole.ref_eq _ _ _ _

end Cert.Proof.Down
-- ==== Proof.lean ====
/-
  The certificate: the claims of every call, proved in `Proof/Value/`, put together.
-/
module

public import proofs.«01_k».proof.Defs
public import proofs.«01_k».proof.Proof.Gen.Scan
public import proofs.«01_k».proof.Proof.Gen.Scan.Frame
public import proofs.«01_k».proof.Proof.Gen.ScanIdeal
public import proofs.«01_k».proof.Proof.Gen.ScanIdeal.Frame
public import proofs.«01_k».proof.Proof.Gen.ScanIdeal.Value
public import proofs.«01_k».proof.Proof.Gen.ScanRefIdeal
public import proofs.«01_k».proof.Proof.Gen.ScanRefIdeal.Run
public import proofs.«01_k».proof.Proof.Gen.GateUp
public import proofs.«01_k».proof.Proof.Gen.GateUp.Frame
public import proofs.«01_k».proof.Proof.Gen.GateUpIdeal
public import proofs.«01_k».proof.Proof.Gen.GateUpIdeal.Frame
public import proofs.«01_k».proof.Proof.Gen.GateUpIdeal.Value
public import proofs.«01_k».proof.Proof.Gen.GateUpRefIdeal
public import proofs.«01_k».proof.Proof.Gen.GateUpRefIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Moba
public import proofs.«01_k».proof.Proof.Gen.Moba.Frame
public import proofs.«01_k».proof.Proof.Gen.MobaIdeal
public import proofs.«01_k».proof.Proof.Gen.MobaIdeal.Frame
public import proofs.«01_k».proof.Proof.Gen.MobaIdeal.Value
public import proofs.«01_k».proof.Proof.Gen.MobaRefIdeal
public import proofs.«01_k».proof.Proof.Gen.MobaRefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormB
public import proofs.«01_k».proof.Proof.Gen.NormB.Frame
public import proofs.«01_k».proof.Proof.Gen.NormBIdeal
public import proofs.«01_k».proof.Proof.Gen.NormBIdeal.Frame
public import proofs.«01_k».proof.Proof.Gen.NormBIdeal.Value
public import proofs.«01_k».proof.Proof.Gen.NormBRefIdeal
public import proofs.«01_k».proof.Proof.Gen.NormBRefIdeal.Run
public import proofs.«01_k».proof.Proof.Gen.Rms
public import proofs.«01_k».proof.Proof.Gen.Rms.Frame
public import proofs.«01_k».proof.Proof.Gen.RmsIdeal
public import proofs.«01_k».proof.Proof.Gen.RmsIdeal.Frame
public import proofs.«01_k».proof.Proof.Gen.RmsIdeal.Value
public import proofs.«01_k».proof.Proof.Gen.RmsRefIdeal
public import proofs.«01_k».proof.Proof.Gen.RmsRefIdeal.Run
public import proofs.«01_k».proof.Proof.Gen.S5X
public import proofs.«01_k».proof.Proof.Gen.S5X.Frame
public import proofs.«01_k».proof.Proof.Gen.S5XIdeal
public import proofs.«01_k».proof.Proof.Gen.S5XIdeal.Frame
public import proofs.«01_k».proof.Proof.Gen.S5XIdeal.Value
public import proofs.«01_k».proof.Proof.Gen.S5XRefIdeal
public import proofs.«01_k».proof.Proof.Gen.S5XRefIdeal.Run
public import proofs.«01_k».proof.Proof.Gen.S5Y
public import proofs.«01_k».proof.Proof.Gen.S5Y.Frame
public import proofs.«01_k».proof.Proof.Gen.S5YIdeal
public import proofs.«01_k».proof.Proof.Gen.S5YIdeal.Frame
public import proofs.«01_k».proof.Proof.Gen.S5YIdeal.Value
public import proofs.«01_k».proof.Proof.Gen.S5YRefIdeal
public import proofs.«01_k».proof.Proof.Gen.S5YRefIdeal.Run
public import proofs.«01_k».proof.Proof.Gen.Step
public import proofs.«01_k».proof.Proof.Gen.Step.Frame
public import proofs.«01_k».proof.Proof.Gen.StepIdeal
public import proofs.«01_k».proof.Proof.Gen.StepIdeal.Frame
public import proofs.«01_k».proof.Proof.Gen.StepIdeal.Value
public import proofs.«01_k».proof.Proof.Gen.StepRefIdeal
public import proofs.«01_k».proof.Proof.Gen.StepRefIdeal.Run
public import proofs.«01_k».proof.Proof.Gen.InProjS
public import proofs.«01_k».proof.Proof.Gen.InProjS.Frame
public import proofs.«01_k».proof.Proof.Gen.InProjSIdeal
public import proofs.«01_k».proof.Proof.Gen.InProjSIdeal.Frame
public import proofs.«01_k».proof.Proof.Gen.InProjSIdeal.Value
public import proofs.«01_k».proof.Proof.Gen.InProjSRefIdeal
public import proofs.«01_k».proof.Proof.Gen.InProjSRefIdeal.Run
public import proofs.«01_k».proof.Proof.Gen.DownS
public import proofs.«01_k».proof.Proof.Gen.DownS.Frame
public import proofs.«01_k».proof.Proof.Gen.DownSIdeal
public import proofs.«01_k».proof.Proof.Gen.DownSIdeal.Frame
public import proofs.«01_k».proof.Proof.Gen.DownSIdeal.Value
public import proofs.«01_k».proof.Proof.Gen.DownSRefIdeal
public import proofs.«01_k».proof.Proof.Gen.DownSRefIdeal.Run
public import proofs.«01_k».proof.Proof.Gen.Coef
public import proofs.«01_k».proof.Proof.Gen.Coef.Frame
public import proofs.«01_k».proof.Proof.Gen.CoefIdeal
public import proofs.«01_k».proof.Proof.Gen.CoefIdeal.Frame
public import proofs.«01_k».proof.Proof.Gen.CoefIdeal.Value
public import proofs.«01_k».proof.Proof.Gen.CoefRefIdeal
public import proofs.«01_k».proof.Proof.Gen.CoefRefIdeal.Run
public import proofs.«01_k».proof.Proof.Gen.Pre_finite
public import proofs.«01_k».proof.Proof.Value.InProj
public import proofs.«01_k».proof.Proof.Value.Norm
public import proofs.«01_k».proof.Proof.Value.Ada
public import proofs.«01_k».proof.Proof.Value.S5X
public import proofs.«01_k».proof.Proof.Value.InProjS
public import proofs.«01_k».proof.Proof.Value.Moba
public import proofs.«01_k».proof.Proof.Value.Glu
public import proofs.«01_k».proof.Proof.Value.DownS
public import proofs.«01_k».proof.Proof.Value.Scan
public import proofs.«01_k».proof.Proof.Value.Coef
public import proofs.«01_k».proof.Proof.Value.NormB
public import proofs.«01_k».proof.Proof.Value.Step
public import proofs.«01_k».proof.Proof.Value.GateUp
public import proofs.«01_k».proof.Proof.Value.S5Y
public import proofs.«01_k».proof.Proof.Value.OutProj
public import proofs.«01_k».proof.Proof.Value.Rms
public import proofs.«01_k».proof.Proof.Value.Down
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Scan.Gen.facts, Cert.ScanIdeal.Gen.facts, Cert.ScanRefIdeal.Gen.facts, Cert.GateUp.Gen.facts, Cert.GateUpIdeal.Gen.facts, Cert.GateUpRefIdeal.Gen.facts, Cert.Down.Gen.facts, Cert.DownIdeal.Gen.facts, Cert.DownRefIdeal.Gen.facts, Cert.Moba.Gen.facts, Cert.MobaIdeal.Gen.facts, Cert.MobaRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.Glu.Gen.facts, Cert.GluIdeal.Gen.facts, Cert.GluRefIdeal.Gen.facts, Cert.Ada.Gen.facts, Cert.AdaIdeal.Gen.facts, Cert.AdaRefIdeal.Gen.facts, Cert.Norm.Gen.facts, Cert.NormIdeal.Gen.facts, Cert.NormRefIdeal.Gen.facts, Cert.NormB.Gen.facts, Cert.NormBIdeal.Gen.facts, Cert.NormBRefIdeal.Gen.facts, Cert.Rms.Gen.facts, Cert.RmsIdeal.Gen.facts, Cert.RmsRefIdeal.Gen.facts, Cert.S5X.Gen.facts, Cert.S5XIdeal.Gen.facts, Cert.S5XRefIdeal.Gen.facts, Cert.S5Y.Gen.facts, Cert.S5YIdeal.Gen.facts, Cert.S5YRefIdeal.Gen.facts, Cert.Step.Gen.facts, Cert.StepIdeal.Gen.facts, Cert.StepRefIdeal.Gen.facts, Cert.InProjS.Gen.facts, Cert.InProjSIdeal.Gen.facts, Cert.InProjSRefIdeal.Gen.facts, Cert.DownS.Gen.facts, Cert.DownSIdeal.Gen.facts, Cert.DownSRefIdeal.Gen.facts, Cert.Coef.Gen.facts, Cert.CoefIdeal.Gen.facts, Cert.CoefRefIdeal.Gen.facts, Cert.Pre_finite.Gen.facts,
  Cert.Proof.Scan.frame,
  Cert.Proof.Scan.frameI,
  Cert.Proof.Scan.frameR,
  Cert.Proof.GateUp.frame,
  Cert.Proof.GateUp.frameI,
  Cert.Proof.GateUp.frameR,
  Cert.Proof.Down.frame,
  Cert.Proof.Down.frameI,
  Cert.Proof.Down.frameR,
  Cert.Proof.Moba.frame,
  Cert.Proof.Moba.frameI,
  Cert.Proof.Moba.frameI_finite,
  Cert.Proof.Moba.frameR,
  Cert.Proof.Moba.frameR_finite,
  Cert.Proof.InProj.frame,
  Cert.Proof.InProj.frameI,
  Cert.Proof.InProj.frameR,
  Cert.Proof.OutProj.frame,
  Cert.Proof.OutProj.frameI,
  Cert.Proof.OutProj.frameR,
  Cert.Proof.Glu.frame,
  Cert.Proof.Glu.frameI,
  Cert.Proof.Glu.frameR,
  Cert.Proof.Ada.frame,
  Cert.Proof.Ada.frameI,
  Cert.Proof.Ada.frameR,
  Cert.Proof.Norm.frame,
  Cert.Proof.Norm.frameI,
  Cert.Proof.Norm.frameR,
  Cert.Proof.NormB.frame,
  Cert.Proof.NormB.frameI,
  Cert.Proof.NormB.frameR,
  Cert.Proof.Rms.frame,
  Cert.Proof.Rms.frameI,
  Cert.Proof.Rms.frameR,
  Cert.Proof.S5X.frame,
  Cert.Proof.S5X.frameI,
  Cert.Proof.S5X.frameR,
  Cert.Proof.S5Y.frame,
  Cert.Proof.S5Y.frameI,
  Cert.Proof.S5Y.frameR,
  Cert.Proof.Step.frame,
  Cert.Proof.Step.frameI,
  Cert.Proof.Step.frameR,
  Cert.Proof.InProjS.frame,
  Cert.Proof.InProjS.frameI,
  Cert.Proof.InProjS.frameR,
  Cert.Proof.DownS.frame,
  Cert.Proof.DownS.frameI,
  Cert.Proof.DownS.frameR,
  Cert.Proof.Coef.frame,
  Cert.Proof.Coef.frameI,
  Cert.Proof.Coef.frameR,
  Cert.Proof.Scan.preserves,
  Cert.Proof.Scan.algebraic,
  Cert.Proof.GateUp.preserves,
  Cert.Proof.GateUp.algebraic,
  Cert.Proof.Down.preserves,
  Cert.Proof.Down.algebraic,
  Cert.Proof.Moba.preserves,
  Cert.Proof.Moba.algebraic,
  Cert.Proof.InProj.preserves,
  Cert.Proof.InProj.algebraic,
  Cert.Proof.OutProj.preserves,
  Cert.Proof.OutProj.algebraic,
  Cert.Proof.Glu.preserves,
  Cert.Proof.Glu.algebraic,
  Cert.Proof.Ada.preserves,
  Cert.Proof.Ada.algebraic,
  Cert.Proof.Norm.preserves,
  Cert.Proof.Norm.algebraic,
  Cert.Proof.NormB.preserves,
  Cert.Proof.NormB.algebraic,
  Cert.Proof.Rms.preserves,
  Cert.Proof.Rms.algebraic,
  Cert.Proof.S5X.preserves,
  Cert.Proof.S5X.algebraic,
  Cert.Proof.S5Y.preserves,
  Cert.Proof.S5Y.algebraic,
  Cert.Proof.Step.preserves,
  Cert.Proof.Step.algebraic,
  Cert.Proof.InProjS.preserves,
  Cert.Proof.InProjS.algebraic,
  Cert.Proof.DownS.preserves,
  Cert.Proof.DownS.algebraic,
  Cert.Proof.Coef.preserves,
  Cert.Proof.Coef.algebraic⟩

end Cert.Proof

end
